-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Reduce (m : (ℓ : Loc Cert.Reduce.nD Cert.Reduce.τ Cert.Reduce.sig) → Buf (Elt Bits) ℓ) : Prop :=
  True

def Pre_ReduceIdeal (m : (ℓ : Loc Cert.ReduceIdeal.nD Cert.ReduceIdeal.τ Cert.ReduceIdeal.sig) → Buf (Elt Ideal) ℓ) : Prop :=
  True

def Pre_TotalIdeal (m : (ℓ : Loc Cert.TotalIdeal.nD Cert.TotalIdeal.τ Cert.TotalIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_StepInIdeal (m : (ℓ : Loc Cert.StepInIdeal.nD Cert.StepInIdeal.τ Cert.StepInIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_StepOutIdeal (m : (ℓ : Loc Cert.StepOutIdeal.nD Cert.StepOutIdeal.τ Cert.StepOutIdeal.sig) → Buf (Elt Ideal) ℓ) : Prop :=
  True

def Pre_AdamOne (m : (ℓ : Loc Cert.AdamOne.nD Cert.AdamOne.τ Cert.AdamOne.sig) → Buf (Elt Bits) ℓ) : Prop :=
  True

def Pre_AdamOneIdeal (m : (ℓ : Loc Cert.AdamOneIdeal.nD Cert.AdamOneIdeal.τ Cert.AdamOneIdeal.sig) → Buf (Elt Ideal) ℓ) : Prop :=
  True

def Pre_StepMlpIdeal (m : (ℓ : Loc Cert.StepMlpIdeal.nD Cert.StepMlpIdeal.τ Cert.StepMlpIdeal.sig) → Buf (Elt Ideal) ℓ) : Prop :=
  True

def Pre_AdamTwo (m : (ℓ : Loc Cert.AdamTwo.nD Cert.AdamTwo.τ Cert.AdamTwo.sig) → Buf (Elt Bits) ℓ) : Prop :=
  True

def Pre_AdamTwoIdeal (m : (ℓ : Loc Cert.AdamTwoIdeal.nD Cert.AdamTwoIdeal.τ Cert.AdamTwoIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_StepSmallIdeal (m : (ℓ : Loc Cert.StepSmallIdeal.nD Cert.StepSmallIdeal.τ Cert.StepSmallIdeal.sig) → Buf (Elt Ideal) ℓ) : Prop :=
  True

def Pre_NormMlp (m : (ℓ : Loc Cert.NormMlp.nD Cert.NormMlp.τ Cert.NormMlp.sig) → Buf (Elt Bits) ℓ) : Prop :=
  True

def Pre_NormMlpIdeal (m : (ℓ : Loc Cert.NormMlpIdeal.nD Cert.NormMlpIdeal.τ Cert.NormMlpIdeal.sig) → Buf (Elt Ideal) ℓ) : Prop :=
  True

def Pre_NormGradIdeal (m : (ℓ : Loc Cert.NormGradIdeal.nD Cert.NormGradIdeal.τ Cert.NormGradIdeal.sig) → Buf (Elt Ideal) ℓ) : Prop :=
  True

def Pre_NormAttn (m : (ℓ : Loc Cert.NormAttn.nD Cert.NormAttn.τ Cert.NormAttn.sig) → Buf (Elt Bits) ℓ) : Prop :=
  True

def Pre_NormAttnIdeal (m : (ℓ : Loc Cert.NormAttnIdeal.nD Cert.NormAttnIdeal.τ Cert.NormAttnIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossGradIdeal (m : (ℓ : Loc Cert.LossGradIdeal.nD Cert.LossGradIdeal.τ Cert.LossGradIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixGradIdeal (m : (ℓ : Loc Cert.MixGradIdeal.nD Cert.MixGradIdeal.τ Cert.MixGradIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjGradIdeal (m : (ℓ : Loc Cert.ProjGradIdeal.nD Cert.ProjGradIdeal.τ Cert.ProjGradIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjGradIdeal (m : (ℓ : Loc Cert.OutProjGradIdeal.nD Cert.OutProjGradIdeal.τ Cert.OutProjGradIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjGradIdeal (m : (ℓ : Loc Cert.InProjGradIdeal.nD Cert.InProjGradIdeal.τ Cert.InProjGradIdeal.sig) → Buf (Elt Ideal) ℓ) : Prop :=
  True

def Pre_MlpDownDw (m : (ℓ : Loc Cert.MlpDownDw.nD Cert.MlpDownDw.τ Cert.MlpDownDw.sig) → Buf (Elt Bits) ℓ) : Prop :=
  True

def Pre_MlpDownDwIdeal (m : (ℓ : Loc Cert.MlpDownDwIdeal.nD Cert.MlpDownDwIdeal.τ Cert.MlpDownDwIdeal.sig) → Buf (Elt Ideal) ℓ) : Prop :=
  True

def Pre_MlpDownGradIdeal (m : (ℓ : Loc Cert.MlpDownGradIdeal.nD Cert.MlpDownGradIdeal.τ Cert.MlpDownGradIdeal.sig) → Buf (Elt Ideal) ℓ) : Prop :=
  True

def Pre_MlpUpDw (m : (ℓ : Loc Cert.MlpUpDw.nD Cert.MlpUpDw.τ Cert.MlpUpDw.sig) → Buf (Elt Bits) ℓ) : Prop :=
  True

def Pre_MlpUpDwIdeal (m : (ℓ : Loc Cert.MlpUpDwIdeal.nD Cert.MlpUpDwIdeal.τ Cert.MlpUpDwIdeal.sig) → Buf (Elt Ideal) ℓ) : Prop :=
  True

def Pre_MlpUpGradIdeal (m : (ℓ : Loc Cert.MlpUpGradIdeal.nD Cert.MlpUpGradIdeal.τ Cert.MlpUpGradIdeal.sig) → Buf (Elt Ideal) ℓ) : Prop :=
  True

def Pre_NormA (m : (ℓ : Loc Cert.NormA.nD Cert.NormA.τ Cert.NormA.sig) → Buf (Elt Bits) ℓ) : Prop :=
  True

def Pre_NormAIdeal (m : (ℓ : Loc Cert.NormAIdeal.nD Cert.NormAIdeal.τ Cert.NormAIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormM (m : (ℓ : Loc Cert.NormM.nD Cert.NormM.τ Cert.NormM.sig) → Buf (Elt Bits) ℓ) : Prop :=
  True

def Pre_NormMIdeal (m : (ℓ : Loc Cert.NormMIdeal.nD Cert.NormMIdeal.τ Cert.NormMIdeal.sig) → Buf (Elt Ideal) ℓ) : Prop :=
  True

def Pre_ProjQa (m : (ℓ : Loc Cert.ProjQa.nD Cert.ProjQa.τ Cert.ProjQa.sig) → Buf (Elt Bits) ℓ) : Prop :=
  True

def Pre_ProjQaIdeal (m : (ℓ : Loc Cert.ProjQaIdeal.nD Cert.ProjQaIdeal.τ Cert.ProjQaIdeal.sig) → Buf (Elt Ideal) ℓ) : Prop :=
  True

def Pre_QueriesAIdeal (m : (ℓ : Loc Cert.QueriesAIdeal.nD Cert.QueriesAIdeal.τ Cert.QueriesAIdeal.sig) → Buf (Elt Ideal) ℓ) : Prop :=
  True

def Pre_ProjKva (m : (ℓ : Loc Cert.ProjKva.nD Cert.ProjKva.τ Cert.ProjKva.sig) → Buf (Elt Bits) ℓ) : Prop :=
  True

def Pre_ProjKvaIdeal (m : (ℓ : Loc Cert.ProjKvaIdeal.nD Cert.ProjKvaIdeal.τ Cert.ProjKvaIdeal.sig) → Buf (Elt Ideal) ℓ) : Prop :=
  True

def Pre_KeysValuesAIdeal (m : (ℓ : Loc Cert.KeysValuesAIdeal.nD Cert.KeysValuesAIdeal.τ Cert.KeysValuesAIdeal.sig) → Buf (Elt Ideal) ℓ) : Prop :=
  True

def Pre_ProjQb (m : (ℓ : Loc Cert.ProjQb.nD Cert.ProjQb.τ Cert.ProjQb.sig) → Buf (Elt Bits) ℓ) : Prop :=
  True

def Pre_ProjQbIdeal (m : (ℓ : Loc Cert.ProjQbIdeal.nD Cert.ProjQbIdeal.τ Cert.ProjQbIdeal.sig) → Buf (Elt Ideal) ℓ) : Prop :=
  True

def Pre_QueriesBIdeal (m : (ℓ : Loc Cert.QueriesBIdeal.nD Cert.QueriesBIdeal.τ Cert.QueriesBIdeal.sig) → Buf (Elt Ideal) ℓ) : Prop :=
  True

def Pre_ProjKb (m : (ℓ : Loc Cert.ProjKb.nD Cert.ProjKb.τ Cert.ProjKb.sig) → Buf (Elt Bits) ℓ) : Prop :=
  True

def Pre_ProjKbIdeal (m : (ℓ : Loc Cert.ProjKbIdeal.nD Cert.ProjKbIdeal.τ Cert.ProjKbIdeal.sig) → Buf (Elt Ideal) ℓ) : Prop :=
  True

def Pre_KeysBIdeal (m : (ℓ : Loc Cert.KeysBIdeal.nD Cert.KeysBIdeal.τ Cert.KeysBIdeal.sig) → Buf (Elt Ideal) ℓ) : Prop :=
  True

def Pre_ProjVb (m : (ℓ : Loc Cert.ProjVb.nD Cert.ProjVb.τ Cert.ProjVb.sig) → Buf (Elt Bits) ℓ) : Prop :=
  True

def Pre_ProjVbIdeal (m : (ℓ : Loc Cert.ProjVbIdeal.nD Cert.ProjVbIdeal.τ Cert.ProjVbIdeal.sig) → Buf (Elt Ideal) ℓ) : Prop :=
  True

def Pre_ValuesBIdeal (m : (ℓ : Loc Cert.ValuesBIdeal.nD Cert.ValuesBIdeal.τ Cert.ValuesBIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutputIdeal (m : (ℓ : Loc Cert.OutputIdeal.nD Cert.OutputIdeal.τ Cert.OutputIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_FirstLayerIdeal (m : (ℓ : Loc Cert.FirstLayerIdeal.nD Cert.FirstLayerIdeal.τ Cert.FirstLayerIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_SecondLayerIdeal (m : (ℓ : Loc Cert.SecondLayerIdeal.nD Cert.SecondLayerIdeal.τ Cert.SecondLayerIdeal.sig) → Buf (Elt Ideal) ℓ) : Prop :=
  True

def Pre_MlpDownDx (m : (ℓ : Loc Cert.MlpDownDx.nD Cert.MlpDownDx.τ Cert.MlpDownDx.sig) → Buf (Elt Bits) ℓ) : Prop :=
  True

def Pre_MlpDownDxIdeal (m : (ℓ : Loc Cert.MlpDownDxIdeal.nD Cert.MlpDownDxIdeal.τ Cert.MlpDownDxIdeal.sig) → Buf (Elt Ideal) ℓ) : Prop :=
  True

def Pre_SecondGradIdeal (m : (ℓ : Loc Cert.SecondGradIdeal.nD Cert.SecondGradIdeal.τ Cert.SecondGradIdeal.sig) → Buf (Elt Ideal) ℓ) : Prop :=
  True

def Pre_MlpUpDx (m : (ℓ : Loc Cert.MlpUpDx.nD Cert.MlpUpDx.τ Cert.MlpUpDx.sig) → Buf (Elt Bits) ℓ) : Prop :=
  True

def Pre_MlpUpDxIdeal (m : (ℓ : Loc Cert.MlpUpDxIdeal.nD Cert.MlpUpDxIdeal.τ Cert.MlpUpDxIdeal.sig) → Buf (Elt Ideal) ℓ) : Prop :=
  True

def Pre_FirstGradIdeal (m : (ℓ : Loc Cert.FirstGradIdeal.nD Cert.FirstGradIdeal.τ Cert.FirstGradIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutputGradIdeal (m : (ℓ : Loc Cert.OutputGradIdeal.nD Cert.OutputGradIdeal.τ Cert.OutputGradIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InputGradIdeal (m : (ℓ : Loc Cert.InputGradIdeal.nD Cert.InputGradIdeal.τ Cert.InputGradIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Reduce [hReduce : Cert.Reduce.Facts] : Prop :=
  ∀ (m : (ℓ : Loc Cert.Reduce.nD Cert.Reduce.τ Cert.Reduce.sig) → Buf (Elt Bits) ℓ) (g : Dev Cert.Reduce.nD → PrngReg), Pre_Reduce m →
    θ_run (Cert.Reduce.defs (F := Bits)) (onTc (τ := Cert.Reduce.τ) (Cert.Reduce.main (F := Bits))) ⟨m, fun _ => 0, g⟩ (fun r => (∀ c : Dev Cert.Reduce.nD,
      r.2.mem ((c.tc : Thread Cert.Reduce.nD Cert.Reduce.τ).loc Cert.Reduce.main_arg0) = m ((c.tc : Thread Cert.Reduce.nD Cert.Reduce.τ).loc Cert.Reduce.main_arg0)
      ∧ r.2.mem ((c.tc : Thread Cert.Reduce.nD Cert.Reduce.τ).loc Cert.Reduce.main_arg1) = m ((c.tc : Thread Cert.Reduce.nD Cert.Reduce.τ).loc Cert.Reduce.main_arg1)
      ∧ r.2.mem ((c.tc : Thread Cert.Reduce.nD Cert.Reduce.τ).loc Cert.Reduce.main_arg2) = m ((c.tc : Thread Cert.Reduce.nD Cert.Reduce.τ).loc Cert.Reduce.main_arg2)
      ∧ r.2.mem ((c.tc : Thread Cert.Reduce.nD Cert.Reduce.τ).loc Cert.Reduce.main_arg3) = m ((c.tc : Thread Cert.Reduce.nD Cert.Reduce.τ).loc Cert.Reduce.main_arg3)
      ∧ r.2.mem ((c.tc : Thread Cert.Reduce.nD Cert.Reduce.τ).loc Cert.Reduce.main_arg4) = m ((c.tc : Thread Cert.Reduce.nD Cert.Reduce.τ).loc Cert.Reduce.main_arg4))
      ∧ r.2.sem = fun _ => 0)

def quiescent_ReduceIdeal [hReduceIdeal : Cert.ReduceIdeal.Facts] : Prop :=
  ∀ (m : (ℓ : Loc Cert.ReduceIdeal.nD Cert.ReduceIdeal.τ Cert.ReduceIdeal.sig) → Buf (Elt Ideal) ℓ) (g : Dev Cert.ReduceIdeal.nD → PrngReg), Pre_ReduceIdeal m →
    θ_run (Cert.ReduceIdeal.defs (F := Ideal)) (onTc (τ := Cert.ReduceIdeal.τ) (Cert.ReduceIdeal.main (F := Ideal))) ⟨m, fun _ => 0, g⟩ (fun r => (∀ c : Dev Cert.ReduceIdeal.nD,
      r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
      ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
      ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2)
      ∧ r.2.mem ((c.tc : Thread Cert.ReduceIdeal.nD Cert.ReduceIdeal.τ).loc Cert.ReduceIdeal.main_arg3) = m ((c.tc : Thread Cert.ReduceIdeal.nD Cert.ReduceIdeal.τ).loc Cert.ReduceIdeal.main_arg3)
      ∧ r.2.mem ((c.tc : Thread Cert.ReduceIdeal.nD Cert.ReduceIdeal.τ).loc Cert.ReduceIdeal.main_arg4) = m ((c.tc : Thread Cert.ReduceIdeal.nD Cert.ReduceIdeal.τ).loc Cert.ReduceIdeal.main_arg4))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
      ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1)
      ∧ r.2.mem ((c.tc : Thread Cert.TotalIdeal.nD Cert.TotalIdeal.τ).loc Cert.TotalIdeal.main_arg2) = m ((c.tc : Thread Cert.TotalIdeal.nD Cert.TotalIdeal.τ).loc Cert.TotalIdeal.main_arg2)
      ∧ r.2.mem ((c.tc : Thread Cert.TotalIdeal.nD Cert.TotalIdeal.τ).loc Cert.TotalIdeal.main_arg3) = m ((c.tc : Thread Cert.TotalIdeal.nD Cert.TotalIdeal.τ).loc Cert.TotalIdeal.main_arg3)
      ∧ r.2.mem ((c.tc : Thread Cert.TotalIdeal.nD Cert.TotalIdeal.τ).loc Cert.TotalIdeal.main_arg4) = m ((c.tc : Thread Cert.TotalIdeal.nD Cert.TotalIdeal.τ).loc Cert.TotalIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_AdamOne [hAdamOne : Cert.AdamOne.Facts] : Prop :=
  ∀ (m : (ℓ : Loc Cert.AdamOne.nD Cert.AdamOne.τ Cert.AdamOne.sig) → Buf (Elt Bits) ℓ) (g : Dev Cert.AdamOne.nD → PrngReg), Pre_AdamOne m →
    θ_run (Cert.AdamOne.defs (F := Bits)) (onTc (τ := Cert.AdamOne.τ) (Cert.AdamOne.main (F := Bits))) ⟨m, fun _ => 0, g⟩ (fun r => (∀ c : Dev Cert.AdamOne.nD,
      r.2.mem ((c.tc : Thread Cert.AdamOne.nD Cert.AdamOne.τ).loc Cert.AdamOne.main_arg0) = m ((c.tc : Thread Cert.AdamOne.nD Cert.AdamOne.τ).loc Cert.AdamOne.main_arg0)
      ∧ r.2.mem ((c.tc : Thread Cert.AdamOne.nD Cert.AdamOne.τ).loc Cert.AdamOne.main_arg1) = m ((c.tc : Thread Cert.AdamOne.nD Cert.AdamOne.τ).loc Cert.AdamOne.main_arg1)
      ∧ r.2.mem ((c.tc : Thread Cert.AdamOne.nD Cert.AdamOne.τ).loc Cert.AdamOne.main_arg2) = m ((c.tc : Thread Cert.AdamOne.nD Cert.AdamOne.τ).loc Cert.AdamOne.main_arg2)
      ∧ r.2.mem ((c.tc : Thread Cert.AdamOne.nD Cert.AdamOne.τ).loc Cert.AdamOne.main_arg3) = m ((c.tc : Thread Cert.AdamOne.nD Cert.AdamOne.τ).loc Cert.AdamOne.main_arg3))
      ∧ r.2.sem = fun _ => 0)

def quiescent_AdamOneIdeal [hAdamOneIdeal : Cert.AdamOneIdeal.Facts] : Prop :=
  ∀ (m : (ℓ : Loc Cert.AdamOneIdeal.nD Cert.AdamOneIdeal.τ Cert.AdamOneIdeal.sig) → Buf (Elt Ideal) ℓ) (g : Dev Cert.AdamOneIdeal.nD → PrngReg), Pre_AdamOneIdeal m →
    θ_run (Cert.AdamOneIdeal.defs (F := Ideal)) (onTc (τ := Cert.AdamOneIdeal.τ) (Cert.AdamOneIdeal.main (F := Ideal))) ⟨m, fun _ => 0, g⟩ (fun r => (∀ c : Dev Cert.AdamOneIdeal.nD,
      r.2.mem ((c.tc : Thread Cert.AdamOneIdeal.nD Cert.AdamOneIdeal.τ).loc Cert.AdamOneIdeal.main_arg0) = m ((c.tc : Thread Cert.AdamOneIdeal.nD Cert.AdamOneIdeal.τ).loc Cert.AdamOneIdeal.main_arg0)
      ∧ r.2.mem ((c.tc : Thread Cert.AdamOneIdeal.nD Cert.AdamOneIdeal.τ).loc Cert.AdamOneIdeal.main_arg1) = m ((c.tc : Thread Cert.AdamOneIdeal.nD Cert.AdamOneIdeal.τ).loc Cert.AdamOneIdeal.main_arg1)
      ∧ r.2.mem ((c.tc : Thread Cert.AdamOneIdeal.nD Cert.AdamOneIdeal.τ).loc Cert.AdamOneIdeal.main_arg2) = m ((c.tc : Thread Cert.AdamOneIdeal.nD Cert.AdamOneIdeal.τ).loc Cert.AdamOneIdeal.main_arg2)
      ∧ r.2.mem ((c.tc : Thread Cert.AdamOneIdeal.nD Cert.AdamOneIdeal.τ).loc Cert.AdamOneIdeal.main_arg3) = m ((c.tc : Thread Cert.AdamOneIdeal.nD Cert.AdamOneIdeal.τ).loc Cert.AdamOneIdeal.main_arg3))
      ∧ r.2.sem = fun _ => 0)

def quiescent_StepMlpIdeal [hStepMlpIdeal : Cert.StepMlpIdeal.Facts] : Prop :=
  ∀ (m : (ℓ : Loc Cert.StepMlpIdeal.nD Cert.StepMlpIdeal.τ Cert.StepMlpIdeal.sig) → Buf (Elt Ideal) ℓ) (g : Dev Cert.StepMlpIdeal.nD → PrngReg), Pre_StepMlpIdeal m →
    θ_run (Cert.StepMlpIdeal.defs (F := Ideal)) (onTc (τ := Cert.StepMlpIdeal.τ) (Cert.StepMlpIdeal.main (F := Ideal))) ⟨m, fun _ => 0, g⟩ (fun r => (∀ c : Dev Cert.StepMlpIdeal.nD,
      r.2.mem ((c.tc : Thread Cert.StepMlpIdeal.nD Cert.StepMlpIdeal.τ).loc Cert.StepMlpIdeal.main_arg0) = m ((c.tc : Thread Cert.StepMlpIdeal.nD Cert.StepMlpIdeal.τ).loc Cert.StepMlpIdeal.main_arg0)
      ∧ r.2.mem ((c.tc : Thread Cert.StepMlpIdeal.nD Cert.StepMlpIdeal.τ).loc Cert.StepMlpIdeal.main_arg1) = m ((c.tc : Thread Cert.StepMlpIdeal.nD Cert.StepMlpIdeal.τ).loc Cert.StepMlpIdeal.main_arg1)
      ∧ r.2.mem ((c.tc : Thread Cert.StepMlpIdeal.nD Cert.StepMlpIdeal.τ).loc Cert.StepMlpIdeal.main_arg2) = m ((c.tc : Thread Cert.StepMlpIdeal.nD Cert.StepMlpIdeal.τ).loc Cert.StepMlpIdeal.main_arg2)
      ∧ r.2.mem ((c.tc : Thread Cert.StepMlpIdeal.nD Cert.StepMlpIdeal.τ).loc Cert.StepMlpIdeal.main_arg3) = m ((c.tc : Thread Cert.StepMlpIdeal.nD Cert.StepMlpIdeal.τ).loc Cert.StepMlpIdeal.main_arg3))
      ∧ r.2.sem = fun _ => 0)

def quiescent_AdamTwo [hAdamTwo : Cert.AdamTwo.Facts] : Prop :=
  ∀ (m : (ℓ : Loc Cert.AdamTwo.nD Cert.AdamTwo.τ Cert.AdamTwo.sig) → Buf (Elt Bits) ℓ) (g : Dev Cert.AdamTwo.nD → PrngReg), Pre_AdamTwo m →
    θ_run (Cert.AdamTwo.defs (F := Bits)) (onTc (τ := Cert.AdamTwo.τ) (Cert.AdamTwo.main (F := Bits))) ⟨m, fun _ => 0, g⟩ (fun r => (∀ c : Dev Cert.AdamTwo.nD,
      r.2.mem ((c.tc : Thread Cert.AdamTwo.nD Cert.AdamTwo.τ).loc Cert.AdamTwo.main_arg0) = m ((c.tc : Thread Cert.AdamTwo.nD Cert.AdamTwo.τ).loc Cert.AdamTwo.main_arg0)
      ∧ r.2.mem ((c.tc : Thread Cert.AdamTwo.nD Cert.AdamTwo.τ).loc Cert.AdamTwo.main_arg1) = m ((c.tc : Thread Cert.AdamTwo.nD Cert.AdamTwo.τ).loc Cert.AdamTwo.main_arg1)
      ∧ r.2.mem ((c.tc : Thread Cert.AdamTwo.nD Cert.AdamTwo.τ).loc Cert.AdamTwo.main_arg2) = m ((c.tc : Thread Cert.AdamTwo.nD Cert.AdamTwo.τ).loc Cert.AdamTwo.main_arg2)
      ∧ r.2.mem ((c.tc : Thread Cert.AdamTwo.nD Cert.AdamTwo.τ).loc Cert.AdamTwo.main_arg3) = m ((c.tc : Thread Cert.AdamTwo.nD Cert.AdamTwo.τ).loc Cert.AdamTwo.main_arg3))
      ∧ r.2.sem = fun _ => 0)

def quiescent_AdamTwoIdeal [hAdamTwoIdeal : Cert.AdamTwoIdeal.Facts] : Prop :=
  ∀ (m : (ℓ : Loc Cert.AdamTwoIdeal.nD Cert.AdamTwoIdeal.τ Cert.AdamTwoIdeal.sig) → Buf (Elt Ideal) ℓ) (g : Dev Cert.AdamTwoIdeal.nD → PrngReg), Pre_AdamTwoIdeal m →
    θ_run (Cert.AdamTwoIdeal.defs (F := Ideal)) (onTc (τ := Cert.AdamTwoIdeal.τ) (Cert.AdamTwoIdeal.main (F := Ideal))) ⟨m, fun _ => 0, g⟩ (fun r => (∀ c : Dev Cert.AdamTwoIdeal.nD,
      r.2.mem ((c.tc : Thread Cert.AdamTwoIdeal.nD Cert.AdamTwoIdeal.τ).loc Cert.AdamTwoIdeal.main_arg0) = m ((c.tc : Thread Cert.AdamTwoIdeal.nD Cert.AdamTwoIdeal.τ).loc Cert.AdamTwoIdeal.main_arg0)
      ∧ r.2.mem ((c.tc : Thread Cert.AdamTwoIdeal.nD Cert.AdamTwoIdeal.τ).loc Cert.AdamTwoIdeal.main_arg1) = m ((c.tc : Thread Cert.AdamTwoIdeal.nD Cert.AdamTwoIdeal.τ).loc Cert.AdamTwoIdeal.main_arg1)
      ∧ r.2.mem ((c.tc : Thread Cert.AdamTwoIdeal.nD Cert.AdamTwoIdeal.τ).loc Cert.AdamTwoIdeal.main_arg2) = m ((c.tc : Thread Cert.AdamTwoIdeal.nD Cert.AdamTwoIdeal.τ).loc Cert.AdamTwoIdeal.main_arg2)
      ∧ r.2.mem ((c.tc : Thread Cert.AdamTwoIdeal.nD Cert.AdamTwoIdeal.τ).loc Cert.AdamTwoIdeal.main_arg3) = m ((c.tc : Thread Cert.AdamTwoIdeal.nD Cert.AdamTwoIdeal.τ).loc Cert.AdamTwoIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3))
      ∧ r.2.sem = fun _ => 0)

def quiescent_NormMlp [hNormMlp : Cert.NormMlp.Facts] : Prop :=
  ∀ (m : (ℓ : Loc Cert.NormMlp.nD Cert.NormMlp.τ Cert.NormMlp.sig) → Buf (Elt Bits) ℓ) (g : Dev Cert.NormMlp.nD → PrngReg), Pre_NormMlp m →
    θ_run (Cert.NormMlp.defs (F := Bits)) (onTc (τ := Cert.NormMlp.τ) (Cert.NormMlp.main (F := Bits))) ⟨m, fun _ => 0, g⟩ (fun r => (∀ c : Dev Cert.NormMlp.nD,
      r.2.mem ((c.tc : Thread Cert.NormMlp.nD Cert.NormMlp.τ).loc Cert.NormMlp.main_arg0) = m ((c.tc : Thread Cert.NormMlp.nD Cert.NormMlp.τ).loc Cert.NormMlp.main_arg0)
      ∧ r.2.mem ((c.tc : Thread Cert.NormMlp.nD Cert.NormMlp.τ).loc Cert.NormMlp.main_arg1) = m ((c.tc : Thread Cert.NormMlp.nD Cert.NormMlp.τ).loc Cert.NormMlp.main_arg1)
      ∧ r.2.mem ((c.tc : Thread Cert.NormMlp.nD Cert.NormMlp.τ).loc Cert.NormMlp.main_arg2) = m ((c.tc : Thread Cert.NormMlp.nD Cert.NormMlp.τ).loc Cert.NormMlp.main_arg2)
      ∧ r.2.mem ((c.tc : Thread Cert.NormMlp.nD Cert.NormMlp.τ).loc Cert.NormMlp.main_arg3) = m ((c.tc : Thread Cert.NormMlp.nD Cert.NormMlp.τ).loc Cert.NormMlp.main_arg3)
      ∧ r.2.mem ((c.tc : Thread Cert.NormMlp.nD Cert.NormMlp.τ).loc Cert.NormMlp.main_arg4) = m ((c.tc : Thread Cert.NormMlp.nD Cert.NormMlp.τ).loc Cert.NormMlp.main_arg4))
      ∧ r.2.sem = fun _ => 0)

def quiescent_NormMlpIdeal [hNormMlpIdeal : Cert.NormMlpIdeal.Facts] : Prop :=
  ∀ (m : (ℓ : Loc Cert.NormMlpIdeal.nD Cert.NormMlpIdeal.τ Cert.NormMlpIdeal.sig) → Buf (Elt Ideal) ℓ) (g : Dev Cert.NormMlpIdeal.nD → PrngReg), Pre_NormMlpIdeal m →
    θ_run (Cert.NormMlpIdeal.defs (F := Ideal)) (onTc (τ := Cert.NormMlpIdeal.τ) (Cert.NormMlpIdeal.main (F := Ideal))) ⟨m, fun _ => 0, g⟩ (fun r => (∀ c : Dev Cert.NormMlpIdeal.nD,
      r.2.mem ((c.tc : Thread Cert.NormMlpIdeal.nD Cert.NormMlpIdeal.τ).loc Cert.NormMlpIdeal.main_arg0) = m ((c.tc : Thread Cert.NormMlpIdeal.nD Cert.NormMlpIdeal.τ).loc Cert.NormMlpIdeal.main_arg0)
      ∧ r.2.mem ((c.tc : Thread Cert.NormMlpIdeal.nD Cert.NormMlpIdeal.τ).loc Cert.NormMlpIdeal.main_arg1) = m ((c.tc : Thread Cert.NormMlpIdeal.nD Cert.NormMlpIdeal.τ).loc Cert.NormMlpIdeal.main_arg1)
      ∧ r.2.mem ((c.tc : Thread Cert.NormMlpIdeal.nD Cert.NormMlpIdeal.τ).loc Cert.NormMlpIdeal.main_arg2) = m ((c.tc : Thread Cert.NormMlpIdeal.nD Cert.NormMlpIdeal.τ).loc Cert.NormMlpIdeal.main_arg2)
      ∧ r.2.mem ((c.tc : Thread Cert.NormMlpIdeal.nD Cert.NormMlpIdeal.τ).loc Cert.NormMlpIdeal.main_arg3) = m ((c.tc : Thread Cert.NormMlpIdeal.nD Cert.NormMlpIdeal.τ).loc Cert.NormMlpIdeal.main_arg3)
      ∧ r.2.mem ((c.tc : Thread Cert.NormMlpIdeal.nD Cert.NormMlpIdeal.τ).loc Cert.NormMlpIdeal.main_arg4) = m ((c.tc : Thread Cert.NormMlpIdeal.nD Cert.NormMlpIdeal.τ).loc Cert.NormMlpIdeal.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormAttn [hNormAttn : Cert.NormAttn.Facts] : Prop :=
  ∀ (m : (ℓ : Loc Cert.NormAttn.nD Cert.NormAttn.τ Cert.NormAttn.sig) → Buf (Elt Bits) ℓ) (g : Dev Cert.NormAttn.nD → PrngReg), Pre_NormAttn m →
    θ_run (Cert.NormAttn.defs (F := Bits)) (onTc (τ := Cert.NormAttn.τ) (Cert.NormAttn.main (F := Bits))) ⟨m, fun _ => 0, g⟩ (fun r => (∀ c : Dev Cert.NormAttn.nD,
      r.2.mem ((c.tc : Thread Cert.NormAttn.nD Cert.NormAttn.τ).loc Cert.NormAttn.main_arg0) = m ((c.tc : Thread Cert.NormAttn.nD Cert.NormAttn.τ).loc Cert.NormAttn.main_arg0)
      ∧ r.2.mem ((c.tc : Thread Cert.NormAttn.nD Cert.NormAttn.τ).loc Cert.NormAttn.main_arg1) = m ((c.tc : Thread Cert.NormAttn.nD Cert.NormAttn.τ).loc Cert.NormAttn.main_arg1)
      ∧ r.2.mem ((c.tc : Thread Cert.NormAttn.nD Cert.NormAttn.τ).loc Cert.NormAttn.main_arg2) = m ((c.tc : Thread Cert.NormAttn.nD Cert.NormAttn.τ).loc Cert.NormAttn.main_arg2)
      ∧ r.2.mem ((c.tc : Thread Cert.NormAttn.nD Cert.NormAttn.τ).loc Cert.NormAttn.main_arg3) = m ((c.tc : Thread Cert.NormAttn.nD Cert.NormAttn.τ).loc Cert.NormAttn.main_arg3)
      ∧ r.2.mem ((c.tc : Thread Cert.NormAttn.nD Cert.NormAttn.τ).loc Cert.NormAttn.main_arg4) = m ((c.tc : Thread Cert.NormAttn.nD Cert.NormAttn.τ).loc Cert.NormAttn.main_arg4))
      ∧ r.2.sem = fun _ => 0)

def quiescent_NormAttnIdeal [hNormAttnIdeal : Cert.NormAttnIdeal.Facts] : Prop :=
  ∀ (m : (ℓ : Loc Cert.NormAttnIdeal.nD Cert.NormAttnIdeal.τ Cert.NormAttnIdeal.sig) → Buf (Elt Ideal) ℓ) (g : Dev Cert.NormAttnIdeal.nD → PrngReg), Pre_NormAttnIdeal m →
    θ_run (Cert.NormAttnIdeal.defs (F := Ideal)) (onTc (τ := Cert.NormAttnIdeal.τ) (Cert.NormAttnIdeal.main (F := Ideal))) ⟨m, fun _ => 0, g⟩ (fun r => (∀ c : Dev Cert.NormAttnIdeal.nD,
      r.2.mem ((c.tc : Thread Cert.NormAttnIdeal.nD Cert.NormAttnIdeal.τ).loc Cert.NormAttnIdeal.main_arg0) = m ((c.tc : Thread Cert.NormAttnIdeal.nD Cert.NormAttnIdeal.τ).loc Cert.NormAttnIdeal.main_arg0)
      ∧ r.2.mem ((c.tc : Thread Cert.NormAttnIdeal.nD Cert.NormAttnIdeal.τ).loc Cert.NormAttnIdeal.main_arg1) = m ((c.tc : Thread Cert.NormAttnIdeal.nD Cert.NormAttnIdeal.τ).loc Cert.NormAttnIdeal.main_arg1)
      ∧ r.2.mem ((c.tc : Thread Cert.NormAttnIdeal.nD Cert.NormAttnIdeal.τ).loc Cert.NormAttnIdeal.main_arg2) = m ((c.tc : Thread Cert.NormAttnIdeal.nD Cert.NormAttnIdeal.τ).loc Cert.NormAttnIdeal.main_arg2)
      ∧ r.2.mem ((c.tc : Thread Cert.NormAttnIdeal.nD Cert.NormAttnIdeal.τ).loc Cert.NormAttnIdeal.main_arg3) = m ((c.tc : Thread Cert.NormAttnIdeal.nD Cert.NormAttnIdeal.τ).loc Cert.NormAttnIdeal.main_arg3)
      ∧ r.2.mem ((c.tc : Thread Cert.NormAttnIdeal.nD Cert.NormAttnIdeal.τ).loc Cert.NormAttnIdeal.main_arg4) = m ((c.tc : Thread Cert.NormAttnIdeal.nD Cert.NormAttnIdeal.τ).loc Cert.NormAttnIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6)
      ∧ r.2.mem ((c.tc : Thread Cert.ProjBwd.nD Cert.ProjBwd.τ).loc Cert.ProjBwd.main_arg7) = m ((c.tc : Thread Cert.ProjBwd.nD Cert.ProjBwd.τ).loc Cert.ProjBwd.main_arg7)
      ∧ r.2.mem ((c.tc : Thread Cert.ProjBwd.nD Cert.ProjBwd.τ).loc Cert.ProjBwd.main_arg8) = m ((c.tc : Thread Cert.ProjBwd.nD Cert.ProjBwd.τ).loc Cert.ProjBwd.main_arg8)
      ∧ r.2.mem ((c.tc : Thread Cert.ProjBwd.nD Cert.ProjBwd.τ).loc Cert.ProjBwd.main_arg9) = m ((c.tc : Thread Cert.ProjBwd.nD Cert.ProjBwd.τ).loc Cert.ProjBwd.main_arg9)
      ∧ r.2.mem ((c.tc : Thread Cert.ProjBwd.nD Cert.ProjBwd.τ).loc Cert.ProjBwd.main_arg10) = m ((c.tc : Thread Cert.ProjBwd.nD Cert.ProjBwd.τ).loc Cert.ProjBwd.main_arg10))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
      ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10))
      ∧ r.2.sem = fun _ => 0)

def quiescent_ProjGradIdeal [hProjGradIdeal : Cert.ProjGradIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg), Pre_ProjGradIdeal m →
    θ_run (Cert.ProjGradIdeal.defs (F := Ideal)) (onTc (τ := Cert.ProjGradIdeal.τ) (Cert.ProjGradIdeal.main (F := Ideal))) ⟨m, fun _ => 0, g⟩ (fun r => (∀ c : Dev Cert.ProjGradIdeal.nD,
      r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
      ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
      ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2)
      ∧ r.2.mem ((c.tc : Thread Cert.ProjGradIdeal.nD Cert.ProjGradIdeal.τ).loc Cert.ProjGradIdeal.main_arg3) = m ((c.tc : Thread Cert.ProjGradIdeal.nD Cert.ProjGradIdeal.τ).loc Cert.ProjGradIdeal.main_arg3)
      ∧ r.2.mem ((c.tc : Thread Cert.ProjGradIdeal.nD Cert.ProjGradIdeal.τ).loc Cert.ProjGradIdeal.main_arg4) = m ((c.tc : Thread Cert.ProjGradIdeal.nD Cert.ProjGradIdeal.τ).loc Cert.ProjGradIdeal.main_arg4)
      ∧ r.2.mem ((c.tc : Thread Cert.ProjGradIdeal.nD Cert.ProjGradIdeal.τ).loc Cert.ProjGradIdeal.main_arg5) = m ((c.tc : Thread Cert.ProjGradIdeal.nD Cert.ProjGradIdeal.τ).loc Cert.ProjGradIdeal.main_arg5)
      ∧ r.2.mem ((c.tc : Thread Cert.ProjGradIdeal.nD Cert.ProjGradIdeal.τ).loc Cert.ProjGradIdeal.main_arg6) = m ((c.tc : Thread Cert.ProjGradIdeal.nD Cert.ProjGradIdeal.τ).loc Cert.ProjGradIdeal.main_arg6)
      ∧ r.2.mem ((c.tc : Thread Cert.ProjGradIdeal.nD Cert.ProjGradIdeal.τ).loc Cert.ProjGradIdeal.main_arg7) = m ((c.tc : Thread Cert.ProjGradIdeal.nD Cert.ProjGradIdeal.τ).loc Cert.ProjGradIdeal.main_arg7)
      ∧ r.2.mem ((c.tc : Thread Cert.ProjGradIdeal.nD Cert.ProjGradIdeal.τ).loc Cert.ProjGradIdeal.main_arg8) = m ((c.tc : Thread Cert.ProjGradIdeal.nD Cert.ProjGradIdeal.τ).loc Cert.ProjGradIdeal.main_arg8)
      ∧ r.2.mem ((c.tc : Thread Cert.ProjGradIdeal.nD Cert.ProjGradIdeal.τ).loc Cert.ProjGradIdeal.main_arg9) = m ((c.tc : Thread Cert.ProjGradIdeal.nD Cert.ProjGradIdeal.τ).loc Cert.ProjGradIdeal.main_arg9)
      ∧ r.2.mem ((c.tc : Thread Cert.ProjGradIdeal.nD Cert.ProjGradIdeal.τ).loc Cert.ProjGradIdeal.main_arg10) = m ((c.tc : Thread Cert.ProjGradIdeal.nD Cert.ProjGradIdeal.τ).loc Cert.ProjGradIdeal.main_arg10))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjGradIdeal [hOutProjGradIdeal : Cert.OutProjGradIdeal.Facts] : Prop :=
  ∀ (m : (ℓ : Loc Cert.OutProjGradIdeal.nD Cert.OutProjGradIdeal.τ Cert.OutProjGradIdeal.sig) → Buf (Elt Ideal) ℓ) (g : Dev Cert.OutProjGradIdeal.nD → PrngReg), Pre_OutProjGradIdeal m →
    θ_run (Cert.OutProjGradIdeal.defs (F := Ideal)) (onTc (τ := Cert.OutProjGradIdeal.τ) (Cert.OutProjGradIdeal.main (F := Ideal))) ⟨m, fun _ => 0, g⟩ (fun r => (∀ c : Dev Cert.OutProjGradIdeal.nD,
      r.2.mem ((c.tc : Thread Cert.OutProjGradIdeal.nD Cert.OutProjGradIdeal.τ).loc Cert.OutProjGradIdeal.main_arg0) = m ((c.tc : Thread Cert.OutProjGradIdeal.nD Cert.OutProjGradIdeal.τ).loc Cert.OutProjGradIdeal.main_arg0)
      ∧ r.2.mem ((c.tc : Thread Cert.OutProjGradIdeal.nD Cert.OutProjGradIdeal.τ).loc Cert.OutProjGradIdeal.main_arg1) = m ((c.tc : Thread Cert.OutProjGradIdeal.nD Cert.OutProjGradIdeal.τ).loc Cert.OutProjGradIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjGradIdeal [hInProjGradIdeal : Cert.InProjGradIdeal.Facts] : Prop :=
  ∀ (m : (ℓ : Loc Cert.InProjGradIdeal.nD Cert.InProjGradIdeal.τ Cert.InProjGradIdeal.sig) → Buf (Elt Ideal) ℓ) (g : Dev Cert.InProjGradIdeal.nD → PrngReg), Pre_InProjGradIdeal m →
    θ_run (Cert.InProjGradIdeal.defs (F := Ideal)) (onTc (τ := Cert.InProjGradIdeal.τ) (Cert.InProjGradIdeal.main (F := Ideal))) ⟨m, fun _ => 0, g⟩ (fun r => (∀ c : Dev Cert.InProjGradIdeal.nD,
      r.2.mem ((c.tc : Thread Cert.InProjGradIdeal.nD Cert.InProjGradIdeal.τ).loc Cert.InProjGradIdeal.main_arg0) = m ((c.tc : Thread Cert.InProjGradIdeal.nD Cert.InProjGradIdeal.τ).loc Cert.InProjGradIdeal.main_arg0)
      ∧ r.2.mem ((c.tc : Thread Cert.InProjGradIdeal.nD Cert.InProjGradIdeal.τ).loc Cert.InProjGradIdeal.main_arg1) = m ((c.tc : Thread Cert.InProjGradIdeal.nD Cert.InProjGradIdeal.τ).loc Cert.InProjGradIdeal.main_arg1))
      ∧ r.2.sem = fun _ => 0)

def quiescent_MlpDownDw [hMlpDownDw : Cert.MlpDownDw.Facts] : Prop :=
  ∀ (m : (ℓ : Loc Cert.MlpDownDw.nD Cert.MlpDownDw.τ Cert.MlpDownDw.sig) → Buf (Elt Bits) ℓ) (g : Dev Cert.MlpDownDw.nD → PrngReg), Pre_MlpDownDw m →
    θ_run (Cert.MlpDownDw.defs (F := Bits)) (onTc (τ := Cert.MlpDownDw.τ) (Cert.MlpDownDw.main (F := Bits))) ⟨m, fun _ => 0, g⟩ (fun r => (∀ c : Dev Cert.MlpDownDw.nD,
      r.2.mem ((c.tc : Thread Cert.MlpDownDw.nD Cert.MlpDownDw.τ).loc Cert.MlpDownDw.main_arg0) = m ((c.tc : Thread Cert.MlpDownDw.nD Cert.MlpDownDw.τ).loc Cert.MlpDownDw.main_arg0)
      ∧ r.2.mem ((c.tc : Thread Cert.MlpDownDw.nD Cert.MlpDownDw.τ).loc Cert.MlpDownDw.main_arg1) = m ((c.tc : Thread Cert.MlpDownDw.nD Cert.MlpDownDw.τ).loc Cert.MlpDownDw.main_arg1))
      ∧ r.2.sem = fun _ => 0)

def quiescent_MlpDownDwIdeal [hMlpDownDwIdeal : Cert.MlpDownDwIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg), Pre_MlpDownDwIdeal m →
    θ_run (Cert.MlpDownDwIdeal.defs (F := Ideal)) (onTc (τ := Cert.MlpDownDwIdeal.τ) (Cert.MlpDownDwIdeal.main (F := Ideal))) ⟨m, fun _ => 0, g⟩ (fun r => (∀ c : Dev Cert.MlpDownDwIdeal.nD,
      r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
      ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ r.2.sem = fun _ => 0)

def quiescent_MlpDownGradIdeal [hMlpDownGradIdeal : Cert.MlpDownGradIdeal.Facts] : Prop :=
  ∀ (m : (ℓ : Loc Cert.MlpDownGradIdeal.nD Cert.MlpDownGradIdeal.τ Cert.MlpDownGradIdeal.sig) → Buf (Elt Ideal) ℓ) (g : Dev Cert.MlpDownGradIdeal.nD → PrngReg), Pre_MlpDownGradIdeal m →
    θ_run (Cert.MlpDownGradIdeal.defs (F := Ideal)) (onTc (τ := Cert.MlpDownGradIdeal.τ) (Cert.MlpDownGradIdeal.main (F := Ideal))) ⟨m, fun _ => 0, g⟩ (fun r => (∀ c : Dev Cert.MlpDownGradIdeal.nD,
      r.2.mem ((c.tc : Thread Cert.MlpDownGradIdeal.nD Cert.MlpDownGradIdeal.τ).loc Cert.MlpDownGradIdeal.main_arg0) = m ((c.tc : Thread Cert.MlpDownGradIdeal.nD Cert.MlpDownGradIdeal.τ).loc Cert.MlpDownGradIdeal.main_arg0)
      ∧ r.2.mem ((c.tc : Thread Cert.MlpDownGradIdeal.nD Cert.MlpDownGradIdeal.τ).loc Cert.MlpDownGradIdeal.main_arg1) = m ((c.tc : Thread Cert.MlpDownGradIdeal.nD Cert.MlpDownGradIdeal.τ).loc Cert.MlpDownGradIdeal.main_arg1))
      ∧ r.2.sem = fun _ => 0)

def quiescent_MlpUpDw [hMlpUpDw : Cert.MlpUpDw.Facts] : Prop :=
  ∀ (m : (ℓ : Loc Cert.MlpUpDw.nD Cert.MlpUpDw.τ Cert.MlpUpDw.sig) → Buf (Elt Bits) ℓ) (g : Dev Cert.MlpUpDw.nD → PrngReg), Pre_MlpUpDw m →
    θ_run (Cert.MlpUpDw.defs (F := Bits)) (onTc (τ := Cert.MlpUpDw.τ) (Cert.MlpUpDw.main (F := Bits))) ⟨m, fun _ => 0, g⟩ (fun r => (∀ c : Dev Cert.MlpUpDw.nD,
      r.2.mem ((c.tc : Thread Cert.MlpUpDw.nD Cert.MlpUpDw.τ).loc Cert.MlpUpDw.main_arg0) = m ((c.tc : Thread Cert.MlpUpDw.nD Cert.MlpUpDw.τ).loc Cert.MlpUpDw.main_arg0)
      ∧ r.2.mem ((c.tc : Thread Cert.MlpUpDw.nD Cert.MlpUpDw.τ).loc Cert.MlpUpDw.main_arg1) = m ((c.tc : Thread Cert.MlpUpDw.nD Cert.MlpUpDw.τ).loc Cert.MlpUpDw.main_arg1))
      ∧ r.2.sem = fun _ => 0)

def quiescent_MlpUpDwIdeal [hMlpUpDwIdeal : Cert.MlpUpDwIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg), Pre_MlpUpDwIdeal m →
    θ_run (Cert.MlpUpDwIdeal.defs (F := Ideal)) (onTc (τ := Cert.MlpUpDwIdeal.τ) (Cert.MlpUpDwIdeal.main (F := Ideal))) ⟨m, fun _ => 0, g⟩ (fun r => (∀ c : Dev Cert.MlpUpDwIdeal.nD,
      r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
      ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ r.2.sem = fun _ => 0)

def quiescent_MlpUpGradIdeal [hMlpUpGradIdeal : Cert.MlpUpGradIdeal.Facts] : Prop :=
  ∀ (m : (ℓ : Loc Cert.MlpUpGradIdeal.nD Cert.MlpUpGradIdeal.τ Cert.MlpUpGradIdeal.sig) → Buf (Elt Ideal) ℓ) (g : Dev Cert.MlpUpGradIdeal.nD → PrngReg), Pre_MlpUpGradIdeal m →
    θ_run (Cert.MlpUpGradIdeal.defs (F := Ideal)) (onTc (τ := Cert.MlpUpGradIdeal.τ) (Cert.MlpUpGradIdeal.main (F := Ideal))) ⟨m, fun _ => 0, g⟩ (fun r => (∀ c : Dev Cert.MlpUpGradIdeal.nD,
      r.2.mem ((c.tc : Thread Cert.MlpUpGradIdeal.nD Cert.MlpUpGradIdeal.τ).loc Cert.MlpUpGradIdeal.main_arg0) = m ((c.tc : Thread Cert.MlpUpGradIdeal.nD Cert.MlpUpGradIdeal.τ).loc Cert.MlpUpGradIdeal.main_arg0)
      ∧ r.2.mem ((c.tc : Thread Cert.MlpUpGradIdeal.nD Cert.MlpUpGradIdeal.τ).loc Cert.MlpUpGradIdeal.main_arg1) = m ((c.tc : Thread Cert.MlpUpGradIdeal.nD Cert.MlpUpGradIdeal.τ).loc Cert.MlpUpGradIdeal.main_arg1))
      ∧ r.2.sem = fun _ => 0)

def quiescent_NormA [hNormA : Cert.NormA.Facts] : Prop :=
  ∀ (m : (ℓ : Loc Cert.NormA.nD Cert.NormA.τ Cert.NormA.sig) → Buf (Elt Bits) ℓ) (g : Dev Cert.NormA.nD → PrngReg), Pre_NormA m →
    θ_run (Cert.NormA.defs (F := Bits)) (onTc (τ := Cert.NormA.τ) (Cert.NormA.main (F := Bits))) ⟨m, fun _ => 0, g⟩ (fun r => (∀ c : Dev Cert.NormA.nD,
      r.2.mem ((c.tc : Thread Cert.NormA.nD Cert.NormA.τ).loc Cert.NormA.main_arg0) = m ((c.tc : Thread Cert.NormA.nD Cert.NormA.τ).loc Cert.NormA.main_arg0)
      ∧ r.2.mem ((c.tc : Thread Cert.NormA.nD Cert.NormA.τ).loc Cert.NormA.main_arg1) = m ((c.tc : Thread Cert.NormA.nD Cert.NormA.τ).loc Cert.NormA.main_arg1))
      ∧ r.2.sem = fun _ => 0)

def quiescent_NormAIdeal [hNormAIdeal : Cert.NormAIdeal.Facts] : Prop :=
  ∀ (m : (ℓ : Loc Cert.NormAIdeal.nD Cert.NormAIdeal.τ Cert.NormAIdeal.sig) → Buf (Elt Ideal) ℓ) (g : Dev Cert.NormAIdeal.nD → PrngReg), Pre_NormAIdeal m →
    θ_run (Cert.NormAIdeal.defs (F := Ideal)) (onTc (τ := Cert.NormAIdeal.τ) (Cert.NormAIdeal.main (F := Ideal))) ⟨m, fun _ => 0, g⟩ (fun r => (∀ c : Dev Cert.NormAIdeal.nD,
      r.2.mem ((c.tc : Thread Cert.NormAIdeal.nD Cert.NormAIdeal.τ).loc Cert.NormAIdeal.main_arg0) = m ((c.tc : Thread Cert.NormAIdeal.nD Cert.NormAIdeal.τ).loc Cert.NormAIdeal.main_arg0)
      ∧ r.2.mem ((c.tc : Thread Cert.NormAIdeal.nD Cert.NormAIdeal.τ).loc Cert.NormAIdeal.main_arg1) = m ((c.tc : Thread Cert.NormAIdeal.nD Cert.NormAIdeal.τ).loc Cert.NormAIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormM [hNormM : Cert.NormM.Facts] : Prop :=
  ∀ (m : (ℓ : Loc Cert.NormM.nD Cert.NormM.τ Cert.NormM.sig) → Buf (Elt Bits) ℓ) (g : Dev Cert.NormM.nD → PrngReg), Pre_NormM m →
    θ_run (Cert.NormM.defs (F := Bits)) (onTc (τ := Cert.NormM.τ) (Cert.NormM.main (F := Bits))) ⟨m, fun _ => 0, g⟩ (fun r => (∀ c : Dev Cert.NormM.nD,
      r.2.mem ((c.tc : Thread Cert.NormM.nD Cert.NormM.τ).loc Cert.NormM.main_arg0) = m ((c.tc : Thread Cert.NormM.nD Cert.NormM.τ).loc Cert.NormM.main_arg0)
      ∧ r.2.mem ((c.tc : Thread Cert.NormM.nD Cert.NormM.τ).loc Cert.NormM.main_arg1) = m ((c.tc : Thread Cert.NormM.nD Cert.NormM.τ).loc Cert.NormM.main_arg1))
      ∧ r.2.sem = fun _ => 0)

def quiescent_NormMIdeal [hNormMIdeal : Cert.NormMIdeal.Facts] : Prop :=
  ∀ (m : (ℓ : Loc Cert.NormMIdeal.nD Cert.NormMIdeal.τ Cert.NormMIdeal.sig) → Buf (Elt Ideal) ℓ) (g : Dev Cert.NormMIdeal.nD → PrngReg), Pre_NormMIdeal m →
    θ_run (Cert.NormMIdeal.defs (F := Ideal)) (onTc (τ := Cert.NormMIdeal.τ) (Cert.NormMIdeal.main (F := Ideal))) ⟨m, fun _ => 0, g⟩ (fun r => (∀ c : Dev Cert.NormMIdeal.nD,
      r.2.mem ((c.tc : Thread Cert.NormMIdeal.nD Cert.NormMIdeal.τ).loc Cert.NormMIdeal.main_arg0) = m ((c.tc : Thread Cert.NormMIdeal.nD Cert.NormMIdeal.τ).loc Cert.NormMIdeal.main_arg0)
      ∧ r.2.mem ((c.tc : Thread Cert.NormMIdeal.nD Cert.NormMIdeal.τ).loc Cert.NormMIdeal.main_arg1) = m ((c.tc : Thread Cert.NormMIdeal.nD Cert.NormMIdeal.τ).loc Cert.NormMIdeal.main_arg1))
      ∧ r.2.sem = fun _ => 0)

def quiescent_ProjQa [hProjQa : Cert.ProjQa.Facts] : Prop :=
  ∀ (m : (ℓ : Loc Cert.ProjQa.nD Cert.ProjQa.τ Cert.ProjQa.sig) → Buf (Elt Bits) ℓ) (g : Dev Cert.ProjQa.nD → PrngReg), Pre_ProjQa m →
    θ_run (Cert.ProjQa.defs (F := Bits)) (onTc (τ := Cert.ProjQa.τ) (Cert.ProjQa.main (F := Bits))) ⟨m, fun _ => 0, g⟩ (fun r => (∀ c : Dev Cert.ProjQa.nD,
      r.2.mem ((c.tc : Thread Cert.ProjQa.nD Cert.ProjQa.τ).loc Cert.ProjQa.main_arg0) = m ((c.tc : Thread Cert.ProjQa.nD Cert.ProjQa.τ).loc Cert.ProjQa.main_arg0)
      ∧ r.2.mem ((c.tc : Thread Cert.ProjQa.nD Cert.ProjQa.τ).loc Cert.ProjQa.main_arg1) = m ((c.tc : Thread Cert.ProjQa.nD Cert.ProjQa.τ).loc Cert.ProjQa.main_arg1)
      ∧ r.2.mem ((c.tc : Thread Cert.ProjQa.nD Cert.ProjQa.τ).loc Cert.ProjQa.main_arg2) = m ((c.tc : Thread Cert.ProjQa.nD Cert.ProjQa.τ).loc Cert.ProjQa.main_arg2))
      ∧ r.2.sem = fun _ => 0)

def quiescent_ProjQaIdeal [hProjQaIdeal : Cert.ProjQaIdeal.Facts] : Prop :=
  ∀ (m : (ℓ : Loc Cert.ProjQaIdeal.nD Cert.ProjQaIdeal.τ Cert.ProjQaIdeal.sig) → Buf (Elt Ideal) ℓ) (g : Dev Cert.ProjQaIdeal.nD → PrngReg), Pre_ProjQaIdeal m →
    θ_run (Cert.ProjQaIdeal.defs (F := Ideal)) (onTc (τ := Cert.ProjQaIdeal.τ) (Cert.ProjQaIdeal.main (F := Ideal))) ⟨m, fun _ => 0, g⟩ (fun r => (∀ c : Dev Cert.ProjQaIdeal.nD,
      r.2.mem ((c.tc : Thread Cert.ProjQaIdeal.nD Cert.ProjQaIdeal.τ).loc Cert.ProjQaIdeal.main_arg0) = m ((c.tc : Thread Cert.ProjQaIdeal.nD Cert.ProjQaIdeal.τ).loc Cert.ProjQaIdeal.main_arg0)
      ∧ r.2.mem ((c.tc : Thread Cert.ProjQaIdeal.nD Cert.ProjQaIdeal.τ).loc Cert.ProjQaIdeal.main_arg1) = m ((c.tc : Thread Cert.ProjQaIdeal.nD Cert.ProjQaIdeal.τ).loc Cert.ProjQaIdeal.main_arg1)
      ∧ r.2.mem ((c.tc : Thread Cert.ProjQaIdeal.nD Cert.ProjQaIdeal.τ).loc Cert.ProjQaIdeal.main_arg2) = m ((c.tc : Thread Cert.ProjQaIdeal.nD Cert.ProjQaIdeal.τ).loc Cert.ProjQaIdeal.main_arg2))
      ∧ r.2.sem = fun _ => 0)

def quiescent_QueriesAIdeal [hQueriesAIdeal : Cert.QueriesAIdeal.Facts] : Prop :=
  ∀ (m : (ℓ : Loc Cert.QueriesAIdeal.nD Cert.QueriesAIdeal.τ Cert.QueriesAIdeal.sig) → Buf (Elt Ideal) ℓ) (g : Dev Cert.QueriesAIdeal.nD → PrngReg), Pre_QueriesAIdeal m →
    θ_run (Cert.QueriesAIdeal.defs (F := Ideal)) (onTc (τ := Cert.QueriesAIdeal.τ) (Cert.QueriesAIdeal.main (F := Ideal))) ⟨m, fun _ => 0, g⟩ (fun r => (∀ c : Dev Cert.QueriesAIdeal.nD,
      r.2.mem ((c.tc : Thread Cert.QueriesAIdeal.nD Cert.QueriesAIdeal.τ).loc Cert.QueriesAIdeal.main_arg0) = m ((c.tc : Thread Cert.QueriesAIdeal.nD Cert.QueriesAIdeal.τ).loc Cert.QueriesAIdeal.main_arg0)
      ∧ r.2.mem ((c.tc : Thread Cert.QueriesAIdeal.nD Cert.QueriesAIdeal.τ).loc Cert.QueriesAIdeal.main_arg1) = m ((c.tc : Thread Cert.QueriesAIdeal.nD Cert.QueriesAIdeal.τ).loc Cert.QueriesAIdeal.main_arg1)
      ∧ r.2.mem ((c.tc : Thread Cert.QueriesAIdeal.nD Cert.QueriesAIdeal.τ).loc Cert.QueriesAIdeal.main_arg2) = m ((c.tc : Thread Cert.QueriesAIdeal.nD Cert.QueriesAIdeal.τ).loc Cert.QueriesAIdeal.main_arg2))
      ∧ r.2.sem = fun _ => 0)

def quiescent_ProjKva [hProjKva : Cert.ProjKva.Facts] : Prop :=
  ∀ (m : (ℓ : Loc Cert.ProjKva.nD Cert.ProjKva.τ Cert.ProjKva.sig) → Buf (Elt Bits) ℓ) (g : Dev Cert.ProjKva.nD → PrngReg), Pre_ProjKva m →
    θ_run (Cert.ProjKva.defs (F := Bits)) (onTc (τ := Cert.ProjKva.τ) (Cert.ProjKva.main (F := Bits))) ⟨m, fun _ => 0, g⟩ (fun r => (∀ c : Dev Cert.ProjKva.nD,
      r.2.mem ((c.tc : Thread Cert.ProjKva.nD Cert.ProjKva.τ).loc Cert.ProjKva.main_arg0) = m ((c.tc : Thread Cert.ProjKva.nD Cert.ProjKva.τ).loc Cert.ProjKva.main_arg0)
      ∧ r.2.mem ((c.tc : Thread Cert.ProjKva.nD Cert.ProjKva.τ).loc Cert.ProjKva.main_arg1) = m ((c.tc : Thread Cert.ProjKva.nD Cert.ProjKva.τ).loc Cert.ProjKva.main_arg1)
      ∧ r.2.mem ((c.tc : Thread Cert.ProjKva.nD Cert.ProjKva.τ).loc Cert.ProjKva.main_arg2) = m ((c.tc : Thread Cert.ProjKva.nD Cert.ProjKva.τ).loc Cert.ProjKva.main_arg2))
      ∧ r.2.sem = fun _ => 0)

def quiescent_ProjKvaIdeal [hProjKvaIdeal : Cert.ProjKvaIdeal.Facts] : Prop :=
  ∀ (m : (ℓ : Loc Cert.ProjKvaIdeal.nD Cert.ProjKvaIdeal.τ Cert.ProjKvaIdeal.sig) → Buf (Elt Ideal) ℓ) (g : Dev Cert.ProjKvaIdeal.nD → PrngReg), Pre_ProjKvaIdeal m →
    θ_run (Cert.ProjKvaIdeal.defs (F := Ideal)) (onTc (τ := Cert.ProjKvaIdeal.τ) (Cert.ProjKvaIdeal.main (F := Ideal))) ⟨m, fun _ => 0, g⟩ (fun r => (∀ c : Dev Cert.ProjKvaIdeal.nD,
      r.2.mem ((c.tc : Thread Cert.ProjKvaIdeal.nD Cert.ProjKvaIdeal.τ).loc Cert.ProjKvaIdeal.main_arg0) = m ((c.tc : Thread Cert.ProjKvaIdeal.nD Cert.ProjKvaIdeal.τ).loc Cert.ProjKvaIdeal.main_arg0)
      ∧ r.2.mem ((c.tc : Thread Cert.ProjKvaIdeal.nD Cert.ProjKvaIdeal.τ).loc Cert.ProjKvaIdeal.main_arg1) = m ((c.tc : Thread Cert.ProjKvaIdeal.nD Cert.ProjKvaIdeal.τ).loc Cert.ProjKvaIdeal.main_arg1)
      ∧ r.2.mem ((c.tc : Thread Cert.ProjKvaIdeal.nD Cert.ProjKvaIdeal.τ).loc Cert.ProjKvaIdeal.main_arg2) = m ((c.tc : Thread Cert.ProjKvaIdeal.nD Cert.ProjKvaIdeal.τ).loc Cert.ProjKvaIdeal.main_arg2))
      ∧ r.2.sem = fun _ => 0)

def quiescent_KeysValuesAIdeal [hKeysValuesAIdeal : Cert.KeysValuesAIdeal.Facts] : Prop :=
  ∀ (m : (ℓ : Loc Cert.KeysValuesAIdeal.nD Cert.KeysValuesAIdeal.τ Cert.KeysValuesAIdeal.sig) → Buf (Elt Ideal) ℓ) (g : Dev Cert.KeysValuesAIdeal.nD → PrngReg), Pre_KeysValuesAIdeal m →
    θ_run (Cert.KeysValuesAIdeal.defs (F := Ideal)) (onTc (τ := Cert.KeysValuesAIdeal.τ) (Cert.KeysValuesAIdeal.main (F := Ideal))) ⟨m, fun _ => 0, g⟩ (fun r => (∀ c : Dev Cert.KeysValuesAIdeal.nD,
      r.2.mem ((c.tc : Thread Cert.KeysValuesAIdeal.nD Cert.KeysValuesAIdeal.τ).loc Cert.KeysValuesAIdeal.main_arg0) = m ((c.tc : Thread Cert.KeysValuesAIdeal.nD Cert.KeysValuesAIdeal.τ).loc Cert.KeysValuesAIdeal.main_arg0)
      ∧ r.2.mem ((c.tc : Thread Cert.KeysValuesAIdeal.nD Cert.KeysValuesAIdeal.τ).loc Cert.KeysValuesAIdeal.main_arg1) = m ((c.tc : Thread Cert.KeysValuesAIdeal.nD Cert.KeysValuesAIdeal.τ).loc Cert.KeysValuesAIdeal.main_arg1)
      ∧ r.2.mem ((c.tc : Thread Cert.KeysValuesAIdeal.nD Cert.KeysValuesAIdeal.τ).loc Cert.KeysValuesAIdeal.main_arg2) = m ((c.tc : Thread Cert.KeysValuesAIdeal.nD Cert.KeysValuesAIdeal.τ).loc Cert.KeysValuesAIdeal.main_arg2))
      ∧ r.2.sem = fun _ => 0)

def quiescent_ProjQb [hProjQb : Cert.ProjQb.Facts] : Prop :=
  ∀ (m : (ℓ : Loc Cert.ProjQb.nD Cert.ProjQb.τ Cert.ProjQb.sig) → Buf (Elt Bits) ℓ) (g : Dev Cert.ProjQb.nD → PrngReg), Pre_ProjQb m →
    θ_run (Cert.ProjQb.defs (F := Bits)) (onTc (τ := Cert.ProjQb.τ) (Cert.ProjQb.main (F := Bits))) ⟨m, fun _ => 0, g⟩ (fun r => (∀ c : Dev Cert.ProjQb.nD,
      r.2.mem ((c.tc : Thread Cert.ProjQb.nD Cert.ProjQb.τ).loc Cert.ProjQb.main_arg0) = m ((c.tc : Thread Cert.ProjQb.nD Cert.ProjQb.τ).loc Cert.ProjQb.main_arg0)
      ∧ r.2.mem ((c.tc : Thread Cert.ProjQb.nD Cert.ProjQb.τ).loc Cert.ProjQb.main_arg1) = m ((c.tc : Thread Cert.ProjQb.nD Cert.ProjQb.τ).loc Cert.ProjQb.main_arg1)
      ∧ r.2.mem ((c.tc : Thread Cert.ProjQb.nD Cert.ProjQb.τ).loc Cert.ProjQb.main_arg2) = m ((c.tc : Thread Cert.ProjQb.nD Cert.ProjQb.τ).loc Cert.ProjQb.main_arg2))
      ∧ r.2.sem = fun _ => 0)

def quiescent_ProjQbIdeal [hProjQbIdeal : Cert.ProjQbIdeal.Facts] : Prop :=
  ∀ (m : (ℓ : Loc Cert.ProjQbIdeal.nD Cert.ProjQbIdeal.τ Cert.ProjQbIdeal.sig) → Buf (Elt Ideal) ℓ) (g : Dev Cert.ProjQbIdeal.nD → PrngReg), Pre_ProjQbIdeal m →
    θ_run (Cert.ProjQbIdeal.defs (F := Ideal)) (onTc (τ := Cert.ProjQbIdeal.τ) (Cert.ProjQbIdeal.main (F := Ideal))) ⟨m, fun _ => 0, g⟩ (fun r => (∀ c : Dev Cert.ProjQbIdeal.nD,
      r.2.mem ((c.tc : Thread Cert.ProjQbIdeal.nD Cert.ProjQbIdeal.τ).loc Cert.ProjQbIdeal.main_arg0) = m ((c.tc : Thread Cert.ProjQbIdeal.nD Cert.ProjQbIdeal.τ).loc Cert.ProjQbIdeal.main_arg0)
      ∧ r.2.mem ((c.tc : Thread Cert.ProjQbIdeal.nD Cert.ProjQbIdeal.τ).loc Cert.ProjQbIdeal.main_arg1) = m ((c.tc : Thread Cert.ProjQbIdeal.nD Cert.ProjQbIdeal.τ).loc Cert.ProjQbIdeal.main_arg1)
      ∧ r.2.mem ((c.tc : Thread Cert.ProjQbIdeal.nD Cert.ProjQbIdeal.τ).loc Cert.ProjQbIdeal.main_arg2) = m ((c.tc : Thread Cert.ProjQbIdeal.nD Cert.ProjQbIdeal.τ).loc Cert.ProjQbIdeal.main_arg2))
      ∧ r.2.sem = fun _ => 0)

def quiescent_QueriesBIdeal [hQueriesBIdeal : Cert.QueriesBIdeal.Facts] : Prop :=
  ∀ (m : (ℓ : Loc Cert.QueriesBIdeal.nD Cert.QueriesBIdeal.τ Cert.QueriesBIdeal.sig) → Buf (Elt Ideal) ℓ) (g : Dev Cert.QueriesBIdeal.nD → PrngReg), Pre_QueriesBIdeal m →
    θ_run (Cert.QueriesBIdeal.defs (F := Ideal)) (onTc (τ := Cert.QueriesBIdeal.τ) (Cert.QueriesBIdeal.main (F := Ideal))) ⟨m, fun _ => 0, g⟩ (fun r => (∀ c : Dev Cert.QueriesBIdeal.nD,
      r.2.mem ((c.tc : Thread Cert.QueriesBIdeal.nD Cert.QueriesBIdeal.τ).loc Cert.QueriesBIdeal.main_arg0) = m ((c.tc : Thread Cert.QueriesBIdeal.nD Cert.QueriesBIdeal.τ).loc Cert.QueriesBIdeal.main_arg0)
      ∧ r.2.mem ((c.tc : Thread Cert.QueriesBIdeal.nD Cert.QueriesBIdeal.τ).loc Cert.QueriesBIdeal.main_arg1) = m ((c.tc : Thread Cert.QueriesBIdeal.nD Cert.QueriesBIdeal.τ).loc Cert.QueriesBIdeal.main_arg1)
      ∧ r.2.mem ((c.tc : Thread Cert.QueriesBIdeal.nD Cert.QueriesBIdeal.τ).loc Cert.QueriesBIdeal.main_arg2) = m ((c.tc : Thread Cert.QueriesBIdeal.nD Cert.QueriesBIdeal.τ).loc Cert.QueriesBIdeal.main_arg2))
      ∧ r.2.sem = fun _ => 0)

def quiescent_ProjKb [hProjKb : Cert.ProjKb.Facts] : Prop :=
  ∀ (m : (ℓ : Loc Cert.ProjKb.nD Cert.ProjKb.τ Cert.ProjKb.sig) → Buf (Elt Bits) ℓ) (g : Dev Cert.ProjKb.nD → PrngReg), Pre_ProjKb m →
    θ_run (Cert.ProjKb.defs (F := Bits)) (onTc (τ := Cert.ProjKb.τ) (Cert.ProjKb.main (F := Bits))) ⟨m, fun _ => 0, g⟩ (fun r => (∀ c : Dev Cert.ProjKb.nD,
      r.2.mem ((c.tc : Thread Cert.ProjKb.nD Cert.ProjKb.τ).loc Cert.ProjKb.main_arg0) = m ((c.tc : Thread Cert.ProjKb.nD Cert.ProjKb.τ).loc Cert.ProjKb.main_arg0)
      ∧ r.2.mem ((c.tc : Thread Cert.ProjKb.nD Cert.ProjKb.τ).loc Cert.ProjKb.main_arg1) = m ((c.tc : Thread Cert.ProjKb.nD Cert.ProjKb.τ).loc Cert.ProjKb.main_arg1)
      ∧ r.2.mem ((c.tc : Thread Cert.ProjKb.nD Cert.ProjKb.τ).loc Cert.ProjKb.main_arg2) = m ((c.tc : Thread Cert.ProjKb.nD Cert.ProjKb.τ).loc Cert.ProjKb.main_arg2))
      ∧ r.2.sem = fun _ => 0)

def quiescent_ProjKbIdeal [hProjKbIdeal : Cert.ProjKbIdeal.Facts] : Prop :=
  ∀ (m : (ℓ : Loc Cert.ProjKbIdeal.nD Cert.ProjKbIdeal.τ Cert.ProjKbIdeal.sig) → Buf (Elt Ideal) ℓ) (g : Dev Cert.ProjKbIdeal.nD → PrngReg), Pre_ProjKbIdeal m →
    θ_run (Cert.ProjKbIdeal.defs (F := Ideal)) (onTc (τ := Cert.ProjKbIdeal.τ) (Cert.ProjKbIdeal.main (F := Ideal))) ⟨m, fun _ => 0, g⟩ (fun r => (∀ c : Dev Cert.ProjKbIdeal.nD,
      r.2.mem ((c.tc : Thread Cert.ProjKbIdeal.nD Cert.ProjKbIdeal.τ).loc Cert.ProjKbIdeal.main_arg0) = m ((c.tc : Thread Cert.ProjKbIdeal.nD Cert.ProjKbIdeal.τ).loc Cert.ProjKbIdeal.main_arg0)
      ∧ r.2.mem ((c.tc : Thread Cert.ProjKbIdeal.nD Cert.ProjKbIdeal.τ).loc Cert.ProjKbIdeal.main_arg1) = m ((c.tc : Thread Cert.ProjKbIdeal.nD Cert.ProjKbIdeal.τ).loc Cert.ProjKbIdeal.main_arg1)
      ∧ r.2.mem ((c.tc : Thread Cert.ProjKbIdeal.nD Cert.ProjKbIdeal.τ).loc Cert.ProjKbIdeal.main_arg2) = m ((c.tc : Thread Cert.ProjKbIdeal.nD Cert.ProjKbIdeal.τ).loc Cert.ProjKbIdeal.main_arg2))
      ∧ r.2.sem = fun _ => 0)

def quiescent_KeysBIdeal [hKeysBIdeal : Cert.KeysBIdeal.Facts] : Prop :=
  ∀ (m : (ℓ : Loc Cert.KeysBIdeal.nD Cert.KeysBIdeal.τ Cert.KeysBIdeal.sig) → Buf (Elt Ideal) ℓ) (g : Dev Cert.KeysBIdeal.nD → PrngReg), Pre_KeysBIdeal m →
    θ_run (Cert.KeysBIdeal.defs (F := Ideal)) (onTc (τ := Cert.KeysBIdeal.τ) (Cert.KeysBIdeal.main (F := Ideal))) ⟨m, fun _ => 0, g⟩ (fun r => (∀ c : Dev Cert.KeysBIdeal.nD,
      r.2.mem ((c.tc : Thread Cert.KeysBIdeal.nD Cert.KeysBIdeal.τ).loc Cert.KeysBIdeal.main_arg0) = m ((c.tc : Thread Cert.KeysBIdeal.nD Cert.KeysBIdeal.τ).loc Cert.KeysBIdeal.main_arg0)
      ∧ r.2.mem ((c.tc : Thread Cert.KeysBIdeal.nD Cert.KeysBIdeal.τ).loc Cert.KeysBIdeal.main_arg1) = m ((c.tc : Thread Cert.KeysBIdeal.nD Cert.KeysBIdeal.τ).loc Cert.KeysBIdeal.main_arg1)
      ∧ r.2.mem ((c.tc : Thread Cert.KeysBIdeal.nD Cert.KeysBIdeal.τ).loc Cert.KeysBIdeal.main_arg2) = m ((c.tc : Thread Cert.KeysBIdeal.nD Cert.KeysBIdeal.τ).loc Cert.KeysBIdeal.main_arg2))
      ∧ r.2.sem = fun _ => 0)

def quiescent_ProjVb [hProjVb : Cert.ProjVb.Facts] : Prop :=
  ∀ (m : (ℓ : Loc Cert.ProjVb.nD Cert.ProjVb.τ Cert.ProjVb.sig) → Buf (Elt Bits) ℓ) (g : Dev Cert.ProjVb.nD → PrngReg), Pre_ProjVb m →
    θ_run (Cert.ProjVb.defs (F := Bits)) (onTc (τ := Cert.ProjVb.τ) (Cert.ProjVb.main (F := Bits))) ⟨m, fun _ => 0, g⟩ (fun r => (∀ c : Dev Cert.ProjVb.nD,
      r.2.mem ((c.tc : Thread Cert.ProjVb.nD Cert.ProjVb.τ).loc Cert.ProjVb.main_arg0) = m ((c.tc : Thread Cert.ProjVb.nD Cert.ProjVb.τ).loc Cert.ProjVb.main_arg0)
      ∧ r.2.mem ((c.tc : Thread Cert.ProjVb.nD Cert.ProjVb.τ).loc Cert.ProjVb.main_arg1) = m ((c.tc : Thread Cert.ProjVb.nD Cert.ProjVb.τ).loc Cert.ProjVb.main_arg1)
      ∧ r.2.mem ((c.tc : Thread Cert.ProjVb.nD Cert.ProjVb.τ).loc Cert.ProjVb.main_arg2) = m ((c.tc : Thread Cert.ProjVb.nD Cert.ProjVb.τ).loc Cert.ProjVb.main_arg2))
      ∧ r.2.sem = fun _ => 0)

def quiescent_ProjVbIdeal [hProjVbIdeal : Cert.ProjVbIdeal.Facts] : Prop :=
  ∀ (m : (ℓ : Loc Cert.ProjVbIdeal.nD Cert.ProjVbIdeal.τ Cert.ProjVbIdeal.sig) → Buf (Elt Ideal) ℓ) (g : Dev Cert.ProjVbIdeal.nD → PrngReg), Pre_ProjVbIdeal m →
    θ_run (Cert.ProjVbIdeal.defs (F := Ideal)) (onTc (τ := Cert.ProjVbIdeal.τ) (Cert.ProjVbIdeal.main (F := Ideal))) ⟨m, fun _ => 0, g⟩ (fun r => (∀ c : Dev Cert.ProjVbIdeal.nD,
      r.2.mem ((c.tc : Thread Cert.ProjVbIdeal.nD Cert.ProjVbIdeal.τ).loc Cert.ProjVbIdeal.main_arg0) = m ((c.tc : Thread Cert.ProjVbIdeal.nD Cert.ProjVbIdeal.τ).loc Cert.ProjVbIdeal.main_arg0)
      ∧ r.2.mem ((c.tc : Thread Cert.ProjVbIdeal.nD Cert.ProjVbIdeal.τ).loc Cert.ProjVbIdeal.main_arg1) = m ((c.tc : Thread Cert.ProjVbIdeal.nD Cert.ProjVbIdeal.τ).loc Cert.ProjVbIdeal.main_arg1)
      ∧ r.2.mem ((c.tc : Thread Cert.ProjVbIdeal.nD Cert.ProjVbIdeal.τ).loc Cert.ProjVbIdeal.main_arg2) = m ((c.tc : Thread Cert.ProjVbIdeal.nD Cert.ProjVbIdeal.τ).loc Cert.ProjVbIdeal.main_arg2))
      ∧ r.2.sem = fun _ => 0)

def quiescent_ValuesBIdeal [hValuesBIdeal : Cert.ValuesBIdeal.Facts] : Prop :=
  ∀ (m : (ℓ : Loc Cert.ValuesBIdeal.nD Cert.ValuesBIdeal.τ Cert.ValuesBIdeal.sig) → Buf (Elt Ideal) ℓ) (g : Dev Cert.ValuesBIdeal.nD → PrngReg), Pre_ValuesBIdeal m →
    θ_run (Cert.ValuesBIdeal.defs (F := Ideal)) (onTc (τ := Cert.ValuesBIdeal.τ) (Cert.ValuesBIdeal.main (F := Ideal))) ⟨m, fun _ => 0, g⟩ (fun r => (∀ c : Dev Cert.ValuesBIdeal.nD,
      r.2.mem ((c.tc : Thread Cert.ValuesBIdeal.nD Cert.ValuesBIdeal.τ).loc Cert.ValuesBIdeal.main_arg0) = m ((c.tc : Thread Cert.ValuesBIdeal.nD Cert.ValuesBIdeal.τ).loc Cert.ValuesBIdeal.main_arg0)
      ∧ r.2.mem ((c.tc : Thread Cert.ValuesBIdeal.nD Cert.ValuesBIdeal.τ).loc Cert.ValuesBIdeal.main_arg1) = m ((c.tc : Thread Cert.ValuesBIdeal.nD Cert.ValuesBIdeal.τ).loc Cert.ValuesBIdeal.main_arg1)
      ∧ r.2.mem ((c.tc : Thread Cert.ValuesBIdeal.nD Cert.ValuesBIdeal.τ).loc Cert.ValuesBIdeal.main_arg2) = m ((c.tc : Thread Cert.ValuesBIdeal.nD Cert.ValuesBIdeal.τ).loc Cert.ValuesBIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_FirstLayerIdeal [hFirstLayerIdeal : Cert.FirstLayerIdeal.Facts] : Prop :=
  ∀ (m : (ℓ : Loc Cert.FirstLayerIdeal.nD Cert.FirstLayerIdeal.τ Cert.FirstLayerIdeal.sig) → Buf (Elt Ideal) ℓ) (g : Dev Cert.FirstLayerIdeal.nD → PrngReg), Pre_FirstLayerIdeal m →
    θ_run (Cert.FirstLayerIdeal.defs (F := Ideal)) (onTc (τ := Cert.FirstLayerIdeal.τ) (Cert.FirstLayerIdeal.main (F := Ideal))) ⟨m, fun _ => 0, g⟩ (fun r => (∀ c : Dev Cert.FirstLayerIdeal.nD,
      r.2.mem ((c.tc : Thread Cert.FirstLayerIdeal.nD Cert.FirstLayerIdeal.τ).loc Cert.FirstLayerIdeal.main_arg0) = m ((c.tc : Thread Cert.FirstLayerIdeal.nD Cert.FirstLayerIdeal.τ).loc Cert.FirstLayerIdeal.main_arg0)
      ∧ r.2.mem ((c.tc : Thread Cert.FirstLayerIdeal.nD Cert.FirstLayerIdeal.τ).loc Cert.FirstLayerIdeal.main_arg1) = m ((c.tc : Thread Cert.FirstLayerIdeal.nD Cert.FirstLayerIdeal.τ).loc Cert.FirstLayerIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_SecondLayerIdeal [hSecondLayerIdeal : Cert.SecondLayerIdeal.Facts] : Prop :=
  ∀ (m : (ℓ : Loc Cert.SecondLayerIdeal.nD Cert.SecondLayerIdeal.τ Cert.SecondLayerIdeal.sig) → Buf (Elt Ideal) ℓ) (g : Dev Cert.SecondLayerIdeal.nD → PrngReg), Pre_SecondLayerIdeal m →
    θ_run (Cert.SecondLayerIdeal.defs (F := Ideal)) (onTc (τ := Cert.SecondLayerIdeal.τ) (Cert.SecondLayerIdeal.main (F := Ideal))) ⟨m, fun _ => 0, g⟩ (fun r => (∀ c : Dev Cert.SecondLayerIdeal.nD,
      r.2.mem ((c.tc : Thread Cert.SecondLayerIdeal.nD Cert.SecondLayerIdeal.τ).loc Cert.SecondLayerIdeal.main_arg0) = m ((c.tc : Thread Cert.SecondLayerIdeal.nD Cert.SecondLayerIdeal.τ).loc Cert.SecondLayerIdeal.main_arg0)
      ∧ r.2.mem ((c.tc : Thread Cert.SecondLayerIdeal.nD Cert.SecondLayerIdeal.τ).loc Cert.SecondLayerIdeal.main_arg1) = m ((c.tc : Thread Cert.SecondLayerIdeal.nD Cert.SecondLayerIdeal.τ).loc Cert.SecondLayerIdeal.main_arg1)
      ∧ r.2.mem ((c.tc : Thread Cert.SecondLayerIdeal.nD Cert.SecondLayerIdeal.τ).loc Cert.SecondLayerIdeal.main_arg2) = m ((c.tc : Thread Cert.SecondLayerIdeal.nD Cert.SecondLayerIdeal.τ).loc Cert.SecondLayerIdeal.main_arg2))
      ∧ r.2.sem = fun _ => 0)

def quiescent_MlpDownDx [hMlpDownDx : Cert.MlpDownDx.Facts] : Prop :=
  ∀ (m : (ℓ : Loc Cert.MlpDownDx.nD Cert.MlpDownDx.τ Cert.MlpDownDx.sig) → Buf (Elt Bits) ℓ) (g : Dev Cert.MlpDownDx.nD → PrngReg), Pre_MlpDownDx m →
    θ_run (Cert.MlpDownDx.defs (F := Bits)) (onTc (τ := Cert.MlpDownDx.τ) (Cert.MlpDownDx.main (F := Bits))) ⟨m, fun _ => 0, g⟩ (fun r => (∀ c : Dev Cert.MlpDownDx.nD,
      r.2.mem ((c.tc : Thread Cert.MlpDownDx.nD Cert.MlpDownDx.τ).loc Cert.MlpDownDx.main_arg0) = m ((c.tc : Thread Cert.MlpDownDx.nD Cert.MlpDownDx.τ).loc Cert.MlpDownDx.main_arg0)
      ∧ r.2.mem ((c.tc : Thread Cert.MlpDownDx.nD Cert.MlpDownDx.τ).loc Cert.MlpDownDx.main_arg1) = m ((c.tc : Thread Cert.MlpDownDx.nD Cert.MlpDownDx.τ).loc Cert.MlpDownDx.main_arg1)
      ∧ r.2.mem ((c.tc : Thread Cert.MlpDownDx.nD Cert.MlpDownDx.τ).loc Cert.MlpDownDx.main_arg2) = m ((c.tc : Thread Cert.MlpDownDx.nD Cert.MlpDownDx.τ).loc Cert.MlpDownDx.main_arg2))
      ∧ r.2.sem = fun _ => 0)

def quiescent_MlpDownDxIdeal [hMlpDownDxIdeal : Cert.MlpDownDxIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg), Pre_MlpDownDxIdeal m →
    θ_run (Cert.MlpDownDxIdeal.defs (F := Ideal)) (onTc (τ := Cert.MlpDownDxIdeal.τ) (Cert.MlpDownDxIdeal.main (F := Ideal))) ⟨m, fun _ => 0, g⟩ (fun r => (∀ c : Dev Cert.MlpDownDxIdeal.nD,
      r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
      ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
      ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ r.2.sem = fun _ => 0)

def quiescent_SecondGradIdeal [hSecondGradIdeal : Cert.SecondGradIdeal.Facts] : Prop :=
  ∀ (m : (ℓ : Loc Cert.SecondGradIdeal.nD Cert.SecondGradIdeal.τ Cert.SecondGradIdeal.sig) → Buf (Elt Ideal) ℓ) (g : Dev Cert.SecondGradIdeal.nD → PrngReg), Pre_SecondGradIdeal m →
    θ_run (Cert.SecondGradIdeal.defs (F := Ideal)) (onTc (τ := Cert.SecondGradIdeal.τ) (Cert.SecondGradIdeal.main (F := Ideal))) ⟨m, fun _ => 0, g⟩ (fun r => (∀ c : Dev Cert.SecondGradIdeal.nD,
      r.2.mem ((c.tc : Thread Cert.SecondGradIdeal.nD Cert.SecondGradIdeal.τ).loc Cert.SecondGradIdeal.main_arg0) = m ((c.tc : Thread Cert.SecondGradIdeal.nD Cert.SecondGradIdeal.τ).loc Cert.SecondGradIdeal.main_arg0)
      ∧ r.2.mem ((c.tc : Thread Cert.SecondGradIdeal.nD Cert.SecondGradIdeal.τ).loc Cert.SecondGradIdeal.main_arg1) = m ((c.tc : Thread Cert.SecondGradIdeal.nD Cert.SecondGradIdeal.τ).loc Cert.SecondGradIdeal.main_arg1)
      ∧ r.2.mem ((c.tc : Thread Cert.SecondGradIdeal.nD Cert.SecondGradIdeal.τ).loc Cert.SecondGradIdeal.main_arg2) = m ((c.tc : Thread Cert.SecondGradIdeal.nD Cert.SecondGradIdeal.τ).loc Cert.SecondGradIdeal.main_arg2))
      ∧ r.2.sem = fun _ => 0)

def quiescent_MlpUpDx [hMlpUpDx : Cert.MlpUpDx.Facts] : Prop :=
  ∀ (m : (ℓ : Loc Cert.MlpUpDx.nD Cert.MlpUpDx.τ Cert.MlpUpDx.sig) → Buf (Elt Bits) ℓ) (g : Dev Cert.MlpUpDx.nD → PrngReg), Pre_MlpUpDx m →
    θ_run (Cert.MlpUpDx.defs (F := Bits)) (onTc (τ := Cert.MlpUpDx.τ) (Cert.MlpUpDx.main (F := Bits))) ⟨m, fun _ => 0, g⟩ (fun r => (∀ c : Dev Cert.MlpUpDx.nD,
      r.2.mem ((c.tc : Thread Cert.MlpUpDx.nD Cert.MlpUpDx.τ).loc Cert.MlpUpDx.main_arg0) = m ((c.tc : Thread Cert.MlpUpDx.nD Cert.MlpUpDx.τ).loc Cert.MlpUpDx.main_arg0)
      ∧ r.2.mem ((c.tc : Thread Cert.MlpUpDx.nD Cert.MlpUpDx.τ).loc Cert.MlpUpDx.main_arg1) = m ((c.tc : Thread Cert.MlpUpDx.nD Cert.MlpUpDx.τ).loc Cert.MlpUpDx.main_arg1))
      ∧ r.2.sem = fun _ => 0)

def quiescent_MlpUpDxIdeal [hMlpUpDxIdeal : Cert.MlpUpDxIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg), Pre_MlpUpDxIdeal m →
    θ_run (Cert.MlpUpDxIdeal.defs (F := Ideal)) (onTc (τ := Cert.MlpUpDxIdeal.τ) (Cert.MlpUpDxIdeal.main (F := Ideal))) ⟨m, fun _ => 0, g⟩ (fun r => (∀ c : Dev Cert.MlpUpDxIdeal.nD,
      r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
      ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1))
      ∧ r.2.sem = fun _ => 0)

def quiescent_FirstGradIdeal [hFirstGradIdeal : Cert.FirstGradIdeal.Facts] : Prop :=
  ∀ (m : (ℓ : Loc Cert.FirstGradIdeal.nD Cert.FirstGradIdeal.τ Cert.FirstGradIdeal.sig) → Buf (Elt Ideal) ℓ) (g : Dev Cert.FirstGradIdeal.nD → PrngReg), Pre_FirstGradIdeal m →
    θ_run (Cert.FirstGradIdeal.defs (F := Ideal)) (onTc (τ := Cert.FirstGradIdeal.τ) (Cert.FirstGradIdeal.main (F := Ideal))) ⟨m, fun _ => 0, g⟩ (fun r => (∀ c : Dev Cert.FirstGradIdeal.nD,
      r.2.mem ((c.tc : Thread Cert.FirstGradIdeal.nD Cert.FirstGradIdeal.τ).loc Cert.FirstGradIdeal.main_arg0) = m ((c.tc : Thread Cert.FirstGradIdeal.nD Cert.FirstGradIdeal.τ).loc Cert.FirstGradIdeal.main_arg0)
      ∧ r.2.mem ((c.tc : Thread Cert.FirstGradIdeal.nD Cert.FirstGradIdeal.τ).loc Cert.FirstGradIdeal.main_arg1) = m ((c.tc : Thread Cert.FirstGradIdeal.nD Cert.FirstGradIdeal.τ).loc Cert.FirstGradIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutputGradIdeal [hOutputGradIdeal : Cert.OutputGradIdeal.Facts] : Prop :=
  ∀ (m : (ℓ : Loc Cert.OutputGradIdeal.nD Cert.OutputGradIdeal.τ Cert.OutputGradIdeal.sig) → Buf (Elt Ideal) ℓ) (g : Dev Cert.OutputGradIdeal.nD → PrngReg), Pre_OutputGradIdeal m →
    θ_run (Cert.OutputGradIdeal.defs (F := Ideal)) (onTc (τ := Cert.OutputGradIdeal.τ) (Cert.OutputGradIdeal.main (F := Ideal))) ⟨m, fun _ => 0, g⟩ (fun r => (∀ c : Dev Cert.OutputGradIdeal.nD,
      r.2.mem ((c.tc : Thread Cert.OutputGradIdeal.nD Cert.OutputGradIdeal.τ).loc Cert.OutputGradIdeal.main_arg0) = m ((c.tc : Thread Cert.OutputGradIdeal.nD Cert.OutputGradIdeal.τ).loc Cert.OutputGradIdeal.main_arg0)
      ∧ r.2.mem ((c.tc : Thread Cert.OutputGradIdeal.nD Cert.OutputGradIdeal.τ).loc Cert.OutputGradIdeal.main_arg1) = m ((c.tc : Thread Cert.OutputGradIdeal.nD Cert.OutputGradIdeal.τ).loc Cert.OutputGradIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1088, 2048]⟩ ⟨2, ![4352, 2048]⟩ (Layout.meshBlock [2, 2, 2] ![[0, 1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![2048, 2048]⟩ (Layout.meshBlock [2, 2, 2] ![[0, 1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![2048, 2048]⟩ ⟨2, ![8192, 2048]⟩ (Layout.meshBlock [2, 2, 2] ![[0, 1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![2048, 2048]⟩ ⟨2, ![8192, 2048]⟩ (Layout.meshBlock [2, 2, 2] ![[0, 1], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_arg0)) (v1 : Buf (Elt Ideal) (((0 : Dev Cert.ReferenceIdeal.nD).tc : Thread Cert.ReferenceIdeal.nD Cert.ReferenceIdeal.τ).loc Cert.ReferenceIdeal.main_arg1)) (v2 : Buf (Elt Ideal) (((0 : Dev Cert.ReferenceIdeal.nD).tc : Thread Cert.ReferenceIdeal.nD Cert.ReferenceIdeal.τ).loc Cert.ReferenceIdeal.main_arg2)) (v3 : Buf (Elt Ideal) (((0 : Dev Cert.ReferenceIdeal.nD).tc : Thread Cert.ReferenceIdeal.nD Cert.ReferenceIdeal.τ).loc Cert.ReferenceIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_v1_3) = v3
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg1) = v1
          ∧ r.2.mem (((0 : Dev Cert.ReferenceIdeal.nD).tc : Thread Cert.ReferenceIdeal.nD Cert.ReferenceIdeal.τ).loc Cert.ReferenceIdeal.main_arg2) = v2
          ∧ r.2.mem (((0 : Dev Cert.ReferenceIdeal.nD).tc : Thread Cert.ReferenceIdeal.nD Cert.ReferenceIdeal.τ).loc Cert.ReferenceIdeal.main_arg3) = v3
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![1088, 2048]⟩ ⟨2, ![4352, 2048]⟩ (Layout.meshBlock [2, 2, 2] ![[0, 1], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.blockN ⟨2, ![512, 2048]⟩ ⟨2, ![2048, 2048]⟩ (Layout.meshBlock [2, 2, 2] ![[0, 1], []] c) (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.blockN ⟨2, ![2048, 2048]⟩ ⟨2, ![8192, 2048]⟩ (Layout.meshBlock [2, 2, 2] ![[0, 1], []] c) (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.blockN ⟨2, ![2048, 2048]⟩ ⟨2, ![8192, 2048]⟩ (Layout.meshBlock [2, 2, 2] ![[0, 1], []] c) (m' (((0 : Dev Cert.Reference.nD).tc : Thread Cert.Reference.nD Cert.Reference.τ).loc Cert.Reference.main_arg3))) →
    ∃ (v0 : Buf (Elt Bits) (((0 : Dev Cert.Reference.nD).tc : Thread Cert.Reference.nD Cert.Reference.τ).loc Cert.Reference.main_arg0)) (v1 : Buf (Elt Bits) (((0 : Dev Cert.Reference.nD).tc : Thread Cert.Reference.nD Cert.Reference.τ).loc Cert.Reference.main_arg1)) (v2 : Buf (Elt Bits) (((0 : Dev Cert.Reference.nD).tc : Thread Cert.Reference.nD Cert.Reference.τ).loc Cert.Reference.main_arg2)) (v3 : Buf (Elt Bits) (((0 : Dev Cert.Reference.nD).tc : Thread Cert.Reference.nD Cert.Reference.τ).loc Cert.Reference.main_arg3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = v1
          ∧ r.2.mem ((c.tc : Thread Cert.Kernel.nD Cert.Kernel.τ).loc Cert.Kernel.main_v1_2) = v2
          ∧ r.2.mem ((c.tc : Thread Cert.Kernel.nD Cert.Kernel.τ).loc Cert.Kernel.main_v1_3) = v3
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg1) = v1
          ∧ r.2.mem (((0 : Dev Cert.Reference.nD).tc : Thread Cert.Reference.nD Cert.Reference.τ).loc Cert.Reference.main_arg2) = v2
          ∧ r.2.mem (((0 : Dev Cert.Reference.nD).tc : Thread Cert.Reference.nD Cert.Reference.τ).loc Cert.Reference.main_arg3) = v3
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3))

def preserves_Reduce_ReduceIdeal : Prop :=
  True

def algebraic_ReduceIdeal_TotalIdeal [hReduceIdeal : Cert.ReduceIdeal.Facts] [hTotalIdeal : Cert.TotalIdeal.Facts] : Prop :=
  ∀ (m : (ℓ : Loc Cert.ReduceIdeal.nD Cert.ReduceIdeal.τ Cert.ReduceIdeal.sig) → Buf (Elt Ideal) ℓ) (g : Dev Cert.ReduceIdeal.nD → PrngReg)
    (m' : (ℓ : Loc Cert.TotalIdeal.nD Cert.TotalIdeal.τ Cert.TotalIdeal.sig) → Buf (Elt Ideal) ℓ) (g' : Dev Cert.TotalIdeal.nD → PrngReg), Pre_ReduceIdeal m →
    (∀ c : Dev Cert.ReduceIdeal.nD,
      m ((c.tc : Thread Cert.ReduceIdeal.nD Cert.ReduceIdeal.τ).loc Cert.ReduceIdeal.main_arg0) = Layout.block ⟨2, ![4352, 2048]⟩ ⟨2, ![34816, 2048]⟩ 0 8 c (m' (((0 : Dev Cert.TotalIdeal.nD).tc : Thread Cert.TotalIdeal.nD Cert.TotalIdeal.τ).loc Cert.TotalIdeal.main_arg0))
      ∧ m ((c.tc : Thread Cert.ReduceIdeal.nD Cert.ReduceIdeal.τ).loc Cert.ReduceIdeal.main_arg1) = Layout.block ⟨2, ![2048, 2048]⟩ ⟨2, ![16384, 2048]⟩ 0 8 c (m' (((0 : Dev Cert.TotalIdeal.nD).tc : Thread Cert.TotalIdeal.nD Cert.TotalIdeal.τ).loc Cert.TotalIdeal.main_arg1))
      ∧ m ((c.tc : Thread Cert.ReduceIdeal.nD Cert.ReduceIdeal.τ).loc Cert.ReduceIdeal.main_arg2) = Layout.block ⟨2, ![8192, 2048]⟩ ⟨2, ![65536, 2048]⟩ 0 8 c (m' (((0 : Dev Cert.TotalIdeal.nD).tc : Thread Cert.TotalIdeal.nD Cert.TotalIdeal.τ).loc Cert.TotalIdeal.main_arg2))
      ∧ m ((c.tc : Thread Cert.ReduceIdeal.nD Cert.ReduceIdeal.τ).loc Cert.ReduceIdeal.main_arg3) = Layout.block ⟨2, ![8192, 2048]⟩ ⟨2, ![65536, 2048]⟩ 0 8 c (m' (((0 : Dev Cert.TotalIdeal.nD).tc : Thread Cert.TotalIdeal.nD Cert.TotalIdeal.τ).loc Cert.TotalIdeal.main_arg3))
      ∧ m ((c.tc : Thread Cert.ReduceIdeal.nD Cert.ReduceIdeal.τ).loc Cert.ReduceIdeal.main_arg4) = Layout.block ⟨2, ![104, 128]⟩ ⟨2, ![832, 128]⟩ 0 8 c (m' (((0 : Dev Cert.TotalIdeal.nD).tc : Thread Cert.TotalIdeal.nD Cert.TotalIdeal.τ).loc Cert.TotalIdeal.main_arg4))) →
    ∃ (v0 : Buf (Elt Ideal) (((0 : Dev Cert.TotalIdeal.nD).tc : Thread Cert.TotalIdeal.nD Cert.TotalIdeal.τ).loc Cert.TotalIdeal.main_v1)) (v1 : Buf (Elt Ideal) (((0 : Dev Cert.TotalIdeal.nD).tc : Thread Cert.TotalIdeal.nD Cert.TotalIdeal.τ).loc Cert.TotalIdeal.main_v3)) (v2 : Buf (Elt Ideal) (((0 : Dev Cert.TotalIdeal.nD).tc : Thread Cert.TotalIdeal.nD Cert.TotalIdeal.τ).loc Cert.TotalIdeal.main_v5)) (v3 : Buf (Elt Ideal) (((0 : Dev Cert.TotalIdeal.nD).tc : Thread Cert.TotalIdeal.nD Cert.TotalIdeal.τ).loc Cert.TotalIdeal.main_v7)),
      θ_run (Cert.ReduceIdeal.defs (F := Ideal)) (onTc (τ := Cert.ReduceIdeal.τ) (Cert.ReduceIdeal.main (F := Ideal))) ⟨m, fun _ => 0, g⟩ (fun r => ∀ c : Dev Cert.ReduceIdeal.nD,
          r.2.mem ((c.tc : Thread Cert.ReduceIdeal.nD Cert.ReduceIdeal.τ).loc Cert.ReduceIdeal.main_v1_0) = Layout.blockN ⟨2, ![1088, 2048]⟩ ⟨2, ![4352, 2048]⟩ (Layout.meshBlock [2, 2, 2] ![[0, 1], []] c) v0
          ∧ r.2.mem ((c.tc : Thread Cert.ReduceIdeal.nD Cert.ReduceIdeal.τ).loc Cert.ReduceIdeal.main_v1_1) = Layout.blockN ⟨2, ![512, 2048]⟩ ⟨2, ![2048, 2048]⟩ (Layout.meshBlock [2, 2, 2] ![[0, 1], []] c) v1
          ∧ r.2.mem ((c.tc : Thread Cert.ReduceIdeal.nD Cert.ReduceIdeal.τ).loc Cert.ReduceIdeal.main_v1_2) = Layout.blockN ⟨2, ![2048, 2048]⟩ ⟨2, ![8192, 2048]⟩ (Layout.meshBlock [2, 2, 2] ![[0, 1], []] c) v2
          ∧ r.2.mem ((c.tc : Thread Cert.ReduceIdeal.nD Cert.ReduceIdeal.τ).loc Cert.ReduceIdeal.main_v1_3) = Layout.blockN ⟨2, ![2048, 2048]⟩ ⟨2, ![8192, 2048]⟩ (Layout.meshBlock [2, 2, 2] ![[0, 1], []] c) v3
          ∧ r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
          ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
          ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2)
          ∧ r.2.mem ((c.tc : Thread Cert.ReduceIdeal.nD Cert.ReduceIdeal.τ).loc Cert.ReduceIdeal.main_arg3) = m ((c.tc : Thread Cert.ReduceIdeal.nD Cert.ReduceIdeal.τ).loc Cert.ReduceIdeal.main_arg3)
          ∧ r.2.mem ((c.tc : Thread Cert.ReduceIdeal.nD Cert.ReduceIdeal.τ).loc Cert.ReduceIdeal.main_arg4) = m ((c.tc : Thread Cert.ReduceIdeal.nD Cert.ReduceIdeal.τ).loc Cert.ReduceIdeal.main_arg4))
      ∧ θ_run (Cert.TotalIdeal.defs (F := Ideal)) (onTc (τ := Cert.TotalIdeal.τ) (Cert.TotalIdeal.main (F := Ideal))) ⟨m', fun _ => 0, g'⟩ (fun r =>
          r.2.mem (((0 : Dev Cert.TotalIdeal.nD).tc : Thread Cert.TotalIdeal.nD Cert.TotalIdeal.τ).loc Cert.TotalIdeal.main_v1) = v0
          ∧ r.2.mem (((0 : Dev Cert.TotalIdeal.nD).tc : Thread Cert.TotalIdeal.nD Cert.TotalIdeal.τ).loc Cert.TotalIdeal.main_v3) = v1
          ∧ r.2.mem (((0 : Dev Cert.TotalIdeal.nD).tc : Thread Cert.TotalIdeal.nD Cert.TotalIdeal.τ).loc Cert.TotalIdeal.main_v5) = v2
          ∧ r.2.mem (((0 : Dev Cert.TotalIdeal.nD).tc : Thread Cert.TotalIdeal.nD Cert.TotalIdeal.τ).loc Cert.TotalIdeal.main_v7) = v3
          ∧ r.2.mem (((0 : Dev Cert.TotalIdeal.nD).tc : Thread Cert.TotalIdeal.nD Cert.TotalIdeal.τ).loc Cert.TotalIdeal.main_arg0) = m' (((0 : Dev Cert.TotalIdeal.nD).tc : Thread Cert.TotalIdeal.nD Cert.TotalIdeal.τ).loc Cert.TotalIdeal.main_arg0)
          ∧ r.2.mem (((0 : Dev Cert.TotalIdeal.nD).tc : Thread Cert.TotalIdeal.nD Cert.TotalIdeal.τ).loc Cert.TotalIdeal.main_arg1) = m' (((0 : Dev Cert.TotalIdeal.nD).tc : Thread Cert.TotalIdeal.nD Cert.TotalIdeal.τ).loc Cert.TotalIdeal.main_arg1)
          ∧ r.2.mem (((0 : Dev Cert.TotalIdeal.nD).tc : Thread Cert.TotalIdeal.nD Cert.TotalIdeal.τ).loc Cert.TotalIdeal.main_arg2) = m' (((0 : Dev Cert.TotalIdeal.nD).tc : Thread Cert.TotalIdeal.nD Cert.TotalIdeal.τ).loc Cert.TotalIdeal.main_arg2)
          ∧ r.2.mem (((0 : Dev Cert.TotalIdeal.nD).tc : Thread Cert.TotalIdeal.nD Cert.TotalIdeal.τ).loc Cert.TotalIdeal.main_arg3) = m' (((0 : Dev Cert.TotalIdeal.nD).tc : Thread Cert.TotalIdeal.nD Cert.TotalIdeal.τ).loc Cert.TotalIdeal.main_arg3)
          ∧ r.2.mem (((0 : Dev Cert.TotalIdeal.nD).tc : Thread Cert.TotalIdeal.nD Cert.TotalIdeal.τ).loc Cert.TotalIdeal.main_arg4) = m' (((0 : Dev Cert.TotalIdeal.nD).tc : Thread Cert.TotalIdeal.nD Cert.TotalIdeal.τ).loc Cert.TotalIdeal.main_arg4))

def preserves_AdamIn_AdamInIdeal : Prop :=
  True

def algebraic_AdamInIdeal_StepInIdeal [hAdamInIdeal : Cert.AdamInIdeal.Facts] [hStepInIdeal : Cert.StepInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.StepInIdeal.nD Cert.StepInIdeal.τ Cert.StepInIdeal.sig) → Buf (Elt Ideal) ℓ) (g' : Dev Cert.StepInIdeal.nD → PrngReg), Pre_AdamInIdeal m →
    (∀ c : Dev Cert.AdamInIdeal.nD,
      m' ((c.tc : Thread Cert.StepInIdeal.nD Cert.StepInIdeal.τ).loc Cert.StepInIdeal.main_arg0) = m ((c.tc : Thread Cert.AdamInIdeal.nD Cert.AdamInIdeal.τ).loc Cert.AdamInIdeal.main_arg0)
      ∧ m' ((c.tc : Thread Cert.StepInIdeal.nD Cert.StepInIdeal.τ).loc Cert.StepInIdeal.main_arg1) = m ((c.tc : Thread Cert.AdamInIdeal.nD Cert.AdamInIdeal.τ).loc Cert.AdamInIdeal.main_arg1)
      ∧ m' ((c.tc : Thread Cert.StepInIdeal.nD Cert.StepInIdeal.τ).loc Cert.StepInIdeal.main_arg2) = m ((c.tc : Thread Cert.AdamInIdeal.nD Cert.AdamInIdeal.τ).loc Cert.AdamInIdeal.main_arg2)
      ∧ m' ((c.tc : Thread Cert.StepInIdeal.nD Cert.StepInIdeal.τ).loc Cert.StepInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.StepInIdeal.defs (F := Ideal)) (onTc (τ := Cert.StepInIdeal.τ) (Cert.StepInIdeal.main (F := Ideal))) ⟨m', fun _ => 0, g'⟩ (fun r => ∀ c : Dev Cert.StepInIdeal.nD,
          r.2.mem ((c.tc : Thread Cert.StepInIdeal.nD Cert.StepInIdeal.τ).loc Cert.StepInIdeal.main_v23) = v0 c
          ∧ r.2.mem ((c.tc : Thread Cert.StepInIdeal.nD Cert.StepInIdeal.τ).loc Cert.StepInIdeal.main_v4) = v1 c
          ∧ r.2.mem ((c.tc : Thread Cert.StepInIdeal.nD Cert.StepInIdeal.τ).loc Cert.StepInIdeal.main_v10) = v2 c
          ∧ r.2.mem ((c.tc : Thread Cert.StepInIdeal.nD Cert.StepInIdeal.τ).loc Cert.StepInIdeal.main_arg0) = m' ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m' ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m' ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m' ((c.tc : Thread Cert.StepInIdeal.nD Cert.StepInIdeal.τ).loc Cert.StepInIdeal.main_arg3))

def preserves_AdamOut_AdamOutIdeal : Prop :=
  True

def algebraic_AdamOutIdeal_StepOutIdeal [hAdamOutIdeal : Cert.AdamOutIdeal.Facts] [hStepOutIdeal : Cert.StepOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.StepOutIdeal.nD Cert.StepOutIdeal.τ Cert.StepOutIdeal.sig) → Buf (Elt Ideal) ℓ) (g' : Dev Cert.StepOutIdeal.nD → PrngReg), Pre_AdamOutIdeal m →
    (∀ c : Dev Cert.AdamOutIdeal.nD,
      m' ((c.tc : Thread Cert.StepOutIdeal.nD Cert.StepOutIdeal.τ).loc Cert.StepOutIdeal.main_arg0) = m ((c.tc : Thread Cert.AdamOutIdeal.nD Cert.AdamOutIdeal.τ).loc Cert.AdamOutIdeal.main_arg0)
      ∧ m' ((c.tc : Thread Cert.StepOutIdeal.nD Cert.StepOutIdeal.τ).loc Cert.StepOutIdeal.main_arg1) = m ((c.tc : Thread Cert.AdamOutIdeal.nD Cert.AdamOutIdeal.τ).loc Cert.AdamOutIdeal.main_arg1)
      ∧ m' ((c.tc : Thread Cert.StepOutIdeal.nD Cert.StepOutIdeal.τ).loc Cert.StepOutIdeal.main_arg2) = m ((c.tc : Thread Cert.AdamOutIdeal.nD Cert.AdamOutIdeal.τ).loc Cert.AdamOutIdeal.main_arg2)
      ∧ m' ((c.tc : Thread Cert.StepOutIdeal.nD Cert.StepOutIdeal.τ).loc Cert.StepOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.StepOutIdeal.defs (F := Ideal)) (onTc (τ := Cert.StepOutIdeal.τ) (Cert.StepOutIdeal.main (F := Ideal))) ⟨m', fun _ => 0, g'⟩ (fun r => ∀ c : Dev Cert.StepOutIdeal.nD,
          r.2.mem ((c.tc : Thread Cert.StepOutIdeal.nD Cert.StepOutIdeal.τ).loc Cert.StepOutIdeal.main_v23) = v0 c
          ∧ r.2.mem ((c.tc : Thread Cert.StepOutIdeal.nD Cert.StepOutIdeal.τ).loc Cert.StepOutIdeal.main_v4) = v1 c
          ∧ r.2.mem ((c.tc : Thread Cert.StepOutIdeal.nD Cert.StepOutIdeal.τ).loc Cert.StepOutIdeal.main_v10) = v2 c
          ∧ r.2.mem ((c.tc : Thread Cert.StepOutIdeal.nD Cert.StepOutIdeal.τ).loc Cert.StepOutIdeal.main_arg0) = m' ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m' ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m' ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m' ((c.tc : Thread Cert.StepOutIdeal.nD Cert.StepOutIdeal.τ).loc Cert.StepOutIdeal.main_arg3))

def preserves_AdamOne_AdamOneIdeal : Prop :=
  True

def algebraic_AdamOneIdeal_StepMlpIdeal [hAdamOneIdeal : Cert.AdamOneIdeal.Facts] [hStepMlpIdeal : Cert.StepMlpIdeal.Facts] : Prop :=
  ∀ (m : (ℓ : Loc Cert.AdamOneIdeal.nD Cert.AdamOneIdeal.τ Cert.AdamOneIdeal.sig) → Buf (Elt Ideal) ℓ) (g : Dev Cert.AdamOneIdeal.nD → PrngReg)
    (m' : (ℓ : Loc Cert.StepMlpIdeal.nD Cert.StepMlpIdeal.τ Cert.StepMlpIdeal.sig) → Buf (Elt Ideal) ℓ) (g' : Dev Cert.StepMlpIdeal.nD → PrngReg), Pre_AdamOneIdeal m →
    (∀ c : Dev Cert.AdamOneIdeal.nD,
      m' ((c.tc : Thread Cert.StepMlpIdeal.nD Cert.StepMlpIdeal.τ).loc Cert.StepMlpIdeal.main_arg0) = m ((c.tc : Thread Cert.AdamOneIdeal.nD Cert.AdamOneIdeal.τ).loc Cert.AdamOneIdeal.main_arg0)
      ∧ m' ((c.tc : Thread Cert.StepMlpIdeal.nD Cert.StepMlpIdeal.τ).loc Cert.StepMlpIdeal.main_arg1) = m ((c.tc : Thread Cert.AdamOneIdeal.nD Cert.AdamOneIdeal.τ).loc Cert.AdamOneIdeal.main_arg1)
      ∧ m' ((c.tc : Thread Cert.StepMlpIdeal.nD Cert.StepMlpIdeal.τ).loc Cert.StepMlpIdeal.main_arg2) = m ((c.tc : Thread Cert.AdamOneIdeal.nD Cert.AdamOneIdeal.τ).loc Cert.AdamOneIdeal.main_arg2)
      ∧ m' ((c.tc : Thread Cert.StepMlpIdeal.nD Cert.StepMlpIdeal.τ).loc Cert.StepMlpIdeal.main_arg3) = m ((c.tc : Thread Cert.AdamOneIdeal.nD Cert.AdamOneIdeal.τ).loc Cert.AdamOneIdeal.main_arg3)) →
    ∃ (v0 : (c : Dev Cert.AdamOneIdeal.nD) → Buf (Elt Ideal) ((c.tc : Thread Cert.AdamOneIdeal.nD Cert.AdamOneIdeal.τ).loc Cert.AdamOneIdeal.main_v0_0)) (v1 : (c : Dev Cert.AdamOneIdeal.nD) → Buf (Elt Ideal) ((c.tc : Thread Cert.AdamOneIdeal.nD Cert.AdamOneIdeal.τ).loc Cert.AdamOneIdeal.main_v0_1)) (v2 : (c : Dev Cert.AdamOneIdeal.nD) → Buf (Elt Ideal) ((c.tc : Thread Cert.AdamOneIdeal.nD Cert.AdamOneIdeal.τ).loc Cert.AdamOneIdeal.main_v0_2)),
      θ_run (Cert.AdamOneIdeal.defs (F := Ideal)) (onTc (τ := Cert.AdamOneIdeal.τ) (Cert.AdamOneIdeal.main (F := Ideal))) ⟨m, fun _ => 0, g⟩ (fun r => ∀ c : Dev Cert.AdamOneIdeal.nD,
          r.2.mem ((c.tc : Thread Cert.AdamOneIdeal.nD Cert.AdamOneIdeal.τ).loc Cert.AdamOneIdeal.main_v0_0) = v0 c
          ∧ r.2.mem ((c.tc : Thread Cert.AdamOneIdeal.nD Cert.AdamOneIdeal.τ).loc Cert.AdamOneIdeal.main_v0_1) = v1 c
          ∧ r.2.mem ((c.tc : Thread Cert.AdamOneIdeal.nD Cert.AdamOneIdeal.τ).loc Cert.AdamOneIdeal.main_v0_2) = v2 c
          ∧ r.2.mem ((c.tc : Thread Cert.AdamOneIdeal.nD Cert.AdamOneIdeal.τ).loc Cert.AdamOneIdeal.main_arg0) = m ((c.tc : Thread Cert.AdamOneIdeal.nD Cert.AdamOneIdeal.τ).loc Cert.AdamOneIdeal.main_arg0)
          ∧ r.2.mem ((c.tc : Thread Cert.AdamOneIdeal.nD Cert.AdamOneIdeal.τ).loc Cert.AdamOneIdeal.main_arg1) = m ((c.tc : Thread Cert.AdamOneIdeal.nD Cert.AdamOneIdeal.τ).loc Cert.AdamOneIdeal.main_arg1)
          ∧ r.2.mem ((c.tc : Thread Cert.AdamOneIdeal.nD Cert.AdamOneIdeal.τ).loc Cert.AdamOneIdeal.main_arg2) = m ((c.tc : Thread Cert.AdamOneIdeal.nD Cert.AdamOneIdeal.τ).loc Cert.AdamOneIdeal.main_arg2)
          ∧ r.2.mem ((c.tc : Thread Cert.AdamOneIdeal.nD Cert.AdamOneIdeal.τ).loc Cert.AdamOneIdeal.main_arg3) = m ((c.tc : Thread Cert.AdamOneIdeal.nD Cert.AdamOneIdeal.τ).loc Cert.AdamOneIdeal.main_arg3))
      ∧ θ_run (Cert.StepMlpIdeal.defs (F := Ideal)) (onTc (τ := Cert.StepMlpIdeal.τ) (Cert.StepMlpIdeal.main (F := Ideal))) ⟨m', fun _ => 0, g'⟩ (fun r => ∀ c : Dev Cert.StepMlpIdeal.nD,
          r.2.mem ((c.tc : Thread Cert.StepMlpIdeal.nD Cert.StepMlpIdeal.τ).loc Cert.StepMlpIdeal.main_v23) = v0 c
          ∧ r.2.mem ((c.tc : Thread Cert.StepMlpIdeal.nD Cert.StepMlpIdeal.τ).loc Cert.StepMlpIdeal.main_v4) = v1 c
          ∧ r.2.mem ((c.tc : Thread Cert.StepMlpIdeal.nD Cert.StepMlpIdeal.τ).loc Cert.StepMlpIdeal.main_v10) = v2 c
          ∧ r.2.mem ((c.tc : Thread Cert.StepMlpIdeal.nD Cert.StepMlpIdeal.τ).loc Cert.StepMlpIdeal.main_arg0) = m' ((c.tc : Thread Cert.StepMlpIdeal.nD Cert.StepMlpIdeal.τ).loc Cert.StepMlpIdeal.main_arg0)
          ∧ r.2.mem ((c.tc : Thread Cert.StepMlpIdeal.nD Cert.StepMlpIdeal.τ).loc Cert.StepMlpIdeal.main_arg1) = m' ((c.tc : Thread Cert.StepMlpIdeal.nD Cert.StepMlpIdeal.τ).loc Cert.StepMlpIdeal.main_arg1)
          ∧ r.2.mem ((c.tc : Thread Cert.StepMlpIdeal.nD Cert.StepMlpIdeal.τ).loc Cert.StepMlpIdeal.main_arg2) = m' ((c.tc : Thread Cert.StepMlpIdeal.nD Cert.StepMlpIdeal.τ).loc Cert.StepMlpIdeal.main_arg2)
          ∧ r.2.mem ((c.tc : Thread Cert.StepMlpIdeal.nD Cert.StepMlpIdeal.τ).loc Cert.StepMlpIdeal.main_arg3) = m' ((c.tc : Thread Cert.StepMlpIdeal.nD Cert.StepMlpIdeal.τ).loc Cert.StepMlpIdeal.main_arg3))

def preserves_AdamTwo_AdamTwoIdeal : Prop :=
  True

def algebraic_AdamTwoIdeal_StepMlpIdeal [hAdamTwoIdeal : Cert.AdamTwoIdeal.Facts] [hStepMlpIdeal : Cert.StepMlpIdeal.Facts] : Prop :=
  ∀ (m : (ℓ : Loc Cert.AdamTwoIdeal.nD Cert.AdamTwoIdeal.τ Cert.AdamTwoIdeal.sig) → Buf (Elt Ideal) ℓ) (g : Dev Cert.AdamTwoIdeal.nD → PrngReg)
    (m' : (ℓ : Loc Cert.StepMlpIdeal.nD Cert.StepMlpIdeal.τ Cert.StepMlpIdeal.sig) → Buf (Elt Ideal) ℓ) (g' : Dev Cert.StepMlpIdeal.nD → PrngReg), Pre_AdamTwoIdeal m →
    (∀ c : Dev Cert.AdamTwoIdeal.nD,
      m' ((c.tc : Thread Cert.StepMlpIdeal.nD Cert.StepMlpIdeal.τ).loc Cert.StepMlpIdeal.main_arg0) = m ((c.tc : Thread Cert.AdamTwoIdeal.nD Cert.AdamTwoIdeal.τ).loc Cert.AdamTwoIdeal.main_arg0)
      ∧ m' ((c.tc : Thread Cert.StepMlpIdeal.nD Cert.StepMlpIdeal.τ).loc Cert.StepMlpIdeal.main_arg1) = m ((c.tc : Thread Cert.AdamTwoIdeal.nD Cert.AdamTwoIdeal.τ).loc Cert.AdamTwoIdeal.main_arg1)
      ∧ m' ((c.tc : Thread Cert.StepMlpIdeal.nD Cert.StepMlpIdeal.τ).loc Cert.StepMlpIdeal.main_arg2) = m ((c.tc : Thread Cert.AdamTwoIdeal.nD Cert.AdamTwoIdeal.τ).loc Cert.AdamTwoIdeal.main_arg2)
      ∧ m' ((c.tc : Thread Cert.StepMlpIdeal.nD Cert.StepMlpIdeal.τ).loc Cert.StepMlpIdeal.main_arg3) = m ((c.tc : Thread Cert.AdamTwoIdeal.nD Cert.AdamTwoIdeal.τ).loc Cert.AdamTwoIdeal.main_arg3)) →
    ∃ (v0 : (c : Dev Cert.AdamTwoIdeal.nD) → Buf (Elt Ideal) ((c.tc : Thread Cert.AdamTwoIdeal.nD Cert.AdamTwoIdeal.τ).loc Cert.AdamTwoIdeal.main_v0_0)) (v1 : (c : Dev Cert.AdamTwoIdeal.nD) → Buf (Elt Ideal) ((c.tc : Thread Cert.AdamTwoIdeal.nD Cert.AdamTwoIdeal.τ).loc Cert.AdamTwoIdeal.main_v0_1)) (v2 : (c : Dev Cert.AdamTwoIdeal.nD) → Buf (Elt Ideal) ((c.tc : Thread Cert.AdamTwoIdeal.nD Cert.AdamTwoIdeal.τ).loc Cert.AdamTwoIdeal.main_v0_2)),
      θ_run (Cert.AdamTwoIdeal.defs (F := Ideal)) (onTc (τ := Cert.AdamTwoIdeal.τ) (Cert.AdamTwoIdeal.main (F := Ideal))) ⟨m, fun _ => 0, g⟩ (fun r => ∀ c : Dev Cert.AdamTwoIdeal.nD,
          r.2.mem ((c.tc : Thread Cert.AdamTwoIdeal.nD Cert.AdamTwoIdeal.τ).loc Cert.AdamTwoIdeal.main_v0_0) = v0 c
          ∧ r.2.mem ((c.tc : Thread Cert.AdamTwoIdeal.nD Cert.AdamTwoIdeal.τ).loc Cert.AdamTwoIdeal.main_v0_1) = v1 c
          ∧ r.2.mem ((c.tc : Thread Cert.AdamTwoIdeal.nD Cert.AdamTwoIdeal.τ).loc Cert.AdamTwoIdeal.main_v0_2) = v2 c
          ∧ r.2.mem ((c.tc : Thread Cert.AdamTwoIdeal.nD Cert.AdamTwoIdeal.τ).loc Cert.AdamTwoIdeal.main_arg0) = m ((c.tc : Thread Cert.AdamTwoIdeal.nD Cert.AdamTwoIdeal.τ).loc Cert.AdamTwoIdeal.main_arg0)
          ∧ r.2.mem ((c.tc : Thread Cert.AdamTwoIdeal.nD Cert.AdamTwoIdeal.τ).loc Cert.AdamTwoIdeal.main_arg1) = m ((c.tc : Thread Cert.AdamTwoIdeal.nD Cert.AdamTwoIdeal.τ).loc Cert.AdamTwoIdeal.main_arg1)
          ∧ r.2.mem ((c.tc : Thread Cert.AdamTwoIdeal.nD Cert.AdamTwoIdeal.τ).loc Cert.AdamTwoIdeal.main_arg2) = m ((c.tc : Thread Cert.AdamTwoIdeal.nD Cert.AdamTwoIdeal.τ).loc Cert.AdamTwoIdeal.main_arg2)
          ∧ r.2.mem ((c.tc : Thread Cert.AdamTwoIdeal.nD Cert.AdamTwoIdeal.τ).loc Cert.AdamTwoIdeal.main_arg3) = m ((c.tc : Thread Cert.AdamTwoIdeal.nD Cert.AdamTwoIdeal.τ).loc Cert.AdamTwoIdeal.main_arg3))
      ∧ θ_run (Cert.StepMlpIdeal.defs (F := Ideal)) (onTc (τ := Cert.StepMlpIdeal.τ) (Cert.StepMlpIdeal.main (F := Ideal))) ⟨m', fun _ => 0, g'⟩ (fun r => ∀ c : Dev Cert.StepMlpIdeal.nD,
          r.2.mem ((c.tc : Thread Cert.StepMlpIdeal.nD Cert.StepMlpIdeal.τ).loc Cert.StepMlpIdeal.main_v23) = v0 c
          ∧ r.2.mem ((c.tc : Thread Cert.StepMlpIdeal.nD Cert.StepMlpIdeal.τ).loc Cert.StepMlpIdeal.main_v4) = v1 c
          ∧ r.2.mem ((c.tc : Thread Cert.StepMlpIdeal.nD Cert.StepMlpIdeal.τ).loc Cert.StepMlpIdeal.main_v10) = v2 c
          ∧ r.2.mem ((c.tc : Thread Cert.StepMlpIdeal.nD Cert.StepMlpIdeal.τ).loc Cert.StepMlpIdeal.main_arg0) = m' ((c.tc : Thread Cert.StepMlpIdeal.nD Cert.StepMlpIdeal.τ).loc Cert.StepMlpIdeal.main_arg0)
          ∧ r.2.mem ((c.tc : Thread Cert.StepMlpIdeal.nD Cert.StepMlpIdeal.τ).loc Cert.StepMlpIdeal.main_arg1) = m' ((c.tc : Thread Cert.StepMlpIdeal.nD Cert.StepMlpIdeal.τ).loc Cert.StepMlpIdeal.main_arg1)
          ∧ r.2.mem ((c.tc : Thread Cert.StepMlpIdeal.nD Cert.StepMlpIdeal.τ).loc Cert.StepMlpIdeal.main_arg2) = m' ((c.tc : Thread Cert.StepMlpIdeal.nD Cert.StepMlpIdeal.τ).loc Cert.StepMlpIdeal.main_arg2)
          ∧ r.2.mem ((c.tc : Thread Cert.StepMlpIdeal.nD Cert.StepMlpIdeal.τ).loc Cert.StepMlpIdeal.main_arg3) = m' ((c.tc : Thread Cert.StepMlpIdeal.nD Cert.StepMlpIdeal.τ).loc Cert.StepMlpIdeal.main_arg3))

def preserves_AdamSmall_AdamSmallIdeal : Prop :=
  True

def algebraic_AdamSmallIdeal_StepSmallIdeal [hAdamSmallIdeal : Cert.AdamSmallIdeal.Facts] [hStepSmallIdeal : Cert.StepSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.StepSmallIdeal.nD Cert.StepSmallIdeal.τ Cert.StepSmallIdeal.sig) → Buf (Elt Ideal) ℓ) (g' : Dev Cert.StepSmallIdeal.nD → PrngReg), Pre_AdamSmallIdeal m →
    (∀ c : Dev Cert.AdamSmallIdeal.nD,
      m' ((c.tc : Thread Cert.StepSmallIdeal.nD Cert.StepSmallIdeal.τ).loc Cert.StepSmallIdeal.main_arg0) = m ((c.tc : Thread Cert.AdamSmallIdeal.nD Cert.AdamSmallIdeal.τ).loc Cert.AdamSmallIdeal.main_arg0)
      ∧ m' ((c.tc : Thread Cert.StepSmallIdeal.nD Cert.StepSmallIdeal.τ).loc Cert.StepSmallIdeal.main_arg1) = m ((c.tc : Thread Cert.AdamSmallIdeal.nD Cert.AdamSmallIdeal.τ).loc Cert.AdamSmallIdeal.main_arg1)
      ∧ m' ((c.tc : Thread Cert.StepSmallIdeal.nD Cert.StepSmallIdeal.τ).loc Cert.StepSmallIdeal.main_arg2) = m ((c.tc : Thread Cert.AdamSmallIdeal.nD Cert.AdamSmallIdeal.τ).loc Cert.AdamSmallIdeal.main_arg2)
      ∧ m' ((c.tc : Thread Cert.StepSmallIdeal.nD Cert.StepSmallIdeal.τ).loc Cert.StepSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.StepSmallIdeal.defs (F := Ideal)) (onTc (τ := Cert.StepSmallIdeal.τ) (Cert.StepSmallIdeal.main (F := Ideal))) ⟨m', fun _ => 0, g'⟩ (fun r => ∀ c : Dev Cert.StepSmallIdeal.nD,
          r.2.mem ((c.tc : Thread Cert.StepSmallIdeal.nD Cert.StepSmallIdeal.τ).loc Cert.StepSmallIdeal.main_v23) = v0 c
          ∧ r.2.mem ((c.tc : Thread Cert.StepSmallIdeal.nD Cert.StepSmallIdeal.τ).loc Cert.StepSmallIdeal.main_v4) = v1 c
          ∧ r.2.mem ((c.tc : Thread Cert.StepSmallIdeal.nD Cert.StepSmallIdeal.τ).loc Cert.StepSmallIdeal.main_v10) = v2 c
          ∧ r.2.mem ((c.tc : Thread Cert.StepSmallIdeal.nD Cert.StepSmallIdeal.τ).loc Cert.StepSmallIdeal.main_arg0) = m' ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m' ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m' ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m' ((c.tc : Thread Cert.StepSmallIdeal.nD Cert.StepSmallIdeal.τ).loc Cert.StepSmallIdeal.main_arg3))

def preserves_NormMlp_NormMlpIdeal : Prop :=
  True

def algebraic_NormMlpIdeal_NormGradIdeal [hNormMlpIdeal : Cert.NormMlpIdeal.Facts] [hNormGradIdeal : Cert.NormGradIdeal.Facts] : Prop :=
  ∀ (m : (ℓ : Loc Cert.NormMlpIdeal.nD Cert.NormMlpIdeal.τ Cert.NormMlpIdeal.sig) → Buf (Elt Ideal) ℓ) (g : Dev Cert.NormMlpIdeal.nD → PrngReg)
    (m' : (ℓ : Loc Cert.NormGradIdeal.nD Cert.NormGradIdeal.τ Cert.NormGradIdeal.sig) → Buf (Elt Ideal) ℓ) (g' : Dev Cert.NormGradIdeal.nD → PrngReg), Pre_NormMlpIdeal m →
    (∀ c : Dev Cert.NormMlpIdeal.nD,
      m' ((c.tc : Thread Cert.NormGradIdeal.nD Cert.NormGradIdeal.τ).loc Cert.NormGradIdeal.main_arg0) = m ((c.tc : Thread Cert.NormMlpIdeal.nD Cert.NormMlpIdeal.τ).loc Cert.NormMlpIdeal.main_arg0)
      ∧ m' ((c.tc : Thread Cert.NormGradIdeal.nD Cert.NormGradIdeal.τ).loc Cert.NormGradIdeal.main_arg1) = m ((c.tc : Thread Cert.NormMlpIdeal.nD Cert.NormMlpIdeal.τ).loc Cert.NormMlpIdeal.main_arg1)
      ∧ m' ((c.tc : Thread Cert.NormGradIdeal.nD Cert.NormGradIdeal.τ).loc Cert.NormGradIdeal.main_arg2) = m ((c.tc : Thread Cert.NormMlpIdeal.nD Cert.NormMlpIdeal.τ).loc Cert.NormMlpIdeal.main_arg2)
      ∧ m' ((c.tc : Thread Cert.NormGradIdeal.nD Cert.NormGradIdeal.τ).loc Cert.NormGradIdeal.main_arg3) = m ((c.tc : Thread Cert.NormMlpIdeal.nD Cert.NormMlpIdeal.τ).loc Cert.NormMlpIdeal.main_arg3)
      ∧ m' ((c.tc : Thread Cert.NormGradIdeal.nD Cert.NormGradIdeal.τ).loc Cert.NormGradIdeal.main_arg4) = m ((c.tc : Thread Cert.NormMlpIdeal.nD Cert.NormMlpIdeal.τ).loc Cert.NormMlpIdeal.main_arg4)) →
    ∃ (v0 : (c : Dev Cert.NormMlpIdeal.nD) → Buf (Elt Ideal) ((c.tc : Thread Cert.NormMlpIdeal.nD Cert.NormMlpIdeal.τ).loc Cert.NormMlpIdeal.main_v0_0)) (v1 : (c : Dev Cert.NormMlpIdeal.nD) → Buf (Elt Ideal) ((c.tc : Thread Cert.NormMlpIdeal.nD Cert.NormMlpIdeal.τ).loc Cert.NormMlpIdeal.main_v0_1)) (v2 : (c : Dev Cert.NormMlpIdeal.nD) → Buf (Elt Ideal) ((c.tc : Thread Cert.NormMlpIdeal.nD Cert.NormMlpIdeal.τ).loc Cert.NormMlpIdeal.main_v0_2)),
      θ_run (Cert.NormMlpIdeal.defs (F := Ideal)) (onTc (τ := Cert.NormMlpIdeal.τ) (Cert.NormMlpIdeal.main (F := Ideal))) ⟨m, fun _ => 0, g⟩ (fun r => ∀ c : Dev Cert.NormMlpIdeal.nD,
          r.2.mem ((c.tc : Thread Cert.NormMlpIdeal.nD Cert.NormMlpIdeal.τ).loc Cert.NormMlpIdeal.main_v0_0) = v0 c
          ∧ r.2.mem ((c.tc : Thread Cert.NormMlpIdeal.nD Cert.NormMlpIdeal.τ).loc Cert.NormMlpIdeal.main_v0_1) = v1 c
          ∧ r.2.mem ((c.tc : Thread Cert.NormMlpIdeal.nD Cert.NormMlpIdeal.τ).loc Cert.NormMlpIdeal.main_v0_2) = v2 c
          ∧ r.2.mem ((c.tc : Thread Cert.NormMlpIdeal.nD Cert.NormMlpIdeal.τ).loc Cert.NormMlpIdeal.main_arg0) = m ((c.tc : Thread Cert.NormMlpIdeal.nD Cert.NormMlpIdeal.τ).loc Cert.NormMlpIdeal.main_arg0)
          ∧ r.2.mem ((c.tc : Thread Cert.NormMlpIdeal.nD Cert.NormMlpIdeal.τ).loc Cert.NormMlpIdeal.main_arg1) = m ((c.tc : Thread Cert.NormMlpIdeal.nD Cert.NormMlpIdeal.τ).loc Cert.NormMlpIdeal.main_arg1)
          ∧ r.2.mem ((c.tc : Thread Cert.NormMlpIdeal.nD Cert.NormMlpIdeal.τ).loc Cert.NormMlpIdeal.main_arg2) = m ((c.tc : Thread Cert.NormMlpIdeal.nD Cert.NormMlpIdeal.τ).loc Cert.NormMlpIdeal.main_arg2)
          ∧ r.2.mem ((c.tc : Thread Cert.NormMlpIdeal.nD Cert.NormMlpIdeal.τ).loc Cert.NormMlpIdeal.main_arg3) = m ((c.tc : Thread Cert.NormMlpIdeal.nD Cert.NormMlpIdeal.τ).loc Cert.NormMlpIdeal.main_arg3)
          ∧ r.2.mem ((c.tc : Thread Cert.NormMlpIdeal.nD Cert.NormMlpIdeal.τ).loc Cert.NormMlpIdeal.main_arg4) = m ((c.tc : Thread Cert.NormMlpIdeal.nD Cert.NormMlpIdeal.τ).loc Cert.NormMlpIdeal.main_arg4))
      ∧ θ_run (Cert.NormGradIdeal.defs (F := Ideal)) (onTc (τ := Cert.NormGradIdeal.τ) (Cert.NormGradIdeal.main (F := Ideal))) ⟨m', fun _ => 0, g'⟩ (fun r => ∀ c : Dev Cert.NormGradIdeal.nD,
          r.2.mem ((c.tc : Thread Cert.NormGradIdeal.nD Cert.NormGradIdeal.τ).loc Cert.NormGradIdeal.main_v14) = v0 c
          ∧ r.2.mem ((c.tc : Thread Cert.NormGradIdeal.nD Cert.NormGradIdeal.τ).loc Cert.NormGradIdeal.main_v15) = v1 c
          ∧ r.2.mem ((c.tc : Thread Cert.NormGradIdeal.nD Cert.NormGradIdeal.τ).loc Cert.NormGradIdeal.main_v18) = v2 c
          ∧ r.2.mem ((c.tc : Thread Cert.NormGradIdeal.nD Cert.NormGradIdeal.τ).loc Cert.NormGradIdeal.main_arg0) = m' ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m' ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m' ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m' ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m' ((c.tc : Thread Cert.NormGradIdeal.nD Cert.NormGradIdeal.τ).loc Cert.NormGradIdeal.main_arg4))

def preserves_NormAttn_NormAttnIdeal : Prop :=
  True

def algebraic_NormAttnIdeal_NormGradIdeal [hNormAttnIdeal : Cert.NormAttnIdeal.Facts] [hNormGradIdeal : Cert.NormGradIdeal.Facts] : Prop :=
  ∀ (m : (ℓ : Loc Cert.NormAttnIdeal.nD Cert.NormAttnIdeal.τ Cert.NormAttnIdeal.sig) → Buf (Elt Ideal) ℓ) (g : Dev Cert.NormAttnIdeal.nD → PrngReg)
    (m' : (ℓ : Loc Cert.NormGradIdeal.nD Cert.NormGradIdeal.τ Cert.NormGradIdeal.sig) → Buf (Elt Ideal) ℓ) (g' : Dev Cert.NormGradIdeal.nD → PrngReg), Pre_NormAttnIdeal m →
    (∀ c : Dev Cert.NormAttnIdeal.nD,
      m' ((c.tc : Thread Cert.NormGradIdeal.nD Cert.NormGradIdeal.τ).loc Cert.NormGradIdeal.main_arg0) = m ((c.tc : Thread Cert.NormAttnIdeal.nD Cert.NormAttnIdeal.τ).loc Cert.NormAttnIdeal.main_arg0)
      ∧ m' ((c.tc : Thread Cert.NormGradIdeal.nD Cert.NormGradIdeal.τ).loc Cert.NormGradIdeal.main_arg1) = m ((c.tc : Thread Cert.NormAttnIdeal.nD Cert.NormAttnIdeal.τ).loc Cert.NormAttnIdeal.main_arg1)
      ∧ m' ((c.tc : Thread Cert.NormGradIdeal.nD Cert.NormGradIdeal.τ).loc Cert.NormGradIdeal.main_arg2) = m ((c.tc : Thread Cert.NormAttnIdeal.nD Cert.NormAttnIdeal.τ).loc Cert.NormAttnIdeal.main_arg2)
      ∧ m' ((c.tc : Thread Cert.NormGradIdeal.nD Cert.NormGradIdeal.τ).loc Cert.NormGradIdeal.main_arg3) = m ((c.tc : Thread Cert.NormAttnIdeal.nD Cert.NormAttnIdeal.τ).loc Cert.NormAttnIdeal.main_arg3)
      ∧ m' ((c.tc : Thread Cert.NormGradIdeal.nD Cert.NormGradIdeal.τ).loc Cert.NormGradIdeal.main_arg4) = m ((c.tc : Thread Cert.NormAttnIdeal.nD Cert.NormAttnIdeal.τ).loc Cert.NormAttnIdeal.main_arg4)) →
    ∃ (v0 : (c : Dev Cert.NormAttnIdeal.nD) → Buf (Elt Ideal) ((c.tc : Thread Cert.NormAttnIdeal.nD Cert.NormAttnIdeal.τ).loc Cert.NormAttnIdeal.main_v0_0)) (v1 : (c : Dev Cert.NormAttnIdeal.nD) → Buf (Elt Ideal) ((c.tc : Thread Cert.NormAttnIdeal.nD Cert.NormAttnIdeal.τ).loc Cert.NormAttnIdeal.main_v0_1)) (v2 : (c : Dev Cert.NormAttnIdeal.nD) → Buf (Elt Ideal) ((c.tc : Thread Cert.NormAttnIdeal.nD Cert.NormAttnIdeal.τ).loc Cert.NormAttnIdeal.main_v0_2)),
      θ_run (Cert.NormAttnIdeal.defs (F := Ideal)) (onTc (τ := Cert.NormAttnIdeal.τ) (Cert.NormAttnIdeal.main (F := Ideal))) ⟨m, fun _ => 0, g⟩ (fun r => ∀ c : Dev Cert.NormAttnIdeal.nD,
          r.2.mem ((c.tc : Thread Cert.NormAttnIdeal.nD Cert.NormAttnIdeal.τ).loc Cert.NormAttnIdeal.main_v0_0) = v0 c
          ∧ r.2.mem ((c.tc : Thread Cert.NormAttnIdeal.nD Cert.NormAttnIdeal.τ).loc Cert.NormAttnIdeal.main_v0_1) = v1 c
          ∧ r.2.mem ((c.tc : Thread Cert.NormAttnIdeal.nD Cert.NormAttnIdeal.τ).loc Cert.NormAttnIdeal.main_v0_2) = v2 c
          ∧ r.2.mem ((c.tc : Thread Cert.NormAttnIdeal.nD Cert.NormAttnIdeal.τ).loc Cert.NormAttnIdeal.main_arg0) = m ((c.tc : Thread Cert.NormAttnIdeal.nD Cert.NormAttnIdeal.τ).loc Cert.NormAttnIdeal.main_arg0)
          ∧ r.2.mem ((c.tc : Thread Cert.NormAttnIdeal.nD Cert.NormAttnIdeal.τ).loc Cert.NormAttnIdeal.main_arg1) = m ((c.tc : Thread Cert.NormAttnIdeal.nD Cert.NormAttnIdeal.τ).loc Cert.NormAttnIdeal.main_arg1)
          ∧ r.2.mem ((c.tc : Thread Cert.NormAttnIdeal.nD Cert.NormAttnIdeal.τ).loc Cert.NormAttnIdeal.main_arg2) = m ((c.tc : Thread Cert.NormAttnIdeal.nD Cert.NormAttnIdeal.τ).loc Cert.NormAttnIdeal.main_arg2)
          ∧ r.2.mem ((c.tc : Thread Cert.NormAttnIdeal.nD Cert.NormAttnIdeal.τ).loc Cert.NormAttnIdeal.main_arg3) = m ((c.tc : Thread Cert.NormAttnIdeal.nD Cert.NormAttnIdeal.τ).loc Cert.NormAttnIdeal.main_arg3)
          ∧ r.2.mem ((c.tc : Thread Cert.NormAttnIdeal.nD Cert.NormAttnIdeal.τ).loc Cert.NormAttnIdeal.main_arg4) = m ((c.tc : Thread Cert.NormAttnIdeal.nD Cert.NormAttnIdeal.τ).loc Cert.NormAttnIdeal.main_arg4))
      ∧ θ_run (Cert.NormGradIdeal.defs (F := Ideal)) (onTc (τ := Cert.NormGradIdeal.τ) (Cert.NormGradIdeal.main (F := Ideal))) ⟨m', fun _ => 0, g'⟩ (fun r => ∀ c : Dev Cert.NormGradIdeal.nD,
          r.2.mem ((c.tc : Thread Cert.NormGradIdeal.nD Cert.NormGradIdeal.τ).loc Cert.NormGradIdeal.main_v14) = v0 c
          ∧ r.2.mem ((c.tc : Thread Cert.NormGradIdeal.nD Cert.NormGradIdeal.τ).loc Cert.NormGradIdeal.main_v15) = v1 c
          ∧ r.2.mem ((c.tc : Thread Cert.NormGradIdeal.nD Cert.NormGradIdeal.τ).loc Cert.NormGradIdeal.main_v18) = v2 c
          ∧ r.2.mem ((c.tc : Thread Cert.NormGradIdeal.nD Cert.NormGradIdeal.τ).loc Cert.NormGradIdeal.main_arg0) = m' ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m' ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m' ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m' ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m' ((c.tc : Thread Cert.NormGradIdeal.nD Cert.NormGradIdeal.τ).loc Cert.NormGradIdeal.main_arg4))

def preserves_LossHead_LossHeadIdeal : Prop :=
  True

def algebraic_LossHeadIdeal_LossGradIdeal [hLossHeadIdeal : Cert.LossHeadIdeal.Facts] [hLossGradIdeal : Cert.LossGradIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossGradIdeal.nD Cert.LossGradIdeal.τ Cert.LossGradIdeal.sig) → Buf (Elt Ideal) ℓ) (g' : Dev Cert.LossGradIdeal.nD → PrngReg), Pre_LossHeadIdeal m →
    (∀ c : Dev Cert.LossHeadIdeal.nD,
      m' ((c.tc : Thread Cert.LossGradIdeal.nD Cert.LossGradIdeal.τ).loc Cert.LossGradIdeal.main_arg0) = m ((c.tc : Thread Cert.LossHeadIdeal.nD Cert.LossHeadIdeal.τ).loc Cert.LossHeadIdeal.main_arg0)
      ∧ m' ((c.tc : Thread Cert.LossGradIdeal.nD Cert.LossGradIdeal.τ).loc Cert.LossGradIdeal.main_arg1) = m ((c.tc : Thread Cert.LossHeadIdeal.nD Cert.LossHeadIdeal.τ).loc Cert.LossHeadIdeal.main_arg1)
      ∧ m' ((c.tc : Thread Cert.LossGradIdeal.nD Cert.LossGradIdeal.τ).loc Cert.LossGradIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossGradIdeal.defs (F := Ideal)) (onTc (τ := Cert.LossGradIdeal.τ) (Cert.LossGradIdeal.main (F := Ideal))) ⟨m', fun _ => 0, g'⟩ (fun r => ∀ c : Dev Cert.LossGradIdeal.nD,
          r.2.mem ((c.tc : Thread Cert.LossGradIdeal.nD Cert.LossGradIdeal.τ).loc Cert.LossGradIdeal.main_v56) = v0 c
          ∧ r.2.mem ((c.tc : Thread Cert.LossGradIdeal.nD Cert.LossGradIdeal.τ).loc Cert.LossGradIdeal.main_v57) = v1 c
          ∧ r.2.mem ((c.tc : Thread Cert.LossGradIdeal.nD Cert.LossGradIdeal.τ).loc Cert.LossGradIdeal.main_v58) = v2 c
          ∧ r.2.mem ((c.tc : Thread Cert.LossGradIdeal.nD Cert.LossGradIdeal.τ).loc Cert.LossGradIdeal.main_v29) = v3 c
          ∧ r.2.mem ((c.tc : Thread Cert.LossGradIdeal.nD Cert.LossGradIdeal.τ).loc Cert.LossGradIdeal.main_arg0) = m' ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m' ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m' ((c.tc : Thread Cert.LossGradIdeal.nD Cert.LossGradIdeal.τ).loc Cert.LossGradIdeal.main_arg2))

def preserves_MixBwd_MixBwdIdeal : Prop :=
  True

def algebraic_MixBwdIdeal_MixGradIdeal [hMixBwdIdeal : Cert.MixBwdIdeal.Facts] [hMixGradIdeal : Cert.MixGradIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixGradIdeal.nD Cert.MixGradIdeal.τ Cert.MixGradIdeal.sig) → Buf (Elt Ideal) ℓ) (g' : Dev Cert.MixGradIdeal.nD → PrngReg), Pre_MixBwdIdeal m →
    (∀ c : Dev Cert.MixBwdIdeal.nD,
      m' ((c.tc : Thread Cert.MixGradIdeal.nD Cert.MixGradIdeal.τ).loc Cert.MixGradIdeal.main_arg0) = m ((c.tc : Thread Cert.MixBwdIdeal.nD Cert.MixBwdIdeal.τ).loc Cert.MixBwdIdeal.main_arg0)
      ∧ m' ((c.tc : Thread Cert.MixGradIdeal.nD Cert.MixGradIdeal.τ).loc Cert.MixGradIdeal.main_arg1) = m ((c.tc : Thread Cert.MixBwdIdeal.nD Cert.MixBwdIdeal.τ).loc Cert.MixBwdIdeal.main_arg1)
      ∧ m' ((c.tc : Thread Cert.MixGradIdeal.nD Cert.MixGradIdeal.τ).loc Cert.MixGradIdeal.main_arg2) = m ((c.tc : Thread Cert.MixBwdIdeal.nD Cert.MixBwdIdeal.τ).loc Cert.MixBwdIdeal.main_arg2)
      ∧ m' ((c.tc : Thread Cert.MixGradIdeal.nD Cert.MixGradIdeal.τ).loc Cert.MixGradIdeal.main_arg3) = m ((c.tc : Thread Cert.MixBwdIdeal.nD Cert.MixBwdIdeal.τ).loc Cert.MixBwdIdeal.main_arg3)
      ∧ m' ((c.tc : Thread Cert.MixGradIdeal.nD Cert.MixGradIdeal.τ).loc Cert.MixGradIdeal.main_arg4) = m ((c.tc : Thread Cert.MixBwdIdeal.nD Cert.MixBwdIdeal.τ).loc Cert.MixBwdIdeal.main_arg4)
      ∧ m' ((c.tc : Thread Cert.MixGradIdeal.nD Cert.MixGradIdeal.τ).loc Cert.MixGradIdeal.main_arg5) = m ((c.tc : Thread Cert.MixBwdIdeal.nD Cert.MixBwdIdeal.τ).loc Cert.MixBwdIdeal.main_arg5)
      ∧ m' ((c.tc : Thread Cert.MixGradIdeal.nD Cert.MixGradIdeal.τ).loc Cert.MixGradIdeal.main_arg6) = m ((c.tc : Thread Cert.MixBwdIdeal.nD Cert.MixBwdIdeal.τ).loc Cert.MixBwdIdeal.main_arg6)) →
    ∃ (v0 : (c : Dev Cert.MixBwdIdeal.nD) → Buf (Elt Ideal) ((c.tc : Thread Cert.MixBwdIdeal.nD Cert.MixBwdIdeal.τ).loc Cert.MixBwdIdeal.main_v0_0)) (v1 : (c : Dev Cert.MixBwdIdeal.nD) → Buf (Elt Ideal) ((c.tc : Thread Cert.MixBwdIdeal.nD Cert.MixBwdIdeal.τ).loc Cert.MixBwdIdeal.main_v0_1)) (v2 : (c : Dev Cert.MixBwdIdeal.nD) → Buf (Elt Ideal) ((c.tc : Thread Cert.MixBwdIdeal.nD Cert.MixBwdIdeal.τ).loc Cert.MixBwdIdeal.main_v0_4)) (v3 : (c : Dev Cert.MixBwdIdeal.nD) → Buf (Elt Ideal) ((c.tc : Thread Cert.MixBwdIdeal.nD Cert.MixBwdIdeal.τ).loc Cert.MixBwdIdeal.main_v0_5)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0_0) = v0 c
          ∧ r.2.mem ((c.tc : Thread Cert.MixBwdIdeal.nD Cert.MixBwdIdeal.τ).loc Cert.MixBwdIdeal.main_v0_1) = v1 c
          ∧ r.2.mem ((c.tc : Thread Cert.MixBwdIdeal.nD Cert.MixBwdIdeal.τ).loc Cert.MixBwdIdeal.main_v0_4) = v2 c
          ∧ r.2.mem ((c.tc : Thread Cert.MixBwdIdeal.nD Cert.MixBwdIdeal.τ).loc Cert.MixBwdIdeal.main_v0_5) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ θ_run (Cert.MixGradIdeal.defs (F := Ideal)) (onTc (τ := Cert.MixGradIdeal.τ) (Cert.MixGradIdeal.main (F := Ideal))) ⟨m', fun _ => 0, g'⟩ (fun r => ∀ c : Dev Cert.MixGradIdeal.nD,
          r.2.mem ((c.tc : Thread Cert.MixGradIdeal.nD Cert.MixGradIdeal.τ).loc Cert.MixGradIdeal.main_v15) = v0 c
          ∧ r.2.mem ((c.tc : Thread Cert.MixGradIdeal.nD Cert.MixGradIdeal.τ).loc Cert.MixGradIdeal.main_v34) = v1 c
          ∧ r.2.mem ((c.tc : Thread Cert.MixGradIdeal.nD Cert.MixGradIdeal.τ).loc Cert.MixGradIdeal.main_v18) = v2 c
          ∧ r.2.mem ((c.tc : Thread Cert.MixGradIdeal.nD Cert.MixGradIdeal.τ).loc Cert.MixGradIdeal.main_v37) = v3 c
          ∧ r.2.mem ((c.tc : Thread Cert.MixGradIdeal.nD Cert.MixGradIdeal.τ).loc Cert.MixGradIdeal.main_arg0) = m' ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m' ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m' ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m' ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m' ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m' ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m' ((c.tc : Thread Cert.MixGradIdeal.nD Cert.MixGradIdeal.τ).loc Cert.MixGradIdeal.main_arg6))

def preserves_ProjBwd_ProjBwdIdeal : Prop :=
  True

def algebraic_ProjBwdIdeal_ProjGradIdeal [hProjBwdIdeal : Cert.ProjBwdIdeal.Facts] [hProjGradIdeal : Cert.ProjGradIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjGradIdeal.nD Cert.ProjGradIdeal.τ Cert.ProjGradIdeal.sig) → Buf (Elt Ideal) ℓ) (g' : Dev Cert.ProjGradIdeal.nD → PrngReg), Pre_ProjBwdIdeal m →
    (∀ c : Dev Cert.ProjBwdIdeal.nD,
      m' ((c.tc : Thread Cert.ProjGradIdeal.nD Cert.ProjGradIdeal.τ).loc Cert.ProjGradIdeal.main_arg0) = m ((c.tc : Thread Cert.ProjBwdIdeal.nD Cert.ProjBwdIdeal.τ).loc Cert.ProjBwdIdeal.main_arg0)
      ∧ m' ((c.tc : Thread Cert.ProjGradIdeal.nD Cert.ProjGradIdeal.τ).loc Cert.ProjGradIdeal.main_arg1) = m ((c.tc : Thread Cert.ProjBwdIdeal.nD Cert.ProjBwdIdeal.τ).loc Cert.ProjBwdIdeal.main_arg1)
      ∧ m' ((c.tc : Thread Cert.ProjGradIdeal.nD Cert.ProjGradIdeal.τ).loc Cert.ProjGradIdeal.main_arg2) = m ((c.tc : Thread Cert.ProjBwdIdeal.nD Cert.ProjBwdIdeal.τ).loc Cert.ProjBwdIdeal.main_arg2)
      ∧ m' ((c.tc : Thread Cert.ProjGradIdeal.nD Cert.ProjGradIdeal.τ).loc Cert.ProjGradIdeal.main_arg3) = m ((c.tc : Thread Cert.ProjBwdIdeal.nD Cert.ProjBwdIdeal.τ).loc Cert.ProjBwdIdeal.main_arg3)
      ∧ m' ((c.tc : Thread Cert.ProjGradIdeal.nD Cert.ProjGradIdeal.τ).loc Cert.ProjGradIdeal.main_arg4) = m ((c.tc : Thread Cert.ProjBwdIdeal.nD Cert.ProjBwdIdeal.τ).loc Cert.ProjBwdIdeal.main_arg4)
      ∧ m' ((c.tc : Thread Cert.ProjGradIdeal.nD Cert.ProjGradIdeal.τ).loc Cert.ProjGradIdeal.main_arg5) = m ((c.tc : Thread Cert.ProjBwdIdeal.nD Cert.ProjBwdIdeal.τ).loc Cert.ProjBwdIdeal.main_arg5)
      ∧ m' ((c.tc : Thread Cert.ProjGradIdeal.nD Cert.ProjGradIdeal.τ).loc Cert.ProjGradIdeal.main_arg6) = m ((c.tc : Thread Cert.ProjBwdIdeal.nD Cert.ProjBwdIdeal.τ).loc Cert.ProjBwdIdeal.main_arg6)
      ∧ m' ((c.tc : Thread Cert.ProjGradIdeal.nD Cert.ProjGradIdeal.τ).loc Cert.ProjGradIdeal.main_arg7) = m ((c.tc : Thread Cert.ProjBwdIdeal.nD Cert.ProjBwdIdeal.τ).loc Cert.ProjBwdIdeal.main_arg7)
      ∧ m' ((c.tc : Thread Cert.ProjGradIdeal.nD Cert.ProjGradIdeal.τ).loc Cert.ProjGradIdeal.main_arg8) = m ((c.tc : Thread Cert.ProjBwdIdeal.nD Cert.ProjBwdIdeal.τ).loc Cert.ProjBwdIdeal.main_arg8)
      ∧ m' ((c.tc : Thread Cert.ProjGradIdeal.nD Cert.ProjGradIdeal.τ).loc Cert.ProjGradIdeal.main_arg9) = m ((c.tc : Thread Cert.ProjBwdIdeal.nD Cert.ProjBwdIdeal.τ).loc Cert.ProjBwdIdeal.main_arg9)
      ∧ m' ((c.tc : Thread Cert.ProjGradIdeal.nD Cert.ProjGradIdeal.τ).loc Cert.ProjGradIdeal.main_arg10) = m ((c.tc : Thread Cert.ProjBwdIdeal.nD Cert.ProjBwdIdeal.τ).loc Cert.ProjBwdIdeal.main_arg10)) →
    ∃ (v0 : (c : Dev Cert.ProjBwdIdeal.nD) → Buf (Elt Ideal) ((c.tc : Thread Cert.ProjBwdIdeal.nD Cert.ProjBwdIdeal.τ).loc Cert.ProjBwdIdeal.main_v0_0)) (v1 : (c : Dev Cert.ProjBwdIdeal.nD) → Buf (Elt Ideal) ((c.tc : Thread Cert.ProjBwdIdeal.nD Cert.ProjBwdIdeal.τ).loc Cert.ProjBwdIdeal.main_v0_1)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v0_0) = v0 c
          ∧ r.2.mem ((c.tc : Thread Cert.ProjBwdIdeal.nD Cert.ProjBwdIdeal.τ).loc Cert.ProjBwdIdeal.main_v0_1) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
          ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
          ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
          ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
          ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10))
      ∧ θ_run (Cert.ProjGradIdeal.defs (F := Ideal)) (onTc (τ := Cert.ProjGradIdeal.τ) (Cert.ProjGradIdeal.main (F := Ideal))) ⟨m', fun _ => 0, g'⟩ (fun r => ∀ c : Dev Cert.ProjGradIdeal.nD,
          r.2.mem ((c.tc : Thread Cert.ProjGradIdeal.nD Cert.ProjGradIdeal.τ).loc Cert.ProjGradIdeal.main_v7) = v0 c
          ∧ r.2.mem ((c.tc : Thread Cert.ProjGradIdeal.nD Cert.ProjGradIdeal.τ).loc Cert.ProjGradIdeal.main_v9) = v1 c
          ∧ r.2.mem ((c.tc : Thread Cert.ProjGradIdeal.nD Cert.ProjGradIdeal.τ).loc Cert.ProjGradIdeal.main_arg0) = m' ((c.tc : Thread Cert.ProjGradIdeal.nD Cert.ProjGradIdeal.τ).loc Cert.ProjGradIdeal.main_arg0)
          ∧ r.2.mem ((c.tc : Thread Cert.ProjGradIdeal.nD Cert.ProjGradIdeal.τ).loc Cert.ProjGradIdeal.main_arg1) = m' ((c.tc : Thread Cert.ProjGradIdeal.nD Cert.ProjGradIdeal.τ).loc Cert.ProjGradIdeal.main_arg1)
          ∧ r.2.mem ((c.tc : Thread Cert.ProjGradIdeal.nD Cert.ProjGradIdeal.τ).loc Cert.ProjGradIdeal.main_arg2) = m' ((c.tc : Thread Cert.ProjGradIdeal.nD Cert.ProjGradIdeal.τ).loc Cert.ProjGradIdeal.main_arg2)
          ∧ r.2.mem ((c.tc : Thread Cert.ProjGradIdeal.nD Cert.ProjGradIdeal.τ).loc Cert.ProjGradIdeal.main_arg3) = m' ((c.tc : Thread Cert.ProjGradIdeal.nD Cert.ProjGradIdeal.τ).loc Cert.ProjGradIdeal.main_arg3)
          ∧ r.2.mem ((c.tc : Thread Cert.ProjGradIdeal.nD Cert.ProjGradIdeal.τ).loc Cert.ProjGradIdeal.main_arg4) = m' ((c.tc : Thread Cert.ProjGradIdeal.nD Cert.ProjGradIdeal.τ).loc Cert.ProjGradIdeal.main_arg4)
          ∧ r.2.mem ((c.tc : Thread Cert.ProjGradIdeal.nD Cert.ProjGradIdeal.τ).loc Cert.ProjGradIdeal.main_arg5) = m' ((c.tc : Thread Cert.ProjGradIdeal.nD Cert.ProjGradIdeal.τ).loc Cert.ProjGradIdeal.main_arg5)
          ∧ r.2.mem ((c.tc : Thread Cert.ProjGradIdeal.nD Cert.ProjGradIdeal.τ).loc Cert.ProjGradIdeal.main_arg6) = m' ((c.tc : Thread Cert.ProjGradIdeal.nD Cert.ProjGradIdeal.τ).loc Cert.ProjGradIdeal.main_arg6)
          ∧ r.2.mem ((c.tc : Thread Cert.ProjGradIdeal.nD Cert.ProjGradIdeal.τ).loc Cert.ProjGradIdeal.main_arg7) = m' ((c.tc : Thread Cert.ProjGradIdeal.nD Cert.ProjGradIdeal.τ).loc Cert.ProjGradIdeal.main_arg7)
          ∧ r.2.mem ((c.tc : Thread Cert.ProjGradIdeal.nD Cert.ProjGradIdeal.τ).loc Cert.ProjGradIdeal.main_arg8) = m' ((c.tc : Thread Cert.ProjGradIdeal.nD Cert.ProjGradIdeal.τ).loc Cert.ProjGradIdeal.main_arg8)
          ∧ r.2.mem ((c.tc : Thread Cert.ProjGradIdeal.nD Cert.ProjGradIdeal.τ).loc Cert.ProjGradIdeal.main_arg9) = m' ((c.tc : Thread Cert.ProjGradIdeal.nD Cert.ProjGradIdeal.τ).loc Cert.ProjGradIdeal.main_arg9)
          ∧ r.2.mem ((c.tc : Thread Cert.ProjGradIdeal.nD Cert.ProjGradIdeal.τ).loc Cert.ProjGradIdeal.main_arg10) = m' ((c.tc : Thread Cert.ProjGradIdeal.nD Cert.ProjGradIdeal.τ).loc Cert.ProjGradIdeal.main_arg10))

def preserves_OutProjDw_OutProjDwIdeal : Prop :=
  True

def algebraic_OutProjDwIdeal_OutProjGradIdeal [hOutProjDwIdeal : Cert.OutProjDwIdeal.Facts] [hOutProjGradIdeal : Cert.OutProjGradIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjGradIdeal.nD Cert.OutProjGradIdeal.τ Cert.OutProjGradIdeal.sig) → Buf (Elt Ideal) ℓ) (g' : Dev Cert.OutProjGradIdeal.nD → PrngReg), Pre_OutProjDwIdeal m →
    (∀ c : Dev Cert.OutProjDwIdeal.nD,
      m' ((c.tc : Thread Cert.OutProjGradIdeal.nD Cert.OutProjGradIdeal.τ).loc Cert.OutProjGradIdeal.main_arg0) = m ((c.tc : Thread Cert.OutProjDwIdeal.nD Cert.OutProjDwIdeal.τ).loc Cert.OutProjDwIdeal.main_arg0)
      ∧ m' ((c.tc : Thread Cert.OutProjGradIdeal.nD Cert.OutProjGradIdeal.τ).loc Cert.OutProjGradIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjGradIdeal.defs (F := Ideal)) (onTc (τ := Cert.OutProjGradIdeal.τ) (Cert.OutProjGradIdeal.main (F := Ideal))) ⟨m', fun _ => 0, g'⟩ (fun r => ∀ c : Dev Cert.OutProjGradIdeal.nD,
          r.2.mem ((c.tc : Thread Cert.OutProjGradIdeal.nD Cert.OutProjGradIdeal.τ).loc Cert.OutProjGradIdeal.main_v1) = v0 c
          ∧ r.2.mem ((c.tc : Thread Cert.OutProjGradIdeal.nD Cert.OutProjGradIdeal.τ).loc Cert.OutProjGradIdeal.main_arg0) = m' ((c.tc : Thread Cert.OutProjGradIdeal.nD Cert.OutProjGradIdeal.τ).loc Cert.OutProjGradIdeal.main_arg0)
          ∧ r.2.mem ((c.tc : Thread Cert.OutProjGradIdeal.nD Cert.OutProjGradIdeal.τ).loc Cert.OutProjGradIdeal.main_arg1) = m' ((c.tc : Thread Cert.OutProjGradIdeal.nD Cert.OutProjGradIdeal.τ).loc Cert.OutProjGradIdeal.main_arg1))

def preserves_InProjDw_InProjDwIdeal : Prop :=
  True

def algebraic_InProjDwIdeal_InProjGradIdeal [hInProjDwIdeal : Cert.InProjDwIdeal.Facts] [hInProjGradIdeal : Cert.InProjGradIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjGradIdeal.nD Cert.InProjGradIdeal.τ Cert.InProjGradIdeal.sig) → Buf (Elt Ideal) ℓ) (g' : Dev Cert.InProjGradIdeal.nD → PrngReg), Pre_InProjDwIdeal m →
    (∀ c : Dev Cert.InProjDwIdeal.nD,
      m' ((c.tc : Thread Cert.InProjGradIdeal.nD Cert.InProjGradIdeal.τ).loc Cert.InProjGradIdeal.main_arg0) = m ((c.tc : Thread Cert.InProjDwIdeal.nD Cert.InProjDwIdeal.τ).loc Cert.InProjDwIdeal.main_arg0)
      ∧ m' ((c.tc : Thread Cert.InProjGradIdeal.nD Cert.InProjGradIdeal.τ).loc Cert.InProjGradIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjGradIdeal.defs (F := Ideal)) (onTc (τ := Cert.InProjGradIdeal.τ) (Cert.InProjGradIdeal.main (F := Ideal))) ⟨m', fun _ => 0, g'⟩ (fun r => ∀ c : Dev Cert.InProjGradIdeal.nD,
          r.2.mem ((c.tc : Thread Cert.InProjGradIdeal.nD Cert.InProjGradIdeal.τ).loc Cert.InProjGradIdeal.main_v1) = v0 c
          ∧ r.2.mem ((c.tc : Thread Cert.InProjGradIdeal.nD Cert.InProjGradIdeal.τ).loc Cert.InProjGradIdeal.main_arg0) = m' ((c.tc : Thread Cert.InProjGradIdeal.nD Cert.InProjGradIdeal.τ).loc Cert.InProjGradIdeal.main_arg0)
          ∧ r.2.mem ((c.tc : Thread Cert.InProjGradIdeal.nD Cert.InProjGradIdeal.τ).loc Cert.InProjGradIdeal.main_arg1) = m' ((c.tc : Thread Cert.InProjGradIdeal.nD Cert.InProjGradIdeal.τ).loc Cert.InProjGradIdeal.main_arg1))

def preserves_MlpDownDw_MlpDownDwIdeal : Prop :=
  True

def algebraic_MlpDownDwIdeal_MlpDownGradIdeal [hMlpDownDwIdeal : Cert.MlpDownDwIdeal.Facts] [hMlpDownGradIdeal : Cert.MlpDownGradIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg)
    (m' : (ℓ : Loc Cert.MlpDownGradIdeal.nD Cert.MlpDownGradIdeal.τ Cert.MlpDownGradIdeal.sig) → Buf (Elt Ideal) ℓ) (g' : Dev Cert.MlpDownGradIdeal.nD → PrngReg), Pre_MlpDownDwIdeal m →
    (∀ c : Dev Cert.MlpDownDwIdeal.nD,
      m' ((c.tc : Thread Cert.MlpDownGradIdeal.nD Cert.MlpDownGradIdeal.τ).loc Cert.MlpDownGradIdeal.main_arg0) = m ((c.tc : Thread Cert.MlpDownDwIdeal.nD Cert.MlpDownDwIdeal.τ).loc Cert.MlpDownDwIdeal.main_arg0)
      ∧ m' ((c.tc : Thread Cert.MlpDownGradIdeal.nD Cert.MlpDownGradIdeal.τ).loc Cert.MlpDownGradIdeal.main_arg1) = m ((c.tc : Thread Cert.MlpDownDwIdeal.nD Cert.MlpDownDwIdeal.τ).loc Cert.MlpDownDwIdeal.main_arg1)) →
    ∃ (v0 : (c : Dev Cert.MlpDownDwIdeal.nD) → Buf (Elt Ideal) ((c.tc : Thread Cert.MlpDownDwIdeal.nD Cert.MlpDownDwIdeal.τ).loc Cert.MlpDownDwIdeal.main_v0)),
      θ_run (Cert.MlpDownDwIdeal.defs (F := Ideal)) (onTc (τ := Cert.MlpDownDwIdeal.τ) (Cert.MlpDownDwIdeal.main (F := Ideal))) ⟨m, fun _ => 0, g⟩ (fun r => ∀ c : Dev Cert.MlpDownDwIdeal.nD,
          r.2.mem ((c.tc : Thread Cert.MlpDownDwIdeal.nD Cert.MlpDownDwIdeal.τ).loc Cert.MlpDownDwIdeal.main_v0) = v0 c
          ∧ r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
          ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ θ_run (Cert.MlpDownGradIdeal.defs (F := Ideal)) (onTc (τ := Cert.MlpDownGradIdeal.τ) (Cert.MlpDownGradIdeal.main (F := Ideal))) ⟨m', fun _ => 0, g'⟩ (fun r => ∀ c : Dev Cert.MlpDownGradIdeal.nD,
          r.2.mem ((c.tc : Thread Cert.MlpDownGradIdeal.nD Cert.MlpDownGradIdeal.τ).loc Cert.MlpDownGradIdeal.main_v2) = v0 c
          ∧ r.2.mem ((c.tc : Thread Cert.MlpDownGradIdeal.nD Cert.MlpDownGradIdeal.τ).loc Cert.MlpDownGradIdeal.main_arg0) = m' ((c.tc : Thread Cert.MlpDownGradIdeal.nD Cert.MlpDownGradIdeal.τ).loc Cert.MlpDownGradIdeal.main_arg0)
          ∧ r.2.mem ((c.tc : Thread Cert.MlpDownGradIdeal.nD Cert.MlpDownGradIdeal.τ).loc Cert.MlpDownGradIdeal.main_arg1) = m' ((c.tc : Thread Cert.MlpDownGradIdeal.nD Cert.MlpDownGradIdeal.τ).loc Cert.MlpDownGradIdeal.main_arg1))

def preserves_MlpUpDw_MlpUpDwIdeal : Prop :=
  True

def algebraic_MlpUpDwIdeal_MlpUpGradIdeal [hMlpUpDwIdeal : Cert.MlpUpDwIdeal.Facts] [hMlpUpGradIdeal : Cert.MlpUpGradIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg)
    (m' : (ℓ : Loc Cert.MlpUpGradIdeal.nD Cert.MlpUpGradIdeal.τ Cert.MlpUpGradIdeal.sig) → Buf (Elt Ideal) ℓ) (g' : Dev Cert.MlpUpGradIdeal.nD → PrngReg), Pre_MlpUpDwIdeal m →
    (∀ c : Dev Cert.MlpUpDwIdeal.nD,
      m' ((c.tc : Thread Cert.MlpUpGradIdeal.nD Cert.MlpUpGradIdeal.τ).loc Cert.MlpUpGradIdeal.main_arg0) = m ((c.tc : Thread Cert.MlpUpDwIdeal.nD Cert.MlpUpDwIdeal.τ).loc Cert.MlpUpDwIdeal.main_arg0)
      ∧ m' ((c.tc : Thread Cert.MlpUpGradIdeal.nD Cert.MlpUpGradIdeal.τ).loc Cert.MlpUpGradIdeal.main_arg1) = m ((c.tc : Thread Cert.MlpUpDwIdeal.nD Cert.MlpUpDwIdeal.τ).loc Cert.MlpUpDwIdeal.main_arg1)) →
    ∃ (v0 : (c : Dev Cert.MlpUpDwIdeal.nD) → Buf (Elt Ideal) ((c.tc : Thread Cert.MlpUpDwIdeal.nD Cert.MlpUpDwIdeal.τ).loc Cert.MlpUpDwIdeal.main_v0)),
      θ_run (Cert.MlpUpDwIdeal.defs (F := Ideal)) (onTc (τ := Cert.MlpUpDwIdeal.τ) (Cert.MlpUpDwIdeal.main (F := Ideal))) ⟨m, fun _ => 0, g⟩ (fun r => ∀ c : Dev Cert.MlpUpDwIdeal.nD,
          r.2.mem ((c.tc : Thread Cert.MlpUpDwIdeal.nD Cert.MlpUpDwIdeal.τ).loc Cert.MlpUpDwIdeal.main_v0) = v0 c
          ∧ r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
          ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ θ_run (Cert.MlpUpGradIdeal.defs (F := Ideal)) (onTc (τ := Cert.MlpUpGradIdeal.τ) (Cert.MlpUpGradIdeal.main (F := Ideal))) ⟨m', fun _ => 0, g'⟩ (fun r => ∀ c : Dev Cert.MlpUpGradIdeal.nD,
          r.2.mem ((c.tc : Thread Cert.MlpUpGradIdeal.nD Cert.MlpUpGradIdeal.τ).loc Cert.MlpUpGradIdeal.main_v3) = v0 c
          ∧ r.2.mem ((c.tc : Thread Cert.MlpUpGradIdeal.nD Cert.MlpUpGradIdeal.τ).loc Cert.MlpUpGradIdeal.main_arg0) = m' ((c.tc : Thread Cert.MlpUpGradIdeal.nD Cert.MlpUpGradIdeal.τ).loc Cert.MlpUpGradIdeal.main_arg0)
          ∧ r.2.mem ((c.tc : Thread Cert.MlpUpGradIdeal.nD Cert.MlpUpGradIdeal.τ).loc Cert.MlpUpGradIdeal.main_arg1) = m' ((c.tc : Thread Cert.MlpUpGradIdeal.nD Cert.MlpUpGradIdeal.τ).loc Cert.MlpUpGradIdeal.main_arg1))

def preserves_NormA_NormAIdeal : Prop :=
  True

def algebraic_NormAIdeal_NormRefIdeal [hNormAIdeal : Cert.NormAIdeal.Facts] [hNormRefIdeal : Cert.NormRefIdeal.Facts] : Prop :=
  ∀ (m : (ℓ : Loc Cert.NormAIdeal.nD Cert.NormAIdeal.τ Cert.NormAIdeal.sig) → Buf (Elt Ideal) ℓ) (g : Dev Cert.NormAIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormAIdeal m →
    (∀ c : Dev Cert.NormAIdeal.nD,
      m' ((c.tc : Thread Cert.NormRefIdeal.nD Cert.NormRefIdeal.τ).loc Cert.NormRefIdeal.main_arg0) = m ((c.tc : Thread Cert.NormAIdeal.nD Cert.NormAIdeal.τ).loc Cert.NormAIdeal.main_arg0)
      ∧ m' ((c.tc : Thread Cert.NormRefIdeal.nD Cert.NormRefIdeal.τ).loc Cert.NormRefIdeal.main_arg1) = m ((c.tc : Thread Cert.NormAIdeal.nD Cert.NormAIdeal.τ).loc Cert.NormAIdeal.main_arg1)) →
    ∃ (v0 : (c : Dev Cert.NormAIdeal.nD) → Buf (Elt Ideal) ((c.tc : Thread Cert.NormAIdeal.nD Cert.NormAIdeal.τ).loc Cert.NormAIdeal.main_v0_0)) (v1 : (c : Dev Cert.NormAIdeal.nD) → Buf (Elt Ideal) ((c.tc : Thread Cert.NormAIdeal.nD Cert.NormAIdeal.τ).loc Cert.NormAIdeal.main_v0_1)),
      θ_run (Cert.NormAIdeal.defs (F := Ideal)) (onTc (τ := Cert.NormAIdeal.τ) (Cert.NormAIdeal.main (F := Ideal))) ⟨m, fun _ => 0, g⟩ (fun r => ∀ c : Dev Cert.NormAIdeal.nD,
          r.2.mem ((c.tc : Thread Cert.NormAIdeal.nD Cert.NormAIdeal.τ).loc Cert.NormAIdeal.main_v0_0) = v0 c
          ∧ r.2.mem ((c.tc : Thread Cert.NormAIdeal.nD Cert.NormAIdeal.τ).loc Cert.NormAIdeal.main_v0_1) = v1 c
          ∧ r.2.mem ((c.tc : Thread Cert.NormAIdeal.nD Cert.NormAIdeal.τ).loc Cert.NormAIdeal.main_arg0) = m ((c.tc : Thread Cert.NormAIdeal.nD Cert.NormAIdeal.τ).loc Cert.NormAIdeal.main_arg0)
          ∧ r.2.mem ((c.tc : Thread Cert.NormAIdeal.nD Cert.NormAIdeal.τ).loc Cert.NormAIdeal.main_arg1) = m ((c.tc : Thread Cert.NormAIdeal.nD Cert.NormAIdeal.τ).loc Cert.NormAIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_v7) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormM_NormMIdeal : Prop :=
  True

def algebraic_NormMIdeal_NormRefIdeal [hNormMIdeal : Cert.NormMIdeal.Facts] [hNormRefIdeal : Cert.NormRefIdeal.Facts] : Prop :=
  ∀ (m : (ℓ : Loc Cert.NormMIdeal.nD Cert.NormMIdeal.τ Cert.NormMIdeal.sig) → Buf (Elt Ideal) ℓ) (g : Dev Cert.NormMIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormMIdeal m →
    (∀ c : Dev Cert.NormMIdeal.nD,
      m' ((c.tc : Thread Cert.NormRefIdeal.nD Cert.NormRefIdeal.τ).loc Cert.NormRefIdeal.main_arg0) = m ((c.tc : Thread Cert.NormMIdeal.nD Cert.NormMIdeal.τ).loc Cert.NormMIdeal.main_arg0)
      ∧ m' ((c.tc : Thread Cert.NormRefIdeal.nD Cert.NormRefIdeal.τ).loc Cert.NormRefIdeal.main_arg1) = m ((c.tc : Thread Cert.NormMIdeal.nD Cert.NormMIdeal.τ).loc Cert.NormMIdeal.main_arg1)) →
    ∃ (v0 : (c : Dev Cert.NormMIdeal.nD) → Buf (Elt Ideal) ((c.tc : Thread Cert.NormMIdeal.nD Cert.NormMIdeal.τ).loc Cert.NormMIdeal.main_v0_0)) (v1 : (c : Dev Cert.NormMIdeal.nD) → Buf (Elt Ideal) ((c.tc : Thread Cert.NormMIdeal.nD Cert.NormMIdeal.τ).loc Cert.NormMIdeal.main_v0_1)),
      θ_run (Cert.NormMIdeal.defs (F := Ideal)) (onTc (τ := Cert.NormMIdeal.τ) (Cert.NormMIdeal.main (F := Ideal))) ⟨m, fun _ => 0, g⟩ (fun r => ∀ c : Dev Cert.NormMIdeal.nD,
          r.2.mem ((c.tc : Thread Cert.NormMIdeal.nD Cert.NormMIdeal.τ).loc Cert.NormMIdeal.main_v0_0) = v0 c
          ∧ r.2.mem ((c.tc : Thread Cert.NormMIdeal.nD Cert.NormMIdeal.τ).loc Cert.NormMIdeal.main_v0_1) = v1 c
          ∧ r.2.mem ((c.tc : Thread Cert.NormMIdeal.nD Cert.NormMIdeal.τ).loc Cert.NormMIdeal.main_arg0) = m ((c.tc : Thread Cert.NormMIdeal.nD Cert.NormMIdeal.τ).loc Cert.NormMIdeal.main_arg0)
          ∧ r.2.mem ((c.tc : Thread Cert.NormMIdeal.nD Cert.NormMIdeal.τ).loc Cert.NormMIdeal.main_arg1) = m ((c.tc : Thread Cert.NormMIdeal.nD Cert.NormMIdeal.τ).loc Cert.NormMIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_v7) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ProjQa_ProjQaIdeal : Prop :=
  True

def algebraic_ProjQaIdeal_QueriesAIdeal [hProjQaIdeal : Cert.ProjQaIdeal.Facts] [hQueriesAIdeal : Cert.QueriesAIdeal.Facts] : Prop :=
  ∀ (m : (ℓ : Loc Cert.ProjQaIdeal.nD Cert.ProjQaIdeal.τ Cert.ProjQaIdeal.sig) → Buf (Elt Ideal) ℓ) (g : Dev Cert.ProjQaIdeal.nD → PrngReg)
    (m' : (ℓ : Loc Cert.QueriesAIdeal.nD Cert.QueriesAIdeal.τ Cert.QueriesAIdeal.sig) → Buf (Elt Ideal) ℓ) (g' : Dev Cert.QueriesAIdeal.nD → PrngReg), Pre_ProjQaIdeal m →
    (∀ c : Dev Cert.ProjQaIdeal.nD,
      m' ((c.tc : Thread Cert.QueriesAIdeal.nD Cert.QueriesAIdeal.τ).loc Cert.QueriesAIdeal.main_arg0) = m ((c.tc : Thread Cert.ProjQaIdeal.nD Cert.ProjQaIdeal.τ).loc Cert.ProjQaIdeal.main_arg0)
      ∧ m' ((c.tc : Thread Cert.QueriesAIdeal.nD Cert.QueriesAIdeal.τ).loc Cert.QueriesAIdeal.main_arg1) = m ((c.tc : Thread Cert.ProjQaIdeal.nD Cert.ProjQaIdeal.τ).loc Cert.ProjQaIdeal.main_arg1)
      ∧ m' ((c.tc : Thread Cert.QueriesAIdeal.nD Cert.QueriesAIdeal.τ).loc Cert.QueriesAIdeal.main_arg2) = m ((c.tc : Thread Cert.ProjQaIdeal.nD Cert.ProjQaIdeal.τ).loc Cert.ProjQaIdeal.main_arg2)) →
    ∃ (v0 : (c : Dev Cert.ProjQaIdeal.nD) → Buf (Elt Ideal) ((c.tc : Thread Cert.ProjQaIdeal.nD Cert.ProjQaIdeal.τ).loc Cert.ProjQaIdeal.main_v0)),
      θ_run (Cert.ProjQaIdeal.defs (F := Ideal)) (onTc (τ := Cert.ProjQaIdeal.τ) (Cert.ProjQaIdeal.main (F := Ideal))) ⟨m, fun _ => 0, g⟩ (fun r => ∀ c : Dev Cert.ProjQaIdeal.nD,
          r.2.mem ((c.tc : Thread Cert.ProjQaIdeal.nD Cert.ProjQaIdeal.τ).loc Cert.ProjQaIdeal.main_v0) = v0 c
          ∧ r.2.mem ((c.tc : Thread Cert.ProjQaIdeal.nD Cert.ProjQaIdeal.τ).loc Cert.ProjQaIdeal.main_arg0) = m ((c.tc : Thread Cert.ProjQaIdeal.nD Cert.ProjQaIdeal.τ).loc Cert.ProjQaIdeal.main_arg0)
          ∧ r.2.mem ((c.tc : Thread Cert.ProjQaIdeal.nD Cert.ProjQaIdeal.τ).loc Cert.ProjQaIdeal.main_arg1) = m ((c.tc : Thread Cert.ProjQaIdeal.nD Cert.ProjQaIdeal.τ).loc Cert.ProjQaIdeal.main_arg1)
          ∧ r.2.mem ((c.tc : Thread Cert.ProjQaIdeal.nD Cert.ProjQaIdeal.τ).loc Cert.ProjQaIdeal.main_arg2) = m ((c.tc : Thread Cert.ProjQaIdeal.nD Cert.ProjQaIdeal.τ).loc Cert.ProjQaIdeal.main_arg2))
      ∧ θ_run (Cert.QueriesAIdeal.defs (F := Ideal)) (onTc (τ := Cert.QueriesAIdeal.τ) (Cert.QueriesAIdeal.main (F := Ideal))) ⟨m', fun _ => 0, g'⟩ (fun r => ∀ c : Dev Cert.QueriesAIdeal.nD,
          r.2.mem ((c.tc : Thread Cert.QueriesAIdeal.nD Cert.QueriesAIdeal.τ).loc Cert.QueriesAIdeal.main_v6) = v0 c
          ∧ r.2.mem ((c.tc : Thread Cert.QueriesAIdeal.nD Cert.QueriesAIdeal.τ).loc Cert.QueriesAIdeal.main_arg0) = m' ((c.tc : Thread Cert.QueriesAIdeal.nD Cert.QueriesAIdeal.τ).loc Cert.QueriesAIdeal.main_arg0)
          ∧ r.2.mem ((c.tc : Thread Cert.QueriesAIdeal.nD Cert.QueriesAIdeal.τ).loc Cert.QueriesAIdeal.main_arg1) = m' ((c.tc : Thread Cert.QueriesAIdeal.nD Cert.QueriesAIdeal.τ).loc Cert.QueriesAIdeal.main_arg1)
          ∧ r.2.mem ((c.tc : Thread Cert.QueriesAIdeal.nD Cert.QueriesAIdeal.τ).loc Cert.QueriesAIdeal.main_arg2) = m' ((c.tc : Thread Cert.QueriesAIdeal.nD Cert.QueriesAIdeal.τ).loc Cert.QueriesAIdeal.main_arg2))

def preserves_ProjKva_ProjKvaIdeal : Prop :=
  True

def algebraic_ProjKvaIdeal_KeysValuesAIdeal [hProjKvaIdeal : Cert.ProjKvaIdeal.Facts] [hKeysValuesAIdeal : Cert.KeysValuesAIdeal.Facts] : Prop :=
  ∀ (m : (ℓ : Loc Cert.ProjKvaIdeal.nD Cert.ProjKvaIdeal.τ Cert.ProjKvaIdeal.sig) → Buf (Elt Ideal) ℓ) (g : Dev Cert.ProjKvaIdeal.nD → PrngReg)
    (m' : (ℓ : Loc Cert.KeysValuesAIdeal.nD Cert.KeysValuesAIdeal.τ Cert.KeysValuesAIdeal.sig) → Buf (Elt Ideal) ℓ) (g' : Dev Cert.KeysValuesAIdeal.nD → PrngReg), Pre_ProjKvaIdeal m →
    (∀ c : Dev Cert.ProjKvaIdeal.nD,
      m' ((c.tc : Thread Cert.KeysValuesAIdeal.nD Cert.KeysValuesAIdeal.τ).loc Cert.KeysValuesAIdeal.main_arg0) = m ((c.tc : Thread Cert.ProjKvaIdeal.nD Cert.ProjKvaIdeal.τ).loc Cert.ProjKvaIdeal.main_arg0)
      ∧ m' ((c.tc : Thread Cert.KeysValuesAIdeal.nD Cert.KeysValuesAIdeal.τ).loc Cert.KeysValuesAIdeal.main_arg1) = m ((c.tc : Thread Cert.ProjKvaIdeal.nD Cert.ProjKvaIdeal.τ).loc Cert.ProjKvaIdeal.main_arg1)
      ∧ m' ((c.tc : Thread Cert.KeysValuesAIdeal.nD Cert.KeysValuesAIdeal.τ).loc Cert.KeysValuesAIdeal.main_arg2) = m ((c.tc : Thread Cert.ProjKvaIdeal.nD Cert.ProjKvaIdeal.τ).loc Cert.ProjKvaIdeal.main_arg2)) →
    ∃ (v0 : (c : Dev Cert.ProjKvaIdeal.nD) → Buf (Elt Ideal) ((c.tc : Thread Cert.ProjKvaIdeal.nD Cert.ProjKvaIdeal.τ).loc Cert.ProjKvaIdeal.main_v0)),
      θ_run (Cert.ProjKvaIdeal.defs (F := Ideal)) (onTc (τ := Cert.ProjKvaIdeal.τ) (Cert.ProjKvaIdeal.main (F := Ideal))) ⟨m, fun _ => 0, g⟩ (fun r => ∀ c : Dev Cert.ProjKvaIdeal.nD,
          r.2.mem ((c.tc : Thread Cert.ProjKvaIdeal.nD Cert.ProjKvaIdeal.τ).loc Cert.ProjKvaIdeal.main_v0) = v0 c
          ∧ r.2.mem ((c.tc : Thread Cert.ProjKvaIdeal.nD Cert.ProjKvaIdeal.τ).loc Cert.ProjKvaIdeal.main_arg0) = m ((c.tc : Thread Cert.ProjKvaIdeal.nD Cert.ProjKvaIdeal.τ).loc Cert.ProjKvaIdeal.main_arg0)
          ∧ r.2.mem ((c.tc : Thread Cert.ProjKvaIdeal.nD Cert.ProjKvaIdeal.τ).loc Cert.ProjKvaIdeal.main_arg1) = m ((c.tc : Thread Cert.ProjKvaIdeal.nD Cert.ProjKvaIdeal.τ).loc Cert.ProjKvaIdeal.main_arg1)
          ∧ r.2.mem ((c.tc : Thread Cert.ProjKvaIdeal.nD Cert.ProjKvaIdeal.τ).loc Cert.ProjKvaIdeal.main_arg2) = m ((c.tc : Thread Cert.ProjKvaIdeal.nD Cert.ProjKvaIdeal.τ).loc Cert.ProjKvaIdeal.main_arg2))
      ∧ θ_run (Cert.KeysValuesAIdeal.defs (F := Ideal)) (onTc (τ := Cert.KeysValuesAIdeal.τ) (Cert.KeysValuesAIdeal.main (F := Ideal))) ⟨m', fun _ => 0, g'⟩ (fun r => ∀ c : Dev Cert.KeysValuesAIdeal.nD,
          r.2.mem ((c.tc : Thread Cert.KeysValuesAIdeal.nD Cert.KeysValuesAIdeal.τ).loc Cert.KeysValuesAIdeal.main_v6) = v0 c
          ∧ r.2.mem ((c.tc : Thread Cert.KeysValuesAIdeal.nD Cert.KeysValuesAIdeal.τ).loc Cert.KeysValuesAIdeal.main_arg0) = m' ((c.tc : Thread Cert.KeysValuesAIdeal.nD Cert.KeysValuesAIdeal.τ).loc Cert.KeysValuesAIdeal.main_arg0)
          ∧ r.2.mem ((c.tc : Thread Cert.KeysValuesAIdeal.nD Cert.KeysValuesAIdeal.τ).loc Cert.KeysValuesAIdeal.main_arg1) = m' ((c.tc : Thread Cert.KeysValuesAIdeal.nD Cert.KeysValuesAIdeal.τ).loc Cert.KeysValuesAIdeal.main_arg1)
          ∧ r.2.mem ((c.tc : Thread Cert.KeysValuesAIdeal.nD Cert.KeysValuesAIdeal.τ).loc Cert.KeysValuesAIdeal.main_arg2) = m' ((c.tc : Thread Cert.KeysValuesAIdeal.nD Cert.KeysValuesAIdeal.τ).loc Cert.KeysValuesAIdeal.main_arg2))

def preserves_ProjQb_ProjQbIdeal : Prop :=
  True

def algebraic_ProjQbIdeal_QueriesBIdeal [hProjQbIdeal : Cert.ProjQbIdeal.Facts] [hQueriesBIdeal : Cert.QueriesBIdeal.Facts] : Prop :=
  ∀ (m : (ℓ : Loc Cert.ProjQbIdeal.nD Cert.ProjQbIdeal.τ Cert.ProjQbIdeal.sig) → Buf (Elt Ideal) ℓ) (g : Dev Cert.ProjQbIdeal.nD → PrngReg)
    (m' : (ℓ : Loc Cert.QueriesBIdeal.nD Cert.QueriesBIdeal.τ Cert.QueriesBIdeal.sig) → Buf (Elt Ideal) ℓ) (g' : Dev Cert.QueriesBIdeal.nD → PrngReg), Pre_ProjQbIdeal m →
    (∀ c : Dev Cert.ProjQbIdeal.nD,
      m' ((c.tc : Thread Cert.QueriesBIdeal.nD Cert.QueriesBIdeal.τ).loc Cert.QueriesBIdeal.main_arg0) = m ((c.tc : Thread Cert.ProjQbIdeal.nD Cert.ProjQbIdeal.τ).loc Cert.ProjQbIdeal.main_arg0)
      ∧ m' ((c.tc : Thread Cert.QueriesBIdeal.nD Cert.QueriesBIdeal.τ).loc Cert.QueriesBIdeal.main_arg1) = m ((c.tc : Thread Cert.ProjQbIdeal.nD Cert.ProjQbIdeal.τ).loc Cert.ProjQbIdeal.main_arg1)
      ∧ m' ((c.tc : Thread Cert.QueriesBIdeal.nD Cert.QueriesBIdeal.τ).loc Cert.QueriesBIdeal.main_arg2) = m ((c.tc : Thread Cert.ProjQbIdeal.nD Cert.ProjQbIdeal.τ).loc Cert.ProjQbIdeal.main_arg2)) →
    ∃ (v0 : (c : Dev Cert.ProjQbIdeal.nD) → Buf (Elt Ideal) ((c.tc : Thread Cert.ProjQbIdeal.nD Cert.ProjQbIdeal.τ).loc Cert.ProjQbIdeal.main_v0)),
      θ_run (Cert.ProjQbIdeal.defs (F := Ideal)) (onTc (τ := Cert.ProjQbIdeal.τ) (Cert.ProjQbIdeal.main (F := Ideal))) ⟨m, fun _ => 0, g⟩ (fun r => ∀ c : Dev Cert.ProjQbIdeal.nD,
          r.2.mem ((c.tc : Thread Cert.ProjQbIdeal.nD Cert.ProjQbIdeal.τ).loc Cert.ProjQbIdeal.main_v0) = v0 c
          ∧ r.2.mem ((c.tc : Thread Cert.ProjQbIdeal.nD Cert.ProjQbIdeal.τ).loc Cert.ProjQbIdeal.main_arg0) = m ((c.tc : Thread Cert.ProjQbIdeal.nD Cert.ProjQbIdeal.τ).loc Cert.ProjQbIdeal.main_arg0)
          ∧ r.2.mem ((c.tc : Thread Cert.ProjQbIdeal.nD Cert.ProjQbIdeal.τ).loc Cert.ProjQbIdeal.main_arg1) = m ((c.tc : Thread Cert.ProjQbIdeal.nD Cert.ProjQbIdeal.τ).loc Cert.ProjQbIdeal.main_arg1)
          ∧ r.2.mem ((c.tc : Thread Cert.ProjQbIdeal.nD Cert.ProjQbIdeal.τ).loc Cert.ProjQbIdeal.main_arg2) = m ((c.tc : Thread Cert.ProjQbIdeal.nD Cert.ProjQbIdeal.τ).loc Cert.ProjQbIdeal.main_arg2))
      ∧ θ_run (Cert.QueriesBIdeal.defs (F := Ideal)) (onTc (τ := Cert.QueriesBIdeal.τ) (Cert.QueriesBIdeal.main (F := Ideal))) ⟨m', fun _ => 0, g'⟩ (fun r => ∀ c : Dev Cert.QueriesBIdeal.nD,
          r.2.mem ((c.tc : Thread Cert.QueriesBIdeal.nD Cert.QueriesBIdeal.τ).loc Cert.QueriesBIdeal.main_v6) = v0 c
          ∧ r.2.mem ((c.tc : Thread Cert.QueriesBIdeal.nD Cert.QueriesBIdeal.τ).loc Cert.QueriesBIdeal.main_arg0) = m' ((c.tc : Thread Cert.QueriesBIdeal.nD Cert.QueriesBIdeal.τ).loc Cert.QueriesBIdeal.main_arg0)
          ∧ r.2.mem ((c.tc : Thread Cert.QueriesBIdeal.nD Cert.QueriesBIdeal.τ).loc Cert.QueriesBIdeal.main_arg1) = m' ((c.tc : Thread Cert.QueriesBIdeal.nD Cert.QueriesBIdeal.τ).loc Cert.QueriesBIdeal.main_arg1)
          ∧ r.2.mem ((c.tc : Thread Cert.QueriesBIdeal.nD Cert.QueriesBIdeal.τ).loc Cert.QueriesBIdeal.main_arg2) = m' ((c.tc : Thread Cert.QueriesBIdeal.nD Cert.QueriesBIdeal.τ).loc Cert.QueriesBIdeal.main_arg2))

def preserves_ProjKb_ProjKbIdeal : Prop :=
  True

def algebraic_ProjKbIdeal_KeysBIdeal [hProjKbIdeal : Cert.ProjKbIdeal.Facts] [hKeysBIdeal : Cert.KeysBIdeal.Facts] : Prop :=
  ∀ (m : (ℓ : Loc Cert.ProjKbIdeal.nD Cert.ProjKbIdeal.τ Cert.ProjKbIdeal.sig) → Buf (Elt Ideal) ℓ) (g : Dev Cert.ProjKbIdeal.nD → PrngReg)
    (m' : (ℓ : Loc Cert.KeysBIdeal.nD Cert.KeysBIdeal.τ Cert.KeysBIdeal.sig) → Buf (Elt Ideal) ℓ) (g' : Dev Cert.KeysBIdeal.nD → PrngReg), Pre_ProjKbIdeal m →
    (∀ c : Dev Cert.ProjKbIdeal.nD,
      m' ((c.tc : Thread Cert.KeysBIdeal.nD Cert.KeysBIdeal.τ).loc Cert.KeysBIdeal.main_arg0) = m ((c.tc : Thread Cert.ProjKbIdeal.nD Cert.ProjKbIdeal.τ).loc Cert.ProjKbIdeal.main_arg0)
      ∧ m' ((c.tc : Thread Cert.KeysBIdeal.nD Cert.KeysBIdeal.τ).loc Cert.KeysBIdeal.main_arg1) = m ((c.tc : Thread Cert.ProjKbIdeal.nD Cert.ProjKbIdeal.τ).loc Cert.ProjKbIdeal.main_arg1)
      ∧ m' ((c.tc : Thread Cert.KeysBIdeal.nD Cert.KeysBIdeal.τ).loc Cert.KeysBIdeal.main_arg2) = m ((c.tc : Thread Cert.ProjKbIdeal.nD Cert.ProjKbIdeal.τ).loc Cert.ProjKbIdeal.main_arg2)) →
    ∃ (v0 : (c : Dev Cert.ProjKbIdeal.nD) → Buf (Elt Ideal) ((c.tc : Thread Cert.ProjKbIdeal.nD Cert.ProjKbIdeal.τ).loc Cert.ProjKbIdeal.main_v0)),
      θ_run (Cert.ProjKbIdeal.defs (F := Ideal)) (onTc (τ := Cert.ProjKbIdeal.τ) (Cert.ProjKbIdeal.main (F := Ideal))) ⟨m, fun _ => 0, g⟩ (fun r => ∀ c : Dev Cert.ProjKbIdeal.nD,
          r.2.mem ((c.tc : Thread Cert.ProjKbIdeal.nD Cert.ProjKbIdeal.τ).loc Cert.ProjKbIdeal.main_v0) = v0 c
          ∧ r.2.mem ((c.tc : Thread Cert.ProjKbIdeal.nD Cert.ProjKbIdeal.τ).loc Cert.ProjKbIdeal.main_arg0) = m ((c.tc : Thread Cert.ProjKbIdeal.nD Cert.ProjKbIdeal.τ).loc Cert.ProjKbIdeal.main_arg0)
          ∧ r.2.mem ((c.tc : Thread Cert.ProjKbIdeal.nD Cert.ProjKbIdeal.τ).loc Cert.ProjKbIdeal.main_arg1) = m ((c.tc : Thread Cert.ProjKbIdeal.nD Cert.ProjKbIdeal.τ).loc Cert.ProjKbIdeal.main_arg1)
          ∧ r.2.mem ((c.tc : Thread Cert.ProjKbIdeal.nD Cert.ProjKbIdeal.τ).loc Cert.ProjKbIdeal.main_arg2) = m ((c.tc : Thread Cert.ProjKbIdeal.nD Cert.ProjKbIdeal.τ).loc Cert.ProjKbIdeal.main_arg2))
      ∧ θ_run (Cert.KeysBIdeal.defs (F := Ideal)) (onTc (τ := Cert.KeysBIdeal.τ) (Cert.KeysBIdeal.main (F := Ideal))) ⟨m', fun _ => 0, g'⟩ (fun r => ∀ c : Dev Cert.KeysBIdeal.nD,
          r.2.mem ((c.tc : Thread Cert.KeysBIdeal.nD Cert.KeysBIdeal.τ).loc Cert.KeysBIdeal.main_v6) = v0 c
          ∧ r.2.mem ((c.tc : Thread Cert.KeysBIdeal.nD Cert.KeysBIdeal.τ).loc Cert.KeysBIdeal.main_arg0) = m' ((c.tc : Thread Cert.KeysBIdeal.nD Cert.KeysBIdeal.τ).loc Cert.KeysBIdeal.main_arg0)
          ∧ r.2.mem ((c.tc : Thread Cert.KeysBIdeal.nD Cert.KeysBIdeal.τ).loc Cert.KeysBIdeal.main_arg1) = m' ((c.tc : Thread Cert.KeysBIdeal.nD Cert.KeysBIdeal.τ).loc Cert.KeysBIdeal.main_arg1)
          ∧ r.2.mem ((c.tc : Thread Cert.KeysBIdeal.nD Cert.KeysBIdeal.τ).loc Cert.KeysBIdeal.main_arg2) = m' ((c.tc : Thread Cert.KeysBIdeal.nD Cert.KeysBIdeal.τ).loc Cert.KeysBIdeal.main_arg2))

def preserves_ProjVb_ProjVbIdeal : Prop :=
  True

def algebraic_ProjVbIdeal_ValuesBIdeal [hProjVbIdeal : Cert.ProjVbIdeal.Facts] [hValuesBIdeal : Cert.ValuesBIdeal.Facts] : Prop :=
  ∀ (m : (ℓ : Loc Cert.ProjVbIdeal.nD Cert.ProjVbIdeal.τ Cert.ProjVbIdeal.sig) → Buf (Elt Ideal) ℓ) (g : Dev Cert.ProjVbIdeal.nD → PrngReg)
    (m' : (ℓ : Loc Cert.ValuesBIdeal.nD Cert.ValuesBIdeal.τ Cert.ValuesBIdeal.sig) → Buf (Elt Ideal) ℓ) (g' : Dev Cert.ValuesBIdeal.nD → PrngReg), Pre_ProjVbIdeal m →
    (∀ c : Dev Cert.ProjVbIdeal.nD,
      m' ((c.tc : Thread Cert.ValuesBIdeal.nD Cert.ValuesBIdeal.τ).loc Cert.ValuesBIdeal.main_arg0) = m ((c.tc : Thread Cert.ProjVbIdeal.nD Cert.ProjVbIdeal.τ).loc Cert.ProjVbIdeal.main_arg0)
      ∧ m' ((c.tc : Thread Cert.ValuesBIdeal.nD Cert.ValuesBIdeal.τ).loc Cert.ValuesBIdeal.main_arg1) = m ((c.tc : Thread Cert.ProjVbIdeal.nD Cert.ProjVbIdeal.τ).loc Cert.ProjVbIdeal.main_arg1)
      ∧ m' ((c.tc : Thread Cert.ValuesBIdeal.nD Cert.ValuesBIdeal.τ).loc Cert.ValuesBIdeal.main_arg2) = m ((c.tc : Thread Cert.ProjVbIdeal.nD Cert.ProjVbIdeal.τ).loc Cert.ProjVbIdeal.main_arg2)) →
    ∃ (v0 : (c : Dev Cert.ProjVbIdeal.nD) → Buf (Elt Ideal) ((c.tc : Thread Cert.ProjVbIdeal.nD Cert.ProjVbIdeal.τ).loc Cert.ProjVbIdeal.main_v0)),
      θ_run (Cert.ProjVbIdeal.defs (F := Ideal)) (onTc (τ := Cert.ProjVbIdeal.τ) (Cert.ProjVbIdeal.main (F := Ideal))) ⟨m, fun _ => 0, g⟩ (fun r => ∀ c : Dev Cert.ProjVbIdeal.nD,
          r.2.mem ((c.tc : Thread Cert.ProjVbIdeal.nD Cert.ProjVbIdeal.τ).loc Cert.ProjVbIdeal.main_v0) = v0 c
          ∧ r.2.mem ((c.tc : Thread Cert.ProjVbIdeal.nD Cert.ProjVbIdeal.τ).loc Cert.ProjVbIdeal.main_arg0) = m ((c.tc : Thread Cert.ProjVbIdeal.nD Cert.ProjVbIdeal.τ).loc Cert.ProjVbIdeal.main_arg0)
          ∧ r.2.mem ((c.tc : Thread Cert.ProjVbIdeal.nD Cert.ProjVbIdeal.τ).loc Cert.ProjVbIdeal.main_arg1) = m ((c.tc : Thread Cert.ProjVbIdeal.nD Cert.ProjVbIdeal.τ).loc Cert.ProjVbIdeal.main_arg1)
          ∧ r.2.mem ((c.tc : Thread Cert.ProjVbIdeal.nD Cert.ProjVbIdeal.τ).loc Cert.ProjVbIdeal.main_arg2) = m ((c.tc : Thread Cert.ProjVbIdeal.nD Cert.ProjVbIdeal.τ).loc Cert.ProjVbIdeal.main_arg2))
      ∧ θ_run (Cert.ValuesBIdeal.defs (F := Ideal)) (onTc (τ := Cert.ValuesBIdeal.τ) (Cert.ValuesBIdeal.main (F := Ideal))) ⟨m', fun _ => 0, g'⟩ (fun r => ∀ c : Dev Cert.ValuesBIdeal.nD,
          r.2.mem ((c.tc : Thread Cert.ValuesBIdeal.nD Cert.ValuesBIdeal.τ).loc Cert.ValuesBIdeal.main_v6) = v0 c
          ∧ r.2.mem ((c.tc : Thread Cert.ValuesBIdeal.nD Cert.ValuesBIdeal.τ).loc Cert.ValuesBIdeal.main_arg0) = m' ((c.tc : Thread Cert.ValuesBIdeal.nD Cert.ValuesBIdeal.τ).loc Cert.ValuesBIdeal.main_arg0)
          ∧ r.2.mem ((c.tc : Thread Cert.ValuesBIdeal.nD Cert.ValuesBIdeal.τ).loc Cert.ValuesBIdeal.main_arg1) = m' ((c.tc : Thread Cert.ValuesBIdeal.nD Cert.ValuesBIdeal.τ).loc Cert.ValuesBIdeal.main_arg1)
          ∧ r.2.mem ((c.tc : Thread Cert.ValuesBIdeal.nD Cert.ValuesBIdeal.τ).loc Cert.ValuesBIdeal.main_arg2) = m' ((c.tc : Thread Cert.ValuesBIdeal.nD Cert.ValuesBIdeal.τ).loc Cert.ValuesBIdeal.main_arg2))

def preserves_OutProj_OutProjIdeal : Prop :=
  True

def algebraic_OutProjIdeal_OutputIdeal [hOutProjIdeal : Cert.OutProjIdeal.Facts] [hOutputIdeal : Cert.OutputIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutputIdeal.nD Cert.OutputIdeal.τ Cert.OutputIdeal.sig) → Buf (Elt Ideal) ℓ) (g' : Dev Cert.OutputIdeal.nD → PrngReg), Pre_OutProjIdeal m →
    (∀ c : Dev Cert.OutProjIdeal.nD,
      m' ((c.tc : Thread Cert.OutputIdeal.nD Cert.OutputIdeal.τ).loc Cert.OutputIdeal.main_arg0) = m ((c.tc : Thread Cert.OutProjIdeal.nD Cert.OutProjIdeal.τ).loc Cert.OutProjIdeal.main_arg0)
      ∧ m' ((c.tc : Thread Cert.OutputIdeal.nD Cert.OutputIdeal.τ).loc Cert.OutputIdeal.main_arg1) = m ((c.tc : Thread Cert.OutProjIdeal.nD Cert.OutProjIdeal.τ).loc Cert.OutProjIdeal.main_arg1)
      ∧ m' ((c.tc : Thread Cert.OutputIdeal.nD Cert.OutputIdeal.τ).loc Cert.OutputIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutputIdeal.defs (F := Ideal)) (onTc (τ := Cert.OutputIdeal.τ) (Cert.OutputIdeal.main (F := Ideal))) ⟨m', fun _ => 0, g'⟩ (fun r => ∀ c : Dev Cert.OutputIdeal.nD,
          r.2.mem ((c.tc : Thread Cert.OutputIdeal.nD Cert.OutputIdeal.τ).loc Cert.OutputIdeal.main_v1) = v0 c
          ∧ r.2.mem ((c.tc : Thread Cert.OutputIdeal.nD Cert.OutputIdeal.τ).loc Cert.OutputIdeal.main_arg0) = m' ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m' ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m' ((c.tc : Thread Cert.OutputIdeal.nD Cert.OutputIdeal.τ).loc Cert.OutputIdeal.main_arg2))

def preserves_MlpUp_MlpUpIdeal : Prop :=
  True

def algebraic_MlpUpIdeal_FirstLayerIdeal [hMlpUpIdeal : Cert.MlpUpIdeal.Facts] [hFirstLayerIdeal : Cert.FirstLayerIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.FirstLayerIdeal.nD Cert.FirstLayerIdeal.τ Cert.FirstLayerIdeal.sig) → Buf (Elt Ideal) ℓ) (g' : Dev Cert.FirstLayerIdeal.nD → PrngReg), Pre_MlpUpIdeal m →
    (∀ c : Dev Cert.MlpUpIdeal.nD,
      m' ((c.tc : Thread Cert.FirstLayerIdeal.nD Cert.FirstLayerIdeal.τ).loc Cert.FirstLayerIdeal.main_arg0) = m ((c.tc : Thread Cert.MlpUpIdeal.nD Cert.MlpUpIdeal.τ).loc Cert.MlpUpIdeal.main_arg0)
      ∧ m' ((c.tc : Thread Cert.FirstLayerIdeal.nD Cert.FirstLayerIdeal.τ).loc Cert.FirstLayerIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.FirstLayerIdeal.defs (F := Ideal)) (onTc (τ := Cert.FirstLayerIdeal.τ) (Cert.FirstLayerIdeal.main (F := Ideal))) ⟨m', fun _ => 0, g'⟩ (fun r => ∀ c : Dev Cert.FirstLayerIdeal.nD,
          r.2.mem ((c.tc : Thread Cert.FirstLayerIdeal.nD Cert.FirstLayerIdeal.τ).loc Cert.FirstLayerIdeal.main_v4) = v0 c
          ∧ r.2.mem ((c.tc : Thread Cert.FirstLayerIdeal.nD Cert.FirstLayerIdeal.τ).loc Cert.FirstLayerIdeal.main_arg0) = m' ((c.tc : Thread Cert.FirstLayerIdeal.nD Cert.FirstLayerIdeal.τ).loc Cert.FirstLayerIdeal.main_arg0)
          ∧ r.2.mem ((c.tc : Thread Cert.FirstLayerIdeal.nD Cert.FirstLayerIdeal.τ).loc Cert.FirstLayerIdeal.main_arg1) = m' ((c.tc : Thread Cert.FirstLayerIdeal.nD Cert.FirstLayerIdeal.τ).loc Cert.FirstLayerIdeal.main_arg1))

def preserves_MlpDown_MlpDownIdeal : Prop :=
  True

def algebraic_MlpDownIdeal_SecondLayerIdeal [hMlpDownIdeal : Cert.MlpDownIdeal.Facts] [hSecondLayerIdeal : Cert.SecondLayerIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.SecondLayerIdeal.nD Cert.SecondLayerIdeal.τ Cert.SecondLayerIdeal.sig) → Buf (Elt Ideal) ℓ) (g' : Dev Cert.SecondLayerIdeal.nD → PrngReg), Pre_MlpDownIdeal m →
    (∀ c : Dev Cert.MlpDownIdeal.nD,
      m' ((c.tc : Thread Cert.SecondLayerIdeal.nD Cert.SecondLayerIdeal.τ).loc Cert.SecondLayerIdeal.main_arg0) = m ((c.tc : Thread Cert.MlpDownIdeal.nD Cert.MlpDownIdeal.τ).loc Cert.MlpDownIdeal.main_arg0)
      ∧ m' ((c.tc : Thread Cert.SecondLayerIdeal.nD Cert.SecondLayerIdeal.τ).loc Cert.SecondLayerIdeal.main_arg1) = m ((c.tc : Thread Cert.MlpDownIdeal.nD Cert.MlpDownIdeal.τ).loc Cert.MlpDownIdeal.main_arg1)
      ∧ m' ((c.tc : Thread Cert.SecondLayerIdeal.nD Cert.SecondLayerIdeal.τ).loc Cert.SecondLayerIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.SecondLayerIdeal.defs (F := Ideal)) (onTc (τ := Cert.SecondLayerIdeal.τ) (Cert.SecondLayerIdeal.main (F := Ideal))) ⟨m', fun _ => 0, g'⟩ (fun r => ∀ c : Dev Cert.SecondLayerIdeal.nD,
          r.2.mem ((c.tc : Thread Cert.SecondLayerIdeal.nD Cert.SecondLayerIdeal.τ).loc Cert.SecondLayerIdeal.main_v2) = v0 c
          ∧ r.2.mem ((c.tc : Thread Cert.SecondLayerIdeal.nD Cert.SecondLayerIdeal.τ).loc Cert.SecondLayerIdeal.main_arg0) = m' ((c.tc : Thread Cert.SecondLayerIdeal.nD Cert.SecondLayerIdeal.τ).loc Cert.SecondLayerIdeal.main_arg0)
          ∧ r.2.mem ((c.tc : Thread Cert.SecondLayerIdeal.nD Cert.SecondLayerIdeal.τ).loc Cert.SecondLayerIdeal.main_arg1) = m' ((c.tc : Thread Cert.SecondLayerIdeal.nD Cert.SecondLayerIdeal.τ).loc Cert.SecondLayerIdeal.main_arg1)
          ∧ r.2.mem ((c.tc : Thread Cert.SecondLayerIdeal.nD Cert.SecondLayerIdeal.τ).loc Cert.SecondLayerIdeal.main_arg2) = m' ((c.tc : Thread Cert.SecondLayerIdeal.nD Cert.SecondLayerIdeal.τ).loc Cert.SecondLayerIdeal.main_arg2))

def preserves_MlpDownDx_MlpDownDxIdeal : Prop :=
  True

def algebraic_MlpDownDxIdeal_SecondGradIdeal [hMlpDownDxIdeal : Cert.MlpDownDxIdeal.Facts] [hSecondGradIdeal : Cert.SecondGradIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg)
    (m' : (ℓ : Loc Cert.SecondGradIdeal.nD Cert.SecondGradIdeal.τ Cert.SecondGradIdeal.sig) → Buf (Elt Ideal) ℓ) (g' : Dev Cert.SecondGradIdeal.nD → PrngReg), Pre_MlpDownDxIdeal m →
    (∀ c : Dev Cert.MlpDownDxIdeal.nD,
      m' ((c.tc : Thread Cert.SecondGradIdeal.nD Cert.SecondGradIdeal.τ).loc Cert.SecondGradIdeal.main_arg0) = m ((c.tc : Thread Cert.MlpDownDxIdeal.nD Cert.MlpDownDxIdeal.τ).loc Cert.MlpDownDxIdeal.main_arg0)
      ∧ m' ((c.tc : Thread Cert.SecondGradIdeal.nD Cert.SecondGradIdeal.τ).loc Cert.SecondGradIdeal.main_arg1) = m ((c.tc : Thread Cert.MlpDownDxIdeal.nD Cert.MlpDownDxIdeal.τ).loc Cert.MlpDownDxIdeal.main_arg1)
      ∧ m' ((c.tc : Thread Cert.SecondGradIdeal.nD Cert.SecondGradIdeal.τ).loc Cert.SecondGradIdeal.main_arg2) = m ((c.tc : Thread Cert.MlpDownDxIdeal.nD Cert.MlpDownDxIdeal.τ).loc Cert.MlpDownDxIdeal.main_arg2)) →
    ∃ (v0 : (c : Dev Cert.MlpDownDxIdeal.nD) → Buf (Elt Ideal) ((c.tc : Thread Cert.MlpDownDxIdeal.nD Cert.MlpDownDxIdeal.τ).loc Cert.MlpDownDxIdeal.main_v0)),
      θ_run (Cert.MlpDownDxIdeal.defs (F := Ideal)) (onTc (τ := Cert.MlpDownDxIdeal.τ) (Cert.MlpDownDxIdeal.main (F := Ideal))) ⟨m, fun _ => 0, g⟩ (fun r => ∀ c : Dev Cert.MlpDownDxIdeal.nD,
          r.2.mem ((c.tc : Thread Cert.MlpDownDxIdeal.nD Cert.MlpDownDxIdeal.τ).loc Cert.MlpDownDxIdeal.main_v0) = v0 c
          ∧ r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
          ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
          ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ θ_run (Cert.SecondGradIdeal.defs (F := Ideal)) (onTc (τ := Cert.SecondGradIdeal.τ) (Cert.SecondGradIdeal.main (F := Ideal))) ⟨m', fun _ => 0, g'⟩ (fun r => ∀ c : Dev Cert.SecondGradIdeal.nD,
          r.2.mem ((c.tc : Thread Cert.SecondGradIdeal.nD Cert.SecondGradIdeal.τ).loc Cert.SecondGradIdeal.main_v6) = v0 c
          ∧ r.2.mem ((c.tc : Thread Cert.SecondGradIdeal.nD Cert.SecondGradIdeal.τ).loc Cert.SecondGradIdeal.main_arg0) = m' ((c.tc : Thread Cert.SecondGradIdeal.nD Cert.SecondGradIdeal.τ).loc Cert.SecondGradIdeal.main_arg0)
          ∧ r.2.mem ((c.tc : Thread Cert.SecondGradIdeal.nD Cert.SecondGradIdeal.τ).loc Cert.SecondGradIdeal.main_arg1) = m' ((c.tc : Thread Cert.SecondGradIdeal.nD Cert.SecondGradIdeal.τ).loc Cert.SecondGradIdeal.main_arg1)
          ∧ r.2.mem ((c.tc : Thread Cert.SecondGradIdeal.nD Cert.SecondGradIdeal.τ).loc Cert.SecondGradIdeal.main_arg2) = m' ((c.tc : Thread Cert.SecondGradIdeal.nD Cert.SecondGradIdeal.τ).loc Cert.SecondGradIdeal.main_arg2))

def preserves_MlpUpDx_MlpUpDxIdeal : Prop :=
  True

def algebraic_MlpUpDxIdeal_FirstGradIdeal [hMlpUpDxIdeal : Cert.MlpUpDxIdeal.Facts] [hFirstGradIdeal : Cert.FirstGradIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg)
    (m' : (ℓ : Loc Cert.FirstGradIdeal.nD Cert.FirstGradIdeal.τ Cert.FirstGradIdeal.sig) → Buf (Elt Ideal) ℓ) (g' : Dev Cert.FirstGradIdeal.nD → PrngReg), Pre_MlpUpDxIdeal m →
    (∀ c : Dev Cert.MlpUpDxIdeal.nD,
      m' ((c.tc : Thread Cert.FirstGradIdeal.nD Cert.FirstGradIdeal.τ).loc Cert.FirstGradIdeal.main_arg0) = m ((c.tc : Thread Cert.MlpUpDxIdeal.nD Cert.MlpUpDxIdeal.τ).loc Cert.MlpUpDxIdeal.main_arg0)
      ∧ m' ((c.tc : Thread Cert.FirstGradIdeal.nD Cert.FirstGradIdeal.τ).loc Cert.FirstGradIdeal.main_arg1) = m ((c.tc : Thread Cert.MlpUpDxIdeal.nD Cert.MlpUpDxIdeal.τ).loc Cert.MlpUpDxIdeal.main_arg1)) →
    ∃ (v0 : (c : Dev Cert.MlpUpDxIdeal.nD) → Buf (Elt Ideal) ((c.tc : Thread Cert.MlpUpDxIdeal.nD Cert.MlpUpDxIdeal.τ).loc Cert.MlpUpDxIdeal.main_v0)),
      θ_run (Cert.MlpUpDxIdeal.defs (F := Ideal)) (onTc (τ := Cert.MlpUpDxIdeal.τ) (Cert.MlpUpDxIdeal.main (F := Ideal))) ⟨m, fun _ => 0, g⟩ (fun r => ∀ c : Dev Cert.MlpUpDxIdeal.nD,
          r.2.mem ((c.tc : Thread Cert.MlpUpDxIdeal.nD Cert.MlpUpDxIdeal.τ).loc Cert.MlpUpDxIdeal.main_v0) = v0 c
          ∧ r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
          ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1))
      ∧ θ_run (Cert.FirstGradIdeal.defs (F := Ideal)) (onTc (τ := Cert.FirstGradIdeal.τ) (Cert.FirstGradIdeal.main (F := Ideal))) ⟨m', fun _ => 0, g'⟩ (fun r => ∀ c : Dev Cert.FirstGradIdeal.nD,
          r.2.mem ((c.tc : Thread Cert.FirstGradIdeal.nD Cert.FirstGradIdeal.τ).loc Cert.FirstGradIdeal.main_v3) = v0 c
          ∧ r.2.mem ((c.tc : Thread Cert.FirstGradIdeal.nD Cert.FirstGradIdeal.τ).loc Cert.FirstGradIdeal.main_arg0) = m' ((c.tc : Thread Cert.FirstGradIdeal.nD Cert.FirstGradIdeal.τ).loc Cert.FirstGradIdeal.main_arg0)
          ∧ r.2.mem ((c.tc : Thread Cert.FirstGradIdeal.nD Cert.FirstGradIdeal.τ).loc Cert.FirstGradIdeal.main_arg1) = m' ((c.tc : Thread Cert.FirstGradIdeal.nD Cert.FirstGradIdeal.τ).loc Cert.FirstGradIdeal.main_arg1))

def preserves_OutProjDx_OutProjDxIdeal : Prop :=
  True

def algebraic_OutProjDxIdeal_OutputGradIdeal [hOutProjDxIdeal : Cert.OutProjDxIdeal.Facts] [hOutputGradIdeal : Cert.OutputGradIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutputGradIdeal.nD Cert.OutputGradIdeal.τ Cert.OutputGradIdeal.sig) → Buf (Elt Ideal) ℓ) (g' : Dev Cert.OutputGradIdeal.nD → PrngReg), Pre_OutProjDxIdeal m →
    (∀ c : Dev Cert.OutProjDxIdeal.nD,
      m' ((c.tc : Thread Cert.OutputGradIdeal.nD Cert.OutputGradIdeal.τ).loc Cert.OutputGradIdeal.main_arg0) = m ((c.tc : Thread Cert.OutProjDxIdeal.nD Cert.OutProjDxIdeal.τ).loc Cert.OutProjDxIdeal.main_arg0)
      ∧ m' ((c.tc : Thread Cert.OutputGradIdeal.nD Cert.OutputGradIdeal.τ).loc Cert.OutputGradIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutputGradIdeal.defs (F := Ideal)) (onTc (τ := Cert.OutputGradIdeal.τ) (Cert.OutputGradIdeal.main (F := Ideal))) ⟨m', fun _ => 0, g'⟩ (fun r => ∀ c : Dev Cert.OutputGradIdeal.nD,
          r.2.mem ((c.tc : Thread Cert.OutputGradIdeal.nD Cert.OutputGradIdeal.τ).loc Cert.OutputGradIdeal.main_v1) = v0 c
          ∧ r.2.mem ((c.tc : Thread Cert.OutputGradIdeal.nD Cert.OutputGradIdeal.τ).loc Cert.OutputGradIdeal.main_arg0) = m' ((c.tc : Thread Cert.OutputGradIdeal.nD Cert.OutputGradIdeal.τ).loc Cert.OutputGradIdeal.main_arg0)
          ∧ r.2.mem ((c.tc : Thread Cert.OutputGradIdeal.nD Cert.OutputGradIdeal.τ).loc Cert.OutputGradIdeal.main_arg1) = m' ((c.tc : Thread Cert.OutputGradIdeal.nD Cert.OutputGradIdeal.τ).loc Cert.OutputGradIdeal.main_arg1))

def preserves_InProjDx_InProjDxIdeal : Prop :=
  True

def algebraic_InProjDxIdeal_InputGradIdeal [hInProjDxIdeal : Cert.InProjDxIdeal.Facts] [hInputGradIdeal : Cert.InputGradIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InputGradIdeal.nD Cert.InputGradIdeal.τ Cert.InputGradIdeal.sig) → Buf (Elt Ideal) ℓ) (g' : Dev Cert.InputGradIdeal.nD → PrngReg), Pre_InProjDxIdeal m →
    (∀ c : Dev Cert.InProjDxIdeal.nD,
      m' ((c.tc : Thread Cert.InputGradIdeal.nD Cert.InputGradIdeal.τ).loc Cert.InputGradIdeal.main_arg0) = m ((c.tc : Thread Cert.InProjDxIdeal.nD Cert.InProjDxIdeal.τ).loc Cert.InProjDxIdeal.main_arg0)
      ∧ m' ((c.tc : Thread Cert.InputGradIdeal.nD Cert.InputGradIdeal.τ).loc Cert.InputGradIdeal.main_arg1) = m ((c.tc : Thread Cert.InProjDxIdeal.nD Cert.InProjDxIdeal.τ).loc Cert.InProjDxIdeal.main_arg1)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ θ_run (Cert.InputGradIdeal.defs (F := Ideal)) (onTc (τ := Cert.InputGradIdeal.τ) (Cert.InputGradIdeal.main (F := Ideal))) ⟨m', fun _ => 0, g'⟩ (fun r => ∀ c : Dev Cert.InputGradIdeal.nD,
          r.2.mem ((c.tc : Thread Cert.InputGradIdeal.nD Cert.InputGradIdeal.τ).loc Cert.InputGradIdeal.main_v0) = v0 c
          ∧ r.2.mem ((c.tc : Thread Cert.InputGradIdeal.nD Cert.InputGradIdeal.τ).loc Cert.InputGradIdeal.main_arg0) = m' ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m' ((c.tc : Thread Cert.InputGradIdeal.nD Cert.InputGradIdeal.τ).loc Cert.InputGradIdeal.main_arg1))

def Claim : Prop :=
  ∃ (hKernel : Cert.Kernel.Facts) (hKernelIdeal : Cert.KernelIdeal.Facts) (hReferenceIdeal : Cert.ReferenceIdeal.Facts) (hReference : Cert.Reference.Facts) (hReduce : Cert.Reduce.Facts) (hReduceIdeal : Cert.ReduceIdeal.Facts) (hTotalIdeal : Cert.TotalIdeal.Facts) (hAdamIn : Cert.AdamIn.Facts) (hAdamInIdeal : Cert.AdamInIdeal.Facts) (hStepInIdeal : Cert.StepInIdeal.Facts) (hAdamOut : Cert.AdamOut.Facts) (hAdamOutIdeal : Cert.AdamOutIdeal.Facts) (hStepOutIdeal : Cert.StepOutIdeal.Facts) (hAdamOne : Cert.AdamOne.Facts) (hAdamOneIdeal : Cert.AdamOneIdeal.Facts) (hStepMlpIdeal : Cert.StepMlpIdeal.Facts) (hAdamTwo : Cert.AdamTwo.Facts) (hAdamTwoIdeal : Cert.AdamTwoIdeal.Facts) (hAdamSmall : Cert.AdamSmall.Facts) (hAdamSmallIdeal : Cert.AdamSmallIdeal.Facts) (hStepSmallIdeal : Cert.StepSmallIdeal.Facts) (hNormMlp : Cert.NormMlp.Facts) (hNormMlpIdeal : Cert.NormMlpIdeal.Facts) (hNormGradIdeal : Cert.NormGradIdeal.Facts) (hNormAttn : Cert.NormAttn.Facts) (hNormAttnIdeal : Cert.NormAttnIdeal.Facts) (hLossHead : Cert.LossHead.Facts) (hLossHeadIdeal : Cert.LossHeadIdeal.Facts) (hLossGradIdeal : Cert.LossGradIdeal.Facts) (hMixBwd : Cert.MixBwd.Facts) (hMixBwdIdeal : Cert.MixBwdIdeal.Facts) (hMixGradIdeal : Cert.MixGradIdeal.Facts) (hProjBwd : Cert.ProjBwd.Facts) (hProjBwdIdeal : Cert.ProjBwdIdeal.Facts) (hProjGradIdeal : Cert.ProjGradIdeal.Facts) (hOutProjDw : Cert.OutProjDw.Facts) (hOutProjDwIdeal : Cert.OutProjDwIdeal.Facts) (hOutProjGradIdeal : Cert.OutProjGradIdeal.Facts) (hInProjDw : Cert.InProjDw.Facts) (hInProjDwIdeal : Cert.InProjDwIdeal.Facts) (hInProjGradIdeal : Cert.InProjGradIdeal.Facts) (hMlpDownDw : Cert.MlpDownDw.Facts) (hMlpDownDwIdeal : Cert.MlpDownDwIdeal.Facts) (hMlpDownGradIdeal : Cert.MlpDownGradIdeal.Facts) (hMlpUpDw : Cert.MlpUpDw.Facts) (hMlpUpDwIdeal : Cert.MlpUpDwIdeal.Facts) (hMlpUpGradIdeal : Cert.MlpUpGradIdeal.Facts) (hNormA : Cert.NormA.Facts) (hNormAIdeal : Cert.NormAIdeal.Facts) (hNormRefIdeal : Cert.NormRefIdeal.Facts) (hNormM : Cert.NormM.Facts) (hNormMIdeal : Cert.NormMIdeal.Facts) (hProjQa : Cert.ProjQa.Facts) (hProjQaIdeal : Cert.ProjQaIdeal.Facts) (hQueriesAIdeal : Cert.QueriesAIdeal.Facts) (hProjKva : Cert.ProjKva.Facts) (hProjKvaIdeal : Cert.ProjKvaIdeal.Facts) (hKeysValuesAIdeal : Cert.KeysValuesAIdeal.Facts) (hProjQb : Cert.ProjQb.Facts) (hProjQbIdeal : Cert.ProjQbIdeal.Facts) (hQueriesBIdeal : Cert.QueriesBIdeal.Facts) (hProjKb : Cert.ProjKb.Facts) (hProjKbIdeal : Cert.ProjKbIdeal.Facts) (hKeysBIdeal : Cert.KeysBIdeal.Facts) (hProjVb : Cert.ProjVb.Facts) (hProjVbIdeal : Cert.ProjVbIdeal.Facts) (hValuesBIdeal : Cert.ValuesBIdeal.Facts) (hOutProj : Cert.OutProj.Facts) (hOutProjIdeal : Cert.OutProjIdeal.Facts) (hOutputIdeal : Cert.OutputIdeal.Facts) (hMlpUp : Cert.MlpUp.Facts) (hMlpUpIdeal : Cert.MlpUpIdeal.Facts) (hFirstLayerIdeal : Cert.FirstLayerIdeal.Facts) (hMlpDown : Cert.MlpDown.Facts) (hMlpDownIdeal : Cert.MlpDownIdeal.Facts) (hSecondLayerIdeal : Cert.SecondLayerIdeal.Facts) (hMlpDownDx : Cert.MlpDownDx.Facts) (hMlpDownDxIdeal : Cert.MlpDownDxIdeal.Facts) (hSecondGradIdeal : Cert.SecondGradIdeal.Facts) (hMlpUpDx : Cert.MlpUpDx.Facts) (hMlpUpDxIdeal : Cert.MlpUpDxIdeal.Facts) (hFirstGradIdeal : Cert.FirstGradIdeal.Facts) (hOutProjDx : Cert.OutProjDx.Facts) (hOutProjDxIdeal : Cert.OutProjDxIdeal.Facts) (hOutputGradIdeal : Cert.OutputGradIdeal.Facts) (hInProjDx : Cert.InProjDx.Facts) (hInProjDxIdeal : Cert.InProjDxIdeal.Facts) (hInputGradIdeal : Cert.InputGradIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Reduce (hReduce := hReduce)
    ∧ quiescent_ReduceIdeal (hReduceIdeal := hReduceIdeal)
    ∧ quiescent_TotalIdeal (hTotalIdeal := hTotalIdeal)
    ∧ quiescent_AdamIn (hAdamIn := hAdamIn)
    ∧ quiescent_AdamInIdeal (hAdamInIdeal := hAdamInIdeal)
    ∧ quiescent_StepInIdeal (hStepInIdeal := hStepInIdeal)
    ∧ quiescent_AdamOut (hAdamOut := hAdamOut)
    ∧ quiescent_AdamOutIdeal (hAdamOutIdeal := hAdamOutIdeal)
    ∧ quiescent_StepOutIdeal (hStepOutIdeal := hStepOutIdeal)
    ∧ quiescent_AdamOne (hAdamOne := hAdamOne)
    ∧ quiescent_AdamOneIdeal (hAdamOneIdeal := hAdamOneIdeal)
    ∧ quiescent_StepMlpIdeal (hStepMlpIdeal := hStepMlpIdeal)
    ∧ quiescent_AdamTwo (hAdamTwo := hAdamTwo)
    ∧ quiescent_AdamTwoIdeal (hAdamTwoIdeal := hAdamTwoIdeal)
    ∧ quiescent_AdamSmall (hAdamSmall := hAdamSmall)
    ∧ quiescent_AdamSmallIdeal (hAdamSmallIdeal := hAdamSmallIdeal)
    ∧ quiescent_StepSmallIdeal (hStepSmallIdeal := hStepSmallIdeal)
    ∧ quiescent_NormMlp (hNormMlp := hNormMlp)
    ∧ quiescent_NormMlpIdeal (hNormMlpIdeal := hNormMlpIdeal)
    ∧ quiescent_NormGradIdeal (hNormGradIdeal := hNormGradIdeal)
    ∧ quiescent_NormAttn (hNormAttn := hNormAttn)
    ∧ quiescent_NormAttnIdeal (hNormAttnIdeal := hNormAttnIdeal)
    ∧ quiescent_LossHead (hLossHead := hLossHead)
    ∧ quiescent_LossHeadIdeal (hLossHeadIdeal := hLossHeadIdeal)
    ∧ quiescent_LossGradIdeal (hLossGradIdeal := hLossGradIdeal)
    ∧ quiescent_MixBwd (hMixBwd := hMixBwd)
    ∧ quiescent_MixBwdIdeal (hMixBwdIdeal := hMixBwdIdeal)
    ∧ quiescent_MixGradIdeal (hMixGradIdeal := hMixGradIdeal)
    ∧ quiescent_ProjBwd (hProjBwd := hProjBwd)
    ∧ quiescent_ProjBwdIdeal (hProjBwdIdeal := hProjBwdIdeal)
    ∧ quiescent_ProjGradIdeal (hProjGradIdeal := hProjGradIdeal)
    ∧ quiescent_OutProjDw (hOutProjDw := hOutProjDw)
    ∧ quiescent_OutProjDwIdeal (hOutProjDwIdeal := hOutProjDwIdeal)
    ∧ quiescent_OutProjGradIdeal (hOutProjGradIdeal := hOutProjGradIdeal)
    ∧ quiescent_InProjDw (hInProjDw := hInProjDw)
    ∧ quiescent_InProjDwIdeal (hInProjDwIdeal := hInProjDwIdeal)
    ∧ quiescent_InProjGradIdeal (hInProjGradIdeal := hInProjGradIdeal)
    ∧ quiescent_MlpDownDw (hMlpDownDw := hMlpDownDw)
    ∧ quiescent_MlpDownDwIdeal (hMlpDownDwIdeal := hMlpDownDwIdeal)
    ∧ quiescent_MlpDownGradIdeal (hMlpDownGradIdeal := hMlpDownGradIdeal)
    ∧ quiescent_MlpUpDw (hMlpUpDw := hMlpUpDw)
    ∧ quiescent_MlpUpDwIdeal (hMlpUpDwIdeal := hMlpUpDwIdeal)
    ∧ quiescent_MlpUpGradIdeal (hMlpUpGradIdeal := hMlpUpGradIdeal)
    ∧ quiescent_NormA (hNormA := hNormA)
    ∧ quiescent_NormAIdeal (hNormAIdeal := hNormAIdeal)
    ∧ quiescent_NormRefIdeal (hNormRefIdeal := hNormRefIdeal)
    ∧ quiescent_NormM (hNormM := hNormM)
    ∧ quiescent_NormMIdeal (hNormMIdeal := hNormMIdeal)
    ∧ quiescent_ProjQa (hProjQa := hProjQa)
    ∧ quiescent_ProjQaIdeal (hProjQaIdeal := hProjQaIdeal)
    ∧ quiescent_QueriesAIdeal (hQueriesAIdeal := hQueriesAIdeal)
    ∧ quiescent_ProjKva (hProjKva := hProjKva)
    ∧ quiescent_ProjKvaIdeal (hProjKvaIdeal := hProjKvaIdeal)
    ∧ quiescent_KeysValuesAIdeal (hKeysValuesAIdeal := hKeysValuesAIdeal)
    ∧ quiescent_ProjQb (hProjQb := hProjQb)
    ∧ quiescent_ProjQbIdeal (hProjQbIdeal := hProjQbIdeal)
    ∧ quiescent_QueriesBIdeal (hQueriesBIdeal := hQueriesBIdeal)
    ∧ quiescent_ProjKb (hProjKb := hProjKb)
    ∧ quiescent_ProjKbIdeal (hProjKbIdeal := hProjKbIdeal)
    ∧ quiescent_KeysBIdeal (hKeysBIdeal := hKeysBIdeal)
    ∧ quiescent_ProjVb (hProjVb := hProjVb)
    ∧ quiescent_ProjVbIdeal (hProjVbIdeal := hProjVbIdeal)
    ∧ quiescent_ValuesBIdeal (hValuesBIdeal := hValuesBIdeal)
    ∧ quiescent_OutProj (hOutProj := hOutProj)
    ∧ quiescent_OutProjIdeal (hOutProjIdeal := hOutProjIdeal)
    ∧ quiescent_OutputIdeal (hOutputIdeal := hOutputIdeal)
    ∧ quiescent_MlpUp (hMlpUp := hMlpUp)
    ∧ quiescent_MlpUpIdeal (hMlpUpIdeal := hMlpUpIdeal)
    ∧ quiescent_FirstLayerIdeal (hFirstLayerIdeal := hFirstLayerIdeal)
    ∧ quiescent_MlpDown (hMlpDown := hMlpDown)
    ∧ quiescent_MlpDownIdeal (hMlpDownIdeal := hMlpDownIdeal)
    ∧ quiescent_SecondLayerIdeal (hSecondLayerIdeal := hSecondLayerIdeal)
    ∧ quiescent_MlpDownDx (hMlpDownDx := hMlpDownDx)
    ∧ quiescent_MlpDownDxIdeal (hMlpDownDxIdeal := hMlpDownDxIdeal)
    ∧ quiescent_SecondGradIdeal (hSecondGradIdeal := hSecondGradIdeal)
    ∧ quiescent_MlpUpDx (hMlpUpDx := hMlpUpDx)
    ∧ quiescent_MlpUpDxIdeal (hMlpUpDxIdeal := hMlpUpDxIdeal)
    ∧ quiescent_FirstGradIdeal (hFirstGradIdeal := hFirstGradIdeal)
    ∧ quiescent_OutProjDx (hOutProjDx := hOutProjDx)
    ∧ quiescent_OutProjDxIdeal (hOutProjDxIdeal := hOutProjDxIdeal)
    ∧ quiescent_OutputGradIdeal (hOutputGradIdeal := hOutputGradIdeal)
    ∧ quiescent_InProjDx (hInProjDx := hInProjDx)
    ∧ quiescent_InProjDxIdeal (hInProjDxIdeal := hInProjDxIdeal)
    ∧ quiescent_InputGradIdeal (hInputGradIdeal := hInputGradIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Reduce_ReduceIdeal
    ∧ algebraic_ReduceIdeal_TotalIdeal (hReduceIdeal := hReduceIdeal) (hTotalIdeal := hTotalIdeal)
    ∧ preserves_AdamIn_AdamInIdeal
    ∧ algebraic_AdamInIdeal_StepInIdeal (hAdamInIdeal := hAdamInIdeal) (hStepInIdeal := hStepInIdeal)
    ∧ preserves_AdamOut_AdamOutIdeal
    ∧ algebraic_AdamOutIdeal_StepOutIdeal (hAdamOutIdeal := hAdamOutIdeal) (hStepOutIdeal := hStepOutIdeal)
    ∧ preserves_AdamOne_AdamOneIdeal
    ∧ algebraic_AdamOneIdeal_StepMlpIdeal (hAdamOneIdeal := hAdamOneIdeal) (hStepMlpIdeal := hStepMlpIdeal)
    ∧ preserves_AdamTwo_AdamTwoIdeal
    ∧ algebraic_AdamTwoIdeal_StepMlpIdeal (hAdamTwoIdeal := hAdamTwoIdeal) (hStepMlpIdeal := hStepMlpIdeal)
    ∧ preserves_AdamSmall_AdamSmallIdeal
    ∧ algebraic_AdamSmallIdeal_StepSmallIdeal (hAdamSmallIdeal := hAdamSmallIdeal) (hStepSmallIdeal := hStepSmallIdeal)
    ∧ preserves_NormMlp_NormMlpIdeal
    ∧ algebraic_NormMlpIdeal_NormGradIdeal (hNormMlpIdeal := hNormMlpIdeal) (hNormGradIdeal := hNormGradIdeal)
    ∧ preserves_NormAttn_NormAttnIdeal
    ∧ algebraic_NormAttnIdeal_NormGradIdeal (hNormAttnIdeal := hNormAttnIdeal) (hNormGradIdeal := hNormGradIdeal)
    ∧ preserves_LossHead_LossHeadIdeal
    ∧ algebraic_LossHeadIdeal_LossGradIdeal (hLossHeadIdeal := hLossHeadIdeal) (hLossGradIdeal := hLossGradIdeal)
    ∧ preserves_MixBwd_MixBwdIdeal
    ∧ algebraic_MixBwdIdeal_MixGradIdeal (hMixBwdIdeal := hMixBwdIdeal) (hMixGradIdeal := hMixGradIdeal)
    ∧ preserves_ProjBwd_ProjBwdIdeal
    ∧ algebraic_ProjBwdIdeal_ProjGradIdeal (hProjBwdIdeal := hProjBwdIdeal) (hProjGradIdeal := hProjGradIdeal)
    ∧ preserves_OutProjDw_OutProjDwIdeal
    ∧ algebraic_OutProjDwIdeal_OutProjGradIdeal (hOutProjDwIdeal := hOutProjDwIdeal) (hOutProjGradIdeal := hOutProjGradIdeal)
    ∧ preserves_InProjDw_InProjDwIdeal
    ∧ algebraic_InProjDwIdeal_InProjGradIdeal (hInProjDwIdeal := hInProjDwIdeal) (hInProjGradIdeal := hInProjGradIdeal)
    ∧ preserves_MlpDownDw_MlpDownDwIdeal
    ∧ algebraic_MlpDownDwIdeal_MlpDownGradIdeal (hMlpDownDwIdeal := hMlpDownDwIdeal) (hMlpDownGradIdeal := hMlpDownGradIdeal)
    ∧ preserves_MlpUpDw_MlpUpDwIdeal
    ∧ algebraic_MlpUpDwIdeal_MlpUpGradIdeal (hMlpUpDwIdeal := hMlpUpDwIdeal) (hMlpUpGradIdeal := hMlpUpGradIdeal)
    ∧ preserves_NormA_NormAIdeal
    ∧ algebraic_NormAIdeal_NormRefIdeal (hNormAIdeal := hNormAIdeal) (hNormRefIdeal := hNormRefIdeal)
    ∧ preserves_NormM_NormMIdeal
    ∧ algebraic_NormMIdeal_NormRefIdeal (hNormMIdeal := hNormMIdeal) (hNormRefIdeal := hNormRefIdeal)
    ∧ preserves_ProjQa_ProjQaIdeal
    ∧ algebraic_ProjQaIdeal_QueriesAIdeal (hProjQaIdeal := hProjQaIdeal) (hQueriesAIdeal := hQueriesAIdeal)
    ∧ preserves_ProjKva_ProjKvaIdeal
    ∧ algebraic_ProjKvaIdeal_KeysValuesAIdeal (hProjKvaIdeal := hProjKvaIdeal) (hKeysValuesAIdeal := hKeysValuesAIdeal)
    ∧ preserves_ProjQb_ProjQbIdeal
    ∧ algebraic_ProjQbIdeal_QueriesBIdeal (hProjQbIdeal := hProjQbIdeal) (hQueriesBIdeal := hQueriesBIdeal)
    ∧ preserves_ProjKb_ProjKbIdeal
    ∧ algebraic_ProjKbIdeal_KeysBIdeal (hProjKbIdeal := hProjKbIdeal) (hKeysBIdeal := hKeysBIdeal)
    ∧ preserves_ProjVb_ProjVbIdeal
    ∧ algebraic_ProjVbIdeal_ValuesBIdeal (hProjVbIdeal := hProjVbIdeal) (hValuesBIdeal := hValuesBIdeal)
    ∧ preserves_OutProj_OutProjIdeal
    ∧ algebraic_OutProjIdeal_OutputIdeal (hOutProjIdeal := hOutProjIdeal) (hOutputIdeal := hOutputIdeal)
    ∧ preserves_MlpUp_MlpUpIdeal
    ∧ algebraic_MlpUpIdeal_FirstLayerIdeal (hMlpUpIdeal := hMlpUpIdeal) (hFirstLayerIdeal := hFirstLayerIdeal)
    ∧ preserves_MlpDown_MlpDownIdeal
    ∧ algebraic_MlpDownIdeal_SecondLayerIdeal (hMlpDownIdeal := hMlpDownIdeal) (hSecondLayerIdeal := hSecondLayerIdeal)
    ∧ preserves_MlpDownDx_MlpDownDxIdeal
    ∧ algebraic_MlpDownDxIdeal_SecondGradIdeal (hMlpDownDxIdeal := hMlpDownDxIdeal) (hSecondGradIdeal := hSecondGradIdeal)
    ∧ preserves_MlpUpDx_MlpUpDxIdeal
    ∧ algebraic_MlpUpDxIdeal_FirstGradIdeal (hMlpUpDxIdeal := hMlpUpDxIdeal) (hFirstGradIdeal := hFirstGradIdeal)
    ∧ preserves_OutProjDx_OutProjDxIdeal
    ∧ algebraic_OutProjDxIdeal_OutputGradIdeal (hOutProjDxIdeal := hOutProjDxIdeal) (hOutputGradIdeal := hOutputGradIdeal)
    ∧ preserves_InProjDx_InProjDxIdeal
    ∧ algebraic_InProjDxIdeal_InputGradIdeal (hInProjDxIdeal := hInProjDxIdeal) (hInputGradIdeal := hInputGradIdeal)
-- ==== Kernel.lean ====
abbrev S1088x2048 : Shape := ⟨2, ![1088, 2048]⟩
abbrev S512x2048 : Shape := ⟨2, ![512, 2048]⟩
abbrev S2048x2048 : Shape := ⟨2, ![2048, 2048]⟩
abbrev S4352x2048 : Shape := ⟨2, ![4352, 2048]⟩
abbrev S8192x2048 : Shape := ⟨2, ![8192, 2048]⟩
abbrev S4 : Shape := ⟨1, ![4]⟩
abbrev S4x3 : Shape := ⟨2, ![4, 3]⟩
abbrev S1 : Shape := ⟨1, ![1]⟩
abbrev S_ : Shape := ⟨0, ![]⟩
abbrev S1x1 : Shape := ⟨2, ![1, 1]⟩
abbrev S544x2048 : Shape := ⟨2, ![544, 2048]⟩
abbrev S256x2048 : Shape := ⟨2, ![256, 2048]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1088x2048, .bf16⟩
  | .hbm, ⟨1, _⟩ => ⟨S512x2048, .bf16⟩
  | .hbm, ⟨2, _⟩ => ⟨S2048x2048, .bf16⟩
  | .hbm, ⟨3, _⟩ => ⟨S2048x2048, .bf16⟩
  | .hbm, ⟨4, _⟩ => ⟨S4352x2048, .bf16⟩
  | .hbm, ⟨5, _⟩ => ⟨S2048x2048, .bf16⟩
  | .hbm, ⟨6, _⟩ => ⟨S8192x2048, .bf16⟩
  | .hbm, ⟨7, _⟩ => ⟨S8192x2048, .bf16⟩
  | _, _ => ⟨S1088x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_mult1 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_9 : BitVec 32 := 2#32
  let v16 : BitVec 32 := Scalar.muli v10 c2_i32_9
  let c544_i32 : BitVec 32 := 544#32
  let v17 : BitVec 32 := Scalar.muli v16 c544_i32
  v17
def k0_off1 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_9 : BitVec 32 := 2#32
  let v16 : BitVec 32 := Scalar.muli v10 c2_i32_9
  let c544_i32 : BitVec 32 := 544#32
  let v17 : BitVec 32 := Scalar.muli v16 c544_i32
  let v18 : BitVec 32 := v17
  let c0_i32_10 : BitVec 32 := 0#32
  ![v18.toNat, 0]
def k0_mult2 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_11 : BitVec 32 := 2#32
  let v22 : BitVec 32 := Scalar.muli v10 c2_i32_11
  let c256_i32 : BitVec 32 := 256#32
  let v23 : BitVec 32 := Scalar.muli v22 c256_i32
  v23
def k0_off2 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_11 : BitVec 32 := 2#32
  let v22 : BitVec 32 := Scalar.muli v10 c2_i32_11
  let c256_i32 : BitVec 32 := 256#32
  let v23 : BitVec 32 := Scalar.muli v22 c256_i32
  let v24 : BitVec 32 := v23
  let c0_i32_13 : BitVec 32 := 0#32
  ![v24.toNat, 0]
def k0_mult3 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_14 : BitVec 32 := 2#32
  let v28 : BitVec 32 := Scalar.muli v10 c2_i32_14
  let c1024_i32 : BitVec 32 := 1024#32
  let v29 : BitVec 32 := Scalar.muli v28 c1024_i32
  v29
def k0_off3 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_14 : BitVec 32 := 2#32
  let v28 : BitVec 32 := Scalar.muli v10 c2_i32_14
  let c1024_i32 : BitVec 32 := 1024#32
  let v29 : BitVec 32 := Scalar.muli v28 c1024_i32
  let v30 : BitVec 32 := v29
  let c0_i32_16 : BitVec 32 := 0#32
  ![v30.toNat, 0]
def k0_mult4 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2_i32_17 : BitVec 32 := 2#32
  let v34 : BitVec 32 := Scalar.muli v10 c2_i32_17
  let c1024_i32_18 : BitVec 32 := 1024#32
  let v35 : BitVec 32 := Scalar.muli v34 c1024_i32_18
  v35
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_20 : BitVec 32 := 544#32
  let v40 : BitVec 32 := Scalar.muli v8 c544_i32_20
  v40
def k0_mult6 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1088_i32 : BitVec 32 := 1088#32
  let v42 : BitVec 32 := Scalar.muli v10 c1088_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_21 : BitVec 32 := 544#32
  let v43 : BitVec 32 := Scalar.muli v8 c544_i32_21
  let v44 : BitVec 32 := Scalar.addi v42 v43
  v44
def k0_off4 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1088_i32 : BitVec 32 := 1088#32
  let v42 : BitVec 32 := Scalar.muli v10 c1088_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_21 : BitVec 32 := 544#32
  let v43 : BitVec 32 := Scalar.muli v8 c544_i32_21
  let v44 : BitVec 32 := Scalar.addi v42 v43
  let v45 : BitVec 32 := v44
  let c0_i32_30 : BitVec 32 := 0#32
  ![v45.toNat, 0]
def k0_off5 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_20 : BitVec 32 := 544#32
  let v40 : BitVec 32 := Scalar.muli v8 c544_i32_20
  let v41 : BitVec 32 := v40
  let c0_i32_31 : BitVec 32 := 0#32
  ![v41.toNat, 0]
def k0_dev1 (d0 : Dev nD) : Nat :=
  let c0_i32_27 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_26 : BitVec 32 := 4#32
  let v46 : BitVec 32 := Scalar.muli v12 c4_i32_26
  let v47 : BitVec 32 := Scalar.addi c0_i32_27 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v48 : BitVec 32 := Scalar.muli v5 c2_i32_28
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v50 : BitVec 32 := Scalar.muli v8 c1_i32_29
  let v51 : BitVec 32 := Scalar.addi v49 v50
  v51.toNat
def k0_mult7 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1088_i32_32 : BitVec 32 := 1088#32
  let v58 : BitVec 32 := Scalar.muli v10 c1088_i32_32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_33 : BitVec 32 := 544#32
  let v59 : BitVec 32 := Scalar.muli v8 c544_i32_33
  let v60 : BitVec 32 := Scalar.addi v58 v59
  v60
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v62 : BitVec 32 := Scalar.muli v2 c4_i32_38
  let v63 : BitVec 32 := Scalar.addi c0_i32_39 v62
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_40 : BitVec 32 := 2#32
  let v64 : BitVec 32 := Scalar.muli v13 c2_i32_40
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v66 : BitVec 32 := Scalar.muli v8 c1_i32_41
  let v67 : BitVec 32 := Scalar.addi v65 v66
  v67.toNat
def k0_mult8 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1088_i32_44 : BitVec 32 := 1088#32
  let v74 : BitVec 32 := Scalar.muli v10 c1088_i32_44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_45 : BitVec 32 := 544#32
  let v75 : BitVec 32 := Scalar.muli v8 c544_i32_45
  let v76 : BitVec 32 := Scalar.addi v74 v75
  v76
def k0_dev3 (d0 : Dev nD) : Nat :=
  let c0_i32_51 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_50 : BitVec 32 := 4#32
  let v78 : BitVec 32 := Scalar.muli v14 c4_i32_50
  let v79 : BitVec 32 := Scalar.addi c0_i32_51 v78
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_52 : BitVec 32 := 2#32
  let v80 : BitVec 32 := Scalar.muli v15 c2_i32_52
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v82 : BitVec 32 := Scalar.muli v8 c1_i32_53
  let v83 : BitVec 32 := Scalar.addi v81 v82
  v83.toNat
def k0_mult9 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_56 : BitVec 32 := 256#32
  let v90 : BitVec 32 := Scalar.muli v8 c256_i32_56
  v90
def k0_mult10 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v92 : BitVec 32 := Scalar.muli v10 c512_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_57 : BitVec 32 := 256#32
  let v93 : BitVec 32 := Scalar.muli v8 c256_i32_57
  let v94 : BitVec 32 := Scalar.addi v92 v93
  v94
def k0_off6 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v92 : BitVec 32 := Scalar.muli v10 c512_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_57 : BitVec 32 := 256#32
  let v93 : BitVec 32 := Scalar.muli v8 c256_i32_57
  let v94 : BitVec 32 := Scalar.addi v92 v93
  let v95 : BitVec 32 := v94
  let c0_i32_66 : BitVec 32 := 0#32
  ![v95.toNat, 0]
def k0_off7 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_56 : BitVec 32 := 256#32
  let v90 : BitVec 32 := Scalar.muli v8 c256_i32_56
  let v91 : BitVec 32 := v90
  let c0_i32_67 : BitVec 32 := 0#32
  ![v91.toNat, 0]
def k0_dev4 (d0 : Dev nD) : Nat :=
  let c0_i32_63 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_62 : BitVec 32 := 4#32
  let v96 : BitVec 32 := Scalar.muli v12 c4_i32_62
  let v97 : BitVec 32 := Scalar.addi c0_i32_63 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v98 : BitVec 32 := Scalar.muli v5 c2_i32_64
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v100 : BitVec 32 := Scalar.muli v8 c1_i32_65
  let v101 : BitVec 32 := Scalar.addi v99 v100
  v101.toNat
def k0_mult11 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_68 : BitVec 32 := 512#32
  let v108 : BitVec 32 := Scalar.muli v10 c512_i32_68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_69 : BitVec 32 := 256#32
  let v109 : BitVec 32 := Scalar.muli v8 c256_i32_69
  let v110 : BitVec 32 := Scalar.addi v108 v109
  v110
def k0_dev5 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v112 : BitVec 32 := Scalar.muli v2 c4_i32_74
  let v113 : BitVec 32 := Scalar.addi c0_i32_75 v112
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_76 : BitVec 32 := 2#32
  let v114 : BitVec 32 := Scalar.muli v13 c2_i32_76
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v116 : BitVec 32 := Scalar.muli v8 c1_i32_77
  let v117 : BitVec 32 := Scalar.addi v115 v116
  v117.toNat
def k0_mult12 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_80 : BitVec 32 := 512#32
  let v124 : BitVec 32 := Scalar.muli v10 c512_i32_80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_81 : BitVec 32 := 256#32
  let v125 : BitVec 32 := Scalar.muli v8 c256_i32_81
  let v126 : BitVec 32 := Scalar.addi v124 v125
  v126
def k0_dev6 (d0 : Dev nD) : Nat :=
  let c0_i32_87 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_86 : BitVec 32 := 4#32
  let v128 : BitVec 32 := Scalar.muli v14 c4_i32_86
  let v129 : BitVec 32 := Scalar.addi c0_i32_87 v128
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_88 : BitVec 32 := 2#32
  let v130 : BitVec 32 := Scalar.muli v15 c2_i32_88
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v132 : BitVec 32 := Scalar.muli v8 c1_i32_89
  let v133 : BitVec 32 := Scalar.addi v131 v132
  v133.toNat
def k0_mult13 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_92 : BitVec 32 := 1024#32
  let v140 : BitVec 32 := Scalar.muli v8 c1024_i32_92
  v140
def k0_mult14 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32 : BitVec 32 := 2048#32
  let v142 : BitVec 32 := Scalar.muli v10 c2048_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_93 : BitVec 32 := 1024#32
  let v143 : BitVec 32 := Scalar.muli v8 c1024_i32_93
  let v144 : BitVec 32 := Scalar.addi v142 v143
  v144
def k0_off8 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32 : BitVec 32 := 2048#32
  let v142 : BitVec 32 := Scalar.muli v10 c2048_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_93 : BitVec 32 := 1024#32
  let v143 : BitVec 32 := Scalar.muli v8 c1024_i32_93
  let v144 : BitVec 32 := Scalar.addi v142 v143
  let v145 : BitVec 32 := v144
  let c0_i32_102 : BitVec 32 := 0#32
  ![v145.toNat, 0]
def k0_off9 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_92 : BitVec 32 := 1024#32
  let v140 : BitVec 32 := Scalar.muli v8 c1024_i32_92
  let v141 : BitVec 32 := v140
  let c0_i32_103 : BitVec 32 := 0#32
  ![v141.toNat, 0]
def k0_dev7 (d0 : Dev nD) : Nat :=
  let c0_i32_99 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_98 : BitVec 32 := 4#32
  let v146 : BitVec 32 := Scalar.muli v12 c4_i32_98
  let v147 : BitVec 32 := Scalar.addi c0_i32_99 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v148 : BitVec 32 := Scalar.muli v5 c2_i32_100
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v150 : BitVec 32 := Scalar.muli v8 c1_i32_101
  let v151 : BitVec 32 := Scalar.addi v149 v150
  v151.toNat
def k0_mult15 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_104 : BitVec 32 := 2048#32
  let v158 : BitVec 32 := Scalar.muli v10 c2048_i32_104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_105 : BitVec 32 := 1024#32
  let v159 : BitVec 32 := Scalar.muli v8 c1024_i32_105
  let v160 : BitVec 32 := Scalar.addi v158 v159
  v160
def k0_dev8 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v162 : BitVec 32 := Scalar.muli v2 c4_i32_110
  let v163 : BitVec 32 := Scalar.addi c0_i32_111 v162
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_112 : BitVec 32 := 2#32
  let v164 : BitVec 32 := Scalar.muli v13 c2_i32_112
  let v165 : BitVec 32 := Scalar.addi v163 v164
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v166 : BitVec 32 := Scalar.muli v8 c1_i32_113
  let v167 : BitVec 32 := Scalar.addi v165 v166
  v167.toNat
def k0_mult16 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_116 : BitVec 32 := 2048#32
  let v174 : BitVec 32 := Scalar.muli v10 c2048_i32_116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_117 : BitVec 32 := 1024#32
  let v175 : BitVec 32 := Scalar.muli v8 c1024_i32_117
  let v176 : BitVec 32 := Scalar.addi v174 v175
  v176
def k0_dev9 (d0 : Dev nD) : Nat :=
  let c0_i32_123 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_122 : BitVec 32 := 4#32
  let v178 : BitVec 32 := Scalar.muli v14 c4_i32_122
  let v179 : BitVec 32 := Scalar.addi c0_i32_123 v178
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_124 : BitVec 32 := 2#32
  let v180 : BitVec 32 := Scalar.muli v15 c2_i32_124
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v182 : BitVec 32 := Scalar.muli v8 c1_i32_125
  let v183 : BitVec 32 := Scalar.addi v181 v182
  v183.toNat
def k0_mult17 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_128 : BitVec 32 := 1024#32
  let v190 : BitVec 32 := Scalar.muli v8 c1024_i32_128
  v190
def k0_mult18 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_129 : BitVec 32 := 2048#32
  let v192 : BitVec 32 := Scalar.muli v10 c2048_i32_129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_130 : BitVec 32 := 1024#32
  let v193 : BitVec 32 := Scalar.muli v8 c1024_i32_130
  let v194 : BitVec 32 := Scalar.addi v192 v193
  v194
def k0_dev10 (d0 : Dev nD) : Nat :=
  let c0_i32_136 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_135 : BitVec 32 := 4#32
  let v196 : BitVec 32 := Scalar.muli v12 c4_i32_135
  let v197 : BitVec 32 := Scalar.addi c0_i32_136 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v198 : BitVec 32 := Scalar.muli v5 c2_i32_137
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v200 : BitVec 32 := Scalar.muli v8 c1_i32_138
  let v201 : BitVec 32 := Scalar.addi v199 v200
  v201.toNat
def k0_mult19 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_141 : BitVec 32 := 2048#32
  let v208 : BitVec 32 := Scalar.muli v10 c2048_i32_141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_142 : BitVec 32 := 1024#32
  let v209 : BitVec 32 := Scalar.muli v8 c1024_i32_142
  let v210 : BitVec 32 := Scalar.addi v208 v209
  v210
def k0_dev11 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v212 : BitVec 32 := Scalar.muli v2 c4_i32_147
  let v213 : BitVec 32 := Scalar.addi c0_i32_148 v212
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_149 : BitVec 32 := 2#32
  let v214 : BitVec 32 := Scalar.muli v13 c2_i32_149
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v216 : BitVec 32 := Scalar.muli v8 c1_i32_150
  let v217 : BitVec 32 := Scalar.addi v215 v216
  v217.toNat
def k0_mult20 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_153 : BitVec 32 := 2048#32
  let v224 : BitVec 32 := Scalar.muli v10 c2048_i32_153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_154 : BitVec 32 := 1024#32
  let v225 : BitVec 32 := Scalar.muli v8 c1024_i32_154
  let v226 : BitVec 32 := Scalar.addi v224 v225
  v226
def k0_dev12 (d0 : Dev nD) : Nat :=
  let c0_i32_160 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_159 : BitVec 32 := 4#32
  let v228 : BitVec 32 := Scalar.muli v14 c4_i32_159
  let v229 : BitVec 32 := Scalar.addi c0_i32_160 v228
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_161 : BitVec 32 := 2#32
  let v230 : BitVec 32 := Scalar.muli v15 c2_i32_161
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v232 : BitVec 32 := Scalar.muli v8 c1_i32_162
  let v233 : BitVec 32 := Scalar.addi v231 v232
  v233.toNat
def k0_mult21 (d0 : Dev nD) : BitVec 32 :=
  let c2_i32_165 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v240 : BitVec 32 := Scalar.muli c2_i32_165 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v241 : BitVec 32 := Scalar.addi v240 v5
  let c1088_i32_166 : BitVec 32 := 1088#32
  let v242 : BitVec 32 := Scalar.muli v241 c1088_i32_166
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_167 : BitVec 32 := 544#32
  let v243 : BitVec 32 := Scalar.muli v8 c544_i32_167
  let v244 : BitVec 32 := Scalar.addi v242 v243
  v244
def k0_off10 (d0 : Dev nD) : Fin 2 → Nat :=
  let c2_i32_165 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v240 : BitVec 32 := Scalar.muli c2_i32_165 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v241 : BitVec 32 := Scalar.addi v240 v5
  let c1088_i32_166 : BitVec 32 := 1088#32
  let v242 : BitVec 32 := Scalar.muli v241 c1088_i32_166
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_167 : BitVec 32 := 544#32
  let v243 : BitVec 32 := Scalar.muli v8 c544_i32_167
  let v244 : BitVec 32 := Scalar.addi v242 v243
  let v245 : BitVec 32 := v244
  let c0_i32_176 : BitVec 32 := 0#32
  ![v245.toNat, 0]
def k0_dev13 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v256 : BitVec 32 := Scalar.muli v2 c4_i32_182
  let v257 : BitVec 32 := Scalar.addi c0_i32_183 v256
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_184 : BitVec 32 := 2#32
  let v258 : BitVec 32 := Scalar.muli v5 c2_i32_184
  let v259 : BitVec 32 := Scalar.addi v257 v258
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_185 : BitVec 32 := 1#32
  let v260 : BitVec 32 := Scalar.muli v11 c1_i32_185
  let v261 : BitVec 32 := Scalar.addi v259 v260
  v261.toNat
def k0_mult22 (d0 : Dev nD) : BitVec 32 :=
  let c2_i32_188 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v268 : BitVec 32 := Scalar.muli c2_i32_188 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v269 : BitVec 32 := Scalar.addi v268 v5
  let c512_i32_189 : BitVec 32 := 512#32
  let v270 : BitVec 32 := Scalar.muli v269 c512_i32_189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_190 : BitVec 32 := 256#32
  let v271 : BitVec 32 := Scalar.muli v8 c256_i32_190
  let v272 : BitVec 32 := Scalar.addi v270 v271
  v272
def k0_off11 (d0 : Dev nD) : Fin 2 → Nat :=
  let c2_i32_188 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v268 : BitVec 32 := Scalar.muli c2_i32_188 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v269 : BitVec 32 := Scalar.addi v268 v5
  let c512_i32_189 : BitVec 32 := 512#32
  let v270 : BitVec 32 := Scalar.muli v269 c512_i32_189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_190 : BitVec 32 := 256#32
  let v271 : BitVec 32 := Scalar.muli v8 c256_i32_190
  let v272 : BitVec 32 := Scalar.addi v270 v271
  let v273 : BitVec 32 := v272
  let c0_i32_199 : BitVec 32 := 0#32
  ![v273.toNat, 0]
def k0_dev14 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v284 : BitVec 32 := Scalar.muli v2 c4_i32_205
  let v285 : BitVec 32 := Scalar.addi c0_i32_206 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v286 : BitVec 32 := Scalar.muli v5 c2_i32_207
  let v287 : BitVec 32 := Scalar.addi v285 v286
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_208 : BitVec 32 := 1#32
  let v288 : BitVec 32 := Scalar.muli v11 c1_i32_208
  let v289 : BitVec 32 := Scalar.addi v287 v288
  v289.toNat
def k0_mult23 (d0 : Dev nD) : BitVec 32 :=
  let c2_i32_211 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v296 : BitVec 32 := Scalar.muli c2_i32_211 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v297 : BitVec 32 := Scalar.addi v296 v5
  let c2048_i32_212 : BitVec 32 := 2048#32
  let v298 : BitVec 32 := Scalar.muli v297 c2048_i32_212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_213 : BitVec 32 := 1024#32
  let v299 : BitVec 32 := Scalar.muli v8 c1024_i32_213
  let v300 : BitVec 32 := Scalar.addi v298 v299
  v300
def k0_off12 (d0 : Dev nD) : Fin 2 → Nat :=
  let c2_i32_211 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v296 : BitVec 32 := Scalar.muli c2_i32_211 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v297 : BitVec 32 := Scalar.addi v296 v5
  let c2048_i32_212 : BitVec 32 := 2048#32
  let v298 : BitVec 32 := Scalar.muli v297 c2048_i32_212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_213 : BitVec 32 := 1024#32
  let v299 : BitVec 32 := Scalar.muli v8 c1024_i32_213
  let v300 : BitVec 32 := Scalar.addi v298 v299
  let v301 : BitVec 32 := v300
  let c0_i32_222 : BitVec 32 := 0#32
  ![v301.toNat, 0]
def k0_dev15 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v312 : BitVec 32 := Scalar.muli v2 c4_i32_228
  let v313 : BitVec 32 := Scalar.addi c0_i32_229 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v314 : BitVec 32 := Scalar.muli v5 c2_i32_230
  let v315 : BitVec 32 := Scalar.addi v313 v314
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_231 : BitVec 32 := 1#32
  let v316 : BitVec 32 := Scalar.muli v11 c1_i32_231
  let v317 : BitVec 32 := Scalar.addi v315 v316
  v317.toNat
def k0_mult24 (d0 : Dev nD) : BitVec 32 :=
  let c2_i32_234 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v324 : BitVec 32 := Scalar.muli c2_i32_234 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v325 : BitVec 32 := Scalar.addi v324 v5
  let c2048_i32_235 : BitVec 32 := 2048#32
  let v326 : BitVec 32 := Scalar.muli v325 c2048_i32_235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_236 : BitVec 32 := 1024#32
  let v327 : BitVec 32 := Scalar.muli v8 c1024_i32_236
  let v328 : BitVec 32 := Scalar.addi v326 v327
  v328
def k0_dev16 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_251 : BitVec 32 := 4#32
  let v340 : BitVec 32 := Scalar.muli v2 c4_i32_251
  let v341 : BitVec 32 := Scalar.addi c0_i32_252 v340
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_253 : BitVec 32 := 2#32
  let v342 : BitVec 32 := Scalar.muli v5 c2_i32_253
  let v343 : BitVec 32 := Scalar.addi v341 v342
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_254 : BitVec 32 := 1#32
  let v344 : BitVec 32 := Scalar.muli v11 c1_i32_254
  let v345 : BitVec 32 := Scalar.addi v343 v344
  v345.toNat
def k0_mult25 (d0 : Dev nD) : BitVec 32 :=
  let c2_i32_257 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v352 : BitVec 32 := Scalar.muli c2_i32_257 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v353 : BitVec 32 := Scalar.addi v352 v13
  let c1088_i32_258 : BitVec 32 := 1088#32
  let v354 : BitVec 32 := Scalar.muli v353 c1088_i32_258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_259 : BitVec 32 := 544#32
  let v355 : BitVec 32 := Scalar.muli v8 c544_i32_259
  let v356 : BitVec 32 := Scalar.addi v354 v355
  v356
def k0_off13 (d0 : Dev nD) : Fin 2 → Nat :=
  let c2_i32_257 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v352 : BitVec 32 := Scalar.muli c2_i32_257 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v353 : BitVec 32 := Scalar.addi v352 v13
  let c1088_i32_258 : BitVec 32 := 1088#32
  let v354 : BitVec 32 := Scalar.muli v353 c1088_i32_258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_259 : BitVec 32 := 544#32
  let v355 : BitVec 32 := Scalar.muli v8 c544_i32_259
  let v356 : BitVec 32 := Scalar.addi v354 v355
  let v357 : BitVec 32 := v356
  let c0_i32_268 : BitVec 32 := 0#32
  ![v357.toNat, 0]
def k0_dev17 (d0 : Dev nD) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v368 : BitVec 32 := Scalar.muli v2 c4_i32_274
  let v369 : BitVec 32 := Scalar.addi c0_i32_275 v368
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v370 : BitVec 32 := Scalar.muli v5 c2_i32_276
  let v371 : BitVec 32 := Scalar.addi v369 v370
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_277 : BitVec 32 := 1#32
  let v372 : BitVec 32 := Scalar.muli v11 c1_i32_277
  let v373 : BitVec 32 := Scalar.addi v371 v372
  v373.toNat
def k0_mult26 (d0 : Dev nD) : BitVec 32 :=
  let c2_i32_280 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v380 : BitVec 32 := Scalar.muli c2_i32_280 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v381 : BitVec 32 := Scalar.addi v380 v13
  let c512_i32_281 : BitVec 32 := 512#32
  let v382 : BitVec 32 := Scalar.muli v381 c512_i32_281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_282 : BitVec 32 := 256#32
  let v383 : BitVec 32 := Scalar.muli v8 c256_i32_282
  let v384 : BitVec 32 := Scalar.addi v382 v383
  v384
def k0_off14 (d0 : Dev nD) : Fin 2 → Nat :=
  let c2_i32_280 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v380 : BitVec 32 := Scalar.muli c2_i32_280 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v381 : BitVec 32 := Scalar.addi v380 v13
  let c512_i32_281 : BitVec 32 := 512#32
  let v382 : BitVec 32 := Scalar.muli v381 c512_i32_281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_282 : BitVec 32 := 256#32
  let v383 : BitVec 32 := Scalar.muli v8 c256_i32_282
  let v384 : BitVec 32 := Scalar.addi v382 v383
  let v385 : BitVec 32 := v384
  let c0_i32_291 : BitVec 32 := 0#32
  ![v385.toNat, 0]
def k0_dev18 (d0 : Dev nD) : Nat :=
  let c0_i32_298 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_297 : BitVec 32 := 4#32
  let v396 : BitVec 32 := Scalar.muli v2 c4_i32_297
  let v397 : BitVec 32 := Scalar.addi c0_i32_298 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v398 : BitVec 32 := Scalar.muli v5 c2_i32_299
  let v399 : BitVec 32 := Scalar.addi v397 v398
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_300 : BitVec 32 := 1#32
  let v400 : BitVec 32 := Scalar.muli v11 c1_i32_300
  let v401 : BitVec 32 := Scalar.addi v399 v400
  v401.toNat
def k0_mult27 (d0 : Dev nD) : BitVec 32 :=
  let c2_i32_303 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.muli c2_i32_303 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v409 : BitVec 32 := Scalar.addi v408 v13
  let c2048_i32_304 : BitVec 32 := 2048#32
  let v410 : BitVec 32 := Scalar.muli v409 c2048_i32_304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_305 : BitVec 32 := 1024#32
  let v411 : BitVec 32 := Scalar.muli v8 c1024_i32_305
  let v412 : BitVec 32 := Scalar.addi v410 v411
  v412
def k0_off15 (d0 : Dev nD) : Fin 2 → Nat :=
  let c2_i32_303 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.muli c2_i32_303 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v409 : BitVec 32 := Scalar.addi v408 v13
  let c2048_i32_304 : BitVec 32 := 2048#32
  let v410 : BitVec 32 := Scalar.muli v409 c2048_i32_304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_305 : BitVec 32 := 1024#32
  let v411 : BitVec 32 := Scalar.muli v8 c1024_i32_305
  let v412 : BitVec 32 := Scalar.addi v410 v411
  let v413 : BitVec 32 := v412
  let c0_i32_314 : BitVec 32 := 0#32
  ![v413.toNat, 0]
def k0_dev19 (d0 : Dev nD) : Nat :=
  let c0_i32_321 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_320 : BitVec 32 := 4#32
  let v424 : BitVec 32 := Scalar.muli v2 c4_i32_320
  let v425 : BitVec 32 := Scalar.addi c0_i32_321 v424
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_322 : BitVec 32 := 2#32
  let v426 : BitVec 32 := Scalar.muli v5 c2_i32_322
  let v427 : BitVec 32 := Scalar.addi v425 v426
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_323 : BitVec 32 := 1#32
  let v428 : BitVec 32 := Scalar.muli v11 c1_i32_323
  let v429 : BitVec 32 := Scalar.addi v427 v428
  v429.toNat
def k0_mult28 (d0 : Dev nD) : BitVec 32 :=
  let c2_i32_326 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v436 : BitVec 32 := Scalar.muli c2_i32_326 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v437 : BitVec 32 := Scalar.addi v436 v13
  let c2048_i32_327 : BitVec 32 := 2048#32
  let v438 : BitVec 32 := Scalar.muli v437 c2048_i32_327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_328 : BitVec 32 := 1024#32
  let v439 : BitVec 32 := Scalar.muli v8 c1024_i32_328
  let v440 : BitVec 32 := Scalar.addi v438 v439
  v440
def k0_dev20 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v452 : BitVec 32 := Scalar.muli v2 c4_i32_343
  let v453 : BitVec 32 := Scalar.addi c0_i32_344 v452
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v454 : BitVec 32 := Scalar.muli v5 c2_i32_345
  let v455 : BitVec 32 := Scalar.addi v453 v454
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_346 : BitVec 32 := 1#32
  let v456 : BitVec 32 := Scalar.muli v11 c1_i32_346
  let v457 : BitVec 32 := Scalar.addi v455 v456
  v457.toNat
def k0_mult29 (d0 : Dev nD) : BitVec 32 :=
  let c2_i32_349 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v464 : BitVec 32 := Scalar.muli c2_i32_349 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v465 : BitVec 32 := Scalar.addi v464 v15
  let c1088_i32_350 : BitVec 32 := 1088#32
  let v466 : BitVec 32 := Scalar.muli v465 c1088_i32_350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_351 : BitVec 32 := 544#32
  let v467 : BitVec 32 := Scalar.muli v8 c544_i32_351
  let v468 : BitVec 32 := Scalar.addi v466 v467
  v468
def k0_off16 (d0 : Dev nD) : Fin 2 → Nat :=
  let c2_i32_349 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v464 : BitVec 32 := Scalar.muli c2_i32_349 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v465 : BitVec 32 := Scalar.addi v464 v15
  let c1088_i32_350 : BitVec 32 := 1088#32
  let v466 : BitVec 32 := Scalar.muli v465 c1088_i32_350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_351 : BitVec 32 := 544#32
  let v467 : BitVec 32 := Scalar.muli v8 c544_i32_351
  let v468 : BitVec 32 := Scalar.addi v466 v467
  let v469 : BitVec 32 := v468
  let c0_i32_360 : BitVec 32 := 0#32
  ![v469.toNat, 0]
def k0_dev21 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_366 : BitVec 32 := 4#32
  let v480 : BitVec 32 := Scalar.muli v2 c4_i32_366
  let v481 : BitVec 32 := Scalar.addi c0_i32_367 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_368 : BitVec 32 := 2#32
  let v482 : BitVec 32 := Scalar.muli v5 c2_i32_368
  let v483 : BitVec 32 := Scalar.addi v481 v482
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_369 : BitVec 32 := 1#32
  let v484 : BitVec 32 := Scalar.muli v11 c1_i32_369
  let v485 : BitVec 32 := Scalar.addi v483 v484
  v485.toNat
def k0_mult30 (d0 : Dev nD) : BitVec 32 :=
  let c2_i32_372 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v492 : BitVec 32 := Scalar.muli c2_i32_372 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v493 : BitVec 32 := Scalar.addi v492 v15
  let c512_i32_373 : BitVec 32 := 512#32
  let v494 : BitVec 32 := Scalar.muli v493 c512_i32_373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_374 : BitVec 32 := 256#32
  let v495 : BitVec 32 := Scalar.muli v8 c256_i32_374
  let v496 : BitVec 32 := Scalar.addi v494 v495
  v496
def k0_off17 (d0 : Dev nD) : Fin 2 → Nat :=
  let c2_i32_372 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v492 : BitVec 32 := Scalar.muli c2_i32_372 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v493 : BitVec 32 := Scalar.addi v492 v15
  let c512_i32_373 : BitVec 32 := 512#32
  let v494 : BitVec 32 := Scalar.muli v493 c512_i32_373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_374 : BitVec 32 := 256#32
  let v495 : BitVec 32 := Scalar.muli v8 c256_i32_374
  let v496 : BitVec 32 := Scalar.addi v494 v495
  let v497 : BitVec 32 := v496
  let c0_i32_383 : BitVec 32 := 0#32
  ![v497.toNat, 0]
def k0_dev22 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v508 : BitVec 32 := Scalar.muli v2 c4_i32_389
  let v509 : BitVec 32 := Scalar.addi c0_i32_390 v508
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v510 : BitVec 32 := Scalar.muli v5 c2_i32_391
  let v511 : BitVec 32 := Scalar.addi v509 v510
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_392 : BitVec 32 := 1#32
  let v512 : BitVec 32 := Scalar.muli v11 c1_i32_392
  let v513 : BitVec 32 := Scalar.addi v511 v512
  v513.toNat
def k0_mult31 (d0 : Dev nD) : BitVec 32 :=
  let c2_i32_395 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v520 : BitVec 32 := Scalar.muli c2_i32_395 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v521 : BitVec 32 := Scalar.addi v520 v15
  let c2048_i32_396 : BitVec 32 := 2048#32
  let v522 : BitVec 32 := Scalar.muli v521 c2048_i32_396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_397 : BitVec 32 := 1024#32
  let v523 : BitVec 32 := Scalar.muli v8 c1024_i32_397
  let v524 : BitVec 32 := Scalar.addi v522 v523
  v524
def k0_off18 (d0 : Dev nD) : Fin 2 → Nat :=
  let c2_i32_395 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v520 : BitVec 32 := Scalar.muli c2_i32_395 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v521 : BitVec 32 := Scalar.addi v520 v15
  let c2048_i32_396 : BitVec 32 := 2048#32
  let v522 : BitVec 32 := Scalar.muli v521 c2048_i32_396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_397 : BitVec 32 := 1024#32
  let v523 : BitVec 32 := Scalar.muli v8 c1024_i32_397
  let v524 : BitVec 32 := Scalar.addi v522 v523
  let v525 : BitVec 32 := v524
  let c0_i32_406 : BitVec 32 := 0#32
  ![v525.toNat, 0]
def k0_dev23 (d0 : Dev nD) : Nat :=
  let c0_i32_413 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_412 : BitVec 32 := 4#32
  let v536 : BitVec 32 := Scalar.muli v2 c4_i32_412
  let v537 : BitVec 32 := Scalar.addi c0_i32_413 v536
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_414 : BitVec 32 := 2#32
  let v538 : BitVec 32 := Scalar.muli v5 c2_i32_414
  let v539 : BitVec 32 := Scalar.addi v537 v538
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_415 : BitVec 32 := 1#32
  let v540 : BitVec 32 := Scalar.muli v11 c1_i32_415
  let v541 : BitVec 32 := Scalar.addi v539 v540
  v541.toNat
def k0_mult32 (d0 : Dev nD) : BitVec 32 :=
  let c2_i32_418 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v548 : BitVec 32 := Scalar.muli c2_i32_418 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v549 : BitVec 32 := Scalar.addi v548 v15
  let c2048_i32_419 : BitVec 32 := 2048#32
  let v550 : BitVec 32 := Scalar.muli v549 c2048_i32_419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_420 : BitVec 32 := 1024#32
  let v551 : BitVec 32 := Scalar.muli v8 c1024_i32_420
  let v552 : BitVec 32 := Scalar.addi v550 v551
  v552
def k0_dev24 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_435 : BitVec 32 := 4#32
  let v564 : BitVec 32 := Scalar.muli v2 c4_i32_435
  let v565 : BitVec 32 := Scalar.addi c0_i32_436 v564
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_437 : BitVec 32 := 2#32
  let v566 : BitVec 32 := Scalar.muli v5 c2_i32_437
  let v567 : BitVec 32 := Scalar.addi v565 v566
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_438 : BitVec 32 := 1#32
  let v568 : BitVec 32 := Scalar.muli v11 c1_i32_438
  let v569 : BitVec 32 := Scalar.addi v567 v568
  v569.toNat
def k0_mult33 (d0 : Dev nD) : BitVec 32 :=
  let c2_i32_441 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v576 : BitVec 32 := Scalar.muli c2_i32_441 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v577 : BitVec 32 := Scalar.addi v576 v5
  let c1088_i32_443 : BitVec 32 := 1088#32
  let v579 : BitVec 32 := Scalar.muli v577 c1088_i32_443
  let c1_i32_442 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v578 : BitVec 32 := Scalar.subi c1_i32_442 v8
  let c544_i32_444 : BitVec 32 := 544#32
  let v580 : BitVec 32 := Scalar.muli v578 c544_i32_444
  let v581 : BitVec 32 := Scalar.addi v579 v580
  v581
def k0_off19 (d0 : Dev nD) : Fin 2 → Nat :=
  let c2_i32_441 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v576 : BitVec 32 := Scalar.muli c2_i32_441 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v577 : BitVec 32 := Scalar.addi v576 v5
  let c1088_i32_443 : BitVec 32 := 1088#32
  let v579 : BitVec 32 := Scalar.muli v577 c1088_i32_443
  let c1_i32_442 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v578 : BitVec 32 := Scalar.subi c1_i32_442 v8
  let c544_i32_444 : BitVec 32 := 544#32
  let v580 : BitVec 32 := Scalar.muli v578 c544_i32_444
  let v581 : BitVec 32 := Scalar.addi v579 v580
  let v582 : BitVec 32 := v581
  let c0_i32_453 : BitVec 32 := 0#32
  ![v582.toNat, 0]
def k0_mult34 (d0 : Dev nD) : BitVec 32 :=
  let c2_i32_455 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v593 : BitVec 32 := Scalar.muli c2_i32_455 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v594 : BitVec 32 := Scalar.addi v593 v5
  let c512_i32_457 : BitVec 32 := 512#32
  let v596 : BitVec 32 := Scalar.muli v594 c512_i32_457
  let c1_i32_456 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v595 : BitVec 32 := Scalar.subi c1_i32_456 v8
  let c256_i32_458 : BitVec 32 := 256#32
  let v597 : BitVec 32 := Scalar.muli v595 c256_i32_458
  let v598 : BitVec 32 := Scalar.addi v596 v597
  v598
def k0_off20 (d0 : Dev nD) : Fin 2 → Nat :=
  let c2_i32_455 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v593 : BitVec 32 := Scalar.muli c2_i32_455 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v594 : BitVec 32 := Scalar.addi v593 v5
  let c512_i32_457 : BitVec 32 := 512#32
  let v596 : BitVec 32 := Scalar.muli v594 c512_i32_457
  let c1_i32_456 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v595 : BitVec 32 := Scalar.subi c1_i32_456 v8
  let c256_i32_458 : BitVec 32 := 256#32
  let v597 : BitVec 32 := Scalar.muli v595 c256_i32_458
  let v598 : BitVec 32 := Scalar.addi v596 v597
  let v599 : BitVec 32 := v598
  let c0_i32_467 : BitVec 32 := 0#32
  ![v599.toNat, 0]
def k0_mult35 (d0 : Dev nD) : BitVec 32 :=
  let c2_i32_469 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v610 : BitVec 32 := Scalar.muli c2_i32_469 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v611 : BitVec 32 := Scalar.addi v610 v5
  let c2048_i32_471 : BitVec 32 := 2048#32
  let v613 : BitVec 32 := Scalar.muli v611 c2048_i32_471
  let c1_i32_470 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v612 : BitVec 32 := Scalar.subi c1_i32_470 v8
  let c1024_i32_472 : BitVec 32 := 1024#32
  let v614 : BitVec 32 := Scalar.muli v612 c1024_i32_472
  let v615 : BitVec 32 := Scalar.addi v613 v614
  v615
def k0_off21 (d0 : Dev nD) : Fin 2 → Nat :=
  let c2_i32_469 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v610 : BitVec 32 := Scalar.muli c2_i32_469 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v611 : BitVec 32 := Scalar.addi v610 v5
  let c2048_i32_471 : BitVec 32 := 2048#32
  let v613 : BitVec 32 := Scalar.muli v611 c2048_i32_471
  let c1_i32_470 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v612 : BitVec 32 := Scalar.subi c1_i32_470 v8
  let c1024_i32_472 : BitVec 32 := 1024#32
  let v614 : BitVec 32 := Scalar.muli v612 c1024_i32_472
  let v615 : BitVec 32 := Scalar.addi v613 v614
  let v616 : BitVec 32 := v615
  let c0_i32_481 : BitVec 32 := 0#32
  ![v616.toNat, 0]
def k0_mult36 (d0 : Dev nD) : BitVec 32 :=
  let c2_i32_483 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v627 : BitVec 32 := Scalar.muli c2_i32_483 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v628 : BitVec 32 := Scalar.addi v627 v5
  let c2048_i32_485 : BitVec 32 := 2048#32
  let v630 : BitVec 32 := Scalar.muli v628 c2048_i32_485
  let c1_i32_484 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v629 : BitVec 32 := Scalar.subi c1_i32_484 v8
  let c1024_i32_486 : BitVec 32 := 1024#32
  let v631 : BitVec 32 := Scalar.muli v629 c1024_i32_486
  let v632 : BitVec 32 := Scalar.addi v630 v631
  v632
def k0_mult37 (d0 : Dev nD) : BitVec 32 :=
  let c2_i32_497 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v644 : BitVec 32 := Scalar.muli c2_i32_497 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v645 : BitVec 32 := Scalar.addi v644 v13
  let c1088_i32_499 : BitVec 32 := 1088#32
  let v647 : BitVec 32 := Scalar.muli v645 c1088_i32_499
  let c1_i32_498 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v646 : BitVec 32 := Scalar.subi c1_i32_498 v8
  let c544_i32_500 : BitVec 32 := 544#32
  let v648 : BitVec 32 := Scalar.muli v646 c544_i32_500
  let v649 : BitVec 32 := Scalar.addi v647 v648
  v649
def k0_off22 (d0 : Dev nD) : Fin 2 → Nat :=
  let c2_i32_497 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v644 : BitVec 32 := Scalar.muli c2_i32_497 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v645 : BitVec 32 := Scalar.addi v644 v13
  let c1088_i32_499 : BitVec 32 := 1088#32
  let v647 : BitVec 32 := Scalar.muli v645 c1088_i32_499
  let c1_i32_498 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v646 : BitVec 32 := Scalar.subi c1_i32_498 v8
  let c544_i32_500 : BitVec 32 := 544#32
  let v648 : BitVec 32 := Scalar.muli v646 c544_i32_500
  let v649 : BitVec 32 := Scalar.addi v647 v648
  let v650 : BitVec 32 := v649
  let c0_i32_509 : BitVec 32 := 0#32
  ![v650.toNat, 0]
def k0_mult38 (d0 : Dev nD) : BitVec 32 :=
  let c2_i32_511 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v661 : BitVec 32 := Scalar.muli c2_i32_511 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v662 : BitVec 32 := Scalar.addi v661 v13
  let c512_i32_513 : BitVec 32 := 512#32
  let v664 : BitVec 32 := Scalar.muli v662 c512_i32_513
  let c1_i32_512 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v663 : BitVec 32 := Scalar.subi c1_i32_512 v8
  let c256_i32_514 : BitVec 32 := 256#32
  let v665 : BitVec 32 := Scalar.muli v663 c256_i32_514
  let v666 : BitVec 32 := Scalar.addi v664 v665
  v666
def k0_off23 (d0 : Dev nD) : Fin 2 → Nat :=
  let c2_i32_511 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v661 : BitVec 32 := Scalar.muli c2_i32_511 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v662 : BitVec 32 := Scalar.addi v661 v13
  let c512_i32_513 : BitVec 32 := 512#32
  let v664 : BitVec 32 := Scalar.muli v662 c512_i32_513
  let c1_i32_512 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v663 : BitVec 32 := Scalar.subi c1_i32_512 v8
  let c256_i32_514 : BitVec 32 := 256#32
  let v665 : BitVec 32 := Scalar.muli v663 c256_i32_514
  let v666 : BitVec 32 := Scalar.addi v664 v665
  let v667 : BitVec 32 := v666
  let c0_i32_523 : BitVec 32 := 0#32
  ![v667.toNat, 0]
def k0_mult39 (d0 : Dev nD) : BitVec 32 :=
  let c2_i32_525 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v678 : BitVec 32 := Scalar.muli c2_i32_525 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v679 : BitVec 32 := Scalar.addi v678 v13
  let c2048_i32_527 : BitVec 32 := 2048#32
  let v681 : BitVec 32 := Scalar.muli v679 c2048_i32_527
  let c1_i32_526 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v680 : BitVec 32 := Scalar.subi c1_i32_526 v8
  let c1024_i32_528 : BitVec 32 := 1024#32
  let v682 : BitVec 32 := Scalar.muli v680 c1024_i32_528
  let v683 : BitVec 32 := Scalar.addi v681 v682
  v683
def k0_off24 (d0 : Dev nD) : Fin 2 → Nat :=
  let c2_i32_525 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v678 : BitVec 32 := Scalar.muli c2_i32_525 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v679 : BitVec 32 := Scalar.addi v678 v13
  let c2048_i32_527 : BitVec 32 := 2048#32
  let v681 : BitVec 32 := Scalar.muli v679 c2048_i32_527
  let c1_i32_526 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v680 : BitVec 32 := Scalar.subi c1_i32_526 v8
  let c1024_i32_528 : BitVec 32 := 1024#32
  let v682 : BitVec 32 := Scalar.muli v680 c1024_i32_528
  let v683 : BitVec 32 := Scalar.addi v681 v682
  let v684 : BitVec 32 := v683
  let c0_i32_537 : BitVec 32 := 0#32
  ![v684.toNat, 0]
def k0_mult40 (d0 : Dev nD) : BitVec 32 :=
  let c2_i32_539 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v695 : BitVec 32 := Scalar.muli c2_i32_539 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v696 : BitVec 32 := Scalar.addi v695 v13
  let c2048_i32_541 : BitVec 32 := 2048#32
  let v698 : BitVec 32 := Scalar.muli v696 c2048_i32_541
  let c1_i32_540 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v697 : BitVec 32 := Scalar.subi c1_i32_540 v8
  let c1024_i32_542 : BitVec 32 := 1024#32
  let v699 : BitVec 32 := Scalar.muli v697 c1024_i32_542
  let v700 : BitVec 32 := Scalar.addi v698 v699
  v700
def k0_mult41 (d0 : Dev nD) : BitVec 32 :=
  let c2_i32_553 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v712 : BitVec 32 := Scalar.muli c2_i32_553 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v713 : BitVec 32 := Scalar.addi v712 v15
  let c1088_i32_555 : BitVec 32 := 1088#32
  let v715 : BitVec 32 := Scalar.muli v713 c1088_i32_555
  let c1_i32_554 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v714 : BitVec 32 := Scalar.subi c1_i32_554 v8
  let c544_i32_556 : BitVec 32 := 544#32
  let v716 : BitVec 32 := Scalar.muli v714 c544_i32_556
  let v717 : BitVec 32 := Scalar.addi v715 v716
  v717
def k0_off25 (d0 : Dev nD) : Fin 2 → Nat :=
  let c2_i32_553 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v712 : BitVec 32 := Scalar.muli c2_i32_553 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v713 : BitVec 32 := Scalar.addi v712 v15
  let c1088_i32_555 : BitVec 32 := 1088#32
  let v715 : BitVec 32 := Scalar.muli v713 c1088_i32_555
  let c1_i32_554 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v714 : BitVec 32 := Scalar.subi c1_i32_554 v8
  let c544_i32_556 : BitVec 32 := 544#32
  let v716 : BitVec 32 := Scalar.muli v714 c544_i32_556
  let v717 : BitVec 32 := Scalar.addi v715 v716
  let v718 : BitVec 32 := v717
  let c0_i32_565 : BitVec 32 := 0#32
  ![v718.toNat, 0]
def k0_mult42 (d0 : Dev nD) : BitVec 32 :=
  let c2_i32_567 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v729 : BitVec 32 := Scalar.muli c2_i32_567 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v730 : BitVec 32 := Scalar.addi v729 v15
  let c512_i32_569 : BitVec 32 := 512#32
  let v732 : BitVec 32 := Scalar.muli v730 c512_i32_569
  let c1_i32_568 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v731 : BitVec 32 := Scalar.subi c1_i32_568 v8
  let c256_i32_570 : BitVec 32 := 256#32
  let v733 : BitVec 32 := Scalar.muli v731 c256_i32_570
  let v734 : BitVec 32 := Scalar.addi v732 v733
  v734
def k0_off26 (d0 : Dev nD) : Fin 2 → Nat :=
  let c2_i32_567 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v729 : BitVec 32 := Scalar.muli c2_i32_567 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v730 : BitVec 32 := Scalar.addi v729 v15
  let c512_i32_569 : BitVec 32 := 512#32
  let v732 : BitVec 32 := Scalar.muli v730 c512_i32_569
  let c1_i32_568 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v731 : BitVec 32 := Scalar.subi c1_i32_568 v8
  let c256_i32_570 : BitVec 32 := 256#32
  let v733 : BitVec 32 := Scalar.muli v731 c256_i32_570
  let v734 : BitVec 32 := Scalar.addi v732 v733
  let v735 : BitVec 32 := v734
  let c0_i32_579 : BitVec 32 := 0#32
  ![v735.toNat, 0]
def k0_mult43 (d0 : Dev nD) : BitVec 32 :=
  let c2_i32_581 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v746 : BitVec 32 := Scalar.muli c2_i32_581 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v747 : BitVec 32 := Scalar.addi v746 v15
  let c2048_i32_583 : BitVec 32 := 2048#32
  let v749 : BitVec 32 := Scalar.muli v747 c2048_i32_583
  let c1_i32_582 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v748 : BitVec 32 := Scalar.subi c1_i32_582 v8
  let c1024_i32_584 : BitVec 32 := 1024#32
  let v750 : BitVec 32 := Scalar.muli v748 c1024_i32_584
  let v751 : BitVec 32 := Scalar.addi v749 v750
  v751
def k0_off27 (d0 : Dev nD) : Fin 2 → Nat :=
  let c2_i32_581 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v746 : BitVec 32 := Scalar.muli c2_i32_581 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v747 : BitVec 32 := Scalar.addi v746 v15
  let c2048_i32_583 : BitVec 32 := 2048#32
  let v749 : BitVec 32 := Scalar.muli v747 c2048_i32_583
  let c1_i32_582 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v748 : BitVec 32 := Scalar.subi c1_i32_582 v8
  let c1024_i32_584 : BitVec 32 := 1024#32
  let v750 : BitVec 32 := Scalar.muli v748 c1024_i32_584
  let v751 : BitVec 32 := Scalar.addi v749 v750
  let v752 : BitVec 32 := v751
  let c0_i32_593 : BitVec 32 := 0#32
  ![v752.toNat, 0]
def k0_mult44 (d0 : Dev nD) : BitVec 32 :=
  let c2_i32_595 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v763 : BitVec 32 := Scalar.muli c2_i32_595 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v764 : BitVec 32 := Scalar.addi v763 v15
  let c2048_i32_597 : BitVec 32 := 2048#32
  let v766 : BitVec 32 := Scalar.muli v764 c2048_i32_597
  let c1_i32_596 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v765 : BitVec 32 := Scalar.subi c1_i32_596 v8
  let c1024_i32_598 : BitVec 32 := 1024#32
  let v767 : BitVec 32 := Scalar.muli v765 c1024_i32_598
  let v768 : BitVec 32 := Scalar.addi v766 v767
  v768
-- ==== Reference.lean ====
abbrev S4352x2048 : Shape := ⟨2, ![4352, 2048]⟩
abbrev S2048x2048 : Shape := ⟨2, ![2048, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S8192x2048, .bf16⟩
  | .hbm, ⟨3, _⟩ => ⟨S8192x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩

abbrev nD : Nat := 1
abbrev τ : Topo := Topo.v7x

variable {F : FTy → Type} [FloatOps F]
-- ==== Reduce.lean ====
abbrev S4352x2048 : Shape := ⟨2, ![4352, 2048]⟩
abbrev S2048x2048 : Shape := ⟨2, ![2048, 2048]⟩
abbrev S8192x2048 : Shape := ⟨2, ![8192, 2048]⟩
abbrev S104x128 : Shape := ⟨2, ![104, 128]⟩
abbrev S1088x2048 : Shape := ⟨2, ![1088, 2048]⟩
abbrev S512x2048 : Shape := ⟨2, ![512, 2048]⟩
abbrev S4x544x2048 : Shape := ⟨3, ![4, 544, 2048]⟩
abbrev S4x256x2048 : Shape := ⟨3, ![4, 256, 2048]⟩
abbrev S4x1024x2048 : Shape := ⟨3, ![4, 1024, 2048]⟩
abbrev S3x544x2048 : Shape := ⟨3, ![3, 544, 2048]⟩
abbrev S3x256x2048 : Shape := ⟨3, ![3, 256, 2048]⟩
abbrev S3x1024x2048 : Shape := ⟨3, ![3, 1024, 2048]⟩
abbrev S8x104x128 : Shape := ⟨3, ![8, 104, 128]⟩
abbrev S256x2048 : Shape := ⟨2, ![256, 2048]⟩
abbrev S4x4 : Shape := ⟨2, ![4, 4]⟩
abbrev S4x3 : Shape := ⟨2, ![4, 3]⟩
abbrev S4 : Shape := ⟨1, ![4]⟩
abbrev S7 : Shape := ⟨1, ![7]⟩
abbrev S_ : Shape := ⟨0, ![]⟩
abbrev S1x104x128 : Shape := ⟨3, ![1, 104, 128]⟩
abbrev S1 : Shape := ⟨1, ![1]⟩
abbrev S1x1 : Shape := ⟨2, ![1, 1]⟩
abbrev S1x544x2048 : Shape := ⟨3, ![1, 544, 2048]⟩
abbrev S544x2048 : Shape := ⟨2, ![544, 2048]⟩
abbrev S1x256x2048 : Shape := ⟨3, ![1, 256, 2048]⟩
abbrev S1x1024x2048 : Shape := ⟨3, ![1, 1024, 2048]⟩
abbrev S1024x2048 : Shape := ⟨2, ![1024, 2048]⟩
abbrev S32x2048 : Shape := ⟨2, ![32, 2048]⟩

abbrev nBuf : Space → Nat
  | .hbm => 22
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S104x128, .f32⟩
  | .hbm, ⟨5, _⟩ => ⟨S1088x2048, .f32⟩
  | .hbm, ⟨6, _⟩ => ⟨S512x2048, .f32⟩
  | .hbm, ⟨7, _⟩ => ⟨S2048x2048, .f32⟩
  | .hbm, ⟨8, _⟩ => ⟨S2048x2048, .f32⟩
  | .hbm, ⟨9, _⟩ => ⟨S104x128, .f32⟩
  | .hbm, ⟨10, _⟩ => ⟨S4x544x2048, .f32⟩
  | .hbm, ⟨11, _⟩ => ⟨S4x256x2048, .f32⟩
  | .hbm, ⟨12, _⟩ => ⟨S4x1024x2048, .f32⟩
  | .hbm, ⟨13, _⟩ => ⟨S4x1024x2048, .f32⟩
  | .hbm, ⟨14, _⟩ => ⟨S4x544x2048, .f32⟩
  | .hbm, ⟨15, _⟩ => ⟨S4x256x2048, .f32⟩
  | .hbm, ⟨16, _⟩ => ⟨S4x1024x2048, .f32⟩
  | .hbm, ⟨17, _⟩ => ⟨S4x1024x2048, .f32⟩
  | .hbm, ⟨18, _⟩ => ⟨S3x544x2048, .f32⟩
  | .hbm, ⟨19, _⟩ => ⟨S3x256x2048, .f32⟩
  | .hbm, ⟨20, _⟩ => ⟨S3x1024x2048, .f32⟩
  | .hbm, ⟨21, _⟩ => ⟨S3x1024x2048, .f32⟩
  | .local _ .vmem, ⟨0, _⟩ => ⟨S104x128, .f32⟩
  | .local _ .vmem, ⟨1, _⟩ => ⟨S104x128, .f32⟩
  | .local _ .vmem, ⟨2, _⟩ => ⟨S8x104x128, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v1_7 : Ref sig .tc := ⟨.hbm, 12, rfl⟩
abbrev main_v1_8 : Ref sig .tc := ⟨.hbm, 13, rfl⟩
abbrev main_v1_9 : Ref sig .tc := ⟨.hbm, 14, rfl⟩
abbrev main_v1_10 : Ref sig .tc := ⟨.hbm, 15, rfl⟩
abbrev main_v1_11 : Ref sig .tc := ⟨.hbm, 16, rfl⟩
abbrev main_v1_12 : Ref sig .tc := ⟨.hbm, 17, rfl⟩
abbrev main_v1_13 : Ref sig .tc := ⟨.hbm, 18, rfl⟩
abbrev main_v1_14 : Ref sig .tc := ⟨.hbm, 19, rfl⟩
abbrev main_v1_15 : Ref sig .tc := ⟨.hbm, 20, rfl⟩
abbrev main_v1_16 : Ref sig .tc := ⟨.hbm, 21, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 8
abbrev τ : Topo := Topo.v7x

variable {F : FTy → Type} [FloatOps F]

abbrev grid0 : Pipeline.Grid := .none

def k0_off1 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let v22 : Index := Scalar.indexCast v14
  let c0_12 : Index := 0#32
  let c0_13 : Index := 0#32
  ![v22.toNat, 0, 0]
def k0_off2 (d0 : Dev nD) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c0_i32_52 : BitVec 32 := 0#32
  let c0_i32_53 : BitVec 32 := 0#32
  ![v14.toNat, 0, 0]
def k0_dev1 (d0 : Dev nD) : Nat :=
  let c0_i32_49 : BitVec 32 := 0#32
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c1_i32_14 : BitVec 32 := 1#32
  let v26 : BitVec 32 := Scalar.addi v14 c1_i32_14
  let c0_i32 : BitVec 32 := 0#32
  let v27 : BitVec 32 := Scalar.addi v26 c0_i32
  let c8_i32 : BitVec 32 := 8#32
  let c0_i32_15 : BitVec 32 := 0#32
  let v28 : BitVec 1 := Scalar.cmpi .eq c8_i32 c0_i32_15
  let c1_i32_16 : BitVec 32 := 1#32
  let v29 : BitVec 32 := Scalar.select v28 c1_i32_16 c8_i32
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c0_i32_21 : BitVec 32 := 0#32
  let v39 : BitVec 1 := Scalar.cmpi .sgt v37 c0_i32_21
  let v40 : BitVec 32 := Scalar.extui v39
  let c0_i32_22 : BitVec 32 := 0#32
  let v41 : BitVec 1 := Scalar.cmpi .slt v37 c0_i32_22
  let v42 : BitVec 32 := Scalar.extui v41
  let v43 : BitVec 32 := Scalar.subi v40 v42
  let c4_i32_20 : BitVec 32 := 4#32
  let c0_i32_23 : BitVec 32 := 0#32
  let v44 : BitVec 1 := Scalar.cmpi .sgt c4_i32_20 c0_i32_23
  let v45 : BitVec 32 := Scalar.extui v44
  let c0_i32_24 : BitVec 32 := 0#32
  let v46 : BitVec 1 := Scalar.cmpi .slt c4_i32_20 c0_i32_24
  let v47 : BitVec 32 := Scalar.extui v46
  let v48 : BitVec 32 := Scalar.subi v45 v47
  let v49 : BitVec 1 := Scalar.cmpi .ne v43 v48
  let v50 : BitVec 32 := Scalar.remsi v37 c4_i32_20
  let c0_i32_25 : BitVec 32 := 0#32
  let v51 : BitVec 1 := Scalar.cmpi .ne v50 c0_i32_25
  let v52 : BitVec 1 := Scalar.andi v49 v51
  let v38 : BitVec 32 := Scalar.divsi v37 c4_i32_20
  let c1_i32_26 : BitVec 32 := 1#32
  let v53 : BitVec 32 := Scalar.subi v38 c1_i32_26
  let v54 : BitVec 32 := Scalar.select v52 v53 v38
  let c4_i32_48 : BitVec 32 := 4#32
  let v92 : BitVec 32 := Scalar.muli v54 c4_i32_48
  let v93 : BitVec 32 := Scalar.addi c0_i32_49 v92
  let c0_i32_28 : BitVec 32 := 0#32
  let v56 : BitVec 1 := Scalar.cmpi .sgt v37 c0_i32_28
  let v57 : BitVec 32 := Scalar.extui v56
  let c0_i32_29 : BitVec 32 := 0#32
  let v58 : BitVec 1 := Scalar.cmpi .slt v37 c0_i32_29
  let v59 : BitVec 32 := Scalar.extui v58
  let v60 : BitVec 32 := Scalar.subi v57 v59
  let c2_i32_27 : BitVec 32 := 2#32
  let c0_i32_30 : BitVec 32 := 0#32
  let v61 : BitVec 1 := Scalar.cmpi .sgt c2_i32_27 c0_i32_30
  let v62 : BitVec 32 := Scalar.extui v61
  let c0_i32_31 : BitVec 32 := 0#32
  let v63 : BitVec 1 := Scalar.cmpi .slt c2_i32_27 c0_i32_31
  let v64 : BitVec 32 := Scalar.extui v63
  let v65 : BitVec 32 := Scalar.subi v62 v64
  let v66 : BitVec 1 := Scalar.cmpi .ne v60 v65
  let v67 : BitVec 32 := Scalar.remsi v37 c2_i32_27
  let c0_i32_32 : BitVec 32 := 0#32
  let v68 : BitVec 1 := Scalar.cmpi .ne v67 c0_i32_32
  let v69 : BitVec 1 := Scalar.andi v66 v68
  let v55 : BitVec 32 := Scalar.divsi v37 c2_i32_27
  let c1_i32_33 : BitVec 32 := 1#32
  let v70 : BitVec 32 := Scalar.subi v55 c1_i32_33
  let v71 : BitVec 32 := Scalar.select v69 v70 v55
  let c2_i32_34 : BitVec 32 := 2#32
  let c0_i32_35 : BitVec 32 := 0#32
  let v72 : BitVec 1 := Scalar.cmpi .eq c2_i32_34 c0_i32_35
  let c1_i32_36 : BitVec 32 := 1#32
  let v73 : BitVec 32 := Scalar.select v72 c1_i32_36 c2_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c2_i32_50 : BitVec 32 := 2#32
  let v94 : BitVec 32 := Scalar.muli v81 c2_i32_50
  let v95 : BitVec 32 := Scalar.addi v93 v94
  let c2_i32_40 : BitVec 32 := 2#32
  let c0_i32_41 : BitVec 32 := 0#32
  let v82 : BitVec 1 := Scalar.cmpi .eq c2_i32_40 c0_i32_41
  let c1_i32_42 : BitVec 32 := 1#32
  let v83 : BitVec 32 := Scalar.select v82 c1_i32_42 c2_i32_40
  let v84 : BitVec 32 := Scalar.remsi v37 v83
  let c0_i32_44 : BitVec 32 := 0#32
  let v86 : BitVec 1 := Scalar.cmpi .slt v84 c0_i32_44
  let c0_i32_45 : BitVec 32 := 0#32
  let v87 : BitVec 1 := Scalar.cmpi .slt v83 c0_i32_45
  let v88 : BitVec 1 := Scalar.xori v86 v87
  let c0_i32_43 : BitVec 32 := 0#32
  let v85 : BitVec 1 := Scalar.cmpi .ne v84 c0_i32_43
  let v89 : BitVec 1 := Scalar.andi v88 v85
  let v90 : BitVec 32 := Scalar.addi v84 v83
  let v91 : BitVec 32 := Scalar.select v89 v90 v84
  let c1_i32_51 : BitVec 32 := 1#32
  let v96 : BitVec 32 := Scalar.muli v91 c1_i32_51
  let v97 : BitVec 32 := Scalar.addi v95 v96
  v97.toNat
def k0_dev2 (d0 : Dev nD) : Nat :=
  let c0_i32_93 : BitVec 32 := 0#32
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c1_i32_56 : BitVec 32 := 1#32
  let v106 : BitVec 32 := Scalar.addi v14 c1_i32_56
  let c1_i32_57 : BitVec 32 := 1#32
  let v107 : BitVec 32 := Scalar.addi v106 c1_i32_57
  let c8_i32_58 : BitVec 32 := 8#32
  let c0_i32_59 : BitVec 32 := 0#32
  let v108 : BitVec 1 := Scalar.cmpi .eq c8_i32_58 c0_i32_59
  let c1_i32_60 : BitVec 32 := 1#32
  let v109 : BitVec 32 := Scalar.select v108 c1_i32_60 c8_i32_58
  let v110 : BitVec 32 := Scalar.remsi v107 v109
  let c0_i32_62 : BitVec 32 := 0#32
  let v112 : BitVec 1 := Scalar.cmpi .slt v110 c0_i32_62
  let c0_i32_63 : BitVec 32 := 0#32
  let v113 : BitVec 1 := Scalar.cmpi .slt v109 c0_i32_63
  let v114 : BitVec 1 := Scalar.xori v112 v113
  let c0_i32_61 : BitVec 32 := 0#32
  let v111 : BitVec 1 := Scalar.cmpi .ne v110 c0_i32_61
  let v115 : BitVec 1 := Scalar.andi v114 v111
  let v116 : BitVec 32 := Scalar.addi v110 v109
  let v117 : BitVec 32 := Scalar.select v115 v116 v110
  let c0_i32_65 : BitVec 32 := 0#32
  let v119 : BitVec 1 := Scalar.cmpi .sgt v117 c0_i32_65
  let v120 : BitVec 32 := Scalar.extui v119
  let c0_i32_66 : BitVec 32 := 0#32
  let v121 : BitVec 1 := Scalar.cmpi .slt v117 c0_i32_66
  let v122 : BitVec 32 := Scalar.extui v121
  let v123 : BitVec 32 := Scalar.subi v120 v122
  let c4_i32_64 : BitVec 32 := 4#32
  let c0_i32_67 : BitVec 32 := 0#32
  let v124 : BitVec 1 := Scalar.cmpi .sgt c4_i32_64 c0_i32_67
  let v125 : BitVec 32 := Scalar.extui v124
  let c0_i32_68 : BitVec 32 := 0#32
  let v126 : BitVec 1 := Scalar.cmpi .slt c4_i32_64 c0_i32_68
  let v127 : BitVec 32 := Scalar.extui v126
  let v128 : BitVec 32 := Scalar.subi v125 v127
  let v129 : BitVec 1 := Scalar.cmpi .ne v123 v128
  let v130 : BitVec 32 := Scalar.remsi v117 c4_i32_64
  let c0_i32_69 : BitVec 32 := 0#32
  let v131 : BitVec 1 := Scalar.cmpi .ne v130 c0_i32_69
  let v132 : BitVec 1 := Scalar.andi v129 v131
  let v118 : BitVec 32 := Scalar.divsi v117 c4_i32_64
  let c1_i32_70 : BitVec 32 := 1#32
  let v133 : BitVec 32 := Scalar.subi v118 c1_i32_70
  let v134 : BitVec 32 := Scalar.select v132 v133 v118
  let c4_i32_92 : BitVec 32 := 4#32
  let v172 : BitVec 32 := Scalar.muli v134 c4_i32_92
  let v173 : BitVec 32 := Scalar.addi c0_i32_93 v172
  let c0_i32_72 : BitVec 32 := 0#32
  let v136 : BitVec 1 := Scalar.cmpi .sgt v117 c0_i32_72
  let v137 : BitVec 32 := Scalar.extui v136
  let c0_i32_73 : BitVec 32 := 0#32
  let v138 : BitVec 1 := Scalar.cmpi .slt v117 c0_i32_73
  let v139 : BitVec 32 := Scalar.extui v138
  let v140 : BitVec 32 := Scalar.subi v137 v139
  let c2_i32_71 : BitVec 32 := 2#32
  let c0_i32_74 : BitVec 32 := 0#32
  let v141 : BitVec 1 := Scalar.cmpi .sgt c2_i32_71 c0_i32_74
  let v142 : BitVec 32 := Scalar.extui v141
  let c0_i32_75 : BitVec 32 := 0#32
  let v143 : BitVec 1 := Scalar.cmpi .slt c2_i32_71 c0_i32_75
  let v144 : BitVec 32 := Scalar.extui v143
  let v145 : BitVec 32 := Scalar.subi v142 v144
  let v146 : BitVec 1 := Scalar.cmpi .ne v140 v145
  let v147 : BitVec 32 := Scalar.remsi v117 c2_i32_71
  let c0_i32_76 : BitVec 32 := 0#32
  let v148 : BitVec 1 := Scalar.cmpi .ne v147 c0_i32_76
  let v149 : BitVec 1 := Scalar.andi v146 v148
  let v135 : BitVec 32 := Scalar.divsi v117 c2_i32_71
  let c1_i32_77 : BitVec 32 := 1#32
  let v150 : BitVec 32 := Scalar.subi v135 c1_i32_77
  let v151 : BitVec 32 := Scalar.select v149 v150 v135
  let c2_i32_78 : BitVec 32 := 2#32
  let c0_i32_79 : BitVec 32 := 0#32
  let v152 : BitVec 1 := Scalar.cmpi .eq c2_i32_78 c0_i32_79
  let c1_i32_80 : BitVec 32 := 1#32
  let v153 : BitVec 32 := Scalar.select v152 c1_i32_80 c2_i32_78
  let v154 : BitVec 32 := Scalar.remsi v151 v153
  let c0_i32_82 : BitVec 32 := 0#32
  let v156 : BitVec 1 := Scalar.cmpi .slt v154 c0_i32_82
  let c0_i32_83 : BitVec 32 := 0#32
  let v157 : BitVec 1 := Scalar.cmpi .slt v153 c0_i32_83
  let v158 : BitVec 1 := Scalar.xori v156 v157
  let c0_i32_81 : BitVec 32 := 0#32
  let v155 : BitVec 1 := Scalar.cmpi .ne v154 c0_i32_81
  let v159 : BitVec 1 := Scalar.andi v158 v155
  let v160 : BitVec 32 := Scalar.addi v154 v153
  let v161 : BitVec 32 := Scalar.select v159 v160 v154
  let c2_i32_94 : BitVec 32 := 2#32
  let v174 : BitVec 32 := Scalar.muli v161 c2_i32_94
  let v175 : BitVec 32 := Scalar.addi v173 v174
  let c2_i32_84 : BitVec 32 := 2#32
  let c0_i32_85 : BitVec 32 := 0#32
  let v162 : BitVec 1 := Scalar.cmpi .eq c2_i32_84 c0_i32_85
  let c1_i32_86 : BitVec 32 := 1#32
  let v163 : BitVec 32 := Scalar.select v162 c1_i32_86 c2_i32_84
  let v164 : BitVec 32 := Scalar.remsi v117 v163
  let c0_i32_88 : BitVec 32 := 0#32
  let v166 : BitVec 1 := Scalar.cmpi .slt v164 c0_i32_88
  let c0_i32_89 : BitVec 32 := 0#32
  let v167 : BitVec 1 := Scalar.cmpi .slt v163 c0_i32_89
  let v168 : BitVec 1 := Scalar.xori v166 v167
  let c0_i32_87 : BitVec 32 := 0#32
  let v165 : BitVec 1 := Scalar.cmpi .ne v164 c0_i32_87
  let v169 : BitVec 1 := Scalar.andi v168 v165
  let v170 : BitVec 32 := Scalar.addi v164 v163
  let v171 : BitVec 32 := Scalar.select v169 v170 v164
  let c1_i32_95 : BitVec 32 := 1#32
  let v176 : BitVec 32 := Scalar.muli v171 c1_i32_95
  let v177 : BitVec 32 := Scalar.addi v175 v176
  v177.toNat
def k0_dev3 (d0 : Dev nD) : Nat :=
  let c0_i32_137 : BitVec 32 := 0#32
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c1_i32_100 : BitVec 32 := 1#32
  let v186 : BitVec 32 := Scalar.addi v14 c1_i32_100
  let c2_i32_101 : BitVec 32 := 2#32
  let v187 : BitVec 32 := Scalar.addi v186 c2_i32_101
  let c8_i32_102 : BitVec 32 := 8#32
  let c0_i32_103 : BitVec 32 := 0#32
  let v188 : BitVec 1 := Scalar.cmpi .eq c8_i32_102 c0_i32_103
  let c1_i32_104 : BitVec 32 := 1#32
  let v189 : BitVec 32 := Scalar.select v188 c1_i32_104 c8_i32_102
  let v190 : BitVec 32 := Scalar.remsi v187 v189
  let c0_i32_106 : BitVec 32 := 0#32
  let v192 : BitVec 1 := Scalar.cmpi .slt v190 c0_i32_106
  let c0_i32_107 : BitVec 32 := 0#32
  let v193 : BitVec 1 := Scalar.cmpi .slt v189 c0_i32_107
  let v194 : BitVec 1 := Scalar.xori v192 v193
  let c0_i32_105 : BitVec 32 := 0#32
  let v191 : BitVec 1 := Scalar.cmpi .ne v190 c0_i32_105
  let v195 : BitVec 1 := Scalar.andi v194 v191
  let v196 : BitVec 32 := Scalar.addi v190 v189
  let v197 : BitVec 32 := Scalar.select v195 v196 v190
  let c0_i32_109 : BitVec 32 := 0#32
  let v199 : BitVec 1 := Scalar.cmpi .sgt v197 c0_i32_109
  let v200 : BitVec 32 := Scalar.extui v199
  let c0_i32_110 : BitVec 32 := 0#32
  let v201 : BitVec 1 := Scalar.cmpi .slt v197 c0_i32_110
  let v202 : BitVec 32 := Scalar.extui v201
  let v203 : BitVec 32 := Scalar.subi v200 v202
  let c4_i32_108 : BitVec 32 := 4#32
  let c0_i32_111 : BitVec 32 := 0#32
  let v204 : BitVec 1 := Scalar.cmpi .sgt c4_i32_108 c0_i32_111
  let v205 : BitVec 32 := Scalar.extui v204
  let c0_i32_112 : BitVec 32 := 0#32
  let v206 : BitVec 1 := Scalar.cmpi .slt c4_i32_108 c0_i32_112
  let v207 : BitVec 32 := Scalar.extui v206
  let v208 : BitVec 32 := Scalar.subi v205 v207
  let v209 : BitVec 1 := Scalar.cmpi .ne v203 v208
  let v210 : BitVec 32 := Scalar.remsi v197 c4_i32_108
  let c0_i32_113 : BitVec 32 := 0#32
  let v211 : BitVec 1 := Scalar.cmpi .ne v210 c0_i32_113
  let v212 : BitVec 1 := Scalar.andi v209 v211
  let v198 : BitVec 32 := Scalar.divsi v197 c4_i32_108
  let c1_i32_114 : BitVec 32 := 1#32
  let v213 : BitVec 32 := Scalar.subi v198 c1_i32_114
  let v214 : BitVec 32 := Scalar.select v212 v213 v198
  let c4_i32_136 : BitVec 32 := 4#32
  let v252 : BitVec 32 := Scalar.muli v214 c4_i32_136
  let v253 : BitVec 32 := Scalar.addi c0_i32_137 v252
  let c0_i32_116 : BitVec 32 := 0#32
  let v216 : BitVec 1 := Scalar.cmpi .sgt v197 c0_i32_116
  let v217 : BitVec 32 := Scalar.extui v216
  let c0_i32_117 : BitVec 32 := 0#32
  let v218 : BitVec 1 := Scalar.cmpi .slt v197 c0_i32_117
  let v219 : BitVec 32 := Scalar.extui v218
  let v220 : BitVec 32 := Scalar.subi v217 v219
  let c2_i32_115 : BitVec 32 := 2#32
  let c0_i32_118 : BitVec 32 := 0#32
  let v221 : BitVec 1 := Scalar.cmpi .sgt c2_i32_115 c0_i32_118
  let v222 : BitVec 32 := Scalar.extui v221
  let c0_i32_119 : BitVec 32 := 0#32
  let v223 : BitVec 1 := Scalar.cmpi .slt c2_i32_115 c0_i32_119
  let v224 : BitVec 32 := Scalar.extui v223
  let v225 : BitVec 32 := Scalar.subi v222 v224
  let v226 : BitVec 1 := Scalar.cmpi .ne v220 v225
  let v227 : BitVec 32 := Scalar.remsi v197 c2_i32_115
  let c0_i32_120 : BitVec 32 := 0#32
  let v228 : BitVec 1 := Scalar.cmpi .ne v227 c0_i32_120
  let v229 : BitVec 1 := Scalar.andi v226 v228
  let v215 : BitVec 32 := Scalar.divsi v197 c2_i32_115
  let c1_i32_121 : BitVec 32 := 1#32
  let v230 : BitVec 32 := Scalar.subi v215 c1_i32_121
  let v231 : BitVec 32 := Scalar.select v229 v230 v215
  let c2_i32_122 : BitVec 32 := 2#32
  let c0_i32_123 : BitVec 32 := 0#32
  let v232 : BitVec 1 := Scalar.cmpi .eq c2_i32_122 c0_i32_123
  let c1_i32_124 : BitVec 32 := 1#32
  let v233 : BitVec 32 := Scalar.select v232 c1_i32_124 c2_i32_122
  let v234 : BitVec 32 := Scalar.remsi v231 v233
  let c0_i32_126 : BitVec 32 := 0#32
  let v236 : BitVec 1 := Scalar.cmpi .slt v234 c0_i32_126
  let c0_i32_127 : BitVec 32 := 0#32
  let v237 : BitVec 1 := Scalar.cmpi .slt v233 c0_i32_127
  let v238 : BitVec 1 := Scalar.xori v236 v237
  let c0_i32_125 : BitVec 32 := 0#32
  let v235 : BitVec 1 := Scalar.cmpi .ne v234 c0_i32_125
  let v239 : BitVec 1 := Scalar.andi v238 v235
  let v240 : BitVec 32 := Scalar.addi v234 v233
  let v241 : BitVec 32 := Scalar.select v239 v240 v234
  let c2_i32_138 : BitVec 32 := 2#32
  let v254 : BitVec 32 := Scalar.muli v241 c2_i32_138
  let v255 : BitVec 32 := Scalar.addi v253 v254
  let c2_i32_128 : BitVec 32 := 2#32
  let c0_i32_129 : BitVec 32 := 0#32
  let v242 : BitVec 1 := Scalar.cmpi .eq c2_i32_128 c0_i32_129
  let c1_i32_130 : BitVec 32 := 1#32
  let v243 : BitVec 32 := Scalar.select v242 c1_i32_130 c2_i32_128
  let v244 : BitVec 32 := Scalar.remsi v197 v243
  let c0_i32_132 : BitVec 32 := 0#32
  let v246 : BitVec 1 := Scalar.cmpi .slt v244 c0_i32_132
  let c0_i32_133 : BitVec 32 := 0#32
  let v247 : BitVec 1 := Scalar.cmpi .slt v243 c0_i32_133
  let v248 : BitVec 1 := Scalar.xori v246 v247
  let c0_i32_131 : BitVec 32 := 0#32
  let v245 : BitVec 1 := Scalar.cmpi .ne v244 c0_i32_131
  let v249 : BitVec 1 := Scalar.andi v248 v245
  let v250 : BitVec 32 := Scalar.addi v244 v243
  let v251 : BitVec 32 := Scalar.select v249 v250 v244
  let c1_i32_139 : BitVec 32 := 1#32
  let v256 : BitVec 32 := Scalar.muli v251 c1_i32_139
  let v257 : BitVec 32 := Scalar.addi v255 v256
  v257.toNat
def k0_dev4 (d0 : Dev nD) : Nat :=
  let c0_i32_180 : BitVec 32 := 0#32
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c1_i32_144 : BitVec 32 := 1#32
  let v266 : BitVec 32 := Scalar.addi v14 c1_i32_144
  let c3_i32 : BitVec 32 := 3#32
  let v267 : BitVec 32 := Scalar.addi v266 c3_i32
  let c8_i32_145 : BitVec 32 := 8#32
  let c0_i32_146 : BitVec 32 := 0#32
  let v268 : BitVec 1 := Scalar.cmpi .eq c8_i32_145 c0_i32_146
  let c1_i32_147 : BitVec 32 := 1#32
  let v269 : BitVec 32 := Scalar.select v268 c1_i32_147 c8_i32_145
  let v270 : BitVec 32 := Scalar.remsi v267 v269
  let c0_i32_149 : BitVec 32 := 0#32
  let v272 : BitVec 1 := Scalar.cmpi .slt v270 c0_i32_149
  let c0_i32_150 : BitVec 32 := 0#32
  let v273 : BitVec 1 := Scalar.cmpi .slt v269 c0_i32_150
  let v274 : BitVec 1 := Scalar.xori v272 v273
  let c0_i32_148 : BitVec 32 := 0#32
  let v271 : BitVec 1 := Scalar.cmpi .ne v270 c0_i32_148
  let v275 : BitVec 1 := Scalar.andi v274 v271
  let v276 : BitVec 32 := Scalar.addi v270 v269
  let v277 : BitVec 32 := Scalar.select v275 v276 v270
  let c0_i32_152 : BitVec 32 := 0#32
  let v279 : BitVec 1 := Scalar.cmpi .sgt v277 c0_i32_152
  let v280 : BitVec 32 := Scalar.extui v279
  let c0_i32_153 : BitVec 32 := 0#32
  let v281 : BitVec 1 := Scalar.cmpi .slt v277 c0_i32_153
  let v282 : BitVec 32 := Scalar.extui v281
  let v283 : BitVec 32 := Scalar.subi v280 v282
  let c4_i32_151 : BitVec 32 := 4#32
  let c0_i32_154 : BitVec 32 := 0#32
  let v284 : BitVec 1 := Scalar.cmpi .sgt c4_i32_151 c0_i32_154
  let v285 : BitVec 32 := Scalar.extui v284
  let c0_i32_155 : BitVec 32 := 0#32
  let v286 : BitVec 1 := Scalar.cmpi .slt c4_i32_151 c0_i32_155
  let v287 : BitVec 32 := Scalar.extui v286
  let v288 : BitVec 32 := Scalar.subi v285 v287
  let v289 : BitVec 1 := Scalar.cmpi .ne v283 v288
  let v290 : BitVec 32 := Scalar.remsi v277 c4_i32_151
  let c0_i32_156 : BitVec 32 := 0#32
  let v291 : BitVec 1 := Scalar.cmpi .ne v290 c0_i32_156
  let v292 : BitVec 1 := Scalar.andi v289 v291
  let v278 : BitVec 32 := Scalar.divsi v277 c4_i32_151
  let c1_i32_157 : BitVec 32 := 1#32
  let v293 : BitVec 32 := Scalar.subi v278 c1_i32_157
  let v294 : BitVec 32 := Scalar.select v292 v293 v278
  let c4_i32_179 : BitVec 32 := 4#32
  let v332 : BitVec 32 := Scalar.muli v294 c4_i32_179
  let v333 : BitVec 32 := Scalar.addi c0_i32_180 v332
  let c0_i32_159 : BitVec 32 := 0#32
  let v296 : BitVec 1 := Scalar.cmpi .sgt v277 c0_i32_159
  let v297 : BitVec 32 := Scalar.extui v296
  let c0_i32_160 : BitVec 32 := 0#32
  let v298 : BitVec 1 := Scalar.cmpi .slt v277 c0_i32_160
  let v299 : BitVec 32 := Scalar.extui v298
  let v300 : BitVec 32 := Scalar.subi v297 v299
  let c2_i32_158 : BitVec 32 := 2#32
  let c0_i32_161 : BitVec 32 := 0#32
  let v301 : BitVec 1 := Scalar.cmpi .sgt c2_i32_158 c0_i32_161
  let v302 : BitVec 32 := Scalar.extui v301
  let c0_i32_162 : BitVec 32 := 0#32
  let v303 : BitVec 1 := Scalar.cmpi .slt c2_i32_158 c0_i32_162
  let v304 : BitVec 32 := Scalar.extui v303
  let v305 : BitVec 32 := Scalar.subi v302 v304
  let v306 : BitVec 1 := Scalar.cmpi .ne v300 v305
  let v307 : BitVec 32 := Scalar.remsi v277 c2_i32_158
  let c0_i32_163 : BitVec 32 := 0#32
  let v308 : BitVec 1 := Scalar.cmpi .ne v307 c0_i32_163
  let v309 : BitVec 1 := Scalar.andi v306 v308
  let v295 : BitVec 32 := Scalar.divsi v277 c2_i32_158
  let c1_i32_164 : BitVec 32 := 1#32
  let v310 : BitVec 32 := Scalar.subi v295 c1_i32_164
  let v311 : BitVec 32 := Scalar.select v309 v310 v295
  let c2_i32_165 : BitVec 32 := 2#32
  let c0_i32_166 : BitVec 32 := 0#32
  let v312 : BitVec 1 := Scalar.cmpi .eq c2_i32_165 c0_i32_166
  let c1_i32_167 : BitVec 32 := 1#32
  let v313 : BitVec 32 := Scalar.select v312 c1_i32_167 c2_i32_165
  let v314 : BitVec 32 := Scalar.remsi v311 v313
  let c0_i32_169 : BitVec 32 := 0#32
  let v316 : BitVec 1 := Scalar.cmpi .slt v314 c0_i32_169
  let c0_i32_170 : BitVec 32 := 0#32
  let v317 : BitVec 1 := Scalar.cmpi .slt v313 c0_i32_170
  let v318 : BitVec 1 := Scalar.xori v316 v317
  let c0_i32_168 : BitVec 32 := 0#32
  let v315 : BitVec 1 := Scalar.cmpi .ne v314 c0_i32_168
  let v319 : BitVec 1 := Scalar.andi v318 v315
  let v320 : BitVec 32 := Scalar.addi v314 v313
  let v321 : BitVec 32 := Scalar.select v319 v320 v314
  let c2_i32_181 : BitVec 32 := 2#32
  let v334 : BitVec 32 := Scalar.muli v321 c2_i32_181
  let v335 : BitVec 32 := Scalar.addi v333 v334
  let c2_i32_171 : BitVec 32 := 2#32
  let c0_i32_172 : BitVec 32 := 0#32
  let v322 : BitVec 1 := Scalar.cmpi .eq c2_i32_171 c0_i32_172
  let c1_i32_173 : BitVec 32 := 1#32
  let v323 : BitVec 32 := Scalar.select v322 c1_i32_173 c2_i32_171
  let v324 : BitVec 32 := Scalar.remsi v277 v323
  let c0_i32_175 : BitVec 32 := 0#32
  let v326 : BitVec 1 := Scalar.cmpi .slt v324 c0_i32_175
  let c0_i32_176 : BitVec 32 := 0#32
  let v327 : BitVec 1 := Scalar.cmpi .slt v323 c0_i32_176
  let v328 : BitVec 1 := Scalar.xori v326 v327
  let c0_i32_174 : BitVec 32 := 0#32
  let v325 : BitVec 1 := Scalar.cmpi .ne v324 c0_i32_174
  let v329 : BitVec 1 := Scalar.andi v328 v325
  let v330 : BitVec 32 := Scalar.addi v324 v323
  let v331 : BitVec 32 := Scalar.select v329 v330 v324
  let c1_i32_182 : BitVec 32 := 1#32
  let v336 : BitVec 32 := Scalar.muli v331 c1_i32_182
  let v337 : BitVec 32 := Scalar.addi v335 v336
  v337.toNat
def k0_dev5 (d0 : Dev nD) : Nat :=
  let c0_i32_224 : BitVec 32 := 0#32
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c1_i32_187 : BitVec 32 := 1#32
  let v346 : BitVec 32 := Scalar.addi v14 c1_i32_187
  let c4_i32_188 : BitVec 32 := 4#32
  let v347 : BitVec 32 := Scalar.addi v346 c4_i32_188
  let c8_i32_189 : BitVec 32 := 8#32
  let c0_i32_190 : BitVec 32 := 0#32
  let v348 : BitVec 1 := Scalar.cmpi .eq c8_i32_189 c0_i32_190
  let c1_i32_191 : BitVec 32 := 1#32
  let v349 : BitVec 32 := Scalar.select v348 c1_i32_191 c8_i32_189
  let v350 : BitVec 32 := Scalar.remsi v347 v349
  let c0_i32_193 : BitVec 32 := 0#32
  let v352 : BitVec 1 := Scalar.cmpi .slt v350 c0_i32_193
  let c0_i32_194 : BitVec 32 := 0#32
  let v353 : BitVec 1 := Scalar.cmpi .slt v349 c0_i32_194
  let v354 : BitVec 1 := Scalar.xori v352 v353
  let c0_i32_192 : BitVec 32 := 0#32
  let v351 : BitVec 1 := Scalar.cmpi .ne v350 c0_i32_192
  let v355 : BitVec 1 := Scalar.andi v354 v351
  let v356 : BitVec 32 := Scalar.addi v350 v349
  let v357 : BitVec 32 := Scalar.select v355 v356 v350
  let c0_i32_196 : BitVec 32 := 0#32
  let v359 : BitVec 1 := Scalar.cmpi .sgt v357 c0_i32_196
  let v360 : BitVec 32 := Scalar.extui v359
  let c0_i32_197 : BitVec 32 := 0#32
  let v361 : BitVec 1 := Scalar.cmpi .slt v357 c0_i32_197
  let v362 : BitVec 32 := Scalar.extui v361
  let v363 : BitVec 32 := Scalar.subi v360 v362
  let c4_i32_195 : BitVec 32 := 4#32
  let c0_i32_198 : BitVec 32 := 0#32
  let v364 : BitVec 1 := Scalar.cmpi .sgt c4_i32_195 c0_i32_198
  let v365 : BitVec 32 := Scalar.extui v364
  let c0_i32_199 : BitVec 32 := 0#32
  let v366 : BitVec 1 := Scalar.cmpi .slt c4_i32_195 c0_i32_199
  let v367 : BitVec 32 := Scalar.extui v366
  let v368 : BitVec 32 := Scalar.subi v365 v367
  let v369 : BitVec 1 := Scalar.cmpi .ne v363 v368
  let v370 : BitVec 32 := Scalar.remsi v357 c4_i32_195
  let c0_i32_200 : BitVec 32 := 0#32
  let v371 : BitVec 1 := Scalar.cmpi .ne v370 c0_i32_200
  let v372 : BitVec 1 := Scalar.andi v369 v371
  let v358 : BitVec 32 := Scalar.divsi v357 c4_i32_195
  let c1_i32_201 : BitVec 32 := 1#32
  let v373 : BitVec 32 := Scalar.subi v358 c1_i32_201
  let v374 : BitVec 32 := Scalar.select v372 v373 v358
  let c4_i32_223 : BitVec 32 := 4#32
  let v412 : BitVec 32 := Scalar.muli v374 c4_i32_223
  let v413 : BitVec 32 := Scalar.addi c0_i32_224 v412
  let c0_i32_203 : BitVec 32 := 0#32
  let v376 : BitVec 1 := Scalar.cmpi .sgt v357 c0_i32_203
  let v377 : BitVec 32 := Scalar.extui v376
  let c0_i32_204 : BitVec 32 := 0#32
  let v378 : BitVec 1 := Scalar.cmpi .slt v357 c0_i32_204
  let v379 : BitVec 32 := Scalar.extui v378
  let v380 : BitVec 32 := Scalar.subi v377 v379
  let c2_i32_202 : BitVec 32 := 2#32
  let c0_i32_205 : BitVec 32 := 0#32
  let v381 : BitVec 1 := Scalar.cmpi .sgt c2_i32_202 c0_i32_205
  let v382 : BitVec 32 := Scalar.extui v381
  let c0_i32_206 : BitVec 32 := 0#32
  let v383 : BitVec 1 := Scalar.cmpi .slt c2_i32_202 c0_i32_206
  let v384 : BitVec 32 := Scalar.extui v383
  let v385 : BitVec 32 := Scalar.subi v382 v384
  let v386 : BitVec 1 := Scalar.cmpi .ne v380 v385
  let v387 : BitVec 32 := Scalar.remsi v357 c2_i32_202
  let c0_i32_207 : BitVec 32 := 0#32
  let v388 : BitVec 1 := Scalar.cmpi .ne v387 c0_i32_207
  let v389 : BitVec 1 := Scalar.andi v386 v388
  let v375 : BitVec 32 := Scalar.divsi v357 c2_i32_202
  let c1_i32_208 : BitVec 32 := 1#32
  let v390 : BitVec 32 := Scalar.subi v375 c1_i32_208
  let v391 : BitVec 32 := Scalar.select v389 v390 v375
  let c2_i32_209 : BitVec 32 := 2#32
  let c0_i32_210 : BitVec 32 := 0#32
  let v392 : BitVec 1 := Scalar.cmpi .eq c2_i32_209 c0_i32_210
  let c1_i32_211 : BitVec 32 := 1#32
  let v393 : BitVec 32 := Scalar.select v392 c1_i32_211 c2_i32_209
  let v394 : BitVec 32 := Scalar.remsi v391 v393
  let c0_i32_213 : BitVec 32 := 0#32
  let v396 : BitVec 1 := Scalar.cmpi .slt v394 c0_i32_213
  let c0_i32_214 : BitVec 32 := 0#32
  let v397 : BitVec 1 := Scalar.cmpi .slt v393 c0_i32_214
  let v398 : BitVec 1 := Scalar.xori v396 v397
  let c0_i32_212 : BitVec 32 := 0#32
  let v395 : BitVec 1 := Scalar.cmpi .ne v394 c0_i32_212
  let v399 : BitVec 1 := Scalar.andi v398 v395
  let v400 : BitVec 32 := Scalar.addi v394 v393
  let v401 : BitVec 32 := Scalar.select v399 v400 v394
  let c2_i32_225 : BitVec 32 := 2#32
  let v414 : BitVec 32 := Scalar.muli v401 c2_i32_225
  let v415 : BitVec 32 := Scalar.addi v413 v414
  let c2_i32_215 : BitVec 32 := 2#32
  let c0_i32_216 : BitVec 32 := 0#32
  let v402 : BitVec 1 := Scalar.cmpi .eq c2_i32_215 c0_i32_216
  let c1_i32_217 : BitVec 32 := 1#32
  let v403 : BitVec 32 := Scalar.select v402 c1_i32_217 c2_i32_215
  let v404 : BitVec 32 := Scalar.remsi v357 v403
  let c0_i32_219 : BitVec 32 := 0#32
  let v406 : BitVec 1 := Scalar.cmpi .slt v404 c0_i32_219
  let c0_i32_220 : BitVec 32 := 0#32
  let v407 : BitVec 1 := Scalar.cmpi .slt v403 c0_i32_220
  let v408 : BitVec 1 := Scalar.xori v406 v407
  let c0_i32_218 : BitVec 32 := 0#32
  let v405 : BitVec 1 := Scalar.cmpi .ne v404 c0_i32_218
  let v409 : BitVec 1 := Scalar.andi v408 v405
  let v410 : BitVec 32 := Scalar.addi v404 v403
  let v411 : BitVec 32 := Scalar.select v409 v410 v404
  let c1_i32_226 : BitVec 32 := 1#32
  let v416 : BitVec 32 := Scalar.muli v411 c1_i32_226
  let v417 : BitVec 32 := Scalar.addi v415 v416
  v417.toNat
def k0_dev6 (d0 : Dev nD) : Nat :=
  let c0_i32_267 : BitVec 32 := 0#32
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c1_i32_231 : BitVec 32 := 1#32
  let v426 : BitVec 32 := Scalar.addi v14 c1_i32_231
  let c5_i32 : BitVec 32 := 5#32
  let v427 : BitVec 32 := Scalar.addi v426 c5_i32
  let c8_i32_232 : BitVec 32 := 8#32
  let c0_i32_233 : BitVec 32 := 0#32
  let v428 : BitVec 1 := Scalar.cmpi .eq c8_i32_232 c0_i32_233
  let c1_i32_234 : BitVec 32 := 1#32
  let v429 : BitVec 32 := Scalar.select v428 c1_i32_234 c8_i32_232
  let v430 : BitVec 32 := Scalar.remsi v427 v429
  let c0_i32_236 : BitVec 32 := 0#32
  let v432 : BitVec 1 := Scalar.cmpi .slt v430 c0_i32_236
  let c0_i32_237 : BitVec 32 := 0#32
  let v433 : BitVec 1 := Scalar.cmpi .slt v429 c0_i32_237
  let v434 : BitVec 1 := Scalar.xori v432 v433
  let c0_i32_235 : BitVec 32 := 0#32
  let v431 : BitVec 1 := Scalar.cmpi .ne v430 c0_i32_235
  let v435 : BitVec 1 := Scalar.andi v434 v431
  let v436 : BitVec 32 := Scalar.addi v430 v429
  let v437 : BitVec 32 := Scalar.select v435 v436 v430
  let c0_i32_239 : BitVec 32 := 0#32
  let v439 : BitVec 1 := Scalar.cmpi .sgt v437 c0_i32_239
  let v440 : BitVec 32 := Scalar.extui v439
  let c0_i32_240 : BitVec 32 := 0#32
  let v441 : BitVec 1 := Scalar.cmpi .slt v437 c0_i32_240
  let v442 : BitVec 32 := Scalar.extui v441
  let v443 : BitVec 32 := Scalar.subi v440 v442
  let c4_i32_238 : BitVec 32 := 4#32
  let c0_i32_241 : BitVec 32 := 0#32
  let v444 : BitVec 1 := Scalar.cmpi .sgt c4_i32_238 c0_i32_241
  let v445 : BitVec 32 := Scalar.extui v444
  let c0_i32_242 : BitVec 32 := 0#32
  let v446 : BitVec 1 := Scalar.cmpi .slt c4_i32_238 c0_i32_242
  let v447 : BitVec 32 := Scalar.extui v446
  let v448 : BitVec 32 := Scalar.subi v445 v447
  let v449 : BitVec 1 := Scalar.cmpi .ne v443 v448
  let v450 : BitVec 32 := Scalar.remsi v437 c4_i32_238
  let c0_i32_243 : BitVec 32 := 0#32
  let v451 : BitVec 1 := Scalar.cmpi .ne v450 c0_i32_243
  let v452 : BitVec 1 := Scalar.andi v449 v451
  let v438 : BitVec 32 := Scalar.divsi v437 c4_i32_238
  let c1_i32_244 : BitVec 32 := 1#32
  let v453 : BitVec 32 := Scalar.subi v438 c1_i32_244
  let v454 : BitVec 32 := Scalar.select v452 v453 v438
  let c4_i32_266 : BitVec 32 := 4#32
  let v492 : BitVec 32 := Scalar.muli v454 c4_i32_266
  let v493 : BitVec 32 := Scalar.addi c0_i32_267 v492
  let c0_i32_246 : BitVec 32 := 0#32
  let v456 : BitVec 1 := Scalar.cmpi .sgt v437 c0_i32_246
  let v457 : BitVec 32 := Scalar.extui v456
  let c0_i32_247 : BitVec 32 := 0#32
  let v458 : BitVec 1 := Scalar.cmpi .slt v437 c0_i32_247
  let v459 : BitVec 32 := Scalar.extui v458
  let v460 : BitVec 32 := Scalar.subi v457 v459
  let c2_i32_245 : BitVec 32 := 2#32
  let c0_i32_248 : BitVec 32 := 0#32
  let v461 : BitVec 1 := Scalar.cmpi .sgt c2_i32_245 c0_i32_248
  let v462 : BitVec 32 := Scalar.extui v461
  let c0_i32_249 : BitVec 32 := 0#32
  let v463 : BitVec 1 := Scalar.cmpi .slt c2_i32_245 c0_i32_249
  let v464 : BitVec 32 := Scalar.extui v463
  let v465 : BitVec 32 := Scalar.subi v462 v464
  let v466 : BitVec 1 := Scalar.cmpi .ne v460 v465
  let v467 : BitVec 32 := Scalar.remsi v437 c2_i32_245
  let c0_i32_250 : BitVec 32 := 0#32
  let v468 : BitVec 1 := Scalar.cmpi .ne v467 c0_i32_250
  let v469 : BitVec 1 := Scalar.andi v466 v468
  let v455 : BitVec 32 := Scalar.divsi v437 c2_i32_245
  let c1_i32_251 : BitVec 32 := 1#32
  let v470 : BitVec 32 := Scalar.subi v455 c1_i32_251
  let v471 : BitVec 32 := Scalar.select v469 v470 v455
  let c2_i32_252 : BitVec 32 := 2#32
  let c0_i32_253 : BitVec 32 := 0#32
  let v472 : BitVec 1 := Scalar.cmpi .eq c2_i32_252 c0_i32_253
  let c1_i32_254 : BitVec 32 := 1#32
  let v473 : BitVec 32 := Scalar.select v472 c1_i32_254 c2_i32_252
  let v474 : BitVec 32 := Scalar.remsi v471 v473
  let c0_i32_256 : BitVec 32 := 0#32
  let v476 : BitVec 1 := Scalar.cmpi .slt v474 c0_i32_256
  let c0_i32_257 : BitVec 32 := 0#32
  let v477 : BitVec 1 := Scalar.cmpi .slt v473 c0_i32_257
  let v478 : BitVec 1 := Scalar.xori v476 v477
  let c0_i32_255 : BitVec 32 := 0#32
  let v475 : BitVec 1 := Scalar.cmpi .ne v474 c0_i32_255
  let v479 : BitVec 1 := Scalar.andi v478 v475
  let v480 : BitVec 32 := Scalar.addi v474 v473
  let v481 : BitVec 32 := Scalar.select v479 v480 v474
  let c2_i32_268 : BitVec 32 := 2#32
  let v494 : BitVec 32 := Scalar.muli v481 c2_i32_268
  let v495 : BitVec 32 := Scalar.addi v493 v494
  let c2_i32_258 : BitVec 32 := 2#32
  let c0_i32_259 : BitVec 32 := 0#32
  let v482 : BitVec 1 := Scalar.cmpi .eq c2_i32_258 c0_i32_259
  let c1_i32_260 : BitVec 32 := 1#32
  let v483 : BitVec 32 := Scalar.select v482 c1_i32_260 c2_i32_258
  let v484 : BitVec 32 := Scalar.remsi v437 v483
  let c0_i32_262 : BitVec 32 := 0#32
  let v486 : BitVec 1 := Scalar.cmpi .slt v484 c0_i32_262
  let c0_i32_263 : BitVec 32 := 0#32
  let v487 : BitVec 1 := Scalar.cmpi .slt v483 c0_i32_263
  let v488 : BitVec 1 := Scalar.xori v486 v487
  let c0_i32_261 : BitVec 32 := 0#32
  let v485 : BitVec 1 := Scalar.cmpi .ne v484 c0_i32_261
  let v489 : BitVec 1 := Scalar.andi v488 v485
  let v490 : BitVec 32 := Scalar.addi v484 v483
  let v491 : BitVec 32 := Scalar.select v489 v490 v484
  let c1_i32_269 : BitVec 32 := 1#32
  let v496 : BitVec 32 := Scalar.muli v491 c1_i32_269
  let v497 : BitVec 32 := Scalar.addi v495 v496
  v497.toNat
def k0_dev7 (d0 : Dev nD) : Nat :=
  let c0_i32_310 : BitVec 32 := 0#32
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c1_i32_274 : BitVec 32 := 1#32
  let v506 : BitVec 32 := Scalar.addi v14 c1_i32_274
  let c6_i32 : BitVec 32 := 6#32
  let v507 : BitVec 32 := Scalar.addi v506 c6_i32
  let c8_i32_275 : BitVec 32 := 8#32
  let c0_i32_276 : BitVec 32 := 0#32
  let v508 : BitVec 1 := Scalar.cmpi .eq c8_i32_275 c0_i32_276
  let c1_i32_277 : BitVec 32 := 1#32
  let v509 : BitVec 32 := Scalar.select v508 c1_i32_277 c8_i32_275
  let v510 : BitVec 32 := Scalar.remsi v507 v509
  let c0_i32_279 : BitVec 32 := 0#32
  let v512 : BitVec 1 := Scalar.cmpi .slt v510 c0_i32_279
  let c0_i32_280 : BitVec 32 := 0#32
  let v513 : BitVec 1 := Scalar.cmpi .slt v509 c0_i32_280
  let v514 : BitVec 1 := Scalar.xori v512 v513
  let c0_i32_278 : BitVec 32 := 0#32
  let v511 : BitVec 1 := Scalar.cmpi .ne v510 c0_i32_278
  let v515 : BitVec 1 := Scalar.andi v514 v511
  let v516 : BitVec 32 := Scalar.addi v510 v509
  let v517 : BitVec 32 := Scalar.select v515 v516 v510
  let c0_i32_282 : BitVec 32 := 0#32
  let v519 : BitVec 1 := Scalar.cmpi .sgt v517 c0_i32_282
  let v520 : BitVec 32 := Scalar.extui v519
  let c0_i32_283 : BitVec 32 := 0#32
  let v521 : BitVec 1 := Scalar.cmpi .slt v517 c0_i32_283
  let v522 : BitVec 32 := Scalar.extui v521
  let v523 : BitVec 32 := Scalar.subi v520 v522
  let c4_i32_281 : BitVec 32 := 4#32
  let c0_i32_284 : BitVec 32 := 0#32
  let v524 : BitVec 1 := Scalar.cmpi .sgt c4_i32_281 c0_i32_284
  let v525 : BitVec 32 := Scalar.extui v524
  let c0_i32_285 : BitVec 32 := 0#32
  let v526 : BitVec 1 := Scalar.cmpi .slt c4_i32_281 c0_i32_285
  let v527 : BitVec 32 := Scalar.extui v526
  let v528 : BitVec 32 := Scalar.subi v525 v527
  let v529 : BitVec 1 := Scalar.cmpi .ne v523 v528
  let v530 : BitVec 32 := Scalar.remsi v517 c4_i32_281
  let c0_i32_286 : BitVec 32 := 0#32
  let v531 : BitVec 1 := Scalar.cmpi .ne v530 c0_i32_286
  let v532 : BitVec 1 := Scalar.andi v529 v531
  let v518 : BitVec 32 := Scalar.divsi v517 c4_i32_281
  let c1_i32_287 : BitVec 32 := 1#32
  let v533 : BitVec 32 := Scalar.subi v518 c1_i32_287
  let v534 : BitVec 32 := Scalar.select v532 v533 v518
  let c4_i32_309 : BitVec 32 := 4#32
  let v572 : BitVec 32 := Scalar.muli v534 c4_i32_309
  let v573 : BitVec 32 := Scalar.addi c0_i32_310 v572
  let c0_i32_289 : BitVec 32 := 0#32
  let v536 : BitVec 1 := Scalar.cmpi .sgt v517 c0_i32_289
  let v537 : BitVec 32 := Scalar.extui v536
  let c0_i32_290 : BitVec 32 := 0#32
  let v538 : BitVec 1 := Scalar.cmpi .slt v517 c0_i32_290
  let v539 : BitVec 32 := Scalar.extui v538
  let v540 : BitVec 32 := Scalar.subi v537 v539
  let c2_i32_288 : BitVec 32 := 2#32
  let c0_i32_291 : BitVec 32 := 0#32
  let v541 : BitVec 1 := Scalar.cmpi .sgt c2_i32_288 c0_i32_291
  let v542 : BitVec 32 := Scalar.extui v541
  let c0_i32_292 : BitVec 32 := 0#32
  let v543 : BitVec 1 := Scalar.cmpi .slt c2_i32_288 c0_i32_292
  let v544 : BitVec 32 := Scalar.extui v543
  let v545 : BitVec 32 := Scalar.subi v542 v544
  let v546 : BitVec 1 := Scalar.cmpi .ne v540 v545
  let v547 : BitVec 32 := Scalar.remsi v517 c2_i32_288
  let c0_i32_293 : BitVec 32 := 0#32
  let v548 : BitVec 1 := Scalar.cmpi .ne v547 c0_i32_293
  let v549 : BitVec 1 := Scalar.andi v546 v548
  let v535 : BitVec 32 := Scalar.divsi v517 c2_i32_288
  let c1_i32_294 : BitVec 32 := 1#32
  let v550 : BitVec 32 := Scalar.subi v535 c1_i32_294
  let v551 : BitVec 32 := Scalar.select v549 v550 v535
  let c2_i32_295 : BitVec 32 := 2#32
  let c0_i32_296 : BitVec 32 := 0#32
  let v552 : BitVec 1 := Scalar.cmpi .eq c2_i32_295 c0_i32_296
  let c1_i32_297 : BitVec 32 := 1#32
  let v553 : BitVec 32 := Scalar.select v552 c1_i32_297 c2_i32_295
  let v554 : BitVec 32 := Scalar.remsi v551 v553
  let c0_i32_299 : BitVec 32 := 0#32
  let v556 : BitVec 1 := Scalar.cmpi .slt v554 c0_i32_299
  let c0_i32_300 : BitVec 32 := 0#32
  let v557 : BitVec 1 := Scalar.cmpi .slt v553 c0_i32_300
  let v558 : BitVec 1 := Scalar.xori v556 v557
  let c0_i32_298 : BitVec 32 := 0#32
  let v555 : BitVec 1 := Scalar.cmpi .ne v554 c0_i32_298
  let v559 : BitVec 1 := Scalar.andi v558 v555
  let v560 : BitVec 32 := Scalar.addi v554 v553
  let v561 : BitVec 32 := Scalar.select v559 v560 v554
  let c2_i32_311 : BitVec 32 := 2#32
  let v574 : BitVec 32 := Scalar.muli v561 c2_i32_311
  let v575 : BitVec 32 := Scalar.addi v573 v574
  let c2_i32_301 : BitVec 32 := 2#32
  let c0_i32_302 : BitVec 32 := 0#32
  let v562 : BitVec 1 := Scalar.cmpi .eq c2_i32_301 c0_i32_302
  let c1_i32_303 : BitVec 32 := 1#32
  let v563 : BitVec 32 := Scalar.select v562 c1_i32_303 c2_i32_301
  let v564 : BitVec 32 := Scalar.remsi v517 v563
  let c0_i32_305 : BitVec 32 := 0#32
  let v566 : BitVec 1 := Scalar.cmpi .slt v564 c0_i32_305
  let c0_i32_306 : BitVec 32 := 0#32
  let v567 : BitVec 1 := Scalar.cmpi .slt v563 c0_i32_306
  let v568 : BitVec 1 := Scalar.xori v566 v567
  let c0_i32_304 : BitVec 32 := 0#32
  let v565 : BitVec 1 := Scalar.cmpi .ne v564 c0_i32_304
  let v569 : BitVec 1 := Scalar.andi v568 v565
  let v570 : BitVec 32 := Scalar.addi v564 v563
  let v571 : BitVec 32 := Scalar.select v569 v570 v564
  let c1_i32_312 : BitVec 32 := 1#32
  let v576 : BitVec 32 := Scalar.muli v571 c1_i32_312
  let v577 : BitVec 32 := Scalar.addi v575 v576
  v577.toNat
def k0_mult1 (d0 : Dev nD) : BitVec 32 :=
  let c0_i32_318 : BitVec 32 := 0#32
  let c1_i32_317 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v586 : BitVec 32 := Scalar.subi c1_i32_317 v8
  let c544_i32 : BitVec 32 := 544#32
  let v587 : BitVec 32 := Scalar.muli v586 c544_i32
  let v588 : BitVec 32 := Scalar.addi c0_i32_318 v587
  v588
def k0_off3 (d0 : Dev nD) (c0_i32_318 : BitVec 32) : Fin 2 → Nat :=
  let c1_i32_317 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v586 : BitVec 32 := Scalar.subi c1_i32_317 v8
  let c544_i32 : BitVec 32 := 544#32
  let v587 : BitVec 32 := Scalar.muli v586 c544_i32
  let v588 : BitVec 32 := Scalar.addi c0_i32_318 v587
  let v589 : BitVec 32 := v588
  let c0_i32_330 : BitVec 32 := 0#32
  ![v589.toNat, 0]
def k0_dev8 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v590 : BitVec 32 := Scalar.muli v2 c4_i32_324
  let v591 : BitVec 32 := Scalar.addi c0_i32_325 v590
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_326 : BitVec 32 := 2#32
  let v592 : BitVec 32 := Scalar.muli v5 c2_i32_326
  let v593 : BitVec 32 := Scalar.addi v591 v592
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_327 : BitVec 32 := 1#32
  let v594 : BitVec 32 := Scalar.muli v15 c1_i32_327
  let v595 : BitVec 32 := Scalar.addi v593 v594
  v595.toNat
def k0_mult2 (d0 : Dev nD) : BitVec 32 :=
  let c1088_i32 : BitVec 32 := 1088#32
  let c1_i32_331 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v603 : BitVec 32 := Scalar.subi c1_i32_331 v8
  let c544_i32_332 : BitVec 32 := 544#32
  let v604 : BitVec 32 := Scalar.muli v603 c544_i32_332
  let v605 : BitVec 32 := Scalar.addi c1088_i32 v604
  v605
def k0_dev9 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v607 : BitVec 32 := Scalar.muli v2 c4_i32_338
  let v608 : BitVec 32 := Scalar.addi c0_i32_339 v607
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_340 : BitVec 32 := 2#32
  let v609 : BitVec 32 := Scalar.muli v5 c2_i32_340
  let v610 : BitVec 32 := Scalar.addi v608 v609
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_341 : BitVec 32 := 1#32
  let v611 : BitVec 32 := Scalar.muli v15 c1_i32_341
  let v612 : BitVec 32 := Scalar.addi v610 v611
  v612.toNat
def k0_mult3 (d0 : Dev nD) : BitVec 32 :=
  let c2176_i32 : BitVec 32 := 2176#32
  let c1_i32_345 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v620 : BitVec 32 := Scalar.subi c1_i32_345 v8
  let c544_i32_346 : BitVec 32 := 544#32
  let v621 : BitVec 32 := Scalar.muli v620 c544_i32_346
  let v622 : BitVec 32 := Scalar.addi c2176_i32 v621
  v622
def k0_dev10 (d0 : Dev nD) : Nat :=
  let c0_i32_353 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_352 : BitVec 32 := 4#32
  let v624 : BitVec 32 := Scalar.muli v2 c4_i32_352
  let v625 : BitVec 32 := Scalar.addi c0_i32_353 v624
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_354 : BitVec 32 := 2#32
  let v626 : BitVec 32 := Scalar.muli v5 c2_i32_354
  let v627 : BitVec 32 := Scalar.addi v625 v626
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_355 : BitVec 32 := 1#32
  let v628 : BitVec 32 := Scalar.muli v15 c1_i32_355
  let v629 : BitVec 32 := Scalar.addi v627 v628
  v629.toNat
def k0_mult4 (d0 : Dev nD) : BitVec 32 :=
  let c3264_i32 : BitVec 32 := 3264#32
  let c1_i32_359 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v637 : BitVec 32 := Scalar.subi c1_i32_359 v8
  let c544_i32_360 : BitVec 32 := 544#32
  let v638 : BitVec 32 := Scalar.muli v637 c544_i32_360
  let v639 : BitVec 32 := Scalar.addi c3264_i32 v638
  v639
def k0_dev11 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_366 : BitVec 32 := 4#32
  let v641 : BitVec 32 := Scalar.muli v2 c4_i32_366
  let v642 : BitVec 32 := Scalar.addi c0_i32_367 v641
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_368 : BitVec 32 := 2#32
  let v643 : BitVec 32 := Scalar.muli v5 c2_i32_368
  let v644 : BitVec 32 := Scalar.addi v642 v643
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_369 : BitVec 32 := 1#32
  let v645 : BitVec 32 := Scalar.muli v15 c1_i32_369
  let v646 : BitVec 32 := Scalar.addi v644 v645
  v646.toNat
def k0_mult5 (d0 : Dev nD) : BitVec 32 :=
  let c0_i32_374 : BitVec 32 := 0#32
  let c1_i32_373 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v654 : BitVec 32 := Scalar.subi c1_i32_373 v8
  let c256_i32 : BitVec 32 := 256#32
  let v655 : BitVec 32 := Scalar.muli v654 c256_i32
  let v656 : BitVec 32 := Scalar.addi c0_i32_374 v655
  v656
def k0_off4 (d0 : Dev nD) (c0_i32_374 : BitVec 32) : Fin 2 → Nat :=
  let c1_i32_373 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v654 : BitVec 32 := Scalar.subi c1_i32_373 v8
  let c256_i32 : BitVec 32 := 256#32
  let v655 : BitVec 32 := Scalar.muli v654 c256_i32
  let v656 : BitVec 32 := Scalar.addi c0_i32_374 v655
  let v657 : BitVec 32 := v656
  let c0_i32_386 : BitVec 32 := 0#32
  ![v657.toNat, 0]
def k0_dev12 (d0 : Dev nD) : Nat :=
  let c0_i32_381 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_380 : BitVec 32 := 4#32
  let v658 : BitVec 32 := Scalar.muli v2 c4_i32_380
  let v659 : BitVec 32 := Scalar.addi c0_i32_381 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_382 : BitVec 32 := 2#32
  let v660 : BitVec 32 := Scalar.muli v5 c2_i32_382
  let v661 : BitVec 32 := Scalar.addi v659 v660
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_383 : BitVec 32 := 1#32
  let v662 : BitVec 32 := Scalar.muli v15 c1_i32_383
  let v663 : BitVec 32 := Scalar.addi v661 v662
  v663.toNat
def k0_mult6 (d0 : Dev nD) : BitVec 32 :=
  let c512_i32 : BitVec 32 := 512#32
  let c1_i32_387 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v671 : BitVec 32 := Scalar.subi c1_i32_387 v8
  let c256_i32_388 : BitVec 32 := 256#32
  let v672 : BitVec 32 := Scalar.muli v671 c256_i32_388
  let v673 : BitVec 32 := Scalar.addi c512_i32 v672
  v673
def k0_dev13 (d0 : Dev nD) : Nat :=
  let c0_i32_395 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_394 : BitVec 32 := 4#32
  let v675 : BitVec 32 := Scalar.muli v2 c4_i32_394
  let v676 : BitVec 32 := Scalar.addi c0_i32_395 v675
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_396 : BitVec 32 := 2#32
  let v677 : BitVec 32 := Scalar.muli v5 c2_i32_396
  let v678 : BitVec 32 := Scalar.addi v676 v677
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_397 : BitVec 32 := 1#32
  let v679 : BitVec 32 := Scalar.muli v15 c1_i32_397
  let v680 : BitVec 32 := Scalar.addi v678 v679
  v680.toNat
def k0_mult7 (d0 : Dev nD) : BitVec 32 :=
  let c1024_i32 : BitVec 32 := 1024#32
  let c1_i32_401 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v688 : BitVec 32 := Scalar.subi c1_i32_401 v8
  let c256_i32_402 : BitVec 32 := 256#32
  let v689 : BitVec 32 := Scalar.muli v688 c256_i32_402
  let v690 : BitVec 32 := Scalar.addi c1024_i32 v689
  v690
def k0_dev14 (d0 : Dev nD) : Nat :=
  let c0_i32_409 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_408 : BitVec 32 := 4#32
  let v692 : BitVec 32 := Scalar.muli v2 c4_i32_408
  let v693 : BitVec 32 := Scalar.addi c0_i32_409 v692
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_410 : BitVec 32 := 2#32
  let v694 : BitVec 32 := Scalar.muli v5 c2_i32_410
  let v695 : BitVec 32 := Scalar.addi v693 v694
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_411 : BitVec 32 := 1#32
  let v696 : BitVec 32 := Scalar.muli v15 c1_i32_411
  let v697 : BitVec 32 := Scalar.addi v695 v696
  v697.toNat
def k0_mult8 (d0 : Dev nD) : BitVec 32 :=
  let c1536_i32 : BitVec 32 := 1536#32
  let c1_i32_415 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v705 : BitVec 32 := Scalar.subi c1_i32_415 v8
  let c256_i32_416 : BitVec 32 := 256#32
  let v706 : BitVec 32 := Scalar.muli v705 c256_i32_416
  let v707 : BitVec 32 := Scalar.addi c1536_i32 v706
  v707
def k0_dev15 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v709 : BitVec 32 := Scalar.muli v2 c4_i32_422
  let v710 : BitVec 32 := Scalar.addi c0_i32_423 v709
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_424 : BitVec 32 := 2#32
  let v711 : BitVec 32 := Scalar.muli v5 c2_i32_424
  let v712 : BitVec 32 := Scalar.addi v710 v711
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_425 : BitVec 32 := 1#32
  let v713 : BitVec 32 := Scalar.muli v15 c1_i32_425
  let v714 : BitVec 32 := Scalar.addi v712 v713
  v714.toNat
def k0_mult9 (d0 : Dev nD) : BitVec 32 :=
  let c0_i32_431 : BitVec 32 := 0#32
  let c1_i32_429 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v722 : BitVec 32 := Scalar.subi c1_i32_429 v8
  let c1024_i32_430 : BitVec 32 := 1024#32
  let v723 : BitVec 32 := Scalar.muli v722 c1024_i32_430
  let v724 : BitVec 32 := Scalar.addi c0_i32_431 v723
  v724
def k0_off5 (d0 : Dev nD) (c0_i32_431 : BitVec 32) : Fin 2 → Nat :=
  let c1_i32_429 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v722 : BitVec 32 := Scalar.subi c1_i32_429 v8
  let c1024_i32_430 : BitVec 32 := 1024#32
  let v723 : BitVec 32 := Scalar.muli v722 c1024_i32_430
  let v724 : BitVec 32 := Scalar.addi c0_i32_431 v723
  let v725 : BitVec 32 := v724
  let c0_i32_443 : BitVec 32 := 0#32
  ![v725.toNat, 0]
def k0_dev16 (d0 : Dev nD) : Nat :=
  let c0_i32_438 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_437 : BitVec 32 := 4#32
  let v726 : BitVec 32 := Scalar.muli v2 c4_i32_437
  let v727 : BitVec 32 := Scalar.addi c0_i32_438 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_439 : BitVec 32 := 2#32
  let v728 : BitVec 32 := Scalar.muli v5 c2_i32_439
  let v729 : BitVec 32 := Scalar.addi v727 v728
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_440 : BitVec 32 := 1#32
  let v730 : BitVec 32 := Scalar.muli v15 c1_i32_440
  let v731 : BitVec 32 := Scalar.addi v729 v730
  v731.toNat
def k0_mult10 (d0 : Dev nD) : BitVec 32 :=
  let c2048_i32 : BitVec 32 := 2048#32
  let c1_i32_444 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v739 : BitVec 32 := Scalar.subi c1_i32_444 v8
  let c1024_i32_445 : BitVec 32 := 1024#32
  let v740 : BitVec 32 := Scalar.muli v739 c1024_i32_445
  let v741 : BitVec 32 := Scalar.addi c2048_i32 v740
  v741
def k0_dev17 (d0 : Dev nD) : Nat :=
  let c0_i32_452 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_451 : BitVec 32 := 4#32
  let v743 : BitVec 32 := Scalar.muli v2 c4_i32_451
  let v744 : BitVec 32 := Scalar.addi c0_i32_452 v743
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_453 : BitVec 32 := 2#32
  let v745 : BitVec 32 := Scalar.muli v5 c2_i32_453
  let v746 : BitVec 32 := Scalar.addi v744 v745
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_454 : BitVec 32 := 1#32
  let v747 : BitVec 32 := Scalar.muli v15 c1_i32_454
  let v748 : BitVec 32 := Scalar.addi v746 v747
  v748.toNat
def k0_mult11 (d0 : Dev nD) : BitVec 32 :=
  let c4096_i32 : BitVec 32 := 4096#32
  let c1_i32_458 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v756 : BitVec 32 := Scalar.subi c1_i32_458 v8
  let c1024_i32_459 : BitVec 32 := 1024#32
  let v757 : BitVec 32 := Scalar.muli v756 c1024_i32_459
  let v758 : BitVec 32 := Scalar.addi c4096_i32 v757
  v758
def k0_dev18 (d0 : Dev nD) : Nat :=
  let c0_i32_466 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_465 : BitVec 32 := 4#32
  let v760 : BitVec 32 := Scalar.muli v2 c4_i32_465
  let v761 : BitVec 32 := Scalar.addi c0_i32_466 v760
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_467 : BitVec 32 := 2#32
  let v762 : BitVec 32 := Scalar.muli v5 c2_i32_467
  let v763 : BitVec 32 := Scalar.addi v761 v762
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_468 : BitVec 32 := 1#32
  let v764 : BitVec 32 := Scalar.muli v15 c1_i32_468
  let v765 : BitVec 32 := Scalar.addi v763 v764
  v765.toNat
def k0_mult12 (d0 : Dev nD) : BitVec 32 :=
  let c6144_i32 : BitVec 32 := 6144#32
  let c1_i32_472 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v773 : BitVec 32 := Scalar.subi c1_i32_472 v8
  let c1024_i32_473 : BitVec 32 := 1024#32
  let v774 : BitVec 32 := Scalar.muli v773 c1024_i32_473
  let v775 : BitVec 32 := Scalar.addi c6144_i32 v774
  v775
def k0_dev19 (d0 : Dev nD) : Nat :=
  let c0_i32_480 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_479 : BitVec 32 := 4#32
  let v777 : BitVec 32 := Scalar.muli v2 c4_i32_479
  let v778 : BitVec 32 := Scalar.addi c0_i32_480 v777
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_481 : BitVec 32 := 2#32
  let v779 : BitVec 32 := Scalar.muli v5 c2_i32_481
  let v780 : BitVec 32 := Scalar.addi v778 v779
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_482 : BitVec 32 := 1#32
  let v781 : BitVec 32 := Scalar.muli v15 c1_i32_482
  let v782 : BitVec 32 := Scalar.addi v780 v781
  v782.toNat
def k0_mult13 (d0 : Dev nD) : BitVec 32 :=
  let c0_i32_488 : BitVec 32 := 0#32
  let c1_i32_486 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v790 : BitVec 32 := Scalar.subi c1_i32_486 v8
  let c1024_i32_487 : BitVec 32 := 1024#32
  let v791 : BitVec 32 := Scalar.muli v790 c1024_i32_487
  let v792 : BitVec 32 := Scalar.addi c0_i32_488 v791
  v792
def k0_dev20 (d0 : Dev nD) : Nat :=
  let c0_i32_495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_494 : BitVec 32 := 4#32
  let v794 : BitVec 32 := Scalar.muli v2 c4_i32_494
  let v795 : BitVec 32 := Scalar.addi c0_i32_495 v794
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_496 : BitVec 32 := 2#32
  let v796 : BitVec 32 := Scalar.muli v5 c2_i32_496
  let v797 : BitVec 32 := Scalar.addi v795 v796
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_497 : BitVec 32 := 1#32
  let v798 : BitVec 32 := Scalar.muli v15 c1_i32_497
  let v799 : BitVec 32 := Scalar.addi v797 v798
  v799.toNat
def k0_mult14 (d0 : Dev nD) : BitVec 32 :=
  let c2048_i32_503 : BitVec 32 := 2048#32
  let c1_i32_501 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v807 : BitVec 32 := Scalar.subi c1_i32_501 v8
  let c1024_i32_502 : BitVec 32 := 1024#32
  let v808 : BitVec 32 := Scalar.muli v807 c1024_i32_502
  let v809 : BitVec 32 := Scalar.addi c2048_i32_503 v808
  v809
def k0_dev21 (d0 : Dev nD) : Nat :=
  let c0_i32_510 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_509 : BitVec 32 := 4#32
  let v811 : BitVec 32 := Scalar.muli v2 c4_i32_509
  let v812 : BitVec 32 := Scalar.addi c0_i32_510 v811
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_511 : BitVec 32 := 2#32
  let v813 : BitVec 32 := Scalar.muli v5 c2_i32_511
  let v814 : BitVec 32 := Scalar.addi v812 v813
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_512 : BitVec 32 := 1#32
  let v815 : BitVec 32 := Scalar.muli v15 c1_i32_512
  let v816 : BitVec 32 := Scalar.addi v814 v815
  v816.toNat
def k0_mult15 (d0 : Dev nD) : BitVec 32 :=
  let c4096_i32_518 : BitVec 32 := 4096#32
  let c1_i32_516 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v824 : BitVec 32 := Scalar.subi c1_i32_516 v8
  let c1024_i32_517 : BitVec 32 := 1024#32
  let v825 : BitVec 32 := Scalar.muli v824 c1024_i32_517
  let v826 : BitVec 32 := Scalar.addi c4096_i32_518 v825
  v826
def k0_dev22 (d0 : Dev nD) : Nat :=
  let c0_i32_525 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_524 : BitVec 32 := 4#32
  let v828 : BitVec 32 := Scalar.muli v2 c4_i32_524
  let v829 : BitVec 32 := Scalar.addi c0_i32_525 v828
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_526 : BitVec 32 := 2#32
  let v830 : BitVec 32 := Scalar.muli v5 c2_i32_526
  let v831 : BitVec 32 := Scalar.addi v829 v830
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_527 : BitVec 32 := 1#32
  let v832 : BitVec 32 := Scalar.muli v15 c1_i32_527
  let v833 : BitVec 32 := Scalar.addi v831 v832
  v833.toNat
def k0_mult16 (d0 : Dev nD) : BitVec 32 :=
  let c6144_i32_533 : BitVec 32 := 6144#32
  let c1_i32_531 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v841 : BitVec 32 := Scalar.subi c1_i32_531 v8
  let c1024_i32_532 : BitVec 32 := 1024#32
  let v842 : BitVec 32 := Scalar.muli v841 c1024_i32_532
  let v843 : BitVec 32 := Scalar.addi c6144_i32_533 v842
  v843
def k0_dev23 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v845 : BitVec 32 := Scalar.muli v2 c4_i32_539
  let v846 : BitVec 32 := Scalar.addi c0_i32_540 v845
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v847 : BitVec 32 := Scalar.muli v5 c2_i32_541
  let v848 : BitVec 32 := Scalar.addi v846 v847
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_542 : BitVec 32 := 1#32
  let v849 : BitVec 32 := Scalar.muli v15 c1_i32_542
  let v850 : BitVec 32 := Scalar.addi v848 v849
  v850.toNat
def k0_mult17 (d0 : Dev nD) : BitVec 32 :=
  let c0_i32_548 : BitVec 32 := 0#32
  let c1_i32_546 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v858 : BitVec 32 := Scalar.subi c1_i32_546 v8
  let c544_i32_547 : BitVec 32 := 544#32
  let v859 : BitVec 32 := Scalar.muli v858 c544_i32_547
  let v860 : BitVec 32 := Scalar.addi c0_i32_548 v859
  v860
def k0_mult18 (d0 : Dev nD) : BitVec 32 :=
  let c1088_i32_563 : BitVec 32 := 1088#32
  let c1_i32_561 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v873 : BitVec 32 := Scalar.subi c1_i32_561 v8
  let c544_i32_562 : BitVec 32 := 544#32
  let v874 : BitVec 32 := Scalar.muli v873 c544_i32_562
  let v875 : BitVec 32 := Scalar.addi c1088_i32_563 v874
  v875
def k0_mult19 (d0 : Dev nD) : BitVec 32 :=
  let c2176_i32_578 : BitVec 32 := 2176#32
  let c1_i32_576 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v888 : BitVec 32 := Scalar.subi c1_i32_576 v8
  let c544_i32_577 : BitVec 32 := 544#32
  let v889 : BitVec 32 := Scalar.muli v888 c544_i32_577
  let v890 : BitVec 32 := Scalar.addi c2176_i32_578 v889
  v890
def k0_mult20 (d0 : Dev nD) : BitVec 32 :=
  let c3264_i32_593 : BitVec 32 := 3264#32
  let c1_i32_591 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v903 : BitVec 32 := Scalar.subi c1_i32_591 v8
  let c544_i32_592 : BitVec 32 := 544#32
  let v904 : BitVec 32 := Scalar.muli v903 c544_i32_592
  let v905 : BitVec 32 := Scalar.addi c3264_i32_593 v904
  v905
def k0_mult21 (d0 : Dev nD) : BitVec 32 :=
  let c0_i32_608 : BitVec 32 := 0#32
  let c1_i32_606 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v918 : BitVec 32 := Scalar.subi c1_i32_606 v8
  let c256_i32_607 : BitVec 32 := 256#32
  let v919 : BitVec 32 := Scalar.muli v918 c256_i32_607
  let v920 : BitVec 32 := Scalar.addi c0_i32_608 v919
  v920
def k0_mult22 (d0 : Dev nD) : BitVec 32 :=
  let c512_i32_623 : BitVec 32 := 512#32
  let c1_i32_621 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v933 : BitVec 32 := Scalar.subi c1_i32_621 v8
  let c256_i32_622 : BitVec 32 := 256#32
  let v934 : BitVec 32 := Scalar.muli v933 c256_i32_622
  let v935 : BitVec 32 := Scalar.addi c512_i32_623 v934
  v935
def k0_mult23 (d0 : Dev nD) : BitVec 32 :=
  let c1024_i32_638 : BitVec 32 := 1024#32
  let c1_i32_636 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v948 : BitVec 32 := Scalar.subi c1_i32_636 v8
  let c256_i32_637 : BitVec 32 := 256#32
  let v949 : BitVec 32 := Scalar.muli v948 c256_i32_637
  let v950 : BitVec 32 := Scalar.addi c1024_i32_638 v949
  v950
def k0_mult24 (d0 : Dev nD) : BitVec 32 :=
  let c1536_i32_653 : BitVec 32 := 1536#32
  let c1_i32_651 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v963 : BitVec 32 := Scalar.subi c1_i32_651 v8
  let c256_i32_652 : BitVec 32 := 256#32
  let v964 : BitVec 32 := Scalar.muli v963 c256_i32_652
  let v965 : BitVec 32 := Scalar.addi c1536_i32_653 v964
  v965
def k0_mult25 (d0 : Dev nD) : BitVec 32 :=
  let c0_i32_668 : BitVec 32 := 0#32
  let c1_i32_666 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v978 : BitVec 32 := Scalar.subi c1_i32_666 v8
  let c1024_i32_667 : BitVec 32 := 1024#32
  let v979 : BitVec 32 := Scalar.muli v978 c1024_i32_667
  let v980 : BitVec 32 := Scalar.addi c0_i32_668 v979
  v980
def k0_mult26 (d0 : Dev nD) : BitVec 32 :=
  let c2048_i32_683 : BitVec 32 := 2048#32
  let c1_i32_681 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v993 : BitVec 32 := Scalar.subi c1_i32_681 v8
  let c1024_i32_682 : BitVec 32 := 1024#32
  let v994 : BitVec 32 := Scalar.muli v993 c1024_i32_682
  let v995 : BitVec 32 := Scalar.addi c2048_i32_683 v994
  v995
def k0_mult27 (d0 : Dev nD) : BitVec 32 :=
  let c4096_i32_698 : BitVec 32 := 4096#32
  let c1_i32_696 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1008 : BitVec 32 := Scalar.subi c1_i32_696 v8
  let c1024_i32_697 : BitVec 32 := 1024#32
  let v1009 : BitVec 32 := Scalar.muli v1008 c1024_i32_697
  let v1010 : BitVec 32 := Scalar.addi c4096_i32_698 v1009
  v1010
def k0_mult28 (d0 : Dev nD) : BitVec 32 :=
  let c6144_i32_713 : BitVec 32 := 6144#32
  let c1_i32_711 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1023 : BitVec 32 := Scalar.subi c1_i32_711 v8
  let c1024_i32_712 : BitVec 32 := 1024#32
  let v1024 : BitVec 32 := Scalar.muli v1023 c1024_i32_712
  let v1025 : BitVec 32 := Scalar.addi c6144_i32_713 v1024
  v1025
def k0_mult29 (d0 : Dev nD) : BitVec 32 :=
  let c0_i32_728 : BitVec 32 := 0#32
  let c1_i32_726 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1038 : BitVec 32 := Scalar.subi c1_i32_726 v8
  let c1024_i32_727 : BitVec 32 := 1024#32
  let v1039 : BitVec 32 := Scalar.muli v1038 c1024_i32_727
  let v1040 : BitVec 32 := Scalar.addi c0_i32_728 v1039
  v1040
def k0_mult30 (d0 : Dev nD) : BitVec 32 :=
  let c2048_i32_743 : BitVec 32 := 2048#32
  let c1_i32_741 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1053 : BitVec 32 := Scalar.subi c1_i32_741 v8
  let c1024_i32_742 : BitVec 32 := 1024#32
  let v1054 : BitVec 32 := Scalar.muli v1053 c1024_i32_742
  let v1055 : BitVec 32 := Scalar.addi c2048_i32_743 v1054
  v1055
def k0_mult31 (d0 : Dev nD) : BitVec 32 :=
  let c4096_i32_758 : BitVec 32 := 4096#32
  let c1_i32_756 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1068 : BitVec 32 := Scalar.subi c1_i32_756 v8
  let c1024_i32_757 : BitVec 32 := 1024#32
  let v1069 : BitVec 32 := Scalar.muli v1068 c1024_i32_757
  let v1070 : BitVec 32 := Scalar.addi c4096_i32_758 v1069
  v1070
def k0_mult32 (d0 : Dev nD) : BitVec 32 :=
  let c6144_i32_773 : BitVec 32 := 6144#32
  let c1_i32_771 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1083 : BitVec 32 := Scalar.subi c1_i32_771 v8
  let c1024_i32_772 : BitVec 32 := 1024#32
  let v1084 : BitVec 32 := Scalar.muli v1083 c1024_i32_772
  let v1085 : BitVec 32 := Scalar.addi c6144_i32_773 v1084
  v1085
def k0_mult33 (d0 : Dev nD) : BitVec 32 :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c1088_i32_787 : BitVec 32 := 1088#32
  let v1100 : BitVec 32 := Scalar.muli v1099 c1088_i32_787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_788 : BitVec 32 := 544#32
  let v1101 : BitVec 32 := Scalar.muli v8 c544_i32_788
  let v1102 : BitVec 32 := Scalar.addi v1100 v1101
  v1102
@[reducible] def k0_t1_loop : Scf.Loop 32 :=
  let c0_i32_789 : BitVec 32 := 0#32
  let c2_i32_790 : BitVec 32 := 2#32
  let v1104 : BitVec 32 := Scalar.addi c0_i32_789 c2_i32_790
  let c1_i32_791 : BitVec 32 := 1#32
  ⟨c0_i32_789, v1104, c1_i32_791⟩
def k0_mult34 (k0_t1 : Fin k0_t1_loop.trips) : BitVec 32 :=
  let c0_i32_789 : BitVec 32 := 0#32
  let c1_i32_791 : BitVec 32 := 1#32
  let arg35 : BitVec 32 := Scf.iv c0_i32_789 c1_i32_791 k0_t1
  let c256_i32_2209 : BitVec 32 := 256#32
  let v2342 : BitVec 32 := Scalar.muli arg35 c256_i32_2209
  v2342
def k0_off6 (d0 : Dev nD) : Fin 2 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c1088_i32_787 : BitVec 32 := 1088#32
  let v1100 : BitVec 32 := Scalar.muli v1099 c1088_i32_787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_788 : BitVec 32 := 544#32
  let v1101 : BitVec 32 := Scalar.muli v8 c544_i32_788
  let v1102 : BitVec 32 := Scalar.addi v1100 v1101
  let v1103 : BitVec 32 := v1102
  let c0_i32_2212 : BitVec 32 := 0#32
  ![v1103.toNat, 0]
def k0_off7 (k0_t1 : Fin k0_t1_loop.trips) : Fin 2 → Nat :=
  let c0_i32_789 : BitVec 32 := 0#32
  let c1_i32_791 : BitVec 32 := 1#32
  let arg35 : BitVec 32 := Scf.iv c0_i32_789 c1_i32_791 k0_t1
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off8 (d0 : Dev nD) : Fin 3 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c0_i32_2222 : BitVec 32 := 0#32
  let c0_i32_2223 : BitVec 32 := 0#32
  ![v1099.toNat, 0, 0]
def k0_off9 (d0 : Dev nD) : Fin 2 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c1088_i32_787 : BitVec 32 := 1088#32
  let v1100 : BitVec 32 := Scalar.muli v1099 c1088_i32_787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_788 : BitVec 32 := 544#32
  let v1101 : BitVec 32 := Scalar.muli v8 c544_i32_788
  let v1102 : BitVec 32 := Scalar.addi v1100 v1101
  let v1103 : BitVec 32 := v1102
  let c0_i32_795 : BitVec 32 := 0#32
  ![v1103.toNat, 0]
def k0_off10 (d0 : Dev nD) : Fin 3 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c0_i32_807 : BitVec 32 := 0#32
  let c0_i32_808 : BitVec 32 := 0#32
  ![v1099.toNat, 0, 0]
def k0_dev24 (d0 : Dev nD) : Nat :=
  let c0_i32_839 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_838 : BitVec 32 := 4#32
  let v1133 : BitVec 32 := Scalar.muli v18 c4_i32_838
  let v1134 : BitVec 32 := Scalar.addi c0_i32_839 v1133
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_840 : BitVec 32 := 2#32
  let v1135 : BitVec 32 := Scalar.muli v19 c2_i32_840
  let v1136 : BitVec 32 := Scalar.addi v1134 v1135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_841 : BitVec 32 := 1#32
  let v1137 : BitVec 32 := Scalar.muli v8 c1_i32_841
  let v1138 : BitVec 32 := Scalar.addi v1136 v1137
  v1138.toNat
def k0_mult35 (d0 : Dev nD) : BitVec 32 :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c512_i32_846 : BitVec 32 := 512#32
  let v1147 : BitVec 32 := Scalar.muli v1099 c512_i32_846
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_847 : BitVec 32 := 256#32
  let v1148 : BitVec 32 := Scalar.muli v8 c256_i32_847
  let v1149 : BitVec 32 := Scalar.addi v1147 v1148
  v1149
def k0_mult36 : BitVec 32 :=
  let c0_i32_848 : BitVec 32 := 0#32
  let c256_i32_849 : BitVec 32 := 256#32
  let v1151 : BitVec 32 := Scalar.muli c0_i32_848 c256_i32_849
  v1151
def k0_off11 (d0 : Dev nD) : Fin 2 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c512_i32_846 : BitVec 32 := 512#32
  let v1147 : BitVec 32 := Scalar.muli v1099 c512_i32_846
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_847 : BitVec 32 := 256#32
  let v1148 : BitVec 32 := Scalar.muli v8 c256_i32_847
  let v1149 : BitVec 32 := Scalar.addi v1147 v1148
  let v1150 : BitVec 32 := v1149
  let c0_i32_852 : BitVec 32 := 0#32
  ![v1150.toNat, 0]
def k0_off12 : Fin 2 → Nat :=
  let c0_i32_848 : BitVec 32 := 0#32
  let c256_i32_849 : BitVec 32 := 256#32
  let v1151 : BitVec 32 := Scalar.muli c0_i32_848 c256_i32_849
  let v1152 : BitVec 32 := v1151
  let c0_i32_853 : BitVec 32 := 0#32
  ![v1152.toNat, 0]
def k0_off13 (d0 : Dev nD) : Fin 3 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c0_i32_862 : BitVec 32 := 0#32
  let c0_i32_863 : BitVec 32 := 0#32
  ![v1099.toNat, 0, 0]
def k0_dev25 (d0 : Dev nD) : Nat :=
  let c0_i32_891 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_890 : BitVec 32 := 4#32
  let v1181 : BitVec 32 := Scalar.muli v18 c4_i32_890
  let v1182 : BitVec 32 := Scalar.addi c0_i32_891 v1181
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_892 : BitVec 32 := 2#32
  let v1183 : BitVec 32 := Scalar.muli v19 c2_i32_892
  let v1184 : BitVec 32 := Scalar.addi v1182 v1183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_893 : BitVec 32 := 1#32
  let v1185 : BitVec 32 := Scalar.muli v8 c1_i32_893
  let v1186 : BitVec 32 := Scalar.addi v1184 v1185
  v1186.toNat
def k0_mult37 (d0 : Dev nD) : BitVec 32 :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c2048_i32_898 : BitVec 32 := 2048#32
  let v1195 : BitVec 32 := Scalar.muli v1099 c2048_i32_898
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_899 : BitVec 32 := 1024#32
  let v1196 : BitVec 32 := Scalar.muli v8 c1024_i32_899
  let v1197 : BitVec 32 := Scalar.addi v1195 v1196
  v1197
@[reducible] def k0_t2_loop : Scf.Loop 32 :=
  let c0_i32_900 : BitVec 32 := 0#32
  let c4_i32_901 : BitVec 32 := 4#32
  let v1199 : BitVec 32 := Scalar.addi c0_i32_900 c4_i32_901
  let c1_i32_902 : BitVec 32 := 1#32
  ⟨c0_i32_900, v1199, c1_i32_902⟩
def k0_mult38 (k0_t2 : Fin k0_t2_loop.trips) : BitVec 32 :=
  let c0_i32_900 : BitVec 32 := 0#32
  let c1_i32_902 : BitVec 32 := 1#32
  let arg35 : BitVec 32 := Scf.iv c0_i32_900 c1_i32_902 k0_t2
  let c256_i32_2209 : BitVec 32 := 256#32
  let v2342 : BitVec 32 := Scalar.muli arg35 c256_i32_2209
  v2342
def k0_off14 (d0 : Dev nD) : Fin 2 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c2048_i32_898 : BitVec 32 := 2048#32
  let v1195 : BitVec 32 := Scalar.muli v1099 c2048_i32_898
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_899 : BitVec 32 := 1024#32
  let v1196 : BitVec 32 := Scalar.muli v8 c1024_i32_899
  let v1197 : BitVec 32 := Scalar.addi v1195 v1196
  let v1198 : BitVec 32 := v1197
  let c0_i32_2212 : BitVec 32 := 0#32
  ![v1198.toNat, 0]
def k0_off15 (k0_t2 : Fin k0_t2_loop.trips) : Fin 2 → Nat :=
  let c0_i32_900 : BitVec 32 := 0#32
  let c1_i32_902 : BitVec 32 := 1#32
  let arg35 : BitVec 32 := Scf.iv c0_i32_900 c1_i32_902 k0_t2
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off16 (d0 : Dev nD) : Fin 3 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c0_i32_2222 : BitVec 32 := 0#32
  let c0_i32_2223 : BitVec 32 := 0#32
  ![v1099.toNat, 0, 0]
def k0_off17 (d0 : Dev nD) : Fin 3 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c0_i32_915 : BitVec 32 := 0#32
  let c0_i32_916 : BitVec 32 := 0#32
  ![v1099.toNat, 0, 0]
def k0_dev26 (d0 : Dev nD) : Nat :=
  let c0_i32_910 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_909 : BitVec 32 := 4#32
  let v1200 : BitVec 32 := Scalar.muli v18 c4_i32_909
  let v1201 : BitVec 32 := Scalar.addi c0_i32_910 v1200
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_911 : BitVec 32 := 2#32
  let v1202 : BitVec 32 := Scalar.muli v19 c2_i32_911
  let v1203 : BitVec 32 := Scalar.addi v1201 v1202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_912 : BitVec 32 := 1#32
  let v1204 : BitVec 32 := Scalar.muli v8 c1_i32_912
  let v1205 : BitVec 32 := Scalar.addi v1203 v1204
  v1205.toNat
def k0_mult39 (d0 : Dev nD) : BitVec 32 :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c2048_i32_917 : BitVec 32 := 2048#32
  let v1214 : BitVec 32 := Scalar.muli v1099 c2048_i32_917
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_918 : BitVec 32 := 1024#32
  let v1215 : BitVec 32 := Scalar.muli v8 c1024_i32_918
  let v1216 : BitVec 32 := Scalar.addi v1214 v1215
  v1216
@[reducible] def k0_t3_loop : Scf.Loop 32 :=
  let c0_i32_919 : BitVec 32 := 0#32
  let c4_i32_920 : BitVec 32 := 4#32
  let v1218 : BitVec 32 := Scalar.addi c0_i32_919 c4_i32_920
  let c1_i32_921 : BitVec 32 := 1#32
  ⟨c0_i32_919, v1218, c1_i32_921⟩
def k0_mult40 (k0_t3 : Fin k0_t3_loop.trips) : BitVec 32 :=
  let c0_i32_919 : BitVec 32 := 0#32
  let c1_i32_921 : BitVec 32 := 1#32
  let arg35 : BitVec 32 := Scf.iv c0_i32_919 c1_i32_921 k0_t3
  let c256_i32_2209 : BitVec 32 := 256#32
  let v2342 : BitVec 32 := Scalar.muli arg35 c256_i32_2209
  v2342
def k0_off18 (d0 : Dev nD) : Fin 2 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c2048_i32_917 : BitVec 32 := 2048#32
  let v1214 : BitVec 32 := Scalar.muli v1099 c2048_i32_917
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_918 : BitVec 32 := 1024#32
  let v1215 : BitVec 32 := Scalar.muli v8 c1024_i32_918
  let v1216 : BitVec 32 := Scalar.addi v1214 v1215
  let v1217 : BitVec 32 := v1216
  let c0_i32_2212 : BitVec 32 := 0#32
  ![v1217.toNat, 0]
def k0_off19 (k0_t3 : Fin k0_t3_loop.trips) : Fin 2 → Nat :=
  let c0_i32_919 : BitVec 32 := 0#32
  let c1_i32_921 : BitVec 32 := 1#32
  let arg35 : BitVec 32 := Scf.iv c0_i32_919 c1_i32_921 k0_t3
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off20 (d0 : Dev nD) : Fin 3 → Nat :=
  let c2_i32_786 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let v1098 : BitVec 32 := Scalar.muli c2_i32_786 v18
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let v1099 : BitVec 32 := Scalar.addi v1098 v19
  let c0_i32_2222 : BitVec 32 := 0#32
  let c0_i32_2223 : BitVec 32 := 0#32
  ![v1099.toNat, 0, 0]
def k0_dev27 (d0 : Dev nD) : Nat :=
  let c0_i32_929 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_928 : BitVec 32 := 4#32
  let v1219 : BitVec 32 := Scalar.muli v18 c4_i32_928
  let v1220 : BitVec 32 := Scalar.addi c0_i32_929 v1219
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_930 : BitVec 32 := 2#32
  let v1221 : BitVec 32 := Scalar.muli v19 c2_i32_930
  let v1222 : BitVec 32 := Scalar.addi v1220 v1221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_931 : BitVec 32 := 1#32
  let v1223 : BitVec 32 := Scalar.muli v8 c1_i32_931
  let v1224 : BitVec 32 := Scalar.addi v1222 v1223
  v1224.toNat
def k0_mult41 (d0 : Dev nD) : BitVec 32 :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c1088_i32_937 : BitVec 32 := 1088#32
  let v1235 : BitVec 32 := Scalar.muli v1234 c1088_i32_937
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_938 : BitVec 32 := 544#32
  let v1236 : BitVec 32 := Scalar.muli v8 c544_i32_938
  let v1237 : BitVec 32 := Scalar.addi v1235 v1236
  v1237
@[reducible] def k0_t4_loop : Scf.Loop 32 :=
  let c0_i32_939 : BitVec 32 := 0#32
  let c2_i32_940 : BitVec 32 := 2#32
  let v1239 : BitVec 32 := Scalar.addi c0_i32_939 c2_i32_940
  let c1_i32_941 : BitVec 32 := 1#32
  ⟨c0_i32_939, v1239, c1_i32_941⟩
def k0_mult42 (k0_t4 : Fin k0_t4_loop.trips) : BitVec 32 :=
  let c0_i32_939 : BitVec 32 := 0#32
  let c1_i32_941 : BitVec 32 := 1#32
  let arg35 : BitVec 32 := Scf.iv c0_i32_939 c1_i32_941 k0_t4
  let c256_i32_2209 : BitVec 32 := 256#32
  let v2342 : BitVec 32 := Scalar.muli arg35 c256_i32_2209
  v2342
def k0_off21 (d0 : Dev nD) : Fin 2 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c1088_i32_937 : BitVec 32 := 1088#32
  let v1235 : BitVec 32 := Scalar.muli v1234 c1088_i32_937
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_938 : BitVec 32 := 544#32
  let v1236 : BitVec 32 := Scalar.muli v8 c544_i32_938
  let v1237 : BitVec 32 := Scalar.addi v1235 v1236
  let v1238 : BitVec 32 := v1237
  let c0_i32_2212 : BitVec 32 := 0#32
  ![v1238.toNat, 0]
def k0_off22 (k0_t4 : Fin k0_t4_loop.trips) : Fin 2 → Nat :=
  let c0_i32_939 : BitVec 32 := 0#32
  let c1_i32_941 : BitVec 32 := 1#32
  let arg35 : BitVec 32 := Scf.iv c0_i32_939 c1_i32_941 k0_t4
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off23 (d0 : Dev nD) : Fin 3 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c0_i32_2222 : BitVec 32 := 0#32
  let c0_i32_2223 : BitVec 32 := 0#32
  ![v1234.toNat, 0, 0]
def k0_off24 (d0 : Dev nD) : Fin 2 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c1088_i32_937 : BitVec 32 := 1088#32
  let v1235 : BitVec 32 := Scalar.muli v1234 c1088_i32_937
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_938 : BitVec 32 := 544#32
  let v1236 : BitVec 32 := Scalar.muli v8 c544_i32_938
  let v1237 : BitVec 32 := Scalar.addi v1235 v1236
  let v1238 : BitVec 32 := v1237
  let c0_i32_945 : BitVec 32 := 0#32
  ![v1238.toNat, 0]
def k0_off25 (d0 : Dev nD) : Fin 3 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c0_i32_957 : BitVec 32 := 0#32
  let c0_i32_958 : BitVec 32 := 0#32
  ![v1234.toNat, 0, 0]
def k0_dev28 (d0 : Dev nD) : Nat :=
  let c0_i32_989 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c4_i32_988 : BitVec 32 := 4#32
  let v1268 : BitVec 32 := Scalar.muli v16 c4_i32_988
  let v1269 : BitVec 32 := Scalar.addi c0_i32_989 v1268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_990 : BitVec 32 := 2#32
  let v1270 : BitVec 32 := Scalar.muli v5 c2_i32_990
  let v1271 : BitVec 32 := Scalar.addi v1269 v1270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_991 : BitVec 32 := 1#32
  let v1272 : BitVec 32 := Scalar.muli v8 c1_i32_991
  let v1273 : BitVec 32 := Scalar.addi v1271 v1272
  v1273.toNat
def k0_mult43 (d0 : Dev nD) : BitVec 32 :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c512_i32_996 : BitVec 32 := 512#32
  let v1282 : BitVec 32 := Scalar.muli v1234 c512_i32_996
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_997 : BitVec 32 := 256#32
  let v1283 : BitVec 32 := Scalar.muli v8 c256_i32_997
  let v1284 : BitVec 32 := Scalar.addi v1282 v1283
  v1284
def k0_mult44 : BitVec 32 :=
  let c0_i32_998 : BitVec 32 := 0#32
  let c256_i32_999 : BitVec 32 := 256#32
  let v1286 : BitVec 32 := Scalar.muli c0_i32_998 c256_i32_999
  v1286
def k0_off26 (d0 : Dev nD) : Fin 2 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c512_i32_996 : BitVec 32 := 512#32
  let v1282 : BitVec 32 := Scalar.muli v1234 c512_i32_996
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_997 : BitVec 32 := 256#32
  let v1283 : BitVec 32 := Scalar.muli v8 c256_i32_997
  let v1284 : BitVec 32 := Scalar.addi v1282 v1283
  let v1285 : BitVec 32 := v1284
  let c0_i32_1002 : BitVec 32 := 0#32
  ![v1285.toNat, 0]
def k0_off27 (d0 : Dev nD) : Fin 3 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c0_i32_1012 : BitVec 32 := 0#32
  let c0_i32_1013 : BitVec 32 := 0#32
  ![v1234.toNat, 0, 0]
def k0_dev29 (d0 : Dev nD) : Nat :=
  let c0_i32_1041 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c4_i32_1040 : BitVec 32 := 4#32
  let v1316 : BitVec 32 := Scalar.muli v16 c4_i32_1040
  let v1317 : BitVec 32 := Scalar.addi c0_i32_1041 v1316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1042 : BitVec 32 := 2#32
  let v1318 : BitVec 32 := Scalar.muli v5 c2_i32_1042
  let v1319 : BitVec 32 := Scalar.addi v1317 v1318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1043 : BitVec 32 := 1#32
  let v1320 : BitVec 32 := Scalar.muli v8 c1_i32_1043
  let v1321 : BitVec 32 := Scalar.addi v1319 v1320
  v1321.toNat
def k0_mult45 (d0 : Dev nD) : BitVec 32 :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c2048_i32_1048 : BitVec 32 := 2048#32
  let v1330 : BitVec 32 := Scalar.muli v1234 c2048_i32_1048
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1049 : BitVec 32 := 1024#32
  let v1331 : BitVec 32 := Scalar.muli v8 c1024_i32_1049
  let v1332 : BitVec 32 := Scalar.addi v1330 v1331
  v1332
@[reducible] def k0_t5_loop : Scf.Loop 32 :=
  let c0_i32_1050 : BitVec 32 := 0#32
  let c4_i32_1051 : BitVec 32 := 4#32
  let v1334 : BitVec 32 := Scalar.addi c0_i32_1050 c4_i32_1051
  let c1_i32_1052 : BitVec 32 := 1#32
  ⟨c0_i32_1050, v1334, c1_i32_1052⟩
def k0_mult46 (k0_t5 : Fin k0_t5_loop.trips) : BitVec 32 :=
  let c0_i32_1050 : BitVec 32 := 0#32
  let c1_i32_1052 : BitVec 32 := 1#32
  let arg35 : BitVec 32 := Scf.iv c0_i32_1050 c1_i32_1052 k0_t5
  let c256_i32_2209 : BitVec 32 := 256#32
  let v2342 : BitVec 32 := Scalar.muli arg35 c256_i32_2209
  v2342
def k0_off28 (d0 : Dev nD) : Fin 2 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c2048_i32_1048 : BitVec 32 := 2048#32
  let v1330 : BitVec 32 := Scalar.muli v1234 c2048_i32_1048
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1049 : BitVec 32 := 1024#32
  let v1331 : BitVec 32 := Scalar.muli v8 c1024_i32_1049
  let v1332 : BitVec 32 := Scalar.addi v1330 v1331
  let v1333 : BitVec 32 := v1332
  let c0_i32_2212 : BitVec 32 := 0#32
  ![v1333.toNat, 0]
def k0_off29 (k0_t5 : Fin k0_t5_loop.trips) : Fin 2 → Nat :=
  let c0_i32_1050 : BitVec 32 := 0#32
  let c1_i32_1052 : BitVec 32 := 1#32
  let arg35 : BitVec 32 := Scf.iv c0_i32_1050 c1_i32_1052 k0_t5
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off30 (d0 : Dev nD) : Fin 3 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c0_i32_2222 : BitVec 32 := 0#32
  let c0_i32_2223 : BitVec 32 := 0#32
  ![v1234.toNat, 0, 0]
def k0_off31 (d0 : Dev nD) : Fin 3 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c0_i32_1065 : BitVec 32 := 0#32
  let c0_i32_1066 : BitVec 32 := 0#32
  ![v1234.toNat, 0, 0]
def k0_dev30 (d0 : Dev nD) : Nat :=
  let c0_i32_1060 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c4_i32_1059 : BitVec 32 := 4#32
  let v1335 : BitVec 32 := Scalar.muli v16 c4_i32_1059
  let v1336 : BitVec 32 := Scalar.addi c0_i32_1060 v1335
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1061 : BitVec 32 := 2#32
  let v1337 : BitVec 32 := Scalar.muli v5 c2_i32_1061
  let v1338 : BitVec 32 := Scalar.addi v1336 v1337
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1062 : BitVec 32 := 1#32
  let v1339 : BitVec 32 := Scalar.muli v8 c1_i32_1062
  let v1340 : BitVec 32 := Scalar.addi v1338 v1339
  v1340.toNat
def k0_mult47 (d0 : Dev nD) : BitVec 32 :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c2048_i32_1067 : BitVec 32 := 2048#32
  let v1349 : BitVec 32 := Scalar.muli v1234 c2048_i32_1067
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1068 : BitVec 32 := 1024#32
  let v1350 : BitVec 32 := Scalar.muli v8 c1024_i32_1068
  let v1351 : BitVec 32 := Scalar.addi v1349 v1350
  v1351
@[reducible] def k0_t6_loop : Scf.Loop 32 :=
  let c0_i32_1069 : BitVec 32 := 0#32
  let c4_i32_1070 : BitVec 32 := 4#32
  let v1353 : BitVec 32 := Scalar.addi c0_i32_1069 c4_i32_1070
  let c1_i32_1071 : BitVec 32 := 1#32
  ⟨c0_i32_1069, v1353, c1_i32_1071⟩
def k0_mult48 (k0_t6 : Fin k0_t6_loop.trips) : BitVec 32 :=
  let c0_i32_1069 : BitVec 32 := 0#32
  let c1_i32_1071 : BitVec 32 := 1#32
  let arg35 : BitVec 32 := Scf.iv c0_i32_1069 c1_i32_1071 k0_t6
  let c256_i32_2209 : BitVec 32 := 256#32
  let v2342 : BitVec 32 := Scalar.muli arg35 c256_i32_2209
  v2342
def k0_off32 (d0 : Dev nD) : Fin 2 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c2048_i32_1067 : BitVec 32 := 2048#32
  let v1349 : BitVec 32 := Scalar.muli v1234 c2048_i32_1067
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1068 : BitVec 32 := 1024#32
  let v1350 : BitVec 32 := Scalar.muli v8 c1024_i32_1068
  let v1351 : BitVec 32 := Scalar.addi v1349 v1350
  let v1352 : BitVec 32 := v1351
  let c0_i32_2212 : BitVec 32 := 0#32
  ![v1352.toNat, 0]
def k0_off33 (k0_t6 : Fin k0_t6_loop.trips) : Fin 2 → Nat :=
  let c0_i32_1069 : BitVec 32 := 0#32
  let c1_i32_1071 : BitVec 32 := 1#32
  let arg35 : BitVec 32 := Scf.iv c0_i32_1069 c1_i32_1071 k0_t6
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off34 (d0 : Dev nD) : Fin 3 → Nat :=
  let c2_i32_936 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v1233 : BitVec 32 := Scalar.muli c2_i32_936 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1234 : BitVec 32 := Scalar.addi v1233 v5
  let c0_i32_2222 : BitVec 32 := 0#32
  let c0_i32_2223 : BitVec 32 := 0#32
  ![v1234.toNat, 0, 0]
def k0_dev31 (d0 : Dev nD) : Nat :=
  let c0_i32_1079 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c4_i32_1078 : BitVec 32 := 4#32
  let v1354 : BitVec 32 := Scalar.muli v16 c4_i32_1078
  let v1355 : BitVec 32 := Scalar.addi c0_i32_1079 v1354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1080 : BitVec 32 := 2#32
  let v1356 : BitVec 32 := Scalar.muli v5 c2_i32_1080
  let v1357 : BitVec 32 := Scalar.addi v1355 v1356
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1081 : BitVec 32 := 1#32
  let v1358 : BitVec 32 := Scalar.muli v8 c1_i32_1081
  let v1359 : BitVec 32 := Scalar.addi v1357 v1358
  v1359.toNat
def k0_mult49 (d0 : Dev nD) : BitVec 32 :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c1088_i32_1087 : BitVec 32 := 1088#32
  let v1370 : BitVec 32 := Scalar.muli v1369 c1088_i32_1087
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_1088 : BitVec 32 := 544#32
  let v1371 : BitVec 32 := Scalar.muli v8 c544_i32_1088
  let v1372 : BitVec 32 := Scalar.addi v1370 v1371
  v1372
@[reducible] def k0_t7_loop : Scf.Loop 32 :=
  let c0_i32_1089 : BitVec 32 := 0#32
  let c2_i32_1090 : BitVec 32 := 2#32
  let v1374 : BitVec 32 := Scalar.addi c0_i32_1089 c2_i32_1090
  let c1_i32_1091 : BitVec 32 := 1#32
  ⟨c0_i32_1089, v1374, c1_i32_1091⟩
def k0_mult50 (k0_t7 : Fin k0_t7_loop.trips) : BitVec 32 :=
  let c0_i32_1089 : BitVec 32 := 0#32
  let c1_i32_1091 : BitVec 32 := 1#32
  let arg35 : BitVec 32 := Scf.iv c0_i32_1089 c1_i32_1091 k0_t7
  let c256_i32_2209 : BitVec 32 := 256#32
  let v2342 : BitVec 32 := Scalar.muli arg35 c256_i32_2209
  v2342
def k0_off35 (d0 : Dev nD) : Fin 2 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c1088_i32_1087 : BitVec 32 := 1088#32
  let v1370 : BitVec 32 := Scalar.muli v1369 c1088_i32_1087
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_1088 : BitVec 32 := 544#32
  let v1371 : BitVec 32 := Scalar.muli v8 c544_i32_1088
  let v1372 : BitVec 32 := Scalar.addi v1370 v1371
  let v1373 : BitVec 32 := v1372
  let c0_i32_2212 : BitVec 32 := 0#32
  ![v1373.toNat, 0]
def k0_off36 (k0_t7 : Fin k0_t7_loop.trips) : Fin 2 → Nat :=
  let c0_i32_1089 : BitVec 32 := 0#32
  let c1_i32_1091 : BitVec 32 := 1#32
  let arg35 : BitVec 32 := Scf.iv c0_i32_1089 c1_i32_1091 k0_t7
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off37 (d0 : Dev nD) : Fin 3 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c0_i32_2222 : BitVec 32 := 0#32
  let c0_i32_2223 : BitVec 32 := 0#32
  ![v1369.toNat, 0, 0]
def k0_off38 (d0 : Dev nD) : Fin 2 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c1088_i32_1087 : BitVec 32 := 1088#32
  let v1370 : BitVec 32 := Scalar.muli v1369 c1088_i32_1087
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_1088 : BitVec 32 := 544#32
  let v1371 : BitVec 32 := Scalar.muli v8 c544_i32_1088
  let v1372 : BitVec 32 := Scalar.addi v1370 v1371
  let v1373 : BitVec 32 := v1372
  let c0_i32_1095 : BitVec 32 := 0#32
  ![v1373.toNat, 0]
def k0_off39 (d0 : Dev nD) : Fin 3 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c0_i32_1107 : BitVec 32 := 0#32
  let c0_i32_1108 : BitVec 32 := 0#32
  ![v1369.toNat, 0, 0]
def k0_dev32 (d0 : Dev nD) : Nat :=
  let c0_i32_1139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1138 : BitVec 32 := 4#32
  let v1403 : BitVec 32 := Scalar.muli v2 c4_i32_1138
  let v1404 : BitVec 32 := Scalar.addi c0_i32_1139 v1403
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_1140 : BitVec 32 := 2#32
  let v1405 : BitVec 32 := Scalar.muli v17 c2_i32_1140
  let v1406 : BitVec 32 := Scalar.addi v1404 v1405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1141 : BitVec 32 := 1#32
  let v1407 : BitVec 32 := Scalar.muli v8 c1_i32_1141
  let v1408 : BitVec 32 := Scalar.addi v1406 v1407
  v1408.toNat
def k0_mult51 (d0 : Dev nD) : BitVec 32 :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c512_i32_1146 : BitVec 32 := 512#32
  let v1417 : BitVec 32 := Scalar.muli v1369 c512_i32_1146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1147 : BitVec 32 := 256#32
  let v1418 : BitVec 32 := Scalar.muli v8 c256_i32_1147
  let v1419 : BitVec 32 := Scalar.addi v1417 v1418
  v1419
def k0_mult52 : BitVec 32 :=
  let c0_i32_1148 : BitVec 32 := 0#32
  let c256_i32_1149 : BitVec 32 := 256#32
  let v1421 : BitVec 32 := Scalar.muli c0_i32_1148 c256_i32_1149
  v1421
def k0_off40 (d0 : Dev nD) : Fin 2 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c512_i32_1146 : BitVec 32 := 512#32
  let v1417 : BitVec 32 := Scalar.muli v1369 c512_i32_1146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1147 : BitVec 32 := 256#32
  let v1418 : BitVec 32 := Scalar.muli v8 c256_i32_1147
  let v1419 : BitVec 32 := Scalar.addi v1417 v1418
  let v1420 : BitVec 32 := v1419
  let c0_i32_1152 : BitVec 32 := 0#32
  ![v1420.toNat, 0]
def k0_off41 (d0 : Dev nD) : Fin 3 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c0_i32_1162 : BitVec 32 := 0#32
  let c0_i32_1163 : BitVec 32 := 0#32
  ![v1369.toNat, 0, 0]
def k0_dev33 (d0 : Dev nD) : Nat :=
  let c0_i32_1191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1190 : BitVec 32 := 4#32
  let v1451 : BitVec 32 := Scalar.muli v2 c4_i32_1190
  let v1452 : BitVec 32 := Scalar.addi c0_i32_1191 v1451
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_1192 : BitVec 32 := 2#32
  let v1453 : BitVec 32 := Scalar.muli v17 c2_i32_1192
  let v1454 : BitVec 32 := Scalar.addi v1452 v1453
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1193 : BitVec 32 := 1#32
  let v1455 : BitVec 32 := Scalar.muli v8 c1_i32_1193
  let v1456 : BitVec 32 := Scalar.addi v1454 v1455
  v1456.toNat
def k0_mult53 (d0 : Dev nD) : BitVec 32 :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c2048_i32_1198 : BitVec 32 := 2048#32
  let v1465 : BitVec 32 := Scalar.muli v1369 c2048_i32_1198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1199 : BitVec 32 := 1024#32
  let v1466 : BitVec 32 := Scalar.muli v8 c1024_i32_1199
  let v1467 : BitVec 32 := Scalar.addi v1465 v1466
  v1467
@[reducible] def k0_t8_loop : Scf.Loop 32 :=
  let c0_i32_1200 : BitVec 32 := 0#32
  let c4_i32_1201 : BitVec 32 := 4#32
  let v1469 : BitVec 32 := Scalar.addi c0_i32_1200 c4_i32_1201
  let c1_i32_1202 : BitVec 32 := 1#32
  ⟨c0_i32_1200, v1469, c1_i32_1202⟩
def k0_mult54 (k0_t8 : Fin k0_t8_loop.trips) : BitVec 32 :=
  let c0_i32_1200 : BitVec 32 := 0#32
  let c1_i32_1202 : BitVec 32 := 1#32
  let arg35 : BitVec 32 := Scf.iv c0_i32_1200 c1_i32_1202 k0_t8
  let c256_i32_2209 : BitVec 32 := 256#32
  let v2342 : BitVec 32 := Scalar.muli arg35 c256_i32_2209
  v2342
def k0_off42 (d0 : Dev nD) : Fin 2 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c2048_i32_1198 : BitVec 32 := 2048#32
  let v1465 : BitVec 32 := Scalar.muli v1369 c2048_i32_1198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1199 : BitVec 32 := 1024#32
  let v1466 : BitVec 32 := Scalar.muli v8 c1024_i32_1199
  let v1467 : BitVec 32 := Scalar.addi v1465 v1466
  let v1468 : BitVec 32 := v1467
  let c0_i32_2212 : BitVec 32 := 0#32
  ![v1468.toNat, 0]
def k0_off43 (k0_t8 : Fin k0_t8_loop.trips) : Fin 2 → Nat :=
  let c0_i32_1200 : BitVec 32 := 0#32
  let c1_i32_1202 : BitVec 32 := 1#32
  let arg35 : BitVec 32 := Scf.iv c0_i32_1200 c1_i32_1202 k0_t8
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off44 (d0 : Dev nD) : Fin 3 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c0_i32_2222 : BitVec 32 := 0#32
  let c0_i32_2223 : BitVec 32 := 0#32
  ![v1369.toNat, 0, 0]
def k0_off45 (d0 : Dev nD) : Fin 3 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c0_i32_1215 : BitVec 32 := 0#32
  let c0_i32_1216 : BitVec 32 := 0#32
  ![v1369.toNat, 0, 0]
def k0_dev34 (d0 : Dev nD) : Nat :=
  let c0_i32_1210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1209 : BitVec 32 := 4#32
  let v1470 : BitVec 32 := Scalar.muli v2 c4_i32_1209
  let v1471 : BitVec 32 := Scalar.addi c0_i32_1210 v1470
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_1211 : BitVec 32 := 2#32
  let v1472 : BitVec 32 := Scalar.muli v17 c2_i32_1211
  let v1473 : BitVec 32 := Scalar.addi v1471 v1472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1212 : BitVec 32 := 1#32
  let v1474 : BitVec 32 := Scalar.muli v8 c1_i32_1212
  let v1475 : BitVec 32 := Scalar.addi v1473 v1474
  v1475.toNat
def k0_mult55 (d0 : Dev nD) : BitVec 32 :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c2048_i32_1217 : BitVec 32 := 2048#32
  let v1484 : BitVec 32 := Scalar.muli v1369 c2048_i32_1217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1218 : BitVec 32 := 1024#32
  let v1485 : BitVec 32 := Scalar.muli v8 c1024_i32_1218
  let v1486 : BitVec 32 := Scalar.addi v1484 v1485
  v1486
@[reducible] def k0_t9_loop : Scf.Loop 32 :=
  let c0_i32_1219 : BitVec 32 := 0#32
  let c4_i32_1220 : BitVec 32 := 4#32
  let v1488 : BitVec 32 := Scalar.addi c0_i32_1219 c4_i32_1220
  let c1_i32_1221 : BitVec 32 := 1#32
  ⟨c0_i32_1219, v1488, c1_i32_1221⟩
def k0_mult56 (k0_t9 : Fin k0_t9_loop.trips) : BitVec 32 :=
  let c0_i32_1219 : BitVec 32 := 0#32
  let c1_i32_1221 : BitVec 32 := 1#32
  let arg35 : BitVec 32 := Scf.iv c0_i32_1219 c1_i32_1221 k0_t9
  let c256_i32_2209 : BitVec 32 := 256#32
  let v2342 : BitVec 32 := Scalar.muli arg35 c256_i32_2209
  v2342
def k0_off46 (d0 : Dev nD) : Fin 2 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c2048_i32_1217 : BitVec 32 := 2048#32
  let v1484 : BitVec 32 := Scalar.muli v1369 c2048_i32_1217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1218 : BitVec 32 := 1024#32
  let v1485 : BitVec 32 := Scalar.muli v8 c1024_i32_1218
  let v1486 : BitVec 32 := Scalar.addi v1484 v1485
  let v1487 : BitVec 32 := v1486
  let c0_i32_2212 : BitVec 32 := 0#32
  ![v1487.toNat, 0]
def k0_off47 (k0_t9 : Fin k0_t9_loop.trips) : Fin 2 → Nat :=
  let c0_i32_1219 : BitVec 32 := 0#32
  let c1_i32_1221 : BitVec 32 := 1#32
  let arg35 : BitVec 32 := Scf.iv c0_i32_1219 c1_i32_1221 k0_t9
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off48 (d0 : Dev nD) : Fin 3 → Nat :=
  let c2_i32_1086 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1368 : BitVec 32 := Scalar.muli c2_i32_1086 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v1369 : BitVec 32 := Scalar.addi v1368 v17
  let c0_i32_2222 : BitVec 32 := 0#32
  let c0_i32_2223 : BitVec 32 := 0#32
  ![v1369.toNat, 0, 0]
def k0_dev35 (d0 : Dev nD) : Nat :=
  let c0_i32_1229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1228 : BitVec 32 := 4#32
  let v1489 : BitVec 32 := Scalar.muli v2 c4_i32_1228
  let v1490 : BitVec 32 := Scalar.addi c0_i32_1229 v1489
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_1230 : BitVec 32 := 2#32
  let v1491 : BitVec 32 := Scalar.muli v17 c2_i32_1230
  let v1492 : BitVec 32 := Scalar.addi v1490 v1491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1231 : BitVec 32 := 1#32
  let v1493 : BitVec 32 := Scalar.muli v8 c1_i32_1231
  let v1494 : BitVec 32 := Scalar.addi v1492 v1493
  v1494.toNat
def k0_mult57 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1088_i32_1236 : BitVec 32 := 1088#32
  let v1503 : BitVec 32 := Scalar.muli v10 c1088_i32_1236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_1237 : BitVec 32 := 544#32
  let v1504 : BitVec 32 := Scalar.muli v8 c544_i32_1237
  let v1505 : BitVec 32 := Scalar.addi v1503 v1504
  v1505
@[reducible] def k0_t10_loop : Scf.Loop 32 :=
  let c0_i32_1238 : BitVec 32 := 0#32
  let c2_i32_1239 : BitVec 32 := 2#32
  let v1507 : BitVec 32 := Scalar.addi c0_i32_1238 c2_i32_1239
  let c1_i32_1240 : BitVec 32 := 1#32
  ⟨c0_i32_1238, v1507, c1_i32_1240⟩
def k0_mult58 (k0_t10 : Fin k0_t10_loop.trips) : BitVec 32 :=
  let c0_i32_1238 : BitVec 32 := 0#32
  let c1_i32_1240 : BitVec 32 := 1#32
  let arg35 : BitVec 32 := Scf.iv c0_i32_1238 c1_i32_1240 k0_t10
  let c256_i32_2209 : BitVec 32 := 256#32
  let v2342 : BitVec 32 := Scalar.muli arg35 c256_i32_2209
  v2342
def k0_off49 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1088_i32_1236 : BitVec 32 := 1088#32
  let v1503 : BitVec 32 := Scalar.muli v10 c1088_i32_1236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_1237 : BitVec 32 := 544#32
  let v1504 : BitVec 32 := Scalar.muli v8 c544_i32_1237
  let v1505 : BitVec 32 := Scalar.addi v1503 v1504
  let v1506 : BitVec 32 := v1505
  let c0_i32_2212 : BitVec 32 := 0#32
  ![v1506.toNat, 0]
def k0_off50 (k0_t10 : Fin k0_t10_loop.trips) : Fin 2 → Nat :=
  let c0_i32_1238 : BitVec 32 := 0#32
  let c1_i32_1240 : BitVec 32 := 1#32
  let arg35 : BitVec 32 := Scf.iv c0_i32_1238 c1_i32_1240 k0_t10
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off51 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_2222 : BitVec 32 := 0#32
  let c0_i32_2223 : BitVec 32 := 0#32
  ![v10.toNat, 0, 0]
def k0_off52 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1088_i32_1236 : BitVec 32 := 1088#32
  let v1503 : BitVec 32 := Scalar.muli v10 c1088_i32_1236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_1237 : BitVec 32 := 544#32
  let v1504 : BitVec 32 := Scalar.muli v8 c544_i32_1237
  let v1505 : BitVec 32 := Scalar.addi v1503 v1504
  let v1506 : BitVec 32 := v1505
  let c0_i32_1244 : BitVec 32 := 0#32
  ![v1506.toNat, 0]
def k0_off53 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1256 : BitVec 32 := 0#32
  let c0_i32_1257 : BitVec 32 := 0#32
  ![v10.toNat, 0, 0]
def k0_mult59 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_1282 : BitVec 32 := 512#32
  let v1536 : BitVec 32 := Scalar.muli v10 c512_i32_1282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1283 : BitVec 32 := 256#32
  let v1537 : BitVec 32 := Scalar.muli v8 c256_i32_1283
  let v1538 : BitVec 32 := Scalar.addi v1536 v1537
  v1538
def k0_mult60 : BitVec 32 :=
  let c0_i32_1284 : BitVec 32 := 0#32
  let c256_i32_1285 : BitVec 32 := 256#32
  let v1540 : BitVec 32 := Scalar.muli c0_i32_1284 c256_i32_1285
  v1540
def k0_off54 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_1282 : BitVec 32 := 512#32
  let v1536 : BitVec 32 := Scalar.muli v10 c512_i32_1282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1283 : BitVec 32 := 256#32
  let v1537 : BitVec 32 := Scalar.muli v8 c256_i32_1283
  let v1538 : BitVec 32 := Scalar.addi v1536 v1537
  let v1539 : BitVec 32 := v1538
  let c0_i32_1288 : BitVec 32 := 0#32
  ![v1539.toNat, 0]
def k0_off55 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1298 : BitVec 32 := 0#32
  let c0_i32_1299 : BitVec 32 := 0#32
  ![v10.toNat, 0, 0]
def k0_mult61 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_1321 : BitVec 32 := 2048#32
  let v1570 : BitVec 32 := Scalar.muli v10 c2048_i32_1321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1322 : BitVec 32 := 1024#32
  let v1571 : BitVec 32 := Scalar.muli v8 c1024_i32_1322
  let v1572 : BitVec 32 := Scalar.addi v1570 v1571
  v1572
@[reducible] def k0_t11_loop : Scf.Loop 32 :=
  let c0_i32_1323 : BitVec 32 := 0#32
  let c4_i32_1324 : BitVec 32 := 4#32
  let v1574 : BitVec 32 := Scalar.addi c0_i32_1323 c4_i32_1324
  let c1_i32_1325 : BitVec 32 := 1#32
  ⟨c0_i32_1323, v1574, c1_i32_1325⟩
def k0_mult62 (k0_t11 : Fin k0_t11_loop.trips) : BitVec 32 :=
  let c0_i32_1323 : BitVec 32 := 0#32
  let c1_i32_1325 : BitVec 32 := 1#32
  let arg35 : BitVec 32 := Scf.iv c0_i32_1323 c1_i32_1325 k0_t11
  let c256_i32_2209 : BitVec 32 := 256#32
  let v2342 : BitVec 32 := Scalar.muli arg35 c256_i32_2209
  v2342
def k0_off56 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_1321 : BitVec 32 := 2048#32
  let v1570 : BitVec 32 := Scalar.muli v10 c2048_i32_1321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1322 : BitVec 32 := 1024#32
  let v1571 : BitVec 32 := Scalar.muli v8 c1024_i32_1322
  let v1572 : BitVec 32 := Scalar.addi v1570 v1571
  let v1573 : BitVec 32 := v1572
  let c0_i32_2212 : BitVec 32 := 0#32
  ![v1573.toNat, 0]
def k0_off57 (k0_t11 : Fin k0_t11_loop.trips) : Fin 2 → Nat :=
  let c0_i32_1323 : BitVec 32 := 0#32
  let c1_i32_1325 : BitVec 32 := 1#32
  let arg35 : BitVec 32 := Scf.iv c0_i32_1323 c1_i32_1325 k0_t11
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off58 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_2222 : BitVec 32 := 0#32
  let c0_i32_2223 : BitVec 32 := 0#32
  ![v10.toNat, 0, 0]
def k0_mult63 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_1327 : BitVec 32 := 2048#32
  let v1575 : BitVec 32 := Scalar.muli v10 c2048_i32_1327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1328 : BitVec 32 := 1024#32
  let v1576 : BitVec 32 := Scalar.muli v8 c1024_i32_1328
  let v1577 : BitVec 32 := Scalar.addi v1575 v1576
  v1577
@[reducible] def k0_t12_loop : Scf.Loop 32 :=
  let c0_i32_1329 : BitVec 32 := 0#32
  let c4_i32_1330 : BitVec 32 := 4#32
  let v1579 : BitVec 32 := Scalar.addi c0_i32_1329 c4_i32_1330
  let c1_i32_1331 : BitVec 32 := 1#32
  ⟨c0_i32_1329, v1579, c1_i32_1331⟩
def k0_mult64 (k0_t12 : Fin k0_t12_loop.trips) : BitVec 32 :=
  let c0_i32_1329 : BitVec 32 := 0#32
  let c1_i32_1331 : BitVec 32 := 1#32
  let arg35 : BitVec 32 := Scf.iv c0_i32_1329 c1_i32_1331 k0_t12
  let c256_i32_2209 : BitVec 32 := 256#32
  let v2342 : BitVec 32 := Scalar.muli arg35 c256_i32_2209
  v2342
def k0_off59 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c2048_i32_1327 : BitVec 32 := 2048#32
  let v1575 : BitVec 32 := Scalar.muli v10 c2048_i32_1327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1328 : BitVec 32 := 1024#32
  let v1576 : BitVec 32 := Scalar.muli v8 c1024_i32_1328
  let v1577 : BitVec 32 := Scalar.addi v1575 v1576
  let v1578 : BitVec 32 := v1577
  let c0_i32_2212 : BitVec 32 := 0#32
  ![v1578.toNat, 0]
def k0_off60 (k0_t12 : Fin k0_t12_loop.trips) : Fin 2 → Nat :=
  let c0_i32_1329 : BitVec 32 := 0#32
  let c1_i32_1331 : BitVec 32 := 1#32
  let arg35 : BitVec 32 := Scf.iv c0_i32_1329 c1_i32_1331 k0_t12
  let c256_i32_2209 : BitVec 32 := 256#32
  let v2342 : BitVec 32 := Scalar.muli arg35 c256_i32_2209
  let v2343 : BitVec 32 := v2342
  let c0_i32_2213 : BitVec 32 := 0#32
  ![v2343.toNat, 0]
def k0_off61 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_2222 : BitVec 32 := 0#32
  let c0_i32_2223 : BitVec 32 := 0#32
  ![v10.toNat, 0, 0]
def k0_mult65 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_1372 : BitVec 32 := 544#32
  let v1616 : BitVec 32 := Scalar.muli v8 c544_i32_1372
  v1616
@[reducible] def k0_t13_loop : Scf.Loop 32 :=
  let c0_i32_1376 : BitVec 32 := 0#32
  let c2_i32_1377 : BitVec 32 := 2#32
  let v1618 : BitVec 32 := Scalar.addi c0_i32_1376 c2_i32_1377
  let c1_i32_1378 : BitVec 32 := 1#32
  ⟨c0_i32_1376, v1618, c1_i32_1378⟩
def k0_mult66 (k0_t13 : Fin k0_t13_loop.trips) : BitVec 32 :=
  let c0_i32_1376 : BitVec 32 := 0#32
  let c1_i32_1378 : BitVec 32 := 1#32
  let arg35 : BitVec 32 := Scf.iv c0_i32_1376 c1_i32_1378 k0_t13
  let c256_i32_2209 : BitVec 32 := 256#32
  let v2342 : BitVec 32 := Scalar.muli arg35 c256_i32_2209
  v2342
def k0_off62 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_2212 : BitVec 32 := 0#32
  let c0_i32_2213 : BitVec 32 := 0#32
  ![v10.toNat, 0, 0]
def k0_off63 (k0_t13 : Fin k0_t13_loop.trips) : Fin 2 → Nat :=
  let c0_i32_1376 : BitVec 32 := 0#32
  let c1_i32_1378 : BitVec 32 := 1#32
  let arg35 : BitVec 32 := Scf.iv c0_i32_1376 c1_i32_1378 k0_t13
  let c256_i32_2209 : BitVec 32 := 256#32
  let v2342 : BitVec 32 := Scalar.muli arg35 c256_i32_2209
  let v2343 : BitVec 32 := v2342
  let c0_i32_2214 : BitVec 32 := 0#32
  ![v2343.toNat, 0]
def k0_off64 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_1372 : BitVec 32 := 544#32
  let v1616 : BitVec 32 := Scalar.muli v8 c544_i32_1372
  let v1617 : BitVec 32 := v1616
  let c0_i32_2260 : BitVec 32 := 0#32
  ![v1617.toNat, 0]
def k0_off65 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c544_i32_1372 : BitVec 32 := 544#32
  let v1616 : BitVec 32 := Scalar.muli v8 c544_i32_1372
  let v1617 : BitVec 32 := v1616
  let c0_i32_1444 : BitVec 32 := 0#32
  ![v1617.toNat, 0]
def k0_dev36 (d0 : Dev nD) : Nat :=
  let c0_i32_1457 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1456 : BitVec 32 := 4#32
  let v1667 : BitVec 32 := Scalar.muli v2 c4_i32_1456
  let v1668 : BitVec 32 := Scalar.addi c0_i32_1457 v1667
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1458 : BitVec 32 := 2#32
  let v1669 : BitVec 32 := Scalar.muli v5 c2_i32_1458
  let v1670 : BitVec 32 := Scalar.addi v1668 v1669
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_1459 : BitVec 32 := 1#32
  let v1671 : BitVec 32 := Scalar.muli v15 c1_i32_1459
  let v1672 : BitVec 32 := Scalar.addi v1670 v1671
  v1672.toNat
def k0_mult67 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1501 : BitVec 32 := 256#32
  let v1715 : BitVec 32 := Scalar.muli v8 c256_i32_1501
  v1715
def k0_mult68 : BitVec 32 :=
  let c0_i32_1505 : BitVec 32 := 0#32
  let c256_i32_1506 : BitVec 32 := 256#32
  let v1717 : BitVec 32 := Scalar.muli c0_i32_1505 c256_i32_1506
  v1717
def k0_off66 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_1501 : BitVec 32 := 256#32
  let v1715 : BitVec 32 := Scalar.muli v8 c256_i32_1501
  let v1716 : BitVec 32 := v1715
  let c0_i32_1557 : BitVec 32 := 0#32
  ![v1716.toNat, 0]
def k0_dev37 (d0 : Dev nD) : Nat :=
  let c0_i32_1569 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1568 : BitVec 32 := 4#32
  let v1767 : BitVec 32 := Scalar.muli v2 c4_i32_1568
  let v1768 : BitVec 32 := Scalar.addi c0_i32_1569 v1767
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1570 : BitVec 32 := 2#32
  let v1769 : BitVec 32 := Scalar.muli v5 c2_i32_1570
  let v1770 : BitVec 32 := Scalar.addi v1768 v1769
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_1571 : BitVec 32 := 1#32
  let v1771 : BitVec 32 := Scalar.muli v15 c1_i32_1571
  let v1772 : BitVec 32 := Scalar.addi v1770 v1771
  v1772.toNat
def k0_off67 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_1585 : BitVec 32 := 0#32
  let c0_i32_1586 : BitVec 32 := 0#32
  ![v10.toNat, 0, 0]
def k0_mult69 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1613 : BitVec 32 := 1024#32
  let v1815 : BitVec 32 := Scalar.muli v8 c1024_i32_1613
  v1815
@[reducible] def k0_t14_loop : Scf.Loop 32 :=
  let c0_i32_1617 : BitVec 32 := 0#32
  let c4_i32_1618 : BitVec 32 := 4#32
  let v1817 : BitVec 32 := Scalar.addi c0_i32_1617 c4_i32_1618
  let c1_i32_1619 : BitVec 32 := 1#32
  ⟨c0_i32_1617, v1817, c1_i32_1619⟩
def k0_mult70 (k0_t14 : Fin k0_t14_loop.trips) : BitVec 32 :=
  let c0_i32_1617 : BitVec 32 := 0#32
  let c1_i32_1619 : BitVec 32 := 1#32
  let arg35 : BitVec 32 := Scf.iv c0_i32_1617 c1_i32_1619 k0_t14
  let c256_i32_2209 : BitVec 32 := 256#32
  let v2342 : BitVec 32 := Scalar.muli arg35 c256_i32_2209
  v2342
def k0_off68 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_2212 : BitVec 32 := 0#32
  let c0_i32_2213 : BitVec 32 := 0#32
  ![v10.toNat, 0, 0]
def k0_off69 (k0_t14 : Fin k0_t14_loop.trips) : Fin 2 → Nat :=
  let c0_i32_1617 : BitVec 32 := 0#32
  let c1_i32_1619 : BitVec 32 := 1#32
  let arg35 : BitVec 32 := Scf.iv c0_i32_1617 c1_i32_1619 k0_t14
  let c256_i32_2209 : BitVec 32 := 256#32
  let v2342 : BitVec 32 := Scalar.muli arg35 c256_i32_2209
  let v2343 : BitVec 32 := v2342
  let c0_i32_2214 : BitVec 32 := 0#32
  ![v2343.toNat, 0]
def k0_off70 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1613 : BitVec 32 := 1024#32
  let v1815 : BitVec 32 := Scalar.muli v8 c1024_i32_1613
  let v1816 : BitVec 32 := v1815
  let c0_i32_2260 : BitVec 32 := 0#32
  ![v1816.toNat, 0]
def k0_off71 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1613 : BitVec 32 := 1024#32
  let v1815 : BitVec 32 := Scalar.muli v8 c1024_i32_1613
  let v1816 : BitVec 32 := v1815
  let c0_i32_1627 : BitVec 32 := 0#32
  ![v1816.toNat, 0]
def k0_dev38 (d0 : Dev nD) : Nat :=
  let c0_i32_1624 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1623 : BitVec 32 := 4#32
  let v1818 : BitVec 32 := Scalar.muli v2 c4_i32_1623
  let v1819 : BitVec 32 := Scalar.addi c0_i32_1624 v1818
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1625 : BitVec 32 := 2#32
  let v1820 : BitVec 32 := Scalar.muli v5 c2_i32_1625
  let v1821 : BitVec 32 := Scalar.addi v1819 v1820
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_1626 : BitVec 32 := 1#32
  let v1822 : BitVec 32 := Scalar.muli v15 c1_i32_1626
  let v1823 : BitVec 32 := Scalar.addi v1821 v1822
  v1823.toNat
def k0_mult71 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1668 : BitVec 32 := 1024#32
  let v1866 : BitVec 32 := Scalar.muli v8 c1024_i32_1668
  v1866
@[reducible] def k0_t15_loop : Scf.Loop 32 :=
  let c0_i32_1672 : BitVec 32 := 0#32
  let c4_i32_1673 : BitVec 32 := 4#32
  let v1868 : BitVec 32 := Scalar.addi c0_i32_1672 c4_i32_1673
  let c1_i32_1674 : BitVec 32 := 1#32
  ⟨c0_i32_1672, v1868, c1_i32_1674⟩
def k0_mult72 (k0_t15 : Fin k0_t15_loop.trips) : BitVec 32 :=
  let c0_i32_1672 : BitVec 32 := 0#32
  let c1_i32_1674 : BitVec 32 := 1#32
  let arg35 : BitVec 32 := Scf.iv c0_i32_1672 c1_i32_1674 k0_t15
  let c256_i32_2209 : BitVec 32 := 256#32
  let v2342 : BitVec 32 := Scalar.muli arg35 c256_i32_2209
  v2342
def k0_off72 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_2212 : BitVec 32 := 0#32
  let c0_i32_2213 : BitVec 32 := 0#32
  ![v10.toNat, 0, 0]
def k0_off73 (k0_t15 : Fin k0_t15_loop.trips) : Fin 2 → Nat :=
  let c0_i32_1672 : BitVec 32 := 0#32
  let c1_i32_1674 : BitVec 32 := 1#32
  let arg35 : BitVec 32 := Scf.iv c0_i32_1672 c1_i32_1674 k0_t15
  let c256_i32_2209 : BitVec 32 := 256#32
  let v2342 : BitVec 32 := Scalar.muli arg35 c256_i32_2209
  let v2343 : BitVec 32 := v2342
  let c0_i32_2214 : BitVec 32 := 0#32
  ![v2343.toNat, 0]
def k0_off74 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_1668 : BitVec 32 := 1024#32
  let v1866 : BitVec 32 := Scalar.muli v8 c1024_i32_1668
  let v1867 : BitVec 32 := v1866
  let c0_i32_2260 : BitVec 32 := 0#32
  ![v1867.toNat, 0]
def k0_dev39 (d0 : Dev nD) : Nat :=
  let c0_i32_1679 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1678 : BitVec 32 := 4#32
  let v1869 : BitVec 32 := Scalar.muli v2 c4_i32_1678
  let v1870 : BitVec 32 := Scalar.addi c0_i32_1679 v1869
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1680 : BitVec 32 := 2#32
  let v1871 : BitVec 32 := Scalar.muli v5 c2_i32_1680
  let v1872 : BitVec 32 := Scalar.addi v1870 v1871
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_1681 : BitVec 32 := 1#32
  let v1873 : BitVec 32 := Scalar.muli v15 c1_i32_1681
  let v1874 : BitVec 32 := Scalar.addi v1872 v1873
  v1874.toNat
def k0_mult73 (d0 : Dev nD) : BitVec 32 :=
  let c1_i32_1684 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1881 : BitVec 32 := Scalar.subi c1_i32_1684 v8
  let c544_i32_1685 : BitVec 32 := 544#32
  let v1882 : BitVec 32 := Scalar.muli v1881 c544_i32_1685
  v1882
def k0_off75 (d0 : Dev nD) : Fin 2 → Nat :=
  let c1_i32_1684 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1881 : BitVec 32 := Scalar.subi c1_i32_1684 v8
  let c544_i32_1685 : BitVec 32 := 544#32
  let v1882 : BitVec 32 := Scalar.muli v1881 c544_i32_1685
  let v1883 : BitVec 32 := v1882
  let c0_i32_1692 : BitVec 32 := 0#32
  ![v1883.toNat, 0]
def k0_mult74 (d0 : Dev nD) : BitVec 32 :=
  let c1_i32_1694 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1894 : BitVec 32 := Scalar.subi c1_i32_1694 v8
  let c256_i32_1695 : BitVec 32 := 256#32
  let v1895 : BitVec 32 := Scalar.muli v1894 c256_i32_1695
  v1895
def k0_off76 (d0 : Dev nD) : Fin 2 → Nat :=
  let c1_i32_1694 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1894 : BitVec 32 := Scalar.subi c1_i32_1694 v8
  let c256_i32_1695 : BitVec 32 := 256#32
  let v1895 : BitVec 32 := Scalar.muli v1894 c256_i32_1695
  let v1896 : BitVec 32 := v1895
  let c0_i32_1702 : BitVec 32 := 0#32
  ![v1896.toNat, 0]
def k0_mult75 (d0 : Dev nD) : BitVec 32 :=
  let c1_i32_1704 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1907 : BitVec 32 := Scalar.subi c1_i32_1704 v8
  let c1024_i32_1705 : BitVec 32 := 1024#32
  let v1908 : BitVec 32 := Scalar.muli v1907 c1024_i32_1705
  v1908
def k0_off77 (d0 : Dev nD) : Fin 2 → Nat :=
  let c1_i32_1704 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1907 : BitVec 32 := Scalar.subi c1_i32_1704 v8
  let c1024_i32_1705 : BitVec 32 := 1024#32
  let v1908 : BitVec 32 := Scalar.muli v1907 c1024_i32_1705
  let v1909 : BitVec 32 := v1908
  let c0_i32_1712 : BitVec 32 := 0#32
  ![v1909.toNat, 0]
def k0_mult76 (d0 : Dev nD) : BitVec 32 :=
  let c1_i32_1714 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1920 : BitVec 32 := Scalar.subi c1_i32_1714 v8
  let c1024_i32_1715 : BitVec 32 := 1024#32
  let v1921 : BitVec 32 := Scalar.muli v1920 c1024_i32_1715
  v1921
def k0_off78 (d0 : Dev nD) (c0_i32_1726 : BitVec 32) : Fin 3 → Nat :=
  let c4_i32_4 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c4_i32_4 v2
  let c2_i32_5 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_5 v5
  let v13 : BitVec 32 := Scalar.addi v11 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c8_i32_1724 : BitVec 32 := 8#32
  let v1933 : BitVec 32 := Scalar.addi v14 c8_i32_1724
  let c1_i32_1725 : BitVec 32 := 1#32
  let v1934 : BitVec 32 := Scalar.subi v1933 c1_i32_1725
  let v1935 : BitVec 32 := Scalar.subi v1934 c0_i32_1726
  let c8_i32_1727 : BitVec 32 := 8#32
  let c0_i32_1728 : BitVec 32 := 0#32
  let v1936 : BitVec 1 := Scalar.cmpi .eq c8_i32_1727 c0_i32_1728
  let c1_i32_1729 : BitVec 32 := 1#32
  let v1937 : BitVec 32 := Scalar.select v1936 c1_i32_1729 c8_i32_1727
  let v1938 : BitVec 32 := Scalar.remsi v1935 v1937
  let c0_i32_1731 : BitVec 32 := 0#32
  let v1940 : BitVec 1 := Scalar.cmpi .slt v1938 c0_i32_1731
  let c0_i32_1732 : BitVec 32 := 0#32
  let v1941 : BitVec 1 := Scalar.cmpi .slt v1937 c0_i32_1732
  let v1942 : BitVec 1 := Scalar.xori v1940 v1941
  let c0_i32_1730 : BitVec 32 := 0#32
  let v1939 : BitVec 1 := Scalar.cmpi .ne v1938 c0_i32_1730
  let v1943 : BitVec 1 := Scalar.andi v1942 v1939
  let v1944 : BitVec 32 := Scalar.addi v1938 v1937
  let v1945 : BitVec 32 := Scalar.select v1943 v1944 v1938
  let c0_i32_1739 : BitVec 32 := 0#32
  let c0_i32_1740 : BitVec 32 := 0#32
  ![v1945.toNat, 0, 0]
abbrev stage0_0 : Fin 1 → Memref sig .tc .vmem S104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== TotalIdeal.lean ====
abbrev S34816x2048 : Shape := ⟨2, ![34816, 2048]⟩
abbrev S16384x2048 : Shape := ⟨2, ![16384, 2048]⟩
abbrev S65536x2048 : Shape := ⟨2, ![65536, 2048]⟩
abbrev S832x128 : Shape := ⟨2, ![832, 128]⟩
abbrev S8x4352x2048 : Shape := ⟨3, ![8, 4352, 2048]⟩
abbrev S_ : Shape := ⟨0, ![]⟩
abbrev S4352x2048 : Shape := ⟨2, ![4352, 2048]⟩
abbrev S8x2048x2048 : Shape := ⟨3, ![8, 2048, 2048]⟩
abbrev S2048x2048 : Shape := ⟨2, ![2048, 2048]⟩
abbrev S8x8192x2048 : Shape := ⟨3, ![8, 8192, 2048]⟩
abbrev S8192x2048 : Shape := ⟨2, ![8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S34816x2048, .f32⟩
  | .hbm, ⟨1, _⟩ => ⟨S16384x2048, .f32⟩
  | .hbm, ⟨2, _⟩ => ⟨S65536x2048, .f32⟩
  | .hbm, ⟨3, _⟩ => ⟨S65536x2048, .f32⟩
  | .hbm, ⟨4, _⟩ => ⟨S832x128, .f32⟩
  | .hbm, ⟨5, _⟩ => ⟨S8x4352x2048, .f32⟩
  | .hbm, ⟨6, _⟩ => ⟨S_, .f32⟩
  | .hbm, ⟨7, _⟩ => ⟨S4352x2048, .f32⟩
  | .hbm, ⟨8, _⟩ => ⟨S8x2048x2048, .f32⟩
  | .hbm, ⟨9, _⟩ => ⟨S_, .f32⟩
  | .hbm, ⟨10, _⟩ => ⟨S2048x2048, .f32⟩
  | .hbm, ⟨11, _⟩ => ⟨S8x8192x2048, .f32⟩
  | .hbm, ⟨12, _⟩ => ⟨S_, .f32⟩
  | .hbm, ⟨13, _⟩ => ⟨S8192x2048, .f32⟩
  | .hbm, ⟨14, _⟩ => ⟨S8x8192x2048, .f32⟩
  | .hbm, ⟨15, _⟩ => ⟨S_, .f32⟩
  | .hbm, ⟨16, _⟩ => ⟨S8192x2048, .f32⟩
  | _, _ => ⟨S34816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩

abbrev nD : Nat := 1
abbrev τ : Topo := Topo.v7x

variable {F : FTy → Type} [FloatOps F]
-- ==== AdamIn.lean ====
abbrev S2048x1088 : Shape := ⟨2, ![2048, 1088]⟩
abbrev S256x1088 : Shape := ⟨2, ![256, 1088]⟩

abbrev nBuf : Space → Nat
  | .hbm => 7
  | .vmem => 14
  | .smem => 0
  | _ => 0

abbrev bufTy : (tb : Table) → Fin (tcTables nBuf tb) → BufTy
  | .hbm, ⟨0, _⟩ => ⟨S2048x1088, .f32⟩
  | .hbm, ⟨1, _⟩ => ⟨S2048x1088, .f32⟩
  | .hbm, ⟨2, _⟩ => ⟨S2048x1088, .f32⟩
  | .hbm, ⟨3, _⟩ => ⟨S2048x1088, .f32⟩
  | .hbm, ⟨4, _⟩ => ⟨S2048x1088, .f32⟩
  | .hbm, ⟨5, _⟩ => ⟨S2048x1088, .f32⟩
  | .hbm, ⟨6, _⟩ => ⟨S2048x1088, .f32⟩
  | .local _ .vmem, ⟨0, _⟩ => ⟨S256x1088, .f32⟩
  | .local _ .vmem, ⟨1, _⟩ => ⟨S256x1088, .f32⟩
  | .local _ .vmem, ⟨2, _⟩ => ⟨S256x1088, .f32⟩
  | .local _ .vmem, ⟨3, _⟩ => ⟨S256x1088, .f32⟩
  | .local _ .vmem, ⟨4, _⟩ => ⟨S256x1088, .f32⟩
  | .local _ .vmem, ⟨5, _⟩ => ⟨S256x1088, .f32⟩
  | .local _ .vmem, ⟨6, _⟩ => ⟨S256x1088, .f32⟩
  | .local _ .vmem, ⟨7, _⟩ => ⟨S256x1088, .f32⟩
  | .local _ .vmem, ⟨8, _⟩ => ⟨S256x1088, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S256x1088, .f32⟩
  | _, _ => ⟨S2048x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepInIdeal.lean ====
abbrev S2048x1088 : Shape := ⟨2, ![2048, 1088]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1088, .f32⟩
  | .hbm, ⟨1, _⟩ => ⟨S2048x1088, .f32⟩
  | .hbm, ⟨2, _⟩ => ⟨S2048x1088, .f32⟩
  | .hbm, ⟨3, _⟩ => ⟨S2048x1088, .f32⟩
  | .hbm, ⟨4, _⟩ => ⟨S_, .f32⟩
  | .hbm, ⟨5, _⟩ => ⟨S2048x1088, .f32⟩
  | .hbm, ⟨6, _⟩ => ⟨S2048x1088, .f32⟩
  | .hbm, ⟨7, _⟩ => ⟨S_, .f32⟩
  | .hbm, ⟨8, _⟩ => ⟨S2048x1088, .f32⟩
  | .hbm, ⟨9, _⟩ => ⟨S2048x1088, .f32⟩
  | .hbm, ⟨10, _⟩ => ⟨S2048x1088, .f32⟩
  | .hbm, ⟨11, _⟩ => ⟨S_, .f32⟩
  | .hbm, ⟨12, _⟩ => ⟨S2048x1088, .f32⟩
  | .hbm, ⟨13, _⟩ => ⟨S2048x1088, .f32⟩
  | .hbm, ⟨14, _⟩ => ⟨S2048x1088, .f32⟩
  | .hbm, ⟨15, _⟩ => ⟨S_, .f32⟩
  | .hbm, ⟨16, _⟩ => ⟨S2048x1088, .f32⟩
  | .hbm, ⟨17, _⟩ => ⟨S2048x1088, .f32⟩
  | .hbm, ⟨18, _⟩ => ⟨S2048x1088, .f32⟩
  | .hbm, ⟨19, _⟩ => ⟨S_, .f32⟩
  | .hbm, ⟨20, _⟩ => ⟨S2048x1088, .f32⟩
  | .hbm, ⟨21, _⟩ => ⟨S2048x1088, .f32⟩
  | .hbm, ⟨22, _⟩ => ⟨S_, .f32⟩
  | .hbm, ⟨23, _⟩ => ⟨S2048x1088, .f32⟩
  | .hbm, ⟨24, _⟩ => ⟨S2048x1088, .f32⟩
  | .hbm, ⟨25, _⟩ => ⟨S2048x1088, .f32⟩
  | .hbm, ⟨26, _⟩ => ⟨S_, .f32⟩
  | .hbm, ⟨27, _⟩ => ⟨S2048x1088, .f32⟩
  | .hbm, ⟨28, _⟩ => ⟨S2048x1088, .f32⟩
  | .hbm, ⟨29, _⟩ => ⟨S2048x1088, .f32⟩
  | .hbm, ⟨30, _⟩ => ⟨S_, .f32⟩
  | .hbm, ⟨31, _⟩ => ⟨S2048x1088, .f32⟩
  | .hbm, ⟨32, _⟩ => ⟨S2048x1088, .f32⟩
  | .hbm, ⟨33, _⟩ => ⟨S2048x1088, .f32⟩
  | .hbm, ⟨34, _⟩ => ⟨S_, .f32⟩
  | .hbm, ⟨35, _⟩ => ⟨S2048x1088, .f32⟩
  | .hbm, ⟨36, _⟩ => ⟨S2048x1088, .f32⟩
  | _, _ => ⟨S2048x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepOutIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOne.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepMlpIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTwo.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmall.lean ====
abbrev S104x128 : Shape := ⟨2, ![104, 128]⟩

abbrev nBuf : Space → Nat
  | .hbm => 7
  | .vmem => 7
  | .smem => 0
  | _ => 0

abbrev bufTy : (tb : Table) → Fin (tcTables nBuf tb) → BufTy
  | .hbm, ⟨0, _⟩ => ⟨S104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S104x128, .f32⟩
  | .hbm, ⟨5, _⟩ => ⟨S104x128, .f32⟩
  | .hbm, ⟨6, _⟩ => ⟨S104x128, .f32⟩
  | .local _ .vmem, ⟨0, _⟩ => ⟨S104x128, .f32⟩
  | .local _ .vmem, ⟨1, _⟩ => ⟨S104x128, .f32⟩
  | .local _ .vmem, ⟨2, _⟩ => ⟨S104x128, .f32⟩
  | .local _ .vmem, ⟨3, _⟩ => ⟨S104x128, .f32⟩
  | .local _ .vmem, ⟨4, _⟩ => ⟨S104x128, .f32⟩
  | .local _ .vmem, ⟨5, _⟩ => ⟨S104x128, .f32⟩
  | .local _ .vmem, ⟨6, _⟩ => ⟨S104x128, .f32⟩
  | _, _ => ⟨S104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== StepSmallIdeal.lean ====
abbrev S104x128 : Shape := ⟨2, ![104, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S_, .f32⟩
  | .hbm, ⟨5, _⟩ => ⟨S104x128, .f32⟩
  | .hbm, ⟨6, _⟩ => ⟨S104x128, .f32⟩
  | .hbm, ⟨7, _⟩ => ⟨S_, .f32⟩
  | .hbm, ⟨8, _⟩ => ⟨S104x128, .f32⟩
  | .hbm, ⟨9, _⟩ => ⟨S104x128, .f32⟩
  | .hbm, ⟨10, _⟩ => ⟨S104x128, .f32⟩
  | .hbm, ⟨11, _⟩ => ⟨S_, .f32⟩
  | .hbm, ⟨12, _⟩ => ⟨S104x128, .f32⟩
  | .hbm, ⟨13, _⟩ => ⟨S104x128, .f32⟩
  | .hbm, ⟨14, _⟩ => ⟨S104x128, .f32⟩
  | .hbm, ⟨15, _⟩ => ⟨S_, .f32⟩
  | .hbm, ⟨16, _⟩ => ⟨S104x128, .f32⟩
  | .hbm, ⟨17, _⟩ => ⟨S104x128, .f32⟩
  | .hbm, ⟨18, _⟩ => ⟨S104x128, .f32⟩
  | .hbm, ⟨19, _⟩ => ⟨S_, .f32⟩
  | .hbm, ⟨20, _⟩ => ⟨S104x128, .f32⟩
  | .hbm, ⟨21, _⟩ => ⟨S104x128, .f32⟩
  | .hbm, ⟨22, _⟩ => ⟨S_, .f32⟩
  | .hbm, ⟨23, _⟩ => ⟨S104x128, .f32⟩
  | .hbm, ⟨24, _⟩ => ⟨S104x128, .f32⟩
  | .hbm, ⟨25, _⟩ => ⟨S104x128, .f32⟩
  | .hbm, ⟨26, _⟩ => ⟨S_, .f32⟩
  | .hbm, ⟨27, _⟩ => ⟨S104x128, .f32⟩
  | .hbm, ⟨28, _⟩ => ⟨S104x128, .f32⟩
  | .hbm, ⟨29, _⟩ => ⟨S104x128, .f32⟩
  | .hbm, ⟨30, _⟩ => ⟨S_, .f32⟩
  | .hbm, ⟨31, _⟩ => ⟨S104x128, .f32⟩
  | .hbm, ⟨32, _⟩ => ⟨S104x128, .f32⟩
  | .hbm, ⟨33, _⟩ => ⟨S104x128, .f32⟩
  | .hbm, ⟨34, _⟩ => ⟨S_, .f32⟩
  | .hbm, ⟨35, _⟩ => ⟨S104x128, .f32⟩
  | .hbm, ⟨36, _⟩ => ⟨S104x128, .f32⟩
  | _, _ => ⟨S104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormMlp.lean ====
abbrev S8192x2048 : Shape := ⟨2, ![8192, 2048]⟩
abbrev S8192x1 : Shape := ⟨2, ![8192, 1]⟩
abbrev S1x2048 : Shape := ⟨2, ![1, 2048]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_15 : BitVec 32 := 0#32
  let v28 : BitVec 1 := Scalar.cmpi .ne v27 c0_i32_15
  v28

def k0_cond2 (i : grid0.Coords) : BitVec 1 :=
  let arg0 : BitVec 32 := BitVec.ofNat 32 (i 0).val
  let c0_i32_16 : BitVec 32 := 0#32
  let v29 : BitVec 1 := Scalar.cmpi .sgt arg0 c0_i32_16
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormGradIdeal.lean ====
abbrev S8192x2048 : Shape := ⟨2, ![8192, 2048]⟩
abbrev S8192x1 : Shape := ⟨2, ![8192, 1]⟩
abbrev S1x2048 : Shape := ⟨2, ![1, 2048]⟩
abbrev S_ : Shape := ⟨0, ![]⟩
abbrev S8192 : Shape := ⟨1, ![8192]⟩
abbrev S2048 : Shape := ⟨1, ![2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== NormAttn.lean ====
abbrev S8192x2048 : Shape := ⟨2, ![8192, 2048]⟩
abbrev S8192x1 : Shape := ⟨2, ![8192, 1]⟩
abbrev S1x2048 : Shape := ⟨2, ![1, 2048]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_15 : BitVec 32 := 0#32
  let v28 : BitVec 1 := Scalar.cmpi .ne v27 c0_i32_15
  v28

def k0_cond2 (i : grid0.Coords) : BitVec 1 :=
  let arg0 : BitVec 32 := BitVec.ofNat 32 (i 0).val
  let c0_i32_16 : BitVec 32 := 0#32
  let v29 : BitVec 1 := Scalar.cmpi .sgt arg0 c0_i32_16
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHead.lean ====
abbrev S8192x2048 : Shape := ⟨2, ![8192, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S1x128, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x128, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_19 : BitVec 32 := 0#32
  let v49 : BitVec 1 := Scalar.cmpi .ne v48 c0_i32_19
  v49

def k0_cond2 (i : grid0.Coords) : BitVec 1 :=
  let arg0 : BitVec 32 := BitVec.ofNat 32 (i 0).val
  let c0_i32_20 : BitVec 32 := 0#32
  let v50 : BitVec 1 := Scalar.cmpi .sgt arg0 c0_i32_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossGradIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .bf16⟩
  | .hbm, ⟨79, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_cst_9 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_cst_13 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_15 : Ref sig .tc := ⟨.hbm, 67, rfl⟩
abbrev main_v48 : Ref sig .tc := ⟨.hbm, 68, rfl⟩
abbrev main_v49 : Ref sig .tc := ⟨.hbm, 69, rfl⟩
abbrev main_cst_16 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== MixBwd.lean ====
abbrev S8192x2048 : Shape := ⟨2, ![8192, 2048]⟩
abbrev S8192x1024 : Shape := ⟨2, ![8192, 1024]⟩
abbrev S8192x1 : Shape := ⟨2, ![8192, 1]⟩
abbrev S1x1024 : Shape := ⟨2, ![1, 1024]⟩
abbrev S8192x128 : Shape := ⟨2, ![8192, 128]⟩
abbrev S256x2048 : Shape := ⟨2, ![256, 2048]⟩
abbrev S256x1024 : Shape := ⟨2, ![256, 1024]⟩
abbrev S256x1 : Shape := ⟨2, ![256, 1]⟩
abbrev S256x128 : Shape := ⟨2, ![256, 128]⟩
abbrev S256 : Shape := ⟨1, ![256]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1, .f32⟩
  | .hbm, ⟨4, _⟩ => ⟨S8192x1, .f32⟩
  | .hbm, ⟨5, _⟩ => ⟨S1x1024, .f32⟩
  | .hbm, ⟨6, _⟩ => ⟨S1x1024, .f32⟩
  | .hbm, ⟨7, _⟩ => ⟨S8192x1024, .bf16⟩
  | .hbm, ⟨8, _⟩ => ⟨S8192x1024, .bf16⟩
  | .hbm, ⟨9, _⟩ => ⟨S8192x128, .f32⟩
  | .hbm, ⟨10, _⟩ => ⟨S8192x128, .f32⟩
  | .hbm, ⟨11, _⟩ => ⟨S1x1024, .f32⟩
  | .hbm, ⟨12, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x1024, .f32⟩
  | .local _ .vmem, ⟨21, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_110 : BitVec 32 := 0#32
  let v364 : BitVec 1 := Scalar.cmpi .eq arg0 c0_i32_110
  let v365 : BitVec 32 := Scalar.extui v364
  let c0_i32_111 : BitVec 32 := 0#32
  let v366 : BitVec 1 := Scalar.cmpi .ne v365 c0_i32_111
  v366

def k0_cond2 (i : grid0.Coords) : BitVec 1 :=
  let arg0 : BitVec 32 := BitVec.ofNat 32 (i 0).val
  let c0_i32_112 : BitVec 32 := 0#32
  let v367 : BitVec 1 := Scalar.cmpi .sgt arg0 c0_i32_112
  let v368 : BitVec 32 := Scalar.extui v367
  let c0_i32_113 : BitVec 32 := 0#32
  let v369 : BitVec 1 := Scalar.cmpi .ne v368 c0_i32_113
  v369

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixGradIdeal.lean ====
abbrev S8192x2048 : Shape := ⟨2, ![8192, 2048]⟩
abbrev S8192x1024 : Shape := ⟨2, ![8192, 1024]⟩
abbrev S8192x1 : Shape := ⟨2, ![8192, 1]⟩
abbrev S1x1024 : Shape := ⟨2, ![1, 1024]⟩
abbrev S_ : Shape := ⟨0, ![]⟩
abbrev S8192 : Shape := ⟨1, ![8192]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1, .f32⟩
  | .hbm, ⟨4, _⟩ => ⟨S8192x1, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== ProjBwd.lean ====
abbrev S8192x1024 : Shape := ⟨2, ![8192, 1024]⟩
abbrev S8192x256 : Shape := ⟨2, ![8192, 256]⟩
abbrev S8192x4352 : Shape := ⟨2, ![8192, 4352]⟩
abbrev S1x4352 : Shape := ⟨2, ![1, 4352]⟩
abbrev S256x1024 : Shape := ⟨2, ![256, 1024]⟩
abbrev S256x256 : Shape := ⟨2, ![256, 256]⟩
abbrev S256x4352 : Shape := ⟨2, ![256, 4352]⟩
abbrev S1024 : Shape := ⟨1, ![1024]⟩
abbrev S1x1024 : Shape := ⟨2, ![1, 1024]⟩
abbrev S256 : Shape := ⟨1, ![256]⟩
abbrev S1x256 : Shape := ⟨2, ![1, 256]⟩

abbrev nBuf : Space → Nat
  | .hbm => 13
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x4352, .bf16⟩
  | .hbm, ⟨12, _⟩ => ⟨S1x4352, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x4352, .bf16⟩
  | .local _ .vmem, ⟨23, _⟩ => ⟨S256x4352, .bf16⟩
  | .local _ .vmem, ⟨24, _⟩ => ⟨S1x4352, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_23 : BitVec 32 := 0#32
  let v23 : BitVec 1 := Scalar.cmpi .ne v22 c0_i32_23
  v23

def k0_cond2 (i : grid0.Coords) : BitVec 1 :=
  let arg0 : BitVec 32 := BitVec.ofNat 32 (i 0).val
  let c0_i32_24 : BitVec 32 := 0#32
  let v24 : BitVec 1 := Scalar.cmpi .sgt arg0 c0_i32_24
  let v25 : BitVec 32 := Scalar.extui v24
  let c0_i32_25 : BitVec 32 := 0#32
  let v26 : BitVec 1 := Scalar.cmpi .ne v25 c0_i32_25
  v26

def k0_cond3 (i : grid0.Coords) : BitVec 1 :=
  let arg0 : BitVec 32 := BitVec.ofNat 32 (i 0).val
  let c0_i32_28 : BitVec 32 := 0#32
  let v31 : BitVec 1 := Scalar.cmpi .eq arg0 c0_i32_28
  let v32 : BitVec 32 := Scalar.extui v31
  let c0_i32_29 : BitVec 32 := 0#32
  let v33 : BitVec 1 := Scalar.cmpi .ne v32 c0_i32_29
  v33

def k0_cond4 (i : grid0.Coords) : BitVec 1 :=
  let arg0 : BitVec 32 := BitVec.ofNat 32 (i 0).val
  let c0_i32_30 : BitVec 32 := 0#32
  let v34 : BitVec 1 := Scalar.cmpi .sgt arg0 c0_i32_30
  let v35 : BitVec 32 := Scalar.extui v34
  let c0_i32_31 : BitVec 32 := 0#32
  let v36 : BitVec 1 := Scalar.cmpi .ne v35 c0_i32_31
  v36

def k0_cond5 (i : grid0.Coords) : BitVec 1 :=
  let arg0 : BitVec 32 := BitVec.ofNat 32 (i 0).val
  let c0_i32_34 : BitVec 32 := 0#32
  let v41 : BitVec 1 := Scalar.cmpi .eq arg0 c0_i32_34
  let v42 : BitVec 32 := Scalar.extui v41
  let c0_i32_35 : BitVec 32 := 0#32
  let v43 : BitVec 1 := Scalar.cmpi .ne v42 c0_i32_35
  v43

def k0_cond6 (i : grid0.Coords) : BitVec 1 :=
  let arg0 : BitVec 32 := BitVec.ofNat 32 (i 0).val
  let c0_i32_36 : BitVec 32 := 0#32
  let v44 : BitVec 1 := Scalar.cmpi .sgt arg0 c0_i32_36
  let v45 : BitVec 32 := Scalar.extui v44
  let c0_i32_37 : BitVec 32 := 0#32
  let v46 : BitVec 1 := Scalar.cmpi .ne v45 c0_i32_37
  v46

def k0_cond7 (i : grid0.Coords) : BitVec 1 :=
  let arg0 : BitVec 32 := BitVec.ofNat 32 (i 0).val
  let c0_i32_40 : BitVec 32 := 0#32
  let v51 : BitVec 1 := Scalar.cmpi .eq arg0 c0_i32_40
  let v52 : BitVec 32 := Scalar.extui v51
  let c0_i32_41 : BitVec 32 := 0#32
  let v53 : BitVec 1 := Scalar.cmpi .ne v52 c0_i32_41
  v53

def k0_cond8 (i : grid0.Coords) : BitVec 1 :=
  let arg0 : BitVec 32 := BitVec.ofNat 32 (i 0).val
  let c0_i32_42 : BitVec 32 := 0#32
  let v54 : BitVec 1 := Scalar.cmpi .sgt arg0 c0_i32_42
  let v55 : BitVec 32 := Scalar.extui v54
  let c0_i32_43 : BitVec 32 := 0#32
  let v56 : BitVec 1 := Scalar.cmpi .ne v55 c0_i32_43
  v56

def k0_cond9 (i : grid0.Coords) : BitVec 1 :=
  let arg0 : BitVec 32 := BitVec.ofNat 32 (i 0).val
  let c0_i32_46 : BitVec 32 := 0#32
  let v61 : BitVec 1 := Scalar.cmpi .eq arg0 c0_i32_46
  let v62 : BitVec 32 := Scalar.extui v61
  let c0_i32_47 : BitVec 32 := 0#32
  let v63 : BitVec 1 := Scalar.cmpi .ne v62 c0_i32_47
  v63

def k0_cond10 (i : grid0.Coords) : BitVec 1 :=
  let arg0 : BitVec 32 := BitVec.ofNat 32 (i 0).val
  let c0_i32_48 : BitVec 32 := 0#32
  let v64 : BitVec 1 := Scalar.cmpi .sgt arg0 c0_i32_48
  let v65 : BitVec 32 := Scalar.extui v64
  let c0_i32_49 : BitVec 32 := 0#32
  let v66 : BitVec 1 := Scalar.cmpi .ne v65 c0_i32_49
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4352 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x4352 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ProjGradIdeal.lean ====
abbrev S8192x1024 : Shape := ⟨2, ![8192, 1024]⟩
abbrev S8192x256 : Shape := ⟨2, ![8192, 256]⟩
abbrev S8192x4352 : Shape := ⟨2, ![8192, 4352]⟩
abbrev S_ : Shape := ⟨0, ![]⟩
abbrev S4352 : Shape := ⟨1, ![4352]⟩
abbrev S1x4352 : Shape := ⟨2, ![1, 4352]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x4352, .f32⟩
  | .hbm, ⟨18, _⟩ => ⟨S8192x4352, .bf16⟩
  | .hbm, ⟨19, _⟩ => ⟨S_, .f32⟩
  | .hbm, ⟨20, _⟩ => ⟨S4352, .f32⟩
  | .hbm, ⟨21, _⟩ => ⟨S1x4352, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== OutProjDw.lean ====
abbrev S8192x2048 : Shape := ⟨2, ![8192, 2048]⟩
abbrev S2048x2048 : Shape := ⟨2, ![2048, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjGradIdeal.lean ====
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x8192, .bf16⟩
  | .hbm, ⟨3, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InProjDw.lean ====
abbrev S8192x4352 : Shape := ⟨2, ![8192, 4352]⟩
abbrev S8192x2048 : Shape := ⟨2, ![8192, 2048]⟩
abbrev S4352x2048 : Shape := ⟨2, ![4352, 2048]⟩
abbrev S512x2176 : Shape := ⟨2, ![512, 2176]⟩
abbrev S512x1024 : Shape := ⟨2, ![512, 1024]⟩
abbrev S2176x1024 : Shape := ⟨2, ![2176, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S4352x2048, .f32⟩
  | .local _ .vmem, ⟨0, _⟩ => ⟨S512x2176, .bf16⟩
  | .local _ .vmem, ⟨1, _⟩ => ⟨S512x2176, .bf16⟩
  | .local _ .vmem, ⟨2, _⟩ => ⟨S512x1024, .bf16⟩
  | .local _ .vmem, ⟨3, _⟩ => ⟨S512x1024, .bf16⟩
  | .local _ .vmem, ⟨4, _⟩ => ⟨S2176x1024, .f32⟩
  | .local _ .vmem, ⟨5, _⟩ => ⟨S2176x1024, .f32⟩
  | .local _ .vmem, ⟨6, _⟩ => ⟨S2176x1024, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjGradIdeal.lean ====
abbrev S8192x4352 : Shape := ⟨2, ![8192, 4352]⟩
abbrev S8192x2048 : Shape := ⟨2, ![8192, 2048]⟩
abbrev S4352x8192 : Shape := ⟨2, ![4352, 8192]⟩
abbrev S4352x2048 : Shape := ⟨2, ![4352, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S4352x8192, .bf16⟩
  | .hbm, ⟨3, _⟩ => ⟨S4352x2048, .f32⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlpDownDw.lean ====
abbrev S8192x8192 : Shape := ⟨2, ![8192, 8192]⟩
abbrev S8192x2048 : Shape := ⟨2, ![8192, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownGradIdeal.lean ====
abbrev S8192x8192 : Shape := ⟨2, ![8192, 8192]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x8192, .bf16⟩
  | .hbm, ⟨3, _⟩ => ⟨S8192x8192, .bf16⟩
  | .hbm, ⟨4, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlpUpDw.lean ====
abbrev S8192x2048 : Shape := ⟨2, ![8192, 2048]⟩
abbrev S8192x8192 : Shape := ⟨2, ![8192, 8192]⟩
abbrev S4x2048x2048 : Shape := ⟨3, ![4, 2048, 2048]⟩
abbrev S512x1024 : Shape := ⟨2, ![512, 1024]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1x1024x2048, .f32⟩
  | .local _ .vmem, ⟨5, _⟩ => ⟨S1x1024x2048, .f32⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpGradIdeal.lean ====
abbrev S8192x2048 : Shape := ⟨2, ![8192, 2048]⟩
abbrev S8192x8192 : Shape := ⟨2, ![8192, 8192]⟩
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .hbm, ⟨3, _⟩ => ⟨S2048x8192, .f32⟩
  | .hbm, ⟨4, _⟩ => ⟨S2048x4x2048, .f32⟩
  | .hbm, ⟨5, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormA.lean ====
abbrev S8192x2048 : Shape := ⟨2, ![8192, 2048]⟩
abbrev S1x2048 : Shape := ⟨2, ![1, 2048]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormM.lean ====
abbrev S8192x2048 : Shape := ⟨2, ![8192, 2048]⟩
abbrev S1x2048 : Shape := ⟨2, ![1, 2048]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjQa.lean ====
abbrev S8192x2048 : Shape := ⟨2, ![8192, 2048]⟩
abbrev S4352x2048 : Shape := ⟨2, ![4352, 2048]⟩
abbrev S1x4352 : Shape := ⟨2, ![1, 4352]⟩
abbrev S8192x1024 : Shape := ⟨2, ![8192, 1024]⟩
abbrev S1024x2048 : Shape := ⟨2, ![1024, 2048]⟩
abbrev S256x2048 : Shape := ⟨2, ![256, 2048]⟩
abbrev S1x256 : Shape := ⟨2, ![1, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4352x2048, .bf16⟩
  | .hbm, ⟨2, _⟩ => ⟨S1x4352, .f32⟩
  | .hbm, ⟨3, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1x256, .f32⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QueriesAIdeal.lean ====
abbrev S8192x2048 : Shape := ⟨2, ![8192, 2048]⟩
abbrev S4352x2048 : Shape := ⟨2, ![4352, 2048]⟩
abbrev S1x4352 : Shape := ⟨2, ![1, 4352]⟩
abbrev S1024x2048 : Shape := ⟨2, ![1024, 2048]⟩
abbrev S2048x1024 : Shape := ⟨2, ![2048, 1024]⟩
abbrev S8192x1024 : Shape := ⟨2, ![8192, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4352x2048, .bf16⟩
  | .hbm, ⟨2, _⟩ => ⟨S1x4352, .f32⟩
  | .hbm, ⟨3, _⟩ => ⟨S1024x2048, .bf16⟩
  | .hbm, ⟨4, _⟩ => ⟨S2048x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjKva.lean ====
abbrev S8192x2048 : Shape := ⟨2, ![8192, 2048]⟩
abbrev S4352x2048 : Shape := ⟨2, ![4352, 2048]⟩
abbrev S1x4352 : Shape := ⟨2, ![1, 4352]⟩
abbrev S8192x256 : Shape := ⟨2, ![8192, 256]⟩
abbrev S1024x2048 : Shape := ⟨2, ![1024, 2048]⟩
abbrev S256x2048 : Shape := ⟨2, ![256, 2048]⟩
abbrev S1x256 : Shape := ⟨2, ![1, 256]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4352x2048, .bf16⟩
  | .hbm, ⟨2, _⟩ => ⟨S1x4352, .f32⟩
  | .hbm, ⟨3, _⟩ => ⟨S8192x256, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1x256, .f32⟩
  | .local _ .vmem, ⟨4, _⟩ => ⟨S1024x256, .bf16⟩
  | .local _ .vmem, ⟨5, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KeysValuesAIdeal.lean ====
abbrev S8192x2048 : Shape := ⟨2, ![8192, 2048]⟩
abbrev S4352x2048 : Shape := ⟨2, ![4352, 2048]⟩
abbrev S1x4352 : Shape := ⟨2, ![1, 4352]⟩
abbrev S256x2048 : Shape := ⟨2, ![256, 2048]⟩
abbrev S2048x256 : Shape := ⟨2, ![2048, 256]⟩
abbrev S8192x256 : Shape := ⟨2, ![8192, 256]⟩
abbrev S1x256 : Shape := ⟨2, ![1, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4352x2048, .bf16⟩
  | .hbm, ⟨2, _⟩ => ⟨S1x4352, .f32⟩
  | .hbm, ⟨3, _⟩ => ⟨S256x2048, .bf16⟩
  | .hbm, ⟨4, _⟩ => ⟨S2048x256, .bf16⟩
  | .hbm, ⟨5, _⟩ => ⟨S8192x256, .f32⟩
  | .hbm, ⟨6, _⟩ => ⟨S1x256, .f32⟩
  | .hbm, ⟨7, _⟩ => ⟨S8192x256, .f32⟩
  | .hbm, ⟨8, _⟩ => ⟨S8192x256, .f32⟩
  | .hbm, ⟨9, _⟩ => ⟨S8192x256, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjQb.lean ====
abbrev S8192x2048 : Shape := ⟨2, ![8192, 2048]⟩
abbrev S4352x2048 : Shape := ⟨2, ![4352, 2048]⟩
abbrev S1x4352 : Shape := ⟨2, ![1, 4352]⟩
abbrev S8192x1024 : Shape := ⟨2, ![8192, 1024]⟩
abbrev S1024x2048 : Shape := ⟨2, ![1024, 2048]⟩
abbrev S256x2048 : Shape := ⟨2, ![256, 2048]⟩
abbrev S1x256 : Shape := ⟨2, ![1, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4352x2048, .bf16⟩
  | .hbm, ⟨2, _⟩ => ⟨S1x4352, .f32⟩
  | .hbm, ⟨3, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1x256, .f32⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg1 c5_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg1 c5_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QueriesBIdeal.lean ====
abbrev S8192x2048 : Shape := ⟨2, ![8192, 2048]⟩
abbrev S4352x2048 : Shape := ⟨2, ![4352, 2048]⟩
abbrev S1x4352 : Shape := ⟨2, ![1, 4352]⟩
abbrev S1024x2048 : Shape := ⟨2, ![1024, 2048]⟩
abbrev S2048x1024 : Shape := ⟨2, ![2048, 1024]⟩
abbrev S8192x1024 : Shape := ⟨2, ![8192, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4352x2048, .bf16⟩
  | .hbm, ⟨2, _⟩ => ⟨S1x4352, .f32⟩
  | .hbm, ⟨3, _⟩ => ⟨S1024x2048, .bf16⟩
  | .hbm, ⟨4, _⟩ => ⟨S2048x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjKb.lean ====
abbrev S8192x2048 : Shape := ⟨2, ![8192, 2048]⟩
abbrev S4352x2048 : Shape := ⟨2, ![4352, 2048]⟩
abbrev S1x4352 : Shape := ⟨2, ![1, 4352]⟩
abbrev S8192x1024 : Shape := ⟨2, ![8192, 1024]⟩
abbrev S1024x2048 : Shape := ⟨2, ![1024, 2048]⟩
abbrev S256x2048 : Shape := ⟨2, ![256, 2048]⟩
abbrev S1x256 : Shape := ⟨2, ![1, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4352x2048, .bf16⟩
  | .hbm, ⟨2, _⟩ => ⟨S1x4352, .f32⟩
  | .hbm, ⟨3, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1x256, .f32⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg1 c9_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KeysBIdeal.lean ====
abbrev S8192x2048 : Shape := ⟨2, ![8192, 2048]⟩
abbrev S4352x2048 : Shape := ⟨2, ![4352, 2048]⟩
abbrev S1x4352 : Shape := ⟨2, ![1, 4352]⟩
abbrev S1024x2048 : Shape := ⟨2, ![1024, 2048]⟩
abbrev S2048x1024 : Shape := ⟨2, ![2048, 1024]⟩
abbrev S8192x1024 : Shape := ⟨2, ![8192, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4352x2048, .bf16⟩
  | .hbm, ⟨2, _⟩ => ⟨S1x4352, .f32⟩
  | .hbm, ⟨3, _⟩ => ⟨S1024x2048, .bf16⟩
  | .hbm, ⟨4, _⟩ => ⟨S2048x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjVb.lean ====
abbrev S8192x2048 : Shape := ⟨2, ![8192, 2048]⟩
abbrev S4352x2048 : Shape := ⟨2, ![4352, 2048]⟩
abbrev S1x4352 : Shape := ⟨2, ![1, 4352]⟩
abbrev S8192x1024 : Shape := ⟨2, ![8192, 1024]⟩
abbrev S1024x2048 : Shape := ⟨2, ![1024, 2048]⟩
abbrev S256x2048 : Shape := ⟨2, ![256, 2048]⟩
abbrev S1x256 : Shape := ⟨2, ![1, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4352x2048, .bf16⟩
  | .hbm, ⟨2, _⟩ => ⟨S1x4352, .f32⟩
  | .hbm, ⟨3, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1x256, .f32⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ValuesBIdeal.lean ====
abbrev S8192x2048 : Shape := ⟨2, ![8192, 2048]⟩
abbrev S4352x2048 : Shape := ⟨2, ![4352, 2048]⟩
abbrev S1x4352 : Shape := ⟨2, ![1, 4352]⟩
abbrev S1024x2048 : Shape := ⟨2, ![1024, 2048]⟩
abbrev S2048x1024 : Shape := ⟨2, ![2048, 1024]⟩
abbrev S8192x1024 : Shape := ⟨2, ![8192, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4352x2048, .bf16⟩
  | .hbm, ⟨2, _⟩ => ⟨S1x4352, .f32⟩
  | .hbm, ⟨3, _⟩ => ⟨S1024x2048, .bf16⟩
  | .hbm, ⟨4, _⟩ => ⟨S2048x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutputIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MlpUp.lean ====
abbrev S8192x2048 : Shape := ⟨2, ![8192, 2048]⟩
abbrev S4x2048x2048 : Shape := ⟨3, ![4, 2048, 2048]⟩
abbrev S8192x8192 : Shape := ⟨2, ![8192, 8192]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FirstLayerIdeal.lean ====
abbrev S8192x2048 : Shape := ⟨2, ![8192, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlpDown.lean ====
abbrev S8192x8192 : Shape := ⟨2, ![8192, 8192]⟩
abbrev S8192x2048 : Shape := ⟨2, ![8192, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SecondLayerIdeal.lean ====
abbrev S8192x8192 : Shape := ⟨2, ![8192, 8192]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x8192, .bf16⟩
  | .hbm, ⟨4, _⟩ => ⟨S8192x2048, .f32⟩
  | .hbm, ⟨5, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlpDownDx.lean ====
abbrev S8192x2048 : Shape := ⟨2, ![8192, 2048]⟩
abbrev S8192x8192 : Shape := ⟨2, ![8192, 8192]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SecondGradIdeal.lean ====
abbrev S8192x2048 : Shape := ⟨2, ![8192, 2048]⟩
abbrev S8192x8192 : Shape := ⟨2, ![8192, 8192]⟩
abbrev S2048x8192 : Shape := ⟨2, ![2048, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .bf16⟩
  | .hbm, ⟨3, _⟩ => ⟨S2048x8192, .bf16⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlpUpDx.lean ====
abbrev S8192x8192 : Shape := ⟨2, ![8192, 8192]⟩
abbrev S4x2048x2048 : Shape := ⟨3, ![4, 2048, 2048]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FirstGradIdeal.lean ====
abbrev S8192x8192 : Shape := ⟨2, ![8192, 8192]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S8192x2048, .bf16⟩
  | .hbm, ⟨5, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProjDx.lean ====
abbrev S8192x2048 : Shape := ⟨2, ![8192, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutputGradIdeal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .bf16⟩
  | .hbm, ⟨3, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InProjDx.lean ====
abbrev S8192x4352 : Shape := ⟨2, ![8192, 4352]⟩
abbrev S4352x2048 : Shape := ⟨2, ![4352, 2048]⟩
abbrev S8192x2048 : Shape := ⟨2, ![8192, 2048]⟩
abbrev S1024x4352 : Shape := ⟨2, ![1024, 4352]⟩
abbrev S4352x512 : Shape := ⟨2, ![4352, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4352, .bf16⟩
  | .hbm, ⟨1, _⟩ => ⟨S4352x2048, .bf16⟩
  | .hbm, ⟨2, _⟩ => ⟨S8192x2048, .f32⟩
  | .local _ .vmem, ⟨0, _⟩ => ⟨S1024x4352, .bf16⟩
  | .local _ .vmem, ⟨1, _⟩ => ⟨S1024x4352, .bf16⟩
  | .local _ .vmem, ⟨2, _⟩ => ⟨S4352x512, .bf16⟩
  | .local _ .vmem, ⟨3, _⟩ => ⟨S4352x512, .bf16⟩
  | .local _ .vmem, ⟨4, _⟩ => ⟨S1024x512, .f32⟩
  | .local _ .vmem, ⟨5, _⟩ => ⟨S1024x512, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InputGradIdeal.lean ====
abbrev S8192x4352 : Shape := ⟨2, ![8192, 4352]⟩
abbrev S4352x2048 : Shape := ⟨2, ![4352, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S4352x2048, .bf16⟩
  | .hbm, ⟨2, _⟩ => ⟨S8192x2048, .f32⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Proto.lean ====
/-
# The all-gather of the weights: its memrefs, its cells and their schedule

Each of the eight devices holds, per weight `w`, a block of `2 * H w` rows (the two devices of a chip hold the
same block) and gathers the four chips' blocks. It copies its own block into its result, sends the half of the
block that is its own to the devices of the same side on the three other chips, and hands each half it receives
on to the other device of its chip. So the rows of the result fall into eight regions of `H w` rows, region `d`
holding the half that device `d` sends; a device's own two regions are filled by the local copy.

Every transfer has a DMA cell of its own, and every cell is used for one transfer: one round, one duty.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The devices -/

/-- The other device of the chip. -/
def sib (c : Dev nD) : Dev nD := ⟨2 * (c.val / 2) + (1 - c.val % 2), by have := c.isLt; revert this; generalize c.val = v; decide +revert⟩

/-- The device of the same side on the `k`-th other chip. -/
def oth (k : Fin 3) (c : Dev nD) : Dev nD :=
  match k with
  | 0 => ⟨(c.val + 4) % 8, Nat.mod_lt _ (by decide)⟩
  | 1 => ⟨4 * (c.val / 4) + (c.val % 4 + 2) % 4, by have := c.isLt; revert this; generalize c.val = v; decide +revert⟩
  | 2 => ⟨4 * (1 - c.val / 4) + (c.val % 4 + 2) % 4, by have := c.isLt; revert this; generalize c.val = v; decide +revert⟩

theorem sib_sib (c : Dev nD) : sib (sib c) = c := by revert c; decide
theorem oth_oth (k : Fin 3) (c : Dev nD) : oth k (oth k c) = c := by revert k c; decide
theorem oth_sib (k : Fin 3) (c : Dev nD) : oth k (sib c) = sib (oth k c) := by revert k c; decide

/-! ## The memrefs -/

/-- The rows of half a block of weight `w`. -/
abbrev H : Fin 4 → ℕ
  | 0 => 544
  | 1 => 256
  | 2 => 1024
  | 3 => 1024

/-- The rows of a block. -/
abbrev HB : Fin 4 → ℕ
  | 0 => 1088
  | 1 => 512
  | 2 => 2048
  | 3 => 2048
/-- The rows of the whole weight. -/
abbrev HA : Fin 4 → ℕ
  | 0 => 4352
  | 1 => 2048
  | 2 => 8192
  | 3 => 8192

theorem HB_eq (w : Fin 4) : HB w = 2 * H w := by revert w; decide
theorem HA_eq (w : Fin 4) : HA w = 8 * H w := by revert w; decide
theorem H_pos (w : Fin 4) : 0 < H w := by revert w; decide

abbrev halfS (w : Fin 4) : Shape := ⟨2, ![H w, 2048]⟩
abbrev blkS (w : Fin 4) : Shape := ⟨2, ![HB w, 2048]⟩
abbrev allS (w : Fin 4) : Shape := ⟨2, ![HA w, 2048]⟩

/-- The block of weight `w` a device holds. -/
abbrev inM : (w : Fin 4) → Memref sig .tc .hbm (blkS w) .bf16
  | 0 => Memref.whole main_arg0
  | 1 => Memref.whole main_arg1
  | 2 => Memref.whole main_arg2
  | 3 => Memref.whole main_arg3
/-- The whole weight `w` as a device gathers it. -/
abbrev outM : (w : Fin 4) → Memref sig .tc .hbm (allS w) .bf16
  | 0 => Memref.whole main_v1_0
  | 1 => Memref.whole main_v1_1
  | 2 => Memref.whole main_v1_2
  | 3 => Memref.whole main_v1_3

/-- Half of the block, from the row `off` names. -/
abbrev inSl (w : Fin 4) (off : Fin 2 → ℕ) (inb : ∀ a, off a + (halfS w).size a ≤ (blkS w).size a) : Memref sig .tc .hbm (halfS w) .bf16 :=
  (inM w).slice (Rect.unit (s := blkS w) off (halfS w).size inb) (fun _ => rfl)
/-- Half a block's rows of the gathered weight. -/
abbrev outSl (w : Fin 4) (off : Fin 2 → ℕ) (inb : ∀ a, off a + (halfS w).size a ≤ (allS w).size a) : Memref sig .tc .hbm (halfS w) .bf16 :=
  (outM w).slice (Rect.unit (s := allS w) off (halfS w).size inb) (fun _ => rfl)
/-- A block's rows of the gathered weight. -/
abbrev outBl (w : Fin 4) (off : Fin 2 → ℕ) (inb : ∀ a, off a + (blkS w).size a ≤ (allS w).size a) : Memref sig .tc .hbm (blkS w) .bf16 :=
  (outM w).slice (Rect.unit (s := allS w) off (blkS w).size inb) (fun _ => rfl)

theorem half_inb (w : Fin 4) (c : Dev nD) : ∀ a, (![H w * (c.val % 2), 0] : Fin 2 → ℕ) a + (halfS w).size a ≤ (blkS w).size a := by
  revert w c; decide +kernel
theorem reg_inb (w : Fin 4) (d : Dev nD) : ∀ a, (![H w * d.val, 0] : Fin 2 → ℕ) a + (halfS w).size a ≤ (allS w).size a := by
  revert w d; decide +kernel
theorem blk_inb (w : Fin 4) (c : Dev nD) : ∀ a, (![HB w * (c.val / 2), 0] : Fin 2 → ℕ) a + (blkS w).size a ≤ (allS w).size a := by
  revert w c; decide +kernel

/-- The half of its block that device `c` sends. -/
abbrev half (w : Fin 4) (c : Dev nD) : Memref sig .tc .hbm (halfS w) .bf16 := inSl w ![H w * (c.val % 2), 0] (half_inb w c)
/-- The region of the gathered weight that device `d`'s half goes to. -/
abbrev reg (w : Fin 4) (d : Dev nD) : Memref sig .tc .hbm (halfS w) .bf16 := outSl w ![H w * d.val, 0] (reg_inb w d)
/-- The region that device `c`'s block goes to. -/
abbrev blk (w : Fin 4) (c : Dev nD) : Memref sig .tc .hbm (blkS w) .bf16 := outBl w ![HB w * (c.val / 2), 0] (blk_inb w c)

/-- What a transfer of half a block credits, and of a block. -/
def Nh (w : Fin 4) : ℕ := (reg w 0).view.dmaCredit
def Nb (w : Fin 4) : ℕ := (blk w 0).view.dmaCredit
theorem numel_half (w : Fin 4) : 0 < (halfS w).numel := by revert w; decide
theorem numel_blk (w : Fin 4) : 0 < (blkS w).numel := by revert w; decide
theorem Nh_pos (w : Fin 4) : 0 < Nh w := View.dmaCredit_pos _ (numel_half w)
theorem Nb_pos (w : Fin 4) : 0 < Nb w := View.dmaCredit_pos _ (numel_blk w)
theorem credit_outSl (w : Fin 4) (off) (inb) : (outSl w off inb).view.dmaCredit = Nh w := by fin_cases w <;> rfl
theorem credit_inSl (w : Fin 4) (off) (inb) : (inSl w off inb).view.dmaCredit = Nh w := by fin_cases w <;> rfl
theorem credit_outBl (w : Fin 4) (off) (inb) : (outBl w off inb).view.dmaCredit = Nb w := by fin_cases w <;> rfl

attribute [irreducible] Nh Nb

/-! ## The cells -/

/-- A device's cells: per weight the local copy's, and per weight and other chip the send's, the receive's, the
    hand-over's and the handed-over half's. -/
inductive Cell where
  | loc (w : Fin 4)
  | snd (w : Fin 4) (k : Fin 3)
  | rcv (w : Fin 4) (k : Fin 3)
  | fsd (w : Fin 4) (k : Fin 3)
  | frc (w : Fin 4) (k : Fin 3)
  deriving DecidableEq

/-- The semaphore of a cell. -/
def Cell.num : Cell → DmaSem sig
  | .loc w => ⟨w.val, by have := w.isLt; show _ < 52; omega⟩
  | .snd w k => ⟨4 + 3 * w.val + k.val, by have := w.isLt; have := k.isLt; show _ < 52; omega⟩
  | .rcv w k => ⟨16 + 3 * w.val + k.val, by have := w.isLt; have := k.isLt; show _ < 52; omega⟩
  | .fsd w k => ⟨28 + 3 * w.val + k.val, by have := w.isLt; have := k.isLt; show _ < 52; omega⟩
  | .frc w k => ⟨40 + 3 * w.val + k.val, by have := w.isLt; have := k.isLt; show _ < 52; omega⟩

/-- The cell of a semaphore. -/
def Cell.ofNum (s : DmaSem sig) : Cell :=
  let w : Fin 4 := ⟨(s.val - 4) % 12 / 3, by omega⟩
  let k : Fin 3 := ⟨(s.val - 4) % 3, by omega⟩
  if h : s.val < 4 then .loc ⟨s.val, h⟩
  else if s.val < 16 then .snd w k
  else if s.val < 28 then .rcv w k
  else if s.val < 40 then .fsd w k
  else .frc w k

theorem Cell.ofNum_num (x : Cell) : Cell.ofNum x.num = x := by
  rcases x with w | ⟨w, k⟩ | ⟨w, k⟩ | ⟨w, k⟩ | ⟨w, k⟩
  · revert w; decide +kernel
  all_goals revert w k; decide +kernel
theorem Cell.num_ofNum (s : DmaSem sig) : (Cell.ofNum s).num = s := by revert s; show ∀ s : Fin 52, _; decide +kernel
/-- The cells are the semaphores. -/
def Cell.equiv : DmaSem sig ≃ Cell := ⟨Cell.ofNum, Cell.num, Cell.num_ofNum, Cell.ofNum_num⟩
instance : Fintype Cell := Fintype.ofEquiv (DmaSem sig) Cell.equiv
theorem Cell.num_inj : Function.Injective Cell.num := Function.LeftInverse.injective Cell.ofNum_num

/-- What a cell is credited in all. -/
def Cell.amt : Cell → ℕ
  | .loc w => Nb w
  | .snd w _ | .rcv w _ | .fsd w _ | .frc w _ => Nh w
theorem Cell.amt_pos (x : Cell) : 0 < x.amt := by
  rcases x with w | ⟨w, k⟩ | ⟨w, k⟩ | ⟨w, k⟩ | ⟨w, k⟩
  · exact Nb_pos w
  all_goals exact Nh_pos w

/-- The cell of a device, as the machine names it. -/
abbrev gc (c : Dev nD) (x : Cell) : GSem nD τ sig := ((c : Thread nD τ), .dma x.num)

/-! ## Contents and payloads -/

/-- The pieces of an input's ownership: one per transfer that reads it. -/
abbrev piece (k : Fin 3) : PosShare TreeShare := ShareLeaves.leaf 2 fullShare (k.castSucc : Fin 4)
abbrev pieceL : PosShare TreeShare := ShareLeaves.leaf 2 fullShare (3 : Fin 4)

/-- Device `c`'s block of weight `w`, and the half of it that `c` sends. -/
def Vb (c : Dev nD) (w : Fin 4) : (blkS w).Idx → Elt F .bf16 := (inM w).view.read (Elt F) (m ((inM w).view.loc (c : Thread nD τ)))
def Vh (c : Dev nD) (w : Fin 4) : (halfS w).Idx → Elt F .bf16 := (half w c).view.read (Elt F) (m ((half w c).view.loc (c : Thread nD τ)))

/-- What a cell's transfers leave with its owner. -/
def pay (c : Dev nD) : Cell → sProp 𝕄
  | .loc w => iprop(owns (c : Thread nD τ) (blk w c) fullShare (Vb m c w) ∗ owns (c : Thread nD τ) (inM w) pieceL (Vb m c w))
  | .snd w k => owns (c : Thread nD τ) (half w c) (piece k) (Vh m c w)
  | .rcv w k => owns (c : Thread nD τ) (reg w (oth k c)) fullShare (Vh m (oth k c) w)
  | .fsd w k => owns (c : Thread nD τ) (reg w (oth k c)) fullShare (Vh m (oth k c) w)
  | .frc w k => owns (c : Thread nD τ) (reg w (oth k (sib c))) fullShare (Vh m (oth k (sib c)) w)

instance pay_storable (c : Dev nD) (x : Cell) : BI.Storable (upEmb : UEmb _ 𝕄) (pay (F := F) m c x) := by
  cases x <;> unfold pay <;> infer_instance

/-! ## The schedule -/

/-- One round of one duty per cell. -/
def Rd : Rounds.Schedule (GSem nD τ sig) Unit 𝕄 where
  duties g r := if r = 0 ∧ g.1.2 = .tc ∧ (∃ s, g.2 = .dma s) then {()} else ∅
  unitless _ := False
  amount g _ _ := match g.2 with
    | .dma s => (Cell.ofNum s).amt
    | .reg _ => 1
  payload g _ _ := match g.2 with
    | .dma s => pay m g.1.1 (Cell.ofNum s)
    | .reg _ => iprop(emp)
  amount_pos g _ _ _ := by
    split
    · exact Cell.amt_pos _
    · exact Nat.one_pos

instance Rd_payload_storable (g : GSem nD τ sig) (r : ℕ) (d : Unit) : BI.Storable (upEmb : UEmb _ 𝕄) ((Rd (F := F) m).payload g r d) := by
  show BI.Storable upEmb (match g.2 with
    | .dma s => pay m g.1.1 (Cell.ofNum s)
    | .reg _ => iprop(emp))
  split <;> infer_instance

section Sched
variable (c : Dev nD) (x : Cell)

omit [FloatOps F] in
theorem duties_eq : (Rd (F := F) m).duties (gc c x) 0 = {()} := by dsimp only [Rd]; exact if_pos ⟨rfl, rfl, _, rfl⟩
omit [FloatOps F] in
theorem duties_mem : () ∈ (Rd (F := F) m).duties (gc c x) 0 := by rw [duties_eq]; exact Finset.mem_singleton_self _
omit [FloatOps F] in
theorem duties_later (g : GSem nD τ sig) : ∀ r, 1 ≤ r → (Rd (F := F) m).duties g r = ∅ :=
  fun r hr => by dsimp only [Rd]; exact if_neg fun h => by omega
omit [FloatOps F] in
theorem amount_eq (u : Unit) : (Rd (F := F) m).amount (gc c x) 0 u = x.amt := by dsimp only [Rd]; rw [Cell.ofNum_num]
omit [FloatOps F] in
theorem expect_eq : (Rd (F := F) m).expect (gc c x) 0 = x.amt := by
  unfold Schedule.expect Schedule.amountOf; rw [duties_eq, Finset.sum_singleton, amount_eq]
omit [FloatOps F] in
theorem payload_eq (u : Unit) : (Rd (F := F) m).payload (gc c x) 0 u = pay m c x := by dsimp only [Rd]; rw [Cell.ofNum_num]
omit [FloatOps F] in
theorem rest_eq : bigSep ((Rd (F := F) m).duties (gc c x) 0 \ ∅) (fun u => (Rd (F := F) m).payload (gc c x) 0 u) = pay m c x := by
  rw [Finset.sdiff_empty, duties_eq, bigSep_singleton, payload_eq]

end Sched

/-! ## What is owed, and the levels -/

/-- The peer's cell a cell's transfer credits too. -/
def target (c : Dev nD) : Cell → Option (Dev nD × Cell)
  | .snd w k => some (oth k c, .rcv w k)
  | .fsd w k => some (sib c, .frc w k)
  | _ => none

/-- What device `c` owes for the transfer of a cell before it is issued. -/
def due (c : Dev nD) (x : Cell) : CellTallies nD τ sig Unit :=
  match target c x with
  | some (d, y) => tallyAt (gc d y) () y.amt
  | none => 0

def Cell.lev : Cell → ℕ
  | .rcv _ _ => 1
  | .frc _ _ => 2
  | _ => 0

def L (g : GSem nD τ sig) : Finset Unit := if g.1.2 = .tc then {()} else ∅
def lv (g : GSem nD τ sig) (_ : Unit) : ℕ := match g.2 with
  | .dma s => (Cell.ofNum s).lev
  | .reg _ => 0
theorem L_of_ne (g : GSem nD τ sig) (h : g.1.2 ≠ .tc) : L g = ∅ := if_neg h
theorem L_tc (c : Dev nD) (sm : SemLoc sig) : L ((c : Thread nD τ), sm) = {()} := if_pos rfl
theorem lv_gc (c : Dev nD) (x : Cell) : lv (gc c x) () = x.lev := by dsimp only [lv]; rw [Cell.ofNum_num]

/-! ## The run's steps -/

/-- The step of the body at which a cell's own transfer is issued (a receive cell's is not issued here). -/
def Cell.start : Cell → ℕ
  | .loc w => w.val
  | .snd w k => 4 + 3 * w.val + k.val
  | .fsd w k => 17 + 2 * (4 * k.val + w.val)
  | .rcv _ _ | .frc _ _ => 0
/-- Whether the cell's transfer is issued here. -/
def Cell.own : Cell → Bool
  | .rcv _ _ | .frc _ _ => false
  | _ => true
/-- The step at which the body waits for it. -/
def Cell.fin : Cell → ℕ
  | .loc w => 76 + w.val
  | .snd w k => 52 + 3 * w.val + k.val
  | .rcv w k => 16 + 2 * (4 * k.val + w.val)
  | .frc w k => 40 + 4 * k.val + w.val
  | .fsd w k => 64 + 4 * k.val + w.val

/-- Where a cell is before step `n`: 0 not issued, 1 under way, 2 waited for, 3 its payload handed on. -/
def Cell.at (n : ℕ) (x : Cell) : ℕ :=
  if x.own ∧ n ≤ x.start then 0
  else if n ≤ x.fin then 1
  else match x with
    | .rcv w k => if n ≤ (Cell.fsd w k).start then 2 else 3
    | _ => 2

/-- What device `c` owes before step `n`. -/
def owed (c : Dev nD) (n : ℕ) : CellTallies nD τ sig Unit := ∑ x : Cell, if Cell.at n x = 0 then due c x else 0

/-- What device `c` holds for a cell. -/
def res (c : Dev nD) (x : Cell) (s : ℕ) : sProp 𝕄 :=
  match s with
  | 0 => match x with
    | .loc w => iprop(dutyTok ER (gc c x) 0 () ∗ atPos ER (gc c x) 0 ∅ 0
        ∗ (∃ X, owns (c : Thread nD τ) (blk w c) fullShare X) ∗ owns (c : Thread nD τ) (inM w) pieceL (Vb m c w))
    | .snd w k => iprop(dutyTok ER (gc c x) 0 () ∗ atPos ER (gc c x) 0 ∅ 0 ∗ dutyTok ER (gc (oth k c) (.rcv w k)) 0 ()
        ∗ (∃ X, owns (oth k c : Thread nD τ) (reg w c) fullShare X) ∗ owns (c : Thread nD τ) (half w c) (piece k) (Vh m c w))
    | .fsd w k => iprop(dutyTok ER (gc c x) 0 () ∗ atPos ER (gc c x) 0 ∅ 0 ∗ dutyTok ER (gc (sib c) (.frc w k)) 0 ()
        ∗ (∃ X, owns (sib c : Thread nD τ) (reg w (oth k c)) fullShare X))
    | _ => iprop(emp)
  | 1 => iprop(atPos ER (gc c x) 0 ∅ 0 ∗ cred (tallyAt (gc c x) () x.amt))
  | 2 => iprop(atPos ER (gc c x) 1 ∅ 0 ∗ pay m c x)
  | _ => iprop(atPos ER (gc c x) 1 ∅ 0)

/-- What every device knows: the cells' invariants, that each has reached its round, and the levels. -/
def known (K : Dev nD × Cell → ℕ) : sProp 𝕄 :=
  iprop((bigSep Finset.univ fun p : Dev nD × Cell => cellInv ER (Rd m) (K p) (gc p.1 p.2))
    ∗ (bigSep Finset.univ fun p : Dev nD × Cell => reached ER (gc p.1 p.2) 0) ∗ levAts L lv)

instance known_persistent (K) : BI.Persistent (known (F := F) m K) := by unfold known; infer_instance

/-- Device `c` before step `n`. -/
def St (c : Dev nD) (n : ℕ) : sProp 𝕄 :=
  iprop((bigSep Finset.univ fun x : Cell => res m c x (Cell.at n x)) ∗ ∃ W, owes (c : Thread nD τ) (owed c n) W)

end Cert.Gather
-- ==== Proof.Steps.lean ====
/-
# The all-gather of the weights: its four kinds of step

The local copy, the send to another chip, the hand-over to the other device of the chip and the wait, each once
for every weight and chip, between the states before and after it.
-/
module

public import proofs.«01_k».proof.Proof.Proto

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The order of the steps -/

theorem fin_at (x : Cell) : Cell.at x.fin x = 1 ∧ Cell.at (x.fin + 1) x = 2 := by
  revert x; decide +kernel
theorem fin_ne (x y : Cell) (h : y ≠ x) : Cell.at (x.fin + 1) y = Cell.at x.fin y := by
  revert x y; decide +kernel
theorem start_at (x : Cell) (h : x.own = true) : Cell.at x.start x = 0 ∧ Cell.at (x.start + 1) x = 1 := by
  revert x; decide +kernel
theorem loc_ne (w : Fin 4) (y : Cell) (h : y ≠ .loc w) : Cell.at ((Cell.loc w).start + 1) y = Cell.at (Cell.loc w).start y := by
  revert w y; decide +kernel
theorem snd_ne (w : Fin 4) (k : Fin 3) (y : Cell) (h : y ≠ .snd w k) : Cell.at ((Cell.snd w k).start + 1) y = Cell.at (Cell.snd w k).start y := by
  revert w k y; decide +kernel
theorem fsd_ne (w : Fin 4) (k : Fin 3) (y : Cell) (h : y ≠ .fsd w k) (h' : y ≠ .rcv w k) :
    Cell.at ((Cell.fsd w k).start + 1) y = Cell.at (Cell.fsd w k).start y := by
  revert w k y; decide +kernel
theorem fsd_rcv (w : Fin 4) (k : Fin 3) : Cell.at (Cell.fsd w k).start (.rcv w k) = 2 ∧ Cell.at ((Cell.fsd w k).start + 1) (.rcv w k) = 3 := by
  revert w k; decide +kernel
/-- While a device waits it owes hand-overs only, and then for a cell below theirs. -/
theorem fin_owes (x y : Cell) (h : Cell.at x.fin y = 0) : x.lev < 2 ∧ ∃ w k, y = .fsd w k := by
  revert x y; decide +kernel

theorem owed_same (c : Dev nD) {n n' : ℕ} (h : ∀ y, Cell.at n' y = 0 ↔ Cell.at n y = 0) : owed c n' = owed c n := by
  unfold owed; exact Finset.sum_congr rfl fun y _ => by simp only [h y]

theorem owed_start (c : Dev nD) (x : Cell) {n n' : ℕ} (h0 : Cell.at n x = 0) (h1 : Cell.at n' x ≠ 0)
    (h : ∀ y, y ≠ x → (Cell.at n' y = 0 ↔ Cell.at n y = 0)) : owed c n = owed c n' + due c x := by
  unfold owed
  rw [← Finset.sum_erase_add _ _ (Finset.mem_univ x), ← Finset.sum_erase_add Finset.univ (fun y => if Cell.at n' y = 0 then due c y else 0) (Finset.mem_univ x),
    if_pos h0, if_neg h1, add_zero]
  congr 1
  exact Finset.sum_congr rfl fun y hy => by simp only [h y (Finset.ne_of_mem_erase hy)]

theorem owed_pos {c : Dev nD} {n : ℕ} {g : GSem nD τ sig} {u : Unit} (h : 0 < owed c n g u) :
    ∃ y d z, Cell.at n y = 0 ∧ target c y = some (d, z) ∧ g = gc d z := by
  unfold owed at h
  rw [Finset.sum_apply, Finsupp.finset_sum_apply] at h
  obtain ⟨y, -, hy⟩ := Finset.exists_ne_zero_of_sum_ne_zero h.ne'
  by_cases h0 : Cell.at n y = 0
  · rw [if_pos h0] at hy
    unfold due at hy
    cases ht : target c y with
    | none => rw [ht] at hy; exact absurd rfl hy
    | some p =>
      rw [ht] at hy
      refine ⟨y, p.1, p.2, h0, ht, ?_⟩
      by_contra hg
      rw [tallyAt_apply, if_neg (fun h' => hg h'.1)] at hy
      exact hy rfl
  · rw [if_neg h0] at hy; exact absurd rfl hy

omit [FloatOps F] in
theorem mayWait (c : Dev nD) (x : Cell) : (levAts L lv : sProp 𝕄) ⊢ MayWait (c : Thread nD τ) (.dma x.num) () (owed c x.fin) := by
  have key : ∀ (g : GSem nD τ sig) (u : Unit), 0 < owed c x.fin g u → ∃ d w k, g = gc d (.frc w k) ∧ x.lev < 2 := by
    intro g u hg
    obtain ⟨y, d, z, h0, ht, rfl⟩ := owed_pos hg
    obtain ⟨hx, w, k, rfl⟩ := fin_owes x y h0
    cases ht
    exact ⟨_, w, k, rfl, hx⟩
  refine MayOwe.of_cut (L := L) (lev := lv) x.lev (fun p hp => by rw [Finset.mem_singleton.mp hp, L_tc]; exact Finset.mem_singleton_self _) ?_
    (fun p hp => by rw [Finset.mem_singleton.mp hp]; exact (lv_gc c x).le) ?_
  · intro g u hg
    obtain ⟨d, w, k, rfl, -⟩ := key g u hg
    rw [L_tc]; exact Finset.mem_singleton_self _
  · intro g u hg
    obtain ⟨d, w, k, rfl, hx⟩ := key g u hg
    exact hx.trans_eq (lv_gc d (.frc w k)).symm

/-! ## What is known, cell by cell -/

omit [FloatOps F] in
theorem known_inv (K : Dev nD × Cell → ℕ) (c : Dev nD) (x : Cell) : known (F := F) m K ⊢ cellInv ER (Rd m) (K (c, x)) (gc c x) := by
  unfold known
  rw [bigSep_univ_at (fun p : Dev nD × Cell => cellInv ER (Rd m) (K p) (gc p.1 p.2)) (c, x)]
  iintro ⟨⟨H, -⟩, -⟩; iexact H
omit [FloatOps F] in
theorem known_reached (K : Dev nD × Cell → ℕ) (c : Dev nD) (x : Cell) : known (F := F) m K ⊢ reached ER (gc c x) 0 := by
  unfold known
  rw [bigSep_univ_at (fun p : Dev nD × Cell => reached ER (gc p.1 p.2) 0) (c, x)]
  iintro ⟨-, ⟨H, -⟩, -⟩; iexact H
omit [FloatOps F] in
theorem known_lev (K : Dev nD × Cell → ℕ) : known (F := F) m K ⊢ levAts L lv := by
  unfold known
  iintro ⟨-, -, H⟩; iexact H

omit [FloatOps F] in
/-- What a device holds for one cell, taken out of the state before a step and put back after it. -/
theorem st_turn (c : Dev nD) (x : Cell) {n n' a b : ℕ} (ha : Cell.at n x = a) (hb : Cell.at n' x = b)
    (h : ∀ y, y ≠ x → Cell.at n' y = Cell.at n y) :
    (bigSep Finset.univ fun y : Cell => res (F := F) m c y (Cell.at n y))
      ⊢ iprop(res m c x a ∗ (res m c x b -∗ bigSep Finset.univ fun y : Cell => res m c y (Cell.at n' y))) := by
  subst ha hb
  exact bigSep_univ_update (Φ := fun y => res m c y (Cell.at n y)) (Ψ := fun y => res m c y (Cell.at n' y)) x fun y hy => by rw [h y hy]

omit [FloatOps F] in
/-- The same for the hand-over, which takes what the receive left and starts the cell's own transfer. -/
theorem st_hand (c : Dev nD) (w : Fin 4) (j : Fin 3) :
    (bigSep Finset.univ fun y : Cell => res (F := F) m c y (Cell.at (Cell.fsd w j).start y))
      ⊢ iprop((res m c (.fsd w j) 0 ∗ res m c (.rcv w j) 2)
          ∗ ((res m c (.fsd w j) 1 ∗ res m c (.rcv w j) 3) -∗ bigSep Finset.univ fun y : Cell => res m c y (Cell.at ((Cell.fsd w j).start + 1) y))) := by
  have hne : Cell.rcv w j ≠ Cell.fsd w j := fun h => by cases h
  have h1 := start_at (.fsd w j) rfl
  have h2 := fsd_rcv w j
  have e (n a b : ℕ) (ha : Cell.at n (.fsd w j) = a) (hb : Cell.at n (.rcv w j) = b) :
      (bigSep Finset.univ fun y : Cell => res (F := F) m c y (Cell.at n y))
        = iprop(res m c (.fsd w j) a ∗ res m c (.rcv w j) b ∗ bigSep ((Finset.univ.erase (Cell.fsd w j)).erase (.rcv w j)) fun y => res m c y (Cell.at n y)) := by
    subst ha hb
    rw [bigSep_univ_at (fun y : Cell => res (F := F) m c y (Cell.at n y)) (.fsd w j),
      bigSep_erase (Finset.mem_erase.mpr ⟨hne, Finset.mem_univ _⟩)]
    rfl
  rw [e _ _ _ h1.1 h2.1, e _ _ _ h1.2 h2.2,
    bigSep_congr (s := (Finset.univ.erase (Cell.fsd w j)).erase (.rcv w j)) (Ψ := fun y => res (F := F) m c y (Cell.at ((Cell.fsd w j).start + 1) y))
      (fun y hy => by rw [fsd_ne w j y (Finset.ne_of_mem_erase (Finset.mem_of_mem_erase hy)) (Finset.ne_of_mem_erase hy)])]
  iintro ⟨Ha, Hb, Hr⟩
  isplitl [Ha Hb]
  · isplitl [Ha] <;> iassumption
  iintro ⟨Ha, Hb⟩
  isplitl [Ha]; · iexact Ha
  isplitl [Hb] <;> iassumption

theorem res_one (c : Dev nD) (x : Cell) : res (F := F) m c x 1 = iprop(atPos ER (gc c x) 0 ∅ 0 ∗ cred (tallyAt (gc c x) () x.amt)) := rfl
theorem res_two (c : Dev nD) (x : Cell) : res (F := F) m c x 2 = iprop(atPos ER (gc c x) 1 ∅ 0 ∗ pay m c x) := rfl
theorem res_three (c : Dev nD) (x : Cell) : res (F := F) m c x 3 = iprop(atPos ER (gc c x) 1 ∅ 0) := rfl
theorem res_loc (c : Dev nD) (w : Fin 4) : res (F := F) m c (.loc w) 0 = iprop(dutyTok ER (gc c (.loc w)) 0 () ∗ atPos ER (gc c (.loc w)) 0 ∅ 0
    ∗ (∃ X, owns (c : Thread nD τ) (blk w c) fullShare X) ∗ owns (c : Thread nD τ) (inM w) pieceL (Vb m c w)) := rfl
theorem res_snd (c : Dev nD) (w : Fin 4) (k : Fin 3) : res (F := F) m c (.snd w k) 0 = iprop(dutyTok ER (gc c (.snd w k)) 0 () ∗ atPos ER (gc c (.snd w k)) 0 ∅ 0
    ∗ dutyTok ER (gc (oth k c) (.rcv w k)) 0 ()
    ∗ (∃ X, owns (oth k c : Thread nD τ) (reg w c) fullShare X) ∗ owns (c : Thread nD τ) (half w c) (piece k) (Vh m c w)) := rfl
theorem res_fsd (c : Dev nD) (w : Fin 4) (k : Fin 3) : res (F := F) m c (.fsd w k) 0 = iprop(dutyTok ER (gc c (.fsd w k)) 0 () ∗ atPos ER (gc c (.fsd w k)) 0 ∅ 0
    ∗ dutyTok ER (gc (sib c) (.frc w k)) 0 ()
    ∗ (∃ X, owns (sib c : Thread nD τ) (reg w (oth k c)) fullShare X)) := rfl

/-! ## The steps -/

section Steps

variable (K : Dev nD × Cell → ℕ) (c : Dev nD)
variable {α : Type} {Q : α → sProp (MT nD τ sig Unit (Elt F) ℕ UU ℕ)} {k : PUnit → Prog (TpuEff nD τ sig (Elt F) Λ₀ .tc) α}

/-- A wait. -/
theorem step_wait (x : Cell) {n : ℕ} (hn : n = x.fin) {s : DmaSem sig} (hs : s = x.num)
    {sp sp' : Space} {sh sh' : Shape} {e e' : EltTy} {src : Memref sig (c : Thread nD τ).2.kind sp' sh' e'} {κ' : Kind} {dst : Memref sig κ' sp sh e}
    {hsrc : src.view.WordExact} {hdst : dst.view.WordExact} (hcr : dst.view.dmaCredit = x.amt)
    (h : iprop(known m K ∗ St m c (x.fin + 1)) ⊢ wp frame (wpE (defs₀ (F := F)) 𝒱₀ (c : Thread nD τ) none) Set.univ (k ⟨⟩) Q) :
    iprop(known m K ∗ St m c n)
      ⊢ wp frame (wpE (defs₀ (F := F)) 𝒱₀ (c : Thread nD τ) none) Set.univ (.op (.waitDma2 s src dst hsrc hdst) k) Q := by
  subst hn hs
  unfold St
  iintro ⟨#HK, Hres, %W, HO⟩
  ihave Hres := (st_turn m c x (fin_at x).1 (fin_at x).2 (fin_ne x)) $$ Hres
  rw [res_one, res_two]
  icases Hres with ⟨⟨Hat, Hcr⟩, Hback⟩
  iapply (Rounds.wp_wait_rest_token 𝒱₀ ER (Rd m) (c : Thread nD τ) none (κ := K (c, x))
      (wpE_waitDma2_eq 𝒱₀ (c : Thread nD τ) none Set.univ) (Set.mem_univ _) () (O := owed c x.fin) (W := W) (R := 0) (m := 0) (T := ∅)
      (by rw [Nat.zero_add, expect_eq, hcr])) $$ [Hcr HO Hat]
  · isplitr; · iapply (known_inv m K c x); iexact HK
    isplitl [Hcr]; · rw [hcr]; iexact Hcr
    isplitl [HO]; · iexact HO
    isplitr; · iapply (mayWait c x); iapply (known_lev m K); iexact HK
    iexact Hat
  iintro ⟨HO, Hat, -, Hpay⟩
  ihave Hpay := (Entails.of_eq (rest_eq m c x)) $$ Hpay
  iapply h
  unfold St
  isplitr; · iexact HK
  isplitr [HO]
  · iapply Hback
    isplitl [Hat] <;> iassumption
  · iexists _
    rw [owed_same c (n := x.fin) (n' := x.fin + 1) (fun y => by
      by_cases hy : y = x
      · subst hy; rw [(fin_at y).1, (fin_at y).2]; decide
      · rw [fin_ne x y hy])]
    iexact HO

omit [FloatOps F] in
/-- A view written in full and read again. -/
theorem owns_written (d : Thread nD τ) {sp : Space} {sh : Shape} {e : EltTy} (dst : Memref sig d.2.kind sp sh e)
    (fd : Buf (Elt F) (dst.view.loc d)) (X Y : sh.Idx → Elt F e) (hXY : X = Y) :
    (dst.view.loc d ↦[dst.view.set]{fullShare} (dst.view.write (Elt F) fd X Finset.univ) : sProp 𝕄) ⊢ owns d dst fullShare Y := by
  subst hXY
  unfold owns
  iintro H
  iexists (dst.view.write (Elt F) fd X Finset.univ)
  isplitr; · ipureintro; exact View.read_write_univ fd X
  iexact H

omit [FloatOps F] in
theorem owns_intro (d : Thread nD τ) {sp : Space} {sh : Shape} {e : EltTy} (mr : Memref sig d.2.kind sp sh e) (q : PosShare TreeShare)
    (f : Buf (Elt F) (mr.view.loc d)) (X : sh.Idx → Elt F e) (hX : mr.view.read (Elt F) f = X) :
    (mr.view.loc d ↦[mr.view.set]{q} f : sProp 𝕄) ⊢ owns d mr q X := by
  unfold owns
  iintro H
  iexists f
  isplitr; · ipureintro; exact hX
  iexact H

/-- The local copy of a block. -/
theorem step_local (w : Fin 4) {n : ℕ} (hn : n = (Cell.loc w).start) {s : DmaSem sig} (hs : s = (Cell.loc w).num)
    {off : Fin 2 → ℕ} (hoff : off = ![HB w * (c.val / 2), 0]) {inb : ∀ a, off a + (blkS w).size a ≤ (allS w).size a}
    {hsrc : (inM w).view.WordExact} {hdst : (outBl w off inb).view.WordExact} {hsem : DmaTarget.Typed .hbm (.dma s) (.here (outBl w off inb) : DmaTarget nD τ sig (c : Thread nD τ).2 .hbm (blkS w) .bf16)}
    (h : iprop(known m K ∗ St m c ((Cell.loc w).start + 1)) ⊢ wp frame (wpE (defs₀ (F := F)) 𝒱₀ (c : Thread nD τ) none) Set.univ (k ⟨⟩) Q) :
    iprop(known m K ∗ St m c n)
      ⊢ wp frame (wpE (defs₀ (F := F)) 𝒱₀ (c : Thread nD τ) none) Set.univ
          (.op (.enqueueDma (inM w) (.here (outBl w off inb)) (.dma s) hsrc hdst hsem) k) Q := by
  subst hn hs hoff
  unfold St
  iintro ⟨#HK, Hres, %W, HO⟩
  ihave Hres := (st_turn m c (.loc w) (start_at (.loc w) rfl).1 (start_at (.loc w) rfl).2 (loc_ne w)) $$ Hres
  rw [res_loc, res_one]; unfold owns
  icases Hres with ⟨⟨Htok, Hat, ⟨%X, %fd, %hfd, Hdst⟩, %fs, %hfs, Hsrc⟩, Hback⟩
  iapply (Rounds.wp_copy_pointsTo 𝒱₀ ER (Rd m) (c : Thread nD τ) none (κ := K (c, .loc w)) (r := 0) (d := ()) (fs := fs) (fd := fd) (q := pieceL)
      (duties_mem m c (.loc w)) () (Nb w) (credit_outBl w _ _) (amount_eq m c (.loc w) ())
      (by
        rw [payload_eq]
        exact BI.sep_mono (owns_written (c : Thread nD τ) (blk w c) fd _ _ hfs) (owns_intro (c : Thread nD τ) (inM w) pieceL fs _ hfs))) $$ [Htok Hsrc Hdst]
  · isplitr; · iapply (known_inv m K c (.loc w)); iexact HK
    isplitl [Hsrc]; · iexact Hsrc
    isplitl [Hdst]; · iexact Hdst
    isplitl [Htok]; · iexact Htok
    iapply (known_reached m K c (.loc w)); iexact HK
  iintro Hcr
  iapply h
  unfold St
  isplitr; · iexact HK
  isplitr [HO]
  · iapply Hback
    isplitl [Hat]; · iexact Hat
    iexact Hcr
  · iexists _
    rw [owed_start c (.loc w) (n := (Cell.loc w).start) (n' := (Cell.loc w).start + 1) (start_at (.loc w) rfl).1
      (by rw [(start_at (.loc w) rfl).2]; decide) (fun y hy => by rw [loc_ne w y hy]),
      show due c (.loc w) = 0 from rfl, add_zero]
    iexact HO

/-- The send of half a block to the device of the same side on another chip. -/
theorem step_send (w : Fin 4) (j : Fin 3) {n : ℕ} (hn : n = (Cell.snd w j).start) {d : Dev nD} (hd : d = oth j c)
    {s r : DmaSem sig} (hs : s = (Cell.snd w j).num) (hr : r = (Cell.rcv w j).num)
    {off off' : Fin 2 → ℕ} (hoff : off = ![H w * (c.val % 2), 0]) (hoff' : off' = ![H w * c.val, 0])
    {inb : ∀ a, off a + (halfS w).size a ≤ (blkS w).size a} {inb' : ∀ a, off' a + (halfS w).size a ≤ (allS w).size a}
    {hsc : (outSl w off' inb').view.ref.isScScratch = false}
    {hsrc : (inSl w off inb).view.WordExact} {hdst : (outSl w off' inb').view.WordExact}
    {hsem : DmaTarget.Typed .hbm (.dma r) (.remote (Dev.tc d : Thread nD τ) (outSl w off' inb') (.dma s) hsc : DmaTarget nD τ sig (c : Thread nD τ).2 .hbm (halfS w) .bf16)}
    (h : iprop(known m K ∗ St m c ((Cell.snd w j).start + 1)) ⊢ wp frame (wpE (defs₀ (F := F)) 𝒱₀ (c : Thread nD τ) none) Set.univ (k ⟨⟩) Q) :
    iprop(known m K ∗ St m c n)
      ⊢ wp frame (wpE (defs₀ (F := F)) 𝒱₀ (c : Thread nD τ) none) Set.univ
          (.op (.enqueueDma (inSl w off inb) (.remote (Dev.tc d : Thread nD τ) (outSl w off' inb') (.dma s) hsc) (.dma r) hsrc hdst hsem) k) Q := by
  subst hn hd hs hr hoff hoff'
  unfold St
  iintro ⟨#HK, Hres, %W, HO⟩
  ihave Hres := (st_turn m c (.snd w j) (start_at (.snd w j) rfl).1 (start_at (.snd w j) rfl).2 (snd_ne w j)) $$ Hres
  rw [res_snd, res_one]; unfold owns
  icases Hres with ⟨⟨Htok, Hat, Htok', ⟨%X, %fd, %hfd, Hdst⟩, %fs, %hfs, Hsrc⟩, Hback⟩
  iapply (Rounds.wp_send_pointsTo 𝒱₀ ER (Rd m) (c : Thread nD τ) none (c' := (oth j c : Thread nD τ)) (src := half w c) (dst := reg w c)
      (κ₁ := K (c, .snd w j)) (κ₂ := K (oth j c, .rcv w j)) (r₁ := 0) (r₂ := 0) (d₁ := ()) (d₂ := ()) (fs := fs) (fd := fd) (q := piece j)
      (duties_mem m c (.snd w j)) (duties_mem m (oth j c) (.rcv w j)) () () (Nh w) (credit_outSl w _ _)
      (amount_eq m c (.snd w j) ()) (amount_eq m (oth j c) (.rcv w j) ()) (owed c ((Cell.snd w j).start + 1))
      (owed_start c (.snd w j) (n := (Cell.snd w j).start) (n' := (Cell.snd w j).start + 1) (start_at (.snd w j) rfl).1
        (by rw [(start_at (.snd w j) rfl).2]; decide) (fun y hy => by rw [snd_ne w j y hy])) (W := W)
      (by rw [payload_eq]; exact owns_intro (c : Thread nD τ) (half w c) (piece j) fs _ hfs)
      (by
        rw [payload_eq]
        show _ ⊢ owns (oth j c : Thread nD τ) (reg w (oth j (oth j c))) fullShare (Vh m (oth j (oth j c)) w)
        rw [oth_oth]
        exact owns_written (oth j c : Thread nD τ) (reg w c) fd _ _ hfs)) $$ [Htok Htok' Hsrc Hdst HO]
  · isplitr; · iapply (known_inv m K c (.snd w j)); iexact HK
    isplitr; · iapply (known_inv m K (oth j c) (.rcv w j)); iexact HK
    isplitl [Hsrc]; · iexact Hsrc
    isplitl [Hdst]; · iexact Hdst
    isplitl [HO]; · iexact HO
    isplitl [Htok]; · iexact Htok
    isplitr; · iapply (known_reached m K c (.snd w j)); iexact HK
    isplitl [Htok']; · iexact Htok'
    iapply (known_reached m K (oth j c) (.rcv w j)); iexact HK
  iintro ⟨Hcr, HO⟩
  iapply h
  unfold St
  isplitr; · iexact HK
  isplitr [HO]
  · iapply Hback
    isplitl [Hat]; · iexact Hat
    iexact Hcr
  · iexists _; iexact HO

/-- The hand-over of a half received from another chip to the other device of this chip. -/
theorem step_hand (w : Fin 4) (j : Fin 3) {n : ℕ} (hn : n = (Cell.fsd w j).start) {d : Dev nD} (hd : d = sib c)
    {s r : DmaSem sig} (hs : s = (Cell.fsd w j).num) (hr : r = (Cell.frc w j).num)
    {off : Fin 2 → ℕ} (hoff : off = ![H w * (oth j c).val, 0])
    {inb inb' : ∀ a, off a + (halfS w).size a ≤ (allS w).size a}
    {hsc : (outSl w off inb').view.ref.isScScratch = false}
    {hsrc : (outSl w off inb).view.WordExact} {hdst : (outSl w off inb').view.WordExact}
    {hsem : DmaTarget.Typed .hbm (.dma r) (.remote (Dev.tc d : Thread nD τ) (outSl w off inb') (.dma s) hsc : DmaTarget nD τ sig (c : Thread nD τ).2 .hbm (halfS w) .bf16)}
    (h : iprop(known m K ∗ St m c ((Cell.fsd w j).start + 1)) ⊢ wp frame (wpE (defs₀ (F := F)) 𝒱₀ (c : Thread nD τ) none) Set.univ (k ⟨⟩) Q) :
    iprop(known m K ∗ St m c n)
      ⊢ wp frame (wpE (defs₀ (F := F)) 𝒱₀ (c : Thread nD τ) none) Set.univ
          (.op (.enqueueDma (outSl w off inb) (.remote (Dev.tc d : Thread nD τ) (outSl w off inb') (.dma s) hsc) (.dma r) hsrc hdst hsem) k) Q := by
  subst hn hd hs hr hoff
  unfold St
  iintro ⟨#HK, Hres, %W, HO⟩
  ihave Hres := (st_hand m c w j) $$ Hres
  rw [res_fsd, res_two, res_one, res_three]
  icases Hres with ⟨⟨⟨Htok, Hat, Htok', Hdst⟩, Hat', Hsrc⟩, Hback⟩
  ihave Hsrc := (Entails.of_eq (show pay m c (.rcv w j) = owns (c : Thread nD τ) (reg w (oth j c)) fullShare (Vh m (oth j c) w) from rfl)) $$ Hsrc
  unfold owns
  icases Hdst with ⟨%X, %fd, %hfd, Hdst⟩
  icases Hsrc with ⟨%fs, %hfs, Hsrc⟩
  iapply (Rounds.wp_send_pointsTo 𝒱₀ ER (Rd m) (c : Thread nD τ) none (c' := (sib c : Thread nD τ)) (src := reg w (oth j c)) (dst := reg w (oth j c))
      (κ₁ := K (c, .fsd w j)) (κ₂ := K (sib c, .frc w j)) (r₁ := 0) (r₂ := 0) (d₁ := ()) (d₂ := ()) (fs := fs) (fd := fd) (q := fullShare)
      (duties_mem m c (.fsd w j)) (duties_mem m (sib c) (.frc w j)) () () (Nh w) (credit_outSl w _ _)
      (amount_eq m c (.fsd w j) ()) (amount_eq m (sib c) (.frc w j) ()) (owed c ((Cell.fsd w j).start + 1))
      (owed_start c (.fsd w j) (n := (Cell.fsd w j).start) (n' := (Cell.fsd w j).start + 1) (start_at (.fsd w j) rfl).1
        (by rw [(start_at (.fsd w j) rfl).2]; decide) (fun y hy => by
          by_cases hy' : y = .rcv w j
          · subst hy'; rw [(fsd_rcv w j).1, (fsd_rcv w j).2]; decide
          · rw [fsd_ne w j y hy hy'])) (W := W)
      (by rw [payload_eq]; exact owns_intro (c : Thread nD τ) (reg w (oth j c)) fullShare fs _ hfs)
      (by
        rw [payload_eq]
        show _ ⊢ owns (sib c : Thread nD τ) (reg w (oth j (sib (sib c)))) fullShare (Vh m (oth j (sib (sib c))) w)
        rw [sib_sib]
        exact owns_written (sib c : Thread nD τ) (reg w (oth j c)) fd _ _ hfs)) $$ [Htok Htok' Hsrc Hdst HO]
  · isplitr; · iapply (known_inv m K c (.fsd w j)); iexact HK
    isplitr; · iapply (known_inv m K (sib c) (.frc w j)); iexact HK
    isplitl [Hsrc]; · iexact Hsrc
    isplitl [Hdst]; · iexact Hdst
    isplitl [HO]; · iexact HO
    isplitl [Htok]; · iexact Htok
    isplitr; · iapply (known_reached m K c (.fsd w j)); iexact HK
    isplitl [Htok']; · iexact Htok'
    iapply (known_reached m K (sib c) (.frc w j)); iexact HK
  iintro ⟨Hcr, HO⟩
  iapply h
  unfold St
  isplitr; · iexact HK
  isplitr [HO]
  · iapply Hback
    isplitr [Hat']
    · isplitl [Hat]; · iexact Hat
      iexact Hcr
    · iexact Hat'
  · iexists _; iexact HO

end Steps

end Cert.Gather
-- ==== Proof.Body.lean ====
/-
# The all-gather of the weights: the body

The kernel's body, step by step, at a symbolic device.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem sound_body (K : Dev nD × Cell → ℕ) (c : Dev nD) {Q : PUnit → sProp 𝕄}
    (h : iprop(known m K ∗ St m c 80) ⊢ Q ⟨⟩) :
    iprop(known m K ∗ St m c 0) ⊢ wp frame (wpE (defs₀ (F := F)) 𝒱₀ (c : Thread nD τ) none) Set.univ (bodyAt0 (F := F) t0_0) Q := by
  unfold bodyAt0
  rw [cc0_gather_weights_eq_skeleton]; unfold cc0_gather_weights_skel
  rw [k0_part1_eq_skeleton]; unfold k0_part1_skel
  simp only [Prog.lift, Prog.bind_op, Prog.bind_ret, Prog.pure_eq_ret, wp_deviceId]
  refine step_local m K c 0 rfl rfl (by clear h; revert c; decide +kernel) ?_
  refine step_local m K c 1 rfl rfl (by clear h; revert c; decide +kernel) ?_
  rw [k0_part2_eq_skeleton]; unfold k0_part2_skel
  simp only [Prog.lift, Prog.bind_op, Prog.bind_ret, Prog.pure_eq_ret, wp_deviceId]
  refine step_local m K c 2 rfl rfl (by clear h; revert c; decide +kernel) ?_
  refine step_local m K c 3 rfl rfl (by clear h; revert c; decide +kernel) ?_
  refine step_send m K c 0 0 rfl (by clear h; revert c; decide +kernel) rfl rfl (by clear h; revert c; decide +kernel) (by clear h; revert c; decide +kernel) ?_
  rw [k0_part3_eq_skeleton]; unfold k0_part3_skel
  simp only [Prog.lift, Prog.bind_op, Prog.bind_ret, Prog.pure_eq_ret, wp_deviceId]
  refine step_send m K c 0 1 rfl (by clear h; revert c; decide +kernel) rfl rfl (by clear h; revert c; decide +kernel) (by clear h; revert c; decide +kernel) ?_
  refine step_send m K c 0 2 rfl (by clear h; revert c; decide +kernel) rfl rfl (by clear h; revert c; decide +kernel) (by clear h; revert c; decide +kernel) ?_
  rw [k0_part4_eq_skeleton]; unfold k0_part4_skel
  simp only [Prog.lift, Prog.bind_op, Prog.bind_ret, Prog.pure_eq_ret, wp_deviceId]
  refine step_send m K c 1 0 rfl (by clear h; revert c; decide +kernel) rfl rfl (by clear h; revert c; decide +kernel) (by clear h; revert c; decide +kernel) ?_
  refine step_send m K c 1 1 rfl (by clear h; revert c; decide +kernel) rfl rfl (by clear h; revert c; decide +kernel) (by clear h; revert c; decide +kernel) ?_
  rw [k0_part5_eq_skeleton]; unfold k0_part5_skel
  simp only [Prog.lift, Prog.bind_op, Prog.bind_ret, Prog.pure_eq_ret, wp_deviceId]
  refine step_send m K c 1 2 rfl (by clear h; revert c; decide +kernel) rfl rfl (by clear h; revert c; decide +kernel) (by clear h; revert c; decide +kernel) ?_
  refine step_send m K c 2 0 rfl (by clear h; revert c; decide +kernel) rfl rfl (by clear h; revert c; decide +kernel) (by clear h; revert c; decide +kernel) ?_
  rw [k0_part6_eq_skeleton]; unfold k0_part6_skel
  simp only [Prog.lift, Prog.bind_op, Prog.bind_ret, Prog.pure_eq_ret, wp_deviceId]
  refine step_send m K c 2 1 rfl (by clear h; revert c; decide +kernel) rfl rfl (by clear h; revert c; decide +kernel) (by clear h; revert c; decide +kernel) ?_
  refine step_send m K c 2 2 rfl (by clear h; revert c; decide +kernel) rfl rfl (by clear h; revert c; decide +kernel) (by clear h; revert c; decide +kernel) ?_
  rw [k0_part7_eq_skeleton]; unfold k0_part7_skel
  simp only [Prog.lift, Prog.bind_op, Prog.bind_ret, Prog.pure_eq_ret, wp_deviceId]
  refine step_send m K c 3 0 rfl (by clear h; revert c; decide +kernel) rfl rfl (by clear h; revert c; decide +kernel) (by clear h; revert c; decide +kernel) ?_
  refine step_send m K c 3 1 rfl (by clear h; revert c; decide +kernel) rfl rfl (by clear h; revert c; decide +kernel) (by clear h; revert c; decide +kernel) ?_
  rw [k0_part8_eq_skeleton]; unfold k0_part8_skel
  simp only [Prog.lift, Prog.bind_op, Prog.bind_ret, Prog.pure_eq_ret, wp_deviceId]
  refine step_send m K c 3 2 rfl (by clear h; revert c; decide +kernel) rfl rfl (by clear h; revert c; decide +kernel) (by clear h; revert c; decide +kernel) ?_
  refine step_wait m K c (.rcv 0 0) rfl rfl (credit_outSl 0 _ _) ?_
  rw [k0_part9_eq_skeleton]; unfold k0_part9_skel
  simp only [Prog.lift, Prog.bind_op, Prog.bind_ret, Prog.pure_eq_ret, wp_deviceId]
  refine step_hand m K c 0 0 rfl (by clear h; revert c; decide +kernel) rfl rfl (by clear h; revert c; decide +kernel) ?_
  refine step_wait m K c (.rcv 1 0) rfl rfl (credit_outSl 1 _ _) ?_
  refine step_hand m K c 1 0 rfl (by clear h; revert c; decide +kernel) rfl rfl (by clear h; revert c; decide +kernel) ?_
  rw [k0_part10_eq_skeleton]; unfold k0_part10_skel
  simp only [Prog.lift, Prog.bind_op, Prog.bind_ret, Prog.pure_eq_ret, wp_deviceId]
  refine step_wait m K c (.rcv 2 0) rfl rfl (credit_outSl 2 _ _) ?_
  refine step_hand m K c 2 0 rfl (by clear h; revert c; decide +kernel) rfl rfl (by clear h; revert c; decide +kernel) ?_
  rw [k0_part11_eq_skeleton]; unfold k0_part11_skel
  simp only [Prog.lift, Prog.bind_op, Prog.bind_ret, Prog.pure_eq_ret, wp_deviceId]
  refine step_wait m K c (.rcv 3 0) rfl rfl (credit_outSl 3 _ _) ?_
  refine step_hand m K c 3 0 rfl (by clear h; revert c; decide +kernel) rfl rfl (by clear h; revert c; decide +kernel) ?_
  rw [k0_part12_eq_skeleton]; unfold k0_part12_skel
  simp only [Prog.lift, Prog.bind_op, Prog.bind_ret, Prog.pure_eq_ret, wp_deviceId]
  refine step_wait m K c (.rcv 0 1) rfl rfl (credit_outSl 0 _ _) ?_
  refine step_hand m K c 0 1 rfl (by clear h; revert c; decide +kernel) rfl rfl (by clear h; revert c; decide +kernel) ?_
  rw [k0_part13_eq_skeleton]; unfold k0_part13_skel
  simp only [Prog.lift, Prog.bind_op, Prog.bind_ret, Prog.pure_eq_ret, wp_deviceId]
  refine step_wait m K c (.rcv 1 1) rfl rfl (credit_outSl 1 _ _) ?_
  refine step_hand m K c 1 1 rfl (by clear h; revert c; decide +kernel) rfl rfl (by clear h; revert c; decide +kernel) ?_
  rw [k0_part14_eq_skeleton]; unfold k0_part14_skel
  simp only [Prog.lift, Prog.bind_op, Prog.bind_ret, Prog.pure_eq_ret, wp_deviceId]
  refine step_wait m K c (.rcv 2 1) rfl rfl (credit_outSl 2 _ _) ?_
  refine step_hand m K c 2 1 rfl (by clear h; revert c; decide +kernel) rfl rfl (by clear h; revert c; decide +kernel) ?_
  refine step_wait m K c (.rcv 3 1) rfl rfl (credit_outSl 3 _ _) ?_
  rw [k0_part15_eq_skeleton]; unfold k0_part15_skel
  simp only [Prog.lift, Prog.bind_op, Prog.bind_ret, Prog.pure_eq_ret, wp_deviceId]
  refine step_hand m K c 3 1 rfl (by clear h; revert c; decide +kernel) rfl rfl (by clear h; revert c; decide +kernel) ?_
  refine step_wait m K c (.rcv 0 2) rfl rfl (credit_outSl 0 _ _) ?_
  rw [k0_part16_eq_skeleton]; unfold k0_part16_skel
  simp only [Prog.lift, Prog.bind_op, Prog.bind_ret, Prog.pure_eq_ret, wp_deviceId]
  refine step_hand m K c 0 2 rfl (by clear h; revert c; decide +kernel) rfl rfl (by clear h; revert c; decide +kernel) ?_
  refine step_wait m K c (.rcv 1 2) rfl rfl (credit_outSl 1 _ _) ?_
  rw [k0_part17_eq_skeleton]; unfold k0_part17_skel
  simp only [Prog.lift, Prog.bind_op, Prog.bind_ret, Prog.pure_eq_ret, wp_deviceId]
  refine step_hand m K c 1 2 rfl (by clear h; revert c; decide +kernel) rfl rfl (by clear h; revert c; decide +kernel) ?_
  refine step_wait m K c (.rcv 2 2) rfl rfl (credit_outSl 2 _ _) ?_
  refine step_hand m K c 2 2 rfl (by clear h; revert c; decide +kernel) rfl rfl (by clear h; revert c; decide +kernel) ?_
  rw [k0_part18_eq_skeleton]; unfold k0_part18_skel
  simp only [Prog.lift, Prog.bind_op, Prog.bind_ret, Prog.pure_eq_ret, wp_deviceId]
  refine step_wait m K c (.rcv 3 2) rfl rfl (credit_outSl 3 _ _) ?_
  refine step_hand m K c 3 2 rfl (by clear h; revert c; decide +kernel) rfl rfl (by clear h; revert c; decide +kernel) ?_
  rw [k0_part19_eq_skeleton]; unfold k0_part19_skel
  simp only [Prog.lift, Prog.bind_op, Prog.bind_ret, Prog.pure_eq_ret, wp_deviceId]
  refine step_wait m K c (.frc 0 0) rfl rfl (credit_outSl 0 _ _) ?_
  refine step_wait m K c (.frc 1 0) rfl rfl (credit_outSl 1 _ _) ?_
  rw [k0_part20_eq_skeleton]; unfold k0_part20_skel
  simp only [Prog.lift, Prog.bind_op, Prog.bind_ret, Prog.pure_eq_ret, wp_deviceId]
  refine step_wait m K c (.frc 2 0) rfl rfl (credit_outSl 2 _ _) ?_
  refine step_wait m K c (.frc 3 0) rfl rfl (credit_outSl 3 _ _) ?_
  rw [k0_part21_eq_skeleton]; unfold k0_part21_skel
  simp only [Prog.lift, Prog.bind_op, Prog.bind_ret, Prog.pure_eq_ret, wp_deviceId]
  refine step_wait m K c (.frc 0 1) rfl rfl (credit_outSl 0 _ _) ?_
  rw [k0_part22_eq_skeleton]; unfold k0_part22_skel
  simp only [Prog.lift, Prog.bind_op, Prog.bind_ret, Prog.pure_eq_ret, wp_deviceId]
  refine step_wait m K c (.frc 1 1) rfl rfl (credit_outSl 1 _ _) ?_
  refine step_wait m K c (.frc 2 1) rfl rfl (credit_outSl 2 _ _) ?_
  rw [k0_part23_eq_skeleton]; unfold k0_part23_skel
  simp only [Prog.lift, Prog.bind_op, Prog.bind_ret, Prog.pure_eq_ret, wp_deviceId]
  refine step_wait m K c (.frc 3 1) rfl rfl (credit_outSl 3 _ _) ?_
  refine step_wait m K c (.frc 0 2) rfl rfl (credit_outSl 0 _ _) ?_
  rw [k0_part24_eq_skeleton]; unfold k0_part24_skel
  simp only [Prog.lift, Prog.bind_op, Prog.bind_ret, Prog.pure_eq_ret, wp_deviceId]
  refine step_wait m K c (.frc 1 2) rfl rfl (credit_outSl 1 _ _) ?_
  refine step_wait m K c (.frc 2 2) rfl rfl (credit_outSl 2 _ _) ?_
  rw [k0_part25_eq_skeleton]; unfold k0_part25_skel
  simp only [Prog.lift, Prog.bind_op, Prog.bind_ret, Prog.pure_eq_ret, wp_deviceId]
  refine step_wait m K c (.frc 3 2) rfl rfl (credit_outSl 3 _ _) ?_
  refine step_wait m K c (.snd 0 0) rfl rfl (credit_inSl 0 _ _) ?_
  refine step_wait m K c (.snd 0 1) rfl rfl (credit_inSl 0 _ _) ?_
  refine step_wait m K c (.snd 0 2) rfl rfl (credit_inSl 0 _ _) ?_
  rw [k0_part26_eq_skeleton]; unfold k0_part26_skel
  simp only [Prog.lift, Prog.bind_op, Prog.bind_ret, Prog.pure_eq_ret, wp_deviceId]
  refine step_wait m K c (.snd 1 0) rfl rfl (credit_inSl 1 _ _) ?_
  refine step_wait m K c (.snd 1 1) rfl rfl (credit_inSl 1 _ _) ?_
  refine step_wait m K c (.snd 1 2) rfl rfl (credit_inSl 1 _ _) ?_
  refine step_wait m K c (.snd 2 0) rfl rfl (credit_inSl 2 _ _) ?_
  refine step_wait m K c (.snd 2 1) rfl rfl (credit_inSl 2 _ _) ?_
  rw [k0_part27_eq_skeleton]; unfold k0_part27_skel
  simp only [Prog.lift, Prog.bind_op, Prog.bind_ret, Prog.pure_eq_ret, wp_deviceId]
  refine step_wait m K c (.snd 2 2) rfl rfl (credit_inSl 2 _ _) ?_
  refine step_wait m K c (.snd 3 0) rfl rfl (credit_inSl 3 _ _) ?_
  refine step_wait m K c (.snd 3 1) rfl rfl (credit_inSl 3 _ _) ?_
  refine step_wait m K c (.snd 3 2) rfl rfl (credit_inSl 3 _ _) ?_
  refine step_wait m K c (.fsd 0 0) rfl rfl (credit_outSl 0 _ _) ?_
  rw [k0_part28_eq_skeleton]; unfold k0_part28_skel
  simp only [Prog.lift, Prog.bind_op, Prog.bind_ret, Prog.pure_eq_ret, wp_deviceId]
  refine step_wait m K c (.fsd 1 0) rfl rfl (credit_outSl 1 _ _) ?_
  refine step_wait m K c (.fsd 2 0) rfl rfl (credit_outSl 2 _ _) ?_
  refine step_wait m K c (.fsd 3 0) rfl rfl (credit_outSl 3 _ _) ?_
  refine step_wait m K c (.fsd 0 1) rfl rfl (credit_outSl 0 _ _) ?_
  refine step_wait m K c (.fsd 1 1) rfl rfl (credit_outSl 1 _ _) ?_
  rw [k0_part29_eq_skeleton]; unfold k0_part29_skel
  simp only [Prog.lift, Prog.bind_op, Prog.bind_ret, Prog.pure_eq_ret, wp_deviceId]
  refine step_wait m K c (.fsd 2 1) rfl rfl (credit_outSl 2 _ _) ?_
  refine step_wait m K c (.fsd 3 1) rfl rfl (credit_outSl 3 _ _) ?_
  refine step_wait m K c (.fsd 0 2) rfl rfl (credit_outSl 0 _ _) ?_
  refine step_wait m K c (.fsd 1 2) rfl rfl (credit_outSl 1 _ _) ?_
  refine step_wait m K c (.fsd 2 2) rfl rfl (credit_outSl 2 _ _) ?_
  simp only [Prog.lift, Prog.bind_op, Prog.bind_ret, Prog.pure_eq_ret, wp_deviceId]
  refine step_wait m K c (.fsd 3 2) rfl rfl (credit_outSl 3 _ _) ?_
  refine step_wait m K c (.loc 0) rfl rfl (credit_outBl 0 _ _) ?_
  refine step_wait m K c (.loc 1) rfl rfl (credit_outBl 1 _ _) ?_
  refine step_wait m K c (.loc 2) rfl rfl (credit_outBl 2 _ _) ?_
  refine step_wait m K c (.loc 3) rfl rfl (credit_outBl 3 _ _) ?_
  rw [wp_ret]
  exact h.trans fupd_intro

end Cert.Gather
-- ==== Proof.Deal.lean ====
/-
# What the launch deals

The launch hands out all memory, all counters and all ghost state at once. Here they are cut into the pieces each
device starts from: of its own result a device keeps only the rows of its block; the rows another device's half goes
to are given to that device, and the rows the other device of the chip hands over to that one.
-/
module

public import proofs.«01_k».proof.Proof.Steps
public import Idealize.ShloMosaic.Lib.ViewIndex

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Products over the cells -/

/-- A cell is one of a local copy, or one of four kinds per weight and other chip. -/
def Cell.split : Fin 4 ⊕ (Fin 4 × Fin 3) ⊕ (Fin 4 × Fin 3) ⊕ (Fin 4 × Fin 3) ⊕ (Fin 4 × Fin 3) ≃ Cell where
  toFun
    | .inl w => .loc w
    | .inr (.inl p) => .snd p.1 p.2
    | .inr (.inr (.inl p)) => .rcv p.1 p.2
    | .inr (.inr (.inr (.inl p))) => .fsd p.1 p.2
    | .inr (.inr (.inr (.inr p))) => .frc p.1 p.2
  invFun
    | .loc w => .inl w
    | .snd w k => .inr (.inl (w, k))
    | .rcv w k => .inr (.inr (.inl (w, k)))
    | .fsd w k => .inr (.inr (.inr (.inl (w, k))))
    | .frc w k => .inr (.inr (.inr (.inr (w, k))))
  left_inv := by rintro (_ | _ | _ | _ | _) <;> rfl
  right_inv := by rintro (_ | _ | _ | _ | _) <;> rfl

omit [FloatOps F] in
theorem bigSep_cells (Φ : Cell → sProp 𝕄) : bigSep Finset.univ Φ
    = iprop((bigSep Finset.univ fun w => Φ (.loc w)) ∗ (bigSep Finset.univ fun p : Fin 4 × Fin 3 => Φ (.snd p.1 p.2))
        ∗ (bigSep Finset.univ fun p : Fin 4 × Fin 3 => Φ (.rcv p.1 p.2)) ∗ (bigSep Finset.univ fun p : Fin 4 × Fin 3 => Φ (.fsd p.1 p.2))
        ∗ (bigSep Finset.univ fun p : Fin 4 × Fin 3 => Φ (.frc p.1 p.2))) := by
  rw [bigSep_univ_equiv Cell.split, bigSep_univ_sum, bigSep_univ_sum, bigSep_univ_sum, bigSep_univ_sum]; rfl

def othE (k : Fin 3) : Dev nD ≃ Dev nD := ⟨oth k, oth k, oth_oth k, oth_oth k⟩
def sibE : Dev nD ≃ Dev nD := ⟨sib, sib, sib_sib, sib_sib⟩

omit [FloatOps F] in
/-- What every device has for every index, taken by another device. -/
theorem deal {I : Type} [Fintype I] (e : I → Dev nD ≃ Dev nD) (Φ : I → Dev nD → sProp 𝕄) :
    (bigSep Finset.univ fun c : Dev nD => bigSep Finset.univ fun p : I => Φ p c)
      ⊢ bigSep Finset.univ fun c : Dev nD => bigSep Finset.univ fun p : I => Φ p (e p c) := by
  rw [← bigSep_univ_prod (fun cp : Dev nD × I => Φ cp.2 cp.1), ← bigSep_univ_prod (fun cp : Dev nD × I => Φ cp.2 (e cp.2 cp.1)),
    bigSep_univ_equiv (⟨fun cp => (e cp.2 cp.1, cp.2), fun cp => ((e cp.2).symm cp.1, cp.2), fun cp => by simp, fun cp => by simp⟩ :
      Dev nD × I ≃ Dev nD × I) (fun cp : Dev nD × I => Φ cp.2 cp.1)]
  exact BI.Entails.refl _

/-! ## The memory of a device, cut -/

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A buffer cut into disjoint sets of its elements. -/
theorem cut_parts {ℓ : Loc nD τ sig} (f : Buf (Elt F) ℓ) {T : Type} [Fintype T] (K : T → Finset (Idx ℓ))
    (h : ∀ i j, i ≠ j → Disjoint (K i) (K j)) :
    (ℓ ↦{fullShare} f : sProp 𝕄) ⊢ bigSep Finset.univ fun i => ℓ ↦[K i]{fullShare} f := by
  classical
  rw [← pointsTo_biUnion Finset.univ K (fun i _ j _ => h i j)]
  refine (pointsTo_split_subset (Finset.subset_univ (Finset.univ.biUnion K))).1.trans ?_
  iintro ⟨H, -⟩; iexact H

/-- An input's block cut into the shares its four readers take. -/
theorem cut_in (c : Dev nD) (w : Fin 4) :
    ((inM w).view.loc (c : Thread nD τ) ↦{fullShare} m ((inM w).view.loc (c : Thread nD τ)) : sProp 𝕄)
      ⊢ iprop(owns (c : Thread nD τ) (inM w) pieceL (Vb m c w)
          ∗ bigSep Finset.univ fun k : Fin 3 => owns (c : Thread nD τ) (half w c) (piece k) (Vh m c w)) := by
  have hset : (inM w).view.set = Finset.univ := by fin_cases w <;> exact View.set_whole _
  rw [ShareLeaves.pointsTo_leaves Finset.univ (m ((inM w).view.loc (c : Thread nD τ))) 2 fullShare]
  rw [bigSep_fin3]
  refine BIBase.Entails.trans (Entails.of_eq (bigSep_fin4 _)) ?_
  have hh (k : Fin 3) : ((inM w).view.loc (c : Thread nD τ) ↦{piece k} m ((inM w).view.loc (c : Thread nD τ)) : sProp 𝕄)
      ⊢ owns (c : Thread nD τ) (half w c) (piece k) (Vh m c w) := by
    refine (pointsTo_split_subset (Finset.subset_univ (half w c).view.set)).1.trans ?_
    iintro ⟨H, -⟩
    iapply (owns_intro (c : Thread nD τ) (half w c) (piece k) (m ((inM w).view.loc (c : Thread nD τ))) (Vh m c w) rfl)
    iexact H
  have hl : ((inM w).view.loc (c : Thread nD τ) ↦{pieceL} m ((inM w).view.loc (c : Thread nD τ)) : sProp 𝕄)
      ⊢ owns (c : Thread nD τ) (inM w) pieceL (Vb m c w) := by
    refine Entails.trans (Entails.of_eq (by rw [hset])) (owns_intro (c : Thread nD τ) (inM w) pieceL (m ((inM w).view.loc (c : Thread nD τ))) (Vb m c w) rfl)
  iintro ⟨H0, H1, H2, H3⟩
  isplitl [H3]; · iapply hl; iexact H3
  isplitl [H0]; · iapply (hh 0); iexact H0
  isplitl [H1]; · iapply (hh 1); iexact H1
  iapply (hh 2); iexact H2

/-- The regions a result is cut into: the device's own block, and the six regions of the other chips. -/
def partOff (w : Fin 4) (c : Dev nD) : Unit ⊕ Fin 3 ⊕ Fin 3 → Fin 2 → ℕ
  | .inl _ => ![HB w * (c.val / 2), 0]
  | .inr (.inl k) => ![H w * (oth k c).val, 0]
  | .inr (.inr k) => ![H w * (oth k (sib c)).val, 0]
def partSize (w : Fin 4) : Unit ⊕ Fin 3 ⊕ Fin 3 → Fin 2 → ℕ
  | .inl _ => (blkS w).size
  | .inr _ => (halfS w).size
theorem part_inb (w : Fin 4) (c : Dev nD) : ∀ i a, partOff w c i a + partSize w i a ≤ (allS w).size a
  | .inl _ => blk_inb w c
  | .inr (.inl k) => reg_inb w (oth k c)
  | .inr (.inr k) => reg_inb w (oth k (sib c))
def part (w : Fin 4) (c : Dev nD) (i : Unit ⊕ Fin 3 ⊕ Fin 3) : Rect (allS w) := Rect.unit (s := allS w) (partOff w c i) (partSize w i) (part_inb w c i)

theorem part_disjoint (w : Fin 4) (c : Dev nD) (i j : Unit ⊕ Fin 3 ⊕ Fin 3) (h : i ≠ j) : Disjoint (part w c i).set (part w c j).set := by
  refine Rect.unit_disjoint (s := allS w) 0 ?_
  revert w c i j; decide +kernel

/-- A result cut into its regions. -/
theorem cut_out (c : Dev nD) (w : Fin 4) :
    ((outM w).view.loc (c : Thread nD τ) ↦{fullShare} m ((outM w).view.loc (c : Thread nD τ)) : sProp 𝕄)
      ⊢ iprop((∃ X, owns (c : Thread nD τ) (blk w c) fullShare X)
          ∗ (bigSep Finset.univ fun k : Fin 3 => iprop(∃ X, owns (c : Thread nD τ) (reg w (oth k c)) fullShare X))
          ∗ bigSep Finset.univ fun k : Fin 3 => iprop(∃ X, owns (c : Thread nD τ) (reg w (oth k (sib c))) fullShare X)) := by
  refine (cut_parts (m ((outM w).view.loc (c : Thread nD τ))) (fun i => ((outM w).view.slice (part w c i)).set)
    (fun i j h => View.disjoint_slice (part_disjoint w c i j h))).trans ?_
  rw [bigSep_univ_sum, bigSep_univ_sum]
  refine BI.sep_mono ?_ (BI.sep_mono (bigSep_mono fun k _ => ?_) (bigSep_mono fun k _ => ?_))
  · refine (BI.bigSep_elim (Finset.mem_univ ())).trans ?_
    show ((outM w).view.loc (c : Thread nD τ) ↦[(blk w c).view.set]{fullShare} m ((outM w).view.loc (c : Thread nD τ)) : sProp 𝕄) ⊢ _
    iintro H; iexists _
    iapply (owns_intro (c : Thread nD τ) (blk w c) fullShare (m ((outM w).view.loc (c : Thread nD τ))) _ rfl); iexact H
  · show ((outM w).view.loc (c : Thread nD τ) ↦[(reg w (oth k c)).view.set]{fullShare} m ((outM w).view.loc (c : Thread nD τ)) : sProp 𝕄) ⊢ _
    iintro H; iexists _
    iapply (owns_intro (c : Thread nD τ) (reg w (oth k c)) fullShare (m ((outM w).view.loc (c : Thread nD τ))) _ rfl); iexact H
  · show ((outM w).view.loc (c : Thread nD τ) ↦[(reg w (oth k (sib c))).view.set]{fullShare} m ((outM w).view.loc (c : Thread nD τ)) : sProp 𝕄) ⊢ _
    iintro H; iexists _
    iapply (owns_intro (c : Thread nD τ) (reg w (oth k (sib c))) fullShare (m ((outM w).view.loc (c : Thread nD τ))) _ rfl); iexact H

/-! ## The launch credit -/

theorem gc_eq_iff {c d : Dev nD} {x y : Cell} : Iff (gc c x = gc d y) (c = d ∧ x = y) := by
  constructor
  · intro h
    refine ⟨Fin.ext (congrArg (fun g : GSem nD τ sig => g.1.1.val) h), Cell.num_inj ?_⟩
    have := congrArg Prod.snd h
    exact SemLoc.dma.inj this
  · rintro ⟨rfl, rfl⟩; rfl

theorem gc_inj : Function.Injective (fun p : Dev nD × Cell => gc p.1 p.2) := fun p q h => Prod.ext (gc_eq_iff.mp h).1 (gc_eq_iff.mp h).2

theorem due_apply (d : Dev nD) (y : Cell) (c : Dev nD) (x : Cell) : due d y (gc c x) () = if target d y = some (c, x) then x.amt else 0 := by
  unfold due
  cases h : target d y with
  | none => rw [if_neg (by simp)]; rfl
  | some p =>
    obtain ⟨d', y'⟩ := p
    dsimp only
    rw [tallyAt_apply]
    by_cases e : c = d' ∧ x = y'
    · obtain ⟨rfl, rfl⟩ := e
      rw [if_pos ⟨rfl, rfl⟩, if_pos rfl]
    · rw [if_neg (fun h => e (gc_eq_iff.mp h.1)), if_neg (fun h => e ⟨(congrArg Prod.fst (Option.some.inj h)).symm, (congrArg Prod.snd (Option.some.inj h)).symm⟩)]

/-- A cell another device's transfer credits, and that transfer. -/
theorem owed_sum {c d₀ : Dev nD} {x y₀ : Cell} (h₀ : target d₀ y₀ = some (c, x)) (h1 : Cell.at 0 y₀ = 0)
    (h : ∀ d y, target d y = some (c, x) → d = d₀ ∧ y = y₀) : ∑ d : Dev nD, owed d 0 (gc c x) () = x.amt := by
  have e (d : Dev nD) : owed d 0 (gc c x) () = ∑ y : Cell, if Cell.at 0 y = 0 then due d y (gc c x) () else 0 := by
    unfold owed
    rw [Finset.sum_apply, Finsupp.finset_sum_apply]
    exact Finset.sum_congr rfl fun y _ => by split <;> rfl
  simp only [e]
  rw [Finset.sum_eq_single d₀, Finset.sum_eq_single y₀, if_pos h1, due_apply, if_pos h₀]
  · intro y _ hy; rw [due_apply, if_neg (fun ht => hy (h _ _ ht).2)]; exact ite_self 0
  · exact fun hn => absurd (Finset.mem_univ _) hn
  · intro d _ hd
    exact Finset.sum_eq_zero fun y _ => by rw [due_apply, if_neg (fun ht => hd (h _ _ ht).1)]; exact ite_self 0
  · exact fun hn => absurd (Finset.mem_univ _) hn

theorem owed_rcv (c : Dev nD) (w : Fin 4) (k : Fin 3) : ∑ d : Dev nD, owed d 0 (gc c (.rcv w k)) () = (Cell.rcv w k).amt := by
  refine owed_sum (d₀ := oth k c) (y₀ := .snd w k) (by show some (oth k (oth k c), Cell.rcv w k) = _; rw [oth_oth]) (by revert w k; decide) ?_
  intro d y h
  rcases y with w' | ⟨w', k'⟩ | ⟨w', k'⟩ | ⟨w', k'⟩ | ⟨w', k'⟩ <;> simp only [target, Option.some.injEq, Prod.mk.injEq, reduceCtorEq, _root_.and_false] at h
  obtain ⟨rfl, h⟩ := h
  cases h
  exact ⟨(oth_oth k d).symm, rfl⟩

theorem owed_frc (c : Dev nD) (w : Fin 4) (k : Fin 3) : ∑ d : Dev nD, owed d 0 (gc c (.frc w k)) () = (Cell.frc w k).amt := by
  refine owed_sum (d₀ := sib c) (y₀ := .fsd w k) (by show some (sib (sib c), Cell.frc w k) = _; rw [sib_sib]) (by revert w k; decide) ?_
  intro d y h
  rcases y with w' | ⟨w', k'⟩ | ⟨w', k'⟩ | ⟨w', k'⟩ | ⟨w', k'⟩ <;> simp only [target, Option.some.injEq, Prod.mk.injEq, reduceCtorEq, _root_.and_false] at h
  obtain ⟨rfl, h⟩ := h
  cases h
  exact ⟨(sib_sib d).symm, rfl⟩

omit [FloatOps F] in
/-- A device's launch credit: one for every half that others send it. -/
theorem creds (c : Dev nD) : (Pipeline.launchCred (fun d => owed d 0) c : sProp 𝕄)
    ⊢ iprop((bigSep Finset.univ fun p : Fin 4 × Fin 3 => cred (tallyAt (gc c (.rcv p.1 p.2)) () (Cell.rcv p.1 p.2).amt))
        ∗ bigSep Finset.univ fun p : Fin 4 × Fin 3 => cred (tallyAt (gc c (.frc p.1 p.2)) () (Cell.frc p.1 p.2).amt)) := by
  have one (x : Cell) (h : ∑ d : Dev nD, owed d 0 (gc c x) () = x.amt) :
      tallyOn (gc c x) (launchCredit (Pipeline.owing fun d => owed d 0) 0 (gc c x)) = (tallyAt (gc c x) () x.amt : CellTallies nD τ sig Unit) := by
    unfold tallyAt; refine congrArg _ (Finsupp.ext fun u => ?_); cases u
    rw [Pipeline.launchCredit_owing, Finsupp.single_eq_same, h]
  have hcells : (Pipeline.launchCred (fun d => owed d 0) c : sProp 𝕄)
      ⊢ bigSep Finset.univ fun x : Cell => cred (tallyOn (gc c x) (launchCredit (Pipeline.owing fun d => owed d 0) 0 (gc c x))) := by
    unfold Pipeline.launchCred
    have hsub : (Finset.univ.map ⟨fun x : Cell => (SemLoc.dma x.num : SemLoc sig), fun x y h => Cell.num_inj (SemLoc.dma.inj h)⟩) ⊆ Finset.univ := Finset.subset_univ _
    rw [bigSep_sdiff_split hsub, bigSep_map]
    exact sep_elim_left
  refine hcells.trans ?_
  rw [bigSep_cells]
  iintro ⟨-, -, H1, -, H2⟩
  isplitl [H1]
  · iapply (Entails.of_eq (bigSep_congr (s := Finset.univ) fun (p : Fin 4 × Fin 3) _ => congrArg cred (one _ (owed_rcv c p.1 p.2)))); iexact H1
  · iapply (Entails.of_eq (bigSep_congr (s := Finset.univ) fun (p : Fin 4 × Fin 3) _ => congrArg cred (one _ (owed_frc c p.1 p.2)))); iexact H2

/-! ## Everything dealt -/

/-- What device `c` starts from. -/
def start (c : Dev nD) : sProp 𝕄 := bigSep Finset.univ fun x : Cell => res m c x (Cell.at 0 x)

theorem at_zero : (∀ w, Cell.at 0 (.loc w) = 0) ∧ (∀ w k, Cell.at 0 (.snd w k) = 0) ∧ (∀ w k, Cell.at 0 (.rcv w k) = 1) ∧ (∀ w k, Cell.at 0 (.fsd w k) = 0)
    ∧ (∀ w k, Cell.at 0 (.frc w k) = 1) := by decide

/-- A device's memory, as the launch gives it. -/
def mem₀ (c : Dev nD) : sProp 𝕄 :=
  iprop((bigSep Finset.univ fun w : Fin 4 => (inM w).view.loc (c : Thread nD τ) ↦{fullShare} m ((inM w).view.loc (c : Thread nD τ)))
    ∗ bigSep Finset.univ fun w : Fin 4 => (outM w).view.loc (c : Thread nD τ) ↦{fullShare} m ((outM w).view.loc (c : Thread nD τ)))

/-- A device's memory cut. -/
theorem mem_cut (c : Dev nD) : mem₀ m c ⊢ iprop((bigSep Finset.univ fun w : Fin 4 => owns (c : Thread nD τ) (inM w) pieceL (Vb m c w))
      ∗ (bigSep Finset.univ fun p : Fin 4 × Fin 3 => owns (c : Thread nD τ) (half p.1 c) (piece p.2) (Vh m c p.1))
      ∗ (bigSep Finset.univ fun w : Fin 4 => iprop(∃ X, owns (c : Thread nD τ) (blk w c) fullShare X))
      ∗ (bigSep Finset.univ fun p : Fin 4 × Fin 3 => iprop(∃ X, owns (c : Thread nD τ) (reg p.1 (oth p.2 c)) fullShare X))
      ∗ bigSep Finset.univ fun p : Fin 4 × Fin 3 => iprop(∃ X, owns (c : Thread nD τ) (reg p.1 (oth p.2 (sib c))) fullShare X)) := by
  unfold mem₀
  have h1 := BIBase.Entails.trans (bigSep_mono (s := Finset.univ) fun (w : Fin 4) _ => cut_in m c w) (Entails.of_eq (bigSep_sep' _ _ _))
  have h2 := BIBase.Entails.trans (bigSep_mono (s := Finset.univ) fun (w : Fin 4) _ => cut_out m c w)
    (Entails.of_eq ((bigSep_sep' _ _ _).trans (congrArg _ (bigSep_sep' _ _ _))))
  simp only [bigSep_univ_prod]
  iintro ⟨Hi, Ho⟩
  ihave ⟨H1, H2⟩ := h1 $$ Hi
  ihave ⟨H3, H4, H5⟩ := h2 $$ Ho
  isplitl [H1]; · iexact H1
  isplitl [H2]; · iexact H2
  isplitl [H3]; · iexact H3
  isplitl [H4] <;> iassumption

/-- The regions each device's partners give it: each partner `oth k c`, the region device `c` fills there. -/
theorem deal_reg : (bigSep Finset.univ fun c : Dev nD => bigSep Finset.univ fun p : Fin 4 × Fin 3 =>
      iprop(∃ X, owns (c : Thread nD τ) (reg p.1 (oth p.2 c)) fullShare X) : sProp 𝕄)
    ⊢ bigSep Finset.univ fun c : Dev nD => bigSep Finset.univ fun p : Fin 4 × Fin 3 =>
      iprop(∃ X, owns (oth p.2 c : Thread nD τ) (reg p.1 c) fullShare X) :=
  BIBase.Entails.trans (deal (fun p : Fin 4 × Fin 3 => othE p.2) fun p c => iprop(∃ X, owns (c : Thread nD τ) (reg p.1 (oth p.2 c)) fullShare X))
    (bigSep_mono (s := Finset.univ) fun (c : Dev nD) _ => bigSep_mono (s := Finset.univ) fun (p : Fin 4 × Fin 3) _ =>
      Entails.of_eq (congrArg (fun d : Dev nD => (iprop(∃ X, owns (oth p.2 c : Thread nD τ) (reg p.1 d) fullShare X) : sProp 𝕄)) (oth_oth p.2 c)))

/-- The regions each device's sibling gives it. -/
theorem deal_reg' : (bigSep Finset.univ fun c : Dev nD => bigSep Finset.univ fun p : Fin 4 × Fin 3 =>
      iprop(∃ X, owns (c : Thread nD τ) (reg p.1 (oth p.2 (sib c))) fullShare X) : sProp 𝕄)
    ⊢ bigSep Finset.univ fun c : Dev nD => bigSep Finset.univ fun p : Fin 4 × Fin 3 =>
      iprop(∃ X, owns (sib c : Thread nD τ) (reg p.1 (oth p.2 c)) fullShare X) :=
  BIBase.Entails.trans (deal (fun _ : Fin 4 × Fin 3 => sibE) fun p c => iprop(∃ X, owns (c : Thread nD τ) (reg p.1 (oth p.2 (sib c))) fullShare X))
    (bigSep_mono (s := Finset.univ) fun (c : Dev nD) _ => bigSep_mono (s := Finset.univ) fun (p : Fin 4 × Fin 3) _ =>
      Entails.of_eq (congrArg (fun d : Dev nD => (iprop(∃ X, owns (sib c : Thread nD τ) (reg p.1 (oth p.2 d)) fullShare X) : sProp 𝕄)) (sib_sib c)))

/-- The launch's memory, tokens, positions and credit, as what the devices start from. -/
theorem dealt :
    iprop((bigSep Finset.univ fun c : Dev nD => mem₀ m c) ∗ (bigSep Finset.univ fun c : Dev nD => Pipeline.launchCred (fun d => owed d 0) c)
        ∗ (bigSep Finset.univ fun c : Dev nD => bigSep Finset.univ fun x : Cell => (atPos ER (gc c x) 0 ∅ 0 : sProp 𝕄))
        ∗ (bigSep Finset.univ fun c : Dev nD => bigSep Finset.univ fun x : Cell => (dutyTok ER (gc c x) 0 () : sProp 𝕄)))
      ⊢ bigSep Finset.univ fun c : Dev nD => start m c := by
  obtain ⟨a1, a2, a3, a4, a5⟩ := at_zero
  have e (c : Dev nD) : start m c = iprop((bigSep Finset.univ fun w => res m c (.loc w) 0) ∗ (bigSep Finset.univ fun p : Fin 4 × Fin 3 => res m c (.snd p.1 p.2) 0)
      ∗ (bigSep Finset.univ fun p : Fin 4 × Fin 3 => res m c (.rcv p.1 p.2) 1) ∗ (bigSep Finset.univ fun p : Fin 4 × Fin 3 => res m c (.fsd p.1 p.2) 0)
      ∗ bigSep Finset.univ fun p : Fin 4 × Fin 3 => res m c (.frc p.1 p.2) 1) := by
    unfold start; rw [bigSep_cells]; simp only [a1, a2, a3, a4, a5]
  simp only [e, res_loc, res_snd, res_fsd, res_one]
  have h1 := BIBase.Entails.trans (bigSep_mono (s := Finset.univ) fun (c : Dev nD) _ => mem_cut m c) (Entails.of_eq (bigSep_sep' _ _ _))
  have h2 := BIBase.Entails.trans (bigSep_mono (s := Finset.univ) fun (c : Dev nD) _ => creds (F := F) c) (Entails.of_eq (bigSep_sep' _ _ _))
  simp only [bigSep_sep'] at h1 h2
  simp only [bigSep_cells, bigSep_sep']
  iintro ⟨Hm, Hc, ⟨Al, As, Ar, Af, Ac⟩, Tl, Ts, Tr, Tf, Tc⟩
  ihave ⟨Hin, Hhalf, Hblk, Hreg, Hreg'⟩ := h1 $$ Hm
  ihave ⟨Hcr, Hcf⟩ := h2 $$ Hc
  isplitl [Tl Al Hblk Hin]
  · isplitl [Tl]; · iexact Tl
    isplitl [Al]; · iexact Al
    isplitl [Hblk] <;> iassumption
  isplitl [Ts As Tr Hreg Hhalf]
  · isplitl [Ts]; · iexact Ts
    isplitl [As]; · iexact As
    isplitl [Tr]
    · iapply (deal (fun p : Fin 4 × Fin 3 => othE p.2) fun p c => (dutyTok ER (gc c (.rcv p.1 p.2)) 0 () : sProp 𝕄)); iexact Tr
    isplitl [Hreg]
    · iapply (deal_reg (F := F)); iexact Hreg
    iexact Hhalf
  isplitl [Ar Hcr]; · isplitl [Ar] <;> iassumption
  isplitl [Tf Af Tc Hreg']
  · isplitl [Tf]; · iexact Tf
    isplitl [Af]; · iexact Af
    isplitl [Tc]
    · iapply (deal (fun _ : Fin 4 × Fin 3 => sibE) fun p c => (dutyTok ER (gc c (.frc p.1 p.2)) 0 () : sProp 𝕄)); iexact Tc
    iapply (deal_reg' (F := F)); iexact Hreg'
  isplitl [Ac] <;> iassumption

end Cert.Gather
-- ==== Proof.Launch.lean ====
/-
# The all-gather of the weights: the launch's parts

The invariants of the cells allocated for all devices at once, what a device leaves behind, and the body's obligation.
-/
module

public import proofs.«01_k».proof.Proof.Body
public import proofs.«01_k».proof.Proof.Deal
public import proofs.«01_k».proof.Proof.Gen.KernelIdeal.Launch
public import Idealize.ShloMosaic.Lib.Rounds.Family
public import Idealize.ShloMosaic.Lib.Quiescent

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device leaves -/

/-- The contents a device ends with: its own weights back, and every row of the result. -/
def result (c : Dev nD) : sProp 𝕄 :=
  iprop((bigSep Finset.univ fun w => pay m c (.loc w)) ∗ (bigSep Finset.univ fun p : Fin 4 × Fin 3 => pay m c (.fsd p.1 p.2))
    ∗ bigSep Finset.univ fun p : Fin 4 × Fin 3 => pay m c (.frc p.1 p.2))

/-- The counters of a device's cells, at zero. -/
def zeros (c : Dev nD) : sProp 𝕄 := bigSep Finset.univ fun x : Cell => semVal (gc c x) 0

def fst (c : Dev nD) : sProp 𝕄 := iprop((∃ K, known m K) ∗ start m c)
def lst (c : Dev nD) : sProp 𝕄 := iprop(zeros c ∗ result m c)

def dats (_ : Fin 1) (c : Dev nD) : Dat τ (Elt F) Unit ℕ UU ℕ cfg0 c where
  A w := w.elim0
  after w _ := w.elim0
  Φ t := match t with
    | ⟨0, _⟩ => fst m c
    | ⟨_ + 1, _⟩ => lst m c
  q w := w.elim0
  owed t := match t with
    | ⟨0, _⟩ => owed c 0
    | ⟨_ + 1, _⟩ => 0

theorem at_last : (∀ w, Cell.at 80 (.loc w) = 2) ∧ (∀ w k, Cell.at 80 (.snd w k) = 2) ∧ (∀ w k, Cell.at 80 (.rcv w k) = 3) ∧ (∀ w k, Cell.at 80 (.fsd w k) = 2)
    ∧ (∀ w k, Cell.at 80 (.frc w k) = 2) := by decide +kernel
theorem at_last_ne (x : Cell) : Cell.at 80 x ≠ 0 := by revert x; decide +kernel

theorem owed_last (c : Dev nD) : owed c 80 = 0 := by
  unfold owed
  exact Finset.sum_eq_zero fun x _ => if_neg (at_last_ne x)

/-- After the last step every cell is at its end. -/
theorem ended (c : Dev nD) : (bigSep Finset.univ fun x : Cell => res m c x (Cell.at 80 x))
    ⊢ iprop((bigSep Finset.univ fun x : Cell => (atPos ER (gc c x) 1 ∅ 0 : sProp 𝕄)) ∗ result m c) := by
  obtain ⟨a1, a2, a3, a4, a5⟩ := at_last
  unfold result
  simp only [bigSep_cells, a1, a2, a3, a4, a5, res_two, res_three, bigSep_sep']
  iintro ⟨⟨Al, Pl⟩, ⟨As, -⟩, Ar, ⟨Af, Pf⟩, Ac, Pc⟩
  isplitl [Al As Ar Af Ac]
  · isplitl [Al]; · iexact Al
    isplitl [As]; · iexact As
    isplitl [Ar]; · iexact Ar
    isplitl [Af] <;> iassumption
  isplitl [Pl]; · iexact Pl
  isplitl [Pf] <;> iassumption

/-- The counters come back at zero. -/
theorem closed (K : Dev nD × Cell → ℕ) (c : Dev nD) :
    iprop(known m K ∗ bigSep Finset.univ fun x : Cell => (atPos ER (gc c x) 1 ∅ 0 : sProp 𝕄)) ⊢ (|={Set.univ}=> zeros c : sProp 𝕄) := by
  refine BIBase.Entails.trans ?_ (cells_close ER (Rd m) Finset.univ (gc c) (fun x => K (c, x)) (fun _ _ => Set.mem_univ _) (fun _ _ h => h) (fun _ => 1)
    fun x _ => duties_later m (gc c x))
  iintro ⟨#HK, HA⟩
  rw [bigSep_sep']
  isplitr
  · iapply (BI.bigSep_intro_persistent (S := Finset.univ) fun (x : Cell) _ => known_inv m K c x); iexact HK
  iexact HA

/-! ## The body's obligation -/

/-- From the state after the last step to what the body owes. -/
theorem last_step (K : Dev nD × Cell → ℕ) (c : Dev nD) (Ψ : Fin cfg0.W → sProp (MT nD τ sig Unit (Elt F) ℕ UU ℕ)) :
    iprop(known m K ∗ St m c 80) ⊢ (|={Set.univ}=> iprop(lst m c ∗ (dats m 0 c).owesAt () t0_0.succ
      ∗ bigSep Finset.univ Ψ) : sProp 𝕄) := by
  unfold St lst Dat.owesAt Pipeline.owesWithin
  rw [show (dats m 0 c).owed t0_0.succ = 0 from rfl, owed_last]
  iintro ⟨#HK, Hr, %W, HO⟩
  ihave ⟨HA, HP⟩ := (ended m c) $$ Hr
  imod (closed m K c) $$ [HA] with HZ
  · isplitr; · iexact HK
    iexact HA
  imodintro
  isplitl [HZ HP]; · isplitl [HZ] <;> iassumption
  isplitl [HO]
  · iexists W
    isplitr; · ipureintro; exact fun _ _ => Or.inl trivial
    iexact HO
  rw [show (Finset.univ : Finset (Fin cfg0.W)) = ∅ from rfl, BI.bigSep_empty]
  iempintro

theorem body_obligation (c : Dev nD) : BodyObligation (dats (F := F) m 0 c) (defs₀ (F := F)) 𝒱₀ () Set.univ := fun t => by
  rw [fin_N0 t]
  show iprop(fst m c ∗ (dats m 0 c).owesAt () t0_0.castSucc ∗ bigSep Finset.univ fun w : Fin cfg0.W => _) ⊢ _
  unfold Dat.owesAt Pipeline.owesWithin fst start
  iintro ⟨⟨⟨%K, #HK⟩, Hs⟩, ⟨%W, -, HO⟩, -⟩
  iapply (wp_fupd frame (wpE (defs₀ (F := F)) 𝒱₀ (c : Thread nD τ) none) Set.univ)
  iapply (sound_body m K c (last_step m K c _))
  isplitr; · iexact HK
  unfold St
  isplitl [Hs]; · iexact Hs
  iexists W; iexact HO

/-! ## The ghost state -/

def cells : Finset (GSem nD τ sig) := Finset.univ.map ⟨fun p : Dev nD × Cell => gc p.1 p.2, gc_inj⟩
def toks : Finset (GSem nD τ sig × ℕ × Unit) :=
  Finset.univ.map ⟨fun p : Dev nD × Cell => (gc p.1 p.2, 0, ()), fun _ _ h => gc_inj (congrArg Prod.fst h)⟩

theorem fund_cells : BI.own (ER (initOf cells toks)) ⊢ (|==> iprop(
      (bigSep Finset.univ fun p : Dev nD × Cell => roundState ER (Rd m) (gc p.1 p.2) 0)
        ∗ (bigSep Finset.univ fun p : Dev nD × Cell => reached ER (gc p.1 p.2) 0)
        ∗ (bigSep Finset.univ fun c : Dev nD => bigSep Finset.univ fun x : Cell => atPos ER (gc c x) 0 ∅ 0)
        ∗ bigSep Finset.univ fun c : Dev nD => bigSep Finset.univ fun x : Cell => dutyTok ER (gc c x) 0 ()) : sProp 𝕄) := by
  have hX (Φ : GSem nD τ sig → sProp 𝕄) : bigSep cells Φ = bigSep Finset.univ fun p : Dev nD × Cell => Φ (gc p.1 p.2) := by
    unfold cells; rw [bigSep_map]; rfl
  have hT : bigSep toks (fun x => (dutyTok ER x.1 x.2.1 x.2.2 : sProp 𝕄)) = bigSep Finset.univ fun c : Dev nD => bigSep Finset.univ fun x : Cell => dutyTok ER (gc c x) 0 () := by
    unfold toks; rw [bigSep_map, bigSep_univ_prod]; rfl
  iintro HX
  imod (Rounds.fund ER (Rd m) cells toks) $$ HX with ⟨Hst, Hr, Hat, Htok⟩
  imodintro
  isplitl [Hst]; · iapply (Entails.of_eq (hX fun g => roundState ER (Rd m) g 0)); iexact Hst
  isplitl [Hr]; · iapply (Entails.of_eq (hX fun g => reached ER g 0)); iexact Hr
  isplitl [Hat]; · iapply (Entails.of_eq ((hX fun g => atPos ER g 0 ∅ 0).trans (bigSep_univ_prod _))); iexact Hat
  iapply (Entails.of_eq hT); iexact Htok

/-- The cells' invariants, and with them what every device knows and starts from. -/
theorem opened :
    iprop((bigSep Finset.univ fun c : Dev nD => mem₀ m c) ∗ (bigSep Finset.univ fun c : Dev nD => Pipeline.launchCred (fun d => owed d 0) c)
        ∗ (bigSep Finset.univ fun c : Dev nD => (zeros c : sProp 𝕄)) ∗ levAts L lv ∗ BI.own (ER (initOf cells toks)))
      ⊢ (|={Set.univ}=> bigSep Finset.univ fun c : Dev nD => fst m c : sProp 𝕄) := by
  iintro ⟨Hm, Hc, Hz, #Hl, HX⟩
  imod (fund_cells m) $$ HX with ⟨Hst, #Hr, Hat, Htok⟩
  imod (show iprop((bigSep Finset.univ fun c : Dev nD => (zeros c : sProp 𝕄)) ∗ bigSep Finset.univ fun p : Dev nD × Cell => roundState ER (Rd m) (gc p.1 p.2) 0)
      ⊢ (|={Set.univ}=> bigSep Finset.univ fun p : Dev nD × Cell => iprop(∃ κ : ℕ, cellInv ER (Rd m) κ (gc p.1 p.2)) : sProp 𝕄) from by
        unfold zeros
        rw [← bigSep_univ_prod (fun p : Dev nD × Cell => (semVal (gc p.1 p.2) 0 : sProp 𝕄)), ← bigSep_sep']
        exact (bigSep_mono fun p _ => (Rounds.body_intro ER (Rd m) (gc p.1 p.2)).trans inv_alloc).trans (bigSep_fupd _ _)) $$ [Hz Hst] with Hinv
  · isplitl [Hz] <;> iassumption
  ihave HK := (BI.bigSep_exists_pi Finset.univ (fun (p : Dev nD × Cell) (κ : ℕ) => (cellInv ER (Rd m) κ (gc p.1 p.2) : sProp 𝕄))) $$ Hinv
  icases HK with ⟨%K, #HI⟩
  imodintro
  unfold fst
  rw [bigSep_sep']
  isplitr
  · iapply (BI.bigSep_intro_persistent (R := known m K) (S := Finset.univ) fun (c : Dev nD) _ => (show known m K ⊢ iprop(∃ K, known m K) from by iintro H; iexists K; iexact H))
    unfold known
    isplitr; · iexact HI
    isplitr; · iexact Hr
    iexact Hl
  iapply (dealt m)
  isplitl [Hm]; · iexact Hm
  isplitl [Hc]; · iexact Hc
  isplitl [Hat] <;> iassumption

end Cert.Gather
-- ==== Proof.Run.lean ====
/-
# The all-gather of the weights: the run

Every device's memory, counters and ghost state put together at the launch and dealt anew, each device's call of the
kernel, and what the final memories hold.
-/
module

public import proofs.«01_k».proof.Proof.Launch
public import proofs.«01_k».proof.Proof.Gen.KernelIdeal.Frame
public import Idealize.ShloMosaic.Adequacy
public import Idealize.ShloMosaic.Init

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (g : Dev nD → PrngReg) (m : (ℓ : Loc nD τ sig) → Buf (Elt F) ℓ)

/-! ## The launch -/

def osem (x : Cell) : SemLoc sig := .dma x.num
theorem ownSemFacts : Pipeline.OwnSemFacts cfg0.spec osem :=
  ⟨by decide, fun x y h => Cell.num_inj (SemLoc.dma.inj h), fun _ w => w.elim0⟩

theorem zeros_eq (c : Dev nD) : (zeros c : sProp 𝕄) = Pipeline.ownSems0 osem c := rfl

abbrev idle (c : Dev nD) : sProp 𝕄 := Pipeline.idleSems0 cfgs cellOf_inj (0 : Fin 1) ownSemFacts c

theorem no_windows (Ψ : Fin cfg0.W → sProp (MT nD τ sig Unit (Elt F) ℕ UU ℕ)) : bigSep Finset.univ Ψ = BI.emp := by
  rw [show (Finset.univ : Finset (Fin cfg0.W)) = ∅ from rfl, BI.bigSep_empty]

theorem no_tables (Ψ : Fin (Pipeline.Prefetch.none (sig := sig)).K → sProp (MT nD τ sig Unit (Elt F) ℕ UU ℕ)) : bigSep Finset.univ Ψ = BI.emp := by
  rw [show (Finset.univ : Finset (Fin (Pipeline.Prefetch.none (sig := sig)).K)) = ∅ from rfl, BI.bigSep_empty]

theorem sems_split (c : Dev nD) : (scopedSems0 (c : Thread nD τ) : sProp 𝕄) = iprop((BI.emp ∗ zeros c) ∗ idle c) := by
  rw [Pipeline.scopedSems0_split cfgs cellOf_inj (0 : Fin 1) winFacts0.to₀ ownSemFacts c]
  rw [show (Pipeline.cellsSems0 cfgs (0 : Fin 1) c : sProp 𝕄) = BI.emp from no_windows _]; rfl

theorem mem₀_intro (c : Dev nD) : (unscopedBufs c fun b => m ((c : Thread nD τ).loc b) : sProp 𝕄) ⊢ mem₀ m c := by
  rw [Pipeline.unscopedBufs_split cfgs (0 : Fin 1) winFacts0.arr_unscoped winFacts0.arr_inj c]
  rw [show (Pipeline.unscopedRest (cfgs 0).spec c fun b => m ((c : Thread nD τ).loc b) : sProp 𝕄) = _ from unscopedRest0_eq c _]
  unfold mem₀
  rw [bigSep_fin4, bigSep_fin4]
  iintro ⟨-, H0, H1, H2, H3, H4, H5, H6, H7⟩
  isplitl [H0 H1 H2 H3]
  · isplitl [H0]; · iexact H0
    isplitl [H1]; · iexact H1
    isplitl [H2] <;> iassumption
  isplitl [H4]; · iexact H4
  isplitl [H5]; · iexact H5
  isplitl [H6] <;> iassumption

/-- What a device holds before @main, -/
def before (c : Dev nD) : sProp 𝕄 :=
  iprop(scopedBufs (c : Thread nD τ) ∗ idle c ∗ owes (c : Thread nD τ) (owed c 0) ∅ ∗ levAts L lv ∗ fst m c)
/-- and after it. -/
def after (c : Dev nD) : sProp 𝕄 := iprop(result m c ∗ scopedSems0 (c : Thread nD τ))

theorem core (c : Dev nD) :
    coreInit (Ix := Unit) (Name := ℕ) (U := UU) (Lvl := ℕ) (Pipeline.owing fun d => owed d 0) 0 (⟨m, fun _ => 0, g⟩ : MemSt nD τ sig (Elt F)) (c : Thread nD τ)
      ⊢ iprop(iprop(scopedBufs (c : Thread nD τ) ∗ idle c ∗ owes (c : Thread nD τ) (owed c 0) ∅)
        ∗ mem₀ m c ∗ Pipeline.launchCred (fun d => owed d 0) c ∗ zeros c ∗ levels0 c) := by
  refine (Pipeline.coreInit_boundary_owing (fun d => owed d 0) m g c).trans ?_
  unfold boundary
  rw [sems_split]
  iintro ⟨⟨Hsc, ⟨⟨-, Hz⟩, Hi⟩, -⟩, Hm, -, HO, Hl, -, Hc⟩
  isplitl [Hsc Hi HO]
  · isplitl [Hsc]; · iexact Hsc
    isplitl [Hi] <;> iassumption
  isplitl [Hm]; · iapply (mem₀_intro m c); iexact Hm
  isplitl [Hc]; · iexact Hc
  isplitl [Hz] <;> iassumption

/-- The levels, assigned once for the machine. -/
theorem levels_dealt : (bigSep Finset.univ fun c : Dev nD => levels0 (Ix := Unit) (Val := Elt F) (Name := ℕ) (U := UU) (Lvl := ℕ) (τ := τ) (sig := sig) c)
    ⊢ (|==> levAts L lv : sProp 𝕄) := by
  refine BIBase.Entails.trans (bigSep_mono fun c _ => lev_assign_cells (c : Thread nD τ) L lv) ?_
  refine BIBase.Entails.trans (BI.bigSep_bupd _ _) (BI.bupd_mono ?_)
  rw [show (levAts L lv : sProp 𝕄) = bigSep Finset.univ fun t : Thread nD τ => coreLevAts t L lv from
    bigSep_univ_prod fun x : GSem nD τ sig => bigSep (L x) fun i => levAt x i (lv x i), bigSep_threads (fun t : Thread nD τ => coreLevAts t L lv), bigSep_sep']
  rw [show (bigSep Finset.univ fun d : Dev nD => bigSep (Finset.univ.erase Proc.tc) fun p => (coreLevAts ((d, p) : Thread nD τ) L lv : sProp 𝕄)) = BI.emp from by
    rw [bigSep_congr (Ψ := fun _ : Dev nD => (BI.emp : sProp 𝕄)) fun d _ =>
      (bigSep_congr (Ψ := fun _ : Proc τ => (BI.emp : sProp 𝕄)) fun p hp => by
        unfold coreLevAts
        rw [bigSep_congr (Ψ := fun _ : SemLoc sig => (BI.emp : sProp 𝕄)) fun sm _ => by
          rw [L_of_ne (((d, p) : Thread nD τ), sm) (Finset.ne_of_mem_erase hp), BI.bigSep_empty], BI.bigSep_emp_const]).trans (BI.bigSep_emp_const _), BI.bigSep_emp_const]]
  refine BIBase.Entails.trans (Q := bigSep Finset.univ fun c : Dev nD => (coreLevAts (c : Thread nD τ) L lv : sProp 𝕄)) ?_ Laws.sep_emp.2
  exact sep_elim_right

def u₀ : UU := (initOf cells toks, initOf cells toks)

theorem launched :
    iprop((bigSep Finset.univ fun c : Dev nD =>
        coreInit (Ix := Unit) (Name := ℕ) (U := UU) (Lvl := ℕ) (Pipeline.owing fun d => owed d 0) 0 (⟨m, fun _ => 0, g⟩ : MemSt nD τ sig (Elt F)) (c : Thread nD τ)) ∗ ownU u₀)
      ⊢ (|={Set.univ}=> bigSep Finset.univ fun c : Dev nD => before m c : sProp 𝕄) := by
  have hc := BIBase.Entails.trans (bigSep_mono (s := Finset.univ) fun (c : Dev nD) _ => core g m c) (Entails.of_eq (bigSep_sep' _ _ _))
  simp only [bigSep_sep'] at hc
  unfold before u₀
  simp only [bigSep_sep']
  iintro ⟨H, Hu⟩
  ihave ⟨⟨Hsc, Hi, HO⟩, Hm, Hc, Hz, Hl⟩ := hc $$ H
  ihave ⟨-, HX⟩ := (ownU_pair _ _) $$ Hu
  imod (levels_dealt (F := F)) $$ Hl with #Hla
  imod (opened m) $$ [Hm Hc Hz HX] with Hf
  · isplitl [Hm]; · iexact Hm
    isplitl [Hc]; · iexact Hc
    isplitl [Hz]; · iexact Hz
    isplitr; · iexact Hla
    iexact HX
  imodintro
  isplitl [Hsc]; · iexact Hsc
  isplitl [Hi]; · iexact Hi
  isplitl [HO]; · iexact HO
  isplitr; · iapply (BI.bigSep_intro_persistent (S := Finset.univ) fun (c : Dev nD) _ => (BI.Entails.refl (levAts L lv : sProp 𝕄))); iexact Hla
  iexact Hf

/-! ## A device's run of @main -/

theorem bufs_split (c : Dev nD) : (scopedBufs (c : Thread nD τ) : sProp 𝕄) = iprop(Dat.staging (cfgs 0) c ∗ BI.emp) := by
  rw [Pipeline.scopedBufs_split cfgs (0 : Fin 1) winFacts0.stage_scoped winFacts0.stage_inj stage_whole0 c]
  exact congrArg _ (scopedRest0_eq c)

theorem enter (c : Dev nD) (q : Fin Pipeline.Prefetch.none.K → PosShare TreeShare) (V : Pipeline.Prefetch.none.Contents (Elt F)) :
    iprop(fst m c ∗ Pipeline.prefHeld Pipeline.Prefetch.none c q V ∗ BI.emp) ⊢ (dats m 0 c).Φ 0 := by
  rw [show (dats m 0 c).Φ 0 = fst m c from rfl]
  iintro ⟨H, -⟩
  iexact H

theorem leave (c : Dev nD) : iprop((dats m 0 c).Φ (Fin.last cfg0.N) ∗ Pipeline.cellsSems0 cfgs (0 : Fin 1) c ∗ Dat.staging (cfgs 0) c ∗ idle c)
    ⊢ iprop(result m c ∗ scopedSems0 (c : Thread nD τ) ∗ scopedBufs (c : Thread nD τ)) := by
  rw [sems_split, bufs_split, show (dats m 0 c).Φ (Fin.last cfg0.N) = lst m c from rfl]
  unfold lst
  iintro ⟨⟨Hz, Hr⟩, -, Hs, Hi⟩
  isplitl [Hr]; · iexact Hr
  isplitl [Hz Hi]
  · isplitl [Hz]
    · isplitr; · iempintro
      iexact Hz
    iexact Hi
  isplitl [Hs]; · iexact Hs
  iempintro

theorem call (c : Dev nD) (Q : PUnit → sProp 𝕄) :
    iprop(Pipeline.EntryPre cfgs (dats m) () EP (fun _ => 0) (0 : Fin 1) c ∗ fst m c ∗ idle c ∗ scopedBufs (c : Thread nD τ))
      ⊢ iprop(((Pipeline.EntryPost cfgs (dats m) () (0 : Fin 1) c ∗ result m c ∗ scopedSems0 (c : Thread nD τ) ∗ scopedBufs (c : Thread nD τ))
          -∗ wp frame (wpE (defs (F := F)) (Variants.lift 𝒱₀) (c : Thread nD τ) none) Set.univ (.ret ⟨⟩) Q)
        -∗ wp frame (wpE (defs (F := F)) (Variants.lift 𝒱₀) (c : Thread nD τ) none) Set.univ (main (F := F) c) Q) := by
  have h := Pipeline.wp_customCall_entry_frame (fun p => (cfgs p).toPCfg (Val := Elt F)) (fun p => (cfgs p).toPCfg_adm) (dats m) () EP (fun _ => 0) cellOf_inj (0 : Fin 1) defs₀ 𝒱₀
      (fun k => k.elim0) c Set.univ (fun _ _ => Set.mem_univ _) (body_obligation m c).loose (fun w => w.elim0) none (fun u h => nomatch h)
      (X := fst m c) (Y := result m c) (R := BI.emp) (I := idle c)
      (Entails.of_eq (bufs_split c)) (enter m c _ _) (leave m c)
      (k := fun _ => .ret ⟨⟩) (Q := Q)
  refine BIBase.Entails.trans ?_ h
  iintro ⟨He, Hf, Hi, Hs⟩
  isplitl [He]; · iexact He
  isplitr
  · unfold Pipeline.prefHeld
    iapply (Entails.of_eq (no_tables _).symm); iempintro
  isplitl [Hf]; · iexact Hf
  isplitl [Hi] <;> iassumption

theorem device (c : Dev nD) :
    before m c ⊢ wp frame (wpE (defs (F := F)) (Variants.lift 𝒱₀) (c : Thread nD τ) none) Set.univ (main (F := F) c)
      (fun _ => post (liftTc (after m) BI.emp) (c : Thread nD τ)) := by
  have h₁ : ((dats m 0 c).arrays fun x => (dats m 0 c).arrAt x 0 : sProp 𝕄) = BI.emp := no_windows _
  have h₂ : (Pipeline.PerCore.cellsWaits (fun _ => cfgs) (dats m) () 0 c : sProp 𝕄) = BI.emp := no_windows _
  have h₃ : (Pipeline.PerCore.cellsInit (fun _ => cfgs) (dats m) EP (fun _ => 0) 0 c : sProp 𝕄) = BI.emp := no_windows _
  have h₄ : (Pipeline.PerCore.toksInit (fun _ => cfgs) EP 0 c : sProp 𝕄) = BI.emp := no_windows _
  unfold before
  iintro ⟨Hsc, Hi, HO, -, Hf⟩
  iapply (call m c fun _ => post (liftTc (after m) BI.emp) (c : Thread nD τ)) $$ [Hsc Hi HO Hf]
  · isplitl [HO]
    · unfold Pipeline.EntryPre Pipeline.PerCore.EntryPre Dat.owesAt Pipeline.owesWithin
      isplitr; · iapply (Entails.of_eq h₁.symm); iempintro
      isplitl [HO]
      · iexists ∅; isplitr; · ipureintro; rw [Finset.coe_empty]; exact Set.empty_subset _
        iexact HO
      isplitr; · iapply (Entails.of_eq h₂.symm); iempintro
      isplitr; · iapply (Entails.of_eq h₃.symm); iempintro
      iapply (Entails.of_eq h₄.symm); iempintro
    isplitl [Hf]; · iexact Hf
    isplitl [Hi] <;> iassumption
  iintro ⟨Hpost, HY, Hss, -⟩
  rw [wp_ret]; imodintro
  unfold post Pipeline.EntryPost Pipeline.PerCore.EntryPost Dat.owesAt Pipeline.owesWithin; simp only [liftTc_tc, after]
  icases Hpost with ⟨-, %W, -, HW⟩
  isplitr [HW]
  · isplitl [HY] <;> iassumption
  iexists W; iexact HW

/-! ## What the final memory holds -/

/-- Device `c`'s arguments as they were, and every row of its results. -/
def QC (c : Dev nD) (M : (ℓ : Loc nD τ sig) → Buf (Elt F) ℓ) : Prop := ∀ w : Fin 4,
  (inM w).view.read (Elt F) (M ((inM w).view.loc (c : Thread nD τ))) = Vb m c w
    ∧ (blk w c).view.read (Elt F) (M ((blk w c).view.loc (c : Thread nD τ))) = Vb m c w
    ∧ (∀ k, (reg w (oth k c)).view.read (Elt F) (M ((reg w (oth k c)).view.loc (c : Thread nD τ))) = Vh m (oth k c) w)
    ∧ ∀ k, (reg w (oth k (sib c))).view.read (Elt F) (M ((reg w (oth k (sib c))).view.loc (c : Thread nD τ))) = Vh m (oth k (sib c)) w

/-- Contents owned are in the memory. -/
theorem owned_read (c : Dev nD) {sp : Space} {sh : Shape} {e : EltTy} (M : Memref sig .tc sp sh e) (q : PosShare TreeShare) (X : sh.Idx → Elt F e) (s' : Phys nD τ sig (Elt F)) :
    iprop(owns (c : Thread nD τ) M q X ∗ SI s') ⊢ (⌜M.view.read (Elt F) (s'.mem.mem (M.view.loc (c : Thread nD τ))) = X⌝ : sProp 𝕄) := by
  unfold owns
  iintro ⟨⟨%f, %hf, H⟩, HSI⟩
  icombine HSI H gives %h
  ipureintro
  rw [← hf]
  exact View.read_congr h

theorem owned_read_all {I : Type} [Fintype I] [DecidableEq I] (c : Dev nD) {Φ : I → sProp (MT nD τ sig Unit (Elt F) ℕ UU ℕ)} {P : I → Prop} (s' : Phys nD τ sig (Elt F))
    (h : ∀ i, iprop(Φ i ∗ SI s') ⊢ (⌜P i⌝ : sProp 𝕄)) : iprop(bigSep Finset.univ Φ ∗ SI s') ⊢ (<pers> ⌜∀ i, P i⌝ : sProp 𝕄) :=
  (((forall_intro fun i => BIBase.Entails.trans (sep_mono_left (BI.bigSep_elim (Finset.mem_univ i))) (h i)).trans pure_forall.2)).trans Laws.persistently_pure.2

theorem result_read (c : Dev nD) (s' : Phys nD τ sig (Elt F)) : iprop(result m c ∗ SI s') ⊢ (<pers> ⌜QC m c s'.mem.mem⌝ : sProp 𝕄) := by
  refine BIBase.Entails.trans ?_ Laws.persistently_pure.2
  unfold result
  iintro ⟨⟨Hl, Hf, Hc⟩, HSI⟩
  ihave %hl := (owned_read_all c s' (Φ := fun w => pay m c (.loc w)) (P := fun w => (inM w).view.read (Elt F) (s'.mem.mem ((inM w).view.loc (c : Thread nD τ))) = Vb m c w
      ∧ (blk w c).view.read (Elt F) (s'.mem.mem ((blk w c).view.loc (c : Thread nD τ))) = Vb m c w) fun w => by
    unfold pay
    iintro ⟨⟨H1, H2⟩, HSI⟩
    ihave %h1 := ((owned_read c _ _ _ s').trans Laws.persistently_pure.2) $$ [H1 HSI]
    · isplitl [H1] <;> iassumption
    ihave %h2 := ((owned_read c _ _ _ s').trans Laws.persistently_pure.2) $$ [H2 HSI]
    · isplitl [H2] <;> iassumption
    ipureintro; exact ⟨h2, h1⟩) $$ [Hl HSI]
  · isplitl [Hl] <;> iassumption
  ihave %hf := (owned_read_all c s' fun p : Fin 4 × Fin 3 => owned_read c (reg p.1 (oth p.2 c)) fullShare (Vh m (oth p.2 c) p.1) s') $$ [Hf HSI]
  · isplitl [Hf]; · iexact Hf
    iexact HSI
  ihave %hc := (owned_read_all c s' fun p : Fin 4 × Fin 3 => owned_read c (reg p.1 (oth p.2 (sib c))) fullShare (Vh m (oth p.2 (sib c)) p.1) s') $$ [Hc HSI]
  · isplitl [Hc]; · iexact Hc
    iexact HSI
  ipureintro
  exact fun w => ⟨(hl w).1, (hl w).2, fun k => hf (w, k), fun k => hc (w, k)⟩

/-- For any float values, from any memory with zero counters: every weakly fair execution of @main terminates, with the
    devices' results gathered, their arguments unchanged and every semaphore counter at zero. -/
theorem run_main : θ_run (defs (F := F)) (onTc (τ := τ) (main (F := F))) ⟨m, fun _ => 0, g⟩ (fun r => (∀ c, QC m c r.2.mem) ∧ r.2.sem = fun _ => 0) := by
  refine (θ_run (defs (F := F)) _ _).mono (Q := fun r => (∀ c : Dev nD, QC m c r.2.mem ∧ ∀ sm : SemLoc sig, sm.isScoped .tc = true → r.2.sem ((c : Thread nD τ), sm) = 0)
      ∧ ∀ x : GSem nD τ sig, x.1.2 ≠ .tc → r.2.sem x = 0)
    (fun r hr => ⟨fun c => (hr.1 c).1, sem_eq_zero_of_scoped (by decide) (sems_of_reads (fun c => (hr.1 c).2) hr.2)⟩) (adequate_tpu (defs (F := F)) _ _ _
    (reflect_intro_fupd_tc_sems (X := Unit) (Variants.lift 𝒱₀) (Pipeline.owing fun d => owed d 0) 0 (noBookings fun _ => le_rfl) (Pipeline.owing_of_ne _) u₀
      (fun _ => before m) (fun _ => after m) (fun _ => iprop(emp)) Set.univ ?_ (fun _ c => device m c) fun _ => ?_))
  · iintro H
    imod (launched g m) $$ H with H
    imodintro
    iexists ()
    isplitl [H]; · iexact H
    iempintro
  · have hcore (c : Dev nD) (s' : Phys nD τ sig (Elt F)) : iprop(after m c ∗ SI s') ⊢ |={Set.univ}=>
        iprop(⌜QC m c s'.mem.mem ∧ ∀ sm : SemLoc sig, sm.isScoped .tc = true → s'.mem.sem ((c : Thread nD τ), sm) = 0⌝ ∗ SI s') := by
      unfold after
      iintro ⟨⟨Hr, Hs⟩, HSI⟩
      ihave %hz := (tcScoped_read_pers c s') $$ [Hs HSI]
      · isplitl [Hs] <;> iassumption
      ihave %hq := (result_read m c s') $$ [Hr HSI]
      · isplitl [Hr] <;> iassumption
      imodintro
      isplitr; · ipureintro; exact ⟨hq, hz⟩
      iexact HSI
    iintro ⟨H, -, Hsc⟩ %s' HSI
    ihave %hsc := (scSems_read_zero m g s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.Gather
-- ==== Proof.Value.lean ====
/-
# The all-gather of the weights: its value

Where every device's block of a weight is its chip's block of one whole weight, what each device gathers is that
whole weight: a row of it lies in one of the eight regions, and the region holds the half block that the device it
is named after sent.
-/
module

public import proofs.«01_k».proof.Proof.Run
public import Idealize.ShloMosaic.Lib.Pipeline.ValueKit.Geometry

@[expose] public section

noncomputable section

namespace Cert.Gather

open Cert.KernelIdeal Cert.KernelIdeal.Gen

open Idealize.ShloMosaic
open Idealize.ShloMosaic.TcCoe

variable {F : FTy → Type} [FloatOps F]

variable (m : (ℓ : Loc nD τ sig) → Buf (Elt F) ℓ)

/-- The devices reached: the chip's own two, and one or the other of a device's chip on each other chip. -/
theorem reached (c d : Dev nD) : d.val / 2 = c.val / 2 ∨ (∃ k, d = oth k c) ∨ ∃ k, d = oth k (sib c) := by revert c d; decide

/-- The position `x` of a rectangle that starts at row `o` and keeps every column. -/
theorem row_emb {R n : ℕ} (o : ℕ) (inb : ∀ a, (![o, 0] : Fin 2 → ℕ) a + (![n, 2048] : Fin 2 → ℕ) a ≤ (⟨2, ![R, 2048]⟩ : Shape).size a)
    (x : (⟨2, ![n, 2048]⟩ : Shape).Idx) (y : (⟨2, ![R, 2048]⟩ : Shape).Idx) (h₀ : (y 0).val = o + (x 0).val) (h₁ : (y 1).val = (x 1).val) :
    (Rect.unit (s := ⟨2, ![R, 2048]⟩) ![o, 0] ![n, 2048] inb).emb x = y := by
  funext a
  refine Fin.ext ?_
  rw [ValueKit.rect_emb_unit_val]
  revert a
  refine Fin.forall_fin_two.2 ⟨?_, ?_⟩
  · exact h₀.symm
  · show 0 + _ = _
    rw [Nat.zero_add]; exact h₁.symm

/-- The blocks the devices hold are the whole weight's. -/
def Blocks (w : Fin 4) (V : (allS w).Idx → Elt F .bf16) : Prop :=
  ∀ (d : Dev nD) (x : (blkS w).Idx) (y : (allS w).Idx), (y 0).val = HB w * (d.val / 2) + (x 0).val → (y 1).val = (x 1).val → Vb m d w x = V y

variable {m}

theorem half_of_blocks {w : Fin 4} {V : (allS w).Idx → Elt F .bf16} (h : Blocks m w V) (d : Dev nD) (x : (halfS w).Idx) (y : (allS w).Idx)
    (h₀ : (y 0).val = H w * d.val + (x 0).val) (h₁ : (y 1).val = (x 1).val) : Vh m d w x = V y := by
  have hx : (x 0).val < H w := (x 0).isLt
  have hd : H w * d.val = 2 * H w * (d.val / 2) + H w * (d.val % 2) := by
    conv_lhs => rw [← Nat.div_add_mod d.val 2]
    rw [Nat.mul_add]; congr 1; rw [← Nat.mul_assoc, Nat.mul_comm (H w) 2]
  have hm : H w * (d.val % 2) ≤ H w := by
    have : d.val % 2 ≤ 1 := by omega
    calc H w * (d.val % 2) ≤ H w * 1 := Nat.mul_le_mul_left _ this
      _ = H w := Nat.mul_one _
  have hb : H w * (d.val % 2) + (x 0).val < HB w := by rw [HB_eq]; omega
  let z : (blkS w).Idx := Fin.cons ⟨H w * (d.val % 2) + (x 0).val, hb⟩ (Fin.cons ⟨(x 1).val, (x 1).isLt⟩ finZeroElim)
  have hz : (Rect.unit (s := blkS w) ![H w * (d.val % 2), 0] (halfS w).size (half_inb w d)).emb x = z := row_emb _ _ x z rfl rfl
  have he : Vh m d w x = Vb m d w ((Rect.unit (s := blkS w) ![H w * (d.val % 2), 0] (halfS w).size (half_inb w d)).emb x) := rfl
  rw [he, hz]
  refine h d z y ?_ h₁
  show (y 0).val = HB w * (d.val / 2) + (H w * (d.val % 2) + (x 0).val)
  rw [h₀, hd, HB_eq]; omega

/-- What a device gathers is the whole weight. -/
theorem gathered {c : Dev nD} {M : (ℓ : Loc nD τ sig) → Buf (Elt F) ℓ} (hQ : QC m c M) {w : Fin 4} {V : (allS w).Idx → Elt F .bf16} (h : Blocks m w V) :
    (outM w).view.read (Elt F) (M ((outM w).view.loc (c : Thread nD τ))) = V := by
  obtain ⟨-, hb, hf, hc⟩ := hQ w
  have hreg (d : Dev nD) (hd : (reg w d).view.read (Elt F) (M ((reg w d).view.loc (c : Thread nD τ))) = Vh m d w) (y : (allS w).Idx)
      (hy : (y 0).val / H w = d.val) : (outM w).view.read (Elt F) (M ((outM w).view.loc (c : Thread nD τ))) y = V y := by
    let x : (halfS w).Idx := Fin.cons ⟨(y 0).val % H w, Nat.mod_lt _ (H_pos w)⟩ (Fin.cons ⟨(y 1).val, (y 1).isLt⟩ finZeroElim)
    have h₀ : (y 0).val = H w * d.val + (x 0).val := by rw [← hy]; exact (Nat.div_add_mod _ _).symm
    have he := row_emb (H w * d.val) (reg_inb w d) x y h₀ rfl
    rw [← half_of_blocks h d x y h₀ rfl, ← hd, ← he]
    rfl
  funext y
  have hy : (y 0).val / H w < 8 := Nat.div_lt_of_lt_mul (by have := (y 0).isLt; rw [← Nat.mul_comm, ← HA_eq]; exact this)
  rcases reached c ⟨(y 0).val / H w, hy⟩ with hd | ⟨k, hd⟩ | ⟨k, hd⟩
  · have h2 : (y 0).val / HB w = c.val / 2 := by
      rw [HB_eq, Nat.mul_comm, ← Nat.div_div_eq_div_mul]; exact hd
    have hp : 0 < HB w := by rw [HB_eq]; have := H_pos w; omega
    let x : (blkS w).Idx := Fin.cons ⟨(y 0).val % HB w, Nat.mod_lt _ hp⟩ (Fin.cons ⟨(y 1).val, (y 1).isLt⟩ finZeroElim)
    have h₀ : (y 0).val = HB w * (c.val / 2) + (x 0).val := by rw [← h2]; exact (Nat.div_add_mod _ _).symm
    have he := row_emb (HB w * (c.val / 2)) (blk_inb w c) x y h₀ rfl
    rw [← h c x y h₀ rfl, ← hb, ← he]
    rfl
  · exact hreg _ (hf k) y (congrArg Fin.val hd)
  · exact hreg _ (hc k) y (congrArg Fin.val hd)

/-- A device's block as the mesh lays the whole weight out. -/
theorem blocks_of_mesh {w : Fin 4} {V : (allS w).Idx → Elt F .bf16} (ht : Layout.TilesN (blkS w) (allS w) fun b => Layout.cutSize [2, 2, 2] ((![[0, 1], []] : Fin 2 → List ℕ) b))
    (h : ∀ d : Dev nD, Vb m d w = Layout.blockN (blkS w) (allS w) (Layout.meshBlock [2, 2, 2] ![[0, 1], []] d) V ht) : Blocks m w V := by
  intro d x y h₀ h₁
  rw [h d, Layout.blockN_apply]
  congr 1
  funext a
  refine Fin.ext ?_
  rw [Layout.TilesN.idx_val]
  revert a
  have hm : Layout.meshLin [2, 2, 2] d.val [0, 1] = d.val / 2 := by clear h₀ h₁; revert d; decide
  refine Fin.forall_fin_two.2 ⟨?_, ?_⟩
  · show Layout.meshLin [2, 2, 2] d.val [0, 1] * HB w + (x 0).val = _
    rw [hm, Nat.mul_comm, h₀]
  · show 0 * _ + (x 1).val = _
    rw [Nat.zero_mul, Nat.zero_add, h₁]

open Idealize.SL.Sem in
/-- Where the devices' blocks are the blocks of whole weights, every execution ends with every device holding those
    weights whole, and its own blocks as they were. -/
theorem run_values (g : Dev nD → PrngReg) (V : (w : Fin 4) → (allS w).Idx → Elt F .bf16) (h : ∀ w, Blocks m w (V w)) :
    θ_run (defs (F := F)) (onTc (τ := τ) (main (F := F))) ⟨m, fun _ => 0, g⟩ (fun r => ∀ c : Dev nD,
      (∀ w, (outM w).view.read (Elt F) (r.2.mem ((outM w).view.loc (c : Thread nD τ))) = V w)
        ∧ ∀ w, (inM w).view.read (Elt F) (r.2.mem ((inM w).view.loc (c : Thread nD τ))) = Vb m c w) :=
  (θ_run (defs (F := F)) _ _).mono (fun r hr c => ⟨fun w => gathered (hr.1 c) (h w), fun w => (hr.1 c w).1⟩) (run_main g m)

end Cert.Gather
-- ==== Proof.RProto.lean ====
/-
# The reduction of the gradients: its memrefs, its cells and their schedule

Each of the eight devices holds, per weight `w`, a whole gradient of `8 * H w` rows. The chip of a device is
`c / 2` and its side `c % 2`; the rows fall into eight regions of `H w` rows, region `2 * k + e` to be summed for
device `2 * k + e`. A device first sends the four regions of the other side to the other device of its chip, and
adds what it receives to its own: the chip's sums for its side. Three of those it sends to the devices of its side
on the other chips, and adds the three it receives to the fourth: the whole sum of its own region, which it hands
to the other device of its chip.

The packed small gradients are copied from each device into one slot of a scratch buffer of every other device, where
they may arrive before that device has entered the kernel. The scratch buffer but for the device's own slot lies in an
invariant, at contents of which nothing is said.

Every remote transfer has two DMA cells of its own, and every such cell is used for one transfer: one round, one
duty. The copies in and out of the working buffers share one more semaphore, which is at zero between them.
-/
module

public import proofs.«01_k».proof.Proof.Gen.ReduceIdeal
public import proofs.«01_k».proof.Proof.Gen.ReduceIdeal.Skeleton
public import proofs.«01_k».proof.Proof.Gen.ReduceIdeal.Launch
public import proofs.«01_k».proof.Proof.Gen.ReduceIdeal.Points
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UA : Type := UR sig nD τ
abbrev UU : Type := UA × (UA × Counters)

local notation "𝕄" => MT nD τ sig Unit (Elt F) ℕ UU ℕ

abbrev EP : Emb (UR sig nD τ) (MT nD τ sig Unit (Elt F) ℕ UU ℕ) := embL
/-- The rounds of the remote transfers' cells. -/
def ER : Emb (UR sig nD τ) (MT nD τ sig Unit (Elt F) ℕ UU ℕ) :=
  ((Emb.inl : Emb UA (UA × Counters)).trans (Emb.inr : Emb (UA × Counters) UU)).trans
    (uEmb (nD := nD) (sig := sig) (Ix := Unit) (Val := Elt F) (Name := ℕ) (U := UU) (Lvl := ℕ)).toEmb
instance ER_landsIn : (ER : Emb (UR sig nD τ) 𝕄).LandsIn (upEmb : UEmb _ 𝕄) := by unfold ER; infer_instance
/-- The counters of the local copies. -/
abbrev EC : UEmb Counters (MT nD τ sig Unit (Elt F) ℕ UU ℕ) := countersEmb

variable (m : (ℓ : Loc nD τ sig) → Buf (Elt F) ℓ)

/-! ## The devices -/

/-- The other device of the chip. -/
def sib (c : Dev nD) : Dev nD := ⟨2 * (c.val / 2) + (1 - c.val % 2), by have := c.isLt; revert this; generalize c.val = v; decide +revert⟩

/-- The device of the same side on the `j`-th other chip. -/
def oth (j : Fin 3) (c : Dev nD) : Dev nD :=
  match j with
  | 0 => ⟨(c.val + 4) % 8, Nat.mod_lt _ (by decide)⟩
  | 1 => ⟨4 * (c.val / 4) + (c.val % 4 + 2) % 4, by have := c.isLt; revert this; generalize c.val = v; decide +revert⟩
  | 2 => ⟨4 * (1 - c.val / 4) + (c.val % 4 + 2) % 4, by have := c.isLt; revert this; generalize c.val = v; decide +revert⟩

/-- The chip of a device, and its side of it. -/
def chip (c : Dev nD) : Fin 4 := ⟨c.val / 2, by have := c.isLt; revert this; generalize c.val = v; decide +revert⟩
def side (c : Dev nD) : Fin 2 := ⟨c.val % 2, Nat.mod_lt _ (by decide)⟩
/-- The `j`-th other chip. -/
abbrev owner (c : Dev nD) (j : Fin 3) : Fin 4 := chip (oth j c)

theorem sib_sib (c : Dev nD) : sib (sib c) = c := by revert c; decide
theorem oth_oth (j : Fin 3) (c : Dev nD) : oth j (oth j c) = c := by revert j c; decide
theorem side_oth (j : Fin 3) (c : Dev nD) : side (oth j c) = side c := by revert j c; decide
theorem chip_sib (c : Dev nD) : chip (sib c) = chip c := by revert c; decide

/-! ## The memrefs -/

/-- The rows of one region of weight `w`. -/
abbrev H : Fin 4 → ℕ
  | 0 => 544
  | 1 => 256
  | 2 => 1024
  | 3 => 1024
/-- The rows of the two regions of a chip. -/
abbrev HB : Fin 4 → ℕ
  | 0 => 1088
  | 1 => 512
  | 2 => 2048
  | 3 => 2048
/-- The rows of the whole gradient. -/
abbrev HA : Fin 4 → ℕ
  | 0 => 4352
  | 1 => 2048
  | 2 => 8192
  | 3 => 8192

abbrev rowS (h : ℕ) : Shape := ⟨2, ![h, 2048]⟩
abbrev halfS (w : Fin 4) : Shape := ⟨2, ![H w, 2048]⟩
abbrev blkS (w : Fin 4) : Shape := ⟨2, ![HB w, 2048]⟩
abbrev allS (w : Fin 4) : Shape := ⟨2, ![HA w, 2048]⟩
abbrev oneS (w : Fin 4) : Shape := ⟨3, ![1, H w, 2048]⟩
abbrev threeS (w : Fin 4) : Shape := ⟨3, ![3, H w, 2048]⟩
abbrev fourS (w : Fin 4) : Shape := ⟨3, ![4, H w, 2048]⟩

/-- The gradient of weight `w` on a device. -/
abbrev inM : (w : Fin 4) → Memref sig .tc .hbm (allS w) .f32
  | 0 => Memref.whole main_arg0
  | 1 => Memref.whole main_arg1
  | 2 => Memref.whole main_arg2
  | 3 => Memref.whole main_arg3
/-- The summed rows of weight `w`. -/
abbrev outM : (w : Fin 4) → Memref sig .tc .hbm (blkS w) .f32
  | 0 => Memref.whole main_v1_0
  | 1 => Memref.whole main_v1_1
  | 2 => Memref.whole main_v1_2
  | 3 => Memref.whole main_v1_3
/-- What comes from the other device of the chip. -/
abbrev sibM : (w : Fin 4) → Memref sig .tc .hbm (fourS w) .f32
  | 0 => Memref.whole main_v1_5
  | 1 => Memref.whole main_v1_6
  | 2 => Memref.whole main_v1_7
  | 3 => Memref.whole main_v1_8
/-- The chip's sums. -/
abbrev sumM : (w : Fin 4) → Memref sig .tc .hbm (fourS w) .f32
  | 0 => Memref.whole main_v1_9
  | 1 => Memref.whole main_v1_10
  | 2 => Memref.whole main_v1_11
  | 3 => Memref.whole main_v1_12
/-- What comes from the other chips. -/
abbrev farM : (w : Fin 4) → Memref sig .tc .hbm (threeS w) .f32
  | 0 => Memref.whole main_v1_13
  | 1 => Memref.whole main_v1_14
  | 2 => Memref.whole main_v1_15
  | 3 => Memref.whole main_v1_16

/-- The eight slots of the small gradients, and one of them. -/
abbrev smallM : Memref sig .tc .vmem S8x104x128 .f32 := Memref.whole cc0_scratch0
abbrev smallSl (off : Fin 3 → ℕ) (inb : ∀ a, off a + S1x104x128.size a ≤ S8x104x128.size a) : Memref sig .tc .vmem S104x128 .f32 :=
  (smallM.slice (Rect.unit (s := S8x104x128) off S1x104x128.size inb) (fun _ => rfl)).squeeze S104x128 squeezes_S1x104x128_S104x128
theorem small_inb (d : Dev nD) : ∀ a, (![d.val, 0, 0] : Fin 3 → ℕ) a + S1x104x128.size a ≤ S8x104x128.size a := by
  revert d; decide +kernel
/-- Device `d`'s slot. -/
abbrev smallR (d : Dev nD) : Memref sig .tc .vmem S104x128 .f32 := smallSl ![d.val, 0, 0] (small_inb d)

theorem squeezes (w : Fin 4) : (oneS w).Squeezes (halfS w) := by revert w; decide

/-- One region of the gradient, from the row `off` names. -/
abbrev inSl (w : Fin 4) (off : Fin 2 → ℕ) (inb : ∀ a, off a + (halfS w).size a ≤ (allS w).size a) : Memref sig .tc .hbm (halfS w) .f32 :=
  (inM w).slice (Rect.unit (s := allS w) off (halfS w).size inb) (fun _ => rfl)
/-- Half of the summed rows. -/
abbrev outSl (w : Fin 4) (off : Fin 2 → ℕ) (inb : ∀ a, off a + (halfS w).size a ≤ (blkS w).size a) : Memref sig .tc .hbm (halfS w) .f32 :=
  (outM w).slice (Rect.unit (s := blkS w) off (halfS w).size inb) (fun _ => rfl)
abbrev sibSl (w : Fin 4) (off : Fin 3 → ℕ) (inb : ∀ a, off a + (oneS w).size a ≤ (fourS w).size a) : Memref sig .tc .hbm (halfS w) .f32 :=
  ((sibM w).slice (Rect.unit (s := fourS w) off (oneS w).size inb) (fun _ => rfl)).squeeze (halfS w) (squeezes w)
abbrev sumSl (w : Fin 4) (off : Fin 3 → ℕ) (inb : ∀ a, off a + (oneS w).size a ≤ (fourS w).size a) : Memref sig .tc .hbm (halfS w) .f32 :=
  ((sumM w).slice (Rect.unit (s := fourS w) off (oneS w).size inb) (fun _ => rfl)).squeeze (halfS w) (squeezes w)
abbrev farSl (w : Fin 4) (off : Fin 3 → ℕ) (inb : ∀ a, off a + (oneS w).size a ≤ (threeS w).size a) : Memref sig .tc .hbm (halfS w) .f32 :=
  ((farM w).slice (Rect.unit (s := threeS w) off (oneS w).size inb) (fun _ => rfl)).squeeze (halfS w) (squeezes w)

theorem in_inb (w k : Fin 4) (e : Fin 2) : ∀ a, (![H w * (2 * k.val + e.val), 0] : Fin 2 → ℕ) a + (halfS w).size a ≤ (allS w).size a := by
  revert w k e; decide +kernel
theorem out_inb (w : Fin 4) (e : Fin 2) : ∀ a, (![H w * e.val, 0] : Fin 2 → ℕ) a + (halfS w).size a ≤ (blkS w).size a := by
  revert w e; decide +kernel
theorem four_inb (w k : Fin 4) : ∀ a, (![k.val, 0, 0] : Fin 3 → ℕ) a + (oneS w).size a ≤ (fourS w).size a := by
  revert w k; decide +kernel
theorem three_inb (w : Fin 4) (j : Fin 3) : ∀ a, (![j.val, 0, 0] : Fin 3 → ℕ) a + (oneS w).size a ≤ (threeS w).size a := by
  revert w j; decide +kernel

/-- The region of the gradient for side `e` of chip `k`. -/
abbrev inR (w k : Fin 4) (e : Fin 2) : Memref sig .tc .hbm (halfS w) .f32 := inSl w ![H w * (2 * k.val + e.val), 0] (in_inb w k e)
abbrev outR (w : Fin 4) (e : Fin 2) : Memref sig .tc .hbm (halfS w) .f32 := outSl w ![H w * e.val, 0] (out_inb w e)
abbrev sibR (w k : Fin 4) : Memref sig .tc .hbm (halfS w) .f32 := sibSl w ![k.val, 0, 0] (four_inb w k)
abbrev sumR (w k : Fin 4) : Memref sig .tc .hbm (halfS w) .f32 := sumSl w ![k.val, 0, 0] (four_inb w k)
abbrev farR (w : Fin 4) (j : Fin 3) : Memref sig .tc .hbm (halfS w) .f32 := farSl w ![j.val, 0, 0] (three_inb w j)

theorem inSl_eq (w : Fin 4) {off off'} {inb} {inb'} (h : off = off') : inSl w off inb = inSl w off' inb' := by subst h; rfl
theorem outSl_eq (w : Fin 4) {off off'} {inb} {inb'} (h : off = off') : outSl w off inb = outSl w off' inb' := by subst h; rfl
theorem sibSl_eq (w : Fin 4) {off off'} {inb} {inb'} (h : off = off') : sibSl w off inb = sibSl w off' inb' := by subst h; rfl
theorem sumSl_eq (w : Fin 4) {off off'} {inb} {inb'} (h : off = off') : sumSl w off inb = sumSl w off' inb' := by subst h; rfl
theorem farSl_eq (w : Fin 4) {off off'} {inb} {inb'} (h : off = off') : farSl w off inb = farSl w off' inb' := by subst h; rfl

/-- What a transfer of one region credits. -/
def Nh (w : Fin 4) : ℕ := (outR w 0).view.dmaCredit
theorem numel_half (w : Fin 4) : 0 < (halfS w).numel := by revert w; decide
theorem Nh_pos (w : Fin 4) : 0 < Nh w := View.dmaCredit_pos _ (numel_half w)
theorem credit_in (w : Fin 4) (off) (inb) : (inSl w off inb).view.dmaCredit = Nh w := by fin_cases w <;> rfl
theorem credit_out (w : Fin 4) (off) (inb) : (outSl w off inb).view.dmaCredit = Nh w := by fin_cases w <;> rfl
theorem credit_sib (w : Fin 4) (off) (inb) : (sibSl w off inb).view.dmaCredit = Nh w := by fin_cases w <;> rfl
theorem credit_sum (w : Fin 4) (off) (inb) : (sumSl w off inb).view.dmaCredit = Nh w := by fin_cases w <;> rfl
theorem credit_far (w : Fin 4) (off) (inb) : (farSl w off inb).view.dmaCredit = Nh w := by fin_cases w <;> rfl

/-- What a transfer of small gradients credits. -/
def Ns : ℕ := (smallR 0).view.dmaCredit
theorem numel_small : 0 < S104x128.numel := by decide
theorem Ns_pos : 0 < Ns := View.dmaCredit_pos _ numel_small
theorem credit_small (off) (inb) : (smallSl off inb).view.dmaCredit = Ns := rfl

attribute [irreducible] Nh Ns

/-! ## The cells -/

/-- A device's cells: the sends and receives between the two devices of a chip, between chips, of the sums, and of the
    small gradients. -/
inductive Cell where
  | sibS (w k : Fin 4)
  | sibR (w k : Fin 4)
  | farS (w : Fin 4) (j : Fin 3)
  | farR (w : Fin 4) (j : Fin 3)
  | finS (w : Fin 4)
  | finR (w : Fin 4)
  | smS (j : Fin 7)
  | smR (j : Fin 7)
  deriving DecidableEq

/-- What a cell's transfer credits. -/
def Cell.amt : Cell → ℕ
  | .sibS w _ | .sibR w _ | .farS w _ | .farR w _ | .finS w | .finR w => Nh w
  | .smS _ | .smR _ => Ns
theorem Cell.amt_pos (x : Cell) : 0 < x.amt := by
  cases x <;> first | exact Nh_pos _ | exact Ns_pos

/-- The semaphore of a cell. -/
def Cell.num : Cell → DmaSem sig
  | .sibS w k => ⟨2 + 4 * w.val + k.val, by have := w.isLt; have := k.isLt; show _ < 81; omega⟩
  | .sibR w k => ⟨18 + 4 * w.val + k.val, by have := w.isLt; have := k.isLt; show _ < 81; omega⟩
  | .farS w j => ⟨34 + 3 * w.val + j.val, by have := w.isLt; have := j.isLt; show _ < 81; omega⟩
  | .farR w j => ⟨46 + 3 * w.val + j.val, by have := w.isLt; have := j.isLt; show _ < 81; omega⟩
  | .finS w => ⟨58 + w.val, by have := w.isLt; show _ < 81; omega⟩
  | .finR w => ⟨62 + w.val, by have := w.isLt; show _ < 81; omega⟩
  | .smS j => ⟨66 + j.val, by have := j.isLt; show _ < 81; omega⟩
  | .smR j => ⟨73 + j.val, by have := j.isLt; show _ < 81; omega⟩

/-- The semaphore of the local copies. -/
def ioNum : DmaSem sig := ⟨80, by show 80 < 81; omega⟩

/-- The cell of a semaphore (the windows' and the local copies' have none). -/
def Cell.ofNum (s : DmaSem sig) : Cell :=
  if s.val < 2 then .sibS 0 0
  else if s.val < 18 then .sibS ⟨(s.val - 2) % 16 / 4, by omega⟩ ⟨(s.val - 2) % 4, by omega⟩
  else if s.val < 34 then .sibR ⟨(s.val - 2) % 16 / 4, by omega⟩ ⟨(s.val - 2) % 4, by omega⟩
  else if s.val < 46 then .farS ⟨(s.val - 34) % 12 / 3, by omega⟩ ⟨(s.val - 34) % 3, by omega⟩
  else if s.val < 58 then .farR ⟨(s.val - 46) % 12 / 3, by omega⟩ ⟨(s.val - 46) % 3, by omega⟩
  else if s.val < 62 then .finS ⟨(s.val - 58) % 4, by omega⟩
  else if s.val < 66 then .finR ⟨(s.val - 62) % 4, by omega⟩
  else if s.val < 73 then .smS ⟨(s.val - 66) % 7, by omega⟩
  else if s.val < 80 then .smR ⟨(s.val - 73) % 7, by omega⟩
  else .sibS 0 0

theorem Cell.ofNum_num (x : Cell) : Cell.ofNum x.num = x := by
  rcases x with ⟨w, k⟩ | ⟨w, k⟩ | ⟨w, j⟩ | ⟨w, j⟩ | w | w | j | j
  · revert w k; decide +kernel
  · revert w k; decide +kernel
  · revert w j; decide +kernel
  · revert w j; decide +kernel
  · revert w; decide +kernel
  · revert w; decide +kernel
  · revert j; decide +kernel
  · revert j; decide +kernel
theorem Cell.num_inj : Function.Injective Cell.num := Function.LeftInverse.injective Cell.ofNum_num
theorem Cell.num_lt (x : Cell) : 2 ≤ x.num.val ∧ x.num.val < 80 := by
  rcases x with ⟨w, k⟩ | ⟨w, k⟩ | ⟨w, j⟩ | ⟨w, j⟩ | w | w | j | j
  · revert w k; decide +kernel
  · revert w k; decide +kernel
  · revert w j; decide +kernel
  · revert w j; decide +kernel
  · revert w; decide +kernel
  · revert w; decide +kernel
  · revert j; decide +kernel
  · revert j; decide +kernel
theorem Cell.num_ofNum (s : DmaSem sig) (h : 2 ≤ s.val ∧ s.val < 80) : (Cell.ofNum s).num = s := by
  revert s; show ∀ s : Fin 81, _; decide +kernel
/-- The cells are the semaphores between the windows' and the local copies'. -/
def Cell.equiv : Fin 78 ≃ Cell where
  toFun i := Cell.ofNum ⟨i.val + 2, by have := i.isLt; show _ < 81; omega⟩
  invFun x := ⟨x.num.val - 2, by have := x.num_lt; omega⟩
  left_inv i := by
    apply Fin.ext
    have h := congrArg (fun s : DmaSem sig => s.val) (Cell.num_ofNum ⟨i.val + 2, by have := i.isLt; show _ < 81; omega⟩ ⟨by show 2 ≤ i.val + 2; omega, by have := i.isLt; show i.val + 2 < 80; omega⟩)
    show (Cell.ofNum _).num.val - 2 = i.val
    dsimp only at h
    rw [h]; rfl
  right_inv x := by
    have h := x.num_lt
    have e : (⟨x.num.val - 2 + 2, by have := x.num.isLt; show _ < 81; omega⟩ : DmaSem sig) = x.num := Fin.ext (by show x.num.val - 2 + 2 = x.num.val; omega)
    show Cell.ofNum ⟨x.num.val - 2 + 2, _⟩ = x
    rw [e]; exact Cell.ofNum_num x
instance : Fintype Cell := Fintype.ofEquiv (Fin 78) Cell.equiv

/-- The cell of a device, as the machine names it. -/
abbrev gc (c : Dev nD) (x : Cell) : GSem nD τ sig := ((c : Thread nD τ), .dma x.num)

/-! ## Contents and payloads -/

/-- Device `c`'s gradient in the region for side `e` of chip `k`. -/
def Vp (c : Dev nD) (w k : Fin 4) (e : Fin 2) : Vec F (halfS w) .f32 := (inR w k e).view.read (Elt F) (m ((inR w k e).view.loc (c : Thread nD τ)))
/-- Chip `c / 2`'s sum for device `c`'s side of chip `k`, as `c` computes it. -/
def Sm (c : Dev nD) (w k : Fin 4) : Vec F (halfS w) .f32 := addf (Vp m c w k (side c) : FVec F (halfS w) .f32) (Vp m (sib c) w k (side c))
/-- The sum of all devices' gradients for device `c`. -/
def Mine (c : Dev nD) (w : Fin 4) : Vec F (halfS w) .f32 :=
  addf (addf (addf (Sm m c w (chip c) : FVec F (halfS w) .f32) (Sm m (oth 0 c) w (chip c))) (Sm m (oth 1 c) w (chip c))) (Sm m (oth 2 c) w (chip c))

/-- The small gradients' scratch buffer on a device. -/
abbrev smallLoc (c : Dev nD) : Loc nD τ sig := smallM.view.loc (c : Thread nD τ)
/-- The device's own slot of it, and the other slots. -/
def ownSet (c : Dev nD) : Finset (Idx (smallLoc c)) := (smallR c).view.set
def restSet (c : Dev nD) : Finset (Idx (smallLoc c)) := Finset.univ \ ownSet c

/-- What the writer of a slot holds until it has been told that the copy has landed. -/
def writeTok (d : Dev nD) (j : Fin 7) : sProp 𝕄 := dutyTok ER (gc d (.smR j)) 1 ()
/-- What the owner holds while others may write the slots, and while none may. -/
def openTok (d : Dev nD) : sProp 𝕄 := dutyTok ER (gc d (.smR 0)) 2 ()
def shutTok (d : Dev nD) : sProp 𝕄 := dutyTok ER (gc d (.smR 0)) 3 ()
/-- The seven writers' tokens together. -/
def writeToks (d : Dev nD) : sProp 𝕄 := bigSep Finset.univ fun j : Fin 7 => writeTok (F := F) d j
/-- The other slots, at some contents. -/
def slots (d : Dev nD) : sProp 𝕄 := iprop(∃ f, (smallLoc d ↦[restSet d]{fullShare} f))
/-- The slots lie open for the writers, or the owner has them. -/
def board (d : Dev nD) : sProp 𝕄 := iprop((shutTok d ∗ slots d) ∨ (openTok d ∗ writeToks d))

instance writeTok_storable (d : Dev nD) (j : Fin 7) : BI.Storable (upEmb : UEmb _ 𝕄) (writeTok (F := F) d j) := by unfold writeTok; infer_instance
instance openTok_storable (d : Dev nD) : BI.Storable (upEmb : UEmb _ 𝕄) (openTok (F := F) d) := by unfold openTok; infer_instance
instance shutTok_storable (d : Dev nD) : BI.Storable (upEmb : UEmb _ 𝕄) (shutTok (F := F) d) := by unfold shutTok; infer_instance
instance board_storable (d : Dev nD) : BI.Storable (upEmb : UEmb _ 𝕄) (board (F := F) d) := by unfold board slots writeToks; infer_instance

/-- An eighth of the device's own slot. -/
def eighth (c : Dev nD) (i : Fin 8) : sProp 𝕄 := iprop(∃ f, (smallLoc c ↦[ownSet c]{ShareLeaves.leaf 3 fullShare i} f))

/-- What a transfer issued here leaves with its owner, and a receive. -/
def pay (c : Dev nD) : Cell → sProp 𝕄
  | .sibS w k => owns (c : Thread nD τ) (inR w k (side (sib c))) fullShare (Vp m c w k (side (sib c)))
  | .sibR w k => owns (c : Thread nD τ) (sibR w k) fullShare (Vp m (sib c) w k (side c))
  | .farS w j => owns (c : Thread nD τ) (sumR w (owner c j)) fullShare (Sm m c w (owner c j))
  | .farR w j => owns (c : Thread nD τ) (farR w j) fullShare (Sm m (oth j c) w (chip c))
  | .finS w => owns (c : Thread nD τ) (outR w (side c)) fullShare (Mine m c w)
  | .finR w => owns (c : Thread nD τ) (outR w (side (sib c))) fullShare (Mine m (sib c) w)
  | .smS j => eighth c j.castSucc
  | .smR j => writeTok c j

/-- What a device keeps beside a cell: its own side's region, and its own chip's sum. -/
def keep (c : Dev nD) : Cell → sProp 𝕄
  | .sibR w k => owns (c : Thread nD τ) (inR w k (side c)) fullShare (Vp m c w k (side c))
  | .finS w => owns (c : Thread nD τ) (sumR w (chip c)) fullShare (Sm m c w (chip c))
  | _ => iprop(emp)

instance pay_storable (c : Dev nD) (x : Cell) : BI.Storable (upEmb : UEmb _ 𝕄) (pay (F := F) m c x) := by
  cases x <;> unfold pay <;> (try unfold eighth) <;> infer_instance

/-! ## The schedule -/

/-- One round of one duty per cell. -/
def Rd : Rounds.Schedule (GSem nD τ sig) Unit 𝕄 where
  duties g r := if r = 0 ∧ g.1.2 = .tc ∧ (∃ x : Cell, g.2 = .dma x.num) then {()} else ∅
  unitless _ := False
  amount g _ _ := match g.2 with
    | .dma s => (Cell.ofNum s).amt
    | .reg _ => 1
  payload g _ _ := match g.2 with
    | .dma s => pay m g.1.1 (Cell.ofNum s)
    | .reg _ => iprop(emp)
  amount_pos g _ _ _ := by
    split
    · exact Cell.amt_pos _
    · exact Nat.one_pos

instance Rd_payload_storable (g : GSem nD τ sig) (r : ℕ) (d : Unit) : BI.Storable (upEmb : UEmb _ 𝕄) ((Rd (F := F) m).payload g r d) := by
  show BI.Storable upEmb (match g.2 with
    | .dma s => pay m g.1.1 (Cell.ofNum s)
    | .reg _ => iprop(emp))
  split <;> infer_instance

section Sched
variable (c : Dev nD) (x : Cell)

theorem duties_eq : (Rd (F := F) m).duties (gc c x) 0 = {()} := by dsimp only [Rd]; exact if_pos ⟨rfl, rfl, x, rfl⟩
theorem duties_mem : () ∈ (Rd (F := F) m).duties (gc c x) 0 := by rw [duties_eq]; exact Finset.mem_singleton_self _
theorem duties_later (g : GSem nD τ sig) : ∀ r, 1 ≤ r → (Rd (F := F) m).duties g r = ∅ :=
  fun r hr => by dsimp only [Rd]; exact if_neg fun h => by omega
theorem amount_eq (u : Unit) : (Rd (F := F) m).amount (gc c x) 0 u = x.amt := by dsimp only [Rd]; rw [Cell.ofNum_num]
theorem expect_eq : (Rd (F := F) m).expect (gc c x) 0 = x.amt := by
  unfold Schedule.expect Schedule.amountOf; rw [duties_eq, Finset.sum_singleton, amount_eq]
theorem payload_eq (u : Unit) : (Rd (F := F) m).payload (gc c x) 0 u = pay m c x := by dsimp only [Rd]; rw [Cell.ofNum_num]
theorem rest_eq : bigSep ((Rd (F := F) m).duties (gc c x) 0 \ ∅) (fun u => (Rd (F := F) m).payload (gc c x) 0 u) = pay m c x := by
  rw [Finset.sdiff_empty, duties_eq, bigSep_singleton, payload_eq]

end Sched

/-! ## What is owed, and the levels -/

/-- The device a transfer issued here goes to, and the cell it credits there. -/
def peer (c : Dev nD) : Cell → Dev nD
  | .sibS _ _ | .sibR _ _ | .finS _ | .finR _ => sib c
  | .farS _ j | .farR _ j => oth j c
  | .smS j => ⟨(c.val + 1 + j.val) % 8, Nat.mod_lt _ (by decide)⟩
  | .smR j => ⟨(c.val + 7 - j.val) % 8, Nat.mod_lt _ (by decide)⟩
def Cell.mate : Cell → Cell
  | .sibS w k => .sibR w k
  | .sibR w k => .sibS w k
  | .farS w j => .farR w j
  | .farR w j => .farS w j
  | .finS w => .finR w
  | .finR w => .finS w
  | .smS j => .smR j
  | .smR j => .smS j
theorem Cell.mate_amt (x : Cell) : x.mate.amt = x.amt := by cases x <;> rfl
/-- Whether the cell's transfer is issued here. -/
def Cell.own : Cell → Bool
  | .sibS _ _ | .farS _ _ | .finS _ | .smS _ => true
  | _ => false

/-- What device `c` owes for the transfer of a cell before it is issued. -/
def due (c : Dev nD) (x : Cell) : CellTallies nD τ sig Unit :=
  if x.own then tallyAt (gc (peer c x) x.mate) () (x.amt) else 0

def Cell.lev : Cell → ℕ
  | .sibR _ _ => 1
  | .farR _ _ => 2
  | .finR _ => 3
  | .smR _ => 4
  | _ => 0

def L (g : GSem nD τ sig) : Finset Unit := if g.1.2 = .tc then {()} else ∅
def lv (g : GSem nD τ sig) (_ : Unit) : ℕ := match g.2 with
  | .dma s => (Cell.ofNum s).lev
  | .reg _ => 0
theorem L_of_ne (g : GSem nD τ sig) (h : g.1.2 ≠ .tc) : L g = ∅ := if_neg h
theorem L_tc (c : Dev nD) (sm : SemLoc sig) : L ((c : Thread nD τ), sm) = {()} := if_pos rfl
theorem lv_gc (c : Dev nD) (x : Cell) : lv (gc c x) () = x.lev := by dsimp only [lv]; rw [Cell.ofNum_num]
theorem lv_io (c : Dev nD) : lv ((c : Thread nD τ), .dma ioNum) () = 0 := by revert c; decide +kernel

/-! ## The run's steps -/

/-- The place of the `j`-th other chip in the order the body serves them. -/
def turn : Fin 3 → ℕ
  | 0 => 1
  | 1 => 2
  | 2 => 0

/-- The step at which a cell's own transfer is issued (a receive cell's is not issued here). -/
def Cell.start : Cell → ℕ
  | .smS j => 1 + j.val
  | .sibS w k => 8 + 4 * w.val + k.val
  | .farS w j => 41 + 2 * (4 * turn j + w.val)
  | .finS w => 72 + 5 * w.val
  | _ => 0
/-- The step at which what it sends has been summed. -/
def Cell.strm : Cell → ℕ
  | .farS w j => 40 + 2 * (4 * turn j + w.val)
  | .finS w => 71 + 5 * w.val
  | _ => 0
/-- The step at which a device sums its own chip's. -/
def strm0 (w : Fin 4) : ℕ := 64 + w.val
/-- The step at which the body waits for a cell. -/
def Cell.fin : Cell → ℕ
  | .sibR w k => 24 + 4 * w.val + k.val
  | .farR w j => 68 + 5 * w.val + j.val
  | .finR w => 88 + w.val
  | .smR j => 92 + j.val
  | .smS j => 99 + j.val
  | .sibS w k => 106 + 4 * w.val + k.val
  | .farS w j => 122 + 4 * turn j + w.val
  | .finS w => 134 + w.val

/-- Whether a cell's transfer is still to be issued before step `n`. -/
def Cell.todo (n : ℕ) (x : Cell) : Prop := x.own = true ∧ n ≤ x.start
instance (n : ℕ) (x : Cell) : Decidable (Cell.todo n x) := by unfold Cell.todo; infer_instance

/-- Where a cell is before step `n`: 0 nothing summed, 5 the own chip's sum done, 4 ready to be sent, 1 under way,
    2 waited for. -/
def Cell.at (n : ℕ) : Cell → ℕ
  | .sibS w k => if n ≤ (Cell.sibS w k).start then 4 else if n ≤ (Cell.sibS w k).fin then 1 else 2
  | .farS w j => if n ≤ (Cell.farS w j).strm then 0 else if n ≤ (Cell.farS w j).start then 4 else if n ≤ (Cell.farS w j).fin then 1 else 2
  | .finS w => if n ≤ strm0 w then 0 else if n ≤ (Cell.finS w).strm then 5 else if n ≤ (Cell.finS w).start then 4
      else if n ≤ (Cell.finS w).fin then 1 else 2
  | .sibR w k => if n ≤ (Cell.sibR w k).fin then 1 else 2
  | .farR w j => if n ≤ (Cell.farR w j).fin then 1 else 2
  | .finR w => if n ≤ (Cell.finR w).fin then 1 else 2
  | .smS j => if n = 0 then 0 else if n ≤ (Cell.smS j).start then 4 else if n ≤ (Cell.smS j).fin then 1 else 2
  | .smR j => if n ≤ (Cell.smR j).fin then 1 else 2

/-- What device `c` owes before step `n`. -/
def owed (c : Dev nD) (n : ℕ) : CellTallies nD τ sig Unit := ∑ x : Cell, if Cell.todo n x then due c x else 0

/-- Where a cell's transfer goes. -/
def dest (c : Dev nD) : Cell → sProp 𝕄
  | .sibS w k => iprop(∃ X, owns (sib c : Thread nD τ) (sibR w k) fullShare X)
  | .farS w j => iprop(∃ X, owns (oth j c : Thread nD τ) (farR w j) fullShare X)
  | .finS w => iprop(∃ X, owns (sib c : Thread nD τ) (outR w (side c)) fullShare X)
  | .smS j => writeTok (peer c (.smS j)) j
  | _ => iprop(emp)

/-- What it takes to issue a cell's transfer, but for what is sent. -/
def head (c : Dev nD) (x : Cell) : sProp 𝕄 :=
  iprop(dutyTok ER (gc c x) 0 () ∗ atPos ER (gc c x) 0 ∅ 0 ∗ dutyTok ER (gc (peer c x) x.mate) 0 () ∗ dest c x)

/-- What is to be filled before a cell's transfer. -/
def raw (c : Dev nD) : Cell → sProp 𝕄
  | .farS w j => iprop(∃ X, owns (c : Thread nD τ) (sumR w (owner c j)) fullShare X)
  | .finS w => iprop(∃ X, owns (c : Thread nD τ) (outR w (side c)) fullShare X)
  | _ => iprop(emp)
def raw0 (c : Dev nD) : Cell → sProp 𝕄
  | .finS w => iprop(∃ X, owns (c : Thread nD τ) (sumR w (chip c)) fullShare X)
  | _ => iprop(emp)

/-- What device `c` holds for a cell. -/
def res (c : Dev nD) (x : Cell) (s : ℕ) : sProp 𝕄 :=
  match s with
  | 0 => iprop(head c x ∗ raw c x ∗ raw0 c x)
  | 5 => iprop(head c x ∗ raw c x ∗ keep m c x)
  | 4 => iprop(head c x ∗ pay m c x ∗ keep m c x)
  | 1 => iprop(atPos ER (gc c x) 0 ∅ 0 ∗ cred (tallyAt (gc c x) () (x.amt)) ∗ keep m c x)
  | _ => iprop(atPos ER (gc c x) 1 ∅ 0 ∗ pay m c x ∗ keep m c x)

/-- The three working buffers. -/
abbrev bufM : Fin 3 → Memref sig .tc .vmem S256x2048 .f32
  | 0 => Memref.whole cc0_scratch1
  | 1 => Memref.whole cc0_scratch2
  | 2 => Memref.whole cc0_scratch3

/-- The working buffers, at any contents, and the local copies' semaphore at zero. -/
def work (c : Dev nD) : sProp 𝕄 :=
  iprop((∃ f, ((bufM 0).view.loc (c : Thread nD τ) ↦[Finset.univ]{fullShare} f)) ∗ (∃ f, ((bufM 1).view.loc (c : Thread nD τ) ↦[Finset.univ]{fullShare} f))
    ∗ (∃ f, ((bufM 2).view.loc (c : Thread nD τ) ↦[Finset.univ]{fullShare} f)) ∗ semVal ((c : Thread nD τ), .dma ioNum) 0)

/-- The windows' staging buffers. -/
abbrev stgM : Fin 2 → Memref sig .tc .vmem S104x128 .f32
  | 0 => Memref.whole cc0_stg0_0
  | 1 => Memref.whole cc0_stg1_0
/-- The windows' staging buffers, at any contents. -/
def stages (c : Dev nD) : sProp 𝕄 :=
  iprop((∃ f, ((stgM 0).view.loc (c : Thread nD τ) ↦[Finset.univ]{fullShare} f)) ∗ (∃ f, ((stgM 1).view.loc (c : Thread nD τ) ↦[Finset.univ]{fullShare} f)))

/-- What a device holds throughout, once its own slot is filled, -/
def hands (c : Dev nD) : sProp 𝕄 := iprop(work c ∗ openTok c ∗ eighth c 7 ∗ stages c)
/-- and before. -/
def hands₀ (c : Dev nD) : sProp 𝕄 := iprop(work c ∗ openTok c ∗ (∃ f, (smallLoc c ↦[ownSet c]{fullShare} f)) ∗ stages c)

/-- What every device knows: the cells' invariants, the small slots', that each has reached its round, and the levels. -/
def known (K : Dev nD × Cell → ℕ) : sProp 𝕄 :=
  iprop((bigSep Finset.univ fun p : Dev nD × Cell => cellInv ER (Rd m) (K p) (gc p.1 p.2))
    ∗ (bigSep Finset.univ fun p : Dev nD × Cell => reached ER (gc p.1 p.2) 0) ∗ levAts L lv
    ∗ bigSep Finset.univ fun d : Dev nD => iprop(∃ ι : ℕ, inv ι (board (F := F) d)))

instance known_persistent (K) : BI.Persistent (known (F := F) m K) := by unfold known; infer_instance

/-- Device `c` at the start, -/
def St₀ (c : Dev nD) : sProp 𝕄 :=
  iprop((bigSep Finset.univ fun x : Cell => res m c x (Cell.at 0 x)) ∗ hands₀ c ∗ ∃ W, owes (c : Thread nD τ) (owed c 0) W)
/-- and before step `n`. -/
def St (c : Dev nD) (n : ℕ) : sProp 𝕄 :=
  iprop((bigSep Finset.univ fun x : Cell => res m c x (Cell.at n x)) ∗ hands c ∗ ∃ W, owes (c : Thread nD τ) (owed c n) W)

end Cert.Reducing
-- ==== Proof.RSteps.lean ====
/-
# The reduction of the gradients: the sends and the waits

The order of the body's steps, and the two kinds of step that concern another device: the send of one region and
the wait for one, between the states before and after it.
-/
module

public import proofs.«01_k».proof.Proof.RProto

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The order of the steps -/

theorem fin_at (x : Cell) : Cell.at x.fin x = 1 ∧ Cell.at (x.fin + 1) x = 2 := by revert x; decide +kernel
theorem fin_ne (x y : Cell) (h : y ≠ x) : Cell.at (x.fin + 1) y = Cell.at x.fin y := by revert x y; decide +kernel
theorem fin_todo (x y : Cell) : Cell.todo (x.fin + 1) y ↔ Cell.todo x.fin y := by revert x y; decide +kernel
theorem start_at (x : Cell) (h : x.own = true) : Cell.at x.start x = 4 ∧ Cell.at (x.start + 1) x = 1 := by revert x; decide +kernel
theorem start_ne (x y : Cell) (hx : x.own = true) (h : y ≠ x) : Cell.at (x.start + 1) y = Cell.at x.start y := by revert x y; decide +kernel
theorem start_todo (x : Cell) (hx : x.own = true) : Cell.todo x.start x ∧ ¬ Cell.todo (x.start + 1) x := by revert x; decide +kernel
theorem start_todo_ne (x y : Cell) (hx : x.own = true) (h : y ≠ x) : Cell.todo (x.start + 1) y ↔ Cell.todo x.start y := by revert x y; decide +kernel
/-- While a device waits, what it owes goes to cells above the one it waits for. -/
theorem fin_owes (x y : Cell) (h : Cell.todo x.fin y) : x.lev < y.mate.lev := by revert x y; decide +kernel
theorem own_lev (y : Cell) (h : y.own = true) : 0 < y.mate.lev := by revert y; decide +kernel

theorem owed_same (c : Dev nD) {n n' : ℕ} (h : ∀ y, Cell.todo n' y ↔ Cell.todo n y) : owed c n' = owed c n := by
  unfold owed; exact Finset.sum_congr rfl fun y _ => by simp only [h y]

theorem owed_start (c : Dev nD) (x : Cell) (hx : x.own = true) :
    owed c x.start = owed c (x.start + 1) + tallyAt (gc (peer c x) x.mate) () (x.amt) := by
  unfold owed
  rw [← Finset.sum_erase_add _ _ (Finset.mem_univ x), ← Finset.sum_erase_add Finset.univ (fun y => if Cell.todo (x.start + 1) y then due c y else 0) (Finset.mem_univ x),
    if_pos (start_todo x hx).1, if_neg (start_todo x hx).2, add_zero]
  congr 1
  · exact Finset.sum_congr rfl fun y hy => by simp only [start_todo_ne x y hx (Finset.ne_of_mem_erase hy)]
  · unfold due; rw [if_pos hx]

theorem owed_pos {c : Dev nD} {n : ℕ} {g : GSem nD τ sig} {u : Unit} (h : 0 < owed c n g u) :
    ∃ y, Cell.todo n y ∧ g = gc (peer c y) y.mate := by
  unfold owed at h
  rw [Finset.sum_apply, Finsupp.finset_sum_apply] at h
  obtain ⟨y, -, hy⟩ := Finset.exists_ne_zero_of_sum_ne_zero h.ne'
  by_cases h0 : Cell.todo n y
  · rw [if_pos h0] at hy
    unfold due at hy
    rw [if_pos h0.1] at hy
    refine ⟨y, h0, ?_⟩
    by_contra hg
    rw [tallyAt_apply, if_neg (fun h' => hg h'.1)] at hy
    exact hy rfl
  · rw [if_neg h0] at hy; exact absurd rfl hy

theorem mayWait (c : Dev nD) (s : DmaSem sig) (l n : ℕ) (hs : lv ((c : Thread nD τ), .dma s) () = l) (h : ∀ y, Cell.todo n y → l < y.mate.lev) :
    (levAts L lv : sProp 𝕄) ⊢ MayWait (c : Thread nD τ) (.dma s) () (owed c n) := by
  refine MayOwe.of_cut (L := L) (lev := lv) l (fun p hp => by rw [Finset.mem_singleton.mp hp, L_tc]; exact Finset.mem_singleton_self _) ?_
    (fun p hp => by rw [Finset.mem_singleton.mp hp]; exact hs.le) ?_
  · intro g u hg
    obtain ⟨y, -, rfl⟩ := owed_pos hg
    rw [L_tc]; exact Finset.mem_singleton_self _
  · intro g u hg
    obtain ⟨y, hy, rfl⟩ := owed_pos hg
    exact (h y hy).trans_eq (lv_gc (peer c y) y.mate).symm

/-! ## What is known, cell by cell -/

theorem known_inv (K : Dev nD × Cell → ℕ) (c : Dev nD) (x : Cell) : known (F := F) m K ⊢ cellInv ER (Rd m) (K (c, x)) (gc c x) := by
  unfold known
  rw [bigSep_univ_at (fun p : Dev nD × Cell => cellInv ER (Rd m) (K p) (gc p.1 p.2)) (c, x)]
  iintro ⟨⟨H, -⟩, -⟩; iexact H
theorem known_reached (K : Dev nD × Cell → ℕ) (c : Dev nD) (x : Cell) : known (F := F) m K ⊢ reached ER (gc c x) 0 := by
  unfold known
  rw [bigSep_univ_at (fun p : Dev nD × Cell => reached ER (gc p.1 p.2) 0) (c, x)]
  iintro ⟨-, ⟨H, -⟩, -⟩; iexact H
theorem known_board (K : Dev nD × Cell → ℕ) (c : Dev nD) : known (F := F) m K ⊢ iprop(∃ ι : ℕ, inv ι (board (F := F) c)) := by
  unfold known
  rw [bigSep_univ_at (fun d : Dev nD => iprop(∃ ι : ℕ, inv ι (board (F := F) d))) c]
  iintro ⟨-, -, -, H, -⟩; iexact H
theorem known_lev (K : Dev nD × Cell → ℕ) : known (F := F) m K ⊢ levAts L lv := by
  unfold known
  iintro ⟨-, -, H, -⟩; iexact H

/-- What a device holds for one cell, taken out of the state before a step and put back after it. -/
theorem st_turn (c : Dev nD) (x : Cell) {n n' a b : ℕ} (ha : Cell.at n x = a) (hb : Cell.at n' x = b)
    (h : ∀ y, y ≠ x → Cell.at n' y = Cell.at n y) :
    (bigSep Finset.univ fun y : Cell => res (F := F) m c y (Cell.at n y))
      ⊢ iprop(res m c x a ∗ (res m c x b -∗ bigSep Finset.univ fun y : Cell => res m c y (Cell.at n' y))) := by
  subst ha hb
  exact bigSep_univ_update (Φ := fun y => res m c y (Cell.at n y)) (Ψ := fun y => res m c y (Cell.at n' y)) x fun y hy => by rw [h y hy]

theorem res_one (c : Dev nD) (x : Cell) : res (F := F) m c x 1 = iprop(atPos ER (gc c x) 0 ∅ 0 ∗ cred (tallyAt (gc c x) () (x.amt)) ∗ keep m c x) := rfl
theorem res_two (c : Dev nD) (x : Cell) : res (F := F) m c x 2 = iprop(atPos ER (gc c x) 1 ∅ 0 ∗ pay m c x ∗ keep m c x) := rfl
theorem res_four (c : Dev nD) (x : Cell) : res (F := F) m c x 4 = iprop(head c x ∗ pay m c x ∗ keep m c x) := rfl

/-! ## The steps -/

/-- A view written in full and read again. -/
theorem owns_written (d : Thread nD τ) {sp : Space} {sh : Shape} {e : EltTy} (dst : Memref sig d.2.kind sp sh e)
    (fd : Buf (Elt F) (dst.view.loc d)) (X Y : sh.Idx → Elt F e) (hXY : X = Y) :
    (dst.view.loc d ↦[dst.view.set]{fullShare} (dst.view.write (Elt F) fd X Finset.univ) : sProp 𝕄) ⊢ owns d dst fullShare Y := by
  subst hXY
  unfold owns
  iintro H
  iexists (dst.view.write (Elt F) fd X Finset.univ)
  isplitr; · ipureintro; exact View.read_write_univ fd X
  iexact H

theorem owns_intro (d : Thread nD τ) {sp : Space} {sh : Shape} {e : EltTy} (mr : Memref sig d.2.kind sp sh e) (q : PosShare TreeShare)
    (f : Buf (Elt F) (mr.view.loc d)) (X : sh.Idx → Elt F e) (hX : mr.view.read (Elt F) f = X) :
    (mr.view.loc d ↦[mr.view.set]{q} f : sProp 𝕄) ⊢ owns d mr q X := by
  unfold owns
  iintro H
  iexists f
  isplitr; · ipureintro; exact hX
  iexact H

section Steps

variable (K : Dev nD × Cell → ℕ) (c : Dev nD)
variable {α : Type} {Q : α → sProp (MT nD τ sig Unit (Elt F) ℕ UU ℕ)} {k : PUnit → Prog (TpuEff nD τ sig (Elt F) Λ₀ .tc) α}

/-- A wait. -/
theorem step_wait (x : Cell) {n : ℕ} (hn : n = x.fin) {s : DmaSem sig} (hs : s = x.num)
    {sp sp' : Space} {sh sh' : Shape} {e e' : EltTy} {src : Memref sig (c : Thread nD τ).2.kind sp' sh' e'} {κ' : Kind} {dst : Memref sig κ' sp sh e}
    {hsrc : src.view.WordExact} {hdst : dst.view.WordExact} (hcr : dst.view.dmaCredit = x.amt)
    (h : iprop(known m K ∗ St m c (x.fin + 1)) ⊢ wp frame (wpE (defs₀ (F := F)) 𝒱₀ (c : Thread nD τ) none) Set.univ (k ⟨⟩) Q) :
    iprop(known m K ∗ St m c n)
      ⊢ wp frame (wpE (defs₀ (F := F)) 𝒱₀ (c : Thread nD τ) none) Set.univ (.op (.waitDma2 s src dst hsrc hdst) k) Q := by
  subst hn hs
  unfold St
  iintro ⟨#HK, Hres, Hh, %W, HO⟩
  ihave Hres := (st_turn m c x (fin_at x).1 (fin_at x).2 (fin_ne x)) $$ Hres
  rw [res_one, res_two]
  icases Hres with ⟨⟨Hat, Hcr, Hkeep⟩, Hback⟩
  iapply (Rounds.wp_wait_rest_token 𝒱₀ ER (Rd m) (c : Thread nD τ) none (κ := K (c, x))
      (wpE_waitDma2_eq 𝒱₀ (c : Thread nD τ) none Set.univ) (Set.mem_univ _) () (O := owed c x.fin) (W := W) (R := 0) (m := 0) (T := ∅)
      (by rw [Nat.zero_add, expect_eq, hcr])) $$ [Hcr HO Hat]
  · isplitr; · iapply (known_inv m K c x); iexact HK
    isplitl [Hcr]; · rw [hcr]; iexact Hcr
    isplitl [HO]; · iexact HO
    isplitr; · iapply (mayWait c x.num x.lev x.fin (lv_gc c x) (fin_owes x)); iapply (known_lev m K); iexact HK
    iexact Hat
  iintro ⟨HO, Hat, -, Hpay⟩
  ihave Hpay := (Entails.of_eq (rest_eq m c x)) $$ Hpay
  iapply h
  unfold St
  isplitr; · iexact HK
  isplitr [HO Hh]
  · iapply Hback
    isplitl [Hat]; · iexact Hat
    isplitl [Hpay] <;> iassumption
  isplitl [Hh]; · iexact Hh
  iexists _
  rw [owed_same c (n := x.fin) (n' := x.fin + 1) (fin_todo x)]
  iexact HO

/-- A send. -/
theorem step_send (x : Cell) (hx : x.own = true) {n : ℕ} (hn : n = x.start) {d : Dev nD} (hd : d = peer c x)
    {s r : DmaSem sig} (hs : s = x.num) (hr : r = x.mate.num) {sh : Shape} {src dst : Memref sig .tc .hbm sh .f32} (V : sh.Idx → Elt F .f32)
    (hcr : dst.view.dmaCredit = x.amt)
    (hp : pay m c x = owns (c : Thread nD τ) src fullShare V)
    (hde : dest (F := F) c x = iprop(∃ X, owns (peer c x : Thread nD τ) dst fullShare X))
    (hq : pay m (peer c x) x.mate = owns (peer c x : Thread nD τ) dst fullShare V)
    {hsc : dst.view.ref.isScScratch = false}
    {hsrc : src.view.WordExact} {hdst : dst.view.WordExact}
    {hsem : DmaTarget.Typed .hbm (.dma r) (.remote (Dev.tc d : Thread nD τ) dst (.dma s) hsc : DmaTarget nD τ sig (c : Thread nD τ).2 .hbm sh .f32)}
    (h : iprop(known m K ∗ St m c (x.start + 1)) ⊢ wp frame (wpE (defs₀ (F := F)) 𝒱₀ (c : Thread nD τ) none) Set.univ (k ⟨⟩) Q) :
    iprop(known m K ∗ St m c n)
      ⊢ wp frame (wpE (defs₀ (F := F)) 𝒱₀ (c : Thread nD τ) none) Set.univ
          (.op (.enqueueDma src (.remote (Dev.tc d : Thread nD τ) dst (.dma s) hsc) (.dma r) hsrc hdst hsem) k) Q := by
  subst hn hd hs hr
  unfold St
  iintro ⟨#HK, Hres, Hh, %W, HO⟩
  ihave Hres := (st_turn m c x (start_at x hx).1 (start_at x hx).2 (fun y hy => start_ne x y hx hy)) $$ Hres
  rw [res_four, res_one]; unfold head; rw [hde, hp]; unfold owns
  icases Hres with ⟨⟨⟨Htok, Hat, Htok', %X, %fd, %hfd, Hdst⟩, ⟨%fs, %hfs, Hsrc⟩, Hkeep⟩, Hback⟩
  iapply (Rounds.wp_send_pointsTo 𝒱₀ ER (Rd m) (c : Thread nD τ) none (c' := (peer c x : Thread nD τ)) (src := src) (dst := dst)
      (κ₁ := K (c, x)) (κ₂ := K (peer c x, x.mate)) (r₁ := 0) (r₂ := 0) (d₁ := ()) (d₂ := ()) (fs := fs) (fd := fd) (q := fullShare)
      (duties_mem m c x) (duties_mem m (peer c x) x.mate) () () (x.amt) hcr
      (amount_eq m c x ()) ((amount_eq m (peer c x) x.mate ()).trans (by rw [Cell.mate_amt])) (owed c (x.start + 1))
      (owed_start c x hx) (W := W)
      (by rw [payload_eq, hp]; exact owns_intro (c : Thread nD τ) src fullShare fs _ hfs)
      (by rw [payload_eq, hq]; exact owns_written (peer c x : Thread nD τ) dst fd _ _ hfs)) $$ [Htok Htok' Hsrc Hdst HO]
  · isplitr; · iapply (known_inv m K c x); iexact HK
    isplitr; · iapply (known_inv m K (peer c x) x.mate); iexact HK
    isplitl [Hsrc]; · iexact Hsrc
    isplitl [Hdst]; · iexact Hdst
    isplitl [HO]; · iexact HO
    isplitl [Htok]; · iexact Htok
    isplitr; · iapply (known_reached m K c x); iexact HK
    isplitl [Htok']; · iexact Htok'
    iapply (known_reached m K (peer c x) x.mate); iexact HK
  iintro ⟨Hcr, HO⟩
  iapply h
  unfold St
  isplitr; · iexact HK
  isplitr [HO Hh]
  · iapply Hback
    isplitl [Hat]; · iexact Hat
    isplitl [Hcr] <;> iassumption
  isplitl [Hh]; · iexact Hh
  iexists _; iexact HO

/-- The send of the other side's region of chip `j` to the other device of the chip. -/
theorem step_sib (w j : Fin 4) {n : ℕ} (hn : n = (Cell.sibS w j).start) {d : Dev nD} (hd : d = sib c)
    {s r : DmaSem sig} (hs : s = (Cell.sibS w j).num) (hr : r = (Cell.sibR w j).num)
    {off : Fin 2 → ℕ} (hoff : off = ![H w * (2 * j.val + (side (sib c)).val), 0]) {off' : Fin 3 → ℕ} (hoff' : off' = ![j.val, 0, 0])
    {inb : ∀ a, off a + (halfS w).size a ≤ (allS w).size a} {inb' : ∀ a, off' a + (oneS w).size a ≤ (fourS w).size a}
    {hsc : (sibSl w off' inb').view.ref.isScScratch = false}
    {hsrc : (inSl w off inb).view.WordExact} {hdst : (sibSl w off' inb').view.WordExact}
    {hsem : DmaTarget.Typed .hbm (.dma r) (.remote (Dev.tc d : Thread nD τ) (sibSl w off' inb') (.dma s) hsc : DmaTarget nD τ sig (c : Thread nD τ).2 .hbm (halfS w) .f32)}
    (h : iprop(known m K ∗ St m c ((Cell.sibS w j).start + 1)) ⊢ wp frame (wpE (defs₀ (F := F)) 𝒱₀ (c : Thread nD τ) none) Set.univ (k ⟨⟩) Q) :
    iprop(known m K ∗ St m c n)
      ⊢ wp frame (wpE (defs₀ (F := F)) 𝒱₀ (c : Thread nD τ) none) Set.univ
          (.op (.enqueueDma (inSl w off inb) (.remote (Dev.tc d : Thread nD τ) (sibSl w off' inb') (.dma s) hsc) (.dma r) hsrc hdst hsem) k) Q := by
  subst hoff hoff'
  exact step_send m K c (.sibS w j) rfl hn hd hs hr (Vp m c w j (side (sib c))) (credit_sib w _ _) rfl rfl
    (by show owns _ _ _ (Vp m (sib (sib c)) w j (side (sib c))) = _; rw [sib_sib]) h

/-- The send of a chip's sum to the device of the same side on the chip it is for. -/
theorem step_far (w : Fin 4) (j : Fin 3) {n : ℕ} (hn : n = (Cell.farS w j).start) {d : Dev nD} (hd : d = oth j c)
    {s r : DmaSem sig} (hs : s = (Cell.farS w j).num) (hr : r = (Cell.farR w j).num)
    {off : Fin 3 → ℕ} (hoff : off = ![(owner c j).val, 0, 0]) {off' : Fin 3 → ℕ} (hoff' : off' = ![j.val, 0, 0])
    {inb : ∀ a, off a + (oneS w).size a ≤ (fourS w).size a} {inb' : ∀ a, off' a + (oneS w).size a ≤ (threeS w).size a}
    {hsc : (farSl w off' inb').view.ref.isScScratch = false}
    {hsrc : (sumSl w off inb).view.WordExact} {hdst : (farSl w off' inb').view.WordExact}
    {hsem : DmaTarget.Typed .hbm (.dma r) (.remote (Dev.tc d : Thread nD τ) (farSl w off' inb') (.dma s) hsc : DmaTarget nD τ sig (c : Thread nD τ).2 .hbm (halfS w) .f32)}
    (h : iprop(known m K ∗ St m c ((Cell.farS w j).start + 1)) ⊢ wp frame (wpE (defs₀ (F := F)) 𝒱₀ (c : Thread nD τ) none) Set.univ (k ⟨⟩) Q) :
    iprop(known m K ∗ St m c n)
      ⊢ wp frame (wpE (defs₀ (F := F)) 𝒱₀ (c : Thread nD τ) none) Set.univ
          (.op (.enqueueDma (sumSl w off inb) (.remote (Dev.tc d : Thread nD τ) (farSl w off' inb') (.dma s) hsc) (.dma r) hsrc hdst hsem) k) Q := by
  subst hoff hoff'
  exact step_send m K c (.farS w j) rfl hn hd hs hr (Sm m c w (owner c j)) (credit_far w _ _) rfl rfl
    (by show owns _ _ _ (Sm m (oth j (oth j c)) w (chip (oth j c))) = _; rw [oth_oth]) h

/-- The send of the whole sum of the device's region to the other device of the chip. -/
theorem step_fin (w : Fin 4) {n : ℕ} (hn : n = (Cell.finS w).start) {d : Dev nD} (hd : d = sib c)
    {s r : DmaSem sig} (hs : s = (Cell.finS w).num) (hr : r = (Cell.finR w).num)
    {off off' : Fin 2 → ℕ} (hoff : off = ![H w * (side c).val, 0]) (hoff' : off' = ![H w * (side c).val, 0])
    {inb : ∀ a, off a + (halfS w).size a ≤ (blkS w).size a} {inb' : ∀ a, off' a + (halfS w).size a ≤ (blkS w).size a}
    {hsc : (outSl w off' inb').view.ref.isScScratch = false}
    {hsrc : (outSl w off inb).view.WordExact} {hdst : (outSl w off' inb').view.WordExact}
    {hsem : DmaTarget.Typed .hbm (.dma r) (.remote (Dev.tc d : Thread nD τ) (outSl w off' inb') (.dma s) hsc : DmaTarget nD τ sig (c : Thread nD τ).2 .hbm (halfS w) .f32)}
    (h : iprop(known m K ∗ St m c ((Cell.finS w).start + 1)) ⊢ wp frame (wpE (defs₀ (F := F)) 𝒱₀ (c : Thread nD τ) none) Set.univ (k ⟨⟩) Q) :
    iprop(known m K ∗ St m c n)
      ⊢ wp frame (wpE (defs₀ (F := F)) 𝒱₀ (c : Thread nD τ) none) Set.univ
          (.op (.enqueueDma (outSl w off inb) (.remote (Dev.tc d : Thread nD τ) (outSl w off' inb') (.dma s) hsc) (.dma r) hsrc hdst hsem) k) Q := by
  subst hoff hoff'
  exact step_send m K c (.finS w) rfl hn hd hs hr (Mine m c w) (credit_out w _ _) rfl rfl
    (by show owns (sib c : Thread nD τ) (outR w (side (sib (sib c)))) fullShare (Mine m (sib (sib c)) w) = _; rw [sib_sib]; rfl) h

end Steps

end Cert.Reducing
-- ==== Proof.RStream.lean ====
/-
# The reduction of the gradients: the sums

A sum is computed some rows at a time: each addend's rows are copied into a working buffer and loaded, and what is
added up is stored in a third buffer and copied out. The state inside a sum says of the destination that its first
`r` rows are done.
-/
module

public import proofs.«01_k».proof.Proof.RSteps
public import Idealize.ShloMosaic.Lib.Transfers
public import Idealize.ShloMosaic.Lib.Scf
public import Idealize.ShloMosaic.Lib.Pipeline.ValueKit.Geometry

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Some rows of a region's contents. -/
def rowsOf {h : ℕ} (X : Vec F (rowS h) .f32) (r : ℕ) (off : Fin 2 → ℕ) (inb : ∀ a, off a + (rowS r).size a ≤ (rowS h).size a) :
    Vec F (rowS r) .f32 := fun i => X ((Rect.unit (s := rowS h) off (rowS r).size inb).emb i)

/-- A region whose first `r` rows are as `Z` has them. -/
def part (c : Dev nD) {h : ℕ} (D : Memref sig .tc .hbm (rowS h) .f32) (r : ℕ) (Z : Vec F (rowS h) .f32) : sProp 𝕄 :=
  iprop(∃ f, ⌜∀ i : (rowS h).Idx, (i 0).val < r → D.view.read (Elt F) f i = Z i⌝ ∗ (D.view.loc (c : Thread nD τ) ↦[D.view.set]{fullShare} f))

theorem part_zero (c : Dev nD) {h : ℕ} (D : Memref sig .tc .hbm (rowS h) .f32) (Z : Vec F (rowS h) .f32) :
    iprop(∃ X, owns (c : Thread nD τ) D fullShare X) ⊢ (part c D 0 Z : sProp 𝕄) := by
  unfold part owns
  iintro ⟨%X, %f, %hf, H⟩
  iexists f
  isplitr; · ipureintro; exact fun i hi => absurd hi (Nat.not_lt_zero _)
  iexact H

theorem part_all (c : Dev nD) {h : ℕ} (D : Memref sig .tc .hbm (rowS h) .f32) (Z : Vec F (rowS h) .f32) :
    (part c D h Z : sProp 𝕄) ⊢ owns (c : Thread nD τ) D fullShare Z := by
  unfold part owns
  iintro ⟨%f, %hf, H⟩
  iexists f
  isplitr; · ipureintro; exact funext fun i => hf i (i 0).isLt
  iexact H

/-- Device `c` inside a sum, before step `n`: the addends `P`, the destination, and the rest `Fr`. -/
def CS (K : Dev nD × Cell → ℕ) (c : Dev nD) (n : ℕ) (P : sProp 𝕄) {h : ℕ} (D : Memref sig .tc .hbm (rowS h) .f32) (r : ℕ) (Z : Vec F (rowS h) .f32) (Fr : sProp 𝕄) : sProp 𝕄 :=
  iprop(known m K ∗ P ∗ part c D r Z ∗ hands c ∗ (∃ W, owes (c : Thread nD τ) (owed c n) W) ∗ Fr)

theorem work_take (c : Dev nD) (b : Fin 3) :
    (work c : sProp 𝕄) ⊢ iprop(((∃ f, ((bufM b).view.loc (c : Thread nD τ) ↦[Finset.univ]{fullShare} f)) ∗ semVal ((c : Thread nD τ), .dma ioNum) 0)
      ∗ (((∃ f, ((bufM b).view.loc (c : Thread nD τ) ↦[Finset.univ]{fullShare} f)) ∗ semVal ((c : Thread nD τ), .dma ioNum) 0) -∗ work c)) := by
  unfold work
  fin_cases b
  all_goals
    iintro ⟨H0, H1, H2, Hv⟩
  · isplitl [H0 Hv]
    · isplitl [H0] <;> iassumption
    iintro ⟨H0, Hv⟩
    isplitl [H0]; · iexact H0
    isplitl [H1]; · iexact H1
    isplitl [H2] <;> iassumption
  · isplitl [H1 Hv]
    · isplitl [H1] <;> iassumption
    iintro ⟨H1, Hv⟩
    isplitl [H0]; · iexact H0
    isplitl [H1]; · iexact H1
    isplitl [H2] <;> iassumption
  · isplitl [H2 Hv]
    · isplitl [H2] <;> iassumption
    iintro ⟨H2, Hv⟩
    isplitl [H0]; · iexact H0
    isplitl [H1]; · iexact H1
    isplitl [H2] <;> iassumption

theorem hands_take (c : Dev nD) (b : Fin 3) :
    (hands c : sProp 𝕄) ⊢ iprop(((∃ f, ((bufM b).view.loc (c : Thread nD τ) ↦[Finset.univ]{fullShare} f)) ∗ semVal ((c : Thread nD τ), .dma ioNum) 0)
      ∗ (((∃ f, ((bufM b).view.loc (c : Thread nD τ) ↦[Finset.univ]{fullShare} f)) ∗ semVal ((c : Thread nD τ), .dma ioNum) 0) -∗ hands c)) := by
  unfold hands
  iintro ⟨Hw, Hr⟩
  ihave ⟨H, Hback⟩ := (work_take c b) $$ Hw
  isplitl [H]; · iexact H
  iintro H
  isplitr [Hr]
  · iapply Hback; iexact H
  iexact Hr

section Chunk

variable (K : Dev nD × Cell → ℕ) (c : Dev nD)
variable {α : Type} {Q : α → sProp (MT nD τ sig Unit (Elt F) ℕ UU ℕ)}
variable {n : ℕ} {P : sProp (MT nD τ sig Unit (Elt F) ℕ UU ℕ)} {h : ℕ} {D : Memref sig .tc .hbm (rowS h) .f32} {r : ℕ} {Z : Vec F (rowS h) .f32} {Fr : sProp (MT nD τ sig Unit (Elt F) ℕ UU ℕ)}

theorem io_mayWait : (levAts L lv : sProp 𝕄) ⊢ MayWait (c : Thread nD τ) (.dma ioNum) () (owed c n) :=
  mayWait c ioNum 0 n (lv_io c) fun y hy => own_lev y hy.1

/-- Some rows of an addend, copied into a working buffer and loaded. -/
theorem step_fetch (A : Memref sig .tc .hbm (rowS h) .f32) (X : Vec F (rowS h) .f32)
    (hP : P ⊢ iprop(owns (c : Thread nD τ) A fullShare X ∗ (owns (c : Thread nD τ) A fullShare X -∗ P)))
    (b : Fin 3) {s s' : DmaSem sig} (hs : s = ioNum) (hs' : s' = ioNum) {l : ℕ} (hl : 0 < (rowS l).numel)
    {off : Fin 2 → ℕ} {inb : ∀ a, off a + (rowS l).size a ≤ (rowS h).size a} {inb₀ : ∀ a, (![0, 0] : Fin 2 → ℕ) a + (rowS l).size a ≤ S256x2048.size a}
    {h1 h2 h3 h4 h5 hld}
    {k : Vec F (rowS l) .f32 → Prog (TpuEff nD τ sig (Elt F) Λ₀ .tc) α}
    (hk : CS m K c n P D r Z Fr ⊢ wp frame (wpE (defs₀ (F := F)) 𝒱₀ (c : Thread nD τ) none) Set.univ (k (rowsOf X l off inb)) Q) :
    CS m K c n P D r Z Fr ⊢ wp frame (wpE (defs₀ (F := F)) 𝒱₀ (c : Thread nD τ) none) Set.univ
      (.op (.enqueueDma (A.slice (Rect.unit (s := rowS h) off (rowS l).size inb) (fun _ => rfl))
          (.here ((bufM b).slice (Rect.unit (s := S256x2048) ![0, 0] (rowS l).size inb₀) (fun _ => rfl))) (.dma s) h1 h2 h3) fun _ =>
        .op (.waitDma2 s' (A.slice (Rect.unit (s := rowS h) off (rowS l).size inb) (fun _ => rfl))
          ((bufM b).slice (Rect.unit (s := S256x2048) ![0, 0] (rowS l).size inb₀) (fun _ => rfl)) h4 h5) fun _ =>
        .op (.load (bufM b) (Rect.unit (s := S256x2048) ![0, 0] (rowS l).size inb₀).toLoadRect hld) k) Q := by
  subst hs hs'
  unfold CS
  iintro ⟨#HK, HP, Hpart, Hh, ⟨%W, HO⟩, HFr⟩
  ihave HP := hP $$ HP
  unfold owns
  icases HP with ⟨⟨%fs, %hfs, HA⟩, HPback⟩
  ihave HA := (pointsTo_split_subset (View.set_slice_subset (v := A.view) (Rect.unit (s := rowS h) off (rowS l).size inb))).1 $$ HA
  icases HA with ⟨Hc, Hrest⟩
  ihave Hh := (hands_take c b) $$ Hh
  icases Hh with ⟨⟨⟨%fb, Hb⟩, Hv⟩, Hhback⟩
  iapply (Transfers.wp_dmaLocal EC 𝒱₀ (c : Thread nD τ) none (src := A.slice (Rect.unit (s := rowS h) off (rowS l).size inb) (fun _ => rfl))
      (dst := (bufM b).slice (Rect.unit (s := S256x2048) ![0, 0] (rowS l).size inb₀) (fun _ => rfl)) (Sd := Finset.univ) (fs := fs) (fd := fb) (q := fullShare)
      () _ rfl (View.dmaCredit_pos _ hl) (Finset.subset_univ _)) $$ [Hc Hb Hv]
  · isplitl [Hc]; · iexact Hc
    isplitl [Hb] <;> iassumption
  iintro HF
  iapply (Transfers.wp_waitLocalO EC 𝒱₀ (c : Thread nD τ) none () rfl (O := owed c n) (W := W)) $$ [HF HO]
  · isplitl [HF]; · iexact HF
    isplitl [HO]; · iexact HO
    iapply (io_mayWait c); iapply (known_lev m K); iexact HK
  iintro ⟨⟨Hb, Hc⟩, Hv, HO⟩
  iapply (wp_load_rect 𝒱₀ (c : Thread nD τ) none Set.univ (m := bufM b) (r := Rect.unit (s := S256x2048) ![0, 0] (rowS l).size inb₀) (Finset.subset_univ _)) $$ Hb
  iintro Hb
  have e : ((bufM b).access (Rect.unit (s := S256x2048) ![0, 0] (rowS l).size inb₀)).read (Elt F)
      (((bufM b).slice (Rect.unit (s := S256x2048) ![0, 0] (rowS l).size inb₀) (fun _ => rfl)).view.write (Elt F) fb
        (ReadAs.same.apply ((A.slice (Rect.unit (s := rowS h) off (rowS l).size inb) (fun _ => rfl)).view.read (Elt F) fs)) Finset.univ)
      = rowsOf X l off inb := by
    refine (View.read_write_univ (v := ((bufM b).access (Rect.unit (s := S256x2048) ![0, 0] (rowS l).size inb₀))) fb _).trans ?_
    subst hfs; rfl
  rw [e]
  iapply hk
  unfold CS
  isplitr; · iexact HK
  isplitl [HPback Hc Hrest]
  · iapply HPback
    iexists fs
    isplitr; · ipureintro; exact hfs
    iapply (pointsTo_split_subset (View.set_slice_subset (v := A.view) (Rect.unit (s := rowS h) off (rowS l).size inb))).2
    isplitl [Hc] <;> iassumption
  isplitl [Hpart]; · iexact Hpart
  isplitl [Hb Hv Hhback]
  · iapply Hhback
    isplitl [Hb]; · iexists _; iexact Hb
    iexact Hv
  isplitl [HO]; · iexists _; iexact HO
  iexact HFr

/-- What was added up, stored and copied out. -/
theorem step_put {s s' : DmaSem sig} (hs : s = ioNum) (hs' : s' = ioNum) {l : ℕ} (hl : 0 < (rowS l).numel)
    {off : Fin 2 → ℕ} (hoff : off = ![r, 0]) {inb : ∀ a, off a + (rowS l).size a ≤ (rowS h).size a} {inb₀ : ∀ a, (![0, 0] : Fin 2 → ℕ) a + (rowS l).size a ≤ S256x2048.size a}
    {w : Vec F (rowS l) .f32} (hw : w = rowsOf Z l off inb)
    {h1 h2 h3 h4 h5 hld hst hst'}
    {k : PUnit → Prog (TpuEff nD τ sig (Elt F) Λ₀ .tc) α}
    (hk : CS m K c n P D (r + l) Z Fr ⊢ wp frame (wpE (defs₀ (F := F)) 𝒱₀ (c : Thread nD τ) none) Set.univ (k ⟨⟩) Q) :
    CS m K c n P D r Z Fr ⊢ wp frame (wpE (defs₀ (F := F)) 𝒱₀ (c : Thread nD τ) none) Set.univ
      (.op (.load (bufM 2) (Rect.unit (s := S256x2048) ![0, 0] (rowS l).size inb₀).toLoadRect hld) fun _ =>
        .op (.store (bufM 2) (Rect.unit (s := S256x2048) ![0, 0] (rowS l).size inb₀) w Finset.univ hst hst') fun _ =>
        .op (.enqueueDma ((bufM 2).slice (Rect.unit (s := S256x2048) ![0, 0] (rowS l).size inb₀) (fun _ => rfl))
          (.here (D.slice (Rect.unit (s := rowS h) off (rowS l).size inb) (fun _ => rfl))) (.dma s) h1 h2 h3) fun _ =>
        .op (.waitDma2 s' ((bufM 2).slice (Rect.unit (s := S256x2048) ![0, 0] (rowS l).size inb₀) (fun _ => rfl))
          (D.slice (Rect.unit (s := rowS h) off (rowS l).size inb) (fun _ => rfl)) h4 h5) k) Q := by
  subst hs hs' hoff
  unfold CS
  iintro ⟨#HK, HP, Hpart, Hh, ⟨%W, HO⟩, HFr⟩
  unfold part
  icases Hpart with ⟨%fd, %hfd, Hd⟩
  ihave Hh := (hands_take c 2) $$ Hh
  icases Hh with ⟨⟨⟨%fb, Hb⟩, Hv⟩, Hhback⟩
  iapply (wp_load_rect 𝒱₀ (c : Thread nD τ) none Set.univ (m := bufM 2) (r := Rect.unit (s := S256x2048) ![0, 0] (rowS l).size inb₀) (Finset.subset_univ _)) $$ Hb
  iintro Hb
  iapply (wp_store 𝒱₀ (c : Thread nD τ) none Set.univ (m := bufM 2) (r := Rect.unit (s := S256x2048) ![0, 0] (rowS l).size inb₀) (Finset.subset_univ _)) $$ Hb
  iintro Hb
  ihave Hb := (pointsTo_split_subset (Finset.subset_univ (((bufM 2).slice (Rect.unit (s := S256x2048) ![0, 0] (rowS l).size inb₀) (fun _ => rfl)).view.set))).1 $$ Hb
  icases Hb with ⟨Hb, Hbr⟩
  iapply (Transfers.wp_dmaLocal EC 𝒱₀ (c : Thread nD τ) none (src := (bufM 2).slice (Rect.unit (s := S256x2048) ![0, 0] (rowS l).size inb₀) (fun _ => rfl))
      (dst := D.slice (Rect.unit (s := rowS h) ![r, 0] (rowS l).size inb) (fun _ => rfl)) (Sd := D.view.set)
      (fs := ((bufM 2).access (Rect.unit (s := S256x2048) ![0, 0] (rowS l).size inb₀)).write (Elt F) fb w Finset.univ) (fd := fd) (q := fullShare)
      () _ rfl (View.dmaCredit_pos _ hl)
      (View.set_slice_subset (v := D.view) _)) $$ [Hb Hd Hv]
  · isplitl [Hb]; · iexact Hb
    isplitl [Hd] <;> iassumption
  iintro HF
  iapply (Transfers.wp_waitLocalO EC 𝒱₀ (c : Thread nD τ) none () rfl (O := owed c n) (W := W)) $$ [HF HO]
  · isplitl [HF]; · iexact HF
    isplitl [HO]; · iexact HO
    iapply (io_mayWait c); iapply (known_lev m K); iexact HK
  iintro ⟨⟨Hd, Hb⟩, Hv, HO⟩
  ihave Hb := (pointsTo_split_subset (ℓ := (bufM 2).view.loc (c : Thread nD τ)) (q := fullShare)
    (f := ((bufM 2).access (Rect.unit (s := S256x2048) ![0, 0] (rowS l).size inb₀)).write (Elt F) fb w Finset.univ)
    (Finset.subset_univ (((bufM 2).slice (Rect.unit (s := S256x2048) ![0, 0] (rowS l).size inb₀) (fun _ => rfl)).view.set))).2 $$ [Hb Hbr]
  · isplitl [Hb] <;> iassumption
  have e : ((bufM 2).slice (Rect.unit (s := S256x2048) ![0, 0] (rowS l).size inb₀) (fun _ => rfl)).view.read (Elt F)
      (((bufM 2).access (Rect.unit (s := S256x2048) ![0, 0] (rowS l).size inb₀)).write (Elt F) fb w Finset.univ) = w :=
    View.read_write_univ (v := ((bufM 2).access (Rect.unit (s := S256x2048) ![0, 0] (rowS l).size inb₀))) fb w
  iapply hk
  unfold CS part
  isplitr; · iexact HK
  isplitl [HP]; · iexact HP
  isplitl [Hd]
  · iexists _
    isplitr
    swap; · iexact Hd
    ipureintro
    intro i hi
    show D.view.read (Elt F) ((D.view.slice (Rect.unit (s := rowS h) ![r, 0] (rowS l).size inb)).write (Elt F) fd
      (((bufM 2).slice (Rect.unit (s := S256x2048) ![0, 0] (rowS l).size inb₀) (fun _ => rfl)).view.read (Elt F)
        (((bufM 2).access (Rect.unit (s := S256x2048) ![0, 0] (rowS l).size inb₀)).write (Elt F) fb w Finset.univ)) Finset.univ) i = Z i
    rw [e]
    by_cases hr : (i 0).val < r
    · rw [View.read_slice_write_of_not_mem]
      · exact hfd i hr
      · intro hm
        obtain ⟨j, -, hj⟩ := Finset.mem_map.mp hm
        have h0 := ValueKit.rect_emb_unit_val (s := rowS h) ![r, 0] (rowS l).size inb j 0
        rw [show ((Rect.unit (s := rowS h) ![r, 0] (rowS l).size inb).emb j 0).val = (i 0).val from congrArg (fun t : (rowS h).Idx => (t 0).val) hj] at h0
        have h1 : (![r, 0] : Fin 2 → ℕ) 0 = r := rfl
        rw [h1] at h0
        omega
    · have hlt : (i 0).val - r < l := by omega
      let j : (rowS l).Idx := Fin.cons (α := fun a => Fin ((rowS l).size a)) ⟨(i 0).val - r, hlt⟩ (fun a => Fin.cases (motive := fun a => Fin ((rowS l).size a.succ)) (i 1) (fun a => a.elim0) a)
      have hj : (Rect.unit (s := rowS h) ![r, 0] (rowS l).size inb).emb j = i := by
        funext a
        apply Fin.ext
        rw [ValueKit.rect_emb_unit_val]
        fin_cases a
        · show r + ((i 0).val - r) = (i 0).val
          omega
        · show 0 + (i 1).val = (i 1).val
          omega
      rw [← hj, View.read_slice_write_emb _ _ _ (Finset.mem_univ j), hw]
      rfl
  isplitl [Hb Hv Hhback]
  · iapply Hhback
    isplitl [Hb]; · iexists _; iexact Hb
    iexact Hv
  isplitl [HO]; · iexists _; iexact HO
  iexact HFr

end Chunk

end Cert.Reducing
-- ==== Proof.RSum.lean ====
/-
# The reduction of the gradients: the three kinds of sum

A chip's sum for another chip, a chip's sum for itself and the whole sum of a region: what the state before each
gives the sum, and the state its result makes.
-/
module

public import proofs.«01_k».proof.Proof.RStream
public import Idealize.ShloMosaic.Lib.Transfers
public import Idealize.ShloMosaic.Lib.Scf
public import Idealize.ShloMosaic.Lib.Pipeline.ValueKit.Geometry

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A whole buffer's memref is whole. -/
theorem whole {κ : Kind} {b : Ref sig κ} : (Memref.whole b).IsWhole := Memref.isWhole_whole b

/-! ## The order of the sums -/

theorem far_at (w : Fin 4) (j : Fin 3) : Cell.at (Cell.farS w j).strm (.farS w j) = 0 ∧ Cell.at ((Cell.farS w j).strm + 1) (.farS w j) = 4 := by
  revert w j; decide +kernel
theorem far_ne (w : Fin 4) (j : Fin 3) (y : Cell) (h : y ≠ .farS w j) : Cell.at ((Cell.farS w j).strm + 1) y = Cell.at (Cell.farS w j).strm y := by
  revert w j y; decide +kernel
theorem far_sib (w : Fin 4) (j : Fin 3) (k : Fin 4) : Cell.at (Cell.farS w j).strm (.sibR w k) = 2 := by revert w j k; decide +kernel
theorem far_todo (w : Fin 4) (j : Fin 3) (y : Cell) : Cell.todo ((Cell.farS w j).strm + 1) y ↔ Cell.todo (Cell.farS w j).strm y := by
  revert w j y; decide +kernel
theorem own_at (w : Fin 4) : Cell.at (strm0 w) (.finS w) = 0 ∧ Cell.at (strm0 w + 1) (.finS w) = 5 := by revert w; decide +kernel
theorem own_ne (w : Fin 4) (y : Cell) (h : y ≠ .finS w) : Cell.at (strm0 w + 1) y = Cell.at (strm0 w) y := by revert w y; decide +kernel
theorem own_sib (w k : Fin 4) : Cell.at (strm0 w) (.sibR w k) = 2 := by revert w k; decide +kernel
theorem own_todo (w : Fin 4) (y : Cell) : Cell.todo (strm0 w + 1) y ↔ Cell.todo (strm0 w) y := by revert w y; decide +kernel
theorem end_at (w : Fin 4) : Cell.at (Cell.finS w).strm (.finS w) = 5 ∧ Cell.at ((Cell.finS w).strm + 1) (.finS w) = 4 := by revert w; decide +kernel
theorem end_ne (w : Fin 4) (y : Cell) (h : y ≠ .finS w) : Cell.at ((Cell.finS w).strm + 1) y = Cell.at (Cell.finS w).strm y := by
  revert w y; decide +kernel
theorem end_far (w : Fin 4) (j : Fin 3) : Cell.at (Cell.finS w).strm (.farR w j) = 2 := by revert w j; decide +kernel
theorem end_todo (w : Fin 4) (y : Cell) : Cell.todo ((Cell.finS w).strm + 1) y ↔ Cell.todo (Cell.finS w).strm y := by revert w y; decide +kernel

theorem res_zero (c : Dev nD) (x : Cell) : res (F := F) m c x 0 = iprop(head c x ∗ raw c x ∗ raw0 c x) := rfl
theorem res_five (c : Dev nD) (x : Cell) : res (F := F) m c x 5 = iprop(head c x ∗ raw c x ∗ keep m c x) := rfl

/-- What a device holds for the cells but the two. -/
def rest2 (c : Dev nD) (n : ℕ) (x y : Cell) : sProp 𝕄 := bigSep ((Finset.univ.erase x).erase y) fun z => res m c z (Cell.at n z)

theorem cells2 (c : Dev nD) (x y : Cell) (hne : y ≠ x) (n a b : ℕ) (ha : Cell.at n x = a) (hb : Cell.at n y = b) :
    (bigSep Finset.univ fun z : Cell => res (F := F) m c z (Cell.at n z)) = iprop(res m c x a ∗ res m c y b ∗ rest2 m c n x y) := by
  subst ha hb
  rw [bigSep_univ_at (fun y : Cell => res (F := F) m c y (Cell.at n y)) x, bigSep_erase (Finset.mem_erase.mpr ⟨hne, Finset.mem_univ _⟩)]
  rfl

theorem rest2_eq (c : Dev nD) (x y : Cell) (n n' : ℕ) (h : ∀ z, z ≠ x → Cell.at n' z = Cell.at n z) : rest2 (F := F) m c n x y = rest2 m c n' x y :=
  bigSep_congr fun z hz => by rw [h z (Finset.ne_of_mem_erase (Finset.mem_of_mem_erase hz))]

/-- What a device holds for the cells but the four. -/
def rest4 (c : Dev nD) (n : ℕ) (x y y' y'' : Cell) : sProp 𝕄 :=
  bigSep ((((Finset.univ.erase x).erase y).erase y').erase y'') fun z => res m c z (Cell.at n z)

theorem cells4 (c : Dev nD) (x y y' y'' : Cell) (hy : y ≠ x) (hy' : y' ≠ x ∧ y' ≠ y) (hy'' : y'' ≠ x ∧ y'' ≠ y ∧ y'' ≠ y') (n a b : ℕ)
    (ha : Cell.at n x = a) (hb : Cell.at n y = b) (hb' : Cell.at n y' = b) (hb'' : Cell.at n y'' = b) :
    (bigSep Finset.univ fun z : Cell => res (F := F) m c z (Cell.at n z))
      = iprop(res m c x a ∗ res m c y b ∗ res m c y' b ∗ res m c y'' b ∗ rest4 m c n x y y' y'') := by
  subst ha
  rw [bigSep_univ_at (fun y : Cell => res (F := F) m c y (Cell.at n y)) x, bigSep_erase (Finset.mem_erase.mpr ⟨hy, Finset.mem_univ _⟩),
    bigSep_erase (Finset.mem_erase.mpr ⟨hy'.2, Finset.mem_erase.mpr ⟨hy'.1, Finset.mem_univ _⟩⟩),
    bigSep_erase (Finset.mem_erase.mpr ⟨hy''.2.2, Finset.mem_erase.mpr ⟨hy''.2.1, Finset.mem_erase.mpr ⟨hy''.1, Finset.mem_univ _⟩⟩⟩)]
  rw [hb, hb', hb'']
  rfl

theorem rest4_eq (c : Dev nD) (x y y' y'' : Cell) (n n' : ℕ) (h : ∀ z, z ≠ x → Cell.at n' z = Cell.at n z) :
    rest4 (F := F) m c n x y y' y'' = rest4 m c n' x y y' y'' :=
  bigSep_congr fun z hz => by
    rw [h z (Finset.ne_of_mem_erase (Finset.mem_of_mem_erase (Finset.mem_of_mem_erase (Finset.mem_of_mem_erase hz))))]

/-- The addends of a chip's sum for chip `k`. -/
def P2 (c : Dev nD) (w k : Fin 4) : sProp 𝕄 :=
  iprop(owns (c : Thread nD τ) (inR w k (side c)) fullShare (Vp m c w k (side c)) ∗ owns (c : Thread nD τ) (sibR w k) fullShare (Vp m (sib c) w k (side c)))
/-- The addends of the whole sum. -/
def P4 (c : Dev nD) (w : Fin 4) : sProp 𝕄 :=
  iprop(owns (c : Thread nD τ) (sumR w (chip c)) fullShare (Sm m c w (chip c)) ∗ owns (c : Thread nD τ) (farR w 0) fullShare (Sm m (oth 0 c) w (chip c))
    ∗ owns (c : Thread nD τ) (farR w 1) fullShare (Sm m (oth 1 c) w (chip c)) ∗ owns (c : Thread nD τ) (farR w 2) fullShare (Sm m (oth 2 c) w (chip c)))

theorem P2_in (c : Dev nD) (w k : Fin 4) : P2 m c w k ⊢ iprop(owns (c : Thread nD τ) (inR w k (side c)) fullShare (Vp m c w k (side c))
    ∗ (owns (c : Thread nD τ) (inR w k (side c)) fullShare (Vp m c w k (side c)) -∗ P2 m c w k)) := by
  unfold P2; iintro ⟨Ha, Hb⟩; isplitl [Ha]; · iexact Ha
  iintro Ha; isplitl [Ha]; · iexact Ha
  iexact Hb
theorem P2_sib (c : Dev nD) (w k : Fin 4) : P2 m c w k ⊢ iprop(owns (c : Thread nD τ) (sibR w k) fullShare (Vp m (sib c) w k (side c))
    ∗ (owns (c : Thread nD τ) (sibR w k) fullShare (Vp m (sib c) w k (side c)) -∗ P2 m c w k)) := by
  unfold P2; iintro ⟨Ha, Hb⟩; isplitl [Hb]; · iexact Hb
  iintro Hb; isplitl [Ha]; · iexact Ha
  iexact Hb
theorem P4_sum (c : Dev nD) (w : Fin 4) : P4 m c w ⊢ iprop(owns (c : Thread nD τ) (sumR w (chip c)) fullShare (Sm m c w (chip c))
    ∗ (owns (c : Thread nD τ) (sumR w (chip c)) fullShare (Sm m c w (chip c)) -∗ P4 m c w)) := by
  unfold P4; iintro ⟨Ha, Hb⟩; isplitl [Ha]; · iexact Ha
  iintro Ha; isplitl [Ha] <;> iassumption
theorem P4_far (c : Dev nD) (w : Fin 4) (j : Fin 3) : P4 m c w ⊢ iprop(owns (c : Thread nD τ) (farR w j) fullShare (Sm m (oth j c) w (chip c))
    ∗ (owns (c : Thread nD τ) (farR w j) fullShare (Sm m (oth j c) w (chip c)) -∗ P4 m c w)) := by
  unfold P4
  fin_cases j
  · iintro ⟨Ha, H0, H1, H2⟩; isplitl [H0]; · iexact H0
    iintro H0; isplitl [Ha]; · iexact Ha
    isplitl [H0]; · iexact H0
    isplitl [H1]; · iexact H1
    iexact H2
  · iintro ⟨Ha, H0, H1, H2⟩; isplitl [H1]; · iexact H1
    iintro H1; isplitl [Ha]; · iexact Ha
    isplitl [H0]; · iexact H0
    isplitl [H1]; · iexact H1
    iexact H2
  · iintro ⟨Ha, H0, H1, H2⟩; isplitl [H2]; · iexact H2
    iintro H2; isplitl [Ha]; · iexact Ha
    isplitl [H0]; · iexact H0
    isplitl [H1]; · iexact H1
    iexact H2

/-- What a device sets aside during the sums. -/
def FrFar (c : Dev nD) (w : Fin 4) (j : Fin 3) : sProp 𝕄 :=
  iprop(head c (.farS w j) ∗ atPos ER (gc c (.sibR w (owner c j))) 1 ∅ 0 ∗ rest2 m c (Cell.farS w j).strm (.farS w j) (.sibR w (owner c j)))
def FrOwn (c : Dev nD) (w : Fin 4) : sProp 𝕄 :=
  iprop(head c (.finS w) ∗ (∃ X, owns (c : Thread nD τ) (outR w (side c)) fullShare X) ∗ atPos ER (gc c (.sibR w (chip c))) 1 ∅ 0 ∗ rest2 m c (strm0 w) (.finS w) (.sibR w (chip c)))
def FrFin (c : Dev nD) (w : Fin 4) : sProp 𝕄 :=
  iprop(head c (.finS w) ∗ atPos ER (gc c (.farR w 0)) 1 ∅ 0 ∗ atPos ER (gc c (.farR w 1)) 1 ∅ 0 ∗ atPos ER (gc c (.farR w 2)) 1 ∅ 0
    ∗ rest4 m c (Cell.finS w).strm (.finS w) (.farR w 0) (.farR w 1) (.farR w 2))

section Sums

variable (K : Dev nD × Cell → ℕ) (c : Dev nD)
variable {α : Type} {Q : α → sProp (MT nD τ sig Unit (Elt F) ℕ UU ℕ)} {p : Prog (TpuEff nD τ sig (Elt F) Λ₀ .tc) α}

theorem open_far (w : Fin 4) (j : Fin 3) {n : ℕ} (hn : n = (Cell.farS w j).strm)
    (h : CS m K c (Cell.farS w j).strm (P2 m c w (owner c j)) (sumR w (owner c j)) 0 (Sm m c w (owner c j)) (FrFar m c w j)
      ⊢ wp frame (wpE (defs₀ (F := F)) 𝒱₀ (c : Thread nD τ) none) Set.univ p Q) :
    iprop(known m K ∗ St m c n) ⊢ wp frame (wpE (defs₀ (F := F)) 𝒱₀ (c : Thread nD τ) none) Set.univ p Q := by
  subst hn
  refine BIBase.Entails.trans ?_ h
  unfold St CS
  rw [cells2 m c (.farS w j) (.sibR w (owner c j)) (fun h => by cases h) _ _ _ (far_at w j).1 (far_sib w j _)]
  simp only [res_zero, res_five, res_four, res_two, pay, keep, raw, raw0]
  iintro ⟨#HK, ⟨⟨Hh, Hraw, -⟩, ⟨Hat, Hpay, Hkeep⟩, Hr⟩, Hhands, HO⟩
  isplitr; · iexact HK
  isplitl [Hpay Hkeep]
  · unfold P2
    isplitl [Hkeep]; · iexact Hkeep
    iexact Hpay
  isplitl [Hraw]; · iapply (part_zero c (sumR w (owner c j))); iexact Hraw
  isplitl [Hhands]; · iexact Hhands
  isplitl [HO]; · iexact HO
  unfold FrFar
  isplitl [Hh]; · iexact Hh
  isplitl [Hat] <;> iassumption

theorem close_far (w : Fin 4) (j : Fin 3) {r : ℕ} (hr : r = H w)
    (h : iprop(known m K ∗ St m c ((Cell.farS w j).strm + 1)) ⊢ wp frame (wpE (defs₀ (F := F)) 𝒱₀ (c : Thread nD τ) none) Set.univ p Q) :
    CS m K c (Cell.farS w j).strm (P2 m c w (owner c j)) (sumR w (owner c j)) r (Sm m c w (owner c j)) (FrFar m c w j)
      ⊢ wp frame (wpE (defs₀ (F := F)) 𝒱₀ (c : Thread nD τ) none) Set.univ p Q := by
  subst hr
  refine BIBase.Entails.trans ?_ h
  unfold St CS
  rw [cells2 m c (.farS w j) (.sibR w (owner c j)) (fun h => by cases h) ((Cell.farS w j).strm + 1) _ _ (far_at w j).2
    ((far_ne w j (.sibR w (owner c j)) (fun h => by cases h)).trans (far_sib w j _)),
    ← rest2_eq m c (.farS w j) (.sibR w (owner c j)) _ _ (far_ne w j), owed_same c (far_todo w j)]
  unfold P2 FrFar
  simp only [res_zero, res_five, res_four, res_two, pay, keep, raw, raw0]
  iintro ⟨#HK, ⟨Hin, Hsib⟩, Hpart, Hhands, HO, Hh, Hat, Hr⟩
  ihave Hsum := (part_all c (sumR w (owner c j)) (Sm m c w (owner c j))) $$ Hpart
  isplitr; · iexact HK
  isplitr [Hhands HO]
  · isplitl [Hh Hsum]
    · isplitl [Hh]; · iexact Hh
      isplitl [Hsum]; · iexact Hsum
      iempintro
    isplitl [Hat Hin Hsib]
    · isplitl [Hat]; · iexact Hat
      isplitl [Hsib]; · iexact Hsib
      iexact Hin
    iexact Hr
  isplitl [Hhands] <;> iassumption

theorem open_own (w : Fin 4) {n : ℕ} (hn : n = strm0 w)
    (h : CS m K c (strm0 w) (P2 m c w (chip c)) (sumR w (chip c)) 0 (Sm m c w (chip c)) (FrOwn m c w)
      ⊢ wp frame (wpE (defs₀ (F := F)) 𝒱₀ (c : Thread nD τ) none) Set.univ p Q) :
    iprop(known m K ∗ St m c n) ⊢ wp frame (wpE (defs₀ (F := F)) 𝒱₀ (c : Thread nD τ) none) Set.univ p Q := by
  subst hn
  refine BIBase.Entails.trans ?_ h
  unfold St CS
  rw [cells2 m c (.finS w) (.sibR w (chip c)) (fun h => by cases h) _ _ _ (own_at w).1 (own_sib w _)]
  simp only [res_zero, res_five, res_four, res_two, pay, keep, raw, raw0]
  iintro ⟨#HK, ⟨⟨Hh, Hraw, Hraw0⟩, ⟨Hat, Hpay, Hkeep⟩, Hr⟩, Hhands, HO⟩
  isplitr; · iexact HK
  isplitl [Hpay Hkeep]
  · unfold P2
    isplitl [Hkeep]; · iexact Hkeep
    iexact Hpay
  isplitl [Hraw0]; · iapply (part_zero c (sumR w (chip c))); iexact Hraw0
  isplitl [Hhands]; · iexact Hhands
  isplitl [HO]; · iexact HO
  unfold FrOwn
  isplitl [Hh]; · iexact Hh
  isplitl [Hraw]; · iexact Hraw
  isplitl [Hat] <;> iassumption

theorem close_own (w : Fin 4) {r : ℕ} (hr : r = H w)
    (h : iprop(known m K ∗ St m c (strm0 w + 1)) ⊢ wp frame (wpE (defs₀ (F := F)) 𝒱₀ (c : Thread nD τ) none) Set.univ p Q) :
    CS m K c (strm0 w) (P2 m c w (chip c)) (sumR w (chip c)) r (Sm m c w (chip c)) (FrOwn m c w)
      ⊢ wp frame (wpE (defs₀ (F := F)) 𝒱₀ (c : Thread nD τ) none) Set.univ p Q := by
  subst hr
  refine BIBase.Entails.trans ?_ h
  unfold St CS
  rw [cells2 m c (.finS w) (.sibR w (chip c)) (fun h => by cases h) (strm0 w + 1) _ _ (own_at w).2
    ((own_ne w (.sibR w (chip c)) (fun h => by cases h)).trans (own_sib w _)),
    ← rest2_eq m c (.finS w) (.sibR w (chip c)) _ _ (own_ne w), owed_same c (own_todo w)]
  unfold P2 FrOwn
  simp only [res_zero, res_five, res_four, res_two, pay, keep, raw, raw0]
  iintro ⟨#HK, ⟨Hin, Hsib⟩, Hpart, Hhands, HO, Hh, Hraw, Hat, Hr⟩
  ihave Hsum := (part_all c (sumR w (chip c)) (Sm m c w (chip c))) $$ Hpart
  isplitr; · iexact HK
  isplitr [Hhands HO]
  · isplitl [Hh Hsum Hraw]
    · isplitl [Hh]; · iexact Hh
      isplitl [Hraw]; · iexact Hraw
      iexact Hsum
    isplitl [Hat Hin Hsib]
    · isplitl [Hat]; · iexact Hat
      isplitl [Hsib]; · iexact Hsib
      iexact Hin
    iexact Hr
  isplitl [Hhands] <;> iassumption

theorem open_fin (w : Fin 4) {n : ℕ} (hn : n = (Cell.finS w).strm)
    (h : CS m K c (Cell.finS w).strm (P4 m c w) (outR w (side c)) 0 (Mine m c w) (FrFin m c w)
      ⊢ wp frame (wpE (defs₀ (F := F)) 𝒱₀ (c : Thread nD τ) none) Set.univ p Q) :
    iprop(known m K ∗ St m c n) ⊢ wp frame (wpE (defs₀ (F := F)) 𝒱₀ (c : Thread nD τ) none) Set.univ p Q := by
  subst hn
  refine BIBase.Entails.trans ?_ h
  unfold St CS
  rw [cells4 m c (.finS w) (.farR w 0) (.farR w 1) (.farR w 2) (fun h => by cases h) ⟨(fun h => by cases h), (fun h => by cases h)⟩
    ⟨(fun h => by cases h), (fun h => by cases h), (fun h => by cases h)⟩ _ _ _ (end_at w).1 (end_far w 0) (end_far w 1) (end_far w 2)]
  simp only [res_zero, res_five, res_four, res_two, pay, keep, raw, raw0]
  iintro ⟨#HK, ⟨⟨Hh, Hraw, Hkeep⟩, ⟨Ha0, Hp0, -⟩, ⟨Ha1, Hp1, -⟩, ⟨Ha2, Hp2, -⟩, Hr⟩, Hhands, HO⟩
  isplitr; · iexact HK
  isplitl [Hkeep Hp0 Hp1 Hp2]
  · unfold P4
    isplitl [Hkeep]; · iexact Hkeep
    isplitl [Hp0]; · iexact Hp0
    isplitl [Hp1]; · iexact Hp1
    iexact Hp2
  isplitl [Hraw]; · iapply (part_zero c (outR w (side c))); iexact Hraw
  isplitl [Hhands]; · iexact Hhands
  isplitl [HO]; · iexact HO
  unfold FrFin
  isplitl [Hh]; · iexact Hh
  isplitl [Ha0]; · iexact Ha0
  isplitl [Ha1]; · iexact Ha1
  isplitl [Ha2] <;> iassumption

theorem close_fin (w : Fin 4) {r : ℕ} (hr : r = H w)
    (h : iprop(known m K ∗ St m c ((Cell.finS w).strm + 1)) ⊢ wp frame (wpE (defs₀ (F := F)) 𝒱₀ (c : Thread nD τ) none) Set.univ p Q) :
    CS m K c (Cell.finS w).strm (P4 m c w) (outR w (side c)) r (Mine m c w) (FrFin m c w)
      ⊢ wp frame (wpE (defs₀ (F := F)) 𝒱₀ (c : Thread nD τ) none) Set.univ p Q := by
  subst hr
  refine BIBase.Entails.trans ?_ h
  unfold St CS
  have hj (j : Fin 3) : Cell.at ((Cell.finS w).strm + 1) (.farR w j) = 2 := (end_ne w (.farR w j) (fun h => by cases h)).trans (end_far w j)
  rw [cells4 m c (.finS w) (.farR w 0) (.farR w 1) (.farR w 2) (fun h => by cases h) ⟨(fun h => by cases h), (fun h => by cases h)⟩
    ⟨(fun h => by cases h), (fun h => by cases h), (fun h => by cases h)⟩ ((Cell.finS w).strm + 1) _ _ (end_at w).2 (hj 0) (hj 1) (hj 2),
    ← rest4_eq m c (.finS w) (.farR w 0) (.farR w 1) (.farR w 2) _ _ (end_ne w), owed_same c (end_todo w)]
  unfold P4 FrFin
  simp only [res_zero, res_five, res_four, res_two, pay, keep, raw, raw0]
  iintro ⟨#HK, ⟨Hkeep, Hp0, Hp1, Hp2⟩, Hpart, Hhands, HO, Hh, Ha0, Ha1, Ha2, Hr⟩
  ihave Hsum := (part_all c (outR w (side c)) (Mine m c w)) $$ Hpart
  isplitr; · iexact HK
  isplitr [Hhands HO]
  · isplitl [Hh Hsum Hkeep]
    · isplitl [Hh]; · iexact Hh
      isplitl [Hsum]; · iexact Hsum
      iexact Hkeep
    isplitl [Ha0 Hp0]
    · isplitl [Ha0]; · iexact Ha0
      isplitl [Hp0]; · iexact Hp0
      iempintro
    isplitl [Ha1 Hp1]
    · isplitl [Ha1]; · iexact Ha1
      isplitl [Hp1]; · iexact Hp1
      iempintro
    isplitl [Ha2 Hp2]
    · isplitl [Ha2]; · iexact Ha2
      isplitl [Hp2]; · iexact Hp2
      iempintro
    iexact Hr
  isplitl [Hhands] <;> iassumption

/-- A sum's loop, `256` rows a trip. -/
theorem sum_loop {n : ℕ} {P : sProp 𝕄} {h : ℕ} {D : Memref sig .tc .hbm (rowS h) .f32} {Z : Vec F (rowS h) .f32} {Fr : sProp 𝕄}
    (lp : Scf.Loop 32) {hok : lp.OK} {T : ℕ} (hT : lp.trips = T) {body : Fin lp.trips → PUnit → Prog (TpuEff nD τ sig (Elt F) Λ₀ .tc) PUnit}
    {kk : PUnit → Prog (TpuEff nD τ sig (Elt F) Λ₀ .tc) α}
    (hbody : ∀ (t : Fin lp.trips), CS m K c n P D (256 * t.val) Z Fr
      ⊢ wp frame (wpE (defs₀ (F := F)) 𝒱₀ (c : Thread nD τ) none) Set.univ (body t ⟨⟩) fun _ => CS m K c n P D (256 * t.val + 256) Z Fr)
    (hk : CS m K c n P D (256 * T) Z Fr ⊢ wp frame (wpE (defs₀ (F := F)) 𝒱₀ (c : Thread nD τ) none) Set.univ (kk ⟨⟩) Q) :
    CS m K c n P D 0 Z Fr ⊢ wp frame (wpE (defs₀ (F := F)) 𝒱₀ (c : Thread nD τ) none) Set.univ (Scf.Loop.for lp hok ⟨⟩ body >>= kk) Q := by
  subst hT
  have hl := Scf.wp_for_bind frame (wpE (defs₀ (F := F)) 𝒱₀ (c : Thread nD τ) none) Set.univ lp.lb lp.ub lp.st hok (⟨⟩ : PUnit) body
    (fun t _ => CS m K c n P D (256 * t) Z Fr) (fun t _ => hbody t) (kk := kk) (Q := Q)
  iintro H
  iapply hl $$ H
  iintro %acc H
  iapply hk
  iexact H

end Sums

/-! ## Rows of sums -/

theorem rows_two {l h : ℕ} (X Y : Vec F (rowS h) .f32) (off inb) (hs : (rowS l).ShapeCasts (rowS l)) :
    shapeCast (rowS l) (addf (rowsOf X l off inb : FVec F (rowS l) .f32) (rowsOf Y l off inb)) hs
      = rowsOf (addf (X : FVec F (rowS h) .f32) Y) l off inb := by
  rw [shapeCast_self]; rfl

theorem rows_four {l h : ℕ} (X Y Z W : Vec F (rowS h) .f32) (off inb) (hs : (rowS l).ShapeCasts (rowS l)) :
    shapeCast (rowS l) (addf (addf (addf (rowsOf X l off inb : FVec F (rowS l) .f32) (rowsOf Y l off inb)) (rowsOf Z l off inb)) (rowsOf W l off inb)) hs
      = rowsOf (addf (addf (addf (X : FVec F (rowS h) .f32) Y) Z) W) l off inb := by
  rw [shapeCast_self]; rfl

section Chunks

variable (K : Dev nD × Cell → ℕ) (c : Dev nD) {n r : ℕ}
variable {α : Type} {Q : α → sProp (MT nD τ sig Unit (Elt F) ℕ UU ℕ)}

theorem fetch_in {w k : Fin 4} {D : Memref sig .tc .hbm (rowS (H w)) .f32} {Z : Vec F (rowS (H w)) .f32} {Fr : sProp 𝕄}
    {o : Fin 2 → ℕ} {io} (ho : o = ![H w * (2 * k.val + (side c).val), 0])
    (b : Fin 3) {s s' : DmaSem sig} (hs : s = ioNum) (hs' : s' = ioNum) (l : ℕ) (hl : 0 < (rowS l).numel)
    {off : Fin 2 → ℕ} {inb : ∀ a, off a + (rowS l).size a ≤ (rowS (H w)).size a} {inb₀ : ∀ a, (![0, 0] : Fin 2 → ℕ) a + (rowS l).size a ≤ S256x2048.size a}
    {h1 h2 h3 h4 h5 hld}
    {k' : Vec F (rowS l) .f32 → Prog (TpuEff nD τ sig (Elt F) Λ₀ .tc) α}
    (hk : CS m K c n (P2 m c w k) D r Z Fr ⊢ wp frame (wpE (defs₀ (F := F)) 𝒱₀ (c : Thread nD τ) none) Set.univ (k' (rowsOf (Vp m c w k (side c)) l off inb)) Q) :
    CS m K c n (P2 m c w k) D r Z Fr ⊢ wp frame (wpE (defs₀ (F := F)) 𝒱₀ (c : Thread nD τ) none) Set.univ
      (.op (.enqueueDma ((inSl w o io).slice (Rect.unit (s := rowS (H w)) off (rowS l).size inb) (fun _ => rfl))
          (.here ((bufM b).slice (Rect.unit (s := S256x2048) ![0, 0] (rowS l).size inb₀) (fun _ => rfl))) (.dma s) h1 h2 h3) fun _ =>
        .op (.waitDma2 s' ((inSl w o io).slice (Rect.unit (s := rowS (H w)) off (rowS l).size inb) (fun _ => rfl))
          ((bufM b).slice (Rect.unit (s := S256x2048) ![0, 0] (rowS l).size inb₀) (fun _ => rfl)) h4 h5) fun _ =>
        .op (.load (bufM b) (Rect.unit (s := S256x2048) ![0, 0] (rowS l).size inb₀).toLoadRect hld) k') Q := by
  subst ho
  exact step_fetch m K c _ _ (P2_in m c w k) b hs hs' hl hk

theorem fetch_sib {w k : Fin 4} {D : Memref sig .tc .hbm (rowS (H w)) .f32} {Z : Vec F (rowS (H w)) .f32} {Fr : sProp 𝕄}
    {o : Fin 3 → ℕ} {io} (ho : o = ![k.val, 0, 0])
    (b : Fin 3) {s s' : DmaSem sig} (hs : s = ioNum) (hs' : s' = ioNum) (l : ℕ) (hl : 0 < (rowS l).numel)
    {off : Fin 2 → ℕ} {inb : ∀ a, off a + (rowS l).size a ≤ (rowS (H w)).size a} {inb₀ : ∀ a, (![0, 0] : Fin 2 → ℕ) a + (rowS l).size a ≤ S256x2048.size a}
    {h1 h2 h3 h4 h5 hld}
    {k' : Vec F (rowS l) .f32 → Prog (TpuEff nD τ sig (Elt F) Λ₀ .tc) α}
    (hk : CS m K c n (P2 m c w k) D r Z Fr ⊢ wp frame (wpE (defs₀ (F := F)) 𝒱₀ (c : Thread nD τ) none) Set.univ (k' (rowsOf (Vp m (sib c) w k (side c)) l off inb)) Q) :
    CS m K c n (P2 m c w k) D r Z Fr ⊢ wp frame (wpE (defs₀ (F := F)) 𝒱₀ (c : Thread nD τ) none) Set.univ
      (.op (.enqueueDma ((sibSl w o io).slice (Rect.unit (s := rowS (H w)) off (rowS l).size inb) (fun _ => rfl))
          (.here ((bufM b).slice (Rect.unit (s := S256x2048) ![0, 0] (rowS l).size inb₀) (fun _ => rfl))) (.dma s) h1 h2 h3) fun _ =>
        .op (.waitDma2 s' ((sibSl w o io).slice (Rect.unit (s := rowS (H w)) off (rowS l).size inb) (fun _ => rfl))
          ((bufM b).slice (Rect.unit (s := S256x2048) ![0, 0] (rowS l).size inb₀) (fun _ => rfl)) h4 h5) fun _ =>
        .op (.load (bufM b) (Rect.unit (s := S256x2048) ![0, 0] (rowS l).size inb₀).toLoadRect hld) k') Q := by
  subst ho
  exact step_fetch m K c _ _ (P2_sib m c w k) b hs hs' hl hk

theorem fetch_sum {w : Fin 4} {D : Memref sig .tc .hbm (rowS (H w)) .f32} {Z : Vec F (rowS (H w)) .f32} {Fr : sProp 𝕄}
    {o : Fin 3 → ℕ} {io} (ho : o = ![(chip c).val, 0, 0])
    (b : Fin 3) {s s' : DmaSem sig} (hs : s = ioNum) (hs' : s' = ioNum) (l : ℕ) (hl : 0 < (rowS l).numel)
    {off : Fin 2 → ℕ} {inb : ∀ a, off a + (rowS l).size a ≤ (rowS (H w)).size a} {inb₀ : ∀ a, (![0, 0] : Fin 2 → ℕ) a + (rowS l).size a ≤ S256x2048.size a}
    {h1 h2 h3 h4 h5 hld}
    {k' : Vec F (rowS l) .f32 → Prog (TpuEff nD τ sig (Elt F) Λ₀ .tc) α}
    (hk : CS m K c n (P4 m c w) D r Z Fr ⊢ wp frame (wpE (defs₀ (F := F)) 𝒱₀ (c : Thread nD τ) none) Set.univ (k' (rowsOf (Sm m c w (chip c)) l off inb)) Q) :
    CS m K c n (P4 m c w) D r Z Fr ⊢ wp frame (wpE (defs₀ (F := F)) 𝒱₀ (c : Thread nD τ) none) Set.univ
      (.op (.enqueueDma ((sumSl w o io).slice (Rect.unit (s := rowS (H w)) off (rowS l).size inb) (fun _ => rfl))
          (.here ((bufM b).slice (Rect.unit (s := S256x2048) ![0, 0] (rowS l).size inb₀) (fun _ => rfl))) (.dma s) h1 h2 h3) fun _ =>
        .op (.waitDma2 s' ((sumSl w o io).slice (Rect.unit (s := rowS (H w)) off (rowS l).size inb) (fun _ => rfl))
          ((bufM b).slice (Rect.unit (s := S256x2048) ![0, 0] (rowS l).size inb₀) (fun _ => rfl)) h4 h5) fun _ =>
        .op (.load (bufM b) (Rect.unit (s := S256x2048) ![0, 0] (rowS l).size inb₀).toLoadRect hld) k') Q := by
  subst ho
  exact step_fetch m K c _ _ (P4_sum m c w) b hs hs' hl hk

theorem fetch_far {w : Fin 4} (j : Fin 3) {D : Memref sig .tc .hbm (rowS (H w)) .f32} {Z : Vec F (rowS (H w)) .f32} {Fr : sProp 𝕄}
    {o : Fin 3 → ℕ} {io} (ho : o = ![j.val, 0, 0])
    (b : Fin 3) {s s' : DmaSem sig} (hs : s = ioNum) (hs' : s' = ioNum) (l : ℕ) (hl : 0 < (rowS l).numel)
    {off : Fin 2 → ℕ} {inb : ∀ a, off a + (rowS l).size a ≤ (rowS (H w)).size a} {inb₀ : ∀ a, (![0, 0] : Fin 2 → ℕ) a + (rowS l).size a ≤ S256x2048.size a}
    {h1 h2 h3 h4 h5 hld}
    {k' : Vec F (rowS l) .f32 → Prog (TpuEff nD τ sig (Elt F) Λ₀ .tc) α}
    (hk : CS m K c n (P4 m c w) D r Z Fr ⊢ wp frame (wpE (defs₀ (F := F)) 𝒱₀ (c : Thread nD τ) none) Set.univ (k' (rowsOf (Sm m (oth j c) w (chip c)) l off inb)) Q) :
    CS m K c n (P4 m c w) D r Z Fr ⊢ wp frame (wpE (defs₀ (F := F)) 𝒱₀ (c : Thread nD τ) none) Set.univ
      (.op (.enqueueDma ((farSl w o io).slice (Rect.unit (s := rowS (H w)) off (rowS l).size inb) (fun _ => rfl))
          (.here ((bufM b).slice (Rect.unit (s := S256x2048) ![0, 0] (rowS l).size inb₀) (fun _ => rfl))) (.dma s) h1 h2 h3) fun _ =>
        .op (.waitDma2 s' ((farSl w o io).slice (Rect.unit (s := rowS (H w)) off (rowS l).size inb) (fun _ => rfl))
          ((bufM b).slice (Rect.unit (s := S256x2048) ![0, 0] (rowS l).size inb₀) (fun _ => rfl)) h4 h5) fun _ =>
        .op (.load (bufM b) (Rect.unit (s := S256x2048) ![0, 0] (rowS l).size inb₀).toLoadRect hld) k') Q := by
  subst ho
  exact step_fetch m K c _ _ (P4_far m c w j) b hs hs' hl hk

theorem put_sum {w k : Fin 4} {P : sProp 𝕄} {Z : Vec F (rowS (H w)) .f32} {Fr : sProp 𝕄} {o : Fin 3 → ℕ} {io} (ho : o = ![k.val, 0, 0])
    {s s' : DmaSem sig} (hs : s = ioNum) (hs' : s' = ioNum) (l : ℕ) (hl : 0 < (rowS l).numel)
    {off : Fin 2 → ℕ} (hoff : off = ![r, 0]) {inb : ∀ a, off a + (rowS l).size a ≤ (rowS (H w)).size a} {inb₀ : ∀ a, (![0, 0] : Fin 2 → ℕ) a + (rowS l).size a ≤ S256x2048.size a}
    {v : Vec F (rowS l) .f32} (hv : v = rowsOf Z l off inb)
    {h1 h2 h3 h4 h5 hld hst hst'}
    {k' : PUnit → Prog (TpuEff nD τ sig (Elt F) Λ₀ .tc) α}
    (hk : CS m K c n P (sumR w k) (r + l) Z Fr ⊢ wp frame (wpE (defs₀ (F := F)) 𝒱₀ (c : Thread nD τ) none) Set.univ (k' ⟨⟩) Q) :
    CS m K c n P (sumR w k) r Z Fr ⊢ wp frame (wpE (defs₀ (F := F)) 𝒱₀ (c : Thread nD τ) none) Set.univ
      (.op (.load (bufM 2) (Rect.unit (s := S256x2048) ![0, 0] (rowS l).size inb₀).toLoadRect hld) fun _ =>
        .op (.store (bufM 2) (Rect.unit (s := S256x2048) ![0, 0] (rowS l).size inb₀) v Finset.univ hst hst') fun _ =>
        .op (.enqueueDma ((bufM 2).slice (Rect.unit (s := S256x2048) ![0, 0] (rowS l).size inb₀) (fun _ => rfl))
          (.here ((sumSl w o io).slice (Rect.unit (s := rowS (H w)) off (rowS l).size inb) (fun _ => rfl))) (.dma s) h1 h2 h3) fun _ =>
        .op (.waitDma2 s' ((bufM 2).slice (Rect.unit (s := S256x2048) ![0, 0] (rowS l).size inb₀) (fun _ => rfl))
          ((sumSl w o io).slice (Rect.unit (s := rowS (H w)) off (rowS l).size inb) (fun _ => rfl)) h4 h5) k') Q := by
  subst ho
  exact step_put m K c hs hs' hl hoff hv hk

theorem put_out {w : Fin 4} {P : sProp 𝕄} {Z : Vec F (rowS (H w)) .f32} {Fr : sProp 𝕄} {o : Fin 2 → ℕ} {io} (ho : o = ![H w * (side c).val, 0])
    {s s' : DmaSem sig} (hs : s = ioNum) (hs' : s' = ioNum) (l : ℕ) (hl : 0 < (rowS l).numel)
    {off : Fin 2 → ℕ} (hoff : off = ![r, 0]) {inb : ∀ a, off a + (rowS l).size a ≤ (rowS (H w)).size a} {inb₀ : ∀ a, (![0, 0] : Fin 2 → ℕ) a + (rowS l).size a ≤ S256x2048.size a}
    {v : Vec F (rowS l) .f32} (hv : v = rowsOf Z l off inb)
    {h1 h2 h3 h4 h5 hld hst hst'}
    {k' : PUnit → Prog (TpuEff nD τ sig (Elt F) Λ₀ .tc) α}
    (hk : CS m K c n P (outR w (side c)) (r + l) Z Fr ⊢ wp frame (wpE (defs₀ (F := F)) 𝒱₀ (c : Thread nD τ) none) Set.univ (k' ⟨⟩) Q) :
    CS m K c n P (outR w (side c)) r Z Fr ⊢ wp frame (wpE (defs₀ (F := F)) 𝒱₀ (c : Thread nD τ) none) Set.univ
      (.op (.load (bufM 2) (Rect.unit (s := S256x2048) ![0, 0] (rowS l).size inb₀).toLoadRect hld) fun _ =>
        .op (.store (bufM 2) (Rect.unit (s := S256x2048) ![0, 0] (rowS l).size inb₀) v Finset.univ hst hst') fun _ =>
        .op (.enqueueDma ((bufM 2).slice (Rect.unit (s := S256x2048) ![0, 0] (rowS l).size inb₀) (fun _ => rfl))
          (.here ((outSl w o io).slice (Rect.unit (s := rowS (H w)) off (rowS l).size inb) (fun _ => rfl))) (.dma s) h1 h2 h3) fun _ =>
        .op (.waitDma2 s' ((bufM 2).slice (Rect.unit (s := S256x2048) ![0, 0] (rowS l).size inb₀) (fun _ => rfl))
          ((outSl w o io).slice (Rect.unit (s := rowS (H w)) off (rowS l).size inb) (fun _ => rfl)) h4 h5) k') Q := by
  subst ho
  exact step_put m K c hs hs' hl hoff hv hk

end Chunks

end Cert.Reducing
-- ==== Proof.RSmall.lean ====
/-
# The reduction of the gradients: the small gradients

A device's own slot is filled, cut into eight shares and read by seven sends. A send writes a slot of another device's
scratch buffer through that device's invariant. When all seven copies have come, the owner takes the slots out of the
invariant, adds them up and puts them back.
-/
module

public import proofs.«01_k».proof.Proof.RSteps
public import Idealize.ShloMosaic.Lib.ViewIndex

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The own slot and its eighths -/

theorem small_disjoint {p d : Dev nD} (h : p ≠ d) : Disjoint (smallR p).view.set (smallR d).view.set := by
  have hd := View.disjoint_slice (v := smallM.view) (Rect.unit_disjoint (s := S8x104x128) (size := S1x104x128.size) (size' := S1x104x128.size)
    (inb := small_inb p) (inb' := small_inb d) 0 (by revert p d; decide +kernel))
  have e (k) : (smallR k).view.set = (smallM.view.slice (Rect.unit (s := S8x104x128) ![k.val, 0, 0] S1x104x128.size (small_inb k))).set := View.set_reshape _ _
  rw [e, e]; exact hd

theorem small_rest {p d : Dev nD} (h : p ≠ d) : (smallR p).view.set ⊆ restSet d := by
  intro i hi
  exact Finset.mem_sdiff.mpr ⟨Finset.mem_univ _, fun hd => Finset.disjoint_left.mp (small_disjoint (p := p) (d := d) h) hi hd⟩

/-- The elements of the own slot, as a load or a store names them. -/
theorem access_own (c : Dev nD) (inb) : (smallM.access (Rect.unit (s := S8x104x128) ![c.val, 0, 0] S1x104x128.size inb)).set = ownSet c :=
  (View.set_reshape _ _).symm

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop((bigSep Finset.univ fun j : Fin 7 => Φ j.castSucc) ∗ Φ 7) := by
  rw [bigSep_fin7, bigSep_univ_eq_bigSepL [0, 1, 2, 3, 4, 5, 6, 7] (by decide) (by decide) Φ]
  refine BI.Entails.antisymm ?_ ?_
  · show iprop(Φ 0 ∗ Φ 1 ∗ Φ 2 ∗ Φ 3 ∗ Φ 4 ∗ Φ 5 ∗ Φ 6 ∗ Φ 7) ⊢ iprop((Φ 0 ∗ Φ 1 ∗ Φ 2 ∗ Φ 3 ∗ Φ 4 ∗ Φ 5 ∗ Φ 6) ∗ Φ 7)
    iintro ⟨H0, H1, H2, H3, H4, H5, H6, H7⟩
    isplitr [H7]
    · isplitl [H0]; · iexact H0
      isplitl [H1]; · iexact H1
      isplitl [H2]; · iexact H2
      isplitl [H3]; · iexact H3
      isplitl [H4]; · iexact H4
      isplitl [H5] <;> iassumption
    iexact H7
  · show iprop((Φ 0 ∗ Φ 1 ∗ Φ 2 ∗ Φ 3 ∗ Φ 4 ∗ Φ 5 ∗ Φ 6) ∗ Φ 7) ⊢ iprop(Φ 0 ∗ Φ 1 ∗ Φ 2 ∗ Φ 3 ∗ Φ 4 ∗ Φ 5 ∗ Φ 6 ∗ Φ 7)
    iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6] <;> iassumption

/-- The eighth at known contents. -/
abbrev eighthAt (c : Dev nD) (f : Buf (Elt F) (smallLoc c)) (i : Fin 8) : sProp 𝕄 := smallLoc c ↦[ownSet c]{ShareLeaves.leaf 3 fullShare i} f

omit [FloatOps F] in
theorem own_eighths (c : Dev nD) (f : Buf (Elt F) (smallLoc c)) :
    (smallLoc c ↦[ownSet c]{fullShare} f : sProp 𝕄) = iprop((bigSep Finset.univ fun j : Fin 7 => eighthAt c f j.castSucc) ∗ eighthAt c f 7) :=
  (ShareLeaves.pointsTo_leaves (ownSet c) f 3 fullShare).trans (bigSep_fin8 fun i => eighthAt c f i)

omit [FloatOps F] in
theorem own_cut (c : Dev nD) (f : Buf (Elt F) (smallLoc c)) :
    (smallLoc c ↦[ownSet c]{fullShare} f : sProp 𝕄) ⊢ iprop((bigSep Finset.univ fun j : Fin 7 => eighth c j.castSucc) ∗ eighth c 7) := by
  rw [own_eighths]
  have one (i : Fin 8) : (eighthAt c f i : sProp 𝕄) ⊢ eighth c i := by
    unfold eighth; iintro H; iexists f; iexact H
  exact BI.sep_mono (bigSep_mono fun j _ => one _) (one _)

omit [FloatOps F] in
/-- An eighth at some contents is one at the contents of another. -/
theorem eighth_agree (c : Dev nD) (f : Buf (Elt F) (smallLoc c)) (i : Fin 8) :
    iprop(eighth c i ∗ eighthAt c f 7) ⊢ (iprop(eighthAt c f i ∗ eighthAt c f 7) : sProp 𝕄) := by
  unfold eighth
  iintro ⟨⟨%g, Hg⟩, Hf⟩
  icombine Hg Hf gives %h
  ihave Hg := (Entails.of_eq (pointsTo_congr (g := f) fun x hx => (h x (Finset.mem_inter.mpr ⟨hx, hx⟩)).1)) $$ Hg
  isplitl [Hg] <;> iassumption

omit [FloatOps F] in
theorem own_join (c : Dev nD) :
    iprop((bigSep Finset.univ fun j : Fin 7 => eighth c j.castSucc) ∗ eighth c 7) ⊢ (iprop(∃ f, (smallLoc c ↦[ownSet c]{fullShare} f)) : sProp 𝕄) := by
  have go (f : Buf (Elt F) (smallLoc c)) (S : Finset (Fin 7)) :
      iprop((bigSep S fun j : Fin 7 => eighth c j.castSucc) ∗ eighthAt c f 7) ⊢ (iprop((bigSep S fun j : Fin 7 => eighthAt c f j.castSucc) ∗ eighthAt c f 7) : sProp 𝕄) := by
    classical
    induction S using Finset.induction_on with
    | empty => rw [BI.bigSep_empty, BI.bigSep_empty]
    | insert t S ht ih =>
      rw [BI.bigSep_insert ht, BI.bigSep_insert ht]
      show iprop((eighth c t.castSucc ∗ bigSep S fun j : Fin 7 => eighth c j.castSucc) ∗ eighthAt c f 7)
        ⊢ (iprop((eighthAt c f t.castSucc ∗ bigSep S fun j : Fin 7 => eighthAt c f j.castSucc) ∗ eighthAt c f 7) : sProp 𝕄)
      iintro ⟨⟨Ht, HS⟩, Hf⟩
      ihave ⟨Ht, Hf⟩ := (eighth_agree c f t.castSucc) $$ [Ht Hf]
      · isplitl [Ht] <;> iassumption
      ihave ⟨HS, Hf⟩ := ih $$ [HS Hf]
      · isplitl [HS] <;> iassumption
      isplitr [Hf]
      · isplitl [Ht] <;> iassumption
      iexact Hf
  have h7 : (eighth c 7 : sProp 𝕄) ⊢ iprop(∃ f, eighthAt c f 7) := BI.Entails.refl _
  iintro ⟨H, H7⟩
  ihave ⟨%f, H7⟩ := h7 $$ H7
  iexists f
  iapply (Entails.of_eq (own_eighths c f).symm)
  iapply (go f Finset.univ)
  isplitl [H] <;> iassumption

/-! ## The invariant of the other slots -/

omit [FloatOps F] in
theorem writeTok_twice (d : Dev nD) (j : Fin 7) : iprop(writeTok d j ∗ writeTok d j) ⊢ (False : sProp 𝕄) := dutyTok_dutyTok_false ER
omit [FloatOps F] in
theorem openTok_twice (d : Dev nD) : iprop(openTok d ∗ openTok d) ⊢ (False : sProp 𝕄) := dutyTok_dutyTok_false ER
omit [FloatOps F] in
theorem shutTok_twice (d : Dev nD) : iprop(shutTok d ∗ shutTok d) ⊢ (False : sProp 𝕄) := dutyTok_dutyTok_false ER

omit [FloatOps F] in
/-- With a writer's token the slots lie open. -/
theorem board_write (d : Dev nD) (j : Fin 7) : iprop(board d ∗ writeTok d j) ⊢ (iprop((shutTok d ∗ slots d) ∗ writeTok d j) : sProp 𝕄) := by
  unfold board
  iintro ⟨(H | ⟨-, H⟩), Hw⟩
  · isplitl [H] <;> iassumption
  · iexfalso
    iapply (writeTok_twice d j)
    ihave H := (show writeToks d ⊢ (writeTok d j : sProp 𝕄) from BI.bigSep_elim (Finset.mem_univ j)) $$ H
    isplitl [H] <;> iassumption
omit [FloatOps F] in
/-- With the owner's token the slots lie open, -/
theorem board_open (d : Dev nD) : iprop(board d ∗ openTok d) ⊢ (iprop((shutTok d ∗ slots d) ∗ openTok d) : sProp 𝕄) := by
  unfold board
  iintro ⟨(H | ⟨H, -⟩), Hw⟩
  · isplitl [H] <;> iassumption
  · iexfalso
    iapply (openTok_twice d)
    isplitl [H] <;> iassumption
omit [FloatOps F] in
/-- and with the other one they do not. -/
theorem board_shut (d : Dev nD) : iprop(board d ∗ shutTok d) ⊢ (iprop((openTok d ∗ writeToks d) ∗ shutTok d) : sProp 𝕄) := by
  unfold board
  iintro ⟨(⟨H, -⟩ | H), Hw⟩
  · iexfalso
    iapply (shutTok_twice d)
    isplitl [H] <;> iassumption
  · isplitl [H] <;> iassumption

omit [FloatOps F] in
/-- The owner takes the slots out, -/
theorem board_take (d : Dev nD) {ι : ℕ} {E : Set ℕ} (hE : ι ∈ E) :
    iprop(inv ι (board (F := F) d) ∗ openTok d ∗ writeToks d) ⊢ (|={E}=> iprop(shutTok d ∗ slots d) : sProp 𝕄) := by
  iintro ⟨#HI, Ho, Hw⟩
  imod (inv_acc hE) $$ HI with ⟨Hb, Hclose⟩
  ihave ⟨⟨Hs, Hf⟩, Ho⟩ := (board_open d) $$ [Hb Ho]
  · isplitl [Hb] <;> iassumption
  imod Hclose $$ [Ho Hw] with -
  · unfold board; iright; isplitl [Ho] <;> iassumption
  imodintro
  isplitl [Hs] <;> iassumption
omit [FloatOps F] in
/-- and puts them back. -/
theorem board_put (d : Dev nD) {ι : ℕ} {E : Set ℕ} (hE : ι ∈ E) :
    iprop(inv ι (board (F := F) d) ∗ shutTok d ∗ slots d) ⊢ (|={E}=> iprop(openTok d ∗ writeToks d) : sProp 𝕄) := by
  iintro ⟨#HI, Hs, Hf⟩
  imod (inv_acc hE) $$ HI with ⟨Hb, Hclose⟩
  ihave ⟨⟨Ho, Hw⟩, Hs⟩ := (board_shut d) $$ [Hb Hs]
  · isplitl [Hb] <;> iassumption
  imod Hclose $$ [Hs Hf] with -
  · unfold board; ileft; isplitl [Hs] <;> iassumption
  imodintro
  isplitl [Ho] <;> iassumption

/-- What a writer hands in: each piece of the copy opens the invariant, and the token remains. -/
theorem small_writes {p d : Dev nD} (h : p ≠ d) (j : Fin 7) (ι : ℕ) (w : S104x128.Idx → Elt F .f32) :
    iprop(inv ι (board (F := F) d) ∗ writeTok d j) ⊢ (writeUpdate (d : Thread nD τ) (smallR p).view w (writeTok d j) : sProp 𝕄) := by
  rw [writeUpdate, writeUpdateFrom_def]
  iintro ⟨#HI, Hw⟩
  iexists (fun _ => writeTok d j)
  isplitl [Hw]; · iexact Hw
  isplitr
  · rw [writeSteps_def]
    imodintro
    iintro %M %M' Hw
    iapply (atomically_intro_at frame Set.univ (Set.univ \ {ι}) (storeSpec (d : Thread nD τ) (smallR p).view w M') _)
    imod (inv_acc (Set.mem_univ ι)) $$ HI with ⟨Hb, Hclose⟩
    ihave ⟨⟨Hs, Hf⟩, Hw⟩ := (board_write d j) $$ [Hb Hw]
    · isplitl [Hb] <;> iassumption
    unfold slots
    icases Hf with ⟨%f, Hf⟩
    imodintro
    rw [storeSpec_apply]
    iexists (restSet d), f
    isplitl [Hf]; · iexact Hf
    isplitr; · ipureintro; exact fun i hi => small_rest h (View.setOn_subset_set _ _ hi)
    iintro Hf
    imod Hclose $$ [Hs Hf] with -
    · unfold board slots; ileft
      isplitl [Hs]; · iexact Hs
      iexists _; iexact Hf
    imodintro
    iexact Hw
  · iintro H; iexact H

/-! ## The steps -/

section Steps

variable (K : Dev nD × Cell → ℕ) (c : Dev nD)
variable {α : Type} {Q : α → sProp (MT nD τ sig Unit (Elt F) ℕ UU ℕ)}

theorem peer_small_ne (j : Fin 7) : c ≠ peer c (.smS j) := by revert c j; decide
theorem peer_small_back (j : Fin 7) : peer (peer c (.smS j)) (.smR j) = c := by revert c j; decide

/-- The send of the device's own slot to the same slot of another device. -/
theorem step_small (j : Fin 7) {n : ℕ} (hn : n = (Cell.smS j).start) {d : Dev nD} (hd : d = peer c (.smS j))
    {s r : DmaSem sig} (hs : s = (Cell.smS j).num) (hr : r = (Cell.smR j).num)
    {off off' : Fin 3 → ℕ} (hoff : off = ![c.val, 0, 0]) (hoff' : off' = ![c.val, 0, 0])
    {inb : ∀ a, off a + S1x104x128.size a ≤ S8x104x128.size a} {inb' : ∀ a, off' a + S1x104x128.size a ≤ S8x104x128.size a}
    {hsc : (smallSl off' inb').view.ref.isScScratch = false}
    {hsrc : (smallSl off inb).view.WordExact} {hdst : (smallSl off' inb').view.WordExact}
    {hsem : DmaTarget.Typed .vmem (.dma r) (.remote (Dev.tc d : Thread nD τ) (smallSl off' inb') (.dma s) hsc : DmaTarget nD τ sig (c : Thread nD τ).2 .vmem S104x128 .f32)}
    {k : PUnit → Prog (TpuEff nD τ sig (Elt F) Λ₀ .tc) α}
    (h : iprop(known m K ∗ St m c ((Cell.smS j).start + 1)) ⊢ wp frame (wpE (defs₀ (F := F)) 𝒱₀ (c : Thread nD τ) none) Set.univ (k ⟨⟩) Q) :
    iprop(known m K ∗ St m c n)
      ⊢ wp frame (wpE (defs₀ (F := F)) 𝒱₀ (c : Thread nD τ) none) Set.univ
          (.op (.enqueueDma (smallSl off inb) (.remote (Dev.tc d : Thread nD τ) (smallSl off' inb') (.dma s) hsc) (.dma r) hsrc hdst hsem) k) Q := by
  subst hn hd hs hr hoff hoff'
  have hp : pay m c (.smS j) = iprop(∃ f, (smallLoc c ↦[ownSet c]{ShareLeaves.leaf 3 fullShare j.castSucc} f)) := rfl
  have hde : dest (F := F) c (.smS j) = writeTok (peer c (.smS j)) j := rfl
  unfold St
  iintro ⟨#HK, Hres, Hh, %W, HO⟩
  ihave Hres := (st_turn m c (.smS j) (start_at (.smS j) rfl).1 (start_at (.smS j) rfl).2 (fun y hy => start_ne (.smS j) y rfl hy)) $$ Hres
  rw [res_four, res_one]; unfold head; rw [hde, hp]
  icases Hres with ⟨⟨⟨Htok, Hat, Htok', Hw⟩, ⟨%f, Hsrc⟩, Hkeep⟩, Hback⟩
  ihave #HB := (known_board m K (peer c (.smS j))) $$ HK
  icases HB with ⟨%ι, #HI⟩
  iapply (Rounds.wp_send 𝒱₀ ER (Rd m) (c : Thread nD τ) none (c' := (peer c (.smS j) : Thread nD τ)) (src := smallR c) (dst := smallR c)
      (κ₁ := K (c, .smS j)) (κ₂ := K (peer c (.smS j), .smR j)) (r₁ := 0) (r₂ := 0) (d₁ := ()) (d₂ := ()) (fs := f) (R := writeTok (peer c (.smS j)) j)
      (q := ShareLeaves.leaf 3 fullShare j.castSucc)
      (duties_mem m c (.smS j)) (duties_mem m (peer c (.smS j)) (.smR j)) () () Ns (credit_small _ _)
      (amount_eq m c (.smS j) ()) (amount_eq m (peer c (.smS j)) (.smR j) ()) (owed c ((Cell.smS j).start + 1))
      (owed_start c (.smS j) rfl) (W := W)
      (by rw [payload_eq, hp]; exact exists_intro (Φ := fun f => (smallLoc c ↦[ownSet c]{ShareLeaves.leaf 3 fullShare j.castSucc} f : sProp 𝕄)) f)
      (by rw [payload_eq]; exact BI.Entails.refl _)) $$ [Htok Htok' Hsrc Hw HO]
  · isplitr; · iapply (known_inv m K c (.smS j)); iexact HK
    isplitr; · iapply (known_inv m K (peer c (.smS j)) (.smR j)); iexact HK
    isplitl [Hsrc]; · iexact Hsrc
    isplitl [Hw]
    · iapply (small_writes (peer_small_ne c j) j ι _)
      isplitr; · iexact HI
      iexact Hw
    isplitl [HO]; · iexact HO
    isplitl [Htok]; · iexact Htok
    isplitr; · iapply (known_reached m K c (.smS j)); iexact HK
    isplitl [Htok']; · iexact Htok'
    iapply (known_reached m K (peer c (.smS j)) (.smR j)); iexact HK
  iintro ⟨Hcr, HO⟩
  iapply h
  unfold St
  isplitr; · iexact HK
  isplitr [HO Hh]
  · iapply Hback
    isplitl [Hat]; · iexact Hat
    isplitl [Hcr]; · iexact Hcr
    iexact Hkeep
  isplitl [Hh]; · iexact Hh
  iexists _; iexact HO

/-! ## The own slot, filled -/

/-- The cells of one kind, apart from the others. -/
def smSE : Fin 7 ↪ Cell := ⟨.smS, fun _ _ h => Cell.smS.inj h⟩
def smRE : Fin 7 ↪ Cell := ⟨.smR, fun _ _ h => Cell.smR.inj h⟩
omit [FloatOps F] in
theorem bigSep_apart (e : Fin 7 ↪ Cell) (Φ : Cell → sProp 𝕄) :
    bigSep Finset.univ Φ = iprop((bigSep Finset.univ fun j : Fin 7 => Φ (e j)) ∗ bigSep (Finset.univ \ Finset.univ.map e) Φ) := by
  rw [BI.bigSep_sdiff_split (Finset.subset_univ (Finset.univ.map e)), bigSep_map]; rfl

theorem at_one (y : Cell) (h : ∀ j, y ≠ .smS j) : Cell.at 1 y = Cell.at 0 y := by revert y; decide +kernel
theorem at_small : (∀ j, Cell.at 0 (.smS j) = 0) ∧ (∀ j, Cell.at 1 (.smS j) = 4) ∧ (∀ j, Cell.at 99 (.smR j) = 2) := by decide +kernel
theorem todo_one (y : Cell) : Cell.todo 1 y ↔ Cell.todo 0 y := by revert y; decide +kernel
theorem res_zero' (c : Dev nD) (x : Cell) : res (F := F) m c x 0 = iprop(head c x ∗ raw c x ∗ raw0 c x) := rfl

/-- With the own slot's eighths the seven sends are ready. -/
theorem sends_ready :
    iprop((bigSep Finset.univ fun x : Cell => res m c x (Cell.at 0 x)) ∗ bigSep Finset.univ fun j : Fin 7 => eighth c j.castSucc)
      ⊢ bigSep Finset.univ fun x : Cell => res m c x (Cell.at 1 x) := by
  have one (j : Fin 7) : iprop(res m c (.smS j) 0 ∗ eighth c j.castSucc) ⊢ res m c (.smS j) 4 := by
    rw [res_zero', res_four, show pay m c (.smS j) = eighth c j.castSucc from rfl]
    iintro ⟨⟨Hh, -, -⟩, He⟩
    isplitl [Hh]; · iexact Hh
    isplitl [He]; · iexact He
    unfold keep; iempintro
  have h : iprop((bigSep Finset.univ fun j : Fin 7 => res m c (.smS j) 0) ∗ bigSep Finset.univ fun j : Fin 7 => eighth c j.castSucc)
      ⊢ bigSep Finset.univ fun j : Fin 7 => res m c (.smS j) 4 := by
    rw [← bigSep_sep']
    exact bigSep_mono fun (j : Fin 7) _ => one j
  rw [bigSep_apart smSE (fun x : Cell => res m c x (Cell.at 0 x)), bigSep_apart smSE (fun x : Cell => res m c x (Cell.at 1 x)),
    bigSep_congr (s := Finset.univ \ Finset.univ.map smSE) (Φ := fun x : Cell => res m c x (Cell.at 1 x)) (Ψ := fun x : Cell => res m c x (Cell.at 0 x)) fun y hy => by
      rw [at_one y fun j e => (Finset.mem_sdiff.mp hy).2 (Finset.mem_map.mpr ⟨j, Finset.mem_univ _, e.symm⟩)]]
  simp only [show ∀ j, smSE j = Cell.smS j from fun _ => rfl, at_small.1, at_small.2.1]
  iintro ⟨⟨H1, H2⟩, H3⟩
  isplitr [H2]
  · iapply h
    isplitl [H1] <;> iassumption
  iexact H2

/-- The load of the small gradients from their window. -/
theorem step_first_load {R : Rect S104x128} {hl} {k : Vec F R.shape .f32 → Prog (TpuEff nD τ sig (Elt F) Λ₀ .tc) α}
    (h : ∀ v, iprop(known m K ∗ St₀ m c) ⊢ wp frame (wpE (defs₀ (F := F)) 𝒱₀ (c : Thread nD τ) none) Set.univ (k v) Q) :
    iprop(known m K ∗ St₀ m c) ⊢ wp frame (wpE (defs₀ (F := F)) 𝒱₀ (c : Thread nD τ) none) Set.univ (.op (.load (stgM 0) R.toLoadRect hl) k) Q := by
  unfold St₀ hands₀ stages
  iintro ⟨#HK, Hres, ⟨Hw, Ho, Hs, ⟨%f, H0⟩, H1⟩, HO⟩
  iapply (wp_load_rect 𝒱₀ (c : Thread nD τ) none Set.univ (m := stgM 0) (r := R) (Finset.subset_univ _)) $$ H0
  iintro H0
  iapply (h _)
  unfold St₀ hands₀ stages
  isplitr; · iexact HK
  isplitl [Hres]; · iexact Hres
  isplitr [HO]
  · isplitl [Hw]; · iexact Hw
    isplitl [Ho]; · iexact Ho
    isplitl [Hs]; · iexact Hs
    isplitl [H0]; · iexists f; iexact H0
    iexact H1
  iexact HO

/-- The load of what the own slot held. -/
theorem step_own_load {off : Fin 3 → ℕ} (hoff : off = ![c.val, 0, 0]) {inb : ∀ a, off a + S1x104x128.size a ≤ S8x104x128.size a} {hl}
    {k : Vec F S1x104x128 .f32 → Prog (TpuEff nD τ sig (Elt F) Λ₀ .tc) α}
    (h : ∀ v, iprop(known m K ∗ St₀ m c) ⊢ wp frame (wpE (defs₀ (F := F)) 𝒱₀ (c : Thread nD τ) none) Set.univ (k v) Q) :
    iprop(known m K ∗ St₀ m c) ⊢ wp frame (wpE (defs₀ (F := F)) 𝒱₀ (c : Thread nD τ) none) Set.univ
      (.op (.load smallM (Rect.unit (s := S8x104x128) off S1x104x128.size inb).toLoadRect hl) k) Q := by
  subst hoff
  unfold St₀ hands₀
  iintro ⟨#HK, Hres, ⟨Hw, Ho, ⟨%f, Hs⟩, Hst⟩, HO⟩
  iapply (wp_load_rect 𝒱₀ (c : Thread nD τ) none Set.univ (m := smallM) (r := Rect.unit (s := S8x104x128) ![c.val, 0, 0] S1x104x128.size inb) (access_own c inb).subset) $$ Hs
  iintro Hs
  iapply (h _)
  unfold St₀ hands₀
  isplitr; · iexact HK
  isplitl [Hres]; · iexact Hres
  isplitr [HO]
  · isplitl [Hw]; · iexact Hw
    isplitl [Ho]; · iexact Ho
    isplitl [Hs]; · iexists f; iexact Hs
    iexact Hst
  iexact HO

/-- The store into the own slot. -/
theorem step_own_store {off : Fin 3 → ℕ} (hoff : off = ![c.val, 0, 0]) {inb : ∀ a, off a + S1x104x128.size a ≤ S8x104x128.size a}
    {w : Vec F S1x104x128 .f32} {hx hm}
    {k : PUnit → Prog (TpuEff nD τ sig (Elt F) Λ₀ .tc) α}
    (h : iprop(known m K ∗ St m c 1) ⊢ wp frame (wpE (defs₀ (F := F)) 𝒱₀ (c : Thread nD τ) none) Set.univ (k ⟨⟩) Q) :
    iprop(known m K ∗ St₀ m c) ⊢ wp frame (wpE (defs₀ (F := F)) 𝒱₀ (c : Thread nD τ) none) Set.univ
      (.op (.store smallM (Rect.unit (s := S8x104x128) off S1x104x128.size inb) w Finset.univ hx hm) k) Q := by
  subst hoff
  unfold St₀ hands₀
  iintro ⟨#HK, Hres, ⟨Hw, Ho, ⟨%f, Hs⟩, Hst⟩, HO⟩
  iapply (wp_store 𝒱₀ (c : Thread nD τ) none Set.univ (m := smallM) (r := Rect.unit (s := S8x104x128) ![c.val, 0, 0] S1x104x128.size inb)
    (by rw [View.setOn_univ]; exact (access_own c inb).subset)) $$ Hs
  iintro Hs
  ihave ⟨H7, H8⟩ := (own_cut c _) $$ Hs
  iapply h
  unfold St hands
  rw [owed_same c (n := 0) (n' := 1) todo_one]
  isplitr; · iexact HK
  isplitl [Hres H7]
  · iapply (sends_ready m c)
    isplitl [Hres] <;> iassumption
  isplitr [HO]
  · isplitl [Hw]; · iexact Hw
    isplitl [Ho]; · iexact Ho
    isplitl [H8] <;> iassumption
  iexact HO

/-! ## The slots, added up -/

/-- Device `c` while it reads the slots. -/
def Sum : sProp 𝕄 :=
  iprop(known m K ∗ (∃ h, (smallLoc c ↦[Finset.univ]{ShareLeaves.leaf 3 fullShare 7} h)
      ∗ ((smallLoc c ↦[Finset.univ]{ShareLeaves.leaf 3 fullShare 7} h) -∗ (slots c ∗ eighth c 7)))
    ∗ shutTok c ∗ (writeToks c -∗ bigSep Finset.univ fun x : Cell => res m c x (Cell.at 99 x)) ∗ work c ∗ stages c ∗ ∃ W, owes (c : Thread nD τ) (owed c 99) W)

omit [FloatOps F] in
/-- All the slots at once, to read. -/
theorem slots_read : iprop(slots c ∗ eighth c 7) ⊢ (iprop(∃ h, (smallLoc c ↦[Finset.univ]{ShareLeaves.leaf 3 fullShare 7} h)
      ∗ ((smallLoc c ↦[Finset.univ]{ShareLeaves.leaf 3 fullShare 7} h) -∗ (slots c ∗ eighth c 7))) : sProp 𝕄) := by
  classical
  have h7 : (eighth c 7 : sProp 𝕄) = iprop(∃ f, (smallLoc c ↦[ownSet c]{ShareLeaves.leaf 3 fullShare 7} f)) := rfl
  have leaves (f : Buf (Elt F) (smallLoc c)) : (smallLoc c ↦[restSet c]{fullShare} f : sProp 𝕄)
      = iprop((bigSep Finset.univ fun j : Fin 7 => smallLoc c ↦[restSet c]{ShareLeaves.leaf 3 fullShare j.castSucc} f) ∗ (smallLoc c ↦[restSet c]{ShareLeaves.leaf 3 fullShare 7} f)) :=
    (ShareLeaves.pointsTo_leaves (restSet c) f 3 fullShare).trans (bigSep_fin8 fun i => smallLoc c ↦[restSet c]{ShareLeaves.leaf 3 fullShare i} f)
  have hr (f g : Buf (Elt F) (smallLoc c)) : (smallLoc c ↦[restSet c]{fullShare} f : sProp 𝕄) = smallLoc c ↦[restSet c]{fullShare} ((ownSet c).piecewise g f) :=
    pointsTo_congr fun i hi => ((ownSet c).piecewise_eq_of_notMem g f (Finset.mem_sdiff.mp hi).2).symm
  rw [h7]; unfold slots
  iintro ⟨⟨%f, Hf⟩, %g, Hg⟩
  ihave Hf := (Entails.of_eq ((hr f g).trans (leaves _))) $$ Hf
  icases Hf with ⟨Hl, H7⟩
  iexists ((ownSet c).piecewise g f)
  isplitl [Hg H7]
  · have e : (ownSet c).piecewise g ((ownSet c).piecewise g f) = (ownSet c).piecewise g f := by
      funext i; by_cases hi : i ∈ ownSet c
      · simp [Finset.piecewise, hi]
      · simp [Finset.piecewise, hi]
    have hj : iprop((smallLoc c ↦[ownSet c]{ShareLeaves.leaf 3 fullShare 7} g) ∗ (smallLoc c ↦[restSet c]{ShareLeaves.leaf 3 fullShare 7} ((ownSet c).piecewise g f)))
        ⊢ (smallLoc c ↦[Finset.univ]{ShareLeaves.leaf 3 fullShare 7} ((ownSet c).piecewise g f) : sProp 𝕄) :=
      (pointsTo_join_subset (Finset.subset_univ (ownSet c))).trans (Entails.of_eq (by rw [e]))
    iapply hj
    isplitl [Hg]; · iexact Hg
    iexact H7
  iintro H
  ihave H := ((pointsTo_split_subset (Finset.subset_univ (ownSet c))).1.trans
    (show iprop((smallLoc c ↦[ownSet c]{ShareLeaves.leaf 3 fullShare 7} ((ownSet c).piecewise g f)) ∗ (smallLoc c ↦[Finset.univ \ ownSet c]{ShareLeaves.leaf 3 fullShare 7} ((ownSet c).piecewise g f)))
      ⊢ (iprop((smallLoc c ↦[ownSet c]{ShareLeaves.leaf 3 fullShare 7} ((ownSet c).piecewise g f)) ∗ (smallLoc c ↦[restSet c]{ShareLeaves.leaf 3 fullShare 7} ((ownSet c).piecewise g f))) : sProp 𝕄) from BI.Entails.refl _)) $$ H
  icases H with ⟨Ho, H7⟩
  isplitl [Hl H7]
  · iexists ((ownSet c).piecewise g f)
    iapply (Entails.of_eq (leaves _).symm)
    isplitl [Hl]; · iexact Hl
    iexact H7
  iexists _; iexact Ho

/-- The writers' tokens, out of the waits' results and back. -/
theorem toks_out : (bigSep Finset.univ fun x : Cell => res m c x (Cell.at 99 x))
    ⊢ iprop(writeToks c ∗ (writeToks c -∗ bigSep Finset.univ fun x : Cell => res m c x (Cell.at 99 x))) := by
  rw [bigSep_apart smRE (fun x : Cell => res m c x (Cell.at 99 x))]
  simp only [show ∀ j, smRE j = Cell.smR j from fun _ => rfl, at_small.2.2, res_two, bigSep_sep', show ∀ j, pay m c (.smR j) = writeTok c j from fun _ => rfl]
  unfold writeToks
  iintro ⟨⟨H1, H2, H3⟩, H⟩
  isplitl [H2]; · iexact H2
  iintro H2
  isplitr [H]
  · isplitl [H1]; · iexact H1
    isplitl [H2] <;> iassumption
  iexact H

theorem sum_in {p : Prog (TpuEff nD τ sig (Elt F) Λ₀ .tc) α}
    (h : Sum m K c ⊢ wp frame (wpE (defs₀ (F := F)) 𝒱₀ (c : Thread nD τ) none) Set.univ p Q) :
    iprop(known m K ∗ St m c 99) ⊢ wp frame (wpE (defs₀ (F := F)) 𝒱₀ (c : Thread nD τ) none) Set.univ p Q := by
  unfold St hands
  iintro ⟨#HK, Hres, ⟨Hw, Ho, H8, Hst⟩, HO⟩
  ihave ⟨Ht, Hback⟩ := (toks_out m c) $$ Hres
  ihave #HB := (known_board m K c) $$ HK
  icases HB with ⟨%ι, #HI⟩
  imod (board_take c (Set.mem_univ ι)) $$ [Ho Ht] with ⟨Hs, Hf⟩
  · isplitr; · iexact HI
    isplitl [Ho] <;> iassumption
  iapply h
  unfold Sum
  isplitr; · iexact HK
  isplitl [Hf H8]
  · iapply (slots_read c)
    isplitl [Hf] <;> iassumption
  isplitl [Hs]; · iexact Hs
  isplitl [Hback]; · iexact Hback
  isplitl [Hw]; · iexact Hw
  isplitl [Hst] <;> iassumption

theorem sum_out {p : Prog (TpuEff nD τ sig (Elt F) Λ₀ .tc) α}
    (h : iprop(known m K ∗ St m c 99) ⊢ wp frame (wpE (defs₀ (F := F)) 𝒱₀ (c : Thread nD τ) none) Set.univ p Q) :
    Sum m K c ⊢ wp frame (wpE (defs₀ (F := F)) 𝒱₀ (c : Thread nD τ) none) Set.univ p Q := by
  unfold Sum
  iintro ⟨#HK, ⟨%g, Hg, Hgback⟩, Hs, Hback, Hw, Hst, HO⟩
  ihave ⟨Hf, H8⟩ := Hgback $$ Hg
  ihave #HB := (known_board m K c) $$ HK
  icases HB with ⟨%ι, #HI⟩
  imod (board_put c (Set.mem_univ ι)) $$ [Hs Hf] with ⟨Ho, Ht⟩
  · isplitr; · iexact HI
    isplitl [Hs] <;> iassumption
  iapply h
  unfold St hands
  isplitr; · iexact HK
  isplitl [Hback Ht]
  · iapply Hback; iexact Ht
  isplitr [HO]
  · isplitl [Hw]; · iexact Hw
    isplitl [Ho]; · iexact Ho
    isplitl [H8] <;> iassumption
  iexact HO

/-- The load of a slot. -/
theorem step_slot_load {R : Rect S8x104x128} {hl} {k : Vec F R.shape .f32 → Prog (TpuEff nD τ sig (Elt F) Λ₀ .tc) α}
    (h : ∀ v, Sum m K c ⊢ wp frame (wpE (defs₀ (F := F)) 𝒱₀ (c : Thread nD τ) none) Set.univ (k v) Q) :
    Sum m K c ⊢ wp frame (wpE (defs₀ (F := F)) 𝒱₀ (c : Thread nD τ) none) Set.univ (.op (.load smallM R.toLoadRect hl) k) Q := by
  unfold Sum
  iintro ⟨#HK, ⟨%g, Hg, Hgback⟩, Hrest⟩
  iapply (wp_load_rect 𝒱₀ (c : Thread nD τ) none Set.univ (m := smallM) (r := R) (Finset.subset_univ _)) $$ Hg
  iintro Hg
  iapply (h _)
  unfold Sum
  isplitr; · iexact HK
  isplitr [Hrest]
  · iexists g
    isplitl [Hg] <;> iassumption
  iexact Hrest

/-- The load from the result's window, -/
theorem step_out_load {R : Rect S104x128} {hl} {k : Vec F R.shape .f32 → Prog (TpuEff nD τ sig (Elt F) Λ₀ .tc) α}
    (h : ∀ v, Sum m K c ⊢ wp frame (wpE (defs₀ (F := F)) 𝒱₀ (c : Thread nD τ) none) Set.univ (k v) Q) :
    Sum m K c ⊢ wp frame (wpE (defs₀ (F := F)) 𝒱₀ (c : Thread nD τ) none) Set.univ (.op (.load (stgM 1) R.toLoadRect hl) k) Q := by
  unfold Sum stages
  iintro ⟨#HK, Hg, Hs, Hback, Hw, ⟨H0, %f, H1⟩, HO⟩
  iapply (wp_load_rect 𝒱₀ (c : Thread nD τ) none Set.univ (m := stgM 1) (r := R) (Finset.subset_univ _)) $$ H1
  iintro H1
  iapply (h _)
  unfold Sum stages
  isplitr; · iexact HK
  isplitl [Hg]; · iexact Hg
  isplitl [Hs]; · iexact Hs
  isplitl [Hback]; · iexact Hback
  isplitl [Hw]; · iexact Hw
  isplitr [HO]
  · isplitl [H0]; · iexact H0
    iexists f; iexact H1
  iexact HO

/-- and the store into it. -/
theorem step_out_store {R : Rect S104x128} {w : Vec F R.shape .f32} {hx hm} {k : PUnit → Prog (TpuEff nD τ sig (Elt F) Λ₀ .tc) α}
    (h : Sum m K c ⊢ wp frame (wpE (defs₀ (F := F)) 𝒱₀ (c : Thread nD τ) none) Set.univ (k ⟨⟩) Q) :
    Sum m K c ⊢ wp frame (wpE (defs₀ (F := F)) 𝒱₀ (c : Thread nD τ) none) Set.univ (.op (.store (stgM 1) R w Finset.univ hx hm) k) Q := by
  unfold Sum stages
  iintro ⟨#HK, Hg, Hs, Hback, Hw, ⟨H0, %f, H1⟩, HO⟩
  iapply (wp_store 𝒱₀ (c : Thread nD τ) none Set.univ (m := stgM 1) (r := R) (Finset.subset_univ _)) $$ H1
  iintro H1
  iapply h
  unfold Sum stages
  isplitr; · iexact HK
  isplitl [Hg]; · iexact Hg
  isplitl [Hs]; · iexact Hs
  isplitl [Hback]; · iexact Hback
  isplitl [Hw]; · iexact Hw
  isplitr [HO]
  · isplitl [H0]; · iexact H0
    iexists _; iexact H1
  iexact HO

end Steps

end Cert.Reducing
-- ==== Proof.RBodyA.lean ====
/-
# The reduction of the gradients: the exchange on the chip

Each device sends its neighbour on the chip the neighbour’s side of every gradient.
-/
module

public import proofs.«01_k».proof.Proof.RSum
public import proofs.«01_k».proof.Proof.RSmall
public import Idealize.ShloMosaic.Lib.Transfers
public import Idealize.ShloMosaic.Lib.Scf
public import Idealize.ShloMosaic.Lib.Pipeline.ValueKit.Geometry

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem run20 (K : Dev nD × Cell → ℕ) (c : Dev nD) (v29 : BitVec 32) (v30 : BitVec 32) (v31 : BitVec 1) (v32 : BitVec 1)
    {α : Type} {Q : α → sProp (MT nD τ sig Unit (Elt F) ℕ UU ℕ)} {k : (Σ' (v37 : BitVec 32) (v54 : BitVec 32) (v73 : BitVec 32), BitVec 32) → Prog (TpuEff nD τ sig (Elt F) Λ₀ .tc) α}
    (hk : ∀ x0, iprop(known m K ∗ St m c 1) ⊢ wp frame (wpE (defs₀ (F := F)) 𝒱₀ (c : Thread nD τ) none) Set.univ (k x0) Q) :
    iprop(known m K ∗ St m c 1) ⊢ wp frame (wpE (defs₀ (F := F)) 𝒱₀ (c : Thread nD τ) none) Set.univ (k0_part20 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 v29 v30 v31 v32 >>= k) Q := by
  rw [k0_part20_eq_skeleton]; unfold k0_part20_skel
  simp only [Prog.lift, Prog.bind_op, Prog.bind_ret, Prog.pure_eq_ret, Prog.bind_assoc]
  exact hk _

set_option maxRecDepth 65536 in
set_option maxHeartbeats 4000000 in
theorem run21 (K : Dev nD × Cell → ℕ) (c : Dev nD) (v14 : BitVec 32) (v37 : BitVec 32) (v54 : BitVec 32) (v73 : BitVec 32) (v74 : BitVec 32)
    {α : Type} {Q : α → sProp (MT nD τ sig Unit (Elt F) ℕ UU ℕ)} {k : (Σ' (v107 : BitVec 32), BitVec 32) → Prog (TpuEff nD τ sig (Elt F) Λ₀ .tc) α}
    (hk : ∀ x0, iprop(known m K ∗ St m c 2) ⊢ wp frame (wpE (defs₀ (F := F)) 𝒱₀ (c : Thread nD τ) none) Set.univ (k x0) Q) :
    iprop(known m K ∗ St m c 1) ⊢ wp frame (wpE (defs₀ (F := F)) 𝒱₀ (c : Thread nD τ) none) Set.univ (k0_part21 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v14 v37 v54 v73 v74 >>= k) Q := by
  rw [k0_part21_eq_skeleton]; unfold k0_part21_skel
  simp only [Prog.lift, Prog.bind_op, Prog.bind_ret, Prog.pure_eq_ret, Prog.bind_assoc]
  refine step_small m K c 0 rfl (by clear hk; revert c; decide +kernel) rfl rfl (by clear hk; revert c; decide +kernel) (by clear hk; revert c; decide +kernel) ?_
  exact hk _

set_option maxRecDepth 65536 in
set_option maxHeartbeats 4000000 in
theorem run22 (K : Dev nD × Cell → ℕ) (c : Dev nD) (v107 : BitVec 32) (v109 : BitVec 32)
    {α : Type} {Q : α → sProp (MT nD τ sig Unit (Elt F) ℕ UU ℕ)} {k : (Σ' (v117 : BitVec 32) (v134 : BitVec 32) (v151 : BitVec 32), BitVec 32) → Prog (TpuEff nD τ sig (Elt F) Λ₀ .tc) α}
    (hk : ∀ x0, iprop(known m K ∗ St m c 2) ⊢ wp frame (wpE (defs₀ (F := F)) 𝒱₀ (c : Thread nD τ) none) Set.univ (k x0) Q) :
    iprop(known m K ∗ St m c 2) ⊢ wp frame (wpE (defs₀ (F := F)) 𝒱₀ (c : Thread nD τ) none) Set.univ (k0_part22 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 v107 v109 >>= k) Q := by
  rw [k0_part22_eq_skeleton]; unfold k0_part22_skel
  simp only [Prog.lift, Prog.bind_op, Prog.bind_ret, Prog.pure_eq_ret, Prog.bind_assoc]
  exact hk _

set_option maxRecDepth 65536 in
set_option maxHeartbeats 4000000 in
theorem run23 (K : Dev nD × Cell → ℕ) (c : Dev nD) (v14 : BitVec 32) (v117 : BitVec 32) (v134 : BitVec 32) (v151 : BitVec 32) (c2_i32_78 : BitVec 32)
    {α : Type} {Q : α → sProp (MT nD τ sig Unit (Elt F) ℕ UU ℕ)} {k : (BitVec 32) → Prog (TpuEff nD τ sig (Elt F) Λ₀ .tc) α}
    (hk : ∀ x0, iprop(known m K ∗ St m c 3) ⊢ wp frame (wpE (defs₀ (F := F)) 𝒱₀ (c : Thread nD τ) none) Set.univ (k x0) Q) :
    iprop(known m K ∗ St m c 2) ⊢ wp frame (wpE (defs₀ (F := F)) 𝒱₀ (c : Thread nD τ) none) Set.univ (k0_part23 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v14 v117 v134 v151 c2_i32_78 >>= k) Q := by
  rw [k0_part23_eq_skeleton]; unfold k0_part23_skel
  simp only [Prog.lift, Prog.bind_op, Prog.bind_ret, Prog.pure_eq_ret, Prog.bind_assoc]
  refine step_small m K c 1 rfl (by clear hk; revert c; decide +kernel) rfl rfl (by clear hk; revert c; decide +kernel) (by clear hk; revert c; decide +kernel) ?_
  exact hk _

set_option maxRecDepth 65536 in
set_option maxHeartbeats 4000000 in
theorem run24 (K : Dev nD × Cell → ℕ) (c : Dev nD) (v187 : BitVec 32)
    {α : Type} {Q : α → sProp (MT nD τ sig Unit (Elt F) ℕ UU ℕ)} {k : (Σ' (v197 : BitVec 32) (v214 : BitVec 32) (v215 : BitVec 32) (v226 : BitVec 1), BitVec 1) → Prog (TpuEff nD τ sig (Elt F) Λ₀ .tc) α}
    (hk : ∀ x0, iprop(known m K ∗ St m c 3) ⊢ wp frame (wpE (defs₀ (F := F)) 𝒱₀ (c : Thread nD τ) none) Set.univ (k x0) Q) :
    iprop(known m K ∗ St m c 3) ⊢ wp frame (wpE (defs₀ (F := F)) 𝒱₀ (c : Thread nD τ) none) Set.univ (k0_part24 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 v187 >>= k) Q := by
  rw [k0_part24_eq_skeleton]; unfold k0_part24_skel
  simp only [Prog.lift, Prog.bind_op, Prog.bind_ret, Prog.pure_eq_ret, Prog.bind_assoc]
  exact hk _

set_option maxRecDepth 65536 in
set_option maxHeartbeats 4000000 in
theorem run25 (K : Dev nD × Cell → ℕ) (c : Dev nD) (v197 : BitVec 32) (v214 : BitVec 32) (v215 : BitVec 32) (v226 : BitVec 1) (v228 : BitVec 1)
    {α : Type} {Q : α → sProp (MT nD τ sig Unit (Elt F) ℕ UU ℕ)} {k : (PUnit) → Prog (TpuEff nD τ sig (Elt F) Λ₀ .tc) α}
    (hk : ∀ x0, iprop(known m K ∗ St m c 3) ⊢ wp frame (wpE (defs₀ (F := F)) 𝒱₀ (c : Thread nD τ) none) Set.univ (k x0) Q) :
    iprop(known m K ∗ St m c 3) ⊢ wp frame (wpE (defs₀ (F := F)) 𝒱₀ (c : Thread nD τ) none) Set.univ (k0_part25 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v197 v214 v215 v226 v228 >>= k) Q := by
  rw [k0_part25_eq_skeleton]; unfold k0_part25_skel
  simp only [Prog.lift, Prog.bind_op, Prog.bind_ret, Prog.pure_eq_ret, Prog.bind_assoc]
  exact hk _

set_option maxRecDepth 65536 in
set_option maxHeartbeats 4000000 in
theorem run26 (K : Dev nD × Cell → ℕ) (c : Dev nD) (v14 : BitVec 32)
    {α : Type} {Q : α → sProp (MT nD τ sig Unit (Elt F) ℕ UU ℕ)} {k : (Σ' (v277 : BitVec 32) (v294 : BitVec 32) (c2_i32_158 : BitVec 32) (v295 : BitVec 32) (v300 : BitVec 32) (v302 : BitVec 32), BitVec 32) → Prog (TpuEff nD τ sig (Elt F) Λ₀ .tc) α}
    (hk : ∀ x0, iprop(known m K ∗ St m c 4) ⊢ wp frame (wpE (defs₀ (F := F)) 𝒱₀ (c : Thread nD τ) none) Set.univ (k x0) Q) :
    iprop(known m K ∗ St m c 3) ⊢ wp frame (wpE (defs₀ (F := F)) 𝒱₀ (c : Thread nD τ) none) Set.univ (k0_part26 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v14 >>= k) Q := by
  rw [k0_part26_eq_skeleton]; unfold k0_part26_skel
  simp only [Prog.lift, Prog.bind_op, Prog.bind_ret, Prog.pure_eq_ret, Prog.bind_assoc]
  refine step_small m K c 2 rfl (by clear hk; revert c; decide +kernel) rfl rfl (by clear hk; revert c; decide +kernel) (by clear hk; revert c; decide +kernel) ?_
  exact hk _

set_option maxRecDepth 65536 in
set_option maxHeartbeats 4000000 in
theorem run27 (K : Dev nD × Cell → ℕ) (c : Dev nD) (v277 : BitVec 32) (v294 : BitVec 32) (c2_i32_158 : BitVec 32) (v295 : BitVec 32) (v300 : BitVec 32) (v302 : BitVec 32) (v304 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 4) ⊢ wp frame (wpE (defs₀ (F := F)) 𝒱₀ (c : Thread nD τ) none) Set.univ (k x0) Q) :
    iprop(known m K ∗ St m c 4) ⊢ wp frame (wpE (defs₀ (F := F)) 𝒱₀ (c : Thread nD τ) none) Set.univ (k0_part27 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v277 v294 c2_i32_158 v295 v300 v302 v304 >>= k) Q := by
  rw [k0_part27_eq_skeleton]; unfold k0_part27_skel
  simp only [Prog.lift, Prog.bind_op, Prog.bind_ret, Prog.pure_eq_ret, Prog.bind_assoc]
  exact hk _

set_option maxRecDepth 65536 in
set_option maxHeartbeats 4000000 in
theorem run28 (K : Dev nD × Cell → ℕ) (c : Dev nD) (v14 : BitVec 32)
    {α : Type} {Q : α → sProp (MT nD τ sig Unit (Elt F) ℕ UU ℕ)} {k : (Σ' (v357 : BitVec 32) (v374 : BitVec 32) (c2_i32_202 : BitVec 32) (v375 : BitVec 32) (v380 : BitVec 32), BitVec 32) → Prog (TpuEff nD τ sig (Elt F) Λ₀ .tc) α}
    (hk : ∀ x0, iprop(known m K ∗ St m c 5) ⊢ wp frame (wpE (defs₀ (F := F)) 𝒱₀ (c : Thread nD τ) none) Set.univ (k x0) Q) :
    iprop(known m K ∗ St m c 4) ⊢ wp frame (wpE (defs₀ (F := F)) 𝒱₀ (c : Thread nD τ) none) Set.univ (k0_part28 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v14 >>= k) Q := by
  rw [k0_part28_eq_skeleton]; unfold k0_part28_skel
  simp only [Prog.lift, Prog.bind_op, Prog.bind_ret, Prog.pure_eq_ret, Prog.bind_assoc]
  refine step_small m K c 3 rfl (by clear hk; revert c; decide +kernel) rfl rfl (by clear hk; revert c; decide +kernel) (by clear hk; revert c; decide +kernel) ?_
  exact hk _

set_option maxRecDepth 65536 in
set_option maxHeartbeats 4000000 in
theorem run29 (K : Dev nD × Cell → ℕ) (c : Dev nD) (v357 : BitVec 32) (v374 : BitVec 32) (c2_i32_202 : BitVec 32) (v375 : BitVec 32) (v380 : BitVec 32) (c0_i32_205 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 5) ⊢ wp frame (wpE (defs₀ (F := F)) 𝒱₀ (c : Thread nD τ) none) Set.univ (k x0) Q) :
    iprop(known m K ∗ St m c 5) ⊢ wp frame (wpE (defs₀ (F := F)) 𝒱₀ (c : Thread nD τ) none) Set.univ (k0_part29 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 v357 v374 c2_i32_202 v375 v380 c0_i32_205 >>= k) Q := by
  rw [k0_part29_eq_skeleton]; unfold k0_part29_skel
  simp only [Prog.lift, Prog.bind_op, Prog.bind_ret, Prog.pure_eq_ret, Prog.bind_assoc]
  exact hk _

set_option maxRecDepth 65536 in
set_option maxHeartbeats 4000000 in
theorem run30 (K : Dev nD × Cell → ℕ) (c : Dev nD) (v14 : BitVec 32)
    {α : Type} {Q : α → sProp (MT nD τ sig Unit (Elt F) ℕ UU ℕ)} {k : (Σ' (v437 : BitVec 32) (v454 : BitVec 32) (c2_i32_245 : BitVec 32) (v455 : BitVec 32), BitVec 32) → Prog (TpuEff nD τ sig (Elt F) Λ₀ .tc) α}
    (hk : ∀ x0, iprop(known m K ∗ St m c 6) ⊢ wp frame (wpE (defs₀ (F := F)) 𝒱₀ (c : Thread nD τ) none) Set.univ (k x0) Q) :
    iprop(known m K ∗ St m c 5) ⊢ wp frame (wpE (defs₀ (F := F)) 𝒱₀ (c : Thread nD τ) none) Set.univ (k0_part30 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v14 >>= k) Q := by
  rw [k0_part30_eq_skeleton]; unfold k0_part30_skel
  simp only [Prog.lift, Prog.bind_op, Prog.bind_ret, Prog.pure_eq_ret, Prog.bind_assoc]
  refine step_small m K c 4 rfl (by clear hk; revert c; decide +kernel) rfl rfl (by clear hk; revert c; decide +kernel) (by clear hk; revert c; decide +kernel) ?_
  exact hk _

set_option maxRecDepth 65536 in
set_option maxHeartbeats 4000000 in
theorem run31 (K : Dev nD × Cell → ℕ) (c : Dev nD) (v437 : BitVec 32) (v454 : BitVec 32) (c2_i32_245 : BitVec 32) (v455 : BitVec 32) (v457 : BitVec 32)
    {α : Type} {Q : α → sProp (MT nD τ sig Unit (Elt F) ℕ UU ℕ)} {k : (Σ' (v491 : BitVec 32), BitVec 32) → Prog (TpuEff nD τ sig (Elt F) Λ₀ .tc) α}
    (hk : ∀ x0, iprop(known m K ∗ St m c 6) ⊢ wp frame (wpE (defs₀ (F := F)) 𝒱₀ (c : Thread nD τ) none) Set.univ (k x0) Q) :
    iprop(known m K ∗ St m c 6) ⊢ wp frame (wpE (defs₀ (F := F)) 𝒱₀ (c : Thread nD τ) none) Set.univ (k0_part31 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 v437 v454 c2_i32_245 v455 v457 >>= k) Q := by
  rw [k0_part31_eq_skeleton]; unfold k0_part31_skel
  simp only [Prog.lift, Prog.bind_op, Prog.bind_ret, Prog.pure_eq_ret, Prog.bind_assoc]
  exact hk _

set_option maxRecDepth 65536 in
set_option maxHeartbeats 4000000 in
theorem run32 (K : Dev nD × Cell → ℕ) (c : Dev nD) (v14 : BitVec 32) (v491 : BitVec 32) (v495 : BitVec 32)
    {α : Type} {Q : α → sProp (MT nD τ sig Unit (Elt F) ℕ UU ℕ)} {k : (Σ' (v517 : BitVec 32), BitVec 32) → Prog (TpuEff nD τ sig (Elt F) Λ₀ .tc) α}
    (hk : ∀ x0, iprop(known m K ∗ St m c 7) ⊢ wp frame (wpE (defs₀ (F := F)) 𝒱₀ (c : Thread nD τ) none) Set.univ (k x0) Q) :
    iprop(known m K ∗ St m c 6) ⊢ wp frame (wpE (defs₀ (F := F)) 𝒱₀ (c : Thread nD τ) none) Set.univ (k0_part32 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v14 v491 v495 >>= k) Q := by
  rw [k0_part32_eq_skeleton]; unfold k0_part32_skel
  simp only [Prog.lift, Prog.bind_op, Prog.bind_ret, Prog.pure_eq_ret, Prog.bind_assoc]
  refine step_small m K c 5 rfl (by clear hk; revert c; decide +kernel) rfl rfl (by clear hk; revert c; decide +kernel) (by clear hk; revert c; decide +kernel) ?_
  exact hk _

set_option maxRecDepth 65536 in
set_option maxHeartbeats 4000000 in
theorem run33 (K : Dev nD × Cell → ℕ) (c : Dev nD) (v517 : BitVec 32) (v534 : BitVec 32)
    {α : Type} {Q : α → sProp (MT nD τ sig Unit (Elt F) ℕ UU ℕ)} {k : (Σ' (v561 : BitVec 32) (v571 : BitVec 32), BitVec 32) → Prog (TpuEff nD τ sig (Elt F) Λ₀ .tc) α}
    (hk : ∀ x0, iprop(known m K ∗ St m c 7) ⊢ wp frame (wpE (defs₀ (F := F)) 𝒱₀ (c : Thread nD τ) none) Set.univ (k x0) Q) :
    iprop(known m K ∗ St m c 7) ⊢ wp frame (wpE (defs₀ (F := F)) 𝒱₀ (c : Thread nD τ) none) Set.univ (k0_part33 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 v517 v534 >>= k) Q := by
  rw [k0_part33_eq_skeleton]; unfold k0_part33_skel
  simp only [Prog.lift, Prog.bind_op, Prog.bind_ret, Prog.pure_eq_ret, Prog.bind_assoc]
  exact hk _

set_option maxRecDepth 65536 in
set_option maxHeartbeats 4000000 in
theorem run34 (K : Dev nD × Cell → ℕ) (c : Dev nD) (v2 : BitVec 32) (v5 : BitVec 32) (v8 : BitVec 32) (v15 : BitVec 32) (v561 : BitVec 32) (v571 : BitVec 32) (v572 : BitVec 32)
    {α : Type} {Q : α → sProp (MT nD τ sig Unit (Elt F) ℕ UU ℕ)} {k : (BitVec 32) → Prog (TpuEff nD τ sig (Elt F) Λ₀ .tc) α}
    (hk : ∀ x0, iprop(known m K ∗ St m c 9) ⊢ wp frame (wpE (defs₀ (F := F)) 𝒱₀ (c : Thread nD τ) none) Set.univ (k x0) Q) :
    iprop(known m K ∗ St m c 7) ⊢ wp frame (wpE (defs₀ (F := F)) 𝒱₀ (c : Thread nD τ) none) Set.univ (k0_part34 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v561 v571 v572 >>= k) Q := by
  rw [k0_part34_eq_skeleton]; unfold k0_part34_skel
  simp only [Prog.lift, Prog.bind_op, Prog.bind_ret, Prog.pure_eq_ret, Prog.bind_assoc]
  refine step_small m K c 6 rfl (by clear hk; revert c; decide +kernel) rfl rfl (by clear hk; revert c; decide +kernel) (by clear hk; revert c; decide +kernel) ?_
  refine step_sib m K c 0 0 rfl (by clear hk; revert c; decide +kernel) rfl rfl (by clear hk; revert c; decide +kernel) rfl ?_
  exact hk _

set_option maxRecDepth 65536 in
set_option maxHeartbeats 4000000 in
theorem run35 (K : Dev nD × Cell → ℕ) (c : Dev nD) (v2 : BitVec 32) (v5 : BitVec 32) (v8 : BitVec 32) (v15 : BitVec 32) (v605 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 11) ⊢ wp frame (wpE (defs₀ (F := F)) 𝒱₀ (c : Thread nD τ) none) Set.univ (k x0) Q) :
    iprop(known m K ∗ St m c 9) ⊢ wp frame (wpE (defs₀ (F := F)) 𝒱₀ (c : Thread nD τ) none) Set.univ (k0_part35 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v605 >>= k) Q := by
  rw [k0_part35_eq_skeleton]; unfold k0_part35_skel
  simp only [Prog.lift, Prog.bind_op, Prog.bind_ret, Prog.pure_eq_ret, Prog.bind_assoc]
  refine step_sib m K c 0 1 rfl (by clear hk; revert c; decide +kernel) rfl rfl (by clear hk; revert c; decide +kernel) rfl ?_
  refine step_sib m K c 0 2 rfl (by clear hk; revert c; decide +kernel) rfl rfl (by clear hk; revert c; decide +kernel) rfl ?_
  exact hk _

set_option maxRecDepth 65536 in
set_option maxHeartbeats 4000000 in
theorem run36 (K : Dev nD × Cell → ℕ) (c : Dev nD) (v2 : BitVec 32) (v5 : BitVec 32) (v8 : BitVec 32) (v15 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 12) ⊢ wp frame (wpE (defs₀ (F := F)) 𝒱₀ (c : Thread nD τ) none) Set.univ (k x0) Q) :
    iprop(known m K ∗ St m c 11) ⊢ wp frame (wpE (defs₀ (F := F)) 𝒱₀ (c : Thread nD τ) none) Set.univ (k0_part36 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 >>= k) Q := by
  rw [k0_part36_eq_skeleton]; unfold k0_part36_skel
  simp only [Prog.lift, Prog.bind_op, Prog.bind_ret, Prog.pure_eq_ret, Prog.bind_assoc]
  refine step_sib m K c 0 3 rfl (by clear hk; revert c; decide +kernel) rfl rfl (by clear hk; revert c; decide +kernel) rfl ?_
  exact hk _

set_option maxRecDepth 65536 in
set_option maxHeartbeats 4000000 in
theorem run37 (K : Dev nD × Cell → ℕ) (c : Dev nD) (v2 : BitVec 32) (v5 : BitVec 32) (v8 : BitVec 32) (v15 : BitVec 32)
    {α : Type} {Q : α → sProp (MT nD τ sig Unit (Elt F) ℕ UU ℕ)} {k : (Σ' (v695 : BitVec 32), BitVec 32) → Prog (TpuEff nD τ sig (Elt F) Λ₀ .tc) α}
    (hk : ∀ x0, iprop(known m K ∗ St m c 14) ⊢ wp frame (wpE (defs₀ (F := F)) 𝒱₀ (c : Thread nD τ) none) Set.univ (k x0) Q) :
    iprop(known m K ∗ St m c 12) ⊢ wp frame (wpE (defs₀ (F := F)) 𝒱₀ (c : Thread nD τ) none) Set.univ (k0_part37 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 >>= k) Q := by
  rw [k0_part37_eq_skeleton]; unfold k0_part37_skel
  simp only [Prog.lift, Prog.bind_op, Prog.bind_ret, Prog.pure_eq_ret, Prog.bind_assoc]
  refine step_sib m K c 1 0 rfl (by clear hk; revert c; decide +kernel) rfl rfl (by clear hk; revert c; decide +kernel) rfl ?_
  refine step_sib m K c 1 1 rfl (by clear hk; revert c; decide +kernel) rfl rfl (by clear hk; revert c; decide +kernel) rfl ?_
  exact hk _

set_option maxRecDepth 65536 in
set_option maxHeartbeats 4000000 in
theorem run38 (K : Dev nD × Cell → ℕ) (c : Dev nD) (v2 : BitVec 32) (v5 : BitVec 32) (v8 : BitVec 32) (v15 : BitVec 32) (v695 : BitVec 32) (v696 : BitVec 32)
    {α : Type} {Q : α → sProp (MT nD τ sig Unit (Elt F) ℕ UU ℕ)} {k : (Σ' (v726 : BitVec 32), BitVec 32) → Prog (TpuEff nD τ sig (Elt F) Λ₀ .tc) α}
    (hk : ∀ x0, iprop(known m K ∗ St m c 16) ⊢ wp frame (wpE (defs₀ (F := F)) 𝒱₀ (c : Thread nD τ) none) Set.univ (k x0) Q) :
    iprop(known m K ∗ St m c 14) ⊢ wp frame (wpE (defs₀ (F := F)) 𝒱₀ (c : Thread nD τ) none) Set.univ (k0_part38 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v695 v696 >>= k) Q := by
  rw [k0_part38_eq_skeleton]; unfold k0_part38_skel
  simp only [Prog.lift, Prog.bind_op, Prog.bind_ret, Prog.pure_eq_ret, Prog.bind_assoc]
  refine step_sib m K c 1 2 rfl (by clear hk; revert c; decide +kernel) rfl rfl (by clear hk; revert c; decide +kernel) rfl ?_
  refine step_sib m K c 1 3 rfl (by clear hk; revert c; decide +kernel) rfl rfl (by clear hk; revert c; decide +kernel) rfl ?_
  exact hk _

set_option maxRecDepth 65536 in
set_option maxHeartbeats 4000000 in
theorem run39 (K : Dev nD × Cell → ℕ) (c : Dev nD) (v2 : BitVec 32) (v5 : BitVec 32) (v8 : BitVec 32) (v15 : BitVec 32) (v726 : BitVec 32) (c0_i32_438 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 18) ⊢ wp frame (wpE (defs₀ (F := F)) 𝒱₀ (c : Thread nD τ) none) Set.univ (k x0) Q) :
    iprop(known m K ∗ St m c 16) ⊢ wp frame (wpE (defs₀ (F := F)) 𝒱₀ (c : Thread nD τ) none) Set.univ (k0_part39 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v726 c0_i32_438 >>= k) Q := by
  rw [k0_part39_eq_skeleton]; unfold k0_part39_skel
  simp only [Prog.lift, Prog.bind_op, Prog.bind_ret, Prog.pure_eq_ret, Prog.bind_assoc]
  refine step_sib m K c 2 0 rfl (by clear hk; revert c; decide +kernel) rfl rfl (by clear hk; revert c; decide +kernel) rfl ?_
  refine step_sib m K c 2 1 rfl (by clear hk; revert c; decide +kernel) rfl rfl (by clear hk; revert c; decide +kernel) rfl ?_
  exact hk _

set_option maxRecDepth 65536 in
set_option maxHeartbeats 4000000 in
theorem run40 (K : Dev nD × Cell → ℕ) (c : Dev nD) (v2 : BitVec 32) (v5 : BitVec 32) (v8 : BitVec 32) (v15 : BitVec 32)
    {α : Type} {Q : α → sProp (MT nD τ sig Unit (Elt F) ℕ UU ℕ)} {k : (Σ' (v790 : BitVec 32), BitVec 32) → Prog (TpuEff nD τ sig (Elt F) Λ₀ .tc) α}
    (hk : ∀ x0, iprop(known m K ∗ St m c 20) ⊢ wp frame (wpE (defs₀ (F := F)) 𝒱₀ (c : Thread nD τ) none) Set.univ (k x0) Q) :
    iprop(known m K ∗ St m c 18) ⊢ wp frame (wpE (defs₀ (F := F)) 𝒱₀ (c : Thread nD τ) none) Set.univ (k0_part40 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 >>= k) Q := by
  rw [k0_part40_eq_skeleton]; unfold k0_part40_skel
  simp only [Prog.lift, Prog.bind_op, Prog.bind_ret, Prog.pure_eq_ret, Prog.bind_assoc]
  refine step_sib m K c 2 2 rfl (by clear hk; revert c; decide +kernel) rfl rfl (by clear hk; revert c; decide +kernel) rfl ?_
  refine step_sib m K c 2 3 rfl (by clear hk; revert c; decide +kernel) rfl rfl (by clear hk; revert c; decide +kernel) rfl ?_
  exact hk _

set_option maxRecDepth 65536 in
set_option maxHeartbeats 4000000 in
theorem run41 (K : Dev nD × Cell → ℕ) (c : Dev nD) (v2 : BitVec 32) (v5 : BitVec 32) (v8 : BitVec 32) (v15 : BitVec 32) (v790 : BitVec 32) (c1024_i32_487 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 21) ⊢ wp frame (wpE (defs₀ (F := F)) 𝒱₀ (c : Thread nD τ) none) Set.univ (k x0) Q) :
    iprop(known m K ∗ St m c 20) ⊢ wp frame (wpE (defs₀ (F := F)) 𝒱₀ (c : Thread nD τ) none) Set.univ (k0_part41 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v790 c1024_i32_487 >>= k) Q := by
  rw [k0_part41_eq_skeleton]; unfold k0_part41_skel
  simp only [Prog.lift, Prog.bind_op, Prog.bind_ret, Prog.pure_eq_ret, Prog.bind_assoc]
  refine step_sib m K c 3 0 rfl (by clear hk; revert c; decide +kernel) rfl rfl (by clear hk; revert c; decide +kernel) rfl ?_
  exact hk _

set_option maxRecDepth 65536 in
set_option maxHeartbeats 4000000 in
theorem run42 (K : Dev nD × Cell → ℕ) (c : Dev nD) (v2 : BitVec 32) (v5 : BitVec 32) (v8 : BitVec 32) (v15 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 23) ⊢ wp frame (wpE (defs₀ (F := F)) 𝒱₀ (c : Thread nD τ) none) Set.univ (k x0) Q) :
    iprop(known m K ∗ St m c 21) ⊢ wp frame (wpE (defs₀ (F := F)) 𝒱₀ (c : Thread nD τ) none) Set.univ (k0_part42 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 >>= k) Q := by
  rw [k0_part42_eq_skeleton]; unfold k0_part42_skel
  simp only [Prog.lift, Prog.bind_op, Prog.bind_ret, Prog.pure_eq_ret, Prog.bind_assoc]
  refine step_sib m K c 3 1 rfl (by clear hk; revert c; decide +kernel) rfl rfl (by clear hk; revert c; decide +kernel) rfl ?_
  refine step_sib m K c 3 2 rfl (by clear hk; revert c; decide +kernel) rfl rfl (by clear hk; revert c; decide +kernel) rfl ?_
  exact hk _

set_option maxRecDepth 65536 in
set_option maxHeartbeats 4000000 in
theorem run43 (K : Dev nD × Cell → ℕ) (c : Dev nD) (v2 : BitVec 32) (v5 : BitVec 32) (v8 : BitVec 32) (v15 : BitVec 32)
    {α : Type} {Q : α → sProp (MT nD τ sig Unit (Elt F) ℕ UU ℕ)} {k : (Σ' (v880 : BitVec 32), BitVec 32) → Prog (TpuEff nD τ sig (Elt F) Λ₀ .tc) α}
    (hk : ∀ x0, iprop(known m K ∗ St m c 25) ⊢ wp frame (wpE (defs₀ (F := F)) 𝒱₀ (c : Thread nD τ) none) Set.univ (k x0) Q) :
    iprop(known m K ∗ St m c 23) ⊢ wp frame (wpE (defs₀ (F := F)) 𝒱₀ (c : Thread nD τ) none) Set.univ (k0_part43 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 >>= k) Q := by
  rw [k0_part43_eq_skeleton]; unfold k0_part43_skel
  simp only [Prog.lift, Prog.bind_op, Prog.bind_ret, Prog.pure_eq_ret, Prog.bind_assoc]
  refine step_sib m K c 3 3 rfl (by clear hk; revert c; decide +kernel) rfl rfl (by clear hk; revert c; decide +kernel) rfl ?_
  refine step_wait m K c (.sibR 0 0) rfl rfl (credit_sib 0 _ _) ?_
  exact hk _

set_option maxRecDepth 65536 in
set_option maxHeartbeats 4000000 in
theorem run44 (K : Dev nD × Cell → ℕ) (c : Dev nD) (v2 : BitVec 32) (v5 : BitVec 32) (v8 : BitVec 32) (v15 : BitVec 32) (v880 : BitVec 32) (c1_i32_572 : BitVec 32)
    {α : Type} {Q : α → sProp (MT nD τ sig Unit (Elt F) ℕ UU ℕ)} {k : (Σ' (v908 : BitVec 32), BitVec 32) → Prog (TpuEff nD τ sig (Elt F) Λ₀ .tc) α}
    (hk : ∀ x0, iprop(known m K ∗ St m c 27) ⊢ wp frame (wpE (defs₀ (F := F)) 𝒱₀ (c : Thread nD τ) none) Set.univ (k x0) Q) :
    iprop(known m K ∗ St m c 25) ⊢ wp frame (wpE (defs₀ (F := F)) 𝒱₀ (c : Thread nD τ) none) Set.univ (k0_part44 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v880 c1_i32_572 >>= k) Q := by
  rw [k0_part44_eq_skeleton]; unfold k0_part44_skel
  simp only [Prog.lift, Prog.bind_op, Prog.bind_ret, Prog.pure_eq_ret, Prog.bind_assoc]
  refine step_wait m K c (.sibR 0 1) rfl rfl (credit_sib 0 _ _) ?_
  refine step_wait m K c (.sibR 0 2) rfl rfl (credit_sib 0 _ _) ?_
  exact hk _

set_option maxRecDepth 65536 in
set_option maxHeartbeats 4000000 in
theorem run45 (K : Dev nD × Cell → ℕ) (c : Dev nD) (v2 : BitVec 32) (v5 : BitVec 32) (v8 : BitVec 32) (v15 : BitVec 32) (v908 : BitVec 32) (v909 : BitVec 32)
    {α : Type} {Q : α → sProp (MT nD τ sig Unit (Elt F) ℕ UU ℕ)} {k : (BitVec 32) → Prog (TpuEff nD τ sig (Elt F) Λ₀ .tc) α}
    (hk : ∀ x0, iprop(known m K ∗ St m c 29) ⊢ wp frame (wpE (defs₀ (F := F)) 𝒱₀ (c : Thread nD τ) none) Set.univ (k x0) Q) :
    iprop(known m K ∗ St m c 27) ⊢ wp frame (wpE (defs₀ (F := F)) 𝒱₀ (c : Thread nD τ) none) Set.univ (k0_part45 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v908 v909 >>= k) Q := by
  rw [k0_part45_eq_skeleton]; unfold k0_part45_skel
  simp only [Prog.lift, Prog.bind_op, Prog.bind_ret, Prog.pure_eq_ret, Prog.bind_assoc]
  refine step_wait m K c (.sibR 0 3) rfl rfl (credit_sib 0 _ _) ?_
  refine step_wait m K c (.sibR 1 0) rfl rfl (credit_sib 1 _ _) ?_
  exact hk _

set_option maxRecDepth 65536 in
set_option maxHeartbeats 4000000 in
theorem run46 (K : Dev nD × Cell → ℕ) (c : Dev nD) (v2 : BitVec 32) (v5 : BitVec 32) (v8 : BitVec 32) (v15 : BitVec 32) (v938 : BitVec 32)
    {α : Type} {Q : α → sProp (MT nD τ sig Unit (Elt F) ℕ UU ℕ)} {k : (BitVec 32) → Prog (TpuEff nD τ sig (Elt F) Λ₀ .tc) α}
    (hk : ∀ x0, iprop(known m K ∗ St m c 31) ⊢ wp frame (wpE (defs₀ (F := F)) 𝒱₀ (c : Thread nD τ) none) Set.univ (k x0) Q) :
    iprop(known m K ∗ St m c 29) ⊢ wp frame (wpE (defs₀ (F := F)) 𝒱₀ (c : Thread nD τ) none) Set.univ (k0_part46 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v938 >>= k) Q := by
  rw [k0_part46_eq_skeleton]; unfold k0_part46_skel
  simp only [Prog.lift, Prog.bind_op, Prog.bind_ret, Prog.pure_eq_ret, Prog.bind_assoc]
  refine step_wait m K c (.sibR 1 1) rfl rfl (credit_sib 1 _ _) ?_
  refine step_wait m K c (.sibR 1 2) rfl rfl (credit_sib 1 _ _) ?_
  exact hk _

set_option maxRecDepth 65536 in
set_option maxHeartbeats 4000000 in
theorem run47 (K : Dev nD × Cell → ℕ) (c : Dev nD) (v2 : BitVec 32) (v5 : BitVec 32) (v8 : BitVec 32) (v15 : BitVec 32) (v967 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 33) ⊢ wp frame (wpE (defs₀ (F := F)) 𝒱₀ (c : Thread nD τ) none) Set.univ (k x0) Q) :
    iprop(known m K ∗ St m c 31) ⊢ wp frame (wpE (defs₀ (F := F)) 𝒱₀ (c : Thread nD τ) none) Set.univ (k0_part47 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v967 >>= k) Q := by
  rw [k0_part47_eq_skeleton]; unfold k0_part47_skel
  simp only [Prog.lift, Prog.bind_op, Prog.bind_ret, Prog.pure_eq_ret, Prog.bind_assoc]
  refine step_wait m K c (.sibR 1 3) rfl rfl (credit_sib 1 _ _) ?_
  refine step_wait m K c (.sibR 2 0) rfl rfl (credit_sib 2 _ _) ?_
  exact hk _

set_option maxRecDepth 65536 in
set_option maxHeartbeats 4000000 in
theorem run48 (K : Dev nD × Cell → ℕ) (c : Dev nD) (v2 : BitVec 32) (v5 : BitVec 32) (v8 : BitVec 32) (v15 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 35) ⊢ wp frame (wpE (defs₀ (F := F)) 𝒱₀ (c : Thread nD τ) none) Set.univ (k x0) Q) :
    iprop(known m K ∗ St m c 33) ⊢ wp frame (wpE (defs₀ (F := F)) 𝒱₀ (c : Thread nD τ) none) Set.univ (k0_part48 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 >>= k) Q := by
  rw [k0_part48_eq_skeleton]; unfold k0_part48_skel
  simp only [Prog.lift, Prog.bind_op, Prog.bind_ret, Prog.pure_eq_ret, Prog.bind_assoc]
  refine step_wait m K c (.sibR 2 1) rfl rfl (credit_sib 2 _ _) ?_
  refine step_wait m K c (.sibR 2 2) rfl rfl (credit_sib 2 _ _) ?_
  exact hk _

set_option maxRecDepth 65536 in
set_option maxHeartbeats 4000000 in
theorem run49 (K : Dev nD × Cell → ℕ) (c : Dev nD) (v2 : BitVec 32) (v5 : BitVec 32) (v8 : BitVec 32) (v15 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 37) ⊢ wp frame (wpE (defs₀ (F := F)) 𝒱₀ (c : Thread nD τ) none) Set.univ (k x0) Q) :
    iprop(known m K ∗ St m c 35) ⊢ wp frame (wpE (defs₀ (F := F)) 𝒱₀ (c : Thread nD τ) none) Set.univ (k0_part49 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 >>= k) Q := by
  rw [k0_part49_eq_skeleton]; unfold k0_part49_skel
  simp only [Prog.lift, Prog.bind_op, Prog.bind_ret, Prog.pure_eq_ret, Prog.bind_assoc]
  refine step_wait m K c (.sibR 2 3) rfl rfl (credit_sib 2 _ _) ?_
  refine step_wait m K c (.sibR 3 0) rfl rfl (credit_sib 3 _ _) ?_
  exact hk _

set_option maxRecDepth 65536 in
set_option maxHeartbeats 4000000 in
theorem run50 (K : Dev nD × Cell → ℕ) (c : Dev nD) (v2 : BitVec 32) (v5 : BitVec 32) (v8 : BitVec 32) (v15 : BitVec 32)
    {α : Type} {Q : α → sProp (MT nD τ sig Unit (Elt F) ℕ UU ℕ)} {k : (BitVec 32) → Prog (TpuEff nD τ sig (Elt F) Λ₀ .tc) α}
    (hk : ∀ x0, iprop(known m K ∗ St m c 39) ⊢ wp frame (wpE (defs₀ (F := F)) 𝒱₀ (c : Thread nD τ) none) Set.univ (k x0) Q) :
    iprop(known m K ∗ St m c 37) ⊢ wp frame (wpE (defs₀ (F := F)) 𝒱₀ (c : Thread nD τ) none) Set.univ (k0_part50 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 >>= k) Q := by
  rw [k0_part50_eq_skeleton]; unfold k0_part50_skel
  simp only [Prog.lift, Prog.bind_op, Prog.bind_ret, Prog.pure_eq_ret, Prog.bind_assoc]
  refine step_wait m K c (.sibR 3 1) rfl rfl (credit_sib 3 _ _) ?_
  refine step_wait m K c (.sibR 3 2) rfl rfl (credit_sib 3 _ _) ?_
  exact hk _

end Cert.Reducing
-- ==== Proof.RTrips.lean ====
/-
# The reduction of the gradients: the loops

One trip of each loop adds up and stores `256` rows.
-/
module

public import proofs.«01_k».proof.Proof.RSum
public import Idealize.ShloMosaic.Lib.Transfers
public import Idealize.ShloMosaic.Lib.Scf
public import Idealize.ShloMosaic.Lib.Pipeline.ValueKit.Geometry

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem trip1 (K : Dev nD × Cell → ℕ) (c : Dev nD) (v2 : BitVec 32) (v5 : BitVec 32) (v8 : BitVec 32) (v15 : BitVec 32) (v18 : BitVec 32) (v19 : BitVec 32) (v1085 : BitVec 32) (t : Fin k0_t1_loop.trips) {n : ℕ} {Fr : sProp 𝕄} :
    CS m K c n (P2 m c 0 (owner c 2)) (sumR 0 (owner c 2)) (256 * t.val) (Sm m c 0 (owner c 2)) Fr
      ⊢ wp frame (wpE (defs₀ (F := F)) 𝒱₀ (c : Thread nD τ) none) Set.univ (k0_t1_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v18 v19 v1085 t ⟨⟩) fun _ => CS m K c n (P2 m c 0 (owner c 2)) (sumR 0 (owner c 2)) (256 * t.val + 256) (Sm m c 0 (owner c 2)) Fr := by
  unfold k0_t1_body
  rw [k0_part1_eq_skeleton]; unfold k0_part1_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay1; exact rows_two _ _ _ _ _) ?_
  rw [wp_ret]; exact fupd_intro

set_option maxRecDepth 65536 in
set_option maxHeartbeats 4000000 in
theorem trip2 (K : Dev nD × Cell → ℕ) (c : Dev nD) (v8 : BitVec 32) (v18 : BitVec 32) (v19 : BitVec 32) (v1099 : BitVec 32) (t : Fin k0_t2_loop.trips) {n : ℕ} {Fr : sProp 𝕄} :
    CS m K c n (P2 m c 2 (owner c 2)) (sumR 2 (owner c 2)) (256 * t.val) (Sm m c 2 (owner c 2)) Fr
      ⊢ wp frame (wpE (defs₀ (F := F)) 𝒱₀ (c : Thread nD τ) none) Set.univ (k0_t2_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v18 v19 v1099 t ⟨⟩) fun _ => CS m K c n (P2 m c 2 (owner c 2)) (sumR 2 (owner c 2)) (256 * t.val + 256) (Sm m c 2 (owner c 2)) Fr := by
  unfold k0_t2_body
  rw [k0_part2_eq_skeleton]; unfold k0_part2_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay2; exact rows_two _ _ _ _ _) ?_
  rw [wp_ret]; exact fupd_intro

set_option maxRecDepth 65536 in
set_option maxHeartbeats 4000000 in
theorem trip3 (K : Dev nD × Cell → ℕ) (c : Dev nD) (v5 : BitVec 32) (v8 : BitVec 32) (v16 : BitVec 32) (v18 : BitVec 32) (v19 : BitVec 32) (c0_i32_919 : BitVec 32) (t : Fin k0_t3_loop.trips) {n : ℕ} {Fr : sProp 𝕄} :
    CS m K c n (P2 m c 3 (owner c 2)) (sumR 3 (owner c 2)) (256 * t.val) (Sm m c 3 (owner c 2)) Fr
      ⊢ wp frame (wpE (defs₀ (F := F)) 𝒱₀ (c : Thread nD τ) none) Set.univ (k0_t3_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v5 v8 v16 v18 v19 c0_i32_919 t ⟨⟩) fun _ => CS m K c n (P2 m c 3 (owner c 2)) (sumR 3 (owner c 2)) (256 * t.val + 256) (Sm m c 3 (owner c 2)) Fr := by
  unfold k0_t3_body
  rw [k0_part3_eq_skeleton]; unfold k0_part3_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay3; exact rows_two _ _ _ _ _) ?_
  rw [wp_ret]; exact fupd_intro

set_option maxRecDepth 65536 in
set_option maxHeartbeats 4000000 in
theorem trip4 (K : Dev nD × Cell → ℕ) (c : Dev nD) (v5 : BitVec 32) (v8 : BitVec 32) (v16 : BitVec 32) (v18 : BitVec 32) (v19 : BitVec 32) (c0_i32_919 : BitVec 32) (t : Fin k0_t4_loop.trips) {n : ℕ} {Fr : sProp 𝕄} :
    CS m K c n (P2 m c 0 (owner c 0)) (sumR 0 (owner c 0)) (256 * t.val) (Sm m c 0 (owner c 0)) Fr
      ⊢ wp frame (wpE (defs₀ (F := F)) 𝒱₀ (c : Thread nD τ) none) Set.univ (k0_t4_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v5 v8 v16 v18 v19 c0_i32_919 t ⟨⟩) fun _ => CS m K c n (P2 m c 0 (owner c 0)) (sumR 0 (owner c 0)) (256 * t.val + 256) (Sm m c 0 (owner c 0)) Fr := by
  unfold k0_t4_body
  rw [k0_part4_eq_skeleton]; unfold k0_part4_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay4; exact rows_two _ _ _ _ _) ?_
  rw [wp_ret]; exact fupd_intro

set_option maxRecDepth 65536 in
set_option maxHeartbeats 4000000 in
theorem trip5 (K : Dev nD × Cell → ℕ) (c : Dev nD) (v5 : BitVec 32) (v8 : BitVec 32) (v16 : BitVec 32) (v1234 : BitVec 32) (v1317 : BitVec 32) (v1318 : BitVec 32) (t : Fin k0_t5_loop.trips) {n : ℕ} {Fr : sProp 𝕄} :
    CS m K c n (P2 m c 2 (owner c 0)) (sumR 2 (owner c 0)) (256 * t.val) (Sm m c 2 (owner c 0)) Fr
      ⊢ wp frame (wpE (defs₀ (F := F)) 𝒱₀ (c : Thread nD τ) none) Set.univ (k0_t5_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v5 v8 v16 v1234 v1317 v1318 t ⟨⟩) fun _ => CS m K c n (P2 m c 2 (owner c 0)) (sumR 2 (owner c 0)) (256 * t.val + 256) (Sm m c 2 (owner c 0)) Fr := by
  unfold k0_t5_body
  rw [k0_part5_eq_skeleton]; unfold k0_part5_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay5; exact rows_two _ _ _ _ _) ?_
  rw [wp_ret]; exact fupd_intro

set_option maxRecDepth 65536 in
set_option maxHeartbeats 4000000 in
theorem trip6 (K : Dev nD × Cell → ℕ) (c : Dev nD) (v2 : BitVec 32) (v5 : BitVec 32) (v8 : BitVec 32) (v16 : BitVec 32) (v17 : BitVec 32) (v1349 : BitVec 32) (c1024_i32_1068 : BitVec 32) (t : Fin k0_t6_loop.trips) {n : ℕ} {Fr : sProp 𝕄} :
    CS m K c n (P2 m c 3 (owner c 0)) (sumR 3 (owner c 0)) (256 * t.val) (Sm m c 3 (owner c 0)) Fr
      ⊢ wp frame (wpE (defs₀ (F := F)) 𝒱₀ (c : Thread nD τ) none) Set.univ (k0_t6_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v16 v17 v1349 c1024_i32_1068 t ⟨⟩) fun _ => CS m K c n (P2 m c 3 (owner c 0)) (sumR 3 (owner c 0)) (256 * t.val + 256) (Sm m c 3 (owner c 0)) Fr := by
  unfold k0_t6_body
  rw [k0_part6_eq_skeleton]; unfold k0_part6_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay6; exact rows_two _ _ _ _ _) ?_
  rw [wp_ret]; exact fupd_intro

set_option maxRecDepth 65536 in
set_option maxHeartbeats 4000000 in
theorem trip7 (K : Dev nD × Cell → ℕ) (c : Dev nD) (v2 : BitVec 32) (v5 : BitVec 32) (v8 : BitVec 32) (v16 : BitVec 32) (v17 : BitVec 32) (v1349 : BitVec 32) (c1024_i32_1068 : BitVec 32) (t : Fin k0_t7_loop.trips) {n : ℕ} {Fr : sProp 𝕄} :
    CS m K c n (P2 m c 0 (owner c 1)) (sumR 0 (owner c 1)) (256 * t.val) (Sm m c 0 (owner c 1)) Fr
      ⊢ wp frame (wpE (defs₀ (F := F)) 𝒱₀ (c : Thread nD τ) none) Set.univ (k0_t7_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v16 v17 v1349 c1024_i32_1068 t ⟨⟩) fun _ => CS m K c n (P2 m c 0 (owner c 1)) (sumR 0 (owner c 1)) (256 * t.val + 256) (Sm m c 0 (owner c 1)) Fr := by
  unfold k0_t7_body
  rw [k0_part7_eq_skeleton]; unfold k0_part7_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay7; exact rows_two _ _ _ _ _) ?_
  rw [wp_ret]; exact fupd_intro

set_option maxRecDepth 65536 in
set_option maxHeartbeats 4000000 in
theorem trip8 (K : Dev nD × Cell → ℕ) (c : Dev nD) (v2 : BitVec 32) (v8 : BitVec 32) (v17 : BitVec 32) (v1369 : BitVec 32) (t : Fin k0_t8_loop.trips) {n : ℕ} {Fr : sProp 𝕄} :
    CS m K c n (P2 m c 2 (owner c 1)) (sumR 2 (owner c 1)) (256 * t.val) (Sm m c 2 (owner c 1)) Fr
      ⊢ wp frame (wpE (defs₀ (F := F)) 𝒱₀ (c : Thread nD τ) none) Set.univ (k0_t8_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v8 v17 v1369 t ⟨⟩) fun _ => CS m K c n (P2 m c 2 (owner c 1)) (sumR 2 (owner c 1)) (256 * t.val + 256) (Sm m c 2 (owner c 1)) Fr := by
  unfold k0_t8_body
  rw [k0_part8_eq_skeleton]; unfold k0_part8_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay8; exact rows_two _ _ _ _ _) ?_
  rw [wp_ret]; exact fupd_intro

set_option maxRecDepth 65536 in
set_option maxHeartbeats 4000000 in
theorem trip9 (K : Dev nD × Cell → ℕ) (c : Dev nD) (v2 : BitVec 32) (v8 : BitVec 32) (v10 : BitVec 32) (v17 : BitVec 32) (v1369 : BitVec 32) (t : Fin k0_t9_loop.trips) {n : ℕ} {Fr : sProp 𝕄} :
    CS m K c n (P2 m c 3 (owner c 1)) (sumR 3 (owner c 1)) (256 * t.val) (Sm m c 3 (owner c 1)) Fr
      ⊢ wp frame (wpE (defs₀ (F := F)) 𝒱₀ (c : Thread nD τ) none) Set.univ (k0_t9_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v8 v10 v17 v1369 t ⟨⟩) fun _ => CS m K c n (P2 m c 3 (owner c 1)) (sumR 3 (owner c 1)) (256 * t.val + 256) (Sm m c 3 (owner c 1)) Fr := by
  unfold k0_t9_body
  rw [k0_part9_eq_skeleton]; unfold k0_part9_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay9; exact rows_two _ _ _ _ _) ?_
  rw [wp_ret]; exact fupd_intro

set_option maxRecDepth 65536 in
set_option maxHeartbeats 4000000 in
theorem trip10 (K : Dev nD × Cell → ℕ) (c : Dev nD) (v2 : BitVec 32) (v8 : BitVec 32) (v10 : BitVec 32) (v17 : BitVec 32) (v1369 : BitVec 32) (t : Fin k0_t10_loop.trips) {n : ℕ} {Fr : sProp 𝕄} :
    CS m K c n (P2 m c 0 (chip c)) (sumR 0 (chip c)) (256 * t.val) (Sm m c 0 (chip c)) Fr
      ⊢ wp frame (wpE (defs₀ (F := F)) 𝒱₀ (c : Thread nD τ) none) Set.univ (k0_t10_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v8 v10 v17 v1369 t ⟨⟩) fun _ => CS m K c n (P2 m c 0 (chip c)) (sumR 0 (chip c)) (256 * t.val + 256) (Sm m c 0 (chip c)) Fr := by
  unfold k0_t10_body
  rw [k0_part10_eq_skeleton]; unfold k0_part10_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay10; exact rows_two _ _ _ _ _) ?_
  rw [wp_ret]; exact fupd_intro

set_option maxRecDepth 65536 in
set_option maxHeartbeats 4000000 in
theorem trip11 (K : Dev nD × Cell → ℕ) (c : Dev nD) (v8 : BitVec 32) (v10 : BitVec 32) (v1548 : Vec F S256x2048 .f32) (t : Fin k0_t11_loop.trips) {n : ℕ} {Fr : sProp 𝕄} :
    CS m K c n (P2 m c 2 (chip c)) (sumR 2 (chip c)) (256 * t.val) (Sm m c 2 (chip c)) Fr
      ⊢ wp frame (wpE (defs₀ (F := F)) 𝒱₀ (c : Thread nD τ) none) Set.univ (k0_t11_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v10 v1548 t ⟨⟩) fun _ => CS m K c n (P2 m c 2 (chip c)) (sumR 2 (chip c)) (256 * t.val + 256) (Sm m c 2 (chip c)) Fr := by
  unfold k0_t11_body
  rw [k0_part11_eq_skeleton]; unfold k0_part11_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay11; exact rows_two _ _ _ _ _) ?_
  rw [wp_ret]; exact fupd_intro

set_option maxRecDepth 65536 in
set_option maxHeartbeats 4000000 in
theorem trip12 (K : Dev nD × Cell → ℕ) (c : Dev nD) (v8 : BitVec 32) (v10 : BitVec 32) (v1548 : Vec F S256x2048 .f32) (t : Fin k0_t12_loop.trips) {n : ℕ} {Fr : sProp 𝕄} :
    CS m K c n (P2 m c 3 (chip c)) (sumR 3 (chip c)) (256 * t.val) (Sm m c 3 (chip c)) Fr
      ⊢ wp frame (wpE (defs₀ (F := F)) 𝒱₀ (c : Thread nD τ) none) Set.univ (k0_t12_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v10 v1548 t ⟨⟩) fun _ => CS m K c n (P2 m c 3 (chip c)) (sumR 3 (chip c)) (256 * t.val + 256) (Sm m c 3 (chip c)) Fr := by
  unfold k0_t12_body
  rw [k0_part12_eq_skeleton]; unfold k0_part12_skel
  simp only [Prog.lift, Prog.bind_op, Prog.bind_ret, Prog.pure_eq_ret, Prog.bind_assoc]
  refine fetch_in m K c (by revert c; decide +kernel) 0 rfl rfl 256 (by decide) ?_
  refine fetch_sib m K c (by revert c; decide +kernel) 1 rfl rfl 256 (by decide) ?_
  refine put_sum m K c (by revert c; decide +kernel) rfl rfl 256 (by decide) (by revert t; decide +kernel) (by unfold k0_pay12; exact rows_two _ _ _ _ _) ?_
  rw [wp_ret]; exact fupd_intro

set_option maxRecDepth 65536 in
set_option maxHeartbeats 4000000 in
theorem trip13 (K : Dev nD × Cell → ℕ) (c : Dev nD) (v8 : BitVec 32) (v1607 : BitVec 32) (v1608 : BitVec 32) (t : Fin k0_t13_loop.trips) {n : ℕ} {Fr : sProp 𝕄} :
    CS m K c n (P4 m c 0) (outR 0 (side c)) (256 * t.val) (Mine m c 0) Fr
      ⊢ wp frame (wpE (defs₀ (F := F)) 𝒱₀ (c : Thread nD τ) none) Set.univ (k0_t13_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v1607 v1608 t ⟨⟩) fun _ => CS m K c n (P4 m c 0) (outR 0 (side c)) (256 * t.val + 256) (Mine m c 0) Fr := by
  unfold k0_t13_body
  rw [k0_part13_eq_skeleton]; unfold k0_part13_skel
  rw [k0_part14_eq_skeleton]; unfold k0_part14_skel
  simp only [Prog.lift, Prog.bind_op, Prog.bind_ret, Prog.pure_eq_ret, Prog.bind_assoc]
  refine fetch_sum m K c (by revert c; decide +kernel) 0 rfl rfl 256 (by decide) ?_
  refine fetch_far m K c 0 rfl 1 rfl rfl 256 (by decide) ?_
  refine fetch_far m K c 1 rfl 0 rfl rfl 256 (by decide) ?_
  refine fetch_far m K c 2 rfl 1 rfl rfl 256 (by decide) ?_
  refine put_out m K c (by revert c; decide +kernel) rfl rfl 256 (by decide) (by revert t; decide +kernel) (by unfold k0_pay13 k0_pay14; exact rows_four _ _ _ _ _ _ _) ?_
  rw [wp_ret]; exact fupd_intro

set_option maxRecDepth 65536 in
set_option maxHeartbeats 4000000 in
theorem trip14 (K : Dev nD × Cell → ℕ) (c : Dev nD) (v2 : BitVec 32) (v5 : BitVec 32) (v8 : BitVec 32) (v15 : BitVec 32) (v16 : BitVec 32) (t : Fin k0_t14_loop.trips) {n : ℕ} {Fr : sProp 𝕄} :
    CS m K c n (P4 m c 2) (outR 2 (side c)) (256 * t.val) (Mine m c 2) Fr
      ⊢ wp frame (wpE (defs₀ (F := F)) 𝒱₀ (c : Thread nD τ) none) Set.univ (k0_t14_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v16 t ⟨⟩) fun _ => CS m K c n (P4 m c 2) (outR 2 (side c)) (256 * t.val + 256) (Mine m c 2) Fr := by
  unfold k0_t14_body
  rw [k0_part15_eq_skeleton]; unfold k0_part15_skel
  rw [k0_part16_eq_skeleton]; unfold k0_part16_skel
  simp only [Prog.lift, Prog.bind_op, Prog.bind_ret, Prog.pure_eq_ret, Prog.bind_assoc]
  refine fetch_sum m K c (by revert c; decide +kernel) 0 rfl rfl 256 (by decide) ?_
  refine fetch_far m K c 0 rfl 1 rfl rfl 256 (by decide) ?_
  refine fetch_far m K c 1 rfl 0 rfl rfl 256 (by decide) ?_
  refine fetch_far m K c 2 rfl 1 rfl rfl 256 (by decide) ?_
  refine put_out m K c (by revert c; decide +kernel) rfl rfl 256 (by decide) (by revert t; decide +kernel) (by unfold k0_pay15 k0_pay16; exact rows_four _ _ _ _ _ _ _) ?_
  rw [wp_ret]; exact fupd_intro

set_option maxRecDepth 65536 in
set_option maxHeartbeats 4000000 in
theorem trip15 (K : Dev nD × Cell → ℕ) (c : Dev nD) (v2 : BitVec 32) (v5 : BitVec 32) (v8 : BitVec 32) (v15 : BitVec 32) (t : Fin k0_t15_loop.trips) {n : ℕ} {Fr : sProp 𝕄} :
    CS m K c n (P4 m c 3) (outR 3 (side c)) (256 * t.val) (Mine m c 3) Fr
      ⊢ wp frame (wpE (defs₀ (F := F)) 𝒱₀ (c : Thread nD τ) none) Set.univ (k0_t15_body (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 t ⟨⟩) fun _ => CS m K c n (P4 m c 3) (outR 3 (side c)) (256 * t.val + 256) (Mine m c 3) Fr := by
  unfold k0_t15_body
  rw [k0_part17_eq_skeleton]; unfold k0_part17_skel
  rw [k0_part18_eq_skeleton]; unfold k0_part18_skel
  simp only [Prog.lift, Prog.bind_op, Prog.bind_ret, Prog.pure_eq_ret, Prog.bind_assoc]
  refine fetch_sum m K c (by revert c; decide +kernel) 0 rfl rfl 256 (by decide) ?_
  refine fetch_far m K c 0 rfl 1 rfl rfl 256 (by decide) ?_
  refine fetch_far m K c 1 rfl 0 rfl rfl 256 (by decide) ?_
  refine fetch_far m K c 2 rfl 1 rfl rfl 256 (by decide) ?_
  refine put_out m K c (by revert c; decide +kernel) rfl rfl 256 (by decide) (by revert t; decide +kernel) (by unfold k0_pay17 k0_pay18; exact rows_four _ _ _ _ _ _ _) ?_
  rw [wp_ret]; exact fupd_intro

end Cert.Reducing
-- ==== Proof.RBodyB.lean ====
/-
# The reduction of the gradients: the sums of two

What each chip sums for the others and for itself.
-/
module

public import proofs.«01_k».proof.Proof.RTrips
public import Idealize.ShloMosaic.Lib.Transfers
public import Idealize.ShloMosaic.Lib.Scf
public import Idealize.ShloMosaic.Lib.Pipeline.ValueKit.Geometry

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem run51 (K : Dev nD × Cell → ℕ) (c : Dev nD) (v2 : BitVec 32) (v5 : BitVec 32) (v8 : BitVec 32) (v15 : BitVec 32) (v18 : BitVec 32) (v19 : BitVec 32) (v1085 : BitVec 32)
    {α : Type} {Q : α → sProp (MT nD τ sig Unit (Elt F) ℕ UU ℕ)} {k : (BitVec 32) → (PUnit) → (Vec F S256x2048 .f32) → (PUnit) → Prog (TpuEff nD τ sig (Elt F) Λ₀ .tc) α}
    (hk : ∀ x0 x1 x2 x3, iprop(known m K ∗ St m c 43) ⊢ wp frame (wpE (defs₀ (F := F)) 𝒱₀ (c : Thread nD τ) none) Set.univ (k x0 x1 x2 x3) Q) :
    iprop(known m K ∗ St m c 39) ⊢ wp frame (wpE (defs₀ (F := F)) 𝒱₀ (c : Thread nD τ) none) Set.univ (k0_part51 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v18 v19 v1085 >>= fun v1099 => k0_part52 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= fun r52 => k0_part53 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v18 v19 v1099 >>= fun v1159 => k0_part54 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v18 v19 v1159 >>= k v1099 r52 v1159) Q := by
  rw [k0_part51_eq_skeleton]; unfold k0_part51_skel
  rw [k0_part52_eq_skeleton]; unfold k0_part52_skel
  rw [k0_part53_eq_skeleton]; unfold k0_part53_skel
  rw [k0_part54_eq_skeleton]; unfold k0_part54_skel
  simp only [Prog.lift, Prog.bind_op, Prog.bind_ret, Prog.pure_eq_ret, Prog.bind_assoc]
  refine step_wait m K c (.sibR 3 3) rfl rfl (credit_sib 3 _ _) ?_
  refine open_far m K c 0 2 rfl ?_
  refine sum_loop m K c k0_t1_loop (T := 2) (by decide +kernel) (fun t => trip1 m K c _ _ _ _ _ _ _ t) ?_
  refine fetch_in m K c (by clear hk; revert c; decide +kernel) 0 rfl rfl 32 (by decide) ?_
  refine fetch_sib m K c (by clear hk; revert c; decide +kernel) 1 rfl rfl 32 (by decide) ?_
  refine put_sum m K c (by clear hk; revert c; decide +kernel) rfl rfl 32 (by decide) (by decide +kernel) (by unfold k0_pay20; exact rows_two _ _ _ _ _) ?_
  refine close_far m K c 0 2 rfl ?_
  refine step_far m K c 0 2 rfl (by clear hk; revert c; decide +kernel) rfl rfl (by clear hk; revert c; decide +kernel) rfl ?_
  refine open_far m K c 1 2 rfl ?_
  refine fetch_in m K c (by clear hk; revert c; decide +kernel) 0 rfl rfl 256 (by decide) ?_
  refine fetch_sib m K c (by clear hk; revert c; decide +kernel) 1 rfl rfl 256 (by decide) ?_
  refine put_sum m K c (by clear hk; revert c; decide +kernel) rfl rfl 256 (by decide) (by decide +kernel) (by unfold k0_pay21; exact rows_two _ _ _ _ _) ?_
  refine close_far m K c 1 2 rfl ?_
  exact hk _ _ _ _

set_option maxRecDepth 65536 in
set_option maxHeartbeats 4000000 in
theorem run55 (K : Dev nD × Cell → ℕ) (c : Dev nD) (v8 : BitVec 32) (v18 : BitVec 32) (v19 : BitVec 32) (v1099 : BitVec 32)
    {α : Type} {Q : α → sProp (MT nD τ sig Unit (Elt F) ℕ UU ℕ)} {k : (BitVec 32) → Prog (TpuEff nD τ sig (Elt F) Λ₀ .tc) α}
    (hk : ∀ x0, iprop(known m K ∗ St m c 46) ⊢ wp frame (wpE (defs₀ (F := F)) 𝒱₀ (c : Thread nD τ) none) Set.univ (k x0) Q) :
    iprop(known m K ∗ St m c 43) ⊢ wp frame (wpE (defs₀ (F := F)) 𝒱₀ (c : Thread nD τ) none) Set.univ (k0_part55 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v18 v19 v1099 >>= k) Q := by
  rw [k0_part55_eq_skeleton]; unfold k0_part55_skel
  simp only [Prog.lift, Prog.bind_op, Prog.bind_ret, Prog.pure_eq_ret, Prog.bind_assoc]
  refine step_far m K c 1 2 rfl (by clear hk; revert c; decide +kernel) rfl rfl (by clear hk; revert c; decide +kernel) rfl ?_
  refine open_far m K c 2 2 rfl ?_
  refine sum_loop m K c k0_t2_loop (T := 4) (by decide +kernel) (fun t => trip2 m K c _ _ _ _ t) ?_
  refine close_far m K c 2 2 rfl ?_
  refine step_far m K c 2 2 rfl (by clear hk; revert c; decide +kernel) rfl rfl (by clear hk; revert c; decide +kernel) rfl ?_
  exact hk _

set_option maxRecDepth 65536 in
set_option maxHeartbeats 4000000 in
theorem run56 (K : Dev nD × Cell → ℕ) (c : Dev nD) (v5 : BitVec 32) (v8 : BitVec 32) (v16 : BitVec 32) (v18 : BitVec 32) (v19 : BitVec 32) (c0_i32_919 : BitVec 32)
    {α : Type} {Q : α → sProp (MT nD τ sig Unit (Elt F) ℕ UU ℕ)} {k : (BitVec 32) → (PUnit) → (Vec F S256x2048 .f32) → (Σ' (v1317 : BitVec 32), BitVec 32) → Prog (TpuEff nD τ sig (Elt F) Λ₀ .tc) α}
    (hk : ∀ x0 x1 x2 x3, iprop(known m K ∗ St m c 51) ⊢ wp frame (wpE (defs₀ (F := F)) 𝒱₀ (c : Thread nD τ) none) Set.univ (k x0 x1 x2 x3) Q) :
    iprop(known m K ∗ St m c 46) ⊢ wp frame (wpE (defs₀ (F := F)) 𝒱₀ (c : Thread nD τ) none) Set.univ (k0_part56 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v5 v8 v16 v18 v19 c0_i32_919 >>= fun v1234 => k0_part57 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= fun r57 => k0_part58 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v5 v8 v16 v1234 >>= fun v1294 => k0_part59 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v5 v16 v1294 >>= k v1234 r57 v1294) Q := by
  rw [k0_part56_eq_skeleton]; unfold k0_part56_skel
  rw [k0_part57_eq_skeleton]; unfold k0_part57_skel
  rw [k0_part58_eq_skeleton]; unfold k0_part58_skel
  rw [k0_part59_eq_skeleton]; unfold k0_part59_skel
  simp only [Prog.lift, Prog.bind_op, Prog.bind_ret, Prog.pure_eq_ret, Prog.bind_assoc]
  refine open_far m K c 3 2 rfl ?_
  refine sum_loop m K c k0_t3_loop (T := 4) (by decide +kernel) (fun t => trip3 m K c _ _ _ _ _ _ t) ?_
  refine close_far m K c 3 2 rfl ?_
  refine step_far m K c 3 2 rfl (by clear hk; revert c; decide +kernel) rfl rfl (by clear hk; revert c; decide +kernel) rfl ?_
  refine open_far m K c 0 0 rfl ?_
  refine sum_loop m K c k0_t4_loop (T := 2) (by decide +kernel) (fun t => trip4 m K c _ _ _ _ _ _ t) ?_
  refine fetch_in m K c (by clear hk; revert c; decide +kernel) 0 rfl rfl 32 (by decide) ?_
  refine fetch_sib m K c (by clear hk; revert c; decide +kernel) 1 rfl rfl 32 (by decide) ?_
  refine put_sum m K c (by clear hk; revert c; decide +kernel) rfl rfl 32 (by decide) (by decide +kernel) (by unfold k0_pay22; exact rows_two _ _ _ _ _) ?_
  refine close_far m K c 0 0 rfl ?_
  refine step_far m K c 0 0 rfl (by clear hk; revert c; decide +kernel) rfl rfl (by clear hk; revert c; decide +kernel) rfl ?_
  refine open_far m K c 1 0 rfl ?_
  refine fetch_in m K c (by clear hk; revert c; decide +kernel) 0 rfl rfl 256 (by decide) ?_
  refine fetch_sib m K c (by clear hk; revert c; decide +kernel) 1 rfl rfl 256 (by decide) ?_
  refine put_sum m K c (by clear hk; revert c; decide +kernel) rfl rfl 256 (by decide) (by decide +kernel) (by unfold k0_pay23; exact rows_two _ _ _ _ _) ?_
  refine close_far m K c 1 0 rfl ?_
  exact hk _ _ _ _

set_option maxRecDepth 65536 in
set_option maxHeartbeats 4000000 in
theorem run60 (K : Dev nD × Cell → ℕ) (c : Dev nD) (v5 : BitVec 32) (v8 : BitVec 32) (v16 : BitVec 32) (v1234 : BitVec 32) (v1317 : BitVec 32) (v1318 : BitVec 32)
    {α : Type} {Q : α → sProp (MT nD τ sig Unit (Elt F) ℕ UU ℕ)} {k : (Σ' (v1349 : BitVec 32), BitVec 32) → Prog (TpuEff nD τ sig (Elt F) Λ₀ .tc) α}
    (hk : ∀ x0, iprop(known m K ∗ St m c 54) ⊢ wp frame (wpE (defs₀ (F := F)) 𝒱₀ (c : Thread nD τ) none) Set.univ (k x0) Q) :
    iprop(known m K ∗ St m c 51) ⊢ wp frame (wpE (defs₀ (F := F)) 𝒱₀ (c : Thread nD τ) none) Set.univ (k0_part60 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v5 v8 v16 v1234 v1317 v1318 >>= k) Q := by
  rw [k0_part60_eq_skeleton]; unfold k0_part60_skel
  simp only [Prog.lift, Prog.bind_op, Prog.bind_ret, Prog.pure_eq_ret, Prog.bind_assoc]
  refine step_far m K c 1 0 rfl (by clear hk; revert c; decide +kernel) rfl rfl (by clear hk; revert c; decide +kernel) rfl ?_
  refine open_far m K c 2 0 rfl ?_
  refine sum_loop m K c k0_t5_loop (T := 4) (by decide +kernel) (fun t => trip5 m K c _ _ _ _ _ _ t) ?_
  refine close_far m K c 2 0 rfl ?_
  refine step_far m K c 2 0 rfl (by clear hk; revert c; decide +kernel) rfl rfl (by clear hk; revert c; decide +kernel) rfl ?_
  exact hk _

set_option maxRecDepth 65536 in
set_option maxHeartbeats 4000000 in
theorem run61 (K : Dev nD × Cell → ℕ) (c : Dev nD) (v2 : BitVec 32) (v5 : BitVec 32) (v8 : BitVec 32) (v16 : BitVec 32) (v17 : BitVec 32) (v1349 : BitVec 32) (c1024_i32_1068 : BitVec 32)
    {α : Type} {Q : α → sProp (MT nD τ sig Unit (Elt F) ℕ UU ℕ)} {k : (BitVec 32) → (PUnit) → (PUnit) → (PUnit) → Prog (TpuEff nD τ sig (Elt F) Λ₀ .tc) α}
    (hk : ∀ x0 x1 x2 x3, iprop(known m K ∗ St m c 59) ⊢ wp frame (wpE (defs₀ (F := F)) 𝒱₀ (c : Thread nD τ) none) Set.univ (k x0 x1 x2 x3) Q) :
    iprop(known m K ∗ St m c 54) ⊢ wp frame (wpE (defs₀ (F := F)) 𝒱₀ (c : Thread nD τ) none) Set.univ (k0_part61 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v16 v17 v1349 c1024_i32_1068 >>= fun v1369 => k0_part62 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= fun r62 => k0_part63 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v8 v17 v1369 >>= fun r63 => k0_part64 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= k v1369 r62 r63) Q := by
  rw [k0_part61_eq_skeleton]; unfold k0_part61_skel
  rw [k0_part62_eq_skeleton]; unfold k0_part62_skel
  rw [k0_part63_eq_skeleton]; unfold k0_part63_skel
  rw [k0_part64_eq_skeleton]; unfold k0_part64_skel
  simp only [Prog.lift, Prog.bind_op, Prog.bind_ret, Prog.pure_eq_ret, Prog.bind_assoc]
  refine open_far m K c 3 0 rfl ?_
  refine sum_loop m K c k0_t6_loop (T := 4) (by decide +kernel) (fun t => trip6 m K c _ _ _ _ _ _ _ t) ?_
  refine close_far m K c 3 0 rfl ?_
  refine step_far m K c 3 0 rfl (by clear hk; revert c; decide +kernel) rfl rfl (by clear hk; revert c; decide +kernel) rfl ?_
  refine open_far m K c 0 1 rfl ?_
  refine sum_loop m K c k0_t7_loop (T := 2) (by decide +kernel) (fun t => trip7 m K c _ _ _ _ _ _ _ t) ?_
  refine fetch_in m K c (by clear hk; revert c; decide +kernel) 0 rfl rfl 32 (by decide) ?_
  refine fetch_sib m K c (by clear hk; revert c; decide +kernel) 1 rfl rfl 32 (by decide) ?_
  refine put_sum m K c (by clear hk; revert c; decide +kernel) rfl rfl 32 (by decide) (by decide +kernel) (by unfold k0_pay24; exact rows_two _ _ _ _ _) ?_
  refine close_far m K c 0 1 rfl ?_
  refine step_far m K c 0 1 rfl (by clear hk; revert c; decide +kernel) rfl rfl (by clear hk; revert c; decide +kernel) rfl ?_
  refine open_far m K c 1 1 rfl ?_
  refine fetch_in m K c (by clear hk; revert c; decide +kernel) 0 rfl rfl 256 (by decide) ?_
  refine fetch_sib m K c (by clear hk; revert c; decide +kernel) 1 rfl rfl 256 (by decide) ?_
  refine put_sum m K c (by clear hk; revert c; decide +kernel) rfl rfl 256 (by decide) (by decide +kernel) (by unfold k0_pay25; exact rows_two _ _ _ _ _) ?_
  refine close_far m K c 1 1 rfl ?_
  exact hk _ _ _ _

set_option maxRecDepth 65536 in
set_option maxHeartbeats 4000000 in
theorem run65 (K : Dev nD × Cell → ℕ) (c : Dev nD) (v2 : BitVec 32) (v8 : BitVec 32) (v17 : BitVec 32) (v1369 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 61) ⊢ wp frame (wpE (defs₀ (F := F)) 𝒱₀ (c : Thread nD τ) none) Set.univ (k x0) Q) :
    iprop(known m K ∗ St m c 59) ⊢ wp frame (wpE (defs₀ (F := F)) 𝒱₀ (c : Thread nD τ) none) Set.univ (k0_part65 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v8 v17 v1369 >>= k) Q := by
  rw [k0_part65_eq_skeleton]; unfold k0_part65_skel
  simp only [Prog.lift, Prog.bind_op, Prog.bind_ret, Prog.pure_eq_ret, Prog.bind_assoc]
  refine step_far m K c 1 1 rfl (by clear hk; revert c; decide +kernel) rfl rfl (by clear hk; revert c; decide +kernel) rfl ?_
  refine open_far m K c 2 1 rfl ?_
  refine sum_loop m K c k0_t8_loop (T := 4) (by decide +kernel) (fun t => trip8 m K c _ _ _ _ t) ?_
  refine close_far m K c 2 1 rfl ?_
  exact hk _

set_option maxRecDepth 65536 in
set_option maxHeartbeats 4000000 in
theorem run66 (K : Dev nD × Cell → ℕ) (c : Dev nD) (v2 : BitVec 32) (v8 : BitVec 32) (v10 : BitVec 32) (v17 : BitVec 32) (v1369 : BitVec 32)
    {α : Type} {Q : α → sProp (MT nD τ sig Unit (Elt F) ℕ UU ℕ)} {k : (PUnit) → (PUnit) → (Vec F S256x2048 .f32) → (BitVec 32) → Prog (TpuEff nD τ sig (Elt F) Λ₀ .tc) α}
    (hk : ∀ x0 x1 x2 x3, iprop(known m K ∗ St m c 68) ⊢ wp frame (wpE (defs₀ (F := F)) 𝒱₀ (c : Thread nD τ) none) Set.univ (k x0 x1 x2 x3) Q) :
    iprop(known m K ∗ St m c 61) ⊢ wp frame (wpE (defs₀ (F := F)) 𝒱₀ (c : Thread nD τ) none) Set.univ (k0_part66 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v8 v10 v17 v1369 >>= fun r66 => k0_part67 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= fun r67 => k0_part68 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v10 >>= fun v1548 => k0_part69 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v10 v1548 >>= k r66 r67 v1548) Q := by
  rw [k0_part66_eq_skeleton]; unfold k0_part66_skel
  rw [k0_part67_eq_skeleton]; unfold k0_part67_skel
  rw [k0_part68_eq_skeleton]; unfold k0_part68_skel
  rw [k0_part69_eq_skeleton]; unfold k0_part69_skel
  simp only [Prog.lift, Prog.bind_op, Prog.bind_ret, Prog.pure_eq_ret, Prog.bind_assoc]
  refine step_far m K c 2 1 rfl (by clear hk; revert c; decide +kernel) rfl rfl (by clear hk; revert c; decide +kernel) rfl ?_
  refine open_far m K c 3 1 rfl ?_
  refine sum_loop m K c k0_t9_loop (T := 4) (by decide +kernel) (fun t => trip9 m K c _ _ _ _ _ t) ?_
  refine close_far m K c 3 1 rfl ?_
  refine step_far m K c 3 1 rfl (by clear hk; revert c; decide +kernel) rfl rfl (by clear hk; revert c; decide +kernel) rfl ?_
  refine open_own m K c 0 rfl ?_
  refine sum_loop m K c k0_t10_loop (T := 2) (by decide +kernel) (fun t => trip10 m K c _ _ _ _ _ t) ?_
  refine fetch_in m K c (by clear hk; revert c; decide +kernel) 0 rfl rfl 32 (by decide) ?_
  refine fetch_sib m K c (by clear hk; revert c; decide +kernel) 1 rfl rfl 32 (by decide) ?_
  refine put_sum m K c (by clear hk; revert c; decide +kernel) rfl rfl 32 (by decide) (by decide +kernel) (by unfold k0_pay26; exact rows_two _ _ _ _ _) ?_
  refine close_own m K c 0 rfl ?_
  refine open_own m K c 1 rfl ?_
  refine fetch_in m K c (by clear hk; revert c; decide +kernel) 0 rfl rfl 256 (by decide) ?_
  refine fetch_sib m K c (by clear hk; revert c; decide +kernel) 1 rfl rfl 256 (by decide) ?_
  refine put_sum m K c (by clear hk; revert c; decide +kernel) rfl rfl 256 (by decide) (by decide +kernel) (by unfold k0_pay27; exact rows_two _ _ _ _ _) ?_
  refine close_own m K c 1 rfl ?_
  refine open_own m K c 2 rfl ?_
  refine sum_loop m K c k0_t11_loop (T := 4) (by decide +kernel) (fun t => trip11 m K c _ _ _ t) ?_
  refine close_own m K c 2 rfl ?_
  refine open_own m K c 3 rfl ?_
  refine sum_loop m K c k0_t12_loop (T := 4) (by decide +kernel) (fun t => trip12 m K c _ _ _ t) ?_
  refine close_own m K c 3 rfl ?_
  exact hk _ _ _ _

set_option maxRecDepth 65536 in
set_option maxHeartbeats 4000000 in
theorem run70 (K : Dev nD × Cell → ℕ) (c : Dev nD) (v2 : BitVec 32) (v5 : BitVec 32) (v8 : BitVec 32) (v16 : BitVec 32) (v17 : BitVec 32) (v18 : BitVec 32) (v19 : BitVec 32) (c4_i32_1338 : BitVec 32)
    {α : Type} {Q : α → sProp (MT nD τ sig Unit (Elt F) ℕ UU ℕ)} {k : (Σ' (v1607 : BitVec 32), BitVec 32) → Prog (TpuEff nD τ sig (Elt F) Λ₀ .tc) α}
    (hk : ∀ x0, iprop(known m K ∗ St m c 70) ⊢ wp frame (wpE (defs₀ (F := F)) 𝒱₀ (c : Thread nD τ) none) Set.univ (k x0) Q) :
    iprop(known m K ∗ St m c 68) ⊢ wp frame (wpE (defs₀ (F := F)) 𝒱₀ (c : Thread nD τ) none) Set.univ (k0_part70 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v16 v17 v18 v19 c4_i32_1338 >>= k) Q := by
  rw [k0_part70_eq_skeleton]; unfold k0_part70_skel
  simp only [Prog.lift, Prog.bind_op, Prog.bind_ret, Prog.pure_eq_ret, Prog.bind_assoc]
  refine step_wait m K c (.farR 0 0) rfl rfl (credit_far 0 _ _) ?_
  refine step_wait m K c (.farR 0 1) rfl rfl (credit_far 0 _ _) ?_
  exact hk _

end Cert.Reducing
-- ==== Proof.RBodyC.lean ====
/-
# The reduction of the gradients: the whole sums

The sums of all four chips, their exchange and the last waits.
-/
module

public import proofs.«01_k».proof.Proof.RTrips
public import proofs.«01_k».proof.Proof.RSmall
public import Idealize.ShloMosaic.Lib.Transfers
public import Idealize.ShloMosaic.Lib.Scf
public import Idealize.ShloMosaic.Lib.Pipeline.ValueKit.Geometry

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem run71 (K : Dev nD × Cell → ℕ) (c : Dev nD) (v8 : BitVec 32) (v1607 : BitVec 32) (v1608 : BitVec 32) (v2 : BitVec 32) (v5 : BitVec 32) (v15 : BitVec 32)
    {α : Type} {Q : α → sProp (MT nD τ sig Unit (Elt F) ℕ UU ℕ)} {k : (Vec F S32x2048 .f32) → (FVec F S32x2048 .f32) → (PUnit) → Prog (TpuEff nD τ sig (Elt F) Λ₀ .tc) α}
    (hk : ∀ x0 x1 x2, iprop(known m K ∗ St m c 73) ⊢ wp frame (wpE (defs₀ (F := F)) 𝒱₀ (c : Thread nD τ) none) Set.univ (k x0 x1 x2) Q) :
    iprop(known m K ∗ St m c 70) ⊢ wp frame (wpE (defs₀ (F := F)) 𝒱₀ (c : Thread nD τ) none) Set.univ (k0_part71 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v1607 v1608 >>= fun v1627 => k0_part72 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 v1627 >>= fun v1647 => k0_part73 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v15 v1647 >>= k v1627 v1647) Q := by
  rw [k0_part71_eq_skeleton]; unfold k0_part71_skel
  rw [k0_part72_eq_skeleton]; unfold k0_part72_skel
  rw [k0_part73_eq_skeleton]; unfold k0_part73_skel
  simp only [Prog.lift, Prog.bind_op, Prog.bind_ret, Prog.pure_eq_ret, Prog.bind_assoc]
  refine step_wait m K c (.farR 0 2) rfl rfl (credit_far 0 _ _) ?_
  refine open_fin m K c 0 rfl ?_
  refine sum_loop m K c k0_t13_loop (T := 2) (by decide +kernel) (fun t => trip13 m K c _ _ _ t) ?_
  refine fetch_sum m K c (by clear hk; revert c; decide +kernel) 0 rfl rfl 32 (by decide) ?_
  refine fetch_far m K c 0 rfl 1 rfl rfl 32 (by decide) ?_
  refine fetch_far m K c 1 rfl 0 rfl rfl 32 (by decide) ?_
  refine fetch_far m K c 2 rfl 1 rfl rfl 32 (by decide) ?_
  refine put_out m K c (by clear hk; revert c; decide +kernel) rfl rfl 32 (by decide) (by decide +kernel) (by unfold k0_pay28 k0_pay29; exact rows_four _ _ _ _ _ _ _) ?_
  refine close_fin m K c 0 rfl ?_
  refine step_fin m K c 0 rfl (by clear hk; revert c; decide +kernel) rfl rfl (by clear hk; revert c; decide +kernel) (by clear hk; revert c; decide +kernel) ?_
  exact hk _ _ _

set_option maxRecDepth 65536 in
set_option maxHeartbeats 4000000 in
theorem run74 (K : Dev nD × Cell → ℕ) (c : Dev nD) (v2 : BitVec 32) (v5 : BitVec 32) (v8 : BitVec 32) (v16 : BitVec 32) (v17 : BitVec 32) (v18 : BitVec 32)
    {α : Type} {Q : α → sProp (MT nD τ sig Unit (Elt F) ℕ UU ℕ)} {k : (Σ' (v1704 : BitVec 32), BitVec 32) → Prog (TpuEff nD τ sig (Elt F) Λ₀ .tc) α}
    (hk : ∀ x0, iprop(known m K ∗ St m c 75) ⊢ wp frame (wpE (defs₀ (F := F)) 𝒱₀ (c : Thread nD τ) none) Set.univ (k x0) Q) :
    iprop(known m K ∗ St m c 73) ⊢ wp frame (wpE (defs₀ (F := F)) 𝒱₀ (c : Thread nD τ) none) Set.univ (k0_part74 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v16 v17 v18 >>= k) Q := by
  rw [k0_part74_eq_skeleton]; unfold k0_part74_skel
  simp only [Prog.lift, Prog.bind_op, Prog.bind_ret, Prog.pure_eq_ret, Prog.bind_assoc]
  refine step_wait m K c (.farR 1 0) rfl rfl (credit_far 1 _ _) ?_
  refine step_wait m K c (.farR 1 1) rfl rfl (credit_far 1 _ _) ?_
  exact hk _

set_option maxRecDepth 65536 in
set_option maxHeartbeats 4000000 in
theorem run75 (K : Dev nD × Cell → ℕ) (c : Dev nD) (v8 : BitVec 32) (v19 : BitVec 32) (v1704 : BitVec 32) (c2_i32_1495 : BitVec 32) (v2 : BitVec 32) (v5 : BitVec 32) (v15 : BitVec 32) (v16 : BitVec 32)
    {α : Type} {Q : α → sProp (MT nD τ sig Unit (Elt F) ℕ UU ℕ)} {k : (Vec F S256x2048 .f32) → (Σ' (v1747 : FVec F S256x2048 .f32), Vec F S256x2048 .f32) → (PUnit) → Prog (TpuEff nD τ sig (Elt F) Λ₀ .tc) α}
    (hk : ∀ x0 x1 x2, iprop(known m K ∗ St m c 78) ⊢ wp frame (wpE (defs₀ (F := F)) 𝒱₀ (c : Thread nD τ) none) Set.univ (k x0 x1 x2) Q) :
    iprop(known m K ∗ St m c 75) ⊢ wp frame (wpE (defs₀ (F := F)) 𝒱₀ (c : Thread nD τ) none) Set.univ (k0_part75 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v8 v19 v1704 c2_i32_1495 >>= fun v1727 => k0_part76 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 v1727 >>= fun r76 => k0_part77 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v16 (r76.1) (r76.2) >>= k v1727 r76) Q := by
  rw [k0_part75_eq_skeleton]; unfold k0_part75_skel
  rw [k0_part76_eq_skeleton]; unfold k0_part76_skel
  rw [k0_part77_eq_skeleton]; unfold k0_part77_skel
  simp only [Prog.lift, Prog.bind_op, Prog.bind_ret, Prog.pure_eq_ret, Prog.bind_assoc]
  refine step_wait m K c (.farR 1 2) rfl rfl (credit_far 1 _ _) ?_
  refine open_fin m K c 1 rfl ?_
  refine fetch_sum m K c (by clear hk; revert c; decide +kernel) 0 rfl rfl 256 (by decide) ?_
  refine fetch_far m K c 0 rfl 1 rfl rfl 256 (by decide) ?_
  refine fetch_far m K c 1 rfl 0 rfl rfl 256 (by decide) ?_
  refine fetch_far m K c 2 rfl 1 rfl rfl 256 (by decide) ?_
  refine put_out m K c (by clear hk; revert c; decide +kernel) rfl rfl 256 (by decide) (by decide +kernel) (by unfold k0_pay30 k0_pay31; exact rows_four _ _ _ _ _ _ _) ?_
  refine close_fin m K c 1 rfl ?_
  refine step_fin m K c 1 rfl (by clear hk; revert c; decide +kernel) rfl rfl (by clear hk; revert c; decide +kernel) (by clear hk; revert c; decide +kernel) ?_
  exact hk _ _ _

set_option maxRecDepth 65536 in
set_option maxHeartbeats 4000000 in
theorem run78 (K : Dev nD × Cell → ℕ) (c : Dev nD) (v2 : BitVec 32) (v8 : BitVec 32) (v17 : BitVec 32) (v18 : BitVec 32) (v19 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 80) ⊢ wp frame (wpE (defs₀ (F := F)) 𝒱₀ (c : Thread nD τ) none) Set.univ (k x0) Q) :
    iprop(known m K ∗ St m c 78) ⊢ wp frame (wpE (defs₀ (F := F)) 𝒱₀ (c : Thread nD τ) none) Set.univ (k0_part78 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v8 v17 v18 v19 >>= k) Q := by
  rw [k0_part78_eq_skeleton]; unfold k0_part78_skel
  simp only [Prog.lift, Prog.bind_op, Prog.bind_ret, Prog.pure_eq_ret, Prog.bind_assoc]
  refine step_wait m K c (.farR 2 0) rfl rfl (credit_far 2 _ _) ?_
  refine step_wait m K c (.farR 2 1) rfl rfl (credit_far 2 _ _) ?_
  exact hk _

set_option maxRecDepth 65536 in
set_option maxHeartbeats 4000000 in
theorem run79 (K : Dev nD × Cell → ℕ) (c : Dev nD) (v2 : BitVec 32) (v5 : BitVec 32) (v8 : BitVec 32) (v15 : BitVec 32) (v16 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 83) ⊢ wp frame (wpE (defs₀ (F := F)) 𝒱₀ (c : Thread nD τ) none) Set.univ (k x0) Q) :
    iprop(known m K ∗ St m c 80) ⊢ wp frame (wpE (defs₀ (F := F)) 𝒱₀ (c : Thread nD τ) none) Set.univ (k0_part79 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v16 >>= k) Q := by
  rw [k0_part79_eq_skeleton]; unfold k0_part79_skel
  simp only [Prog.lift, Prog.bind_op, Prog.bind_ret, Prog.pure_eq_ret, Prog.bind_assoc]
  refine step_wait m K c (.farR 2 2) rfl rfl (credit_far 2 _ _) ?_
  refine open_fin m K c 2 rfl ?_
  refine sum_loop m K c k0_t14_loop (T := 4) (by decide +kernel) (fun t => trip14 m K c _ _ _ _ _ t) ?_
  refine close_fin m K c 2 rfl ?_
  refine step_fin m K c 2 rfl (by clear hk; revert c; decide +kernel) rfl rfl (by clear hk; revert c; decide +kernel) (by clear hk; revert c; decide +kernel) ?_
  exact hk _

set_option maxRecDepth 65536 in
set_option maxHeartbeats 4000000 in
theorem run80 (K : Dev nD × Cell → ℕ) (c : Dev nD) (v2 : BitVec 32) (v8 : BitVec 32) (v17 : BitVec 32) (v18 : BitVec 32) (v19 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 86) ⊢ wp frame (wpE (defs₀ (F := F)) 𝒱₀ (c : Thread nD τ) none) Set.univ (k x0) Q) :
    iprop(known m K ∗ St m c 83) ⊢ wp frame (wpE (defs₀ (F := F)) 𝒱₀ (c : Thread nD τ) none) Set.univ (k0_part80 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v8 v17 v18 v19 >>= k) Q := by
  rw [k0_part80_eq_skeleton]; unfold k0_part80_skel
  simp only [Prog.lift, Prog.bind_op, Prog.bind_ret, Prog.pure_eq_ret, Prog.bind_assoc]
  refine step_wait m K c (.farR 3 0) rfl rfl (credit_far 3 _ _) ?_
  refine step_wait m K c (.farR 3 1) rfl rfl (credit_far 3 _ _) ?_
  refine step_wait m K c (.farR 3 2) rfl rfl (credit_far 3 _ _) ?_
  exact hk _

set_option maxRecDepth 65536 in
set_option maxHeartbeats 4000000 in
theorem run81 (K : Dev nD × Cell → ℕ) (c : Dev nD) (v2 : BitVec 32) (v5 : BitVec 32) (v8 : BitVec 32) (v15 : BitVec 32)
    {α : Type} {Q : α → sProp (MT nD τ sig Unit (Elt F) ℕ UU ℕ)} {k : (BitVec 32) → Prog (TpuEff nD τ sig (Elt F) Λ₀ .tc) α}
    (hk : ∀ x0, iprop(known m K ∗ St m c 89) ⊢ wp frame (wpE (defs₀ (F := F)) 𝒱₀ (c : Thread nD τ) none) Set.univ (k x0) Q) :
    iprop(known m K ∗ St m c 86) ⊢ wp frame (wpE (defs₀ (F := F)) 𝒱₀ (c : Thread nD τ) none) Set.univ (k0_part81 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 >>= k) Q := by
  rw [k0_part81_eq_skeleton]; unfold k0_part81_skel
  simp only [Prog.lift, Prog.bind_op, Prog.bind_ret, Prog.pure_eq_ret, Prog.bind_assoc]
  refine open_fin m K c 3 rfl ?_
  refine sum_loop m K c k0_t15_loop (T := 4) (by decide +kernel) (fun t => trip15 m K c _ _ _ _ t) ?_
  refine close_fin m K c 3 rfl ?_
  refine step_fin m K c 3 rfl (by clear hk; revert c; decide +kernel) rfl rfl (by clear hk; revert c; decide +kernel) (by clear hk; revert c; decide +kernel) ?_
  refine step_wait m K c (.finR 0) rfl rfl (credit_out 0 _ _) ?_
  exact hk _

set_option maxRecDepth 65536 in
set_option maxHeartbeats 4000000 in
theorem run82 (K : Dev nD × Cell → ℕ) (c : Dev nD) (v2 : BitVec 32) (v5 : BitVec 32) (v8 : BitVec 32) (v15 : BitVec 32) (v1897 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 91) ⊢ wp frame (wpE (defs₀ (F := F)) 𝒱₀ (c : Thread nD τ) none) Set.univ (k x0) Q) :
    iprop(known m K ∗ St m c 89) ⊢ wp frame (wpE (defs₀ (F := F)) 𝒱₀ (c : Thread nD τ) none) Set.univ (k0_part82 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v8 v15 v1897 >>= k) Q := by
  rw [k0_part82_eq_skeleton]; unfold k0_part82_skel
  simp only [Prog.lift, Prog.bind_op, Prog.bind_ret, Prog.pure_eq_ret, Prog.bind_assoc]
  refine step_wait m K c (.finR 1) rfl rfl (credit_out 1 _ _) ?_
  refine step_wait m K c (.finR 2) rfl rfl (credit_out 2 _ _) ?_
  exact hk _

set_option maxRecDepth 65536 in
set_option maxHeartbeats 4000000 in
theorem run83 (K : Dev nD × Cell → ℕ) (c : Dev nD) (v2 : BitVec 32) (v5 : BitVec 32) (v14 : BitVec 32) (v15 : BitVec 32)
    {α : Type} {Q : α → sProp (MT nD τ sig Unit (Elt F) ℕ UU ℕ)} {k : (Σ' (v1962 : BitVec 32), BitVec 32) → Prog (TpuEff nD τ sig (Elt F) Λ₀ .tc) α}
    (hk : ∀ x0, iprop(known m K ∗ St m c 93) ⊢ wp frame (wpE (defs₀ (F := F)) 𝒱₀ (c : Thread nD τ) none) Set.univ (k x0) Q) :
    iprop(known m K ∗ St m c 91) ⊢ wp frame (wpE (defs₀ (F := F)) 𝒱₀ (c : Thread nD τ) none) Set.univ (k0_part83 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v14 v15 >>= k) Q := by
  rw [k0_part83_eq_skeleton]; unfold k0_part83_skel
  simp only [Prog.lift, Prog.bind_op, Prog.bind_ret, Prog.pure_eq_ret, Prog.bind_assoc]
  refine step_wait m K c (.finR 3) rfl rfl (credit_out 3 _ _) ?_
  refine step_wait m K c (.smR 0) rfl rfl (credit_small _ _) ?_
  exact hk _

set_option maxRecDepth 65536 in
set_option maxHeartbeats 4000000 in
theorem run84 (K : Dev nD × Cell → ℕ) (c : Dev nD) (v2 : BitVec 32) (v5 : BitVec 32) (v14 : BitVec 32) (v15 : BitVec 32) (v1962 : BitVec 32) (v1963 : BitVec 32)
    {α : Type} {Q : α → sProp (MT nD τ sig Unit (Elt F) ℕ UU ℕ)} {k : (Σ' (v1996 : BitVec 32), BitVec 32) → Prog (TpuEff nD τ sig (Elt F) Λ₀ .tc) α}
    (hk : ∀ x0, iprop(known m K ∗ St m c 94) ⊢ wp frame (wpE (defs₀ (F := F)) 𝒱₀ (c : Thread nD τ) none) Set.univ (k x0) Q) :
    iprop(known m K ∗ St m c 93) ⊢ wp frame (wpE (defs₀ (F := F)) 𝒱₀ (c : Thread nD τ) none) Set.univ (k0_part84 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v14 v15 v1962 v1963 >>= k) Q := by
  rw [k0_part84_eq_skeleton]; unfold k0_part84_skel
  simp only [Prog.lift, Prog.bind_op, Prog.bind_ret, Prog.pure_eq_ret, Prog.bind_assoc]
  refine step_wait m K c (.smR 1) rfl rfl (credit_small _ _) ?_
  exact hk _

set_option maxRecDepth 65536 in
set_option maxHeartbeats 4000000 in
theorem run85 (K : Dev nD × Cell → ℕ) (c : Dev nD) (v2 : BitVec 32) (v5 : BitVec 32) (v14 : BitVec 32) (v15 : BitVec 32) (v1996 : BitVec 32) (c0_i32_1774 : BitVec 32)
    {α : Type} {Q : α → sProp (MT nD τ sig Unit (Elt F) ℕ UU ℕ)} {k : (PUnit) → Prog (TpuEff nD τ sig (Elt F) Λ₀ .tc) α}
    (hk : ∀ x0, iprop(known m K ∗ St m c 95) ⊢ wp frame (wpE (defs₀ (F := F)) 𝒱₀ (c : Thread nD τ) none) Set.univ (k x0) Q) :
    iprop(known m K ∗ St m c 94) ⊢ wp frame (wpE (defs₀ (F := F)) 𝒱₀ (c : Thread nD τ) none) Set.univ (k0_part85 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v14 v15 v1996 c0_i32_1774 >>= k) Q := by
  rw [k0_part85_eq_skeleton]; unfold k0_part85_skel
  simp only [Prog.lift, Prog.bind_op, Prog.bind_ret, Prog.pure_eq_ret, Prog.bind_assoc]
  refine step_wait m K c (.smR 2) rfl rfl (credit_small _ _) ?_
  exact hk _

set_option maxRecDepth 65536 in
set_option maxHeartbeats 4000000 in
theorem run86 (K : Dev nD × Cell → ℕ) (c : Dev nD) (v2 : BitVec 32) (v5 : BitVec 32) (v14 : BitVec 32) (v15 : BitVec 32)
    {α : Type} {Q : α → sProp (MT nD τ sig Unit (Elt F) ℕ UU ℕ)} {k : (Σ' (v2062 : BitVec 32), BitVec 32) → Prog (TpuEff nD τ sig (Elt F) Λ₀ .tc) α}
    (hk : ∀ x0, iprop(known m K ∗ St m c 97) ⊢ wp frame (wpE (defs₀ (F := F)) 𝒱₀ (c : Thread nD τ) none) Set.univ (k x0) Q) :
    iprop(known m K ∗ St m c 95) ⊢ wp frame (wpE (defs₀ (F := F)) 𝒱₀ (c : Thread nD τ) none) Set.univ (k0_part86 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v14 v15 >>= k) Q := by
  rw [k0_part86_eq_skeleton]; unfold k0_part86_skel
  simp only [Prog.lift, Prog.bind_op, Prog.bind_ret, Prog.pure_eq_ret, Prog.bind_assoc]
  refine step_wait m K c (.smR 3) rfl rfl (credit_small _ _) ?_
  refine step_wait m K c (.smR 4) rfl rfl (credit_small _ _) ?_
  exact hk _

set_option maxRecDepth 65536 in
set_option maxHeartbeats 4000000 in
theorem run87 (K : Dev nD × Cell → ℕ) (c : Dev nD) (v2 : BitVec 32) (v5 : BitVec 32) (v14 : BitVec 32) (v15 : BitVec 32) (v2062 : BitVec 32) (v2063 : BitVec 32)
    {α : Type} {Q : α → sProp (MT nD τ sig Unit (Elt F) ℕ UU ℕ)} {k : (Σ' (v2096 : BitVec 32), BitVec 32) → Prog (TpuEff nD τ sig (Elt F) Λ₀ .tc) α}
    (hk : ∀ x0, iprop(known m K ∗ St m c 98) ⊢ wp frame (wpE (defs₀ (F := F)) 𝒱₀ (c : Thread nD τ) none) Set.univ (k x0) Q) :
    iprop(known m K ∗ St m c 97) ⊢ wp frame (wpE (defs₀ (F := F)) 𝒱₀ (c : Thread nD τ) none) Set.univ (k0_part87 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2 v5 v14 v15 v2062 v2063 >>= k) Q := by
  rw [k0_part87_eq_skeleton]; unfold k0_part87_skel
  simp only [Prog.lift, Prog.bind_op, Prog.bind_ret, Prog.pure_eq_ret, Prog.bind_assoc]
  refine step_wait m K c (.smR 5) rfl rfl (credit_small _ _) ?_
  exact hk _

set_option maxRecDepth 65536 in
set_option maxHeartbeats 4000000 in
theorem run88 (K : Dev nD × Cell → ℕ) (c : Dev nD) (v5 : BitVec 32) (v15 : BitVec 32) (v2096 : BitVec 32) (c0_i32_1850 : BitVec 32)
    {α : Type} {Q : α → sProp (MT nD τ sig Unit (Elt F) ℕ UU ℕ)} {k : (FVec F S104x128 .f32) → (PUnit) → Prog (TpuEff nD τ sig (Elt F) Λ₀ .tc) α}
    (hk : ∀ x0 x1, iprop(known m K ∗ St m c 102) ⊢ wp frame (wpE (defs₀ (F := F)) 𝒱₀ (c : Thread nD τ) none) Set.univ (k x0 x1) Q) :
    iprop(known m K ∗ St m c 98) ⊢ wp frame (wpE (defs₀ (F := F)) 𝒱₀ (c : Thread nD τ) none) Set.univ (k0_part88 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v5 v15 v2096 c0_i32_1850 >>= fun v2127 => k0_part89 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c v2127 >>= k v2127) Q := by
  rw [k0_part88_eq_skeleton]; unfold k0_part88_skel
  rw [k0_part89_eq_skeleton]; unfold k0_part89_skel
  simp only [Prog.lift, Prog.bind_op, Prog.bind_ret, Prog.pure_eq_ret, Prog.bind_assoc]
  refine step_wait m K c (.smR 6) rfl rfl (credit_small _ _) ?_
  refine sum_in m K c ?_
  refine step_slot_load m K c (fun _ => ?_)
  refine step_slot_load m K c (fun _ => ?_)
  refine step_slot_load m K c (fun _ => ?_)
  refine step_slot_load m K c (fun _ => ?_)
  refine step_slot_load m K c (fun _ => ?_)
  refine step_slot_load m K c (fun _ => ?_)
  refine step_slot_load m K c (fun _ => ?_)
  refine step_slot_load m K c (fun _ => ?_)
  refine step_out_load m K c (fun _ => ?_)
  refine step_out_store m K c ?_
  refine sum_out m K c ?_
  refine step_wait m K c (.smS 0) rfl rfl (credit_small _ _) ?_
  refine step_wait m K c (.smS 1) rfl rfl (credit_small _ _) ?_
  refine step_wait m K c (.smS 2) rfl rfl (credit_small _ _) ?_
  exact hk _ _

set_option maxRecDepth 65536 in
set_option maxHeartbeats 4000000 in
theorem run90 (K : Dev nD × Cell → ℕ) (c : Dev nD)
    {α : Type} {Q : α → sProp (MT nD τ sig Unit (Elt F) ℕ UU ℕ)} {k : (PUnit) → Prog (TpuEff nD τ sig (Elt F) Λ₀ .tc) α}
    (hk : ∀ x0, iprop(known m K ∗ St m c 106) ⊢ wp frame (wpE (defs₀ (F := F)) 𝒱₀ (c : Thread nD τ) none) Set.univ (k x0) Q) :
    iprop(known m K ∗ St m c 102) ⊢ wp frame (wpE (defs₀ (F := F)) 𝒱₀ (c : Thread nD τ) none) Set.univ (k0_part90 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= k) Q := by
  rw [k0_part90_eq_skeleton]; unfold k0_part90_skel
  simp only [Prog.lift, Prog.bind_op, Prog.bind_ret, Prog.pure_eq_ret, Prog.bind_assoc]
  refine step_wait m K c (.smS 3) rfl rfl (credit_small _ _) ?_
  refine step_wait m K c (.smS 4) rfl rfl (credit_small _ _) ?_
  refine step_wait m K c (.smS 5) rfl rfl (credit_small _ _) ?_
  refine step_wait m K c (.smS 6) rfl rfl (credit_small _ _) ?_
  exact hk _

set_option maxRecDepth 65536 in
set_option maxHeartbeats 4000000 in
theorem run91 (K : Dev nD × Cell → ℕ) (c : Dev nD)
    {α : Type} {Q : α → sProp (MT nD τ sig Unit (Elt F) ℕ UU ℕ)} {k : (PUnit) → Prog (TpuEff nD τ sig (Elt F) Λ₀ .tc) α}
    (hk : ∀ x0, iprop(known m K ∗ St m c 110) ⊢ wp frame (wpE (defs₀ (F := F)) 𝒱₀ (c : Thread nD τ) none) Set.univ (k x0) Q) :
    iprop(known m K ∗ St m c 106) ⊢ wp frame (wpE (defs₀ (F := F)) 𝒱₀ (c : Thread nD τ) none) Set.univ (k0_part91 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= k) Q := by
  rw [k0_part91_eq_skeleton]; unfold k0_part91_skel
  simp only [Prog.lift, Prog.bind_op, Prog.bind_ret, Prog.pure_eq_ret, Prog.bind_assoc]
  refine step_wait m K c (.sibS 0 0) rfl rfl (credit_in 0 _ _) ?_
  refine step_wait m K c (.sibS 0 1) rfl rfl (credit_in 0 _ _) ?_
  refine step_wait m K c (.sibS 0 2) rfl rfl (credit_in 0 _ _) ?_
  refine step_wait m K c (.sibS 0 3) rfl rfl (credit_in 0 _ _) ?_
  exact hk _

set_option maxRecDepth 65536 in
set_option maxHeartbeats 4000000 in
theorem run92 (K : Dev nD × Cell → ℕ) (c : Dev nD)
    {α : Type} {Q : α → sProp (MT nD τ sig Unit (Elt F) ℕ UU ℕ)} {k : (PUnit) → Prog (TpuEff nD τ sig (Elt F) Λ₀ .tc) α}
    (hk : ∀ x0, iprop(known m K ∗ St m c 114) ⊢ wp frame (wpE (defs₀ (F := F)) 𝒱₀ (c : Thread nD τ) none) Set.univ (k x0) Q) :
    iprop(known m K ∗ St m c 110) ⊢ wp frame (wpE (defs₀ (F := F)) 𝒱₀ (c : Thread nD τ) none) Set.univ (k0_part92 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= k) Q := by
  rw [k0_part92_eq_skeleton]; unfold k0_part92_skel
  simp only [Prog.lift, Prog.bind_op, Prog.bind_ret, Prog.pure_eq_ret, Prog.bind_assoc]
  refine step_wait m K c (.sibS 1 0) rfl rfl (credit_in 1 _ _) ?_
  refine step_wait m K c (.sibS 1 1) rfl rfl (credit_in 1 _ _) ?_
  refine step_wait m K c (.sibS 1 2) rfl rfl (credit_in 1 _ _) ?_
  refine step_wait m K c (.sibS 1 3) rfl rfl (credit_in 1 _ _) ?_
  exact hk _

set_option maxRecDepth 65536 in
set_option maxHeartbeats 4000000 in
theorem run93 (K : Dev nD × Cell → ℕ) (c : Dev nD)
    {α : Type} {Q : α → sProp (MT nD τ sig Unit (Elt F) ℕ UU ℕ)} {k : (PUnit) → Prog (TpuEff nD τ sig (Elt F) Λ₀ .tc) α}
    (hk : ∀ x0, iprop(known m K ∗ St m c 118) ⊢ wp frame (wpE (defs₀ (F := F)) 𝒱₀ (c : Thread nD τ) none) Set.univ (k x0) Q) :
    iprop(known m K ∗ St m c 114) ⊢ wp frame (wpE (defs₀ (F := F)) 𝒱₀ (c : Thread nD τ) none) Set.univ (k0_part93 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= k) Q := by
  rw [k0_part93_eq_skeleton]; unfold k0_part93_skel
  simp only [Prog.lift, Prog.bind_op, Prog.bind_ret, Prog.pure_eq_ret, Prog.bind_assoc]
  refine step_wait m K c (.sibS 2 0) rfl rfl (credit_in 2 _ _) ?_
  refine step_wait m K c (.sibS 2 1) rfl rfl (credit_in 2 _ _) ?_
  refine step_wait m K c (.sibS 2 2) rfl rfl (credit_in 2 _ _) ?_
  refine step_wait m K c (.sibS 2 3) rfl rfl (credit_in 2 _ _) ?_
  exact hk _

set_option maxRecDepth 65536 in
set_option maxHeartbeats 4000000 in
theorem run94 (K : Dev nD × Cell → ℕ) (c : Dev nD)
    {α : Type} {Q : α → sProp (MT nD τ sig Unit (Elt F) ℕ UU ℕ)} {k : (PUnit) → Prog (TpuEff nD τ sig (Elt F) Λ₀ .tc) α}
    (hk : ∀ x0, iprop(known m K ∗ St m c 122) ⊢ wp frame (wpE (defs₀ (F := F)) 𝒱₀ (c : Thread nD τ) none) Set.univ (k x0) Q) :
    iprop(known m K ∗ St m c 118) ⊢ wp frame (wpE (defs₀ (F := F)) 𝒱₀ (c : Thread nD τ) none) Set.univ (k0_part94 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= k) Q := by
  rw [k0_part94_eq_skeleton]; unfold k0_part94_skel
  simp only [Prog.lift, Prog.bind_op, Prog.bind_ret, Prog.pure_eq_ret, Prog.bind_assoc]
  refine step_wait m K c (.sibS 3 0) rfl rfl (credit_in 3 _ _) ?_
  refine step_wait m K c (.sibS 3 1) rfl rfl (credit_in 3 _ _) ?_
  refine step_wait m K c (.sibS 3 2) rfl rfl (credit_in 3 _ _) ?_
  refine step_wait m K c (.sibS 3 3) rfl rfl (credit_in 3 _ _) ?_
  exact hk _

set_option maxRecDepth 65536 in
set_option maxHeartbeats 4000000 in
theorem run95 (K : Dev nD × Cell → ℕ) (c : Dev nD)
    {α : Type} {Q : α → sProp (MT nD τ sig Unit (Elt F) ℕ UU ℕ)} {k : (PUnit) → Prog (TpuEff nD τ sig (Elt F) Λ₀ .tc) α}
    (hk : ∀ x0, iprop(known m K ∗ St m c 126) ⊢ wp frame (wpE (defs₀ (F := F)) 𝒱₀ (c : Thread nD τ) none) Set.univ (k x0) Q) :
    iprop(known m K ∗ St m c 122) ⊢ wp frame (wpE (defs₀ (F := F)) 𝒱₀ (c : Thread nD τ) none) Set.univ (k0_part95 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= k) Q := by
  rw [k0_part95_eq_skeleton]; unfold k0_part95_skel
  simp only [Prog.lift, Prog.bind_op, Prog.bind_ret, Prog.pure_eq_ret, Prog.bind_assoc]
  refine step_wait m K c (.farS 0 2) rfl rfl (credit_sum 0 _ _) ?_
  refine step_wait m K c (.farS 1 2) rfl rfl (credit_sum 1 _ _) ?_
  refine step_wait m K c (.farS 2 2) rfl rfl (credit_sum 2 _ _) ?_
  refine step_wait m K c (.farS 3 2) rfl rfl (credit_sum 3 _ _) ?_
  exact hk _

set_option maxRecDepth 65536 in
set_option maxHeartbeats 4000000 in
theorem run96 (K : Dev nD × Cell → ℕ) (c : Dev nD)
    {α : Type} {Q : α → sProp (MT nD τ sig Unit (Elt F) ℕ UU ℕ)} {k : (PUnit) → Prog (TpuEff nD τ sig (Elt F) Λ₀ .tc) α}
    (hk : ∀ x0, iprop(known m K ∗ St m c 129) ⊢ wp frame (wpE (defs₀ (F := F)) 𝒱₀ (c : Thread nD τ) none) Set.univ (k x0) Q) :
    iprop(known m K ∗ St m c 126) ⊢ wp frame (wpE (defs₀ (F := F)) 𝒱₀ (c : Thread nD τ) none) Set.univ (k0_part96 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= k) Q := by
  rw [k0_part96_eq_skeleton]; unfold k0_part96_skel
  simp only [Prog.lift, Prog.bind_op, Prog.bind_ret, Prog.pure_eq_ret, Prog.bind_assoc]
  refine step_wait m K c (.farS 0 0) rfl rfl (credit_sum 0 _ _) ?_
  refine step_wait m K c (.farS 1 0) rfl rfl (credit_sum 1 _ _) ?_
  refine step_wait m K c (.farS 2 0) rfl rfl (credit_sum 2 _ _) ?_
  exact hk _

set_option maxRecDepth 65536 in
set_option maxHeartbeats 4000000 in
theorem run97 (K : Dev nD × Cell → ℕ) (c : Dev nD)
    {α : Type} {Q : α → sProp (MT nD τ sig Unit (Elt F) ℕ UU ℕ)} {k : (PUnit) → Prog (TpuEff nD τ sig (Elt F) Λ₀ .tc) α}
    (hk : ∀ x0, iprop(known m K ∗ St m c 133) ⊢ wp frame (wpE (defs₀ (F := F)) 𝒱₀ (c : Thread nD τ) none) Set.univ (k x0) Q) :
    iprop(known m K ∗ St m c 129) ⊢ wp frame (wpE (defs₀ (F := F)) 𝒱₀ (c : Thread nD τ) none) Set.univ (k0_part97 (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12 c >>= k) Q := by
  rw [k0_part97_eq_skeleton]; unfold k0_part97_skel
  simp only [Prog.lift, Prog.bind_op, Prog.bind_ret, Prog.pure_eq_ret, Prog.bind_assoc]
  refine step_wait m K c (.farS 3 0) rfl rfl (credit_sum 3 _ _) ?_
  refine step_wait m K c (.farS 0 1) rfl rfl (credit_sum 0 _ _) ?_
  refine step_wait m K c (.farS 1 1) rfl rfl (credit_sum 1 _ _) ?_
  refine step_wait m K c (.farS 2 1) rfl rfl (credit_sum 2 _ _) ?_
  exact hk _

end Cert.Reducing
-- ==== Proof.RBody.lean ====
/-
# The reduction of the gradients: the body

The kernel’s body at a symbolic device.
-/
module

public import proofs.«01_k».proof.Proof.RBodyA
public import proofs.«01_k».proof.Proof.RBodyB
public import proofs.«01_k».proof.Proof.RBodyC
public import Idealize.ShloMosaic.Lib.Transfers
public import Idealize.ShloMosaic.Lib.Scf
public import Idealize.ShloMosaic.Lib.Pipeline.ValueKit.Geometry

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem sound_body (K : Dev nD × Cell → ℕ) (c : Dev nD) {Q : PUnit → sProp 𝕄} (hq : iprop(known m K ∗ St m c 138) ⊢ Q ⟨⟩) :
    iprop(known m K ∗ St₀ m c) ⊢ wp frame (wpE (defs₀ (F := F)) 𝒱₀ (c : Thread nD τ) none) Set.univ (bodyAt0 (F := F) t0_0) Q := by
  unfold bodyAt0
  show iprop(known m K ∗ St₀ m c) ⊢ wp frame (wpE (defs₀ (F := F)) 𝒱₀ (c : Thread nD τ) none) Set.univ (cc0_reduce_gradients (.whole main_arg0) whole (.whole main_arg1) whole (.whole main_arg2) whole (.whole main_arg3) whole (.whole cc0_stg0_0) whole (.whole main_v1_0) whole (.whole main_v1_1) whole (.whole main_v1_2) whole (.whole main_v1_3) whole (.whole cc0_stg1_0) whole (.whole main_v1_5) whole (.whole main_v1_6) whole (.whole main_v1_7) whole (.whole main_v1_8) whole (.whole main_v1_9) whole (.whole main_v1_10) whole (.whole main_v1_11) whole (.whole main_v1_12) whole (.whole main_v1_13) whole (.whole main_v1_14) whole (.whole main_v1_15) whole (.whole main_v1_16) whole (.whole cc0_scratch0) whole (.whole cc0_scratch1) whole (.whole cc0_scratch2) whole (.whole cc0_scratch3) whole cc0_scratch4 cc0_scratch5 cc0_scratch6 cc0_scratch7 cc0_scratch8 cc0_scratch9 cc0_scratch10 cc0_scratch11 cc0_scratch12) Q
  rw [cc0_reduce_gradients_eq_skeleton]; unfold cc0_reduce_gradients_skel
  rw [k0_part98_eq_skeleton]; unfold k0_part98_skel
  rw [k0_part99_eq_skeleton]; unfold k0_part99_skel
  rw [k0_part19_eq_skeleton]; unfold k0_part19_skel
  simp only [Prog.lift, Prog.bind_op, Prog.bind_ret, Prog.pure_eq_ret, Prog.bind_assoc, wp_deviceId]
  refine step_first_load m K c (fun _ => ?_)
  refine step_own_load m K c (by clear hq; revert c; decide +kernel) (fun _ => ?_)
  refine step_own_store m K c (by clear hq; revert c; decide +kernel) ?_
  refine run20 m K c _ _ _ _ (fun x0 => ?_)
  refine run21 m K c _ _ _ _ _ (fun x0 => ?_)
  refine run22 m K c _ _ (fun x0 => ?_)
  refine run23 m K c _ _ _ _ _ (fun x0 => ?_)
  refine run24 m K c _ (fun x0 => ?_)
  refine run25 m K c _ _ _ _ _ (fun x0 => ?_)
  refine run26 m K c _ (fun x0 => ?_)
  refine run27 m K c _ _ _ _ _ _ _ (fun x0 => ?_)
  refine run28 m K c _ (fun x0 => ?_)
  refine run29 m K c _ _ _ _ _ _ (fun x0 => ?_)
  refine run30 m K c _ (fun x0 => ?_)
  refine run31 m K c _ _ _ _ _ (fun x0 => ?_)
  refine run32 m K c _ _ _ (fun x0 => ?_)
  refine run33 m K c _ _ (fun x0 => ?_)
  refine run34 m K c _ _ _ _ _ _ _ (fun x0 => ?_)
  refine run35 m K c _ _ _ _ _ (fun x0 => ?_)
  refine run36 m K c _ _ _ _ (fun x0 => ?_)
  refine run37 m K c _ _ _ _ (fun x0 => ?_)
  refine run38 m K c _ _ _ _ _ _ (fun x0 => ?_)
  refine run39 m K c _ _ _ _ _ _ (fun x0 => ?_)
  refine run40 m K c _ _ _ _ (fun x0 => ?_)
  refine run41 m K c _ _ _ _ _ _ (fun x0 => ?_)
  refine run42 m K c _ _ _ _ (fun x0 => ?_)
  refine run43 m K c _ _ _ _ (fun x0 => ?_)
  refine run44 m K c _ _ _ _ _ _ (fun x0 => ?_)
  refine run45 m K c _ _ _ _ _ _ (fun x0 => ?_)
  refine run46 m K c _ _ _ _ _ (fun x0 => ?_)
  refine run47 m K c _ _ _ _ _ (fun x0 => ?_)
  refine run48 m K c _ _ _ _ (fun x0 => ?_)
  refine run49 m K c _ _ _ _ (fun x0 => ?_)
  refine run50 m K c _ _ _ _ (fun x0 => ?_)
  refine run51 m K c _ _ _ _ _ _ _ (fun x0 x1 x2 x3 => ?_)
  refine run55 m K c _ _ _ _ (fun x0 => ?_)
  refine run56 m K c _ _ _ _ _ _ (fun x0 x1 x2 x3 => ?_)
  refine run60 m K c _ _ _ _ _ _ (fun x0 => ?_)
  refine run61 m K c _ _ _ _ _ _ _ (fun x0 x1 x2 x3 => ?_)
  refine run65 m K c _ _ _ _ (fun x0 => ?_)
  refine run66 m K c _ _ _ _ _ (fun x0 x1 x2 x3 => ?_)
  refine run70 m K c _ _ _ _ _ _ _ _ (fun x0 => ?_)
  refine run71 m K c _ _ _ _ _ _ (fun x0 x1 x2 => ?_)
  refine run74 m K c _ _ _ _ _ _ (fun x0 => ?_)
  refine run75 m K c _ _ _ _ _ _ _ _ (fun x0 x1 x2 => ?_)
  refine run78 m K c _ _ _ _ _ (fun x0 => ?_)
  refine run79 m K c _ _ _ _ _ (fun x0 => ?_)
  refine run80 m K c _ _ _ _ _ (fun x0 => ?_)
  refine run81 m K c _ _ _ _ (fun x0 => ?_)
  refine run82 m K c _ _ _ _ _ (fun x0 => ?_)
  refine run83 m K c _ _ _ _ (fun x0 => ?_)
  refine run84 m K c _ _ _ _ _ _ (fun x0 => ?_)
  refine run85 m K c _ _ _ _ _ _ (fun x0 => ?_)
  refine run86 m K c _ _ _ _ (fun x0 => ?_)
  refine run87 m K c _ _ _ _ _ _ (fun x0 => ?_)
  refine run88 m K c _ _ _ _ (fun x0 x1 => ?_)
  refine run90 m K c  (fun x0 => ?_)
  refine run91 m K c  (fun x0 => ?_)
  refine run92 m K c  (fun x0 => ?_)
  refine run93 m K c  (fun x0 => ?_)
  refine run94 m K c  (fun x0 => ?_)
  refine run95 m K c  (fun x0 => ?_)
  refine run96 m K c  (fun x0 => ?_)
  refine run97 m K c  (fun x0 => ?_)
  refine step_wait m K c (.farS 3 1) rfl rfl (credit_sum 3 _ _) ?_
  refine step_wait m K c (.finS 0) rfl rfl (credit_out 0 _ _) ?_
  refine step_wait m K c (.finS 1) rfl rfl (credit_out 1 _ _) ?_
  refine step_wait m K c (.finS 2) rfl rfl (credit_out 2 _ _) ?_
  refine step_wait m K c (.finS 3) rfl rfl (credit_out 3 _ _) ?_
  rw [wp_ret]; exact hq.trans fupd_intro

end Cert.Reducing
-- ==== Proof.RDeal.lean ====
/-
# The reduction of the gradients: the launch's memory and ghost state, dealt to the devices

A device starts with its own gradients cut into their regions, its chip sums and its summed rows cut into theirs,
and the places on other devices that its transfers fill. Those places, and the tokens of the receives they credit,
come from the other devices.
-/
module

public import proofs.«01_k».proof.Proof.RBody
public import Idealize.ShloMosaic.Lib.ViewIndex

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Products over the cells -/

/-- The eight kinds of cells. -/
def Cell.split : (Fin 4 × Fin 4) ⊕ (Fin 4 × Fin 4) ⊕ (Fin 4 × Fin 3) ⊕ (Fin 4 × Fin 3) ⊕ Fin 4 ⊕ Fin 4 ⊕ Fin 7 ⊕ Fin 7 ≃ Cell where
  toFun
    | .inl p => .sibS p.1 p.2
    | .inr (.inl p) => .sibR p.1 p.2
    | .inr (.inr (.inl p)) => .farS p.1 p.2
    | .inr (.inr (.inr (.inl p))) => .farR p.1 p.2
    | .inr (.inr (.inr (.inr (.inl w)))) => .finS w
    | .inr (.inr (.inr (.inr (.inr (.inl w))))) => .finR w
    | .inr (.inr (.inr (.inr (.inr (.inr (.inl j)))))) => .smS j
    | .inr (.inr (.inr (.inr (.inr (.inr (.inr j)))))) => .smR j
  invFun
    | .sibS w k => .inl (w, k)
    | .sibR w k => .inr (.inl (w, k))
    | .farS w j => .inr (.inr (.inl (w, j)))
    | .farR w j => .inr (.inr (.inr (.inl (w, j))))
    | .finS w => .inr (.inr (.inr (.inr (.inl w))))
    | .finR w => .inr (.inr (.inr (.inr (.inr (.inl w)))))
    | .smS j => .inr (.inr (.inr (.inr (.inr (.inr (.inl j))))))
    | .smR j => .inr (.inr (.inr (.inr (.inr (.inr (.inr j))))))
  left_inv := by rintro (_ | _ | _ | _ | _ | _ | _ | _) <;> rfl
  right_inv := by rintro (_ | _ | _ | _ | _ | _ | _ | _) <;> rfl

omit [FloatOps F] in
theorem bigSep_cells (Φ : Cell → sProp 𝕄) : bigSep Finset.univ Φ
    = iprop((bigSep Finset.univ fun p : Fin 4 × Fin 4 => Φ (.sibS p.1 p.2)) ∗ (bigSep Finset.univ fun p : Fin 4 × Fin 4 => Φ (.sibR p.1 p.2))
        ∗ (bigSep Finset.univ fun p : Fin 4 × Fin 3 => Φ (.farS p.1 p.2)) ∗ (bigSep Finset.univ fun p : Fin 4 × Fin 3 => Φ (.farR p.1 p.2))
        ∗ (bigSep Finset.univ fun w => Φ (.finS w)) ∗ (bigSep Finset.univ fun w => Φ (.finR w))
        ∗ (bigSep Finset.univ fun j => Φ (.smS j)) ∗ bigSep Finset.univ fun j => Φ (.smR j)) := by
  rw [bigSep_univ_equiv Cell.split, bigSep_univ_sum, bigSep_univ_sum, bigSep_univ_sum, bigSep_univ_sum, bigSep_univ_sum, bigSep_univ_sum, bigSep_univ_sum]; rfl

def othE (j : Fin 3) : Dev nD ≃ Dev nD := ⟨oth j, oth j, oth_oth j, oth_oth j⟩
def sibE : Dev nD ≃ Dev nD := ⟨sib, sib, sib_sib, sib_sib⟩
theorem peer_small_fwd (c : Dev nD) (j : Fin 7) : peer (peer c (.smR j)) (.smS j) = c := by revert c j; decide
def smallE (j : Fin 7) : Dev nD ≃ Dev nD :=
  ⟨fun c => peer c (.smS j), fun c => peer c (.smR j), fun c => peer_small_back c j, fun c => peer_small_fwd c j⟩

omit [FloatOps F] in
/-- What every device has for every index, taken by another device. -/
theorem deal {I : Type} [Fintype I] (e : I → Dev nD ≃ Dev nD) (Φ : I → Dev nD → sProp 𝕄) :
    (bigSep Finset.univ fun c : Dev nD => bigSep Finset.univ fun p : I => Φ p c)
      ⊢ bigSep Finset.univ fun c : Dev nD => bigSep Finset.univ fun p : I => Φ p (e p c) := by
  rw [← bigSep_univ_prod (fun cp : Dev nD × I => Φ cp.2 cp.1), ← bigSep_univ_prod (fun cp : Dev nD × I => Φ cp.2 (e cp.2 cp.1)),
    bigSep_univ_equiv (⟨fun cp => (e cp.2 cp.1, cp.2), fun cp => ((e cp.2).symm cp.1, cp.2), fun cp => by simp, fun cp => by simp⟩ :
      Dev nD × I ≃ Dev nD × I) (fun cp : Dev nD × I => Φ cp.2 cp.1)]
  exact BI.Entails.refl _

/-! ## The memory of a device, cut -/

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A buffer cut into disjoint sets of its elements. -/
theorem cut_parts {ℓ : Loc nD τ sig} (f : Buf (Elt F) ℓ) {T : Type} [Fintype T] (K : T → Finset (Idx ℓ))
    (h : ∀ i j, i ≠ j → Disjoint (K i) (K j)) :
    (ℓ ↦{fullShare} f : sProp 𝕄) ⊢ bigSep Finset.univ fun i => ℓ ↦[K i]{fullShare} f := by
  classical
  rw [← pointsTo_biUnion Finset.univ K (fun i _ j _ => h i j)]
  refine (pointsTo_split_subset (Finset.subset_univ (Finset.univ.biUnion K))).1.trans ?_
  iintro ⟨H, -⟩; iexact H

theorem sides (c : Dev nD) : side (sib c) ≠ side c := by revert c; decide
theorem owner_ne (c : Dev nD) (j : Fin 3) : owner c j ≠ chip c := by revert c j; decide
theorem owner_inj (c : Dev nD) (i j : Fin 3) (h : i ≠ j) : owner c i ≠ owner c j := by revert c i j; decide

theorem in_disjoint (w : Fin 4) (p q : Fin 4 × Fin 2) (h : p ≠ q) : Disjoint (inR w p.1 p.2).view.set (inR w q.1 q.2).view.set := by
  refine View.disjoint_slice (Rect.unit_disjoint (s := allS w) 0 ?_)
  revert w p q; decide +kernel
theorem out_disjoint (w : Fin 4) (e e' : Fin 2) (h : e ≠ e') : Disjoint (outR w e).view.set (outR w e').view.set := by
  refine View.disjoint_slice (Rect.unit_disjoint (s := blkS w) 0 ?_)
  revert w e e'; decide +kernel
theorem sib_disjoint (w : Fin 4) (k k' : Fin 4) (h : k ≠ k') : Disjoint (sibR w k).view.set (sibR w k').view.set := by
  have hd := View.disjoint_slice (v := (sibM w).view) (Rect.unit_disjoint (s := fourS w) (inb := four_inb w k) (inb' := four_inb w k') 0 (by
    revert w k k'; decide +kernel))
  have e (k) : (sibR w k).view.set = ((sibM w).view.slice (Rect.unit (s := fourS w) ![k.val, 0, 0] (oneS w).size (four_inb w k))).set := View.set_reshape _ _
  rw [e, e]; exact hd
theorem sum_disjoint (w : Fin 4) (k k' : Fin 4) (h : k ≠ k') : Disjoint (sumR w k).view.set (sumR w k').view.set := by
  have hd := View.disjoint_slice (v := (sumM w).view) (Rect.unit_disjoint (s := fourS w) (inb := four_inb w k) (inb' := four_inb w k') 0 (by
    revert w k k'; decide +kernel))
  have e (k) : (sumR w k).view.set = ((sumM w).view.slice (Rect.unit (s := fourS w) ![k.val, 0, 0] (oneS w).size (four_inb w k))).set := View.set_reshape _ _
  rw [e, e]; exact hd
theorem far_disjoint (w : Fin 4) (j j' : Fin 3) (h : j ≠ j') : Disjoint (farR w j).view.set (farR w j').view.set := by
  have hd := View.disjoint_slice (v := (farM w).view) (Rect.unit_disjoint (s := threeS w) (inb := three_inb w j) (inb' := three_inb w j') 0 (by
    revert w j j'; decide +kernel))
  have e (j) : (farR w j).view.set = ((farM w).view.slice (Rect.unit (s := threeS w) ![j.val, 0, 0] (oneS w).size (three_inb w j))).set := View.set_reshape _ _
  rw [e, e]; exact hd

/-- A device's gradient, cut into the regions of the other side and of its own. -/
theorem cut_in (c : Dev nD) (w : Fin 4) :
    ((inM w).view.loc (c : Thread nD τ) ↦{fullShare} m ((inM w).view.loc (c : Thread nD τ)) : sProp 𝕄)
      ⊢ iprop((bigSep Finset.univ fun k : Fin 4 => owns (c : Thread nD τ) (inR w k (side (sib c))) fullShare (Vp m c w k (side (sib c))))
          ∗ bigSep Finset.univ fun k : Fin 4 => owns (c : Thread nD τ) (inR w k (side c)) fullShare (Vp m c w k (side c))) := by
  refine (cut_parts (m ((inM w).view.loc (c : Thread nD τ))) (T := Fin 4 ⊕ Fin 4)
    (Sum.elim (fun k => (inR w k (side (sib c))).view.set) fun k => (inR w k (side c)).view.set) ?_).trans ?_
  · rintro (k | k) (k' | k') h
    · exact in_disjoint w (k, _) (k', _) fun e => h (congrArg _ (Prod.ext_iff.mp e).1)
    · exact in_disjoint w (k, _) (k', _) fun e => sides c (Prod.ext_iff.mp e).2
    · exact in_disjoint w (k, _) (k', _) fun e => sides c (Prod.ext_iff.mp e).2.symm
    · exact in_disjoint w (k, _) (k', _) fun e => h (congrArg _ (Prod.ext_iff.mp e).1)
  rw [bigSep_univ_sum]
  have one (k e) : ((inM w).view.loc (c : Thread nD τ) ↦[(inR w k e).view.set]{fullShare} m ((inM w).view.loc (c : Thread nD τ)) : sProp 𝕄)
      ⊢ owns (c : Thread nD τ) (inR w k e) fullShare (Vp m c w k e) :=
    owns_intro (c : Thread nD τ) (inR w k e) fullShare (m ((inM w).view.loc (c : Thread nD τ))) _ rfl
  exact BI.sep_mono (bigSep_mono fun k _ => one k _) (bigSep_mono fun k _ => one k _)

/-- A device's summed rows, cut into the half it sums and the half its neighbour sends. -/
theorem cut_out (c : Dev nD) (w : Fin 4) :
    ((outM w).view.loc (c : Thread nD τ) ↦{fullShare} m ((outM w).view.loc (c : Thread nD τ)) : sProp 𝕄)
      ⊢ iprop((∃ X, owns (c : Thread nD τ) (outR w (side c)) fullShare X) ∗ ∃ X, owns (c : Thread nD τ) (outR w (side (sib c))) fullShare X) := by
  refine (cut_parts (m ((outM w).view.loc (c : Thread nD τ))) (T := Unit ⊕ Unit)
    (Sum.elim (fun _ => (outR w (side c)).view.set) fun _ => (outR w (side (sib c))).view.set) ?_).trans ?_
  · rintro (k | k) (k' | k') h
    · exact absurd rfl h
    · exact out_disjoint w _ _ (sides c).symm
    · exact out_disjoint w _ _ (sides c)
    · exact absurd rfl h
  rw [bigSep_univ_sum]
  have one (e) : ((outM w).view.loc (c : Thread nD τ) ↦[(outR w e).view.set]{fullShare} m ((outM w).view.loc (c : Thread nD τ)) : sProp 𝕄)
      ⊢ iprop(∃ X, owns (c : Thread nD τ) (outR w e) fullShare X) := by
    iintro H; iexists _
    iapply (owns_intro (c : Thread nD τ) (outR w e) fullShare (m ((outM w).view.loc (c : Thread nD τ))) _ rfl); iexact H
  exact BI.sep_mono ((BI.bigSep_elim (Finset.mem_univ ())).trans (one _)) ((BI.bigSep_elim (Finset.mem_univ ())).trans (one _))

/-- The place of what comes from the chip's other device. -/
theorem cut_sib (c : Dev nD) (w : Fin 4) :
    ((sibM w).view.loc (c : Thread nD τ) ↦{fullShare} m ((sibM w).view.loc (c : Thread nD τ)) : sProp 𝕄)
      ⊢ bigSep Finset.univ fun k : Fin 4 => iprop(∃ X, owns (c : Thread nD τ) (sibR w k) fullShare X) := by
  refine (cut_parts (m ((sibM w).view.loc (c : Thread nD τ))) (fun k => (sibR w k).view.set) (sib_disjoint w)).trans ?_
  refine bigSep_mono fun k _ => ?_
  show ((sibM w).view.loc (c : Thread nD τ) ↦[(sibR w k).view.set]{fullShare} m ((sibM w).view.loc (c : Thread nD τ)) : sProp 𝕄) ⊢ _
  iintro H; iexists _
  iapply (owns_intro (c : Thread nD τ) (sibR w k) fullShare (m ((sibM w).view.loc (c : Thread nD τ))) _ rfl); iexact H

/-- The place of the chip's sums: one for the own chip, three for the others. -/
theorem cut_sum (c : Dev nD) (w : Fin 4) :
    ((sumM w).view.loc (c : Thread nD τ) ↦{fullShare} m ((sumM w).view.loc (c : Thread nD τ)) : sProp 𝕄)
      ⊢ iprop((∃ X, owns (c : Thread nD τ) (sumR w (chip c)) fullShare X)
          ∗ bigSep Finset.univ fun j : Fin 3 => iprop(∃ X, owns (c : Thread nD τ) (sumR w (owner c j)) fullShare X)) := by
  refine (cut_parts (m ((sumM w).view.loc (c : Thread nD τ))) (T := Unit ⊕ Fin 3)
    (Sum.elim (fun _ => (sumR w (chip c)).view.set) fun j => (sumR w (owner c j)).view.set) ?_).trans ?_
  · rintro (k | k) (k' | k') h
    · exact absurd rfl h
    · exact sum_disjoint w _ _ (owner_ne c k').symm
    · exact sum_disjoint w _ _ (owner_ne c k)
    · exact sum_disjoint w _ _ (owner_inj c k k' fun e => h (congrArg _ e))
  rw [bigSep_univ_sum]
  have one (k) : ((sumM w).view.loc (c : Thread nD τ) ↦[(sumR w k).view.set]{fullShare} m ((sumM w).view.loc (c : Thread nD τ)) : sProp 𝕄)
      ⊢ iprop(∃ X, owns (c : Thread nD τ) (sumR w k) fullShare X) := by
    iintro H; iexists _
    iapply (owns_intro (c : Thread nD τ) (sumR w k) fullShare (m ((sumM w).view.loc (c : Thread nD τ))) _ rfl); iexact H
  exact BI.sep_mono ((BI.bigSep_elim (Finset.mem_univ ())).trans (one _)) (bigSep_mono fun j _ => one _)

/-- The place of what comes from the other chips. -/
theorem cut_far (c : Dev nD) (w : Fin 4) :
    ((farM w).view.loc (c : Thread nD τ) ↦{fullShare} m ((farM w).view.loc (c : Thread nD τ)) : sProp 𝕄)
      ⊢ bigSep Finset.univ fun j : Fin 3 => iprop(∃ X, owns (c : Thread nD τ) (farR w j) fullShare X) := by
  refine (cut_parts (m ((farM w).view.loc (c : Thread nD τ))) (fun j => (farR w j).view.set) (far_disjoint w)).trans ?_
  refine bigSep_mono fun j _ => ?_
  show ((farM w).view.loc (c : Thread nD τ) ↦[(farR w j).view.set]{fullShare} m ((farM w).view.loc (c : Thread nD τ)) : sProp 𝕄) ⊢ _
  iintro H; iexists _
  iapply (owns_intro (c : Thread nD τ) (farR w j) fullShare (m ((farM w).view.loc (c : Thread nD τ))) _ rfl); iexact H

/-! ## The launch credit -/

theorem gc_eq_iff {c d : Dev nD} {x y : Cell} : Iff (gc c x = gc d y) (c = d ∧ x = y) := by
  constructor
  · intro h
    refine ⟨Fin.ext (congrArg (fun g : GSem nD τ sig => g.1.1.val) h), Cell.num_inj ?_⟩
    have := congrArg Prod.snd h
    exact SemLoc.dma.inj this
  · rintro ⟨rfl, rfl⟩; rfl

theorem gc_inj : Function.Injective (fun p : Dev nD × Cell => gc p.1 p.2) := fun p q h => Prod.ext (gc_eq_iff.mp h).1 (gc_eq_iff.mp h).2

theorem mate_mate (x : Cell) : x.mate.mate = x := by cases x <;> rfl
theorem mate_own (x : Cell) : x.mate.own = !x.own := by cases x <;> rfl
theorem peer_back (c : Dev nD) (x : Cell) : peer (peer c x) x.mate = c := by
  cases x with
  | sibS w k => exact sib_sib c
  | sibR w k => exact sib_sib c
  | farS w j => exact oth_oth _ c
  | farR w j => exact oth_oth _ c
  | finS w => exact sib_sib c
  | finR w => exact sib_sib c
  | smS j => exact peer_small_back c j
  | smR j => exact peer_small_fwd c j

theorem due_apply (d : Dev nD) (y : Cell) (c : Dev nD) (x : Cell) :
    due d y (gc c x) () = if y.own = true ∧ peer d y = c ∧ y.mate = x then x.amt else 0 := by
  unfold due
  by_cases ho : y.own = true
  · rw [if_pos ho, tallyAt_apply]
    by_cases e : peer d y = c ∧ y.mate = x
    · obtain ⟨rfl, rfl⟩ := e
      rw [if_pos ⟨rfl, rfl⟩, if_pos ⟨ho, rfl, rfl⟩, Cell.mate_amt]
    · rw [if_neg (fun h => e ⟨(gc_eq_iff.mp h.1).1.symm, (gc_eq_iff.mp h.1).2.symm⟩), if_neg (fun h => e h.2)]
  · rw [if_neg ho, if_neg fun h => ho h.1]; rfl

theorem todo_zero (y : Cell) : Iff (Cell.todo 0 y) (y.own = true) := ⟨fun h => h.1, fun h => ⟨h, Nat.zero_le _⟩⟩

/-- What all devices owe a receive at the start. -/
theorem owed_sum (c : Dev nD) (x : Cell) (hx : x.own = false) : ∑ d : Dev nD, owed d 0 (gc c x) () = x.amt := by
  have e (d : Dev nD) : owed d 0 (gc c x) () = ∑ y : Cell, if Cell.todo 0 y then due d y (gc c x) () else 0 := by
    unfold owed
    rw [Finset.sum_apply, Finsupp.finset_sum_apply]
    exact Finset.sum_congr rfl fun y _ => by split <;> rfl
  have ho : x.mate.own = true := by rw [mate_own, hx]; rfl
  simp only [e]
  rw [Finset.sum_eq_single (peer c x), Finset.sum_eq_single x.mate, if_pos ((todo_zero _).2 ho), due_apply, if_pos ⟨ho, peer_back c x, mate_mate x⟩]
  · intro y _ hy; rw [due_apply, if_neg (fun ht : y.own = true ∧ peer _ y = c ∧ y.mate = x => hy (by rw [← ht.2.2, mate_mate]))]; exact ite_self 0
  · exact fun hn => absurd (Finset.mem_univ _) hn
  · intro d _ hd
    refine Finset.sum_eq_zero fun y _ => ?_
    rw [due_apply, if_neg (fun ht : y.own = true ∧ peer d y = c ∧ y.mate = x => hd (by rw [← ht.2.2, ← ht.2.1, peer_back]))]; exact ite_self 0
  · exact fun hn => absurd (Finset.mem_univ _) hn

omit [FloatOps F] in
/-- A device's launch credit: one for every region that others send it. -/
theorem creds (c : Dev nD) : (Pipeline.launchCred (fun d => owed d 0) c : sProp 𝕄)
    ⊢ iprop((bigSep Finset.univ fun p : Fin 4 × Fin 4 => cred (tallyAt (gc c (.sibR p.1 p.2)) () (Cell.sibR p.1 p.2).amt))
        ∗ (bigSep Finset.univ fun p : Fin 4 × Fin 3 => cred (tallyAt (gc c (.farR p.1 p.2)) () (Cell.farR p.1 p.2).amt))
        ∗ (bigSep Finset.univ fun w : Fin 4 => cred (tallyAt (gc c (.finR w)) () (Cell.finR w).amt))
        ∗ bigSep Finset.univ fun j : Fin 7 => cred (tallyAt (gc c (.smR j)) () (Cell.smR j).amt)) := by
  have one (x : Cell) (h : x.own = false) :
      tallyOn (gc c x) (launchCredit (Pipeline.owing fun d => owed d 0) 0 (gc c x)) = (tallyAt (gc c x) () x.amt : CellTallies nD τ sig Unit) := by
    unfold tallyAt; refine congrArg _ (Finsupp.ext fun u => ?_); cases u
    rw [Pipeline.launchCredit_owing, Finsupp.single_eq_same, owed_sum c x h]
  have hcells : (Pipeline.launchCred (fun d => owed d 0) c : sProp 𝕄)
      ⊢ bigSep Finset.univ fun x : Cell => cred (tallyOn (gc c x) (launchCredit (Pipeline.owing fun d => owed d 0) 0 (gc c x))) := by
    unfold Pipeline.launchCred
    have hsub : (Finset.univ.map ⟨fun x : Cell => (SemLoc.dma x.num : SemLoc sig), fun x y h => Cell.num_inj (SemLoc.dma.inj h)⟩) ⊆ Finset.univ := Finset.subset_univ _
    rw [bigSep_sdiff_split hsub, bigSep_map]
    exact sep_elim_left
  refine hcells.trans ?_
  rw [bigSep_cells]
  iintro ⟨-, H1, -, H2, -, H3, -, H4⟩
  isplitl [H1]
  · iapply (Entails.of_eq (bigSep_congr (s := Finset.univ) fun (p : Fin 4 × Fin 4) _ => congrArg cred (one (.sibR p.1 p.2) rfl))); iexact H1
  isplitl [H2]
  · iapply (Entails.of_eq (bigSep_congr (s := Finset.univ) fun (p : Fin 4 × Fin 3) _ => congrArg cred (one (.farR p.1 p.2) rfl))); iexact H2
  isplitl [H3]
  · iapply (Entails.of_eq (bigSep_congr (s := Finset.univ) fun (w : Fin 4) _ => congrArg cred (one (.finR w) rfl))); iexact H3
  iapply (Entails.of_eq (bigSep_congr (s := Finset.univ) fun (j : Fin 7) _ => congrArg cred (one (.smR j) rfl))); iexact H4

/-! ## Everything dealt -/

/-- What device `c` starts from. -/
def start (c : Dev nD) : sProp 𝕄 := bigSep Finset.univ fun x : Cell => res m c x (Cell.at 0 x)

theorem at_zero : (∀ w k, Cell.at 0 (.sibS w k) = 4) ∧ (∀ w k, Cell.at 0 (.sibR w k) = 1) ∧ (∀ w j, Cell.at 0 (.farS w j) = 0) ∧ (∀ w j, Cell.at 0 (.farR w j) = 1)
    ∧ (∀ w, Cell.at 0 (.finS w) = 0) ∧ (∀ w, Cell.at 0 (.finR w) = 1) ∧ (∀ j, Cell.at 0 (.smS j) = 0) ∧ ∀ j, Cell.at 0 (.smR j) = 1 := by decide +kernel

/-- The buffers of one kind, whole. -/
abbrev wholes (c : Dev nD) {s : Fin 4 → Shape} (M : (w : Fin 4) → Memref sig .tc .hbm (s w) .f32) : sProp 𝕄 :=
  bigSep Finset.univ fun w : Fin 4 => (M w).view.loc (c : Thread nD τ) ↦{fullShare} m ((M w).view.loc (c : Thread nD τ))

/-- A device's memory, as the launch gives it. -/
def mem₀ (c : Dev nD) : sProp 𝕄 :=
  iprop(wholes m c inM ∗ wholes m c outM ∗ wholes m c sibM ∗ wholes m c sumM ∗ wholes m c farM)

/-- A device's memory cut. -/
theorem mem_cut (c : Dev nD) : mem₀ m c ⊢ iprop(
      (bigSep Finset.univ fun p : Fin 4 × Fin 4 => owns (c : Thread nD τ) (inR p.1 p.2 (side (sib c))) fullShare (Vp m c p.1 p.2 (side (sib c))))
      ∗ (bigSep Finset.univ fun p : Fin 4 × Fin 4 => owns (c : Thread nD τ) (inR p.1 p.2 (side c)) fullShare (Vp m c p.1 p.2 (side c)))
      ∗ (bigSep Finset.univ fun w : Fin 4 => iprop(∃ X, owns (c : Thread nD τ) (outR w (side c)) fullShare X))
      ∗ (bigSep Finset.univ fun w : Fin 4 => iprop(∃ X, owns (c : Thread nD τ) (outR w (side (sib c))) fullShare X))
      ∗ (bigSep Finset.univ fun p : Fin 4 × Fin 4 => iprop(∃ X, owns (c : Thread nD τ) (sibR p.1 p.2) fullShare X))
      ∗ (bigSep Finset.univ fun w : Fin 4 => iprop(∃ X, owns (c : Thread nD τ) (sumR w (chip c)) fullShare X))
      ∗ (bigSep Finset.univ fun p : Fin 4 × Fin 3 => iprop(∃ X, owns (c : Thread nD τ) (sumR p.1 (owner c p.2)) fullShare X))
      ∗ bigSep Finset.univ fun p : Fin 4 × Fin 3 => iprop(∃ X, owns (c : Thread nD τ) (farR p.1 p.2) fullShare X)) := by
  unfold mem₀
  have h1 := BIBase.Entails.trans (bigSep_mono (s := Finset.univ) fun (w : Fin 4) _ => cut_in m c w) (Entails.of_eq (bigSep_sep' _ _ _))
  have h2 := BIBase.Entails.trans (bigSep_mono (s := Finset.univ) fun (w : Fin 4) _ => cut_out m c w) (Entails.of_eq (bigSep_sep' _ _ _))
  have h3 : wholes m c sibM ⊢ bigSep Finset.univ fun w : Fin 4 => bigSep Finset.univ fun k : Fin 4 => iprop(∃ X, owns (c : Thread nD τ) (sibR w k) fullShare X) :=
    bigSep_mono (s := Finset.univ) fun (w : Fin 4) _ => cut_sib m c w
  have h4 := BIBase.Entails.trans (bigSep_mono (s := Finset.univ) fun (w : Fin 4) _ => cut_sum m c w) (Entails.of_eq (bigSep_sep' _ _ _))
  have h5 : wholes m c farM ⊢ bigSep Finset.univ fun w : Fin 4 => bigSep Finset.univ fun j : Fin 3 => iprop(∃ X, owns (c : Thread nD τ) (farR w j) fullShare X) :=
    bigSep_mono (s := Finset.univ) fun (w : Fin 4) _ => cut_far m c w
  simp only [bigSep_univ_prod]
  iintro ⟨Hi, Ho, Hs, Hu, Hf⟩
  ihave ⟨H1, H2⟩ := h1 $$ Hi
  ihave ⟨H3, H4⟩ := h2 $$ Ho
  ihave H5 := h3 $$ Hs
  ihave ⟨H6, H7⟩ := h4 $$ Hu
  ihave H8 := h5 $$ Hf
  isplitl [H1]; · iexact H1
  isplitl [H2]; · iexact H2
  isplitl [H3]; · iexact H3
  isplitl [H4]; · iexact H4
  isplitl [H5]; · iexact H5
  isplitl [H6]; · iexact H6
  isplitl [H7] <;> iassumption

/-- The halves each device's neighbour gives it to fill. -/
theorem deal_out : (bigSep Finset.univ fun c : Dev nD => bigSep Finset.univ fun w : Fin 4 =>
      iprop(∃ X, owns (c : Thread nD τ) (outR w (side (sib c))) fullShare X) : sProp 𝕄)
    ⊢ bigSep Finset.univ fun c : Dev nD => bigSep Finset.univ fun w : Fin 4 =>
      iprop(∃ X, owns (sib c : Thread nD τ) (outR w (side c)) fullShare X) :=
  BIBase.Entails.trans (deal (fun _ : Fin 4 => sibE) fun w c => iprop(∃ X, owns (c : Thread nD τ) (outR w (side (sib c))) fullShare X))
    (bigSep_mono (s := Finset.univ) fun (c : Dev nD) _ => bigSep_mono (s := Finset.univ) fun (w : Fin 4) _ =>
      Entails.of_eq (congrArg (fun d : Dev nD => (iprop(∃ X, owns (sib c : Thread nD τ) (outR w (side d)) fullShare X) : sProp 𝕄)) (sib_sib c)))

omit [FloatOps F] in
theorem emps {I : Type} [Fintype I] : (BI.emp : sProp 𝕄) ⊢ bigSep Finset.univ fun _ : Dev nD => bigSep Finset.univ fun _ : I => (iprop(emp) : sProp 𝕄) := by
  have h {J : Type} (S : Finset J) : (bigSep S fun _ => (iprop(emp) : sProp 𝕄)) = BI.emp := BI.bigSep_emp_const S
  rw [h]
  exact Entails.of_eq (h _).symm

/-- The launch's memory, tokens, positions and credit, as what the devices start from. -/
theorem dealt :
    iprop((bigSep Finset.univ fun c : Dev nD => mem₀ m c) ∗ (bigSep Finset.univ fun c : Dev nD => Pipeline.launchCred (fun d => owed d 0) c)
        ∗ (bigSep Finset.univ fun c : Dev nD => bigSep Finset.univ fun x : Cell => (atPos ER (gc c x) 0 ∅ 0 : sProp 𝕄))
        ∗ (bigSep Finset.univ fun c : Dev nD => bigSep Finset.univ fun x : Cell => (dutyTok ER (gc c x) 0 () : sProp 𝕄))
        ∗ bigSep Finset.univ fun c : Dev nD => bigSep Finset.univ fun j : Fin 7 => (writeTok c j : sProp 𝕄))
      ⊢ bigSep Finset.univ fun c : Dev nD => start m c := by
  obtain ⟨a1, a2, a3, a4, a5, a6, a7, a8⟩ := at_zero
  have e (c : Dev nD) : start m c = iprop((bigSep Finset.univ fun p : Fin 4 × Fin 4 => res m c (.sibS p.1 p.2) 4)
      ∗ (bigSep Finset.univ fun p : Fin 4 × Fin 4 => res m c (.sibR p.1 p.2) 1)
      ∗ (bigSep Finset.univ fun p : Fin 4 × Fin 3 => res m c (.farS p.1 p.2) 0) ∗ (bigSep Finset.univ fun p : Fin 4 × Fin 3 => res m c (.farR p.1 p.2) 1)
      ∗ (bigSep Finset.univ fun w : Fin 4 => res m c (.finS w) 0) ∗ (bigSep Finset.univ fun w : Fin 4 => res m c (.finR w) 1)
      ∗ (bigSep Finset.univ fun j : Fin 7 => res m c (.smS j) 0) ∗ bigSep Finset.univ fun j : Fin 7 => res m c (.smR j) 1) := by
    unfold start; rw [bigSep_cells]; simp only [a1, a2, a3, a4, a5, a6, a7, a8]
  have p1 (c w k) : peer c (.sibS w k) = sib c := rfl
  have p2 (c w j) : peer c (.farS w j) = oth j c := rfl
  have p3 (c w) : peer c (.finS w) = sib c := rfl
  simp only [e, res_four, res_one, res_zero, head, raw, raw0, dest, keep, pay, p1, p2, p3, Cell.mate]
  have h1 := BIBase.Entails.trans (bigSep_mono (s := Finset.univ) fun (c : Dev nD) _ => mem_cut m c) (Entails.of_eq (bigSep_sep' _ _ _))
  have h2 := BIBase.Entails.trans (bigSep_mono (s := Finset.univ) fun (c : Dev nD) _ => creds (F := F) c) (Entails.of_eq (bigSep_sep' _ _ _))
  simp only [bigSep_sep'] at h1 h2
  simp only [bigSep_cells, bigSep_sep']
  iintro ⟨Hm, Hc, ⟨A1, A2, A3, A4, A5, A6, A7, A8⟩, ⟨T1, T2, T3, T4, T5, T6, T7, T8⟩, HW⟩
  ihave ⟨Hother, Hown, Hout, Hout', Hsib, Hchip, Hsum, Hfar⟩ := h1 $$ Hm
  ihave ⟨C1, C2, C3, C4⟩ := h2 $$ Hc
  isplitl [T1 A1 T2 Hsib Hother]
  · isplitl [T1 A1 T2 Hsib]
    · isplitl [T1]; · iexact T1
      isplitl [A1]; · iexact A1
      isplitl [T2]
      · iapply (deal (fun _ : Fin 4 × Fin 4 => sibE) fun p c => (dutyTok ER (gc c (.sibR p.1 p.2)) 0 () : sProp 𝕄)); iexact T2
      iapply (deal (fun _ : Fin 4 × Fin 4 => sibE) fun p c => (iprop(∃ X, owns (c : Thread nD τ) (sibR p.1 p.2) fullShare X) : sProp 𝕄)); iexact Hsib
    isplitl [Hother]; · iexact Hother
    iapply emps; iempintro
  isplitl [A2 C1 Hown]
  · isplitl [A2]; · iexact A2
    isplitl [C1] <;> iassumption
  isplitl [T3 A3 T4 Hfar Hsum]
  · isplitl [T3 A3 T4 Hfar]
    · isplitl [T3]; · iexact T3
      isplitl [A3]; · iexact A3
      isplitl [T4]
      · iapply (deal (fun p : Fin 4 × Fin 3 => othE p.2) fun p c => (dutyTok ER (gc c (.farR p.1 p.2)) 0 () : sProp 𝕄)); iexact T4
      iapply (deal (fun p : Fin 4 × Fin 3 => othE p.2) fun p c => (iprop(∃ X, owns (c : Thread nD τ) (farR p.1 p.2) fullShare X) : sProp 𝕄)); iexact Hfar
    isplitl [Hsum]; · iexact Hsum
    iapply emps; iempintro
  isplitl [A4 C2]
  · isplitl [A4]; · iexact A4
    isplitl [C2]; · iexact C2
    iapply emps; iempintro
  isplitl [T5 A5 T6 Hout' Hout Hchip]
  · isplitl [T5 A5 T6 Hout']
    · isplitl [T5]; · iexact T5
      isplitl [A5]; · iexact A5
      isplitl [T6]
      · iapply (deal (fun _ : Fin 4 => sibE) fun w c => (dutyTok ER (gc c (.finR w)) 0 () : sProp 𝕄)); iexact T6
      iapply (deal_out (F := F)); iexact Hout'
    isplitl [Hout] <;> iassumption
  isplitl [A6 C3]
  · isplitl [A6]; · iexact A6
    isplitl [C3]; · iexact C3
    iapply emps; iempintro
  isplitl [T7 A7 T8 HW]
  · isplitl [T7 A7 T8 HW]
    · isplitl [T7]; · iexact T7
      isplitl [A7]; · iexact A7
      isplitl [T8]
      · iapply (deal smallE fun j c => (dutyTok ER (gc c (.smR j)) 0 () : sProp 𝕄)); iexact T8
      iapply (deal smallE fun j c => (writeTok c j : sProp 𝕄)); iexact HW
    isplitr
    · iapply emps; iempintro
    iapply emps; iempintro
  isplitl [A8]; · iexact A8
  isplitl [C4]; · iexact C4
  iapply emps; iempintro

end Cert.Reducing
-- ==== Proof.RLaunch.lean ====
/-
# The reduction of the gradients: the obligation and the ghost state

The body's run as the call's obligation, and the ghost state the launch allocates.
-/
module

public import proofs.«01_k».proof.Proof.RBody
public import proofs.«01_k».proof.Proof.RDeal
public import proofs.«01_k».proof.Proof.Gen.ReduceIdeal.Launch
public import Idealize.ShloMosaic.Lib.Rounds.Family
public import Idealize.ShloMosaic.Lib.Quiescent

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (m : (ℓ : Loc nD τ sig) → Buf (Elt F) ℓ)

/-! ## What a device leaves -/

/-- A cell's contents, but for the cells of the small gradients. -/
def bigPay (c : Dev nD) : Cell → sProp 𝕄
  | .smS _ => iprop(emp)
  | .smR _ => iprop(emp)
  | x => pay m c x

/-- The contents a device ends with, cell by cell: its own gradients back, and both halves of the summed rows. -/
def result (c : Dev nD) : sProp 𝕄 := iprop((bigSep Finset.univ fun x : Cell => bigPay m c x) ∗ bigSep Finset.univ fun x : Cell => keep m c x)

/-- The counters of a device's cells, at zero. -/
def zeros (c : Dev nD) : sProp 𝕄 := bigSep Finset.univ fun x : Cell => semVal (gc c x) 0

def fst (c : Dev nD) : sProp 𝕄 := iprop((∃ K, known m K) ∗ start m c)
/-- A device's own slot, before it is filled. -/
def slot (c : Dev nD) : sProp 𝕄 := iprop(∃ f, (smallLoc c ↦[ownSet c]{fullShare} f))
/-- All slots of a device's scratch buffer, at any contents. -/
def allSlots (c : Dev nD) : sProp 𝕄 := iprop(∃ f, (smallLoc c ↦[Finset.univ]{fullShare} f))
def lst (c : Dev nD) : sProp 𝕄 := iprop(zeros c ∗ work c ∗ allSlots c ∗ result m c)

/-- The call as a pipeline of two windows, the small gradients and their sum; of the sum nothing is said. -/
def rdats (_ : Fin 1) (c : Dev nD) : RDat τ (Elt F) Unit ℕ UU ℕ cfg0 c where
  A w := m ((cfg0.win w).arr.view.loc (c.tc : Thread nD τ))
  after _ _ _ _ := True
  Φ t := match t with
    | ⟨0, _⟩ => iprop(fst m c ∗ work c ∗ openTok c ∗ slot c)
    | ⟨_ + 1, _⟩ => lst m c
  q _ := fullShare
  owed t := match t with
    | ⟨0, _⟩ => owed c 0
    | ⟨_ + 1, _⟩ => 0

theorem at_last (x : Cell) : Cell.at 138 x = 2 := by revert x; decide +kernel
theorem todo_last (x : Cell) : ¬ Cell.todo 138 x := by revert x; decide +kernel

theorem owed_last (c : Dev nD) : owed c 138 = 0 := by
  unfold owed
  exact Finset.sum_eq_zero fun x _ => if_neg (todo_last x)

omit [FloatOps F] in
theorem emps7 : (BI.emp : sProp 𝕄) ⊢ bigSep Finset.univ fun _ : Fin 7 => (iprop(emp) : sProp 𝕄) :=
  Entails.of_eq (BI.bigSep_emp_const _).symm

/-- The cells' contents, those of the small gradients apart. -/
theorem pays_out (c : Dev nD) : (bigSep Finset.univ fun x : Cell => pay m c x)
    ⊢ iprop((bigSep Finset.univ fun x : Cell => bigPay m c x) ∗ (bigSep Finset.univ fun j : Fin 7 => eighth c j.castSucc) ∗ writeToks c) := by
  rw [bigSep_cells (fun x => pay m c x), bigSep_cells (fun x => bigPay m c x)]
  unfold writeToks
  simp only [bigPay]
  iintro ⟨H1, H2, H3, H4, H5, H6, H7, H8⟩
  isplitl [H1 H2 H3 H4 H5 H6]
  · isplitl [H1]; · iexact H1
    isplitl [H2]; · iexact H2
    isplitl [H3]; · iexact H3
    isplitl [H4]; · iexact H4
    isplitl [H5]; · iexact H5
    isplitl [H6]; · iexact H6
    isplitr
    · iapply (emps7 (F := F)); iempintro
    iapply (emps7 (F := F)); iempintro
  ihave H7 := (show (bigSep Finset.univ fun j : Fin 7 => pay m c (.smS j)) ⊢ (bigSep Finset.univ fun j : Fin 7 => eighth c j.castSucc : sProp 𝕄) from BI.Entails.refl _) $$ H7
  ihave H8 := (show (bigSep Finset.univ fun j : Fin 7 => pay m c (.smR j)) ⊢ (bigSep Finset.univ fun j : Fin 7 => writeTok c j : sProp 𝕄) from BI.Entails.refl _) $$ H8
  isplitl [H7] <;> iassumption

/-- After the last step every cell is at its end. -/
theorem ended (c : Dev nD) : (bigSep Finset.univ fun x : Cell => res m c x (Cell.at 138 x))
    ⊢ iprop((bigSep Finset.univ fun x : Cell => (atPos ER (gc c x) 1 ∅ 0 : sProp 𝕄)) ∗ result m c
      ∗ (bigSep Finset.univ fun j : Fin 7 => eighth c j.castSucc) ∗ writeToks c) := by
  unfold result
  simp only [at_last, res_two, bigSep_sep']
  iintro ⟨HA, HP, HK⟩
  ihave ⟨HP, HE, HW⟩ := (pays_out m c) $$ HP
  isplitl [HA]; · iexact HA
  isplitl [HP HK]
  · isplitl [HP] <;> iassumption
  isplitl [HE] <;> iassumption

/-- The counters come back at zero. -/
theorem closed (K : Dev nD × Cell → ℕ) (c : Dev nD) :
    iprop(known m K ∗ bigSep Finset.univ fun x : Cell => (atPos ER (gc c x) 1 ∅ 0 : sProp 𝕄)) ⊢ (|={Set.univ}=> zeros c : sProp 𝕄) := by
  refine BIBase.Entails.trans ?_ (cells_close ER (Rd m) Finset.univ (gc c) (fun x => K (c, x)) (fun _ _ => Set.mem_univ _) (fun _ _ h => h) (fun _ => 1)
    fun x _ => duties_later m (gc c x))
  iintro ⟨#HK, HA⟩
  rw [bigSep_sep']
  isplitr
  · iapply (BI.bigSep_intro_persistent (S := Finset.univ) fun (x : Cell) _ => known_inv m K c x); iexact HK
  iexact HA

omit [FloatOps F] in
/-- The own slot and the others, together the whole buffer. -/
theorem slots_join (c : Dev nD) : iprop(slot c ∗ slots c) ⊢ (allSlots c : sProp 𝕄) := by
  unfold slot slots allSlots restSet
  iintro ⟨⟨%f, Hf⟩, %g, Hg⟩
  ihave H := (pointsTo_join_subset (g := f) (f := g) (q := fullShare) (Finset.subset_univ (ownSet c))) $$ [Hf Hg]
  · isplitl [Hf] <;> iassumption
  iexists _; iexact H

omit [FloatOps F] in
theorem slots_cut (c : Dev nD) : allSlots c ⊢ (iprop(slot c ∗ slots c) : sProp 𝕄) := by
  unfold slot slots allSlots restSet
  iintro ⟨%f, Hf⟩
  ihave ⟨H, H'⟩ := (pointsTo_split_subset (q := fullShare) (f := f) (Finset.subset_univ (ownSet c))).1 $$ Hf
  isplitl [H]
  · iexists f; iexact H
  iexists f; iexact H'

/-! ## The body's obligation -/

omit [FloatOps F] in
/-- The staging buffers as the windows hold them. -/
theorem stages_eq (c : Dev nD) : (stages c : sProp 𝕄)
    = bigSep Finset.univ fun w : Fin cfg0.W => iprop(∃ X, owns (c : Thread nD τ) ((cfg0.win w).stage (cfg0.slots t0_0 w)) fullShare X) := by
  refine Eq.trans ?_ (bigSep_W0 (M := MT nD τ sig Unit (Elt F) ℕ UU ℕ)
    fun w : Fin 2 => iprop(∃ X, owns (c : Thread nD τ) ((cfg0.win w).stage (cfg0.slots t0_0 w)) fullShare X)).symm
  show _ = iprop((∃ X, owns (c : Thread nD τ) (Memref.whole cc0_stg0_0) fullShare X) ∗ ∃ X, owns (c : Thread nD τ) (Memref.whole cc0_stg1_0) fullShare X)
  have e (b : Ref sig .tc) : (iprop(∃ X, owns (c : Thread nD τ) (Memref.whole b) fullShare X) : sProp 𝕄) = iprop(∃ f, ((c : Thread nD τ).loc b ↦[Finset.univ]{fullShare} f)) := by
    refine BI.Entails.antisymm ?_ ?_
    · show iprop(∃ X, owns (c : Thread nD τ) (Memref.whole b) fullShare X) ⊢ iprop(∃ f, ((c : Thread nD τ).loc b ↦[Finset.univ]{fullShare} f))
      iintro ⟨%X, H⟩
      ihave ⟨%f, -, H⟩ := (Entails.of_eq (owns_whole_eq (c : Thread nD τ) b fullShare X)) $$ H
      iexists f; iexact H
    · show iprop(∃ f, ((c : Thread nD τ).loc b ↦[Finset.univ]{fullShare} f)) ⊢ iprop(∃ X, owns (c : Thread nD τ) (Memref.whole b) fullShare X)
      iintro ⟨%f, H⟩
      iexists f
      iapply (Entails.of_eq (owns_whole_eq (c : Thread nD τ) b fullShare f).symm)
      iexists f
      isplitr; · ipureintro; rfl
      iexact H
  rw [e, e]
  rfl

omit [FloatOps F] in
theorem stages_some (c : Dev nD) (Y : (w : Fin cfg0.W) → (cfg0.win w).block.Idx → Elt F (cfg0.win w).elt) :
    (bigSep Finset.univ fun w : Fin cfg0.W => owns (c : Thread nD τ) ((cfg0.win w).stage (cfg0.slots t0_0 w)) fullShare (Y w))
      ⊢ (bigSep Finset.univ fun w : Fin cfg0.W => iprop(∃ X, owns (c : Thread nD τ) ((cfg0.win w).stage (cfg0.slots t0_0 w)) fullShare X) : sProp 𝕄) :=
  bigSep_mono fun w _ => (show owns (c : Thread nD τ) ((cfg0.win w).stage (cfg0.slots t0_0 w)) fullShare (Y w)
      ⊢ (iprop(∃ X, owns (c : Thread nD τ) ((cfg0.win w).stage (cfg0.slots t0_0 w)) fullShare X) : sProp 𝕄) from by
    iintro H; iexists (Y w); iexact H)

omit [FloatOps F] in
theorem stages_any (c : Dev nD) (P : (w : Fin cfg0.W) → ((cfg0.win w).block.Idx → Elt F (cfg0.win w).elt) → Prop) (h : ∀ w X, P w X) :
    (bigSep Finset.univ fun w : Fin cfg0.W => iprop(∃ X, owns (c : Thread nD τ) ((cfg0.win w).stage (cfg0.slots t0_0 w)) fullShare X))
      ⊢ (bigSep Finset.univ fun w : Fin cfg0.W => iprop(∃ X, ⌜P w X⌝ ∗ owns (c : Thread nD τ) ((cfg0.win w).stage (cfg0.slots t0_0 w)) fullShare X) : sProp 𝕄) :=
  bigSep_mono fun w _ => (show iprop(∃ X, owns (c : Thread nD τ) ((cfg0.win w).stage (cfg0.slots t0_0 w)) fullShare X)
      ⊢ (iprop(∃ X, ⌜P w X⌝ ∗ owns (c : Thread nD τ) ((cfg0.win w).stage (cfg0.slots t0_0 w)) fullShare X) : sProp 𝕄) from by
    iintro ⟨%X, H⟩
    iexists X
    isplitr; · ipureintro; exact h w X
    iexact H)

/-- From the state after the last step to what the body owes. -/
theorem last_step (K : Dev nD × Cell → ℕ) (c : Dev nD) (Y : (w : Fin cfg0.W) → (cfg0.win w).block.Idx → Elt F (cfg0.win w).elt) :
    iprop(known m K ∗ St m c 138) ⊢ (|={Set.univ}=> iprop(lst m c ∗ (rdats m 0 c).owesAt () t0_0.succ
      ∗ bigSep Finset.univ fun w : Fin cfg0.W => iprop(∃ X, ⌜(rdats m 0 c).after w t0_0 (Y w) X⌝ ∗ owns (c : Thread nD τ) ((cfg0.win w).stage (cfg0.slots t0_0 w)) fullShare X)) : sProp 𝕄) := by
  unfold St lst RDat.owesAt Pipeline.owesWithin hands
  rw [show (rdats m 0 c).owed t0_0.succ = 0 from rfl, owed_last]
  iintro ⟨#HK, Hr, ⟨Hw, Ho, H7, Hs⟩, %W, HO⟩
  ihave ⟨HA, HP, HE, HT⟩ := (ended m c) $$ Hr
  imod (closed m K c) $$ [HA] with HZ
  · isplitr; · iexact HK
    iexact HA
  ihave ⟨%ι, HI⟩ := (known_board m K c) $$ HK
  imod (board_take c (Set.mem_univ ι)) $$ [HI Ho HT] with ⟨-, Hf⟩
  · isplitl [HI]; · iexact HI
    isplitl [Ho] <;> iassumption
  ihave Hown := (own_join c) $$ [HE H7]
  · isplitl [HE] <;> iassumption
  imodintro
  isplitl [HZ Hw HP Hf Hown]
  · isplitl [HZ]; · iexact HZ
    isplitl [Hw]; · iexact Hw
    isplitr [HP]
    · iapply (slots_join c)
      unfold slot
      isplitl [Hown] <;> iassumption
    iexact HP
  isplitl [HO]
  · iexists W
    isplitr; · ipureintro; exact fun _ _ => Or.inl trivial
    iexact HO
  ihave Hs := (Entails.of_eq (stages_eq c)) $$ Hs
  iapply (stages_any c (fun w => (rdats m 0 c).after w t0_0 (Y w)) fun _ _ => trivial); iexact Hs

theorem body_obligation (c : Dev nD) : (rdats (F := F) m 0 c).BodyObligation (defs₀ (F := F)) 𝒱₀ () Set.univ := fun t Y _ => by
  rw [fin_N0 t]
  show iprop((fst m c ∗ work c ∗ openTok c ∗ slot c) ∗ (rdats m 0 c).owesAt () t0_0.castSucc ∗ bigSep Finset.univ fun w : Fin cfg0.W => _) ⊢ _
  unfold RDat.owesAt Pipeline.owesWithin fst start
  iintro ⟨⟨⟨⟨%K, #HK⟩, Hs⟩, Hw, Ho, Hf⟩, ⟨%W, -, HO⟩, HY⟩
  iapply (wp_fupd frame (wpE (defs₀ (F := F)) 𝒱₀ (c : Thread nD τ) none) Set.univ)
  iapply (sound_body m K c (last_step m K c Y))
  isplitr; · iexact HK
  unfold St₀ hands₀
  isplitl [Hs]; · iexact Hs
  isplitl [Hw Ho Hf HY]
  · isplitl [Hw]; · iexact Hw
    isplitl [Ho]; · iexact Ho
    isplitl [Hf]
    · unfold slot; iexact Hf
    iapply (Entails.of_eq (stages_eq c).symm)
    iapply (stages_some c Y); iexact HY
  iexists W; iexact HO

/-! ## The ghost state -/

def cells : Finset (GSem nD τ sig) := Finset.univ.map ⟨fun p : Dev nD × Cell => gc p.1 p.2, gc_inj⟩
/-- The tokens the small gradients need beside the transfers'. -/
def more : Dev nD × (Fin 7 ⊕ Bool) → GSem nD τ sig × ℕ × Unit
  | (d, .inl j) => (gc d (.smR j), 1, ())
  | (d, .inr true) => (gc d (.smR 0), 2, ())
  | (d, .inr false) => (gc d (.smR 0), 3, ())
theorem more_inj : Function.Injective more := by
  have e {c d : Dev nD} {i j : Fin 7} (h : gc c (.smR i) = gc d (.smR j)) : c = d ∧ i = j := by
    have h := gc_eq_iff.mp h
    exact ⟨h.1, Cell.smR.inj h.2⟩
  rintro ⟨c, i | _ | _⟩ ⟨d, j | _ | _⟩ h
  · have h := e (congrArg Prod.fst h); rw [h.1, h.2]
  · exact absurd (congrArg (fun t => t.2.1) h) (show (1 : ℕ) ≠ 3 by decide)
  · exact absurd (congrArg (fun t => t.2.1) h) (show (1 : ℕ) ≠ 2 by decide)
  · exact absurd (congrArg (fun t => t.2.1) h) (show (3 : ℕ) ≠ 1 by decide)
  · have h := e (congrArg Prod.fst h); rw [h.1]
  · exact absurd (congrArg (fun t => t.2.1) h) (show (3 : ℕ) ≠ 2 by decide)
  · exact absurd (congrArg (fun t => t.2.1) h) (show (2 : ℕ) ≠ 1 by decide)
  · exact absurd (congrArg (fun t => t.2.1) h) (show (2 : ℕ) ≠ 3 by decide)
  · have h := e (congrArg Prod.fst h); rw [h.1]
theorem more_pos (p) : (more p).2.1 ≠ 0 := by
  rcases p with ⟨d, j | _ | _⟩
  · exact Nat.one_ne_zero
  · exact (show (3 : ℕ) ≠ 0 by decide)
  · exact (show (2 : ℕ) ≠ 0 by decide)

def first : Dev nD × Cell → GSem nD τ sig × ℕ × Unit := fun p => (gc p.1 p.2, 0, ())
theorem first_inj : Function.Injective first := fun _ _ h => gc_inj (congrArg Prod.fst h)

def toks : Finset (GSem nD τ sig × ℕ × Unit) :=
  (Finset.univ : Finset ((Dev nD × Cell) ⊕ (Dev nD × (Fin 7 ⊕ Bool)))).map ⟨Sum.elim first more,
    first_inj.sumElim more_inj fun a b h => more_pos b (congrArg (fun t => t.2.1) h).symm⟩

omit [FloatOps F] in
theorem toks_eq : bigSep toks (fun x => (dutyTok ER x.1 x.2.1 x.2.2 : sProp 𝕄))
    = iprop((bigSep Finset.univ fun c : Dev nD => bigSep Finset.univ fun x : Cell => dutyTok ER (gc c x) 0 ())
      ∗ (bigSep Finset.univ fun c : Dev nD => bigSep Finset.univ fun j : Fin 7 => writeTok c j)
      ∗ (bigSep Finset.univ fun c : Dev nD => openTok c) ∗ bigSep Finset.univ fun c : Dev nD => shutTok c) := by
  unfold toks
  rw [bigSep_map, bigSep_univ_sum]
  refine congrArg₂ _ ?_ ?_
  · rw [bigSep_univ_prod]; rfl
  rw [bigSep_univ_prod]
  have e (c : Dev nD) : (bigSep Finset.univ fun t : Fin 7 ⊕ Bool => (dutyTok ER (more (c, t)).1 (more (c, t)).2.1 (more (c, t)).2.2 : sProp 𝕄))
      = iprop((bigSep Finset.univ fun j : Fin 7 => writeTok c j) ∗ openTok c ∗ shutTok c) := by
    rw [bigSep_univ_sum]
    exact congrArg _ (bigSep_univ_eq_bigSepL [true, false] (by decide) (by decide) _)
  refine (bigSep_congr (s := Finset.univ) fun c _ => e c).trans ?_
  simp only [bigSep_sep']

theorem fund_cells : BI.own (ER (initOf cells toks)) ⊢ (|==> iprop(
      (bigSep Finset.univ fun p : Dev nD × Cell => roundState ER (Rd m) (gc p.1 p.2) 0)
        ∗ (bigSep Finset.univ fun p : Dev nD × Cell => reached ER (gc p.1 p.2) 0)
        ∗ (bigSep Finset.univ fun c : Dev nD => bigSep Finset.univ fun x : Cell => atPos ER (gc c x) 0 ∅ 0)
        ∗ (bigSep Finset.univ fun c : Dev nD => bigSep Finset.univ fun x : Cell => dutyTok ER (gc c x) 0 ())
        ∗ (bigSep Finset.univ fun c : Dev nD => bigSep Finset.univ fun j : Fin 7 => writeTok c j)
        ∗ (bigSep Finset.univ fun c : Dev nD => openTok c) ∗ bigSep Finset.univ fun c : Dev nD => shutTok c) : sProp 𝕄) := by
  have hX (Φ : GSem nD τ sig → sProp 𝕄) : bigSep cells Φ = bigSep Finset.univ fun p : Dev nD × Cell => Φ (gc p.1 p.2) := by
    unfold cells; rw [bigSep_map]; rfl
  iintro HX
  imod (Rounds.fund ER (Rd m) cells toks) $$ HX with ⟨Hst, Hr, Hat, Htok⟩
  imodintro
  isplitl [Hst]; · iapply (Entails.of_eq (hX fun g => roundState ER (Rd m) g 0)); iexact Hst
  isplitl [Hr]; · iapply (Entails.of_eq (hX fun g => reached ER g 0)); iexact Hr
  isplitl [Hat]; · iapply (Entails.of_eq ((hX fun g => atPos ER g 0 ∅ 0).trans (bigSep_univ_prod _))); iexact Hat
  iapply (Entails.of_eq (toks_eq (F := F))); iexact Htok

omit [FloatOps F] in
/-- The slots' invariants. -/
theorem boards : iprop((bigSep Finset.univ fun c : Dev nD => shutTok c) ∗ bigSep Finset.univ fun c : Dev nD => slots c)
    ⊢ (|={Set.univ}=> bigSep Finset.univ fun c : Dev nD => iprop(∃ ι : ℕ, inv ι (board (F := F) c)) : sProp 𝕄) := by
  have one (c : Dev nD) : iprop(shutTok c ∗ slots c) ⊢ (|={Set.univ}=> iprop(∃ ι : ℕ, inv ι (board (F := F) c)) : sProp 𝕄) := by
    refine BIBase.Entails.trans ?_ inv_alloc
    unfold board
    iintro H; ileft; iexact H
  rw [← bigSep_sep']
  exact (bigSep_mono fun c _ => one c).trans (bigSep_fupd _ _)

/-- The cells' invariants, and with them what every device knows and starts from. -/
theorem opened :
    iprop((bigSep Finset.univ fun c : Dev nD => mem₀ m c) ∗ (bigSep Finset.univ fun c : Dev nD => Pipeline.launchCred (fun d => owed d 0) c)
        ∗ (bigSep Finset.univ fun c : Dev nD => (zeros c : sProp 𝕄)) ∗ levAts L lv ∗ BI.own (ER (initOf cells toks)) ∗ bigSep Finset.univ fun c : Dev nD => slots c)
      ⊢ (|={Set.univ}=> iprop((bigSep Finset.univ fun c : Dev nD => fst m c) ∗ bigSep Finset.univ fun c : Dev nD => openTok c) : sProp 𝕄) := by
  iintro ⟨Hm, Hc, Hz, #Hl, HX, Hslots⟩
  imod (fund_cells m) $$ HX with ⟨Hst, #Hr, Hat, Htok, HW, Ho, Hs⟩
  imod (boards (F := F)) $$ [Hs Hslots] with #HB
  · isplitl [Hs] <;> iassumption
  imod (show iprop((bigSep Finset.univ fun c : Dev nD => (zeros c : sProp 𝕄)) ∗ bigSep Finset.univ fun p : Dev nD × Cell => roundState ER (Rd m) (gc p.1 p.2) 0)
      ⊢ (|={Set.univ}=> bigSep Finset.univ fun p : Dev nD × Cell => iprop(∃ κ : ℕ, cellInv ER (Rd m) κ (gc p.1 p.2)) : sProp 𝕄) from by
        unfold zeros
        rw [← bigSep_univ_prod (fun p : Dev nD × Cell => (semVal (gc p.1 p.2) 0 : sProp 𝕄)), ← bigSep_sep']
        exact (bigSep_mono fun p _ => (Rounds.body_intro ER (Rd m) (gc p.1 p.2)).trans inv_alloc).trans (bigSep_fupd _ _)) $$ [Hz Hst] with Hinv
  · isplitl [Hz] <;> iassumption
  ihave HK := (BI.bigSep_exists_pi Finset.univ (fun (p : Dev nD × Cell) (κ : ℕ) => (cellInv ER (Rd m) κ (gc p.1 p.2) : sProp 𝕄))) $$ Hinv
  icases HK with ⟨%K, #HI⟩
  imodintro
  isplitr [Ho]
  · unfold fst
    rw [bigSep_sep']
    isplitr
    · iapply (BI.bigSep_intro_persistent (R := known m K) (S := Finset.univ) fun (c : Dev nD) _ => (show known m K ⊢ iprop(∃ K, known m K) from by iintro H; iexists K; iexact H))
      unfold known
      isplitr; · iexact HI
      isplitr; · iexact Hr
      isplitr; · iexact Hl
      iexact HB
    iapply (dealt m)
    isplitl [Hm]; · iexact Hm
    isplitl [Hc]; · iexact Hc
    isplitl [Hat]; · iexact Hat
    isplitl [Htok] <;> iassumption
  iexact Ho

end Cert.Reducing
-- ==== Proof.REnter.lean ====
/-
# The reduction of the gradients: the entry of the kernel

On entry a kernel presents its scratch buffers and gets them back at any contents. The slots of the small gradients lie
in an invariant that the other devices write through, so the entry opens it and closes it again.
-/
module

public import proofs.«01_k».proof.Proof.RLaunch
public import Idealize.ShloMosaic.Rules

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (m : (ℓ : Loc nD τ sig) → Buf (Elt F) ℓ)

/-! ## The scratch buffers -/

/-- The three working buffers, each at some contents. -/
def bufs (c : Dev nD) : sProp 𝕄 :=
  iprop((∃ f, ((bufM 0).view.loc (c : Thread nD τ) ↦[Finset.univ]{fullShare} f)) ∗ (∃ f, ((bufM 1).view.loc (c : Thread nD τ) ↦[Finset.univ]{fullShare} f))
    ∗ (∃ f, ((bufM 2).view.loc (c : Thread nD τ) ↦[Finset.univ]{fullShare} f)))

/-- The windows' staging buffers and the working buffers. -/
def base (c : Dev nD) : sProp 𝕄 := iprop(Dat.staging (cfgs 0) c ∗ bufs c)

omit [FloatOps F] in
theorem rest_eq' (c : Dev nD) : (Pipeline.scopedRest (cfgs 0).spec c : sProp 𝕄) = iprop(allSlots c ∗ bufs c) := scopedRest0_eq c

omit [FloatOps F] in
theorem scoped_eq (c : Dev nD) : (scopedBufs (c : Thread nD τ) : sProp 𝕄) = iprop(Dat.staging (cfgs 0) c ∗ allSlots c ∗ bufs c) :=
  (Pipeline.scopedBufs_split cfgs (0 : Fin 1) winFacts0.stage_scoped winFacts0.stage_inj stage_whole0 c).trans (congrArg _ (rest_eq' c))

omit [FloatOps F] in
theorem scoped_out (c : Dev nD) : (scopedBufs (c : Thread nD τ) : sProp 𝕄) ⊢ iprop(base c ∗ allSlots c) := by
  rw [scoped_eq]; unfold base
  iintro ⟨Hs, Ha, Hb⟩
  isplitr [Ha]
  · isplitl [Hs] <;> iassumption
  iexact Ha

omit [FloatOps F] in
theorem scoped_in (c : Dev nD) : iprop(base c ∗ allSlots c) ⊢ (scopedBufs (c : Thread nD τ) : sProp 𝕄) := by
  rw [scoped_eq]; unfold base
  iintro ⟨⟨Hs, Hb⟩, Ha⟩
  isplitl [Hs]; · iexact Hs
  isplitl [Ha] <;> iassumption

omit [FloatOps F] in
/-- The owner's token opens the slots' invariant around the entry. -/
theorem entry_open (c : Dev nD) (ι : ℕ) :
    iprop(inv ι (board (F := F) c) ∗ base c ∗ slot c ∗ openTok c)
      ⊢ (|={Set.univ, Set.univ \ {ι}}=> iprop(scopedBufs (c : Thread nD τ) ∗ (scopedBufs (c : Thread nD τ) -∗ |={Set.univ \ {ι}, Set.univ}=> iprop(base c ∗ slot c ∗ openTok c))) : sProp 𝕄) := by
  iintro ⟨#HI, Hb, Hs, Ho⟩
  imod (inv_acc (Set.mem_univ ι)) $$ HI with ⟨HB, Hclose⟩
  ihave ⟨⟨Ht, Hf⟩, Ho⟩ := (board_open c) $$ [HB Ho]
  · isplitl [HB] <;> iassumption
  imodintro
  isplitl [Hb Hs Hf]
  · iapply (scoped_in c)
    isplitl [Hb]; · iexact Hb
    iapply (slots_join c)
    isplitl [Hs] <;> iassumption
  iintro Hsc
  ihave ⟨Hb, Ha⟩ := (scoped_out c) $$ Hsc
  ihave ⟨Hs, Hf⟩ := (slots_cut c) $$ Ha
  imod Hclose $$ [Ht Hf] with -
  · unfold board; ileft; isplitl [Ht] <;> iassumption
  imodintro
  isplitl [Hb]; · iexact Hb
  isplitl [Hs] <;> iassumption

/-! ## The rule -/

section Rule
variable {Λ : Labels} {𝔻 : Defs nD τ sig (Elt F) Λ} (𝒱 : Variants) (c : Dev nD) {α : Type}

omit [FloatOps F] in
/-- The kernel's exit behind a returned value. -/
theorem exit_ret {β : Type} (E : Set ℕ) (bd : Option 𝒱.V) (Φ : β → sProp (MT nD τ sig Unit (Elt F) ℕ UU ℕ)) (r : β) :
    kernelExitSpec (c : Thread nD τ) (fun _ => Φ r)
      ⊢ (wp frame (wpE 𝔻 𝒱 (c : Thread nD τ) bd) E (.op .kernelExit fun _ => .ret r) Φ : sProp 𝕄) := by
  rw [wp_op, wpE_kernelExit_eq]
  have h (x : PUnit) : Φ r ⊢ (wp frame (wpE 𝔻 𝒱 (c : Thread nD τ) bd) E (.ret r) Φ : sProp (MT nD τ sig Unit (Elt F) ℕ UU ℕ)) := by
    rw [wp_ret]; iintro H; imodintro; iexact H
  have h' : kernelExitSpec (c : Thread nD τ) (fun _ => Φ r) ⊢ (kernelExitSpec (c : Thread nD τ) (fun _ => wp frame (wpE 𝔻 𝒱 (c : Thread nD τ) bd) E (.ret r) Φ) : sProp (MT nD τ sig Unit (Elt F) ℕ UU ℕ)) :=
    (kernelExitSpec (c : Thread nD τ)).mono h
  iintro H
  imodintro
  iapply h'
  iexact H

/-- The entry of a kernel, the scratch buffers presented and got back around an opened invariant. -/
theorem wp_enter {ℓ : Λ.Label} {a : Λ.Args ℓ} {k : Λ.Result ℓ → Prog (TpuEff nD τ sig (Elt F) Λ .tc) α} {Q : α → sProp (MT nD τ sig Unit (Elt F) ℕ UU ℕ)}
    (bd : Option 𝒱.V) (v : 𝒱.V) (hv : ∀ u ∈ bd, 𝒱.lt v u) {E E' : Set ℕ} {A B : sProp (MT nD τ sig Unit (Elt F) ℕ UU ℕ)}
    (hA : A ⊢ (|={E, E'}=> iprop(scopedBufs (c : Thread nD τ) ∗ (scopedBufs (c : Thread nD τ) -∗ |={E', E}=> B)) : sProp 𝕄)) :
    A ⊢ iprop((B -∗ wp frame (wpE 𝔻 𝒱 (c : Thread nD τ) (some v)) E (𝔻 .tc ℓ a) fun r =>
          kernelExitSpec (c : Thread nD τ) fun _ => wp frame (wpE 𝔻 𝒱 (c : Thread nD τ) bd) E (k r) Q)
        -∗ wp frame (wpE 𝔻 𝒱 (c : Thread nD τ) bd) E (.op (.customCall ℓ a) k) Q) := by
  rw [wp_op, wpE'_customCall_eq]
  iintro HA Hk
  imodintro
  iapply (atomically_intro_at frame E E' (scopedSpec (c : Thread nD τ)) _)
  imod hA $$ HA with ⟨Hsc, HB⟩
  imodintro
  rw [scopedSpec_apply]
  isplitl [Hsc]; · iexact Hsc
  iintro Hsc
  imod HB $$ Hsc with HB
  imodintro
  iapply (callArm_descend 𝒱 (c : Thread nD τ) bd E _ true _)
  iexists v
  isplitr; · ipureintro; exact hv
  simp only [bodyOf, wp_bind]
  iapply (wp_mono frame _ E fun r => exit_ret 𝒱 c E (some v) (fun r => wp frame (wpE 𝔻 𝒱 (c : Thread nD τ) bd) E (k r) Q) r)
  iapply Hk
  iexact HB

end Rule

/-! ## The call -/

/-- What is counted at a cell of the transfers or of the local copies. -/
def osem : Cell ⊕ Unit → SemLoc sig := Sum.elim (fun x => .dma x.num) fun _ => .dma ioNum
theorem io_ne (x : Cell) : x.num ≠ ioNum := fun h => absurd (congrArg (fun s : DmaSem sig => s.val) h) (Nat.ne_of_lt x.num_lt.2)
theorem stage_ne (x : Cell ⊕ Unit) (w : Fin 2) (s : Fin (spec0 w).nbuf) : osem x ≠ .dma ((spec0 w).sem s) := by
  have hs : ((spec0 w).sem s).val < 2 := by revert w s; decide +kernel
  rcases x with x | x <;> intro h <;> have h := congrArg (fun s : DmaSem sig => s.val) (SemLoc.dma.inj h)
  · have := x.num_lt.1; dsimp only at h; omega
  · have h : 80 = ((spec0 w).sem s).val := h
    omega
theorem ownSemFacts : Pipeline.OwnSemFacts cfg0.spec osem := by
  refine ⟨by decide +kernel, ?_, fun x w s => stage_ne x w s⟩
  rintro (x | x) (y | y) h
  · exact congrArg _ (Cell.num_inj (SemLoc.dma.inj h))
  · exact absurd (SemLoc.dma.inj h) (io_ne x)
  · exact absurd (SemLoc.dma.inj h).symm (io_ne y)
  · rfl

/-- The local copies' counter at zero. -/
abbrev ioZero (c : Dev nD) : sProp 𝕄 := semVal ((c : Thread nD τ), .dma ioNum) 0
omit [FloatOps F] in
theorem zeros_eq (c : Dev nD) : (Pipeline.ownSems0 osem c : sProp 𝕄) = iprop(zeros c ∗ ioZero c) := by
  unfold Pipeline.ownSems0 zeros
  rw [bigSep_univ_sum]
  exact congrArg _ (bigSep_univ_of_subsingleton ())

abbrev idle (c : Dev nD) : sProp 𝕄 := Pipeline.idleSems0 cfgs cellOf_inj (0 : Fin 1) ownSemFacts c

omit [FloatOps F] in
theorem no_tables (Ψ : Fin (Pipeline.Prefetch.none (sig := sig)).K → sProp (MT nD τ sig Unit (Elt F) ℕ UU ℕ)) : bigSep Finset.univ Ψ = BI.emp := by
  rw [show (Finset.univ : Finset (Fin (Pipeline.Prefetch.none (sig := sig)).K)) = ∅ from rfl, BI.bigSep_empty]

omit [FloatOps F] in
theorem sems_split (c : Dev nD) : (scopedSems0 (c : Thread nD τ) : sProp 𝕄)
    = iprop((Pipeline.cellsSems0 cfgs (0 : Fin 1) c ∗ zeros c ∗ ioZero c) ∗ idle c) := by
  rw [Pipeline.scopedSems0_split cfgs cellOf_inj (0 : Fin 1) winFacts0.to₀ ownSemFacts c, zeros_eq]

omit [FloatOps F] in
theorem bufs_work (c : Dev nD) : iprop(bufs c ∗ ioZero c) ⊢ (work c : sProp 𝕄) := by
  unfold bufs work
  iintro ⟨⟨H0, H1, H2⟩, Hv⟩
  isplitl [H0]; · iexact H0
  isplitl [H1]; · iexact H1
  isplitl [H2] <;> iassumption
omit [FloatOps F] in
theorem work_bufs (c : Dev nD) : work c ⊢ (iprop(bufs c ∗ ioZero c) : sProp 𝕄) := by
  unfold bufs work
  iintro ⟨H0, H1, H2, Hv⟩
  isplitr [Hv]
  · isplitl [H0]; · iexact H0
    isplitl [H1] <;> iassumption
  iexact Hv

theorem leave (c : Dev nD) : iprop((rdats m 0 c).Φ (Fin.last cfg0.N) ∗ Pipeline.cellsSems0 cfgs (0 : Fin 1) c ∗ Dat.staging (cfgs 0) c ∗ idle c)
    ⊢ iprop(result m c ∗ scopedSems0 (c : Thread nD τ) ∗ scopedBufs (c : Thread nD τ)) := by
  rw [sems_split, scoped_eq, show (rdats m 0 c).Φ (Fin.last cfg0.N) = lst m c from rfl]
  unfold lst
  iintro ⟨⟨Hz, Hw, Ha, Hr⟩, Hc, Hs, Hi⟩
  ihave ⟨Hb, Hv⟩ := (work_bufs c) $$ Hw
  isplitl [Hr]; · iexact Hr
  isplitl [Hz Hv Hi Hc]
  · isplitr [Hi]
    · isplitl [Hc]; · iexact Hc
      isplitl [Hz] <;> iassumption
    iexact Hi
  isplitl [Hs]; · iexact Hs
  isplitl [Ha] <;> iassumption

/-- What a device brings to the call beside the memory and counters of the windows. -/
def brings (c : Dev nD) : sProp 𝕄 := iprop((fst m c ∗ ioZero c ∗ idle c) ∗ base c ∗ slot c ∗ openTok c)

local notation "pcs" => fun p : Fin 1 => Pipeline.Cfg.toPCfg (cfgs p) (Val := Elt F)
local notation "adm" => fun p : Fin 1 => Pipeline.Cfg.toPCfg_adm (cfgs p) (Val := Elt F)

theorem call' (c : Dev nD) (κ : GSem nD τ sig → ℕ) (ι : ℕ) {α : Type} {k : PUnit → Prog (TpuEff nD τ sig (Elt F) (Pipeline.Sig Λ₀ (Fin 1) fun p => (pcs p).Adm) Proc.tc) α} {Q : α → sProp 𝕄} :
    iprop(inv ι (board (F := F) c) ∗ Pipeline.RDat.EntryPre cfgs (rdats m) () EP κ (0 : Fin 1) c ∗ brings m c)
      ⊢ iprop(((Pipeline.RDat.EntryPost cfgs (rdats m) () (0 : Fin 1) c ∗ result m c ∗ scopedSems0 (c : Thread nD τ) ∗ scopedBufs (c : Thread nD τ))
          -∗ wp frame (wpE (Pipeline.defs pcs defs₀) (Variants.lift 𝒱₀) (c : Thread nD τ) none) Set.univ (k ⟨⟩) Q)
        -∗ wp frame (wpE (Pipeline.defs pcs defs₀) (Variants.lift 𝒱₀) (c : Thread nD τ) none) Set.univ (.op (.customCall (Pipeline.entry 0) ()) k) Q) := by
  have hrun := Pipeline.RDat.wp_prun pcs adm (rdats m) () EP κ cellOf_inj (0 : Fin 1) defs₀ 𝒱₀ (fun k => k.elim0) c Set.univ (fun _ _ => Set.mem_univ _)
    (body_obligation m c) (some (Sum.inr (cfg0.tripCount + 1) : (Variants.lift 𝒱₀).V))
    (Q := fun r => kernelExitSpec (c : Thread nD τ) fun _ => wp frame (wpE (Pipeline.defs pcs defs₀) (Variants.lift 𝒱₀) (c : Thread nD τ) none) Set.univ (k r) Q)
    (fun u hu => by cases hu; exact Sum.Lex.inr (Nat.lt_succ_self _))
  have hclose := Pipeline.RDat.cellsEnd_close cfgs (rdats m) EP κ cellOf_inj (0 : Fin 1) c Set.univ (fun _ _ => Set.mem_univ _) block_pos0
  unfold brings
  iintro ⟨#HI, Hpre, ⟨Hf, Hv, Hi⟩, Hb, Hs, Ho⟩ Hk
  iapply (wp_enter (Variants.lift 𝒱₀) c none (Sum.inr (cfg0.tripCount + 1) : (Variants.lift 𝒱₀).V) (fun u hu => nomatch hu) (entry_open c ι)) $$ [Hb Hs Ho]
  · isplitr; · iexact HI
    isplitl [Hb]; · iexact Hb
    isplitl [Hs] <;> iassumption
  iintro ⟨Hb, Hs, Ho⟩
  rw [Pipeline.defs_tc_entry]
  iapply hrun $$ [Hpre Hf Hv Hb Hs Ho]
  · isplitr
    · unfold Pipeline.prefHeld
      iapply (Entails.of_eq (no_tables _).symm); iempintro
    iintro -
    unfold Pipeline.RDat.RunPre Pipeline.PerCore.RDat.RunPre RDat.Pre Pipeline.RDat.EntryPre Pipeline.PerCore.RDat.EntryPre base
    icases Hpre with ⟨Ha, HO, Hw, Hci, Ht⟩
    icases Hb with ⟨Hst, Hb⟩
    isplitr [Hw Hci Ht]
    · isplitl [Ha]; · iexact Ha
      isplitl [Hst]; · iexact Hst
      isplitl [HO]; · iexact HO
      iapply (Entails.of_eq (show iprop(fst m c ∗ work c ∗ openTok c ∗ slot c) = (rdats m 0 c).Φ 0 from rfl))
      isplitl [Hf]; · iexact Hf
      isplitl [Hb Hv]
      · iapply (bufs_work c)
        isplitl [Hb] <;> iassumption
      isplitl [Ho] <;> iassumption
    isplitl [Hw]; · iexact Hw
    isplitl [Hci] <;> iassumption
  iintro ⟨Hpost, Hend⟩
  imod hclose $$ Hend with Hz
  imodintro
  rw [kernelExitSpec_apply]
  unfold RDat.Post
  icases Hpost with ⟨Ha, Hst, HO, HΦ⟩
  ihave ⟨HY, Hss, Hsc⟩ := (leave m c) $$ [HΦ Hz Hst Hi]
  · isplitl [HΦ]; · iexact HΦ
    isplitl [Hz]; · iexact Hz
    isplitl [Hst] <;> iassumption
  isplitl [Hss]; · iexact Hss
  iintro Hss
  isplitl [Hsc]; · iexact Hsc
  iintro Hsc
  iapply Hk
  unfold Pipeline.RDat.EntryPost Pipeline.PerCore.RDat.EntryPost
  isplitl [Ha HO]
  · isplitl [Ha] <;> iassumption
  isplitl [HY]; · iexact HY
  isplitl [Hss] <;> iassumption

theorem call (c : Dev nD) (κ : GSem nD τ sig → ℕ) (ι : ℕ) (Q : PUnit → sProp 𝕄) :
    iprop(inv ι (board (F := F) c) ∗ Pipeline.RDat.EntryPre cfgs (rdats m) () EP κ (0 : Fin 1) c ∗ brings m c)
      ⊢ iprop(((Pipeline.RDat.EntryPost cfgs (rdats m) () (0 : Fin 1) c ∗ result m c ∗ scopedSems0 (c : Thread nD τ) ∗ scopedBufs (c : Thread nD τ))
          -∗ wp frame (wpE (defs (F := F)) (Variants.lift 𝒱₀) (c : Thread nD τ) none) Set.univ (.ret ⟨⟩) Q)
        -∗ wp frame (wpE (defs (F := F)) (Variants.lift 𝒱₀) (c : Thread nD τ) none) Set.univ (main (F := F) c) Q) := by
  rw [show main (F := F) c = .op (.customCall (Pipeline.entry 0) ()) fun _ => .ret ⟨⟩ from rfl]
  have h := call' m c κ ι (k := fun _ => .ret ⟨⟩) (Q := Q)
  exact h

end Cert.Reducing
-- ==== Proof.RRun.lean ====
/-
# The reduction of the gradients: the run

Every device's memory, counters and ghost state put together at the launch and dealt anew, each device's call of the
kernel, and what the final memories hold.
-/
module

public import proofs.«01_k».proof.Proof.REnter
public import proofs.«01_k».proof.Proof.Gen.ReduceIdeal.Frame
public import Idealize.ShloMosaic.Adequacy
public import Idealize.ShloMosaic.Init

@[expose] public section

noncomputable section

namespace Cert.Reducing

open Cert.ReduceIdeal Cert.ReduceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (g : Dev nD → PrngReg) (m : (ℓ : Loc nD τ sig) → Buf (Elt F) ℓ)

/-! ## The launch -/

/-- The arrays of the windows, as the launch gives them. -/
abbrev arrs (c : Dev nD) : sProp 𝕄 := (rdats m 0 c).arrays (rdats m 0 c).A

theorem share_full (c : Dev nD) (w : Fin cfg0.W) : (rdats m 0 c).share w = fullShare := RDat.share_full _ (fun _ => rfl) w

theorem arrs_eq (c : Dev nD) : arrs m c = bigSep Finset.univ fun w : Fin cfg0.W =>
    (((c.tc : Thread nD τ).loc (Pipeline.arrRef (cfgs 0).spec w)) ↦{fullShare} m ((c.tc : Thread nD τ).loc (Pipeline.arrRef (cfgs 0).spec w)) : sProp 𝕄) := by
  unfold arrs RDat.arrays
  exact bigSep_congr fun w _ => by rw [(arr_whole0 w).set_eq_univ, share_full]; rfl

theorem mem₀_intro (c : Dev nD) : (unscopedBufs c fun b => m ((c : Thread nD τ).loc b) : sProp 𝕄) ⊢ iprop(arrs m c ∗ mem₀ m c) := by
  rw [Pipeline.unscopedBufs_split cfgs (0 : Fin 1) winFacts0.arr_unscoped winFacts0.arr_inj c]
  rw [show (Pipeline.unscopedRest (cfgs 0).spec c fun b => m ((c : Thread nD τ).loc b) : sProp 𝕄) = _ from unscopedRest0_eq c _]
  unfold mem₀ wholes
  simp only [bigSep_fin4]
  iintro ⟨HA, I0, I1, I2, I3, O0, O1, O2, O3, S0, S1, S2, S3, U0, U1, U2, U3, F0, F1, F2, F3⟩
  isplitl [HA]
  · iapply (Entails.of_eq (arrs_eq m c).symm); iexact HA
  isplitl [I0 I1 I2 I3]
  · isplitl [I0]; · iexact I0
    isplitl [I1]; · iexact I1
    isplitl [I2] <;> iassumption
  isplitl [O0 O1 O2 O3]
  · isplitl [O0]; · iexact O0
    isplitl [O1]; · iexact O1
    isplitl [O2] <;> iassumption
  isplitl [S0 S1 S2 S3]
  · isplitl [S0]; · iexact S0
    isplitl [S1]; · iexact S1
    isplitl [S2] <;> iassumption
  isplitl [U0 U1 U2 U3]
  · isplitl [U0]; · iexact U0
    isplitl [U1]; · iexact U1
    isplitl [U2] <;> iassumption
  isplitl [F0]; · iexact F0
  isplitl [F1]; · iexact F1
  isplitl [F2] <;> iassumption

/-- The invariants of the windows' transfers, and the tokens for them. -/
def windows (c : Dev nD) : sProp 𝕄 :=
  iprop(∃ κ, Pipeline.RDat.cellsInit cfgs (rdats m) EP κ (0 : Fin 1) c ∗ Pipeline.toksInit cfgs EP (0 : Fin 1) c)

/-- What a device holds before @main, -/
def before (c : Dev nD) : sProp 𝕄 :=
  iprop((base c ∗ slot c ∗ (idle c ∗ ioZero c) ∗ owes (c : Thread nD τ) (owed c 0) ∅ ∗ arrs m c) ∗ levAts L lv ∗ fst m c ∗ openTok c ∗ windows m c)
/-- The small gradients of a device, unchanged. -/
def small (c : Dev nD) : sProp 𝕄 :=
  ((c.tc : Thread nD τ).loc main_arg4) ↦{fullShare} m ((c.tc : Thread nD τ).loc main_arg4)
/-- and after it. -/
def after (c : Dev nD) : sProp 𝕄 := iprop((small m c ∗ result m c) ∗ scopedSems0 (c : Thread nD τ))

theorem core (c : Dev nD) :
    coreInit (Ix := Unit) (Name := ℕ) (U := UU) (Lvl := ℕ) (Pipeline.owing fun d => owed d 0) 0 (⟨m, fun _ => 0, g⟩ : MemSt nD τ sig (Elt F)) (c : Thread nD τ)
      ⊢ iprop(iprop(base c ∗ slot c ∗ (idle c ∗ ioZero c) ∗ owes (c : Thread nD τ) (owed c 0) ∅ ∗ arrs m c)
        ∗ mem₀ m c ∗ Pipeline.launchCred (fun d => owed d 0) c ∗ zeros c ∗ levels0 c ∗ slots c ∗ Pipeline.cellsSems0 cfgs (0 : Fin 1) c) := by
  refine (Pipeline.coreInit_boundary_owing (fun d => owed d 0) m g c).trans ?_
  unfold boundary
  rw [sems_split]
  iintro ⟨⟨Hsc, ⟨⟨Hst, Hz, Hv⟩, Hi⟩, -⟩, Hm, -, HO, Hl, -, Hc⟩
  ihave ⟨Hb, Ha⟩ := (scoped_out c) $$ Hsc
  ihave ⟨Hs, Hf⟩ := (slots_cut c) $$ Ha
  ihave ⟨HA, Hm⟩ := (mem₀_intro m c) $$ Hm
  isplitl [Hb Hs Hi Hv HO HA]
  · isplitl [Hb]; · iexact Hb
    isplitl [Hs]; · iexact Hs
    isplitl [Hi Hv]
    · isplitl [Hi] <;> iassumption
    isplitl [HO] <;> iassumption
  isplitl [Hm]; · iexact Hm
  isplitl [Hc]; · iexact Hc
  isplitl [Hz]; · iexact Hz
  isplitl [Hl]; · iexact Hl
  isplitl [Hf] <;> iassumption

/-- The levels, assigned once for the machine. -/
theorem levels_dealt : (bigSep Finset.univ fun c : Dev nD => levels0 (Ix := Unit) (Val := Elt F) (Name := ℕ) (U := UU) (Lvl := ℕ) (τ := τ) (sig := sig) c)
    ⊢ (|==> levAts L lv : sProp 𝕄) := by
  refine BIBase.Entails.trans (bigSep_mono fun c _ => lev_assign_cells (c : Thread nD τ) L lv) ?_
  refine BIBase.Entails.trans (BI.bigSep_bupd _ _) (BI.bupd_mono ?_)
  rw [show (levAts L lv : sProp 𝕄) = bigSep Finset.univ fun t : Thread nD τ => coreLevAts t L lv from
    bigSep_univ_prod fun x : GSem nD τ sig => bigSep (L x) fun i => levAt x i (lv x i), bigSep_threads (fun t : Thread nD τ => coreLevAts t L lv), bigSep_sep']
  rw [show (bigSep Finset.univ fun d : Dev nD => bigSep (Finset.univ.erase Proc.tc) fun p => (coreLevAts ((d, p) : Thread nD τ) L lv : sProp 𝕄)) = BI.emp from by
    rw [bigSep_congr (Ψ := fun _ : Dev nD => (BI.emp : sProp 𝕄)) fun d _ =>
      (bigSep_congr (Ψ := fun _ : Proc τ => (BI.emp : sProp 𝕄)) fun p hp => by
        unfold coreLevAts
        rw [bigSep_congr (Ψ := fun _ : SemLoc sig => (BI.emp : sProp 𝕄)) fun sm _ => by
          rw [L_of_ne (((d, p) : Thread nD τ), sm) (Finset.ne_of_mem_erase hp), BI.bigSep_empty], BI.bigSep_emp_const]).trans (BI.bigSep_emp_const _), BI.bigSep_emp_const]]
  refine BIBase.Entails.trans (Q := bigSep Finset.univ fun c : Dev nD => (coreLevAts (c : Thread nD τ) L lv : sProp 𝕄)) ?_ Laws.sep_emp.2
  exact sep_elim_right

def u₀ : UU := (initOf (Pipeline.cells cfgs cellOf_inj) (Pipeline.launchToks cfgs cellOf_inj), (initOf cells toks, 1))

omit [FloatOps F] in
/-- The parts of the ghost state that the windows' and the other transfers use. -/
theorem own_rounds : (ownU u₀ : sProp 𝕄)
    ⊢ iprop(BI.own (EP (initOf (Pipeline.cells cfgs cellOf_inj) (Pipeline.launchToks cfgs cellOf_inj))) ∗ BI.own (ER (initOf cells toks))) := by
  unfold u₀
  iintro Hu
  ihave ⟨HP, HX⟩ := (ownU_pair _ _) $$ Hu
  isplitl [HP]; · iexact HP
  iexact HX

theorem windows_intro :
    iprop((bigSep Finset.univ fun c : Dev nD => Pipeline.cellsSems0 cfgs (0 : Fin 1) c) ∗ BI.own (EP (initOf (Pipeline.cells cfgs cellOf_inj) (Pipeline.launchToks cfgs cellOf_inj))))
      ⊢ (|={Set.univ}=> bigSep Finset.univ fun c : Dev nD => windows m c : sProp 𝕄) := by
  have h := Pipeline.RDat.fund cfgs (rdats (F := F) m) EP cellOf_inj (Es := Set.univ)
  have e1 : (bigSep Finset.univ fun c : Dev nD => bigSep Finset.univ fun p : Fin 1 =>
            bigSep Finset.univ fun w : Fin (cfgs p).W => bigSep Finset.univ fun s : Fin ((cfgs p).win w).nbuf =>
              (semVal ((c.tc : Thread nD τ), .dma (((cfgs p).win w).sem s)) 0 : sProp 𝕄)) = bigSep Finset.univ fun c : Dev nD => Pipeline.cellsSems0 cfgs (0 : Fin 1) c :=
    bigSep_congr fun c _ => bigSep_univ_of_subsingleton 0
  rw [e1] at h
  iintro H
  imod h $$ H with ⟨%κ, -, H⟩
  imodintro
  have e2 (c : Dev nD) : (bigSep Finset.univ fun p : Fin 1 => iprop(Pipeline.RDat.cellsInit cfgs (rdats m) EP κ p c ∗ Pipeline.toksInit cfgs EP p c)) ⊢ windows m c := by
    rw [bigSep_univ_of_subsingleton (0 : Fin 1)]
    unfold windows
    iintro H; iexists κ; iexact H
  have e3 : (bigSep Finset.univ fun c : Dev nD => bigSep Finset.univ fun p : Fin 1 => iprop(Pipeline.RDat.cellsInit cfgs (rdats m) EP κ p c ∗ Pipeline.toksInit cfgs EP p c))
      ⊢ bigSep Finset.univ fun c : Dev nD => windows m c := bigSep_mono fun c _ => e2 c
  iapply e3
  iexact H

theorem launched :
    iprop((bigSep Finset.univ fun c : Dev nD =>
        coreInit (Ix := Unit) (Name := ℕ) (U := UU) (Lvl := ℕ) (Pipeline.owing fun d => owed d 0) 0 (⟨m, fun _ => 0, g⟩ : MemSt nD τ sig (Elt F)) (c : Thread nD τ)) ∗ ownU u₀)
      ⊢ (|={Set.univ}=> bigSep Finset.univ fun c : Dev nD => before m c : sProp 𝕄) := by
  have hc := BIBase.Entails.trans (bigSep_mono (s := Finset.univ) fun (c : Dev nD) _ => core g m c) (Entails.of_eq (bigSep_sep' _ _ _))
  simp only [bigSep_sep'] at hc
  unfold before
  simp only [bigSep_sep']
  iintro ⟨H, Hu⟩
  ihave ⟨Hown, Hm, Hc, Hz, Hl, Hs, Hw⟩ := hc $$ H
  ihave ⟨HP, HX⟩ := own_rounds $$ Hu
  imod (levels_dealt (F := F)) $$ Hl with #Hla
  imod (windows_intro m) $$ [Hw HP] with Hw
  · isplitl [Hw] <;> iassumption
  imod (opened m) $$ [Hm Hc Hz HX Hs] with ⟨Hf, Ho⟩
  · isplitl [Hm]; · iexact Hm
    isplitl [Hc]; · iexact Hc
    isplitl [Hz]; · iexact Hz
    isplitr; · iexact Hla
    isplitl [HX] <;> iassumption
  imodintro
  isplitl [Hown]; · iexact Hown
  isplitr; · iapply (BI.bigSep_intro_persistent (S := Finset.univ) fun (c : Dev nD) _ => (BI.Entails.refl (levAts L lv : sProp 𝕄))); iexact Hla
  isplitl [Hf]; · iexact Hf
  isplitl [Ho] <;> iassumption

/-! ## A device's run of @main -/

theorem lv_stage (c : Dev nD) (w : Fin 2) (s : Fin (spec0 w).nbuf) : lv ((c : Thread nD τ), .dma ((spec0 w).sem s)) () = 0 := by
  revert c w s; decide +kernel

/-- What a device owes never stands in the way of the windows' transfers. -/
theorem waits (c : Dev nD) : (levAts L lv : sProp 𝕄) ⊢ Pipeline.RDat.cellsWaits cfgs (rdats m) () (0 : Fin 1) c := by
  refine Pipeline.RDat.cellsWaits_intro cfgs (rdats m) () (0 : Fin 1) c ?_
  intro w s t
  rcases t with ⟨_ | n, h⟩
  · exact mayWait c _ 0 0 (lv_stage c w s) fun y hy => own_lev y hy.1
  · show _ ⊢ MayWait (c : Thread nD τ) _ () 0
    rw [MayWait_zero]
    iintro -; iempintro

theorem small_back (c : Dev nD) : (rdats m 0 c).arraysAt cfg0.N ⊢ small m c := by
  unfold RDat.arraysAt
  refine BIBase.Entails.trans (BI.bigSep_elim (Finset.mem_univ (0 : Fin 2))) ?_
  rw [RDat.ArrAt_in (rdats m 0 c) (0 : Fin 2) rfl]
  unfold small
  rw [share_full]
  iintro ⟨%f, %hf, H⟩
  subst hf
  ihave H := (Entails.of_eq (by rw [(arr_whole0 0).set_eq_univ])) $$ H
  iexact H

theorem device (c : Dev nD) :
    before m c ⊢ wp frame (wpE (defs (F := F)) (Variants.lift 𝒱₀) (c : Thread nD τ) none) Set.univ (main (F := F) c)
      (fun _ => post (liftTc (after m) BI.emp) (c : Thread nD τ)) := by
  unfold before windows
  iintro ⟨⟨Hb, Hs, ⟨Hi, Hv⟩, HO, HA⟩, #Hl, Hf, Ho, %κ, Hci, Ht⟩
  unfold fst
  icases Hf with ⟨⟨%K, #HK⟩, Hf⟩
  ihave ⟨%ι, #HI⟩ := (known_board m K c) $$ HK
  iapply (call m c κ ι fun _ => post (liftTc (after m) BI.emp) (c : Thread nD τ)) $$ [Hb Hs Hi Hv HO HA Hf Ho Hci Ht]
  · isplitr; · iexact HI
    isplitl [HO HA Hci Ht]
    · unfold Pipeline.RDat.EntryPre Pipeline.PerCore.RDat.EntryPre RDat.owesAt Pipeline.owesWithin
      isplitl [HA]; · iexact HA
      isplitl [HO]
      · iexists ∅; isplitr; · ipureintro; rw [Finset.coe_empty]; exact Set.empty_subset _
        iexact HO
      isplitr; · iapply (waits m c); iexact Hl
      isplitl [Hci] <;> iassumption
    unfold brings fst
    isplitl [Hf Hv Hi]
    · isplitl [Hf]
      · isplitr; · iexists K; iexact HK
        iexact Hf
      isplitl [Hv] <;> iassumption
    isplitl [Hb]; · iexact Hb
    isplitl [Hs] <;> iassumption
  iintro ⟨Hpost, HY, Hss, -⟩
  rw [wp_ret]; imodintro
  unfold post Pipeline.RDat.EntryPost Pipeline.PerCore.RDat.EntryPost RDat.owesAt Pipeline.owesWithin; simp only [liftTc_tc, after]
  icases Hpost with ⟨HA, %W, -, HW⟩
  isplitr [HW]
  · isplitr [Hss]
    · isplitl [HA]; · iapply (small_back m c); iexact HA
      iexact HY
    iexact Hss
  iexists W; iexact HW

/-! ## What the final memory holds -/

/-- Device `c`'s gradients as they were, and both halves of its four results. -/
def QC (c : Dev nD) (M : (ℓ : Loc nD τ sig) → Buf (Elt F) ℓ) : Prop :=
  M ((c.tc : Thread nD τ).loc main_arg4) = m ((c.tc : Thread nD τ).loc main_arg4) ∧ ∀ w : Fin 4,
  (∀ k, (inR w k (side (sib c))).view.read (Elt F) (M ((inR w k (side (sib c))).view.loc (c : Thread nD τ))) = Vp m c w k (side (sib c)))
    ∧ (∀ k, (inR w k (side c)).view.read (Elt F) (M ((inR w k (side c)).view.loc (c : Thread nD τ))) = Vp m c w k (side c))
    ∧ (outR w (side c)).view.read (Elt F) (M ((outR w (side c)).view.loc (c : Thread nD τ))) = Mine m c w
    ∧ (outR w (side (sib c))).view.read (Elt F) (M ((outR w (side (sib c))).view.loc (c : Thread nD τ))) = Mine m (sib c) w

/-- Contents owned are in the memory. -/
theorem owned_read (c : Dev nD) {sp : Space} {sh : Shape} {e : EltTy} (M : Memref sig .tc sp sh e) (q : PosShare TreeShare) (X : sh.Idx → Elt F e) (s' : Phys nD τ sig (Elt F)) :
    iprop(owns (c : Thread nD τ) M q X ∗ SI s') ⊢ (⌜M.view.read (Elt F) (s'.mem.mem (M.view.loc (c : Thread nD τ))) = X⌝ : sProp 𝕄) := by
  unfold owns
  iintro ⟨⟨%f, %hf, H⟩, HSI⟩
  icombine HSI H gives %h
  ipureintro
  rw [← hf]
  exact View.read_congr h

/-- What each of several parts says about the memory, all of them say together. -/
theorem read_all {I : Type} {R : sProp (MT nD τ sig Unit (Elt F) ℕ UU ℕ)} {P : I → Prop} (s' : Phys nD τ sig (Elt F))
    (h : ∀ i, iprop(R ∗ SI s') ⊢ (⌜P i⌝ : sProp 𝕄)) : iprop(R ∗ SI s') ⊢ (⌜∀ i, P i⌝ : sProp 𝕄) :=
  (forall_intro h).trans pure_forall.2

theorem result_pay (c : Dev nD) (x : Cell) : result m c ⊢ bigPay m c x := by
  unfold result
  exact sep_elim_left.trans (BI.bigSep_elim (Finset.mem_univ x))
theorem result_keep (c : Dev nD) (x : Cell) : result m c ⊢ keep m c x := by
  unfold result
  exact sep_elim_right.trans (BI.bigSep_elim (Finset.mem_univ x))

theorem small_read (c : Dev nD) (s' : Phys nD τ sig (Elt F)) :
    iprop(small m c ∗ SI s') ⊢ (⌜s'.mem.mem ((c.tc : Thread nD τ).loc main_arg4) = m ((c.tc : Thread nD τ).loc main_arg4)⌝ : sProp 𝕄) := by
  unfold small
  iintro ⟨H, HSI⟩
  icombine HSI H gives %h
  ipureintro
  exact funext fun i => h i (Finset.mem_univ i)

theorem result_read (c : Dev nD) (s' : Phys nD τ sig (Elt F)) : iprop((small m c ∗ result m c) ∗ SI s') ⊢ (<pers> ⌜QC m c s'.mem.mem⌝ : sProp 𝕄) := by
  refine BIBase.Entails.trans ?_ Laws.persistently_pure.2
  have h1 := read_all (R := result m c) (I := Fin 4 × Fin 4) s' fun p =>
    BIBase.Entails.trans (sep_mono_left (result_pay m c (.sibS p.1 p.2))) (owned_read c (inR p.1 p.2 (side (sib c))) fullShare (Vp m c p.1 p.2 (side (sib c))) s')
  have h2 := read_all (R := result m c) (I := Fin 4 × Fin 4) s' fun p =>
    BIBase.Entails.trans (sep_mono_left (result_keep m c (.sibR p.1 p.2))) (owned_read c (inR p.1 p.2 (side c)) fullShare (Vp m c p.1 p.2 (side c)) s')
  have h3 := read_all (R := result m c) (I := Fin 4) s' fun w =>
    BIBase.Entails.trans (sep_mono_left (result_pay m c (.finS w))) (owned_read c (outR w (side c)) fullShare (Mine m c w) s')
  have h4 := read_all (R := result m c) (I := Fin 4) s' fun w =>
    BIBase.Entails.trans (sep_mono_left (result_pay m c (.finR w))) (owned_read c (outR w (side (sib c))) fullShare (Mine m (sib c) w) s')
  iintro ⟨⟨Hs, Hr⟩, HSI⟩
  ihave %q0 := ((small_read m c s').trans Laws.persistently_pure.2) $$ [Hs HSI]
  · isplitl [Hs] <;> iassumption
  ihave %q1 := (h1.trans Laws.persistently_pure.2) $$ [Hr HSI]
  · isplitl [Hr] <;> iassumption
  ihave %q2 := (h2.trans Laws.persistently_pure.2) $$ [Hr HSI]
  · isplitl [Hr] <;> iassumption
  ihave %q3 := (h3.trans Laws.persistently_pure.2) $$ [Hr HSI]
  · isplitl [Hr] <;> iassumption
  ihave %q4 := (h4.trans Laws.persistently_pure.2) $$ [Hr HSI]
  · isplitl [Hr] <;> iassumption
  ipureintro
  exact ⟨q0, fun w => ⟨fun k => q1 (w, k), fun k => q2 (w, k), q3 w, q4 w⟩⟩

/-- For any float values, from any memory with zero counters: every weakly fair execution of @main terminates, with the
    devices' gradients summed, their arguments unchanged and every semaphore counter at zero. -/
theorem run_main : θ_run (defs (F := F)) (onTc (τ := τ) (main (F := F))) ⟨m, fun _ => 0, g⟩ (fun r => (∀ c, QC m c r.2.mem) ∧ r.2.sem = fun _ => 0) := by
  refine (θ_run (defs (F := F)) _ _).mono (Q := fun r => (∀ c : Dev nD, QC m c r.2.mem ∧ ∀ sm : SemLoc sig, sm.isScoped .tc = true → r.2.sem ((c : Thread nD τ), sm) = 0)
      ∧ ∀ x : GSem nD τ sig, x.1.2 ≠ .tc → r.2.sem x = 0)
    (fun r hr => ⟨fun c => (hr.1 c).1, sem_eq_zero_of_scoped (by decide) (sems_of_reads (fun c => (hr.1 c).2) hr.2)⟩) (adequate_tpu (defs (F := F)) _ _ _
    (reflect_intro_fupd_tc_sems (X := Unit) (Variants.lift 𝒱₀) (Pipeline.owing fun d => owed d 0) 0 (noBookings fun _ => le_rfl) (Pipeline.owing_of_ne _) u₀
      (fun _ => before m) (fun _ => after m) (fun _ => iprop(emp)) Set.univ ?_ (fun _ c => device m c) fun _ => ?_))
  · iintro H
    imod (launched g m) $$ H with H
    imodintro
    iexists ()
    isplitl [H]; · iexact H
    iempintro
  · have hcore (c : Dev nD) (s' : Phys nD τ sig (Elt F)) : iprop(after m c ∗ SI s') ⊢ |={Set.univ}=>
        iprop(⌜QC m c s'.mem.mem ∧ ∀ sm : SemLoc sig, sm.isScoped .tc = true → s'.mem.sem ((c : Thread nD τ), sm) = 0⌝ ∗ SI s') := by
      unfold after
      iintro ⟨⟨Hr, Hs⟩, HSI⟩
      ihave %hz := (tcScoped_read_pers c s') $$ [Hs HSI]
      · isplitl [Hs] <;> iassumption
      ihave %hq := (result_read m c s') $$ [Hr HSI]
      · isplitl [Hr] <;> iassumption
      imodintro
      isplitr; · ipureintro; exact ⟨hq, hz⟩
      iexact HSI
    iintro ⟨H, -, Hsc⟩ %s' HSI
    ihave %hsc := (scSems_read_zero m g s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.Reducing
-- ==== Proof.RValue.lean ====
/-
# The reduction of the gradients: its values

Every device ends with its chip's rows of the sum of all devices' gradients, and with its own gradients as they were.
-/
module

public import proofs.«01_k».proof.Proof.RRun
public import proofs.«01_k».proof.Proof.Gen.TotalIdeal.Run
public import Idealize.ShloMosaic.Lib.Layout
public import Idealize.ShloMosaic.Lib.IdealHost
public import Idealize.ShloMosaic.Lib.Pointwise.Reduce
public import Idealize.ShloMosaic.Lib.Pipeline.Value
public import Idealize.ShloMosaic.Lib.Pipeline.ValueKit.Geometry

@[expose] public section

noncomputable section

namespace Cert.Reducing

open Cert.ReduceIdeal Cert.ReduceIdeal.Gen
open Idealize.ShloMosaic
open Idealize.ShloMosaic.TcCoe

/-- The position `x` of a rectangle that starts at row `o` and keeps every column. -/
theorem row_at {R n : ℕ} (o : ℕ) (inb : ∀ a, (![o, 0] : Fin 2 → ℕ) a + (![n, 2048] : Fin 2 → ℕ) a ≤ (⟨2, ![R, 2048]⟩ : Shape).size a)
    (x : (⟨2, ![n, 2048]⟩ : Shape).Idx) (y : (⟨2, ![R, 2048]⟩ : Shape).Idx) (h₀ : (y 0).val = o + (x 0).val) (h₁ : (y 1).val = (x 1).val) :
    (Rect.unit (s := ⟨2, ![R, 2048]⟩) ![o, 0] ![n, 2048] inb).emb x = y := by
  funext a
  refine Fin.ext ?_
  rw [ValueKit.rect_emb_unit_val]
  revert a
  refine Fin.forall_fin_two.2 ⟨h₀.symm, ?_⟩
  show 0 + _ = _
  rw [Nat.zero_add]; exact h₁.symm

theorem H_pos (w : Fin 4) : 0 < H w := by revert w; decide
theorem HB_two (w : Fin 4) : HB w = 2 * H w := by revert w; decide
theorem HA_eight (w : Fin 4) : HA w = 8 * H w := by revert w; decide

theorem side_sib (c : Dev nD) : (side (sib c)).val = 1 - c.val % 2 := by revert c; decide

section Runs

variable {F : FTy → Type} [FloatOps F]

variable (m : (ℓ : Loc nD τ sig) → Buf (Elt F) ℓ)

/-- Device `d`'s gradient of weight `w`. -/
def Gr (d : Dev nD) (w : Fin 4) : Vec F (allS w) .f32 := (inM w).view.read (Elt F) (m ((inM w).view.loc (d : Thread nD τ)))

variable {m}

theorem Vp_at (d : Dev nD) (w k : Fin 4) (e : Fin 2) (x : (halfS w).Idx) (y : (allS w).Idx)
    (h₀ : (y 0).val = H w * (2 * k.val + e.val) + (x 0).val) (h₁ : (y 1).val = (x 1).val) : Vp m d w k e x = Gr m d w y := by
  rw [← row_at (H w * (2 * k.val + e.val)) (in_inb w k e) x y h₀ h₁]; rfl

/-- A device's gradients end as they were. -/
theorem inputs_same {c : Dev nD} {M : (ℓ : Loc nD τ sig) → Buf (Elt F) ℓ} (hQ : QC m c M) (w : Fin 4) :
    (inM w).view.read (Elt F) (M ((inM w).view.loc (c : Thread nD τ))) = Gr m c w := by
  obtain ⟨h1, h2, -, -⟩ := hQ.2 w
  funext y
  have hy : (y 0).val / H w < 8 := Nat.div_lt_of_lt_mul (by have := (y 0).isLt; rw [← Nat.mul_comm, ← HA_eight]; exact this)
  let x : (halfS w).Idx := Fin.cons ⟨(y 0).val % H w, Nat.mod_lt _ (H_pos w)⟩ (Fin.cons ⟨(y 1).val, (y 1).isLt⟩ finZeroElim)
  have key (k : Fin 4) (e : Fin 2) (hr : (inR w k e).view.read (Elt F) (M ((inR w k e).view.loc (c : Thread nD τ))) = Vp m c w k e)
      (hd : (y 0).val / H w = 2 * k.val + e.val) : (inM w).view.read (Elt F) (M ((inM w).view.loc (c : Thread nD τ))) y = Gr m c w y := by
    have h₀ : (y 0).val = H w * (2 * k.val + e.val) + (x 0).val := by rw [← hd]; exact (Nat.div_add_mod _ _).symm
    rw [← Vp_at c w k e x y h₀ rfl, ← hr, ← row_at (H w * (2 * k.val + e.val)) (in_inb w k e) x y h₀ rfl]
    rfl
  have split : ∀ n : ℕ, n < 8 → ∃ k : Fin 4, n = 2 * k.val + (side c).val ∨ n = 2 * k.val + (side (sib c)).val := by
    intro n hn
    have hs : (side c).val = c.val % 2 := rfl
    have hs' := side_sib c
    refine ⟨⟨n / 2, by omega⟩, ?_⟩
    rw [hs, hs']
    show n = 2 * (n / 2) + _ ∨ n = 2 * (n / 2) + _
    omega
  obtain ⟨k, hk | hk⟩ := split _ hy
  · exact key k _ (h2 k) hk
  · exact key k _ (h1 k) hk

/-- A device's result, row by row: the half of the side the row falls on, as the device of that side sums it. -/
theorem output_at {c : Dev nD} {M : (ℓ : Loc nD τ sig) → Buf (Elt F) ℓ} (hQ : QC m c M) (w : Fin 4) (y : (blkS w).Idx) :
    ∃ (d : Dev nD) (x : (halfS w).Idx), chip d = chip c ∧ (y 0).val = H w * (side d).val + (x 0).val ∧ (y 1).val = (x 1).val
      ∧ (outM w).view.read (Elt F) (M ((outM w).view.loc (c : Thread nD τ))) y = Mine m d w x := by
  obtain ⟨-, -, h3, h4⟩ := hQ.2 w
  have hy : (y 0).val / H w < 2 := Nat.div_lt_of_lt_mul (by have := (y 0).isLt; rw [← Nat.mul_comm, ← HB_two]; exact this)
  let x : (halfS w).Idx := Fin.cons ⟨(y 0).val % H w, Nat.mod_lt _ (H_pos w)⟩ (Fin.cons ⟨(y 1).val, (y 1).isLt⟩ finZeroElim)
  have key (d : Dev nD) (hc : chip d = chip c) (hr : (outR w (side d)).view.read (Elt F) (M ((outR w (side d)).view.loc (c : Thread nD τ))) = Mine m d w)
      (hd : (y 0).val / H w = (side d).val) : ∃ (d : Dev nD) (x : (halfS w).Idx), chip d = chip c ∧ (y 0).val = H w * (side d).val + (x 0).val ∧ (y 1).val = (x 1).val
      ∧ (outM w).view.read (Elt F) (M ((outM w).view.loc (c : Thread nD τ))) y = Mine m d w x := by
    have h₀ : (y 0).val = H w * (side d).val + (x 0).val := by rw [← hd]; exact (Nat.div_add_mod _ _).symm
    refine ⟨d, x, hc, h₀, rfl, ?_⟩
    rw [← hr]
    exact congrArg ((outM w).view.read (Elt F) (M ((outM w).view.loc (c : Thread nD τ)))) (row_at (H w * (side d).val) (out_inb w (side d)) x y h₀ rfl).symm
  have split : ∀ n : ℕ, n < 2 → n = (side c).val ∨ n = (side (sib c)).val := by
    intro n hn
    have hs : (side c).val = c.val % 2 := rfl
    have hs' := side_sib c
    rw [hs, hs']
    omega
  rcases split _ hy with hk | hk
  · exact key c rfl h3 hk
  · exact key (sib c) (chip_sib c) h4 hk

open Idealize.SL.Sem in
/-- Every execution ends with every semaphore counter at zero, every device's gradients as they were, and its results
    summed. -/
theorem run_sums (g : Dev nD → PrngReg) :
    θ_run (defs (F := F)) (onTc (τ := τ) (main (F := F))) ⟨m, fun _ => 0, g⟩ (fun r => (∀ c : Dev nD,
      ((∀ w, (inM w).view.read (Elt F) (r.2.mem ((inM w).view.loc (c : Thread nD τ))) = Gr m c w)
        ∧ r.2.mem ((c.tc : Thread nD τ).loc main_arg4) = m ((c.tc : Thread nD τ).loc main_arg4))
        ∧ ∀ w y, ∃ (d : Dev nD) (x : (halfS w).Idx), chip d = chip c ∧ (y 0).val = H w * (side d).val + (x 0).val ∧ (y 1).val = (x 1).val
          ∧ (outM w).view.read (Elt F) (r.2.mem ((outM w).view.loc (c : Thread nD τ))) y = Mine m d w x) ∧ r.2.sem = fun _ => 0) :=
  (θ_run (defs (F := F)) _ _).mono (fun r hr => ⟨fun c => ⟨⟨inputs_same (hr.1 c), (hr.1 c).1⟩, output_at (hr.1 c)⟩, hr.2⟩) (run_main g m)

end Runs

/-! ## The sums over the extended reals -/

/-- The devices in the order in which a device's sum takes them. -/
def order (c : Dev nD) : Fin 8 → Dev nD :=
  ![c, sib c, oth 0 c, sib (oth 0 c), oth 1 c, sib (oth 1 c), oth 2 c, sib (oth 2 c)]

theorem order_bij (c : Dev nD) : Function.Bijective (order c) := by revert c; decide +kernel

/-- All eight devices' terms, added pair by pair. -/
theorem add_pairs (c : Dev nD) (f : Dev nD → EReal) :
    (((f c + f (sib c)) + (f (oth 0 c) + f (sib (oth 0 c)))) + (f (oth 1 c) + f (sib (oth 1 c)))) + (f (oth 2 c) + f (sib (oth 2 c))) = ∑ d, f d := by
  rw [← (order_bij c).sum_comp f, Fin.sum_univ_eight]
  simp only [← add_assoc]
  rfl

variable {m : (ℓ : Loc nD τ sig) → Buf (Elt Ideal) ℓ}

/-- What device `c` sums, at a row of its region. -/
theorem Mine_at (c : Dev nD) (w : Fin 4) (x : (halfS w).Idx) : Mine m c w x = (∑ d : Dev nD, (Vp m d w (chip c) (side c) x : EReal) : EReal) := by
  rw [← add_pairs c fun d => Vp m d w (chip c) (side c) x]
  unfold Mine Sm
  simp only [side_oth]
  rfl

/-- The sum of all devices' gradients. -/
def Tot (m : (ℓ : Loc nD τ sig) → Buf (Elt Ideal) ℓ) (w : Fin 4) : Vec Ideal (allS w) .f32 := fun z => (∑ d : Dev nD, (Gr m d w z : EReal) : EReal)

/-- The rows of the sum that device `c` ends with. -/
theorem block_at {c d : Dev nD} {w : Fin 4} {x : (halfS w).Idx} {y : (blkS w).Idx} (z : (allS w).Idx) (hd : chip d = chip c)
    (h₀ : (y 0).val = H w * (side d).val + (x 0).val) (h₁ : (y 1).val = (x 1).val)
    (hz₀ : (z 0).val = HB w * (c.val / 2) + (y 0).val) (hz₁ : (z 1).val = (y 1).val) : Mine m d w x = Tot m w z := by
  rw [Mine_at]
  refine Finset.sum_congr rfl fun i _ => Vp_at i w (chip d) (side d) x z ?_ (hz₁.trans h₁)
  rw [hz₀, h₀, hd, HB_two, Nat.mul_add, ← Nat.add_assoc, ← Nat.mul_assoc, Nat.mul_comm (H w) 2]
  rfl

/-- The sum over the devices of a whole array's blocks, as the host takes it. -/
theorem total_at {N R : ℕ} (A : FVec Ideal ⟨2, ![N, 2048]⟩ .f32) (hs : (⟨2, ![N, 2048]⟩ : Shape).ShapeCasts ⟨3, ![8, R, 2048]⟩)
    (hr : (⟨3, ![8, R, 2048]⟩ : Shape).ReducesTo [0] ⟨2, ![R, 2048]⟩) (hu : 0 < (⟨0, ![]⟩ : Shape).numel)
    (G : Fin 8 → (⟨2, ![R, 2048]⟩ : Shape).Idx → Ideal .f32)
    (hG : ∀ (d : Fin 8) (z : (⟨2, ![R, 2048]⟩ : Shape).Idx) (y : (⟨2, ![N, 2048]⟩ : Shape).Idx), (y 0).val = d.val * R + (z 0).val → (y 1).val = (z 1).val → G d z = A y)
    (hN : N = 8 * R) (z : (⟨2, ![R, 2048]⟩ : Shape).Idx) :
    Host.reduceAdd (shapeCast _ A hs : FVec Ideal ⟨3, ![8, R, 2048]⟩ .f32) (constant ⟨0, ![]⟩ .f32 0x00000000#32) hr hu z = (∑ d : Fin 8, (G d z : EReal) : EReal) := by
  rw [ValueIdx.hostReduceAdd_apply, Ideal.hostReduceAdd_r3_a0]
  rw [show ((constant (⟨0, ![]⟩ : Shape) .f32 0x00000000#32 : FVec Ideal ⟨0, ![]⟩ .f32) (Shape.Idx.first hu) : EReal) = 0 from Ideal.ofBits_zero_f32, zero_add]
  refine Finset.sum_congr rfl fun d _ => ?_
  have hz : (z 0).val < R := (z 0).isLt
  have hd : d.val * R + (z 0).val < N := by
    have : d.val * R ≤ 7 * R := Nat.mul_le_mul_right _ (by omega)
    omega
  let y : (⟨2, ![N, 2048]⟩ : Shape).Idx := Fin.cons ⟨d.val * R + (z 0).val, hd⟩ (Fin.cons ⟨(z 1).val, (z 1).isLt⟩ finZeroElim)
  rw [hG d z y rfl rfl]
  refine shapeCast_apply A hs _ y ?_
  rw [Shape.rowMajor_val_two, Shape.rowMajor_val_three]
  rfl

open Idealize.SL.Sem in
/-- Every execution ends with every device's results the chip's rows of the sum, and its gradients as they were. -/
theorem run_values (g : Dev nD → PrngReg) (V : (w : Fin 4) → (allS w).Idx → Elt Ideal .f32) (hV : ∀ w, Tot m w = V w) :
    θ_run (defs (F := Ideal)) (onTc (τ := τ) (main (F := Ideal))) ⟨m, fun _ => 0, g⟩ (fun r => ∀ c : Dev nD,
      (∀ w (ht : Layout.TilesN (blkS w) (allS w) fun b => Layout.cutSize [2, 2, 2] ((![[0, 1], []] : Fin 2 → List ℕ) b)),
        (outM w).view.read (Elt Ideal) (r.2.mem ((outM w).view.loc (c : Thread nD τ))) = Layout.blockN (blkS w) (allS w) (Layout.meshBlock [2, 2, 2] ![[0, 1], []] c) (V w) ht)
        ∧ (∀ w, (inM w).view.read (Elt Ideal) (r.2.mem ((inM w).view.loc (c : Thread nD τ))) = Gr m c w)
        ∧ r.2.mem ((c.tc : Thread nD τ).loc main_arg4) = m ((c.tc : Thread nD τ).loc main_arg4)) := by
  refine (θ_run (defs (F := Ideal)) _ _).mono (fun r hr c => ⟨fun w ht => ?_, (hr.1 c).1⟩) (run_sums (m := m) g)
  funext y
  obtain ⟨d, x, hd, h₀, h₁, hv⟩ := (hr.1 c).2 w y
  rw [hv, Layout.blockN_apply, ← hV]
  have hm : Layout.meshLin [2, 2, 2] c.val [0, 1] = c.val / 2 := by clear hd hv hr; revert c; decide
  refine block_at _ hd h₀ h₁ ?_ ?_
  · rw [Layout.TilesN.idx_val]
    show Layout.meshLin [2, 2, 2] c.val [0, 1] * HB w + (y 0).val = _
    rw [hm, Nat.mul_comm]
  · rw [Layout.TilesN.idx_val]
    show 0 * _ + (y 1).val = _
    rw [Nat.zero_mul, Nat.zero_add]

/-- A device's block of a whole array, row by row. -/
theorem block_rows {N R : ℕ} (A : (⟨2, ![N, 2048]⟩ : Shape).Idx → Ideal .f32) (ht : Layout.Tiles ⟨2, ![R, 2048]⟩ ⟨2, ![N, 2048]⟩ 0 8) (d : Fin 8)
    (z : (⟨2, ![R, 2048]⟩ : Shape).Idx) (y : (⟨2, ![N, 2048]⟩ : Shape).Idx) (h₀ : (y 0).val = d.val * R + (z 0).val) (h₁ : (y 1).val = (z 1).val) :
    Layout.block ⟨2, ![R, 2048]⟩ ⟨2, ![N, 2048]⟩ 0 8 d A ht z = A y := by
  rw [Layout.block_apply]
  congr 1
  funext a
  refine Fin.ext ?_
  rw [Layout.Tiles.idx_val]
  revert a
  exact Fin.forall_fin_two.2 ⟨h₀.symm, h₁.symm⟩

end Cert.Reducing
-- ==== Proof.Adam.lean ====
/-
# The AdamW steps

Each call of the kernel steps one weight in blocks of rows. Over the extended reals its three results are the textbook
step of the whole arrays: every block is the step of the arguments' block, and the step works element by element.
-/
module

public import proofs.«01_k».proof.Defs
public import proofs.«01_k».proof.Proof.Gen.AdamInIdeal.Value
public import proofs.«01_k».proof.Proof.Gen.AdamOutIdeal.Value
public import proofs.«01_k».proof.Proof.Gen.AdamOneIdeal.Value
public import proofs.«01_k».proof.Proof.Gen.AdamTwoIdeal.Value
public import proofs.«01_k».proof.Proof.Gen.AdamSmallIdeal.Value
public import proofs.«01_k».proof.Proof.Gen.AdamIn.Frame
public import proofs.«01_k».proof.Proof.Gen.AdamOut.Frame
public import proofs.«01_k».proof.Proof.Gen.AdamOne.Frame
public import proofs.«01_k».proof.Proof.Gen.AdamTwo.Frame
public import proofs.«01_k».proof.Proof.Gen.AdamSmall.Frame
public import proofs.«01_k».proof.Proof.Gen.StepInIdeal.Run
public import proofs.«01_k».proof.Proof.Gen.StepOutIdeal.Run
public import proofs.«01_k».proof.Proof.Gen.StepMlpIdeal.Run
public import proofs.«01_k».proof.Proof.Gen.StepSmallIdeal.Run
public import Idealize.ShloMosaic.Lib.StableHlo.Run

@[expose] public section

noncomputable section

namespace Cert.Stepping

open Idealize.ShloMosaic Idealize.SL.Sem

/-! ## The references' frames -/

theorem frame_stepIn : quiescent_StepInIdeal := fun m g _ =>
  (θ_run StepInIdeal.defs _ _).mono (fun r h => ⟨fun c => (h c).2.2.2, sem_eq_zero_of_no_sems (by decide) r.2⟩)
    (StepInIdeal.Value.run (F := Ideal) m g)

theorem frame_stepOut : quiescent_StepOutIdeal := fun m g _ =>
  (θ_run StepOutIdeal.defs _ _).mono (fun r h => ⟨fun c => (h c).2.2.2, sem_eq_zero_of_no_sems (by decide) r.2⟩)
    (StepOutIdeal.Value.run (F := Ideal) m g)

theorem frame_stepMlp : quiescent_StepMlpIdeal := fun m g _ =>
  (θ_run StepMlpIdeal.defs _ _).mono (fun r h => ⟨fun c => (h c).2.2.2, sem_eq_zero_of_no_sems (by decide) r.2⟩)
    (StepMlpIdeal.Value.run (F := Ideal) m g)

theorem frame_stepSmall : quiescent_StepSmallIdeal := fun m g _ =>
  (θ_run StepSmallIdeal.defs _ _).mono (fun r h => ⟨fun c => (h c).2.2.2, sem_eq_zero_of_no_sems (by decide) r.2⟩)
    (StepSmallIdeal.Value.run (F := Ideal) m g)

/-! ## The values -/

theorem step_adamIn : algebraic_AdamInIdeal_StepInIdeal := fun m g m' g' _ hm =>
  ⟨_, _, _,
    (θ_run AdamInIdeal.defs _ _).mono (fun r h c => by
      obtain ⟨e₀, e₁, e₂, e₃⟩ := hm c
      refine ⟨(h c).1.trans ?_, (h c).2.1.trans ?_, (h c).2.2.1.trans ?_, (h c).2.2.2⟩
      all_goals first | rw [← e₀, ← e₁, ← e₂, ← e₃] | rw [← e₁, ← e₂] | rw [← e₁, ← e₃]
      all_goals exact (rfl : _ = (fun _ => _) c)) (AdamInIdeal.Value.run (F := Ideal) m g),
    StepInIdeal.Value.run (F := Ideal) m' g'⟩

theorem step_adamOut : algebraic_AdamOutIdeal_StepOutIdeal := fun m g m' g' _ hm =>
  ⟨_, _, _,
    (θ_run AdamOutIdeal.defs _ _).mono (fun r h c => by
      obtain ⟨e₀, e₁, e₂, e₃⟩ := hm c
      refine ⟨(h c).1.trans ?_, (h c).2.1.trans ?_, (h c).2.2.1.trans ?_, (h c).2.2.2⟩
      all_goals first | rw [← e₀, ← e₁, ← e₂, ← e₃] | rw [← e₁, ← e₂] | rw [← e₁, ← e₃]
      all_goals exact (rfl : _ = (fun _ => _) c)) (AdamOutIdeal.Value.run (F := Ideal) m g),
    StepOutIdeal.Value.run (F := Ideal) m' g'⟩

theorem step_adamOne : algebraic_AdamOneIdeal_StepMlpIdeal := fun m g m' g' _ hm =>
  ⟨_, _, _,
    (θ_run AdamOneIdeal.defs _ _).mono (fun r h c => by
      obtain ⟨e₀, e₁, e₂, e₃⟩ := hm c
      refine ⟨(h c).1.trans ?_, (h c).2.1.trans ?_, (h c).2.2.1.trans ?_, (h c).2.2.2⟩
      all_goals first | rw [← e₀, ← e₁, ← e₂, ← e₃] | rw [← e₁, ← e₂] | rw [← e₁, ← e₃]
      all_goals exact (rfl : _ = (fun _ => _) c)) (AdamOneIdeal.Value.run (F := Ideal) m g),
    StepMlpIdeal.Value.run (F := Ideal) m' g'⟩

theorem step_adamTwo : algebraic_AdamTwoIdeal_StepMlpIdeal := fun m g m' g' _ hm =>
  ⟨_, _, _,
    (θ_run AdamTwoIdeal.defs _ _).mono (fun r h c => by
      obtain ⟨e₀, e₁, e₂, e₃⟩ := hm c
      refine ⟨(h c).1.trans ?_, (h c).2.1.trans ?_, (h c).2.2.1.trans ?_, (h c).2.2.2⟩
      all_goals first | rw [← e₀, ← e₁, ← e₂, ← e₃] | rw [← e₁, ← e₂] | rw [← e₁, ← e₃]
      all_goals exact (rfl : _ = (fun _ => _) c)) (AdamTwoIdeal.Value.run (F := Ideal) m g),
    StepMlpIdeal.Value.run (F := Ideal) m' g'⟩

theorem step_adamSmall : algebraic_AdamSmallIdeal_StepSmallIdeal := fun m g m' g' _ hm =>
  ⟨_, _, _,
    (θ_run AdamSmallIdeal.defs _ _).mono (fun r h c => by
      obtain ⟨e₀, e₁, e₂, e₃⟩ := hm c
      refine ⟨(h c).1.trans ?_, (h c).2.1.trans ?_, (h c).2.2.1.trans ?_, (h c).2.2.2⟩
      all_goals first | rw [← e₀, ← e₁, ← e₂, ← e₃] | rw [← e₁, ← e₂] | rw [← e₁, ← e₃]
      all_goals exact (rfl : _ = (fun _ => _) c)) (AdamSmallIdeal.Value.run (F := Ideal) m g),
    StepSmallIdeal.Value.run (F := Ideal) m' g'⟩

end Cert.Stepping

end
-- ==== Proof.Norm.lean ====
/-
# The gradient of a norm

The call runs over 32 blocks of 256 rows. Over the extended reals its first two results are, row by row, the gradient with
respect to the rows, and the third, which all the blocks add into, is the sum over all rows that the gain's gradient is.
-/
module

public import proofs.«01_k».proof.Defs
public import proofs.«01_k».proof.Proof.Gen.NormMlpIdeal.Value
public import proofs.«01_k».proof.Proof.Gen.NormGradIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Norming

/-- The rows, their statistics and the gain. -/
abbrev Rows := Vec Ideal (⟨2, ![8192, 2048]⟩ : Shape) .f32
abbrev Stats := Vec Ideal (⟨2, ![8192, 1]⟩ : Shape) .f32
abbrev Gain := Vec Ideal (⟨2, ![1, 2048]⟩ : Shape) .f32

/-- The gradient with respect to the rows. -/
def dx (dh x : Rows) (r : Stats) (g : Gain) (dres : Rows) : Rows := fun i =>
  dres i + r (ix2 (i 0) 0) * (dh i * g (ix2 0 (i 1)) - x i * r (ix2 (i 0) 0) *
    (Ideal.div (∑ k : Fin 2048, dh (ix2 (i 0) k) * g (ix2 0 k) * (x (ix2 (i 0) k) * r (ix2 (i 0) 0)))
      (Ideal.ofBits .f32 0x45000000#32)))

/-- What row `n` adds to the gradient of the gain. -/
def dgRow (dh x : Rows) (r : Stats) (l : Fin 2048) (n : Fin 8192) : EReal :=
  dh (ix2 n l) * (x (ix2 n l) * r (ix2 n 0))

/-- The gradient of the gain. -/
def dg (dh x : Rows) (r : Stats) : Gain := fun i => ∑ n : Fin 8192, dgRow dh x r (i 1) n

/-- What the block `t` adds to it. -/
def dgBlock (dh x : Rows) (r : Stats) (l : Fin 2048) (t : ℕ) (ht : t < 32) : EReal :=
  ∑ k : Fin 256, dgRow dh x r l ⟨t * 256 + k.val, by have := k.isLt; omega⟩

/-- The blocks' contributions are the sum over all rows. -/
theorem sum_dgBlock {N : ℕ} (hN : N = 32) (dh x : Rows) (r : Stats) (l : Fin 2048) :
    ∑ t : Fin N, dgBlock dh x r l t.val (lt_of_lt_of_eq t.isLt hN) = ∑ n : Fin 8192, dgRow dh x r l n := by
  subst hN
  exact Fin.sum_mul_add_fin 32 256 (dgRow dh x r l)

end Cert.Norming

namespace Cert.NormMlpIdeal.RefValue

open Cert.NormMlpIdeal Cert.NormMlpIdeal.Gen Cert.NormMlpIdeal.Value Cert.Norming

variable (m : (ℓ : Loc nD τ sig) → Buf (Elt Ideal) ℓ) (ρ : Dev nD → PrngReg)

/-- Every window's block index at each point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

theorem pt_lt (t : Fin cfg0.N) : t.val < 32 := lt_of_lt_of_eq t.isLt N_0

/-- The gradient with respect to the rows, of the arguments at launch. -/
abbrev DX (c : Dev nD) : Rows := dx (m ((c : Thread nD τ).loc main_arg0)) (m ((c : Thread nD τ).loc main_arg1))
  (m ((c : Thread nD τ).loc main_arg2)) (m ((c : Thread nD τ).loc main_arg3)) (m ((c : Thread nD τ).loc main_arg4))

theorem final5 (c : Dev nD) : (dats m 0 c).arrAt 5 cfg0.N = DX m c := by
  refine (dats m 0 c).arrAt_eq_of_covers 5 _ (by decide +kernel) fun t hf y => ?_
  blk_simp
  rw [after0_5]
  have ht := pt_lt t
  by_cases h : t.val % 32 = 0
  · rw [outsAt0_A m c t h (by omega)]
    frame_out
    pointwise [k0_pay2, k0_pay1, DX, dx]
    blk_point [iblk, V, idx t]
  · rw [outsAt0_B m c t h (by omega)]
    frame_out
    pointwise [k0_pay2, k0_pay1, DX, dx]
    blk_point [iblk, V, idx t]

theorem final6 (c : Dev nD) : (dats m 0 c).arrAt 6 cfg0.N = DX m c := by
  refine (dats m 0 c).arrAt_eq_of_covers 6 _ (by decide +kernel) fun t hf y => ?_
  blk_simp
  rw [after0_6]
  have ht := pt_lt t
  by_cases h : t.val % 32 = 0
  · rw [outsAt0_A m c t h (by omega)]
    frame_out
    pointwise [k0_pay3, k0_pay2, k0_pay1, DX, dx]
    blk_point [iblk, V, idx t]
  · rw [outsAt0_B m c t h (by omega)]
    frame_out
    pointwise [k0_pay3, k0_pay2, k0_pay1, DX, dx]
    blk_point [iblk, V, idx t]

/-- What the block at a point adds to the gradient of the gain. -/
def part (c : Dev nD) (l : Fin 2048) (t : Fin cfg0.N) : EReal :=
  dgBlock (m ((c : Thread nD τ).loc main_arg0)) (m ((c : Thread nD τ).loc main_arg1)) (m ((c : Thread nD τ).loc main_arg2)) l
    t.val (pt_lt t)

/-- The last point of the grid. -/
def last : Fin cfg0.N := ⟨31, by rw [show cfg0.N = 32 from N_0]; decide⟩

theorem final7 (c : Dev nD) : (dats m 0 c).arrAt 7 cfg0.N = dg (m ((c : Thread nD τ).loc main_arg0))
    (m ((c : Thread nD τ).loc main_arg1)) (m ((c : Thread nD τ).loc main_arg2)) := by
  refine (dats m 0 c).arrAt_eq_of_after_last 7 last (by decide +kernel) _ fun j => ?_
  blk_simp
  rw [after0_7]
  refine (Pipeline.eq_sum_fin_of_reset_step_last (fun n h => (outsAt0 m c n h).2.2 j) 32 0 (part m c (j 1)) ?_ ?_ (by decide) last (by decide)).trans ?_
  · intro t h
    rw [outsAt0_A m c t h (by have := pt_lt t; omega)]
    frame_out
    pointwise [k0_pay4, k0_pay1, part, dgBlock, dgRow]
    refine Finset.sum_congr rfl fun k _ => ?_
    blk_point [iblk, V, idx t]
  · intro t h
    rw [outsAt0_B m c t h (by have := pt_lt t; omega)]
    frame_out
    pointwise [k0_pay5, k0_pay4, k0_pay1, part, dgBlock, dgRow]
    congr 1
    refine Finset.sum_congr rfl fun k _ => ?_
    blk_point [iblk, V, idx t]
  · rw [zero_add]
    exact sum_dgBlock N_0 _ _ _ (j 1)

end Cert.NormMlpIdeal.RefValue

namespace Cert.NormGradIdeal.RefValue

open Cert.NormGradIdeal Cert.Norming

/-- The reference's results. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v14) = dx (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_v15) = dx (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_v18) = dg (m ((c : Thread nD τ).loc main_arg0)) (m ((c : Thread nD τ).loc main_arg1))
          (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2⟩)
    (NormGradIdeal.Value.run (F := Ideal) m g)
  · funext i
    pointwise [dx]
  · funext i
    pointwise [dx]
  · funext i
    pointwise [dg, dgRow]

end Cert.NormGradIdeal.RefValue

namespace Cert.Norming

theorem frame_normGrad : quiescent_NormGradIdeal := fun m g _ =>
  (θ_run NormGradIdeal.defs _ _).mono (fun r h => ⟨fun c => (h c).2.2.2, sem_eq_zero_of_no_sems (by decide) r.2⟩)
    (NormGradIdeal.Value.run (F := Ideal) m g)

theorem norm_mlp : algebraic_NormMlpIdeal_NormGradIdeal := fun m g m' g' _ hm =>
  ⟨_, _, _,
    (θ_run NormMlpIdeal.defs _ _).mono (fun r h c =>
      ⟨(h c).1.trans (NormMlpIdeal.RefValue.final5 m c), (h c).2.1.trans (NormMlpIdeal.RefValue.final6 m c),
        (h c).2.2.1.trans (NormMlpIdeal.RefValue.final7 m c), (h c).2.2.2⟩) (NormMlpIdeal.Value.run_blocks m g),
    (θ_run NormGradIdeal.defs _ _).mono (fun r h c => by
      obtain ⟨e₀, e₁, e₂, e₃, e₄⟩ := hm c
      refine ⟨(h c).1.trans ?_, (h c).2.1.trans ?_, (h c).2.2.1.trans ?_, (h c).2.2.2⟩
      all_goals first | rw [e₀, e₁, e₂, e₃, e₄] | rw [e₀, e₁, e₂]
      all_goals rfl) (NormGradIdeal.RefValue.ref_run m' g')⟩

end Cert.Norming

end
-- ==== Proof.NormAttn.lean ====
/-
# The gradient of the other norm

The same for the call over the attention's rows.
-/
module

public import proofs.«01_k».proof.Defs
public import proofs.«01_k».proof.Proof.Gen.NormAttnIdeal.Value
public import proofs.«01_k».proof.Proof.Norm
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormAttnIdeal.RefValue

open Cert.NormAttnIdeal Cert.NormAttnIdeal.Gen Cert.NormAttnIdeal.Value Cert.Norming

variable (m : (ℓ : Loc nD τ sig) → Buf (Elt Ideal) ℓ) (ρ : Dev nD → PrngReg)

/-- Every window's block index at each point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

theorem pt_lt (t : Fin cfg0.N) : t.val < 32 := lt_of_lt_of_eq t.isLt N_0

/-- The gradient with respect to the rows, of the arguments at launch. -/
abbrev DX (c : Dev nD) : Rows := dx (m ((c : Thread nD τ).loc main_arg0)) (m ((c : Thread nD τ).loc main_arg1))
  (m ((c : Thread nD τ).loc main_arg2)) (m ((c : Thread nD τ).loc main_arg3)) (m ((c : Thread nD τ).loc main_arg4))

theorem final5 (c : Dev nD) : (dats m 0 c).arrAt 5 cfg0.N = DX m c := by
  refine (dats m 0 c).arrAt_eq_of_covers 5 _ (by decide +kernel) fun t hf y => ?_
  blk_simp
  rw [after0_5]
  have ht := pt_lt t
  by_cases h : t.val % 32 = 0
  · rw [outsAt0_A m c t h (by omega)]
    frame_out
    pointwise [k0_pay2, k0_pay1, DX, dx]
    blk_point [iblk, V, idx t]
  · rw [outsAt0_B m c t h (by omega)]
    frame_out
    pointwise [k0_pay2, k0_pay1, DX, dx]
    blk_point [iblk, V, idx t]

theorem final6 (c : Dev nD) : (dats m 0 c).arrAt 6 cfg0.N = DX m c := by
  refine (dats m 0 c).arrAt_eq_of_covers 6 _ (by decide +kernel) fun t hf y => ?_
  blk_simp
  rw [after0_6]
  have ht := pt_lt t
  by_cases h : t.val % 32 = 0
  · rw [outsAt0_A m c t h (by omega)]
    frame_out
    pointwise [k0_pay3, k0_pay2, k0_pay1, DX, dx]
    blk_point [iblk, V, idx t]
  · rw [outsAt0_B m c t h (by omega)]
    frame_out
    pointwise [k0_pay3, k0_pay2, k0_pay1, DX, dx]
    blk_point [iblk, V, idx t]

/-- What the block at a point adds to the gradient of the gain. -/
def part (c : Dev nD) (l : Fin 2048) (t : Fin cfg0.N) : EReal :=
  dgBlock (m ((c : Thread nD τ).loc main_arg0)) (m ((c : Thread nD τ).loc main_arg1)) (m ((c : Thread nD τ).loc main_arg2)) l
    t.val (pt_lt t)

/-- The last point of the grid. -/
def last : Fin cfg0.N := ⟨31, by rw [show cfg0.N = 32 from N_0]; decide⟩

theorem final7 (c : Dev nD) : (dats m 0 c).arrAt 7 cfg0.N = dg (m ((c : Thread nD τ).loc main_arg0))
    (m ((c : Thread nD τ).loc main_arg1)) (m ((c : Thread nD τ).loc main_arg2)) := by
  refine (dats m 0 c).arrAt_eq_of_after_last 7 last (by decide +kernel) _ fun j => ?_
  blk_simp
  rw [after0_7]
  refine (Pipeline.eq_sum_fin_of_reset_step_last (fun n h => (outsAt0 m c n h).2.2 j) 32 0 (part m c (j 1)) ?_ ?_ (by decide) last (by decide)).trans ?_
  · intro t h
    rw [outsAt0_A m c t h (by have := pt_lt t; omega)]
    frame_out
    pointwise [k0_pay4, k0_pay1, part, dgBlock, dgRow]
    refine Finset.sum_congr rfl fun k _ => ?_
    blk_point [iblk, V, idx t]
  · intro t h
    rw [outsAt0_B m c t h (by have := pt_lt t; omega)]
    frame_out
    pointwise [k0_pay5, k0_pay4, k0_pay1, part, dgBlock, dgRow]
    congr 1
    refine Finset.sum_congr rfl fun k _ => ?_
    blk_point [iblk, V, idx t]
  · rw [zero_add]
    exact sum_dgBlock N_0 _ _ _ (j 1)

end Cert.NormAttnIdeal.RefValue

namespace Cert.Norming

theorem norm_attn : algebraic_NormAttnIdeal_NormGradIdeal := fun m g m' g' _ hm =>
  ⟨_, _, _,
    (θ_run NormAttnIdeal.defs _ _).mono (fun r h c =>
      ⟨(h c).1.trans (NormAttnIdeal.RefValue.final5 m c), (h c).2.1.trans (NormAttnIdeal.RefValue.final6 m c),
        (h c).2.2.1.trans (NormAttnIdeal.RefValue.final7 m c), (h c).2.2.2⟩) (NormAttnIdeal.Value.run_blocks m g),
    (θ_run NormGradIdeal.defs _ _).mono (fun r h c => by
      obtain ⟨e₀, e₁, e₂, e₃, e₄⟩ := hm c
      refine ⟨(h c).1.trans ?_, (h c).2.1.trans ?_, (h c).2.2.1.trans ?_, (h c).2.2.2⟩
      all_goals first | rw [e₀, e₁, e₂, e₃, e₄] | rw [e₀, e₁, e₂]
      all_goals rfl) (NormGradIdeal.RefValue.ref_run m' g')⟩

end Cert.Norming

end
-- ==== Proof.Loss.lean ====
/-
# The loss and its gradient

The call runs over 32 blocks of 256 rows. Over the extended reals its first two results are, row by row, the gradient of the
loss with respect to the rows. Into the other two all the blocks add: the loss and the gradient with respect to the gain.
-/
module

public import proofs.«01_k».proof.Defs
public import proofs.«01_k».proof.Proof.Gen.LossHeadIdeal.Value
public import proofs.«01_k».proof.Proof.Gen.LossGradIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Lossing

/-- The rows and the gain. -/
abbrev Rows := Vec Ideal (⟨2, ![8192, 2048]⟩ : Shape) .f32
abbrev Gain := Vec Ideal (⟨2, ![1, 2048]⟩ : Shape) .f32
abbrev Lanes := Vec Ideal (⟨2, ![1, 128]⟩ : Shape) .f32

/-- The reciprocal root mean square of a row. -/
def rms (x : Rows) (n : Fin 8192) : EReal :=
  Ideal.rsqrt (Ideal.div (∑ k : Fin 2048, x (ix2 n k) * x (ix2 n k)) (Ideal.ofBits .f32 0x45000000#32)
    + Ideal.ofBits .f32 0x3727C5AC#32)

/-- The difference between the normed row and its target. -/
def err (x tgt : Rows) (g : Gain) (n : Fin 8192) (l : Fin 2048) : EReal :=
  x (ix2 n l) * rms x n * g (ix2 0 l) - tgt (ix2 n l)

/-- The gradient with respect to the normed row. -/
def dn (x tgt : Rows) (g : Gain) (n : Fin 8192) (l : Fin 2048) : EReal :=
  Ideal.div (err x tgt g n l) (Ideal.ofBits .f32 0x45000000#32) * g (ix2 0 l)

/-- The gradient with respect to the rows. -/
def dx (x tgt : Rows) (g : Gain) : Rows := fun i =>
  rms x (i 0) * (dn x tgt g (i 0) (i 1) - x i * rms x (i 0) *
    Ideal.div (∑ k : Fin 2048, dn x tgt g (i 0) k * (x (ix2 (i 0) k) * rms x (i 0))) (Ideal.ofBits .f32 0x45000000#32))

/-- A row's mean squared difference. -/
def lossRow (x tgt : Rows) (g : Gain) (n : Fin 8192) : EReal :=
  Ideal.div (∑ k : Fin 2048, err x tgt g n k * err x tgt g n k) (Ideal.ofBits .f32 0x45000000#32)

/-- The loss, in every lane. -/
def loss (x tgt : Rows) (g : Gain) : Lanes := fun _ =>
  Ideal.ofBits .f32 0x3F000000#32 * ∑ n : Fin 8192, lossRow x tgt g n

/-- What a row adds to the gradient of the gain. -/
def dgRow (x tgt : Rows) (g : Gain) (l : Fin 2048) (n : Fin 8192) : EReal :=
  Ideal.div (err x tgt g n l) (Ideal.ofBits .f32 0x45000000#32) * (x (ix2 n l) * rms x n)

/-- The gradient of the gain. -/
def dg (x tgt : Rows) (g : Gain) : Gain := fun i => ∑ n : Fin 8192, dgRow x tgt g (i 1) n

/-- What the block `t` adds to each. -/
def lossBlock (x tgt : Rows) (g : Gain) (t : ℕ) (ht : t < 32) : EReal :=
  Ideal.ofBits .f32 0x3F000000#32 * ∑ k : Fin 256, lossRow x tgt g ⟨t * 256 + k.val, by have := k.isLt; omega⟩

def dgBlock (x tgt : Rows) (g : Gain) (l : Fin 2048) (t : ℕ) (ht : t < 32) : EReal :=
  ∑ k : Fin 256, dgRow x tgt g l ⟨t * 256 + k.val, by have := k.isLt; omega⟩

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem width : Ideal.ofBits .f32 0x45000000#32 = ((2048 : ℝ) : EReal) := by
  simp [Ideal.ofBits, Ideal.ieee, -EReal.coe_mul]; norm_num

/-- Half of a sum is the sum of the halves, infinite terms or not. -/
theorem half_sum {N : ℕ} (f : Fin N → EReal) :
    ∑ n : Fin N, Ideal.ofBits .f32 0x3F000000#32 * f n = Ideal.ofBits .f32 0x3F000000#32 * ∑ n : Fin N, f n := by
  have h0 : (0 : EReal) ≤ Ideal.ofBits .f32 0x3F000000#32 := by
    rw [half]; exact EReal.coe_nonneg.mpr (by norm_num)
  have h1 : Ideal.ofBits .f32 0x3F000000#32 ≠ (⊤ : EReal) := by
    rw [half]; exact EReal.coe_ne_top _
  induction N with
  | zero => simp
  | succ n ih => rw [Fin.sum_univ_castSucc, Fin.sum_univ_castSucc, ih, EReal.left_distrib_of_nonneg_of_ne_top h0 h1]

/-- The reference's factor of the difference, `2` times the quotient of `1 / 2`, is the quotient. -/
theorem quotient (y e : EReal) :
    y * (Ideal.div (Ideal.ofBits .f32 0x3F000000#32) (Ideal.ofBits .f32 0x45000000#32)
      * (Ideal.ofBits .f32 0x40000000#32 * e)) = Ideal.div e (Ideal.ofBits .f32 0x45000000#32) * y := by
  have h : (((1 / 2 * (1 / 2048) : ℝ) : EReal)) * ((2 : ℝ) : EReal) = ((1 / 2048 : ℝ) : EReal) := by
    rw [← EReal.coe_mul]; norm_num
  rw [half, two, width, Ideal.div_coe (by norm_num), Ideal.div_coe (by norm_num), ← EReal.coe_mul, ← mul_assoc _ _ e, h, mul_comm y,
    mul_comm e]

theorem sum_lossBlock {N : ℕ} (hN : N = 32) (x tgt : Rows) (g : Gain) :
    ∑ t : Fin N, lossBlock x tgt g t.val (lt_of_lt_of_eq t.isLt hN)
      = Ideal.ofBits .f32 0x3F000000#32 * ∑ n : Fin 8192, lossRow x tgt g n := by
  subst hN
  refine (half_sum _).trans ?_
  exact congrArg _ (Fin.sum_mul_add_fin 32 256 (lossRow x tgt g))

theorem sum_dgBlock {N : ℕ} (hN : N = 32) (x tgt : Rows) (g : Gain) (l : Fin 2048) :
    ∑ t : Fin N, dgBlock x tgt g l t.val (lt_of_lt_of_eq t.isLt hN) = ∑ n : Fin 8192, dgRow x tgt g l n := by
  subst hN
  exact Fin.sum_mul_add_fin 32 256 (dgRow x tgt g l)

end Cert.Lossing

namespace Cert.LossHeadIdeal.RefValue

open Cert.LossHeadIdeal Cert.LossHeadIdeal.Gen Cert.LossHeadIdeal.Value Cert.Lossing

variable (m : (ℓ : Loc nD τ sig) → Buf (Elt Ideal) ℓ) (ρ : Dev nD → PrngReg)

/-- Every window's block index at each point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

theorem pt_lt (t : Fin cfg0.N) : t.val < 32 := lt_of_lt_of_eq t.isLt N_0

/-- The last point of the grid. -/
def last : Fin cfg0.N := ⟨31, by rw [show cfg0.N = 32 from N_0]; decide⟩

/-- The gradient with respect to the rows, of the arguments at launch. -/
abbrev DX (c : Dev nD) : Rows := dx (m ((c : Thread nD τ).loc main_arg0)) (m ((c : Thread nD τ).loc main_arg1))
  (m ((c : Thread nD τ).loc main_arg2))

/-- What the block at a point adds to the loss. -/
def lossPart (c : Dev nD) (t : Fin cfg0.N) : EReal :=
  lossBlock (m ((c : Thread nD τ).loc main_arg0)) (m ((c : Thread nD τ).loc main_arg1)) (m ((c : Thread nD τ).loc main_arg2))
    t.val (pt_lt t)

/-- What it adds to the gradient of the gain. -/
def dgPart (c : Dev nD) (l : Fin 2048) (t : Fin cfg0.N) : EReal :=
  dgBlock (m ((c : Thread nD τ).loc main_arg0)) (m ((c : Thread nD τ).loc main_arg1)) (m ((c : Thread nD τ).loc main_arg2)) l
    t.val (pt_lt t)

theorem final3 (c : Dev nD) : (dats m 0 c).arrAt 3 cfg0.N = DX m c := by
  refine (dats m 0 c).arrAt_eq_of_covers 3 _ (by decide +kernel) fun t hf y => ?_
  blk_simp
  rw [after0_3]
  have ht := pt_lt t
  by_cases h : t.val % 32 = 0
  · rw [outsAt0_A m c t h (by omega)]
    frame_out
    pointwise [k0_pay11, k0_pay10, k0_pay8, k0_pay7, k0_pay6, DX, dx, dn, err, rms]
    blk_point [iblk, V, idx t]
  · rw [outsAt0_B m c t h (by omega)]
    frame_out
    pointwise [k0_pay11, k0_pay10, k0_pay8, k0_pay7, k0_pay6, DX, dx, dn, err, rms]
    blk_point [iblk, V, idx t]

theorem final4 (c : Dev nD) : (dats m 0 c).arrAt 4 cfg0.N = DX m c := by
  refine (dats m 0 c).arrAt_eq_of_covers 4 _ (by decide +kernel) fun t hf y => ?_
  blk_simp
  rw [after0_4]
  have ht := pt_lt t
  by_cases h : t.val % 32 = 0
  · rw [outsAt0_A m c t h (by omega)]
    frame_out
    pointwise [k0_pay1, k0_pay11, k0_pay10, k0_pay8, k0_pay7, k0_pay6, DX, dx, dn, err, rms]
    blk_point [iblk, V, idx t]
  · rw [outsAt0_B m c t h (by omega)]
    frame_out
    pointwise [k0_pay1, k0_pay11, k0_pay10, k0_pay8, k0_pay7, k0_pay6, DX, dx, dn, err, rms]
    blk_point [iblk, V, idx t]

set_option maxHeartbeats 800000 in
theorem final5 (c : Dev nD) : (dats m 0 c).arrAt 5 cfg0.N = loss (m ((c : Thread nD τ).loc main_arg0))
    (m ((c : Thread nD τ).loc main_arg1)) (m ((c : Thread nD τ).loc main_arg2)) := by
  refine (dats m 0 c).arrAt_eq_of_after_last 5 last (by decide +kernel) _ fun j => ?_
  blk_simp
  rw [after0_5]
  refine (Pipeline.eq_sum_fin_of_reset_step_last (fun n h => (outsAt0 m c n h).2.2.1 j) 32 0 (lossPart m c) ?_ ?_ (by decide) last (by decide)).trans ?_
  · intro t h
    rw [outsAt0_A m c t h (by have := pt_lt t; omega)]
    frame_out
    pointwise [k0_pay3, k0_pay9, k0_pay8, k0_pay7, k0_pay6, lossPart, lossBlock, lossRow, err, rms]
    blk_point [iblk, V, idx t]
  · intro t h
    rw [outsAt0_B m c t h (by have := pt_lt t; omega)]
    frame_out
    pointwise [k0_pay5, k0_pay3, k0_pay9, k0_pay8, k0_pay7, k0_pay6, lossPart, lossBlock, lossRow, err, rms]
    refine congrArg (fun z : EReal => _ + z) ?_
    blk_point [iblk, V, idx t]
  · rw [zero_add]
    exact sum_lossBlock N_0 _ _ _

set_option maxHeartbeats 800000 in
theorem final6 (c : Dev nD) : (dats m 0 c).arrAt 6 cfg0.N = dg (m ((c : Thread nD τ).loc main_arg0))
    (m ((c : Thread nD τ).loc main_arg1)) (m ((c : Thread nD τ).loc main_arg2)) := by
  refine (dats m 0 c).arrAt_eq_of_after_last 6 last (by decide +kernel) _ fun j => ?_
  blk_simp
  rw [after0_6]
  refine (Pipeline.eq_sum_fin_of_reset_step_last (fun n h => (outsAt0 m c n h).2.2.2 j) 32 0 (dgPart m c (j 1)) ?_ ?_ (by decide) last (by decide)).trans ?_
  · intro t h
    rw [outsAt0_A m c t h (by have := pt_lt t; omega)]
    frame_out
    pointwise [k0_pay2, k0_pay10, k0_pay8, k0_pay7, k0_pay6, dgPart, dgBlock, dgRow, err, rms]
    refine Finset.sum_congr rfl fun k _ => ?_
    blk_point [iblk, V, idx t]
  · intro t h
    rw [outsAt0_B m c t h (by have := pt_lt t; omega)]
    frame_out
    pointwise [k0_pay4, k0_pay2, k0_pay10, k0_pay8, k0_pay7, k0_pay6, dgPart, dgBlock, dgRow, err, rms]
    congr 1
    refine Finset.sum_congr rfl fun k _ => ?_
    blk_point [iblk, V, idx t]
  · rw [zero_add]
    exact sum_dgBlock N_0 _ _ _ (j 1)

end Cert.LossHeadIdeal.RefValue

namespace Cert.LossGradIdeal.RefValue

open Cert.LossGradIdeal Cert.Lossing

/-- The reference's results. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v56) = dx (m ((c : Thread nD τ).loc main_arg0)) (m ((c : Thread nD τ).loc main_arg1))
          (m ((c : Thread nD τ).loc main_arg2))
      ∧ r.2.mem ((c.tc : Thread nD τ).loc main_v57) = dx (m ((c : Thread nD τ).loc main_arg0)) (m ((c : Thread nD τ).loc main_arg1))
          (m ((c : Thread nD τ).loc main_arg2))
      ∧ r.2.mem ((c.tc : Thread nD τ).loc main_v58) = loss (m ((c : Thread nD τ).loc main_arg0)) (m ((c : Thread nD τ).loc main_arg1))
          (m ((c : Thread nD τ).loc main_arg2))
      ∧ r.2.mem ((c.tc : Thread nD τ).loc main_v29) = dg (m ((c : Thread nD τ).loc main_arg0)) (m ((c : Thread nD τ).loc main_arg1))
          (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_, (h c).2.2.2.1.trans ?_,
    (h c).2.2.2.2⟩) (LossGradIdeal.Value.run (F := Ideal) m g)
  · funext i
    pointwise [dx, dn, err, rms]
  · funext i
    pointwise [dx, dn, err, rms]
  · funext i
    pointwise [loss, lossRow, err, rms]
  · funext i
    pointwise [dg, dgRow, err, rms]
    refine Finset.sum_congr rfl fun k _ => ?_
    exact quotient _ _

end Cert.LossGradIdeal.RefValue

namespace Cert.Lossing

theorem frame_lossGrad : quiescent_LossGradIdeal := fun m g _ =>
  (θ_run LossGradIdeal.defs _ _).mono (fun r h => ⟨fun c => (h c).2.2.2.2, sem_eq_zero_of_no_sems (by decide) r.2⟩)
    (LossGradIdeal.Value.run (F := Ideal) m g)

theorem loss_head : algebraic_LossHeadIdeal_LossGradIdeal := fun m g m' g' _ hm =>
  ⟨_, _, _, _,
    (θ_run LossHeadIdeal.defs _ _).mono (fun r h c =>
      ⟨(h c).1.trans (LossHeadIdeal.RefValue.final3 m c), (h c).2.1.trans (LossHeadIdeal.RefValue.final4 m c),
        (h c).2.2.1.trans (LossHeadIdeal.RefValue.final5 m c), (h c).2.2.2.1.trans (LossHeadIdeal.RefValue.final6 m c),
        (h c).2.2.2.2⟩) (LossHeadIdeal.Value.run_blocks m g),
    (θ_run LossGradIdeal.defs _ _).mono (fun r h c => by
      obtain ⟨e₀, e₁, e₂⟩ := hm c
      refine ⟨(h c).1.trans ?_, (h c).2.1.trans ?_, (h c).2.2.1.trans ?_, (h c).2.2.2.1.trans ?_, (h c).2.2.2.2⟩
      all_goals rw [e₀, e₁, e₂]
      all_goals rfl) (LossGradIdeal.RefValue.ref_run m' g')⟩

end Cert.Lossing

end
-- ==== Proof.MixBwd.lean ====
/-
# The gradient of the heads' output norms

The call runs over 32 blocks of 256 rows. Over the extended reals two of its results are, row by row, the gradients with
respect to the two halves of the attention's output, rounded, and two, which all the blocks add into, are the sums over all
rows that the gains' gradients are.
-/
module

public import proofs.«01_k».proof.Defs
public import proofs.«01_k».proof.Proof.Gen.MixBwdIdeal.Value
public import proofs.«01_k».proof.Proof.Gen.MixGradIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mixing

/-- The cotangent of both halves, one half's rows, their statistics and gain. -/
abbrev Rows := Vec Ideal (⟨2, ![8192, 2048]⟩ : Shape) .f32
abbrev Half := Vec Ideal (⟨2, ![8192, 1024]⟩ : Shape) .f32
abbrev HalfB := Vec Ideal (⟨2, ![8192, 1024]⟩ : Shape) .bf16
abbrev Stats := Vec Ideal (⟨2, ![8192, 1]⟩ : Shape) .f32
abbrev Gain := Vec Ideal (⟨2, ![1, 1024]⟩ : Shape) .f32

/-- Column `l` of the half that starts at column `off`. -/
def col (off : ℕ) (h : off ≤ 1024) (l : Fin 1024) : Fin 2048 := ⟨off + l.val, by have := l.isLt; omega⟩

/-- The gradient with respect to one half's rows. -/
def dO (off : ℕ) (h : off ≤ 1024) (dy : Rows) (o : Half) (r : Stats) (g : Gain) : HalfB := fun i =>
  r (ix2 (i 0) 0) * (dy (ix2 (i 0) (col off h (i 1))) * g (ix2 0 (i 1)) - o i * r (ix2 (i 0) 0) *
    (Ideal.div (∑ k : Fin 1024, dy (ix2 (i 0) (col off h k)) * g (ix2 0 k) * (o (ix2 (i 0) k) * r (ix2 (i 0) 0)))
      (Ideal.ofBits .f32 0x44800000#32)))

/-- What row `n` adds to the gradient of the half's gain. -/
def dgRow (off : ℕ) (h : off ≤ 1024) (dy : Rows) (o : Half) (r : Stats) (l : Fin 1024) (n : Fin 8192) : EReal :=
  dy (ix2 n (col off h l)) * (o (ix2 n l) * r (ix2 n 0))

/-- The gradient of the half's gain. -/
def dg (off : ℕ) (h : off ≤ 1024) (dy : Rows) (o : Half) (r : Stats) : Gain := fun i =>
  ∑ n : Fin 8192, dgRow off h dy o r (i 1) n

/-- What the block `t` adds to it. -/
def dgBlock (off : ℕ) (h : off ≤ 1024) (dy : Rows) (o : Half) (r : Stats) (l : Fin 1024) (t : ℕ) (ht : t < 32) : EReal :=
  ∑ k : Fin 256, dgRow off h dy o r l ⟨t * 256 + k.val, by have := k.isLt; omega⟩

/-- The blocks' contributions are the sum over all rows. -/
theorem sum_dgBlock {N : ℕ} (hN : N = 32) (off : ℕ) (h : off ≤ 1024) (dy : Rows) (o : Half) (r : Stats) (l : Fin 1024) :
    ∑ t : Fin N, dgBlock off h dy o r l t.val (lt_of_lt_of_eq t.isLt hN) = ∑ n : Fin 8192, dgRow off h dy o r l n := by
  subst hN
  exact Fin.sum_mul_add_fin 32 256 (dgRow off h dy o r l)

end Cert.Mixing

namespace Cert.MixBwdIdeal.RefValue

open Cert.MixBwdIdeal Cert.MixBwdIdeal.Gen Cert.MixBwdIdeal.Value Cert.Mixing

variable (m : (ℓ : Loc nD τ sig) → Buf (Elt Ideal) ℓ) (ρ : Dev nD → PrngReg)

/-- Every window's block index at each point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_11.index t = ![0, 0] ∧ win0_12.index t = ![0, 0] :=
  (by decide +kernel : ∀ t : Fin grid0.N, _)

theorem pt_lt (t : Fin cfg0.N) : t.val < 32 := lt_of_lt_of_eq t.isLt N_0

/-- The last point of the grid. -/
def last : Fin cfg0.N := ⟨31, by rw [show cfg0.N = 32 from N_0]; decide⟩

theorem final7 (c : Dev nD) : (dats m 0 c).arrAt 7 cfg0.N = dO 0 (by decide) (m ((c : Thread nD τ).loc main_arg0))
    (m ((c : Thread nD τ).loc main_arg1)) (m ((c : Thread nD τ).loc main_arg3)) (m ((c : Thread nD τ).loc main_arg5)) := by
  refine (dats m 0 c).arrAt_eq_of_covers 7 _ (by decide +kernel) fun t hf y => ?_
  blk_simp
  rw [after0_7]
  have ht := pt_lt t
  by_cases h : t.val % 32 = 0
  · rw [outsAt0_A m c t h (by omega)]
    frame_out
    pointwise [k0_pay2, k0_pay7, k0_pay6, dO, col]
    blk_point [iblk, V, idx t]
  · rw [outsAt0_B m c t h (by omega)]
    frame_out
    pointwise [k0_pay2, k0_pay7, k0_pay6, dO, col]
    blk_point [iblk, V, idx t]

theorem final8 (c : Dev nD) : (dats m 0 c).arrAt 8 cfg0.N = dO 1024 (by decide) (m ((c : Thread nD τ).loc main_arg0))
    (m ((c : Thread nD τ).loc main_arg2)) (m ((c : Thread nD τ).loc main_arg4)) (m ((c : Thread nD τ).loc main_arg6)) := by
  refine (dats m 0 c).arrAt_eq_of_covers 8 _ (by decide +kernel) fun t hf y => ?_
  blk_simp
  rw [after0_8]
  have ht := pt_lt t
  by_cases h : t.val % 32 = 0
  · rw [outsAt0_A m c t h (by omega)]
    frame_out
    pointwise [k0_pay3, k0_pay27, k0_pay26, dO, col]
    blk_point [iblk, V, idx t]
  · rw [outsAt0_B m c t h (by omega)]
    frame_out
    pointwise [k0_pay3, k0_pay27, k0_pay26, dO, col]
    blk_point [iblk, V, idx t]

/-- What the block at a point adds to the gradient of this half's gain. -/
def part11 (c : Dev nD) (l : Fin 1024) (t : Fin cfg0.N) : EReal :=
  dgBlock 0 (by decide) (m ((c : Thread nD τ).loc main_arg0)) (m ((c : Thread nD τ).loc main_arg1))
    (m ((c : Thread nD τ).loc main_arg3)) l t.val (pt_lt t)

set_option maxHeartbeats 800000 in
theorem final11 (c : Dev nD) : (dats m 0 c).arrAt 11 cfg0.N = dg 0 (by decide) (m ((c : Thread nD τ).loc main_arg0)) (m ((c : Thread nD τ).loc main_arg1))
    (m ((c : Thread nD τ).loc main_arg3)) := by
  refine (dats m 0 c).arrAt_eq_of_after_last 11 last (by decide +kernel) _ fun j => ?_
  blk_simp
  rw [after0_11]
  refine (Pipeline.eq_sum_fin_of_reset_step_last (fun n h => (outsAt0 m c n h).2.2.2.2.1 j) 32 0 (part11 m c (j 1)) ?_ ?_ (by decide) last (by decide)).trans ?_
  · intro t h
    rw [outsAt0_A m c t h (by have := pt_lt t; omega)]
    frame_out
    pointwise [k0_pay8, k0_pay6, part11, dgBlock, dgRow, col]
    refine Finset.sum_congr rfl fun k _ => ?_
    blk_point [iblk, V, idx t]
  · intro t h
    rw [outsAt0_B m c t h (by have := pt_lt t; omega)]
    frame_out
    pointwise [k0_pay4, k0_pay8, k0_pay6, part11, dgBlock, dgRow, col]
    refine congrArg (fun z : EReal => _ + z) ?_
    refine Finset.sum_congr rfl fun k _ => ?_
    blk_point [iblk, V, idx t]
  · rw [zero_add]
    exact sum_dgBlock N_0 _ _ _ _ _ (j 1)

/-- What the block at a point adds to the gradient of this half's gain. -/
def part12 (c : Dev nD) (l : Fin 1024) (t : Fin cfg0.N) : EReal :=
  dgBlock 1024 (by decide) (m ((c : Thread nD τ).loc main_arg0)) (m ((c : Thread nD τ).loc main_arg2))
    (m ((c : Thread nD τ).loc main_arg4)) l t.val (pt_lt t)

set_option maxHeartbeats 800000 in
theorem final12 (c : Dev nD) : (dats m 0 c).arrAt 12 cfg0.N = dg 1024 (by decide) (m ((c : Thread nD τ).loc main_arg0)) (m ((c : Thread nD τ).loc main_arg2))
    (m ((c : Thread nD τ).loc main_arg4)) := by
  refine (dats m 0 c).arrAt_eq_of_after_last 12 last (by decide +kernel) _ fun j => ?_
  blk_simp
  rw [after0_12]
  refine (Pipeline.eq_sum_fin_of_reset_step_last (fun n h => (outsAt0 m c n h).2.2.2.2.2 j) 32 0 (part12 m c (j 1)) ?_ ?_ (by decide) last (by decide)).trans ?_
  · intro t h
    rw [outsAt0_A m c t h (by have := pt_lt t; omega)]
    frame_out
    pointwise [k0_pay28, k0_pay26, part12, dgBlock, dgRow, col]
    refine Finset.sum_congr rfl fun k _ => ?_
    blk_point [iblk, V, idx t]
  · intro t h
    rw [outsAt0_B m c t h (by have := pt_lt t; omega)]
    frame_out
    pointwise [k0_pay5, k0_pay28, k0_pay26, part12, dgBlock, dgRow, col]
    refine congrArg (fun z : EReal => _ + z) ?_
    refine Finset.sum_congr rfl fun k _ => ?_
    blk_point [iblk, V, idx t]
  · rw [zero_add]
    exact sum_dgBlock N_0 _ _ _ _ _ (j 1)

end Cert.MixBwdIdeal.RefValue

namespace Cert.MixGradIdeal.RefValue

open Cert.MixGradIdeal Cert.Mixing

/-- The reference's results. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v15) = dO 0 (by decide) (m ((c : Thread nD τ).loc main_arg0)) (m ((c : Thread nD τ).loc main_arg1))
          (m ((c : Thread nD τ).loc main_arg3)) (m ((c : Thread nD τ).loc main_arg5))
      ∧ r.2.mem ((c.tc : Thread nD τ).loc main_v34) = dO 1024 (by decide) (m ((c : Thread nD τ).loc main_arg0)) (m ((c : Thread nD τ).loc main_arg2))
          (m ((c : Thread nD τ).loc main_arg4)) (m ((c : Thread nD τ).loc main_arg6))
      ∧ r.2.mem ((c.tc : Thread nD τ).loc main_v18) = dg 0 (by decide) (m ((c : Thread nD τ).loc main_arg0)) (m ((c : Thread nD τ).loc main_arg1))
          (m ((c : Thread nD τ).loc main_arg3))
      ∧ r.2.mem ((c.tc : Thread nD τ).loc main_v37) = dg 1024 (by decide) (m ((c : Thread nD τ).loc main_arg0)) (m ((c : Thread nD τ).loc main_arg2))
          (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2.1.trans ?_, (h c).2.2.2.1.trans ?_, (h c).2.2.2.2⟩)
    (MixGradIdeal.Value.run (F := Ideal) m g)
  · funext i
    pointwise [dO, col]
  · funext i
    pointwise [dO, col]
  · funext i
    pointwise [dg, dgRow, col]
  · funext i
    pointwise [dg, dgRow, col]

end Cert.MixGradIdeal.RefValue

namespace Cert.Mixing

theorem frame : quiescent_MixGradIdeal := fun m g _ =>
  (θ_run MixGradIdeal.defs _ _).mono (fun r h => ⟨fun c => (h c).2.2.2.2, sem_eq_zero_of_no_sems (by decide) r.2⟩)
    (MixGradIdeal.Value.run (F := Ideal) m g)

theorem algebraic : algebraic_MixBwdIdeal_MixGradIdeal := fun m g m' g' _ hm =>
  ⟨_, _, _, _, (θ_run MixBwdIdeal.defs _ _).mono (fun r h c => ⟨(h c).1.trans (MixBwdIdeal.RefValue.final7 m c),
      (h c).2.1.trans (MixBwdIdeal.RefValue.final8 m c), (h c).2.2.2.2.1.trans (MixBwdIdeal.RefValue.final11 m c),
      (h c).2.2.2.2.2.1.trans (MixBwdIdeal.RefValue.final12 m c), (h c).2.2.2.2.2.2⟩) (MixBwdIdeal.Value.run_blocks m g),
    (θ_run MixGradIdeal.defs _ _).mono (fun r h c => by
      obtain ⟨e₀, e₁, e₂, e₃, e₄, e₅, e₆⟩ := hm c
      refine ⟨(h c).1.trans ?_, (h c).2.1.trans ?_, (h c).2.2.1.trans ?_, (h c).2.2.2.1.trans ?_, (h c).2.2.2.2⟩
      · rw [e₀, e₁, e₃, e₅]
        all_goals rfl
      · rw [e₀, e₂, e₄, e₆]
        all_goals rfl
      · rw [e₀, e₁, e₃]
        all_goals rfl
      · rw [e₀, e₂, e₄]
        all_goals rfl) (MixGradIdeal.RefValue.ref_run m' g')⟩

end Cert.Mixing

end
-- ==== Proof.ProjBwd.lean ====
/-
# The gradient of the input projection's output

The call adds the three parts of each of the second branch's gradients, puts all the gradients side by side in bf16, and adds up
their columns over 32 blocks of 256 rows. Over the extended reals its results are the concatenation, and the sum of each column
over all rows, which the bias's gradient is.
-/
module

public import proofs.«01_k».proof.Defs
public import proofs.«01_k».proof.Proof.Gen.ProjBwdIdeal.Value
public import proofs.«01_k».proof.Proof.Gen.ProjGradIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Projecting

/-- The parts' gradients. -/
abbrev Half := Vec Ideal (⟨2, ![8192, 1024]⟩ : Shape) .f32
abbrev Quarter := Vec Ideal (⟨2, ![8192, 256]⟩ : Shape) .f32

variable (a : Half) (b : Quarter) (q1 q2 q3 k1 k2 k3 v1 v2 v3 : Half) (n : Fin 8192) (l : Fin 4352)

/-- The gradient at row `n` and column `l`, the columns counted piece by piece: of the first branch's queries, of its keys and
values, then the sums of the second branch's queries, keys and values. -/
def dp : EReal :=
  if h : l.val < 1024 then a (ix2 n ⟨l.val, h⟩)
  else if h : l.val - 1024 < 256 then b (ix2 n ⟨l.val - 1024, h⟩)
  else if h : l.val - 1024 - 256 < 1024 then q1 (ix2 n ⟨l.val - 1024 - 256, h⟩) + q2 (ix2 n ⟨l.val - 1024 - 256, h⟩)
    + q3 (ix2 n ⟨l.val - 1024 - 256, h⟩)
  else if h : l.val - 1024 - 256 - 1024 < 1024 then k1 (ix2 n ⟨l.val - 1024 - 256 - 1024, h⟩)
    + k2 (ix2 n ⟨l.val - 1024 - 256 - 1024, h⟩) + k3 (ix2 n ⟨l.val - 1024 - 256 - 1024, h⟩)
  else have h : l.val - 1024 - 256 - 1024 - 1024 < 1024 := by have := l.isLt; omega
    v1 (ix2 n ⟨l.val - 1024 - 256 - 1024 - 1024, h⟩) + v2 (ix2 n ⟨l.val - 1024 - 256 - 1024 - 1024, h⟩)
    + v3 (ix2 n ⟨l.val - 1024 - 256 - 1024 - 1024, h⟩)

/-- `dp` at a column of the first branch's queries; -/
theorem dp_a (k : Fin 1024) (hl : l.val = k.val) : dp a b q1 q2 q3 k1 k2 k3 v1 v2 v3 n l = a (ix2 n k) := by
  have hk := k.isLt
  unfold dp
  rw [dif_pos (by omega)]
  exact congrArg (fun z => a (ix2 n z)) (Fin.ext hl)

/-- of its keys and values; -/
theorem dp_b (k : Fin 256) (hl : l.val = 1024 + k.val) : dp a b q1 q2 q3 k1 k2 k3 v1 v2 v3 n l = b (ix2 n k) := by
  have hk := k.isLt
  unfold dp
  rw [dif_neg (by omega), dif_pos (by omega)]
  exact congrArg (fun z => b (ix2 n z)) (Fin.ext (by show l.val - 1024 = k.val; omega))

/-- of the second branch's queries; -/
theorem dp_q (k : Fin 1024) (hl : l.val = 1280 + k.val) :
    dp a b q1 q2 q3 k1 k2 k3 v1 v2 v3 n l = q1 (ix2 n k) + q2 (ix2 n k) + q3 (ix2 n k) := by
  have hk := k.isLt
  unfold dp
  rw [dif_neg (by omega), dif_neg (by omega), dif_pos (by omega)]
  exact congrArg (fun z => q1 (ix2 n z) + q2 (ix2 n z) + q3 (ix2 n z)) (Fin.ext (by show l.val - 1024 - 256 = k.val; omega))

/-- of its keys; -/
theorem dp_k (k : Fin 1024) (hl : l.val = 2304 + k.val) :
    dp a b q1 q2 q3 k1 k2 k3 v1 v2 v3 n l = k1 (ix2 n k) + k2 (ix2 n k) + k3 (ix2 n k) := by
  have hk := k.isLt
  unfold dp
  rw [dif_neg (by omega), dif_neg (by omega), dif_neg (by omega), dif_pos (by omega)]
  exact congrArg (fun z => k1 (ix2 n z) + k2 (ix2 n z) + k3 (ix2 n z)) (Fin.ext (by show l.val - 1024 - 256 - 1024 = k.val; omega))

/-- of its values. -/
theorem dp_v (k : Fin 1024) (hl : l.val = 3328 + k.val) :
    dp a b q1 q2 q3 k1 k2 k3 v1 v2 v3 n l = v1 (ix2 n k) + v2 (ix2 n k) + v3 (ix2 n k) := by
  have hk := k.isLt
  unfold dp
  rw [dif_neg (by omega), dif_neg (by omega), dif_neg (by omega), dif_neg (by omega)]
  exact congrArg (fun z => v1 (ix2 n z) + v2 (ix2 n z) + v3 (ix2 n z))
    (Fin.ext (by show l.val - 1024 - 256 - 1024 - 1024 = k.val; omega))

/-- The sum over the rows of block `s`, 256 of them; -/
def blockSum (f : Fin 8192 → EReal) (s : ℕ) (hs : s < 32) : EReal := ∑ k : Fin 256, f ⟨s * 256 + k.val, by have := k.isLt; omega⟩

/-- the blocks' sums are the sum over all rows. -/
theorem sum_blockSum {N : ℕ} (hN : N = 32) (f : Fin 8192 → EReal) :
    ∑ t : Fin N, blockSum f t.val (lt_of_lt_of_eq t.isLt hN) = ∑ n : Fin 8192, f n := by
  subst hN
  exact Fin.sum_mul_add_fin 32 256 f

end Cert.Projecting

namespace Cert.ProjBwdIdeal.RefValue

open Cert.ProjBwdIdeal Cert.ProjBwdIdeal.Gen Cert.ProjBwdIdeal.Value Cert.Projecting

variable (m : (ℓ : Loc nD τ sig) → Buf (Elt Ideal) ℓ) (ρ : Dev nD → PrngReg)

/-- Every window's block index at each point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] :=
  (by decide +kernel : ∀ t : Fin grid0.N, _)

theorem pt_lt (t : Fin cfg0.N) : t.val < 32 := lt_of_lt_of_eq t.isLt N_0

/-- The last point of the grid. -/
def last : Fin cfg0.N := ⟨31, by rw [show cfg0.N = 32 from N_0]; decide⟩

/-- The whole gradient at row `n` and column `l`, of the arguments at launch. -/
abbrev DP (c : Dev nD) (n : Fin 8192) (l : Fin 4352) : EReal := dp (m ((c : Thread nD τ).loc main_arg0))
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10)) n l

/-- Five pieces side by side, 256 rows high, read at an index: the piece whose columns hold it. -/
theorem canon11 (w4 w3 w2 w0 : S256x1024.Idx → Elt Ideal .bf16) (w1 : S256x256.Idx → Elt Ideal .bf16) (y : S256x4352.Idx) (v : Elt Ideal .bf16)
    (h4 : ∀ x : S256x1024.Idx, (y 0).val = (x 0).val → (y 1).val = 3328 + (x 1).val → w4 x = v)
    (h3 : ∀ x : S256x1024.Idx, (y 0).val = (x 0).val → (y 1).val = 2304 + (x 1).val → w3 x = v)
    (h2 : ∀ x : S256x1024.Idx, (y 0).val = (x 0).val → (y 1).val = 1280 + (x 1).val → w2 x = v)
    (h1 : ∀ x : S256x256.Idx, (y 0).val = (x 0).val → (y 1).val = 1024 + (x 1).val → w1 x = v)
    (h0 : ∀ x : S256x1024.Idx, (y 0).val = (x 0).val → (y 1).val = (x 1).val → w0 x = v) :
    View.canon (Val := Elt Ideal) [⟨Rect.unit ![0, 3328] ![256, 1024] inb_S256x4352_S256x1024_0_3328, w4⟩,
      ⟨Rect.unit ![0, 2304] ![256, 1024] inb_S256x4352_S256x1024_0_2304, w3⟩,
      ⟨Rect.unit ![0, 1280] ![256, 1024] inb_S256x4352_S256x1024_0_1280, w2⟩,
      ⟨Rect.unit ![0, 1024] ![256, 256] inb_S256x4352_S256x256_0_1024, w1⟩,
      ⟨Rect.unit ![0, 0] ![256, 1024] inb_S256x4352_S256x1024_0_0, w0⟩] y = v := by
  refine View.canon_eq_of_allAt _ _ _ (View.cover_of_tiledBy _ ![256, 256] (by sl_kernel_rfl) y) ?_
  refine View.allAt_cons_unit _ _ _ _ _ (fun x hx => h4 x ?_ ?_) (View.allAt_cons_unit _ _ _ _ _ (fun x hx => h3 x ?_ ?_)
    (View.allAt_cons_unit _ _ _ _ _ (fun x hx => h2 x ?_ ?_) (View.allAt_cons_unit _ _ _ _ _ (fun x hx => h1 x ?_ ?_)
      (View.allAt_cons_unit _ _ _ _ _ (fun x hx => h0 x ?_ ?_) (View.allAt_nil _ _)))))
  all_goals first | exact hx 1 | exact (hx 0).trans (Nat.zero_add _) | exact (hx 1).trans (Nat.zero_add _)

set_option maxHeartbeats 1600000 in
/-- The point's block of the first result, at the place of the whole it goes to. -/
theorem out11 (c : Dev nD) (t : Fin cfg0.N) (y : S256x4352.Idx) (n : Fin 8192) (l : Fin 4352) (hn : n.val = t.val * 256 + (y 0).val)
    (hl : l.val = (y 1).val) : (outsAt0 m c t.val t.isLt).1 y = DP m c n l := by
  have ht := pt_lt t
  by_cases h : t.val % 32 = 0
  on_goal 1 => rw [outsAt0_A m c t h (by omega) h (by omega) h (by omega) h (by omega) h (by omega)]
  on_goal 2 => rw [outsAt0_B m c t h (by omega) h (by omega) h (by omega) h (by omega) h (by omega)]
  all_goals
    frame_out
    refine canon11 _ _ _ _ _ y _ ?_ ?_ ?_ ?_ ?_ <;> intro x e0 e1
  all_goals
    unfold DP
    first
      | rw [dp_v _ _ _ _ _ _ _ _ _ _ _ _ _ (x 1) (hl.trans e1)]
      | rw [dp_k _ _ _ _ _ _ _ _ _ _ _ _ _ (x 1) (hl.trans e1)]
      | rw [dp_q _ _ _ _ _ _ _ _ _ _ _ _ _ (x 1) (hl.trans e1)]
      | rw [dp_b _ _ _ _ _ _ _ _ _ _ _ _ _ (x 1) (hl.trans e1)]
      | rw [dp_a _ _ _ _ _ _ _ _ _ _ _ _ _ (x 1) (hl.trans e1)]
    have e2 : n.val = t.val * 256 + (x 0).val := by rw [hn, e0]
    have hb : t.val * 256 + (x 0).val < 8192 := e2 ▸ n.isLt
    obtain rfl : n = ⟨t.val * 256 + (x 0).val, hb⟩ := Fin.ext e2
    pointwise [k0_pay1, k0_pay4, k0_pay5, k0_pay6, k0_pay7, k0_pay10, k0_pay13, k0_pay16]
    blk_point [iblk, V, idx t]

theorem final11 (c : Dev nD) : (dats m 0 c).arrAt 11 cfg0.N = fun i => DP m c (i 0) (i 1) := by
  refine (dats m 0 c).arrAt_eq_of_covers 11 _ (by decide +kernel) fun t hf y => ?_
  blk_simp
  rw [after0_11]
  refine (out11 m c t _ _ _ ?_ ?_).trans rfl
  all_goals blk_point [iblk, V, idx t]

/-- What a point adds to the sum of a column. -/
def part (c : Dev nD) (l : Fin 4352) (t : Fin cfg0.N) : EReal :=
  blockSum (fun n => DP m c n l) t.val (pt_lt t)

/-- A place of a row. -/
theorem ix2_eq (y : S1x4352.Idx) (k : ℕ) (h : k < 4352) (e : (y 1).val = k) : (ix2 (0 : Fin 1) ⟨k, h⟩ : S1x4352.Idx) = y := by
  funext a
  fin_cases a
  · exact Fin.ext (Nat.lt_one_iff.mp (y 0).isLt).symm
  · exact Fin.ext e.symm

/-- Five pieces side by side, 1 row high, read at an index: the piece whose columns hold it. -/
theorem canon12 (w4 w3 w2 w0 : S1x1024.Idx → Elt Ideal .f32) (w1 : S1x256.Idx → Elt Ideal .f32) (y : S1x4352.Idx) (v : Elt Ideal .f32)
    (h4 : ∀ x : S1x1024.Idx, (y 0).val = (x 0).val → (y 1).val = 3328 + (x 1).val → w4 x = v)
    (h3 : ∀ x : S1x1024.Idx, (y 0).val = (x 0).val → (y 1).val = 2304 + (x 1).val → w3 x = v)
    (h2 : ∀ x : S1x1024.Idx, (y 0).val = (x 0).val → (y 1).val = 1280 + (x 1).val → w2 x = v)
    (h1 : ∀ x : S1x256.Idx, (y 0).val = (x 0).val → (y 1).val = 1024 + (x 1).val → w1 x = v)
    (h0 : ∀ x : S1x1024.Idx, (y 0).val = (x 0).val → (y 1).val = (x 1).val → w0 x = v) :
    View.canon (Val := Elt Ideal) [⟨Rect.unit ![0, 3328] ![1, 1024] inb_S1x4352_S1x1024_0_3328, w4⟩,
      ⟨Rect.unit ![0, 2304] ![1, 1024] inb_S1x4352_S1x1024_0_2304, w3⟩,
      ⟨Rect.unit ![0, 1280] ![1, 1024] inb_S1x4352_S1x1024_0_1280, w2⟩,
      ⟨Rect.unit ![0, 1024] ![1, 256] inb_S1x4352_S1x256_0_1024, w1⟩,
      ⟨Rect.unit ![0, 0] ![1, 1024] inb_S1x4352_S1x1024_0_0, w0⟩] y = v := by
  refine View.canon_eq_of_allAt _ _ _ (View.cover_of_tiledBy _ ![1, 256] (by sl_kernel_rfl) y) ?_
  refine View.allAt_cons_unit _ _ _ _ _ (fun x hx => h4 x ?_ ?_) (View.allAt_cons_unit _ _ _ _ _ (fun x hx => h3 x ?_ ?_)
    (View.allAt_cons_unit _ _ _ _ _ (fun x hx => h2 x ?_ ?_) (View.allAt_cons_unit _ _ _ _ _ (fun x hx => h1 x ?_ ?_)
      (View.allAt_cons_unit _ _ _ _ _ (fun x hx => h0 x ?_ ?_) (View.allAt_nil _ _)))))
  all_goals first | exact hx 1 | exact (hx 0).trans (Nat.zero_add _) | exact (hx 1).trans (Nat.zero_add _)

set_option maxHeartbeats 800000 in
/-- The first point leaves its block's column sums; -/
theorem out12_A (c : Dev nD) (t : Fin cfg0.N) (h : t.val % 32 = 0) (y : S1x4352.Idx) :
    (outsAt0 m c t.val t.isLt).2 y = 0 + part m c (y 1) t := by
  have ht := pt_lt t
  rw [outsAt0_A m c t h (by omega) h (by omega) h (by omega) h (by omega) h (by omega)]
  frame_out
  refine canon12 _ _ _ _ _ y _ ?_ ?_ ?_ ?_ ?_ <;> intro x e0 e1
  all_goals
    rw [zero_add]
    unfold part blockSum
    pointwise [k0_pay2, k0_pay4, k0_pay5, k0_pay6, k0_pay8, k0_pay11, k0_pay14, k0_pay17]
    refine Finset.sum_congr rfl fun k _ => ?_
    first
        | refine Eq.trans ?_ (dp_v _ _ _ _ _ _ _ _ _ _ _ _ _ (x 1) e1).symm
        | refine Eq.trans ?_ (dp_k _ _ _ _ _ _ _ _ _ _ _ _ _ (x 1) e1).symm
        | refine Eq.trans ?_ (dp_q _ _ _ _ _ _ _ _ _ _ _ _ _ (x 1) e1).symm
        | refine Eq.trans ?_ (dp_b _ _ _ _ _ _ _ _ _ _ _ _ _ (x 1) e1).symm
        | refine Eq.trans ?_ (dp_a _ _ _ _ _ _ _ _ _ _ _ _ _ (x 1) e1).symm
    blk_point [iblk, V, idx t]

set_option maxHeartbeats 800000 in
/-- a later one adds its own to what the point before left. -/
theorem out12_B (c : Dev nD) (t : Fin cfg0.N) (h : ¬t.val % 32 = 0) (y : S1x4352.Idx) :
    (outsAt0 m c t.val t.isLt).2 y = (outsAt0 m c (t.val - 1) (lt_of_le_of_lt (Nat.sub_le _ _) t.isLt)).2 y + part m c (y 1) t := by
  have ht := pt_lt t
  rw [outsAt0_B m c t h (by omega) h (by omega) h (by omega) h (by omega) h (by omega)]
  frame_out
  refine canon12 _ _ _ _ _ y _ ?_ ?_ ?_ ?_ ?_ <;> intro x e0 e1
  all_goals
    unfold part blockSum
    pointwise [k0_pay2, k0_pay3, k0_pay4, k0_pay5, k0_pay6, k0_pay8, k0_pay9, k0_pay11, k0_pay12, k0_pay14, k0_pay15, k0_pay17, k0_pay18]
    refine congrArg₂ (fun a b : EReal => a + b) (congrArg _ (ix2_eq y _ _ e1)) (Finset.sum_congr rfl fun k _ => ?_)
    first
        | refine Eq.trans ?_ (dp_v _ _ _ _ _ _ _ _ _ _ _ _ _ (x 1) e1).symm
        | refine Eq.trans ?_ (dp_k _ _ _ _ _ _ _ _ _ _ _ _ _ (x 1) e1).symm
        | refine Eq.trans ?_ (dp_q _ _ _ _ _ _ _ _ _ _ _ _ _ (x 1) e1).symm
        | refine Eq.trans ?_ (dp_b _ _ _ _ _ _ _ _ _ _ _ _ _ (x 1) e1).symm
        | refine Eq.trans ?_ (dp_a _ _ _ _ _ _ _ _ _ _ _ _ _ (x 1) e1).symm
    blk_point [iblk, V, idx t]

theorem final12 (c : Dev nD) : (dats m 0 c).arrAt 12 cfg0.N = fun i => ∑ n : Fin 8192, DP m c n (i 1) := by
  refine (dats m 0 c).arrAt_eq_of_after_last 12 last (by decide +kernel) _ fun j => ?_
  blk_simp
  rw [after0_12]
  refine (Pipeline.eq_sum_fin_of_reset_step_last (fun n h => (outsAt0 m c n h).2 j) 32 0 (part m c (j 1)) ?_ ?_ (by decide) last (by decide)).trans ?_
  · intro t h
    exact out12_A m c t h j
  · intro t h
    exact out12_B m c t h j
  · rw [zero_add]
    exact sum_blockSum N_0 _

end Cert.ProjBwdIdeal.RefValue

namespace Cert.Projecting

theorem frame : quiescent_ProjGradIdeal := fun m g _ =>
  (θ_run ProjGradIdeal.defs _ _).mono (fun r h => ⟨fun c => (h c).2.2, sem_eq_zero_of_no_sems (by decide) r.2⟩)
    (ProjGradIdeal.Value.run (F := Ideal) m g)

theorem algebraic : algebraic_ProjBwdIdeal_ProjGradIdeal := fun m g m' g' _ hm =>
  ⟨_, _, (θ_run ProjBwdIdeal.defs _ _).mono (fun r h c => ⟨(h c).1.trans (ProjBwdIdeal.RefValue.final11 m c),
      (h c).2.1.trans (ProjBwdIdeal.RefValue.final12 m c), (h c).2.2⟩) (ProjBwdIdeal.Value.run_blocks m g),
    (θ_run ProjGradIdeal.defs _ _).mono (fun r h c => by
      obtain ⟨e₀, e₁, e₂, e₃, e₄, e₅, e₆, e₇, e₈, e₉, e₁₀⟩ := hm c
      refine ⟨(h c).1.trans ?_, (h c).2.1.trans ?_, (h c).2.2⟩
      all_goals
        rw [e₀, e₁, e₂, e₃, e₄, e₅, e₆, e₇, e₈, e₉, e₁₀]
        funext i
        pointwise [ProjBwdIdeal.RefValue.DP, dp]) (ProjGradIdeal.Value.run (F := Ideal) m' g')⟩

end Cert.Projecting

end
-- ==== Proof.Weights.lean ====
/-
# The gradients of the weight matrices

Each of the four calls multiplies the activations' transpose by the cotangent, 512 tokens at a time, and adds the products up in
a scratch before it writes a block of the gradient back. Over the extended reals the sum over the sixteen runs of 512 tokens is
the sum over all tokens, which the product of the whole matrices is.
-/
module

public import proofs.«01_k».proof.Defs
public import proofs.«01_k».proof.Proof.Gen.OutProjDwIdeal.Value
public import proofs.«01_k».proof.Proof.Gen.OutProjGradIdeal.Run
public import proofs.«01_k».proof.Proof.Gen.InProjDwIdeal.Value
public import proofs.«01_k».proof.Proof.Gen.InProjGradIdeal.Run
public import proofs.«01_k».proof.Proof.Gen.MlpDownDwIdeal.Value
public import proofs.«01_k».proof.Proof.Gen.MlpDownGradIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Weights

variable {M N : ℕ}

/-- A row of numbers for each token, and the gradient of a matrix. -/
abbrev Toks (M : ℕ) := Vec Ideal (⟨2, ![8192, M]⟩ : Shape) .bf16
abbrev Grads (M N : ℕ) := Vec Ideal (⟨2, ![M, N]⟩ : Shape) .f32

/-- The gradient of the weights. -/
def dw (a : Toks M) (b : Toks N) : Grads M N := fun i => ∑ n : Fin 8192, a (ix2 n (i 0)) * b (ix2 n (i 1))

/-- The squares, element by element. -/
def squares (a : Toks M) : Toks M := fun i => a i * a i

/-- The gradient with its columns cut in four, one part under another. -/
def dwc (a : Toks 2048) (b : Toks 8192) : Vec Ideal (⟨3, ![4, 2048, 2048]⟩ : Shape) .f32 := fun i =>
  dw a b (ix2 (i 1) ⟨(i 0).val * 2048 + (i 2).val, by
    have h0 : (i 0).val < 4 := (i 0).isLt
    have h2 : (i 2).val < 2048 := (i 2).isLt
    omega⟩)

end Cert.Weights

open Cert.Weights

/-! ## The output projection -/

namespace Cert.OutProjDwIdeal

open Gen Value

variable (m : (ℓ : Loc nD τ sig) → Buf (Elt Ideal) ℓ)

theorem idx : ∀ t : Fin cfg0.N, win0_0.index t = ![t.val % 16, t.val / 16] ∧ win0_1.index t = ![t.val % 16, 0]
    ∧ win0_2.index t = ![t.val / 16, 0] :=
  (by decide +kernel : ∀ t : Fin grid0.N, _)

/-- What the scratch holds after a run's last point: the sum over all tokens. -/
theorem scratch_eq (c : Dev nD) (t : Fin cfg0.N) (hr : t.val % 16 = 15) (j : S1024x2048.Idx) : (outsAt0 m c t.val t.isLt).2 j =
    dw (m ((c : Thread nD τ).loc main_arg0)) (m ((c : Thread nD τ).loc main_arg1))
      (ix2 (⟨t.val / 16 * 1024 + (j 0).val, by have : (j 0).val < 1024 := (j 0).isLt; have := lt_of_lt_of_eq t.isLt N_0; omega⟩ : Fin 2048)
        (⟨(j 1).val, by have : (j 1).val < 2048 := (j 1).isLt; omega⟩ : Fin 2048)) := by
  refine (Pipeline.eq_sum_fin_of_reset_step_of_flush (M := EReal) (fun n h => (outsAt0 m c n h).2 j) 16 0
    (fun u => k0_pay1 (F := Ideal) (iblk m c 0 u) (iblk m c 1 u) j) ?_ ?_ t hr).trans ?_
  · intro u h
    rw [outsAt0_A m c u h (by omega) (by omega)]
    frame_out
    pointwise [k0_pay2, k0_pay1]
  · intro u h
    by_cases h' : u.val % 16 = 15
    on_goal 1 => rw [outsAt0_C m c u h (by omega) h']
    on_goal 2 => rw [outsAt0_B m c u h (by omega) h']
    all_goals
      frame_out
      pointwise [k0_pay3]
      refine congrArg (fun y : EReal => y + _) (congrFun ((Memref.isWhole_whole _ : scM0_0.IsWhole).read_unread _) j)
  · rw [zero_add]
    pointwise [k0_pay1, dw]
    refine Fin.sum_mul_add_congr fun s k hl => ?_
    blk_point [iblk, V, idx]

theorem final (c : Dev nD) : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  have hr : t.val % 16 = 15 := (flush0_2 t).mp hf
  blk_simp
  have out (j) : (outsAt0 m c t.val t.isLt).1 j = (outsAt0 m c t.val t.isLt).2 j := by
    rw [outsAt0_C m c t (by omega) (by omega) hr]
    frame_out
  rw [after0_2, out, scratch_eq m c t hr]
  unfold dw
  blk_point [iblk, V, idx t]

end Cert.OutProjDwIdeal

theorem Cert.Weights.frame_OutProjGrad : quiescent_OutProjGradIdeal := fun m g _ =>
  (θ_run OutProjGradIdeal.defs _ _).mono (fun r h => ⟨fun c => (h c).2, sem_eq_zero_of_no_sems (by decide) r.2⟩)
    (OutProjGradIdeal.Value.run (F := Ideal) m g)

theorem Cert.Weights.outProjDw : algebraic_OutProjDwIdeal_OutProjGradIdeal := fun m g m' g' _ hm =>
  ⟨_, (θ_run OutProjDwIdeal.defs _ _).mono (fun r h c => ⟨(h c).1.trans (OutProjDwIdeal.final m c), (h c).2⟩)
      (OutProjDwIdeal.Value.run_blocks m g),
    (θ_run OutProjGradIdeal.defs _ _).mono (fun r h c => by
      obtain ⟨e₀, e₁⟩ := hm c
      refine ⟨(h c).1.trans ?_, (h c).2⟩
      rw [e₀, e₁]
      funext i
      pointwise [dw]) (OutProjGradIdeal.Value.run (F := Ideal) m' g')⟩

/-! ## The input projection, transposed -/

namespace Cert.InProjDwIdeal

open Gen Value

variable (m : (ℓ : Loc nD τ sig) → Buf (Elt Ideal) ℓ)

theorem idx : ∀ t : Fin cfg0.N, win0_0.index t = ![t.val % 16, t.val / 16 / 2] ∧ win0_1.index t = ![t.val % 16, t.val / 16 % 2]
    ∧ win0_2.index t = ![t.val / 16 / 2, t.val / 16 % 2] :=
  (by decide +kernel : ∀ t : Fin grid0.N, _)

/-- What the scratch holds after a run's last point: the sum over all tokens. -/
theorem scratch_eq (c : Dev nD) (t : Fin cfg0.N) (hr : t.val % 16 = 15) (j : S2176x1024.Idx) : (outsAt0 m c t.val t.isLt).2 j =
    dw (m ((c : Thread nD τ).loc main_arg0)) (m ((c : Thread nD τ).loc main_arg1))
      (ix2 (⟨t.val / 16 / 2 * 2176 + (j 0).val, by have : (j 0).val < 2176 := (j 0).isLt; have := lt_of_lt_of_eq t.isLt N_0; omega⟩ : Fin 4352)
        (⟨t.val / 16 % 2 * 1024 + (j 1).val, by have : (j 1).val < 1024 := (j 1).isLt; omega⟩ : Fin 2048)) := by
  refine (Pipeline.eq_sum_fin_of_reset_step_of_flush (M := EReal) (fun n h => (outsAt0 m c n h).2 j) 16 0
    (fun u => k0_pay1 (F := Ideal) (iblk m c 0 u) (iblk m c 1 u) j) ?_ ?_ t hr).trans ?_
  · intro u h
    rw [outsAt0_A m c u h (by omega) (by omega)]
    frame_out
    pointwise [k0_pay2, k0_pay1]
  · intro u h
    by_cases h' : u.val % 16 = 15
    on_goal 1 => rw [outsAt0_C m c u h (by omega) h']
    on_goal 2 => rw [outsAt0_B m c u h (by omega) h']
    all_goals
      frame_out
      pointwise [k0_pay3]
      refine congrArg (fun y : EReal => y + _) (congrFun ((Memref.isWhole_whole _ : scM0_0.IsWhole).read_unread _) j)
  · rw [zero_add]
    pointwise [k0_pay1, dw]
    refine Fin.sum_mul_add_congr fun s k hl => ?_
    blk_point [iblk, V, idx]

theorem final (c : Dev nD) : (dats m 0 c).arrAt 2 cfg0.N = dw (m ((c : Thread nD τ).loc main_arg0)) (m ((c : Thread nD τ).loc main_arg1)) := by
  refine (dats m 0 c).arrAt_eq_of_covers 2 _ (by decide +kernel) fun t hf y => ?_
  have hr : t.val % 16 = 15 := (flush0_2 t).mp hf
  blk_simp
  have out (j) : (outsAt0 m c t.val t.isLt).1 j = (outsAt0 m c t.val t.isLt).2 j := by
    rw [outsAt0_C m c t (by omega) (by omega) hr]
    frame_out
  rw [after0_2, out, scratch_eq m c t hr]
  unfold dw
  blk_point [iblk, V, idx t]

end Cert.InProjDwIdeal

theorem Cert.Weights.frame_InProjGrad : quiescent_InProjGradIdeal := fun m g _ =>
  (θ_run InProjGradIdeal.defs _ _).mono (fun r h => ⟨fun c => (h c).2, sem_eq_zero_of_no_sems (by decide) r.2⟩)
    (InProjGradIdeal.Value.run (F := Ideal) m g)

theorem Cert.Weights.inProjDw : algebraic_InProjDwIdeal_InProjGradIdeal := fun m g m' g' _ hm =>
  ⟨_, (θ_run InProjDwIdeal.defs _ _).mono (fun r h c => ⟨(h c).1.trans (InProjDwIdeal.final m c), (h c).2⟩)
      (InProjDwIdeal.Value.run_blocks m g),
    (θ_run InProjGradIdeal.defs _ _).mono (fun r h c => by
      obtain ⟨e₀, e₁⟩ := hm c
      refine ⟨(h c).1.trans ?_, (h c).2⟩
      rw [e₀, e₁]
      funext i
      pointwise [dw]) (InProjGradIdeal.Value.run (F := Ideal) m' g')⟩

/-! ## The second MLP weight, from the activations before they are squared -/

namespace Cert.MlpDownDwIdeal

open Gen Value

variable (m : (ℓ : Loc nD τ sig) → Buf (Elt Ideal) ℓ)

theorem idx : ∀ t : Fin cfg0.N, win0_0.index t = ![t.val % 16, t.val / 16] ∧ win0_1.index t = ![t.val % 16, 0]
    ∧ win0_2.index t = ![t.val / 16, 0] :=
  (by decide +kernel : ∀ t : Fin grid0.N, _)

/-- What the scratch holds after a run's last point: the sum over all tokens. -/
theorem scratch_eq (c : Dev nD) (t : Fin cfg0.N) (hr : t.val % 16 = 15) (j : S1024x2048.Idx) : (outsAt0 m c t.val t.isLt).2 j =
    dw (squares (m ((c : Thread nD τ).loc main_arg0))) (m ((c : Thread nD τ).loc main_arg1))
      (ix2 (⟨t.val / 16 * 1024 + (j 0).val, by have : (j 0).val < 1024 := (j 0).isLt; have := lt_of_lt_of_eq t.isLt N_0; omega⟩ : Fin 8192)
        (⟨(j 1).val, by have : (j 1).val < 2048 := (j 1).isLt; omega⟩ : Fin 2048)) := by
  refine (Pipeline.eq_sum_fin_of_reset_step_of_flush (M := EReal) (fun n h => (outsAt0 m c n h).2 j) 16 0
    (fun u => k0_pay1 (F := Ideal) (iblk m c 0 u) (iblk m c 1 u) j) ?_ ?_ t hr).trans ?_
  · intro u h
    rw [outsAt0_A m c u h (by omega) (by omega)]
    frame_out
    pointwise [k0_pay2, k0_pay1]
  · intro u h
    by_cases h' : u.val % 16 = 15
    on_goal 1 => rw [outsAt0_C m c u h (by omega) h']
    on_goal 2 => rw [outsAt0_B m c u h (by omega) h']
    all_goals
      frame_out
      pointwise [k0_pay3]
      refine congrArg (fun y : EReal => y + _) (congrFun ((Memref.isWhole_whole _ : scM0_0.IsWhole).read_unread _) j)
  · rw [zero_add]
    pointwise [k0_pay1, dw, squares]
    refine Fin.sum_mul_add_congr fun s k hl => ?_
    blk_point [iblk, V, idx]

theorem final (c : Dev nD) : (dats m 0 c).arrAt 2 cfg0.N = dw (squares (m ((c : Thread nD τ).loc main_arg0))) (m ((c : Thread nD τ).loc main_arg1)) := by
  refine (dats m 0 c).arrAt_eq_of_covers 2 _ (by decide +kernel) fun t hf y => ?_
  have hr : t.val % 16 = 15 := (flush0_2 t).mp hf
  blk_simp
  have out (j) : (outsAt0 m c t.val t.isLt).1 j = (outsAt0 m c t.val t.isLt).2 j := by
    rw [outsAt0_C m c t (by omega) (by omega) hr]
    frame_out
  rw [after0_2, out, scratch_eq m c t hr]
  unfold dw
  blk_point [iblk, V, idx t]

end Cert.MlpDownDwIdeal

theorem Cert.Weights.frame_MlpDownGrad : quiescent_MlpDownGradIdeal := fun m g _ =>
  (θ_run MlpDownGradIdeal.defs _ _).mono (fun r h => ⟨fun c => (h c).2, sem_eq_zero_of_no_sems (by decide) r.2⟩)
    (MlpDownGradIdeal.Value.run (F := Ideal) m g)

theorem Cert.Weights.mlpDownDw : algebraic_MlpDownDwIdeal_MlpDownGradIdeal := fun m g m' g' _ hm =>
  ⟨_, (θ_run MlpDownDwIdeal.defs _ _).mono (fun r h c => ⟨(h c).1.trans (MlpDownDwIdeal.final m c), (h c).2⟩)
      (MlpDownDwIdeal.Value.run_blocks m g),
    (θ_run MlpDownGradIdeal.defs _ _).mono (fun r h c => by
      obtain ⟨e₀, e₁⟩ := hm c
      refine ⟨(h c).1.trans ?_, (h c).2⟩
      rw [e₀, e₁]
      funext i
      pointwise [dw, squares]) (MlpDownGradIdeal.Value.run (F := Ideal) m' g')⟩

end
-- ==== Proof.MlpUpDw.lean ====
/-
# The gradient of the first MLP weight

The call of `Weights.lean` whose result is kept with its columns cut in four.
-/
module

public import proofs.«01_k».proof.Defs
public import proofs.«01_k».proof.Proof.Gen.MlpUpDwIdeal.Value
public import proofs.«01_k».proof.Proof.Gen.MlpUpGradIdeal.Run
public import Idealize.ShloMosaic.Lib.Pipeline.ValueKit
public import proofs.«01_k».proof.Proof.Weights
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

open Cert.Weights

namespace Cert.MlpUpDwIdeal

open Gen Value

variable (m : (ℓ : Loc nD τ sig) → Buf (Elt Ideal) ℓ)

theorem idx : ∀ t : Fin cfg0.N, win0_0.index t = ![t.val % 16, t.val / 16 / 4] ∧ win0_1.index t = ![t.val % 16, t.val / 16 % 4]
    ∧ win0_2.index t = ![t.val / 16 % 4, t.val / 16 / 4, 0] :=
  (by decide +kernel : ∀ t : Fin grid0.N, _)

/-- What the scratch holds after a run's last point: the sum over all tokens. -/
theorem scratch_eq (c : Dev nD) (t : Fin cfg0.N) (hr : t.val % 16 = 15) (j : S1024x2048.Idx) : (outsAt0 m c t.val t.isLt).2 j =
    dw (m ((c : Thread nD τ).loc main_arg0)) (m ((c : Thread nD τ).loc main_arg1))
      (ix2 (⟨t.val / 16 / 4 * 1024 + (j 0).val, by have : (j 0).val < 1024 := (j 0).isLt; have := lt_of_lt_of_eq t.isLt N_0; omega⟩ : Fin 2048)
        (⟨t.val / 16 % 4 * 2048 + (j 1).val, by have : (j 1).val < 2048 := (j 1).isLt; omega⟩ : Fin 8192)) := by
  refine (Pipeline.eq_sum_fin_of_reset_step_of_flush (M := EReal) (fun n h => (outsAt0 m c n h).2 j) 16 0
    (fun u => k0_pay1 (F := Ideal) (iblk m c 0 u) (iblk m c 1 u) j) ?_ ?_ t hr).trans ?_
  · intro u h
    rw [outsAt0_A m c u h (by omega) (by omega)]
    frame_out
    pointwise [k0_pay2, k0_pay1]
  · intro u h
    by_cases h' : u.val % 16 = 15
    on_goal 1 => rw [outsAt0_C m c u h (by omega) h']
    on_goal 2 => rw [outsAt0_B m c u h (by omega) h']
    all_goals
      frame_out
      pointwise [k0_pay3]
      refine congrArg (fun y : EReal => y + _) (congrFun ((Memref.isWhole_whole _ : scM0_0.IsWhole).read_unread _) j)
  · rw [zero_add]
    pointwise [k0_pay1, dw]
    refine Fin.sum_mul_add_congr fun s k hl => ?_
    blk_point [iblk, V, idx]

/-- The block written, at the place of the result it goes to. -/
theorem out_dwc (c : Dev nD) (t : Fin cfg0.N) (hr : t.val % 16 = 15) (y : S1x1024x2048.Idx) (i : (⟨3, ![4, 2048, 2048]⟩ : Shape).Idx)
    (h0 : (i 0).val = t.val / 16 % 4) (h1 : (i 1).val = t.val / 16 / 4 * 1024 + (y 1).val) (h2 : (i 2).val = (y 2).val) :
    (outsAt0 m c t.val t.isLt).1 y = dwc (m ((c : Thread nD τ).loc main_arg0)) (m ((c : Thread nD τ).loc main_arg1)) i := by
  have out : (outsAt0 m c t.val t.isLt).1 y = (outsAt0 m c t.val t.isLt).2 (ix2 (y 1) (y 2)) := by
    rw [outsAt0_C m c t (by omega) (by omega) hr]
    frame_out
    pointwise [k0_pay4, k0_pay3, k0_pay1]
  rw [out, scratch_eq m c t hr]
  refine congrArg (dw _ _) (congrArg₂ ix2 (Fin.ext h1.symm) (Fin.ext ?_))
  show t.val / 16 % 4 * 2048 + (y 2).val = (i 0).val * 2048 + (i 2).val
  rw [h0, h2]

theorem final (c : Dev nD) : (dats m 0 c).arrAt 2 cfg0.N =
    dwc (m ((c : Thread nD τ).loc main_arg0)) (m ((c : Thread nD τ).loc main_arg1)) := by
  refine (dats m 0 c).arrAt_eq_of_covers 2 _ (by decide +kernel) fun t hf y => ?_
  have hr : t.val % 16 = 15 := (flush0_2 t).mp hf
  blk_simp
  rw [after0_2]
  refine (out_dwc m c t hr _ _ ?_ ?_ ?_).trans rfl
  all_goals blk_point [iblk, V, idx t]

end Cert.MlpUpDwIdeal

theorem Cert.Weights.frame_MlpUpGrad : quiescent_MlpUpGradIdeal := fun m g _ =>
  (θ_run MlpUpGradIdeal.defs _ _).mono (fun r h => ⟨fun c => (h c).2, sem_eq_zero_of_no_sems (by decide) r.2⟩)
    (MlpUpGradIdeal.Value.run (F := Ideal) m g)

theorem Cert.Weights.mlpUpDw : algebraic_MlpUpDwIdeal_MlpUpGradIdeal := fun m g m' g' _ hm =>
  ⟨_, (θ_run MlpUpDwIdeal.defs _ _).mono (fun r h c => ⟨(h c).1.trans (MlpUpDwIdeal.final m c), (h c).2⟩)
      (MlpUpDwIdeal.Value.run_blocks m g),
    (θ_run MlpUpGradIdeal.defs _ _).mono (fun r h c => by
      obtain ⟨e₀, e₁⟩ := hm c
      refine ⟨(h c).1.trans ?_, (h c).2⟩
      rw [e₀, e₁]
      funext i
      pointwise [dwc, dw]) (MlpUpGradIdeal.Value.run (F := Ideal) m' g')⟩

end
-- ==== Proof.NormFwd.lean ====
/-
# The norms

The rows, scaled by their reciprocal root mean squares and the gain, and these statistics, block of rows by block of rows.
-/
module

public import proofs.«01_k».proof.Defs
public import proofs.«01_k».proof.Proof.Gen.NormAIdeal.Value
public import proofs.«01_k».proof.Proof.Gen.NormMIdeal.Value
public import proofs.«01_k».proof.Proof.Gen.NormRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormRefIdeal

/-- A row's reciprocal root mean square. -/
def stat (x : Vec Ideal S8192x2048 .f32) : Vec Ideal S8192x1 .f32 := fun i =>
  Ideal.rsqrt (Ideal.div (∑ k : Fin 2048, x (ix2 (i 0) k) * x (ix2 (i 0) k)) (Ideal.ofBits .f32 0x45000000#32) + Ideal.ofBits .f32 0x3727C5AC#32)

/-- The rows after the norm. -/
def rows (x : Vec Ideal S8192x2048 .f32) (g : Vec Ideal S1x2048 .f32) : Vec Ideal S8192x2048 .bf16 := fun i =>
  x i * stat x (ix2 (i 0) 0) * g (ix2 0 (i 1))

theorem frame : Cert.quiescent_NormRefIdeal := fun m g _ =>
  (θ_run defs _ _).mono (fun r h => ⟨fun c => (h c).2.2, sem_eq_zero_of_no_sems (by decide) r.2⟩) (Value.run (F := Ideal) m g)

end Cert.NormRefIdeal

open Cert.NormRefIdeal (stat rows)

namespace Cert.NormAIdeal

open Gen Value

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem final2 (c : Dev nD) : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay2, k0_pay1, rows, stat]
  blk_point [iblk, V, idx t]

theorem final3 (c : Dev nD) : (dats m 0 c).arrAt 3 cfg0.N = stat (m ((c : Thread nD τ).loc main_arg0)) := by
  refine (dats m 0 c).arrAt_eq_of_covers 3 _ (by decide +kernel) fun t hf y => ?_
  blk_simp
  rw [after0_3]
  frame_out
  pointwise [k0_pay1, stat]
  blk_point [iblk, V, idx t]

end Cert.NormAIdeal

theorem Cert.NormAIdeal.value : Cert.algebraic_NormAIdeal_NormRefIdeal := fun m g m' g' _ hm =>
  ⟨_, _, (θ_run defs _ _).mono (fun r h c => ⟨(h c).1.trans (final2 m c), (h c).2.1.trans (final3 m c), (h c).2.2⟩) (Value.run_blocks m g),
    (θ_run NormRefIdeal.defs _ _).mono (fun r h c => by
      obtain ⟨e₀, e₁⟩ := hm c
      refine ⟨(h c).1.trans ?_, (h c).2.1.trans ?_, (h c).2.2⟩
      all_goals first | rw [e₀, e₁] | rw [e₀]
      all_goals
        funext i
        pointwise [rows, stat]) (NormRefIdeal.Value.run (F := Ideal) m' g')⟩

/-- The other norm's call has the same kernel, -/
theorem Cert.NormMIdeal.kernels_eq : NormMIdeal.defs₀ (F := Ideal) = NormAIdeal.defs₀ (F := Ideal) := by
  unfold NormMIdeal.defs₀ NormAIdeal.defs₀
  refine congrArg Defs.onTc ?_
  funext l a
  match l, a with
  | 0, (t, s) => rfl

/-- so the same results. -/
theorem Cert.NormMIdeal.value : Cert.algebraic_NormMIdeal_NormRefIdeal := fun m g m' g' p hm => by
  rw [show NormMIdeal.defs (F := Ideal) = NormAIdeal.defs (F := Ideal) from congrArg (Pipeline.defs (NormAIdeal.pcfgs (F := Ideal))) kernels_eq]
  exact NormAIdeal.value m g m' g' p hm

end
-- ==== Proof.Forward.lean ====
/-
# The products of the forward pass and of the inputs' gradients

Each call multiplies blocks of rows by blocks of columns. Put together, the blocks are the product of the whole matrices.
-/
module

public import proofs.«01_k».proof.Defs
public import proofs.«01_k».proof.Proof.Gen.ProjQaIdeal.Value
public import proofs.«01_k».proof.Proof.Gen.QueriesAIdeal.Run
public import proofs.«01_k».proof.Proof.Gen.ProjKvaIdeal.Value
public import proofs.«01_k».proof.Proof.Gen.KeysValuesAIdeal.Run
public import proofs.«01_k».proof.Proof.Gen.ProjQbIdeal.Value
public import proofs.«01_k».proof.Proof.Gen.QueriesBIdeal.Run
public import proofs.«01_k».proof.Proof.Gen.ProjKbIdeal.Value
public import proofs.«01_k».proof.Proof.Gen.KeysBIdeal.Run
public import proofs.«01_k».proof.Proof.Gen.ProjVbIdeal.Value
public import proofs.«01_k».proof.Proof.Gen.ValuesBIdeal.Run
public import proofs.«01_k».proof.Proof.Gen.OutProjIdeal.Value
public import proofs.«01_k».proof.Proof.Gen.OutputIdeal.Run
public import proofs.«01_k».proof.Proof.Gen.MlpUpIdeal.Value
public import proofs.«01_k».proof.Proof.Gen.FirstLayerIdeal.Run
public import proofs.«01_k».proof.Proof.Gen.MlpDownDxIdeal.Value
public import proofs.«01_k».proof.Proof.Gen.SecondGradIdeal.Run
public import proofs.«01_k».proof.Proof.Gen.OutProjDxIdeal.Value
public import proofs.«01_k».proof.Proof.Gen.OutputGradIdeal.Run
public import proofs.«01_k».proof.Proof.Gen.InProjDxIdeal.Value
public import proofs.«01_k».proof.Proof.Gen.InputGradIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Products

/-- A matrix. -/
abbrev Mat (M N : ℕ) (e : EltTy) := Vec Ideal (⟨2, ![M, N]⟩ : Shape) e

variable {M K N : ℕ}

/-- The product of two matrices, and that with the second one transposed. -/
def nn (a : Mat M K .bf16) (b : Mat K N .bf16) : Mat M N .f32 := fun i => ∑ k : Fin K, a (ix2 (i 0) k) * b (ix2 k (i 1))
def nt (a : Mat M K .bf16) (b : Mat N K .bf16) : Mat M N .f32 := fun i => ∑ k : Fin K, a (ix2 (i 0) k) * b (ix2 (i 1) k)

/-- The first MLP weight, which is kept with its columns cut in four, as a matrix. -/
def whole (w : Vec Ideal (⟨3, ![4, 2048, 2048]⟩ : Shape) .bf16) : Mat 2048 8192 .bf16 := fun i =>
  w (ix3 ⟨(i 1).val / 2048, by have : (i 1).val < 8192 := (i 1).isLt; omega⟩ (i 0) ⟨(i 1).val % 2048, Nat.mod_lt _ (by decide)⟩)

/-- The columns from `o` of the input projection's output. -/
def proj (o : ℕ) (ho : o + N ≤ 4352) (h : Mat 8192 2048 .bf16) (w : Mat 4352 2048 .bf16) (b : Mat 1 4352 .f32) : Mat 8192 N .bf16 :=
  fun i => (∑ k : Fin 2048, h (ix2 (i 0) k) * w (ix2 ⟨o + (i 1).val, by have : (i 1).val < N := (i 1).isLt; omega⟩ k))
    + b (ix2 0 ⟨o + (i 1).val, by have : (i 1).val < N := (i 1).isLt; omega⟩)

end Cert.Products

open Cert.Products

namespace Cert.ProjQaIdeal

open Gen Value

variable (m : (ℓ : Loc nD τ sig) → Buf (Elt Ideal) ℓ)

theorem idx : ∀ t : Fin cfg0.N, win0_0.index t = ![t.val / 4, 0] ∧ win0_1.index t = ![t.val % 4, 0] ∧ win0_2.index t = ![0, t.val % 4] ∧ win0_3.index t = ![t.val / 4, t.val % 4] :=
  (by decide +kernel : ∀ t : Fin grid0.N, _)

theorem final (c : Dev nD) : (dats m 0 c).arrAt 3 cfg0.N = proj (N := 1024) 0 (by decide) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, proj]
  refine congrArg₂ (fun y z : EReal => y + z) (Finset.sum_congr rfl fun k _ => ?_) ?_
  all_goals blk_point [iblk, V, idx t]

end Cert.ProjQaIdeal

theorem Cert.QueriesAIdeal.frame : quiescent_QueriesAIdeal := fun m g _ =>
  (θ_run defs _ _).mono (fun r h => ⟨fun c => (h c).2, sem_eq_zero_of_no_sems (by decide) r.2⟩) (Value.run (F := Ideal) m g)

theorem Cert.ProjQaIdeal.value : algebraic_ProjQaIdeal_QueriesAIdeal := fun m g m' g' _ hm =>
  ⟨_, (θ_run defs _ _).mono (fun r h c => ⟨(h c).1.trans (final m c), (h c).2⟩) (Value.run_blocks m g),
    (θ_run QueriesAIdeal.defs _ _).mono (fun r h c => by
      obtain ⟨e₀, e₁, e₂⟩ := hm c
      refine ⟨(h c).1.trans ?_, (h c).2⟩
      rw [e₀, e₁, e₂]
      funext i
      pointwise [proj]) (QueriesAIdeal.Value.run (F := Ideal) m' g')⟩

namespace Cert.ProjKvaIdeal

open Gen Value

variable (m : (ℓ : Loc nD τ sig) → Buf (Elt Ideal) ℓ)

theorem idx : ∀ t : Fin cfg0.N, win0_0.index t = ![t.val, 0] ∧ win0_1.index t = ![4, 0] ∧ win0_2.index t = ![0, 4] ∧ win0_3.index t = ![t.val, 0] :=
  (by decide +kernel : ∀ t : Fin grid0.N, _)

theorem final (c : Dev nD) : (dats m 0 c).arrAt 3 cfg0.N = proj (N := 256) 1024 (by decide) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, proj]
  refine congrArg₂ (fun y z : EReal => y + z) (Finset.sum_congr rfl fun k _ => ?_) ?_
  all_goals blk_point [iblk, V, idx t]

end Cert.ProjKvaIdeal

theorem Cert.KeysValuesAIdeal.frame : quiescent_KeysValuesAIdeal := fun m g _ =>
  (θ_run defs _ _).mono (fun r h => ⟨fun c => (h c).2, sem_eq_zero_of_no_sems (by decide) r.2⟩) (Value.run (F := Ideal) m g)

theorem Cert.ProjKvaIdeal.value : algebraic_ProjKvaIdeal_KeysValuesAIdeal := fun m g m' g' _ hm =>
  ⟨_, (θ_run defs _ _).mono (fun r h c => ⟨(h c).1.trans (final m c), (h c).2⟩) (Value.run_blocks m g),
    (θ_run KeysValuesAIdeal.defs _ _).mono (fun r h c => by
      obtain ⟨e₀, e₁, e₂⟩ := hm c
      refine ⟨(h c).1.trans ?_, (h c).2⟩
      rw [e₀, e₁, e₂]
      funext i
      pointwise [proj]) (KeysValuesAIdeal.Value.run (F := Ideal) m' g')⟩

namespace Cert.ProjQbIdeal

open Gen Value

variable (m : (ℓ : Loc nD τ sig) → Buf (Elt Ideal) ℓ)

theorem idx : ∀ t : Fin cfg0.N, win0_0.index t = ![t.val / 4, 0] ∧ win0_1.index t = ![5 + t.val % 4, 0] ∧ win0_2.index t = ![0, 5 + t.val % 4] ∧ win0_3.index t = ![t.val / 4, t.val % 4] :=
  (by decide +kernel : ∀ t : Fin grid0.N, _)

theorem final (c : Dev nD) : (dats m 0 c).arrAt 3 cfg0.N = proj (N := 1024) 1280 (by decide) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, proj]
  refine congrArg₂ (fun y z : EReal => y + z) (Finset.sum_congr rfl fun k _ => ?_) ?_
  all_goals blk_point [iblk, V, idx t]

end Cert.ProjQbIdeal

theorem Cert.QueriesBIdeal.frame : quiescent_QueriesBIdeal := fun m g _ =>
  (θ_run defs _ _).mono (fun r h => ⟨fun c => (h c).2, sem_eq_zero_of_no_sems (by decide) r.2⟩) (Value.run (F := Ideal) m g)

theorem Cert.ProjQbIdeal.value : algebraic_ProjQbIdeal_QueriesBIdeal := fun m g m' g' _ hm =>
  ⟨_, (θ_run defs _ _).mono (fun r h c => ⟨(h c).1.trans (final m c), (h c).2⟩) (Value.run_blocks m g),
    (θ_run QueriesBIdeal.defs _ _).mono (fun r h c => by
      obtain ⟨e₀, e₁, e₂⟩ := hm c
      refine ⟨(h c).1.trans ?_, (h c).2⟩
      rw [e₀, e₁, e₂]
      funext i
      pointwise [proj]) (QueriesBIdeal.Value.run (F := Ideal) m' g')⟩

namespace Cert.ProjKbIdeal

open Gen Value

variable (m : (ℓ : Loc nD τ sig) → Buf (Elt Ideal) ℓ)

theorem idx : ∀ t : Fin cfg0.N, win0_0.index t = ![t.val / 4, 0] ∧ win0_1.index t = ![9 + t.val % 4, 0] ∧ win0_2.index t = ![0, 9 + t.val % 4] ∧ win0_3.index t = ![t.val / 4, t.val % 4] :=
  (by decide +kernel : ∀ t : Fin grid0.N, _)

theorem final (c : Dev nD) : (dats m 0 c).arrAt 3 cfg0.N = proj (N := 1024) 2304 (by decide) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, proj]
  refine congrArg₂ (fun y z : EReal => y + z) (Finset.sum_congr rfl fun k _ => ?_) ?_
  all_goals blk_point [iblk, V, idx t]

end Cert.ProjKbIdeal

theorem Cert.KeysBIdeal.frame : quiescent_KeysBIdeal := fun m g _ =>
  (θ_run defs _ _).mono (fun r h => ⟨fun c => (h c).2, sem_eq_zero_of_no_sems (by decide) r.2⟩) (Value.run (F := Ideal) m g)

theorem Cert.ProjKbIdeal.value : algebraic_ProjKbIdeal_KeysBIdeal := fun m g m' g' _ hm =>
  ⟨_, (θ_run defs _ _).mono (fun r h c => ⟨(h c).1.trans (final m c), (h c).2⟩) (Value.run_blocks m g),
    (θ_run KeysBIdeal.defs _ _).mono (fun r h c => by
      obtain ⟨e₀, e₁, e₂⟩ := hm c
      refine ⟨(h c).1.trans ?_, (h c).2⟩
      rw [e₀, e₁, e₂]
      funext i
      pointwise [proj]) (KeysBIdeal.Value.run (F := Ideal) m' g')⟩

namespace Cert.ProjVbIdeal

open Gen Value

variable (m : (ℓ : Loc nD τ sig) → Buf (Elt Ideal) ℓ)

theorem idx : ∀ t : Fin cfg0.N, win0_0.index t = ![t.val / 4, 0] ∧ win0_1.index t = ![13 + t.val % 4, 0] ∧ win0_2.index t = ![0, 13 + t.val % 4] ∧ win0_3.index t = ![t.val / 4, t.val % 4] :=
  (by decide +kernel : ∀ t : Fin grid0.N, _)

theorem final (c : Dev nD) : (dats m 0 c).arrAt 3 cfg0.N = proj (N := 1024) 3328 (by decide) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, proj]
  refine congrArg₂ (fun y z : EReal => y + z) (Finset.sum_congr rfl fun k _ => ?_) ?_
  all_goals blk_point [iblk, V, idx t]

end Cert.ProjVbIdeal

theorem Cert.ValuesBIdeal.frame : quiescent_ValuesBIdeal := fun m g _ =>
  (θ_run defs _ _).mono (fun r h => ⟨fun c => (h c).2, sem_eq_zero_of_no_sems (by decide) r.2⟩) (Value.run (F := Ideal) m g)

theorem Cert.ProjVbIdeal.value : algebraic_ProjVbIdeal_ValuesBIdeal := fun m g m' g' _ hm =>
  ⟨_, (θ_run defs _ _).mono (fun r h c => ⟨(h c).1.trans (final m c), (h c).2⟩) (Value.run_blocks m g),
    (θ_run ValuesBIdeal.defs _ _).mono (fun r h c => by
      obtain ⟨e₀, e₁, e₂⟩ := hm c
      refine ⟨(h c).1.trans ?_, (h c).2⟩
      rw [e₀, e₁, e₂]
      funext i
      pointwise [proj]) (ValuesBIdeal.Value.run (F := Ideal) m' g')⟩

namespace Cert.OutProjIdeal

open Gen Value

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

theorem final (c : Dev nD) : (dats m 0 c).arrAt 3 cfg0.N = fun i => nn (K := 2048) (m ((c : Thread nD τ).loc main_arg0)) (m ((c : Thread nD τ).loc main_arg1)) i + (m ((c : Thread nD τ).loc main_arg2)) i := by
  refine (dats m 0 c).arrAt_eq_of_covers 3 _ (by decide +kernel) fun t hf y => ?_
  blk_simp
  rw [after0_3]
  frame_out
  pointwise [k0_pay1, nn]
  refine congrArg₂ (fun y z : EReal => y + z) (Finset.sum_congr rfl fun k _ => ?_) ?_
  all_goals blk_point [iblk, V, idx t]

end Cert.OutProjIdeal

theorem Cert.OutputIdeal.frame : quiescent_OutputIdeal := fun m g _ =>
  (θ_run defs _ _).mono (fun r h => ⟨fun c => (h c).2, sem_eq_zero_of_no_sems (by decide) r.2⟩) (Value.run (F := Ideal) m g)

theorem Cert.OutProjIdeal.value : algebraic_OutProjIdeal_OutputIdeal := fun m g m' g' _ hm =>
  ⟨_, (θ_run defs _ _).mono (fun r h c => ⟨(h c).1.trans (final m c), (h c).2⟩) (Value.run_blocks m g),
    (θ_run OutputIdeal.defs _ _).mono (fun r h c => by
      obtain ⟨e₀, e₁, e₂⟩ := hm c
      refine ⟨(h c).1.trans ?_, (h c).2⟩
      rw [e₀, e₁, e₂]
      funext i
      pointwise [nn]
      exact add_comm _ _) (OutputIdeal.Value.run (F := Ideal) m' g')⟩

namespace Cert.MlpUpIdeal

open Gen Value

variable (m : (ℓ : Loc nD τ sig) → Buf (Elt Ideal) ℓ)

theorem idx : ∀ t : Fin cfg0.N, win0_0.index t = ![t.val / 16, 0] ∧ win0_1.index t = ![t.val % 16 / 4, 0, t.val % 4] ∧ win0_2.index t = ![t.val / 16, t.val % 16] :=
  (by decide +kernel : ∀ t : Fin grid0.N, _)

theorem final (c : Dev nD) : (dats m 0 c).arrAt 2 cfg0.N = fun i => max (nn (K := 2048) (m ((c : Thread nD τ).loc main_arg0)) (whole (m ((c : Thread nD τ).loc main_arg1))) i) 0 := by
  refine (dats m 0 c).arrAt_eq_of_covers 2 _ (by decide +kernel) fun t hf y => ?_
  blk_simp
  rw [after0_2]
  frame_out
  pointwise [k0_pay1, nn, whole]
  refine congrArg (fun y : EReal => max y 0) (Finset.sum_congr rfl fun k _ => ?_)
  blk_point [iblk, V, idx t]

end Cert.MlpUpIdeal

theorem Cert.FirstLayerIdeal.frame : quiescent_FirstLayerIdeal := fun m g _ =>
  (θ_run defs _ _).mono (fun r h => ⟨fun c => (h c).2, sem_eq_zero_of_no_sems (by decide) r.2⟩) (Value.run (F := Ideal) m g)

theorem Cert.MlpUpIdeal.value : algebraic_MlpUpIdeal_FirstLayerIdeal := fun m g m' g' _ hm =>
  ⟨_, (θ_run defs _ _).mono (fun r h c => ⟨(h c).1.trans (final m c), (h c).2⟩) (Value.run_blocks m g),
    (θ_run FirstLayerIdeal.defs _ _).mono (fun r h c => by
      obtain ⟨e₀, e₁⟩ := hm c
      refine ⟨(h c).1.trans ?_, (h c).2⟩
      rw [e₀, e₁]
      funext i
      pointwise [nn, whole]) (FirstLayerIdeal.Value.run (F := Ideal) m' g')⟩

namespace Cert.MlpDownDxIdeal

open Gen Value

variable (m : (ℓ : Loc nD τ sig) → Buf (Elt Ideal) ℓ)

theorem idx : ∀ t : Fin cfg0.N, win0_0.index t = ![t.val / 16, 0] ∧ win0_1.index t = ![t.val % 16, 0] ∧ win0_2.index t = ![t.val / 16, t.val % 16] ∧ win0_3.index t = ![t.val / 16, t.val % 16] :=
  (by decide +kernel : ∀ t : Fin grid0.N, _)

theorem final (c : Dev nD) : (dats m 0 c).arrAt 3 cfg0.N = fun i => nt (K := 2048) (m ((c : Thread nD τ).loc main_arg0)) (m ((c : Thread nD τ).loc main_arg1)) i * (Ideal.ofBits .f32 0x40000000#32 * (m ((c : Thread nD τ).loc main_arg2)) i) := by
  refine (dats m 0 c).arrAt_eq_of_covers 3 _ (by decide +kernel) fun t hf y => ?_
  blk_simp
  rw [after0_3]
  frame_out
  pointwise [k0_pay1, nt]
  refine congrArg₂ (fun y z : EReal => y * z) (Finset.sum_congr rfl fun k _ => ?_) ?_
  all_goals blk_point [iblk, V, idx t]

end Cert.MlpDownDxIdeal

theorem Cert.SecondGradIdeal.frame : quiescent_SecondGradIdeal := fun m g _ =>
  (θ_run defs _ _).mono (fun r h => ⟨fun c => (h c).2, sem_eq_zero_of_no_sems (by decide) r.2⟩) (Value.run (F := Ideal) m g)

theorem Cert.MlpDownDxIdeal.value : algebraic_MlpDownDxIdeal_SecondGradIdeal := fun m g m' g' _ hm =>
  ⟨_, (θ_run defs _ _).mono (fun r h c => ⟨(h c).1.trans (final m c), (h c).2⟩) (Value.run_blocks m g),
    (θ_run SecondGradIdeal.defs _ _).mono (fun r h c => by
      obtain ⟨e₀, e₁, e₂⟩ := hm c
      refine ⟨(h c).1.trans ?_, (h c).2⟩
      rw [e₀, e₁, e₂]
      funext i
      pointwise [nt]) (SecondGradIdeal.Value.run (F := Ideal) m' g')⟩

namespace Cert.OutProjDxIdeal

open Gen Value

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem final (c : Dev nD) : (dats m 0 c).arrAt 2 cfg0.N = nt (K := 2048) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, nt]
  refine (Finset.sum_congr rfl fun k _ => ?_ : (_ : EReal) = _)
  blk_point [iblk, V, idx t]

end Cert.OutProjDxIdeal

theorem Cert.OutputGradIdeal.frame : quiescent_OutputGradIdeal := fun m g _ =>
  (θ_run defs _ _).mono (fun r h => ⟨fun c => (h c).2, sem_eq_zero_of_no_sems (by decide) r.2⟩) (Value.run (F := Ideal) m g)

theorem Cert.OutProjDxIdeal.value : algebraic_OutProjDxIdeal_OutputGradIdeal := fun m g m' g' _ hm =>
  ⟨_, (θ_run defs _ _).mono (fun r h c => ⟨(h c).1.trans (final m c), (h c).2⟩) (Value.run_blocks m g),
    (θ_run OutputGradIdeal.defs _ _).mono (fun r h c => by
      obtain ⟨e₀, e₁⟩ := hm c
      refine ⟨(h c).1.trans ?_, (h c).2⟩
      rw [e₀, e₁]
      funext i
      pointwise [nt]) (OutputGradIdeal.Value.run (F := Ideal) m' g')⟩

namespace Cert.InProjDxIdeal

open Gen Value

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem final (c : Dev nD) : (dats m 0 c).arrAt 2 cfg0.N = nn (K := 4352) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, nn]
  refine (Finset.sum_congr rfl fun k _ => ?_ : (_ : EReal) = _)
  blk_point [iblk, V, idx t]

end Cert.InProjDxIdeal

theorem Cert.InputGradIdeal.frame : quiescent_InputGradIdeal := fun m g _ =>
  (θ_run defs _ _).mono (fun r h => ⟨fun c => (h c).2, sem_eq_zero_of_no_sems (by decide) r.2⟩) (Value.run (F := Ideal) m g)

theorem Cert.InProjDxIdeal.value : algebraic_InProjDxIdeal_InputGradIdeal := fun m g m' g' _ hm =>
  ⟨_, (θ_run defs _ _).mono (fun r h c => ⟨(h c).1.trans (final m c), (h c).2⟩) (Value.run_blocks m g),
    (θ_run InputGradIdeal.defs _ _).mono (fun r h c => by
      obtain ⟨e₀, e₁⟩ := hm c
      refine ⟨(h c).1.trans ?_, (h c).2⟩
      rw [e₀, e₁]
      funext i
      pointwise [nn]) (InputGradIdeal.Value.run (F := Ideal) m' g')⟩

end
-- ==== Proof.Layers.lean ====
/-
# The products that are summed in a scratch

The second MLP layer and the gradient of the first one's input are added up over eight runs of 1024 columns.
-/
module

public import proofs.«01_k».proof.Proof.Forward
public import proofs.«01_k».proof.Proof.Gen.MlpDownIdeal.Value
public import proofs.«01_k».proof.Proof.Gen.SecondLayerIdeal.Run
public import proofs.«01_k».proof.Proof.Gen.MlpUpDxIdeal.Value
public import proofs.«01_k».proof.Proof.Gen.FirstGradIdeal.Run

@[expose] public section

set_option maxRecDepth 16384

noncomputable section

open Idealize.ShloMosaic Idealize.ShloMosaic.TcCoe Idealize.SL.Sem
open Idealize.ShloMosaic.Pipeline (Dat)
open Cert.Products

namespace Cert.MlpUpDxIdeal

open Gen Value

variable (m : (ℓ : Loc nD τ sig) → Buf (Elt Ideal) ℓ)

theorem idx : ∀ t : Fin cfg0.N, win0_0.index t = ![t.val / 16, t.val % 8] ∧ win0_1.index t = ![t.val % 8 / 2, t.val / 8 % 2, t.val % 2]
    ∧ win0_2.index t = ![t.val / 16, t.val / 8 % 2] :=
  (by decide +kernel : ∀ t : Fin grid0.N, _)

theorem scratch_eq (c : Dev nD) (t : Fin cfg0.N) (hr : t.val % 8 = 7) (j : S1024x1024.Idx) : (outsAt0 m c t.val t.isLt).2 j =
    nt (K := 8192) (m ((c : Thread nD τ).loc main_arg0)) (whole (m ((c : Thread nD τ).loc main_arg1)))
      (ix2 ⟨t.val / 16 * 1024 + (j 0).val, by have : (j 0).val < 1024 := (j 0).isLt; have := lt_of_lt_of_eq t.isLt N_0; omega⟩
        ⟨t.val / 8 % 2 * 1024 + (j 1).val, by have : (j 1).val < 1024 := (j 1).isLt; omega⟩) := by
  refine (Pipeline.eq_sum_fin_of_reset_step_of_flush (M := EReal) (fun n h => (outsAt0 m c n h).2 j) 8 0
    (fun u => k0_pay1 (F := Ideal) (iblk m c 0 u) (iblk m c 1 u) j) ?_ ?_ t hr).trans ?_
  · intro u h
    rw [outsAt0_A m c u h (by omega) (by omega)]
    frame_out
    pointwise [k0_pay2, k0_pay1]
  · intro u h
    by_cases h' : u.val % 8 = 7
    on_goal 1 => rw [outsAt0_C m c u h (by omega) h']
    on_goal 2 => rw [outsAt0_B m c u h (by omega) h']
    all_goals
      frame_out
      pointwise [k0_pay3]
      refine congrArg (fun y : EReal => y + _) (congrFun ((Memref.isWhole_whole _ : scM0_0.IsWhole).read_unread _) j)
  · rw [zero_add]
    pointwise [k0_pay1, nt]
    refine Fin.sum_mul_add_congr fun s k hl => ?_
    unfold whole
    blk_point [iblk, V, idx]

theorem final (c : Dev nD) : (dats m 0 c).arrAt 2 cfg0.N =
    nt (K := 8192) (m ((c : Thread nD τ).loc main_arg0)) (whole (m ((c : Thread nD τ).loc main_arg1))) := by
  refine (dats m 0 c).arrAt_eq_of_covers 2 _ (by decide +kernel) fun t hf y => ?_
  have hr : t.val % 8 = 7 := (flush0_2 t).mp hf
  blk_simp
  have out (j) : (outsAt0 m c t.val t.isLt).1 j = (outsAt0 m c t.val t.isLt).2 j := by
    rw [outsAt0_C m c t (by omega) (by omega) hr]
    frame_out
  rw [after0_2, out, scratch_eq m c t hr]
  unfold nt
  blk_point [iblk, V, idx t]

end Cert.MlpUpDxIdeal

theorem Cert.FirstGradIdeal.frame : quiescent_FirstGradIdeal := fun m g _ =>
  (θ_run defs _ _).mono (fun r h => ⟨fun c => (h c).2, sem_eq_zero_of_no_sems (by decide) r.2⟩) (Value.run (F := Ideal) m g)

theorem Cert.MlpUpDxIdeal.value : algebraic_MlpUpDxIdeal_FirstGradIdeal := fun m g m' g' _ hm =>
  ⟨_, (θ_run defs _ _).mono (fun r h c => ⟨(h c).1.trans (final m c), (h c).2⟩) (Value.run_blocks m g),
    (θ_run FirstGradIdeal.defs _ _).mono (fun r h c => by
      obtain ⟨e₀, e₁⟩ := hm c
      refine ⟨(h c).1.trans ?_, (h c).2⟩
      rw [e₀, e₁]
      funext i
      pointwise [nt, whole]) (FirstGradIdeal.Value.run (F := Ideal) m' g')⟩

namespace Cert.MlpDownIdeal

open Gen Value

variable (m : (ℓ : Loc nD τ sig) → Buf (Elt Ideal) ℓ)

theorem idx : ∀ t : Fin cfg0.N, win0_0.index t = ![t.val / 16, t.val % 8] ∧ win0_1.index t = ![t.val % 8, t.val / 8 % 2]
    ∧ win0_2.index t = ![t.val / 16, t.val / 8 % 2] ∧ win0_3.index t = ![t.val / 16, t.val / 8 % 2] :=
  (by decide +kernel : ∀ t : Fin grid0.N, _)

/-- The squares, element by element. -/
def squares (u : Mat 8192 8192 .bf16) : Mat 8192 8192 .bf16 := fun i => u i * u i

theorem scratch_eq (c : Dev nD) (t : Fin cfg0.N) (hr : t.val % 8 = 7) (j : S1024x1024.Idx) : (outsAt0 m c t.val t.isLt).2 j =
    nn (K := 8192) (squares (m ((c : Thread nD τ).loc main_arg0))) (m ((c : Thread nD τ).loc main_arg1))
      (ix2 ⟨t.val / 16 * 1024 + (j 0).val, by have : (j 0).val < 1024 := (j 0).isLt; have := lt_of_lt_of_eq t.isLt N_0; omega⟩
        ⟨t.val / 8 % 2 * 1024 + (j 1).val, by have : (j 1).val < 1024 := (j 1).isLt; omega⟩) := by
  refine (Pipeline.eq_sum_fin_of_reset_step_of_flush (M := EReal) (fun n h => (outsAt0 m c n h).2 j) 8 0
    (fun u => k0_pay1 (F := Ideal) (iblk m c 0 u) (iblk m c 1 u) j) ?_ ?_ t hr).trans ?_
  · intro u h
    rw [outsAt0_A m c u h (by omega) (by omega)]
    frame_out
    pointwise [k0_pay2, k0_pay1]
  · intro u h
    by_cases h' : u.val % 8 = 7
    on_goal 1 => rw [outsAt0_C m c u h (by omega) h']
    on_goal 2 => rw [outsAt0_B m c u h (by omega) h']
    all_goals
      frame_out
      pointwise [k0_pay3]
      refine congrArg (fun y : EReal => y + _) (congrFun ((Memref.isWhole_whole _ : scM0_0.IsWhole).read_unread _) j)
  · rw [zero_add]
    pointwise [k0_pay1, nn]
    refine Fin.sum_mul_add_congr fun s k hl => ?_
    unfold squares
    blk_point [iblk, V, idx]

theorem final (c : Dev nD) : (dats m 0 c).arrAt 3 cfg0.N = fun i =>
    nn (K := 8192) (squares (m ((c : Thread nD τ).loc main_arg0))) (m ((c : Thread nD τ).loc main_arg1)) i
      + m ((c : Thread nD τ).loc main_arg2) i := by
  refine (dats m 0 c).arrAt_eq_of_covers 3 _ (by decide +kernel) fun t hf y => ?_
  have hr : t.val % 8 = 7 := (flush0_3 t).mp hf
  blk_simp
  have out (j) : (outsAt0 m c t.val t.isLt).1 j = ((outsAt0 m c t.val t.isLt).2 j : EReal) + iblk m c 2 t j := by
    rw [outsAt0_C m c t (by omega) (by omega) hr]
    frame_out
    pointwise [k0_pay4]
  rw [after0_3, out, scratch_eq m c t hr]
  refine congrArg₂ (fun y z : EReal => y + z) ?_ ?_
  on_goal 1 => unfold nn
  all_goals blk_point [iblk, V, idx t]

end Cert.MlpDownIdeal

theorem Cert.SecondLayerIdeal.frame : quiescent_SecondLayerIdeal := fun m g _ =>
  (θ_run defs _ _).mono (fun r h => ⟨fun c => (h c).2, sem_eq_zero_of_no_sems (by decide) r.2⟩) (Value.run (F := Ideal) m g)

theorem Cert.MlpDownIdeal.value : algebraic_MlpDownIdeal_SecondLayerIdeal := fun m g m' g' _ hm =>
  ⟨_, (θ_run defs _ _).mono (fun r h c => ⟨(h c).1.trans (final m c), (h c).2⟩) (Value.run_blocks m g),
    (θ_run SecondLayerIdeal.defs _ _).mono (fun r h c => by
      obtain ⟨e₀, e₁, e₂⟩ := hm c
      refine ⟨(h c).1.trans ?_, (h c).2⟩
      rw [e₀, e₁, e₂]
      funext i
      pointwise [nn, squares]
      exact add_comm _ _) (SecondLayerIdeal.Value.run (F := Ideal) m' g')⟩

end
-- ==== Proof.lean ====
module

public import proofs.«01_k».proof.Defs
public import proofs.«01_k».proof.Proof.Gen.InProjDw.Frame
public import proofs.«01_k».proof.Proof.Gen.MlpDownDw.Frame
public import proofs.«01_k».proof.Proof.Gen.MlpUpDw.Frame
public import proofs.«01_k».proof.Proof.Gen.MixBwd.Frame
public import proofs.«01_k».proof.Proof.Gen.ProjBwd.Frame
public import proofs.«01_k».proof.Proof.Gen.OutProjDw.Frame
public import proofs.«01_k».proof.Proof.Gen.NormMlp.Frame
public import proofs.«01_k».proof.Proof.Gen.NormAttn.Frame
public import proofs.«01_k».proof.Proof.Gen.LossHead.Frame
public import proofs.«01_k».proof.Proof.Gen.Kernel.Frame
public import proofs.«01_k».proof.Proof.Gen.KernelIdeal.Frame
public import proofs.«01_k».proof.Proof.Gen.ReferenceIdeal
public import proofs.«01_k».proof.Proof.Gen.Reference
public import proofs.«01_k».proof.Proof.Gen.Reduce.Frame
public import proofs.«01_k».proof.Proof.Gen.ReduceIdeal.Frame
public import proofs.«01_k».proof.Proof.Gen.TotalIdeal
public import proofs.«01_k».proof.Proof.Gen.TotalIdeal.Run
public import Idealize.ShloMosaic.Lib.StableHlo.Run
public import proofs.«01_k».proof.Proof.Value
public import proofs.«01_k».proof.Proof.RValue
public import proofs.«01_k».proof.Proof.Adam
public import proofs.«01_k».proof.Proof.Norm
public import proofs.«01_k».proof.Proof.NormAttn
public import proofs.«01_k».proof.Proof.Loss
public import proofs.«01_k».proof.Proof.MixBwd
public import proofs.«01_k».proof.Proof.ProjBwd
public import proofs.«01_k».proof.Proof.Weights
public import proofs.«01_k».proof.Proof.MlpUpDw
public import proofs.«01_k».proof.Proof.NormFwd
public import proofs.«01_k».proof.Proof.Forward
public import proofs.«01_k».proof.Proof.Layers
public import proofs.«01_k».proof.Proof.Gen.NormA.Frame
public import proofs.«01_k».proof.Proof.Gen.NormM.Frame
public import proofs.«01_k».proof.Proof.Gen.ProjQa.Frame
public import proofs.«01_k».proof.Proof.Gen.ProjKva.Frame
public import proofs.«01_k».proof.Proof.Gen.ProjQb.Frame
public import proofs.«01_k».proof.Proof.Gen.ProjKb.Frame
public import proofs.«01_k».proof.Proof.Gen.ProjVb.Frame
public import proofs.«01_k».proof.Proof.Gen.OutProj.Frame
public import proofs.«01_k».proof.Proof.Gen.MlpUp.Frame
public import proofs.«01_k».proof.Proof.Gen.MlpDown.Frame
public import proofs.«01_k».proof.Proof.Gen.MlpDownDx.Frame
public import proofs.«01_k».proof.Proof.Gen.MlpUpDx.Frame
public import proofs.«01_k».proof.Proof.Gen.OutProjDx.Frame
public import proofs.«01_k».proof.Proof.Gen.InProjDx.Frame
public import Idealize.ShloMosaic.Adequacy
public import Idealize.ShloMosaic.Init

@[expose] public section

noncomputable section

namespace Cert.Proof

open Idealize.ShloMosaic Idealize.SL.Sem Kernel

/-! end Cert.Proof The frames -/

theorem frame_kernel : quiescent_Kernel := fun m g _ =>
  (θ_run KernelIdeal.defs _ _).mono (fun r h => ⟨fun c =>
      ⟨(h.1 c 0).1, (h.1 c 1).1, (h.1 c 2).1, (h.1 c 3).1⟩, h.2⟩) (Gather.run_main (F := Bits) g m)

theorem frame_kernelIdeal : quiescent_KernelIdeal := fun m g _ =>
  (θ_run KernelIdeal.defs _ _).mono (fun r h => ⟨fun c =>
      ⟨(h.1 c 0).1, (h.1 c 1).1, (h.1 c 2).1, (h.1 c 3).1⟩, h.2⟩) (Gather.run_main (F := Ideal) g m)

/-- The reference runs no operation: every buffer ends as it was. -/
theorem run_reference {F : FTy → Type} [FloatOps F] (m : (ℓ : Loc ReferenceIdeal.nD ReferenceIdeal.τ ReferenceIdeal.sig) → Buf (Elt F) ℓ)
    (g : Dev ReferenceIdeal.nD → PrngReg) :
    θ_run (ReferenceIdeal.defs (F := F)) (onTc (τ := ReferenceIdeal.τ) (ReferenceIdeal.main (F := F))) ⟨m, fun _ => 0, g⟩ (fun r =>
      ∀ (d : Dev ReferenceIdeal.nD) (b : Ref ReferenceIdeal.sig .tc),
        r.2.mem ((d.tc : Thread ReferenceIdeal.nD ReferenceIdeal.τ).loc b) = m ((d.tc : Thread ReferenceIdeal.nD ReferenceIdeal.τ).loc b)) :=
  StableHlo.run_seq (by decide) (by decide) _ _ (fun _ => []) (fun _ => rfl) (fun _ => trivial) m g

theorem frame_referenceIdeal : quiescent_ReferenceIdeal := fun m g _ =>
  (θ_run ReferenceIdeal.defs _ _).mono (fun r h => ⟨fun c => ⟨h c _, h c _, h c _, h c _⟩, sem_eq_zero_of_no_sems (by decide) r.2⟩)
    (run_reference (F := Ideal) m g)

theorem frame_reference : quiescent_Reference := fun m g _ =>
  (θ_run ReferenceIdeal.defs _ _).mono (fun r h => ⟨fun c => ⟨h c _, h c _, h c _, h c _⟩, sem_eq_zero_of_no_sems (by decide) r.2⟩)
    (run_reference (F := Bits) m g)

/-- The two printed readings of the reduction have the same kernel, -/
theorem kernels_eq : Reduce.defs₀ (F := Bits) = ReduceIdeal.defs₀ (F := Bits) := by
  unfold Reduce.defs₀ ReduceIdeal.defs₀
  refine congrArg Defs.onTc ?_
  funext l a
  match l, a with
  | 0, (t, s) => rfl

/-- so the same call. -/
theorem calls_eq : Reduce.defs (F := Bits) = ReduceIdeal.defs (F := Bits) :=
  congrArg (Pipeline.defs (Reduce.pcfgs (F := Bits))) kernels_eq

theorem frame_reduce : quiescent_Reduce := fun m g _ => by
  rw [calls_eq]
  exact (θ_run ReduceIdeal.defs _ _).mono (fun r h => ⟨fun c =>
      ⟨(h.1 c).1.1 0, (h.1 c).1.1 1, (h.1 c).1.1 2, (h.1 c).1.1 3, (h.1 c).1.2⟩, h.2⟩) (Reducing.run_sums (F := Bits) (m := m) g)

theorem frame_reduceIdeal : quiescent_ReduceIdeal := fun m g _ =>
  (θ_run ReduceIdeal.defs _ _).mono (fun r h => ⟨fun c =>
      ⟨(h.1 c).1.1 0, (h.1 c).1.1 1, (h.1 c).1.1 2, (h.1 c).1.1 3, (h.1 c).1.2⟩, h.2⟩) (Reducing.run_sums (F := Ideal) (m := m) g)

theorem frame_totalIdeal : quiescent_TotalIdeal := fun m g _ =>
  (θ_run TotalIdeal.defs _ _).mono (fun r h => ⟨fun c => (h c).2.2.2.2, sem_eq_zero_of_no_sems (by decide) r.2⟩)
    (TotalIdeal.Value.run (F := Ideal) m g)

/-! end Cert.Proof The values -/

/-- The first device. -/
abbrev dev0 := ((0 : Dev TotalIdeal.nD).tc : Thread TotalIdeal.nD TotalIdeal.τ)
abbrev dev0' := ((0 : Dev ReferenceIdeal.nD).tc : Thread ReferenceIdeal.nD ReferenceIdeal.τ)

/-- Four weights, as a family over the weights. -/
def weights {F : FTy → Type} (a₀ : (Gather.allS 0).Idx → Elt F .bf16) (a₁ : (Gather.allS 1).Idx → Elt F .bf16)
    (a₂ : (Gather.allS 2).Idx → Elt F .bf16) (a₃ : (Gather.allS 3).Idx → Elt F .bf16) : (w : Fin 4) → (Gather.allS w).Idx → Elt F .bf16
  | 0 => a₀
  | 1 => a₁
  | 2 => a₂
  | 3 => a₃

theorem algebraic : algebraic_KernelIdeal_ReferenceIdeal := fun m g m' g' _ hm =>
  ⟨m' _, m' _, m' _, m' _,
    (θ_run KernelIdeal.defs _ _).mono (fun r h c =>
        ⟨(h c).1 0, (h c).1 1, (h c).1 2, (h c).1 3, (h c).2 0, (h c).2 1, (h c).2 2, (h c).2 3⟩)
      (Gather.run_values (F := Ideal) (m := m) g (weights (m' (dev0'.loc ReferenceIdeal.main_arg0))
        (m' (dev0'.loc ReferenceIdeal.main_arg1))
        (m' (dev0'.loc ReferenceIdeal.main_arg2))
        (m' (dev0'.loc ReferenceIdeal.main_arg3))) fun w => by
        match w with
        | 0 => exact Gather.blocks_of_mesh (by decide) fun d => (hm d).1
        | 1 => exact Gather.blocks_of_mesh (by decide) fun d => (hm d).2.1
        | 2 => exact Gather.blocks_of_mesh (by decide) fun d => (hm d).2.2.1
        | 3 => exact Gather.blocks_of_mesh (by decide) fun d => (hm d).2.2.2),
    (θ_run ReferenceIdeal.defs _ _).mono (fun r h => ⟨h 0 _, h 0 _, h 0 _, h 0 _, h 0 _, h 0 _, h 0 _, h 0 _⟩) (run_reference (F := Ideal) m' g')⟩

theorem bitexact : bitexact_Kernel_Reference := fun m g m' g' _ hm =>
  ⟨m' _, m' _, m' _, m' _,
    (θ_run KernelIdeal.defs _ _).mono (fun r h c =>
        ⟨(h c).1 0, (h c).1 1, (h c).1 2, (h c).1 3, (h c).2 0, (h c).2 1, (h c).2 2, (h c).2 3⟩)
      (Gather.run_values (F := Bits) (m := m) g (weights (m' (((0 : Dev Reference.nD).tc : Thread Reference.nD Reference.τ).loc Reference.main_arg0))
        (m' (((0 : Dev Reference.nD).tc : Thread Reference.nD Reference.τ).loc Reference.main_arg1))
        (m' (((0 : Dev Reference.nD).tc : Thread Reference.nD Reference.τ).loc Reference.main_arg2))
        (m' (((0 : Dev Reference.nD).tc : Thread Reference.nD Reference.τ).loc Reference.main_arg3))) fun w => by
        match w with
        | 0 => exact Gather.blocks_of_mesh (by decide) fun d => (hm d).1
        | 1 => exact Gather.blocks_of_mesh (by decide) fun d => (hm d).2.1
        | 2 => exact Gather.blocks_of_mesh (by decide) fun d => (hm d).2.2.1
        | 3 => exact Gather.blocks_of_mesh (by decide) fun d => (hm d).2.2.2),
    (θ_run ReferenceIdeal.defs _ _).mono (fun r h => ⟨h 0 _, h 0 _, h 0 _, h 0 _, h 0 _, h 0 _, h 0 _, h 0 _⟩) (run_reference (F := Bits) m' g')⟩

/-- Four sums, as a family over the weights. -/
def sums (a₀ : FVec Ideal (Reducing.allS 0) .f32) (a₁ : FVec Ideal (Reducing.allS 1) .f32)
    (a₂ : FVec Ideal (Reducing.allS 2) .f32) (a₃ : FVec Ideal (Reducing.allS 3) .f32) : (w : Fin 4) → (Reducing.allS w).Idx → Elt Ideal .f32
  | 0 => a₀
  | 1 => a₁
  | 2 => a₂
  | 3 => a₃

theorem algebraic_reduce : algebraic_ReduceIdeal_TotalIdeal := fun m g m' g' _ hm =>
  ⟨_, _, _, _,
    (θ_run ReduceIdeal.defs _ _).mono (fun r h c =>
        ⟨(h c).1 0 (by decide), (h c).1 1 (by decide), (h c).1 2 (by decide), (h c).1 3 (by decide), (h c).2.1 0, (h c).2.1 1, (h c).2.1 2, (h c).2.1 3, (h c).2.2⟩)
      (Reducing.run_values (m := m) g (sums
        (Host.reduceAdd (shapeCast _ (m' (dev0.loc TotalIdeal.main_arg0)) TotalIdeal.Gen.shapeCasts_S34816x2048_S8x4352x2048 : FVec Ideal ⟨3, ![8, 4352, 2048]⟩ .f32) (constant ⟨0, ![]⟩ .f32 0x00000000#32) TotalIdeal.Gen.reducesTo_S8x4352x2048_S4352x2048_d0 TotalIdeal.Gen.h_S_)
        (Host.reduceAdd (shapeCast _ (m' (dev0.loc TotalIdeal.main_arg1)) TotalIdeal.Gen.shapeCasts_S16384x2048_S8x2048x2048 : FVec Ideal ⟨3, ![8, 2048, 2048]⟩ .f32) (constant ⟨0, ![]⟩ .f32 0x00000000#32) TotalIdeal.Gen.reducesTo_S8x2048x2048_S2048x2048_d0 TotalIdeal.Gen.h_S_)
        (Host.reduceAdd (shapeCast _ (m' (dev0.loc TotalIdeal.main_arg2)) TotalIdeal.Gen.shapeCasts_S65536x2048_S8x8192x2048 : FVec Ideal ⟨3, ![8, 8192, 2048]⟩ .f32) (constant ⟨0, ![]⟩ .f32 0x00000000#32) TotalIdeal.Gen.reducesTo_S8x8192x2048_S8192x2048_d0 TotalIdeal.Gen.h_S_)
        (Host.reduceAdd (shapeCast _ (m' (dev0.loc TotalIdeal.main_arg3)) TotalIdeal.Gen.shapeCasts_S65536x2048_S8x8192x2048 : FVec Ideal ⟨3, ![8, 8192, 2048]⟩ .f32) (constant ⟨0, ![]⟩ .f32 0x00000000#32) TotalIdeal.Gen.reducesTo_S8x8192x2048_S8192x2048_d0 TotalIdeal.Gen.h_S_)) fun w => by
        match w with
        | 0 =>
          funext z
          exact (Reducing.total_at (m' (dev0.loc TotalIdeal.main_arg0)) _ _ _ (fun d => Reducing.Gr m d 0) (fun d z y h₀ h₁ =>
            (congrFun ((hm d).1) z).trans (Reducing.block_rows _ (by decide) d z y h₀ h₁)) rfl z).symm
        | 1 =>
          funext z
          exact (Reducing.total_at (m' (dev0.loc TotalIdeal.main_arg1)) _ _ _ (fun d => Reducing.Gr m d 1) (fun d z y h₀ h₁ =>
            (congrFun ((hm d).2.1) z).trans (Reducing.block_rows _ (by decide) d z y h₀ h₁)) rfl z).symm
        | 2 =>
          funext z
          exact (Reducing.total_at (m' (dev0.loc TotalIdeal.main_arg2)) _ _ _ (fun d => Reducing.Gr m d 2) (fun d z y h₀ h₁ =>
            (congrFun ((hm d).2.2.1) z).trans (Reducing.block_rows _ (by decide) d z y h₀ h₁)) rfl z).symm
        | 3 =>
          funext z
          exact (Reducing.total_at (m' (dev0.loc TotalIdeal.main_arg3)) _ _ _ (fun d => Reducing.Gr m d 3) (fun d z y h₀ h₁ =>
            (congrFun ((hm d).2.2.2.1) z).trans (Reducing.block_rows _ (by decide) d z y h₀ h₁)) rfl z).symm),
    (θ_run TotalIdeal.defs _ _).mono (fun r h => h 0) (TotalIdeal.Value.run (F := Ideal) m' g')⟩

theorem claim : Claim := ⟨Kernel.Gen.facts, KernelIdeal.Gen.facts, ReferenceIdeal.Gen.facts, Reference.Gen.facts,
  Reduce.Gen.facts, ReduceIdeal.Gen.facts, TotalIdeal.Gen.facts,
  AdamIn.Gen.facts, AdamInIdeal.Gen.facts, StepInIdeal.Gen.facts,
  AdamOut.Gen.facts, AdamOutIdeal.Gen.facts, StepOutIdeal.Gen.facts,
  AdamOne.Gen.facts, AdamOneIdeal.Gen.facts, StepMlpIdeal.Gen.facts,
  AdamTwo.Gen.facts, AdamTwoIdeal.Gen.facts,
  AdamSmall.Gen.facts, AdamSmallIdeal.Gen.facts, StepSmallIdeal.Gen.facts,
  NormMlp.Gen.facts, NormMlpIdeal.Gen.facts, NormGradIdeal.Gen.facts, NormAttn.Gen.facts, NormAttnIdeal.Gen.facts,
  LossHead.Gen.facts, LossHeadIdeal.Gen.facts, LossGradIdeal.Gen.facts,
  MixBwd.Gen.facts, MixBwdIdeal.Gen.facts, MixGradIdeal.Gen.facts,
  ProjBwd.Gen.facts, ProjBwdIdeal.Gen.facts, ProjGradIdeal.Gen.facts,
  OutProjDw.Gen.facts, OutProjDwIdeal.Gen.facts, OutProjGradIdeal.Gen.facts,
  InProjDw.Gen.facts, InProjDwIdeal.Gen.facts, InProjGradIdeal.Gen.facts,
  MlpDownDw.Gen.facts, MlpDownDwIdeal.Gen.facts, MlpDownGradIdeal.Gen.facts,
  MlpUpDw.Gen.facts, MlpUpDwIdeal.Gen.facts, MlpUpGradIdeal.Gen.facts,
  NormA.Gen.facts, NormAIdeal.Gen.facts, NormRefIdeal.Gen.facts,
  NormM.Gen.facts, NormMIdeal.Gen.facts,
  ProjQa.Gen.facts, ProjQaIdeal.Gen.facts, QueriesAIdeal.Gen.facts,
  ProjKva.Gen.facts, ProjKvaIdeal.Gen.facts, KeysValuesAIdeal.Gen.facts,
  ProjQb.Gen.facts, ProjQbIdeal.Gen.facts, QueriesBIdeal.Gen.facts,
  ProjKb.Gen.facts, ProjKbIdeal.Gen.facts, KeysBIdeal.Gen.facts,
  ProjVb.Gen.facts, ProjVbIdeal.Gen.facts, ValuesBIdeal.Gen.facts,
  OutProj.Gen.facts, OutProjIdeal.Gen.facts, OutputIdeal.Gen.facts,
  MlpUp.Gen.facts, MlpUpIdeal.Gen.facts, FirstLayerIdeal.Gen.facts,
  MlpDown.Gen.facts, MlpDownIdeal.Gen.facts, SecondLayerIdeal.Gen.facts,
  MlpDownDx.Gen.facts, MlpDownDxIdeal.Gen.facts, SecondGradIdeal.Gen.facts,
  MlpUpDx.Gen.facts, MlpUpDxIdeal.Gen.facts, FirstGradIdeal.Gen.facts,
  OutProjDx.Gen.facts, OutProjDxIdeal.Gen.facts, OutputGradIdeal.Gen.facts,
  InProjDx.Gen.facts, InProjDxIdeal.Gen.facts, InputGradIdeal.Gen.facts,
  frame_kernel, frame_kernelIdeal, frame_referenceIdeal, frame_reference, frame_reduce, frame_reduceIdeal, frame_totalIdeal,
  fun m g _ => AdamIn.Gen.frame m g, fun m g _ => AdamInIdeal.Gen.frame m g, Stepping.frame_stepIn,
  fun m g _ => AdamOut.Gen.frame m g, fun m g _ => AdamOutIdeal.Gen.frame m g, Stepping.frame_stepOut,
  fun m g _ => AdamOne.Gen.frame m g, fun m g _ => AdamOneIdeal.Gen.frame m g, Stepping.frame_stepMlp,
  fun m g _ => AdamTwo.Gen.frame m g, fun m g _ => AdamTwoIdeal.Gen.frame m g,
  fun m g _ => AdamSmall.Gen.frame m g, fun m g _ => AdamSmallIdeal.Gen.frame m g, Stepping.frame_stepSmall,
  fun m g _ => NormMlp.Gen.frame m g, fun m g _ => NormMlpIdeal.Gen.frame m g, Norming.frame_normGrad,
  fun m g _ => NormAttn.Gen.frame m g, fun m g _ => NormAttnIdeal.Gen.frame m g,
  fun m g _ => LossHead.Gen.frame m g, fun m g _ => LossHeadIdeal.Gen.frame m g, Lossing.frame_lossGrad,
  fun m g _ => MixBwd.Gen.frame m g, fun m g _ => MixBwdIdeal.Gen.frame m g, Mixing.frame,
  fun m g _ => ProjBwd.Gen.frame m g, fun m g _ => ProjBwdIdeal.Gen.frame m g, Projecting.frame,
  fun m g _ => OutProjDw.Gen.frame m g, fun m g _ => OutProjDwIdeal.Gen.frame m g, Weights.frame_OutProjGrad,
  fun m g _ => InProjDw.Gen.frame m g, fun m g _ => InProjDwIdeal.Gen.frame m g, Weights.frame_InProjGrad,
  fun m g _ => MlpDownDw.Gen.frame m g, fun m g _ => MlpDownDwIdeal.Gen.frame m g, Weights.frame_MlpDownGrad,
  fun m g _ => MlpUpDw.Gen.frame m g, fun m g _ => MlpUpDwIdeal.Gen.frame m g, Weights.frame_MlpUpGrad,
  fun m g _ => NormA.Gen.frame m g, fun m g _ => NormAIdeal.Gen.frame m g, NormRefIdeal.frame,
  fun m g _ => NormM.Gen.frame m g, fun m g _ => NormMIdeal.Gen.frame m g,
  fun m g _ => ProjQa.Gen.frame m g, fun m g _ => ProjQaIdeal.Gen.frame m g, QueriesAIdeal.frame,
  fun m g _ => ProjKva.Gen.frame m g, fun m g _ => ProjKvaIdeal.Gen.frame m g, KeysValuesAIdeal.frame,
  fun m g _ => ProjQb.Gen.frame m g, fun m g _ => ProjQbIdeal.Gen.frame m g, QueriesBIdeal.frame,
  fun m g _ => ProjKb.Gen.frame m g, fun m g _ => ProjKbIdeal.Gen.frame m g, KeysBIdeal.frame,
  fun m g _ => ProjVb.Gen.frame m g, fun m g _ => ProjVbIdeal.Gen.frame m g, ValuesBIdeal.frame,
  fun m g _ => OutProj.Gen.frame m g, fun m g _ => OutProjIdeal.Gen.frame m g, OutputIdeal.frame,
  fun m g _ => MlpUp.Gen.frame m g, fun m g _ => MlpUpIdeal.Gen.frame m g, FirstLayerIdeal.frame,
  fun m g _ => MlpDown.Gen.frame m g, fun m g _ => MlpDownIdeal.Gen.frame m g, SecondLayerIdeal.frame,
  fun m g _ => MlpDownDx.Gen.frame m g, fun m g _ => MlpDownDxIdeal.Gen.frame m g, SecondGradIdeal.frame,
  fun m g _ => MlpUpDx.Gen.frame m g, fun m g _ => MlpUpDxIdeal.Gen.frame m g, FirstGradIdeal.frame,
  fun m g _ => OutProjDx.Gen.frame m g, fun m g _ => OutProjDxIdeal.Gen.frame m g, OutputGradIdeal.frame,
  fun m g _ => InProjDx.Gen.frame m g, fun m g _ => InProjDxIdeal.Gen.frame m g, InputGradIdeal.frame,
  trivial, algebraic, bitexact, trivial, algebraic_reduce,
  trivial, Stepping.step_adamIn,
  trivial, Stepping.step_adamOut,
  trivial, Stepping.step_adamOne,
  trivial, Stepping.step_adamTwo,
  trivial, Stepping.step_adamSmall,
  trivial, Norming.norm_mlp,
  trivial, Norming.norm_attn,
  trivial, Lossing.loss_head,
  trivial, Mixing.algebraic,
  trivial, Projecting.algebraic,
  trivial, Weights.outProjDw,
  trivial, Weights.inProjDw,
  trivial, Weights.mlpDownDw,
  trivial, Weights.mlpUpDw,
  trivial, NormAIdeal.value, trivial, NormMIdeal.value, trivial, ProjQaIdeal.value, trivial, ProjKvaIdeal.value, trivial, ProjQbIdeal.value, trivial, ProjKbIdeal.value, trivial, ProjVbIdeal.value, trivial, OutProjIdeal.value, trivial, MlpUpIdeal.value, trivial, MlpDownIdeal.value, trivial, MlpDownDxIdeal.value, trivial, MlpUpDxIdeal.value, trivial, OutProjDxIdeal.value, trivial, InProjDxIdeal.value⟩

end Cert.Proof

end
